-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreKernelIdeal_finite_pre [hPre_finite_pre : Cert.Pre_finite_pre.Facts] (m : (ℓ : Loc Cert.PreKernelIdeal.nD Cert.PreKernelIdeal.τ Cert.PreKernelIdeal.sig) → Buf (Elt Ideal) ℓ) : Prop :=
  ∀ c : Dev Cert.PreKernelIdeal.nD,
    (Cert.Pre_finite_pre.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4))).1 = (fun _ => 1#1)
    ∧ (Cert.Pre_finite_pre.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4))).2.1 = (fun _ => 1#1)
    ∧ (Cert.Pre_finite_pre.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4))).2.2.1 = (fun _ => 1#1)
    ∧ (Cert.Pre_finite_pre.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4))).2.2.2 = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_finite_pre [hPre_finite_pre : Cert.Pre_finite_pre.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4))).1 = (fun _ => 1#1)
    ∧ (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4))).2.1 = (fun _ => 1#1)
    ∧ (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4))).2.2.1 = (fun _ => 1#1)
    ∧ (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4))).2.2.2 = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_finite_post [hPre_finite_post : Cert.Pre_finite_post.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_finite_post.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3))).1 = (fun _ => 1#1)
    ∧ (Cert.Pre_finite_post.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3))).2.1 = (fun _ => 1#1)
    ∧ (Cert.Pre_finite_post.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3))).2.2.1 = (fun _ => 1#1)
    ∧ (Cert.Pre_finite_post.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3))).2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3))).1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3))).2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3))).2.2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3))).2.2.2 = (fun _ => 1#1)

def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_SsdKernelIdeal_finite_ssd [hPre_finite_ssd : Cert.Pre_finite_ssd.Facts] (m : (ℓ : Loc Cert.SsdKernelIdeal.nD Cert.SsdKernelIdeal.τ Cert.SsdKernelIdeal.sig) → Buf (Elt Ideal) ℓ) : Prop :=
  ∀ c : Dev Cert.SsdKernelIdeal.nD,
    (Cert.Pre_finite_ssd.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_ssd [hPre_finite_ssd : Cert.Pre_finite_ssd.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))) = (fun _ => 1#1)

def Pre_BwdKernel (m : (ℓ : Loc Cert.BwdKernel.nD Cert.BwdKernel.τ Cert.BwdKernel.sig) → Buf (Elt Bits) ℓ) : Prop :=
  True

def Pre_BwdKernelIdeal (m : (ℓ : Loc Cert.BwdKernelIdeal.nD Cert.BwdKernelIdeal.τ Cert.BwdKernelIdeal.sig) → Buf (Elt Ideal) ℓ) : Prop :=
  True

def Pre_BwdKernelIdeal_finite_bwd [hPre_finite_bwd : Cert.Pre_finite_bwd.Facts] (m : (ℓ : Loc Cert.BwdKernelIdeal.nD Cert.BwdKernelIdeal.τ Cert.BwdKernelIdeal.sig) → Buf (Elt Ideal) ℓ) : Prop :=
  ∀ c : Dev Cert.BwdKernelIdeal.nD,
    (Cert.Pre_finite_bwd.fn (F := Ideal) (m ((c.tc : Thread Cert.BwdKernelIdeal.nD Cert.BwdKernelIdeal.τ).loc Cert.BwdKernelIdeal.main_arg0)) (m ((c.tc : Thread Cert.BwdKernelIdeal.nD Cert.BwdKernelIdeal.τ).loc Cert.BwdKernelIdeal.main_arg1)) (m ((c.tc : Thread Cert.BwdKernelIdeal.nD Cert.BwdKernelIdeal.τ).loc Cert.BwdKernelIdeal.main_arg2)) (m ((c.tc : Thread Cert.BwdKernelIdeal.nD Cert.BwdKernelIdeal.τ).loc Cert.BwdKernelIdeal.main_arg3)) (m ((c.tc : Thread Cert.BwdKernelIdeal.nD Cert.BwdKernelIdeal.τ).loc Cert.BwdKernelIdeal.main_arg4)) (m ((c.tc : Thread Cert.BwdKernelIdeal.nD Cert.BwdKernelIdeal.τ).loc Cert.BwdKernelIdeal.main_arg5)) (m ((c.tc : Thread Cert.BwdKernelIdeal.nD Cert.BwdKernelIdeal.τ).loc Cert.BwdKernelIdeal.main_arg6)) (m ((c.tc : Thread Cert.BwdKernelIdeal.nD Cert.BwdKernelIdeal.τ).loc Cert.BwdKernelIdeal.main_arg7))).1 = (fun _ => 1#1)
    ∧ (Cert.Pre_finite_bwd.fn (F := Ideal) (m ((c.tc : Thread Cert.BwdKernelIdeal.nD Cert.BwdKernelIdeal.τ).loc Cert.BwdKernelIdeal.main_arg0)) (m ((c.tc : Thread Cert.BwdKernelIdeal.nD Cert.BwdKernelIdeal.τ).loc Cert.BwdKernelIdeal.main_arg1)) (m ((c.tc : Thread Cert.BwdKernelIdeal.nD Cert.BwdKernelIdeal.τ).loc Cert.BwdKernelIdeal.main_arg2)) (m ((c.tc : Thread Cert.BwdKernelIdeal.nD Cert.BwdKernelIdeal.τ).loc Cert.BwdKernelIdeal.main_arg3)) (m ((c.tc : Thread Cert.BwdKernelIdeal.nD Cert.BwdKernelIdeal.τ).loc Cert.BwdKernelIdeal.main_arg4)) (m ((c.tc : Thread Cert.BwdKernelIdeal.nD Cert.BwdKernelIdeal.τ).loc Cert.BwdKernelIdeal.main_arg5)) (m ((c.tc : Thread Cert.BwdKernelIdeal.nD Cert.BwdKernelIdeal.τ).loc Cert.BwdKernelIdeal.main_arg6)) (m ((c.tc : Thread Cert.BwdKernelIdeal.nD Cert.BwdKernelIdeal.τ).loc Cert.BwdKernelIdeal.main_arg7))).2.1 = (fun _ => 1#1)
    ∧ (Cert.Pre_finite_bwd.fn (F := Ideal) (m ((c.tc : Thread Cert.BwdKernelIdeal.nD Cert.BwdKernelIdeal.τ).loc Cert.BwdKernelIdeal.main_arg0)) (m ((c.tc : Thread Cert.BwdKernelIdeal.nD Cert.BwdKernelIdeal.τ).loc Cert.BwdKernelIdeal.main_arg1)) (m ((c.tc : Thread Cert.BwdKernelIdeal.nD Cert.BwdKernelIdeal.τ).loc Cert.BwdKernelIdeal.main_arg2)) (m ((c.tc : Thread Cert.BwdKernelIdeal.nD Cert.BwdKernelIdeal.τ).loc Cert.BwdKernelIdeal.main_arg3)) (m ((c.tc : Thread Cert.BwdKernelIdeal.nD Cert.BwdKernelIdeal.τ).loc Cert.BwdKernelIdeal.main_arg4)) (m ((c.tc : Thread Cert.BwdKernelIdeal.nD Cert.BwdKernelIdeal.τ).loc Cert.BwdKernelIdeal.main_arg5)) (m ((c.tc : Thread Cert.BwdKernelIdeal.nD Cert.BwdKernelIdeal.τ).loc Cert.BwdKernelIdeal.main_arg6)) (m ((c.tc : Thread Cert.BwdKernelIdeal.nD Cert.BwdKernelIdeal.τ).loc Cert.BwdKernelIdeal.main_arg7))).2.2.1 = (fun _ => 1#1)
    ∧ (Cert.Pre_finite_bwd.fn (F := Ideal) (m ((c.tc : Thread Cert.BwdKernelIdeal.nD Cert.BwdKernelIdeal.τ).loc Cert.BwdKernelIdeal.main_arg0)) (m ((c.tc : Thread Cert.BwdKernelIdeal.nD Cert.BwdKernelIdeal.τ).loc Cert.BwdKernelIdeal.main_arg1)) (m ((c.tc : Thread Cert.BwdKernelIdeal.nD Cert.BwdKernelIdeal.τ).loc Cert.BwdKernelIdeal.main_arg2)) (m ((c.tc : Thread Cert.BwdKernelIdeal.nD Cert.BwdKernelIdeal.τ).loc Cert.BwdKernelIdeal.main_arg3)) (m ((c.tc : Thread Cert.BwdKernelIdeal.nD Cert.BwdKernelIdeal.τ).loc Cert.BwdKernelIdeal.main_arg4)) (m ((c.tc : Thread Cert.BwdKernelIdeal.nD Cert.BwdKernelIdeal.τ).loc Cert.BwdKernelIdeal.main_arg5)) (m ((c.tc : Thread Cert.BwdKernelIdeal.nD Cert.BwdKernelIdeal.τ).loc Cert.BwdKernelIdeal.main_arg6)) (m ((c.tc : Thread Cert.BwdKernelIdeal.nD Cert.BwdKernelIdeal.τ).loc Cert.BwdKernelIdeal.main_arg7))).2.2.2.1 = (fun _ => 1#1)
    ∧ (Cert.Pre_finite_bwd.fn (F := Ideal) (m ((c.tc : Thread Cert.BwdKernelIdeal.nD Cert.BwdKernelIdeal.τ).loc Cert.BwdKernelIdeal.main_arg0)) (m ((c.tc : Thread Cert.BwdKernelIdeal.nD Cert.BwdKernelIdeal.τ).loc Cert.BwdKernelIdeal.main_arg1)) (m ((c.tc : Thread Cert.BwdKernelIdeal.nD Cert.BwdKernelIdeal.τ).loc Cert.BwdKernelIdeal.main_arg2)) (m ((c.tc : Thread Cert.BwdKernelIdeal.nD Cert.BwdKernelIdeal.τ).loc Cert.BwdKernelIdeal.main_arg3)) (m ((c.tc : Thread Cert.BwdKernelIdeal.nD Cert.BwdKernelIdeal.τ).loc Cert.BwdKernelIdeal.main_arg4)) (m ((c.tc : Thread Cert.BwdKernelIdeal.nD Cert.BwdKernelIdeal.τ).loc Cert.BwdKernelIdeal.main_arg5)) (m ((c.tc : Thread Cert.BwdKernelIdeal.nD Cert.BwdKernelIdeal.τ).loc Cert.BwdKernelIdeal.main_arg6)) (m ((c.tc : Thread Cert.BwdKernelIdeal.nD Cert.BwdKernelIdeal.τ).loc Cert.BwdKernelIdeal.main_arg7))).2.2.2.2.1 = (fun _ => 1#1)
    ∧ (Cert.Pre_finite_bwd.fn (F := Ideal) (m ((c.tc : Thread Cert.BwdKernelIdeal.nD Cert.BwdKernelIdeal.τ).loc Cert.BwdKernelIdeal.main_arg0)) (m ((c.tc : Thread Cert.BwdKernelIdeal.nD Cert.BwdKernelIdeal.τ).loc Cert.BwdKernelIdeal.main_arg1)) (m ((c.tc : Thread Cert.BwdKernelIdeal.nD Cert.BwdKernelIdeal.τ).loc Cert.BwdKernelIdeal.main_arg2)) (m ((c.tc : Thread Cert.BwdKernelIdeal.nD Cert.BwdKernelIdeal.τ).loc Cert.BwdKernelIdeal.main_arg3)) (m ((c.tc : Thread Cert.BwdKernelIdeal.nD Cert.BwdKernelIdeal.τ).loc Cert.BwdKernelIdeal.main_arg4)) (m ((c.tc : Thread Cert.BwdKernelIdeal.nD Cert.BwdKernelIdeal.τ).loc Cert.BwdKernelIdeal.main_arg5)) (m ((c.tc : Thread Cert.BwdKernelIdeal.nD Cert.BwdKernelIdeal.τ).loc Cert.BwdKernelIdeal.main_arg6)) (m ((c.tc : Thread Cert.BwdKernelIdeal.nD Cert.BwdKernelIdeal.τ).loc Cert.BwdKernelIdeal.main_arg7))).2.2.2.2.2.1 = (fun _ => 1#1)
    ∧ (Cert.Pre_finite_bwd.fn (F := Ideal) (m ((c.tc : Thread Cert.BwdKernelIdeal.nD Cert.BwdKernelIdeal.τ).loc Cert.BwdKernelIdeal.main_arg0)) (m ((c.tc : Thread Cert.BwdKernelIdeal.nD Cert.BwdKernelIdeal.τ).loc Cert.BwdKernelIdeal.main_arg1)) (m ((c.tc : Thread Cert.BwdKernelIdeal.nD Cert.BwdKernelIdeal.τ).loc Cert.BwdKernelIdeal.main_arg2)) (m ((c.tc : Thread Cert.BwdKernelIdeal.nD Cert.BwdKernelIdeal.τ).loc Cert.BwdKernelIdeal.main_arg3)) (m ((c.tc : Thread Cert.BwdKernelIdeal.nD Cert.BwdKernelIdeal.τ).loc Cert.BwdKernelIdeal.main_arg4)) (m ((c.tc : Thread Cert.BwdKernelIdeal.nD Cert.BwdKernelIdeal.τ).loc Cert.BwdKernelIdeal.main_arg5)) (m ((c.tc : Thread Cert.BwdKernelIdeal.nD Cert.BwdKernelIdeal.τ).loc Cert.BwdKernelIdeal.main_arg6)) (m ((c.tc : Thread Cert.BwdKernelIdeal.nD Cert.BwdKernelIdeal.τ).loc Cert.BwdKernelIdeal.main_arg7))).2.2.2.2.2.2 = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_finite_bwd [hPre_finite_bwd : Cert.Pre_finite_bwd.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7))).1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7))).2.1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7))).2.2.1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7))).2.2.2.1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7))).2.2.2.2.1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7))).2.2.2.2.2.1 = (fun _ => 1#1)
    ∧ (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7))).2.2.2.2.2.2 = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpKernelIdeal_finite_mlp [hPre_finite_mlp : Cert.Pre_finite_mlp.Facts] (m : (ℓ : Loc Cert.MlpKernelIdeal.nD Cert.MlpKernelIdeal.τ Cert.MlpKernelIdeal.sig) → Buf (Elt Ideal) ℓ) : Prop :=
  ∀ c : Dev Cert.MlpKernelIdeal.nD,
    (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.2 = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfKernel (m : (ℓ : Loc Cert.FfKernel.nD Cert.FfKernel.τ Cert.FfKernel.sig) → Buf (Elt Bits) ℓ) : Prop :=
  True

def Pre_FfKernelIdeal (m : (ℓ : Loc Cert.FfKernelIdeal.nD Cert.FfKernelIdeal.τ Cert.FfKernelIdeal.sig) → Buf (Elt Ideal) ℓ) : Prop :=
  True

def Pre_FfRefIdeal (m : (ℓ : Loc Cert.FfRefIdeal.nD Cert.FfRefIdeal.τ Cert.FfRefIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_TnKernel (m : (ℓ : Loc Cert.TnKernel.nD Cert.TnKernel.τ Cert.TnKernel.sig) → Buf (Elt Bits) ℓ) : Prop :=
  True

def Pre_TnKernelIdeal (m : (ℓ : Loc Cert.TnKernelIdeal.nD Cert.TnKernelIdeal.τ Cert.TnKernelIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_AsmKernel (m : (ℓ : Loc Cert.AsmKernel.nD Cert.AsmKernel.τ Cert.AsmKernel.sig) → Buf (Elt Bits) ℓ) : Prop :=
  True

def Pre_AsmKernelIdeal (m : (ℓ : Loc Cert.AsmKernelIdeal.nD Cert.AsmKernelIdeal.τ Cert.AsmKernelIdeal.sig) → Buf (Elt Ideal) ℓ) : Prop :=
  True

def Pre_AsmRefIdeal (m : (ℓ : Loc Cert.AsmRefIdeal.nD Cert.AsmRefIdeal.τ Cert.AsmRefIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ r.2.sem = fun _ => 0)

def quiescent_PreKernelIdeal_pre_finite_pre [hPreKernelIdeal : Cert.PreKernelIdeal.Facts] [hPre_finite_pre : Cert.Pre_finite_pre.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal_finite_pre m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4))
      ∧ r.2.sem = fun _ => 0)

def quiescent_PreRefIdeal_pre_finite_pre [hPreRefIdeal : Cert.PreRefIdeal.Facts] [hPre_finite_pre : Cert.Pre_finite_pre.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_finite_pre m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ r.2.sem = fun _ => 0)

def quiescent_PostKernelIdeal_pre_finite_post [hPostKernelIdeal : Cert.PostKernelIdeal.Facts] [hPre_finite_post : Cert.Pre_finite_post.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_finite_post m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5)
      ∧ r.2.mem ((c.tc : Thread Cert.SsdKernel.nD Cert.SsdKernel.τ).loc Cert.SsdKernel.main_arg6) = m ((c.tc : Thread Cert.SsdKernel.nD Cert.SsdKernel.τ).loc Cert.SsdKernel.main_arg6))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6))
      ∧ r.2.sem = fun _ => 0)

def quiescent_SsdKernelIdeal_pre_finite_ssd [hSsdKernelIdeal : Cert.SsdKernelIdeal.Facts] [hPre_finite_ssd : Cert.Pre_finite_ssd.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal_finite_ssd m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdRefIdeal_pre_finite_ssd [hSsdRefIdeal : Cert.SsdRefIdeal.Facts] [hPre_finite_ssd : Cert.Pre_finite_ssd.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_ssd m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_BwdKernel [hBwdKernel : Cert.BwdKernel.Facts] : Prop :=
  ∀ (m : (ℓ : Loc Cert.BwdKernel.nD Cert.BwdKernel.τ Cert.BwdKernel.sig) → Buf (Elt Bits) ℓ) (g : Dev Cert.BwdKernel.nD → PrngReg), Pre_BwdKernel m →
    θ_run (Cert.BwdKernel.defs (F := Bits)) (onTc (τ := Cert.BwdKernel.τ) (Cert.BwdKernel.main (F := Bits))) ⟨m, fun _ => 0, g⟩ (fun r => (∀ c : Dev Cert.BwdKernel.nD,
      r.2.mem ((c.tc : Thread Cert.BwdKernel.nD Cert.BwdKernel.τ).loc Cert.BwdKernel.main_arg0) = m ((c.tc : Thread Cert.BwdKernel.nD Cert.BwdKernel.τ).loc Cert.BwdKernel.main_arg0)
      ∧ r.2.mem ((c.tc : Thread Cert.BwdKernel.nD Cert.BwdKernel.τ).loc Cert.BwdKernel.main_arg1) = m ((c.tc : Thread Cert.BwdKernel.nD Cert.BwdKernel.τ).loc Cert.BwdKernel.main_arg1)
      ∧ r.2.mem ((c.tc : Thread Cert.BwdKernel.nD Cert.BwdKernel.τ).loc Cert.BwdKernel.main_arg2) = m ((c.tc : Thread Cert.BwdKernel.nD Cert.BwdKernel.τ).loc Cert.BwdKernel.main_arg2)
      ∧ r.2.mem ((c.tc : Thread Cert.BwdKernel.nD Cert.BwdKernel.τ).loc Cert.BwdKernel.main_arg3) = m ((c.tc : Thread Cert.BwdKernel.nD Cert.BwdKernel.τ).loc Cert.BwdKernel.main_arg3)
      ∧ r.2.mem ((c.tc : Thread Cert.BwdKernel.nD Cert.BwdKernel.τ).loc Cert.BwdKernel.main_arg4) = m ((c.tc : Thread Cert.BwdKernel.nD Cert.BwdKernel.τ).loc Cert.BwdKernel.main_arg4)
      ∧ r.2.mem ((c.tc : Thread Cert.BwdKernel.nD Cert.BwdKernel.τ).loc Cert.BwdKernel.main_arg5) = m ((c.tc : Thread Cert.BwdKernel.nD Cert.BwdKernel.τ).loc Cert.BwdKernel.main_arg5)
      ∧ r.2.mem ((c.tc : Thread Cert.BwdKernel.nD Cert.BwdKernel.τ).loc Cert.BwdKernel.main_arg6) = m ((c.tc : Thread Cert.BwdKernel.nD Cert.BwdKernel.τ).loc Cert.BwdKernel.main_arg6)
      ∧ r.2.mem ((c.tc : Thread Cert.BwdKernel.nD Cert.BwdKernel.τ).loc Cert.BwdKernel.main_arg7) = m ((c.tc : Thread Cert.BwdKernel.nD Cert.BwdKernel.τ).loc Cert.BwdKernel.main_arg7))
      ∧ r.2.sem = fun _ => 0)

def quiescent_BwdKernelIdeal [hBwdKernelIdeal : Cert.BwdKernelIdeal.Facts] : Prop :=
  ∀ (m : (ℓ : Loc Cert.BwdKernelIdeal.nD Cert.BwdKernelIdeal.τ Cert.BwdKernelIdeal.sig) → Buf (Elt Ideal) ℓ) (g : Dev Cert.BwdKernelIdeal.nD → PrngReg), Pre_BwdKernelIdeal m →
    θ_run (Cert.BwdKernelIdeal.defs (F := Ideal)) (onTc (τ := Cert.BwdKernelIdeal.τ) (Cert.BwdKernelIdeal.main (F := Ideal))) ⟨m, fun _ => 0, g⟩ (fun r => (∀ c : Dev Cert.BwdKernelIdeal.nD,
      r.2.mem ((c.tc : Thread Cert.BwdKernelIdeal.nD Cert.BwdKernelIdeal.τ).loc Cert.BwdKernelIdeal.main_arg0) = m ((c.tc : Thread Cert.BwdKernelIdeal.nD Cert.BwdKernelIdeal.τ).loc Cert.BwdKernelIdeal.main_arg0)
      ∧ r.2.mem ((c.tc : Thread Cert.BwdKernelIdeal.nD Cert.BwdKernelIdeal.τ).loc Cert.BwdKernelIdeal.main_arg1) = m ((c.tc : Thread Cert.BwdKernelIdeal.nD Cert.BwdKernelIdeal.τ).loc Cert.BwdKernelIdeal.main_arg1)
      ∧ r.2.mem ((c.tc : Thread Cert.BwdKernelIdeal.nD Cert.BwdKernelIdeal.τ).loc Cert.BwdKernelIdeal.main_arg2) = m ((c.tc : Thread Cert.BwdKernelIdeal.nD Cert.BwdKernelIdeal.τ).loc Cert.BwdKernelIdeal.main_arg2)
      ∧ r.2.mem ((c.tc : Thread Cert.BwdKernelIdeal.nD Cert.BwdKernelIdeal.τ).loc Cert.BwdKernelIdeal.main_arg3) = m ((c.tc : Thread Cert.BwdKernelIdeal.nD Cert.BwdKernelIdeal.τ).loc Cert.BwdKernelIdeal.main_arg3)
      ∧ r.2.mem ((c.tc : Thread Cert.BwdKernelIdeal.nD Cert.BwdKernelIdeal.τ).loc Cert.BwdKernelIdeal.main_arg4) = m ((c.tc : Thread Cert.BwdKernelIdeal.nD Cert.BwdKernelIdeal.τ).loc Cert.BwdKernelIdeal.main_arg4)
      ∧ r.2.mem ((c.tc : Thread Cert.BwdKernelIdeal.nD Cert.BwdKernelIdeal.τ).loc Cert.BwdKernelIdeal.main_arg5) = m ((c.tc : Thread Cert.BwdKernelIdeal.nD Cert.BwdKernelIdeal.τ).loc Cert.BwdKernelIdeal.main_arg5)
      ∧ r.2.mem ((c.tc : Thread Cert.BwdKernelIdeal.nD Cert.BwdKernelIdeal.τ).loc Cert.BwdKernelIdeal.main_arg6) = m ((c.tc : Thread Cert.BwdKernelIdeal.nD Cert.BwdKernelIdeal.τ).loc Cert.BwdKernelIdeal.main_arg6)
      ∧ r.2.mem ((c.tc : Thread Cert.BwdKernelIdeal.nD Cert.BwdKernelIdeal.τ).loc Cert.BwdKernelIdeal.main_arg7) = m ((c.tc : Thread Cert.BwdKernelIdeal.nD Cert.BwdKernelIdeal.τ).loc Cert.BwdKernelIdeal.main_arg7))
      ∧ r.2.sem = fun _ => 0)

def quiescent_BwdKernelIdeal_pre_finite_bwd [hBwdKernelIdeal : Cert.BwdKernelIdeal.Facts] [hPre_finite_bwd : Cert.Pre_finite_bwd.Facts] : Prop :=
  ∀ (m : (ℓ : Loc Cert.BwdKernelIdeal.nD Cert.BwdKernelIdeal.τ Cert.BwdKernelIdeal.sig) → Buf (Elt Ideal) ℓ) (g : Dev Cert.BwdKernelIdeal.nD → PrngReg), Pre_BwdKernelIdeal_finite_bwd m →
    θ_run (Cert.BwdKernelIdeal.defs (F := Ideal)) (onTc (τ := Cert.BwdKernelIdeal.τ) (Cert.BwdKernelIdeal.main (F := Ideal))) ⟨m, fun _ => 0, g⟩ (fun r => (∀ c : Dev Cert.BwdKernelIdeal.nD,
      r.2.mem ((c.tc : Thread Cert.BwdKernelIdeal.nD Cert.BwdKernelIdeal.τ).loc Cert.BwdKernelIdeal.main_arg0) = m ((c.tc : Thread Cert.BwdKernelIdeal.nD Cert.BwdKernelIdeal.τ).loc Cert.BwdKernelIdeal.main_arg0)
      ∧ r.2.mem ((c.tc : Thread Cert.BwdKernelIdeal.nD Cert.BwdKernelIdeal.τ).loc Cert.BwdKernelIdeal.main_arg1) = m ((c.tc : Thread Cert.BwdKernelIdeal.nD Cert.BwdKernelIdeal.τ).loc Cert.BwdKernelIdeal.main_arg1)
      ∧ r.2.mem ((c.tc : Thread Cert.BwdKernelIdeal.nD Cert.BwdKernelIdeal.τ).loc Cert.BwdKernelIdeal.main_arg2) = m ((c.tc : Thread Cert.BwdKernelIdeal.nD Cert.BwdKernelIdeal.τ).loc Cert.BwdKernelIdeal.main_arg2)
      ∧ r.2.mem ((c.tc : Thread Cert.BwdKernelIdeal.nD Cert.BwdKernelIdeal.τ).loc Cert.BwdKernelIdeal.main_arg3) = m ((c.tc : Thread Cert.BwdKernelIdeal.nD Cert.BwdKernelIdeal.τ).loc Cert.BwdKernelIdeal.main_arg3)
      ∧ r.2.mem ((c.tc : Thread Cert.BwdKernelIdeal.nD Cert.BwdKernelIdeal.τ).loc Cert.BwdKernelIdeal.main_arg4) = m ((c.tc : Thread Cert.BwdKernelIdeal.nD Cert.BwdKernelIdeal.τ).loc Cert.BwdKernelIdeal.main_arg4)
      ∧ r.2.mem ((c.tc : Thread Cert.BwdKernelIdeal.nD Cert.BwdKernelIdeal.τ).loc Cert.BwdKernelIdeal.main_arg5) = m ((c.tc : Thread Cert.BwdKernelIdeal.nD Cert.BwdKernelIdeal.τ).loc Cert.BwdKernelIdeal.main_arg5)
      ∧ r.2.mem ((c.tc : Thread Cert.BwdKernelIdeal.nD Cert.BwdKernelIdeal.τ).loc Cert.BwdKernelIdeal.main_arg6) = m ((c.tc : Thread Cert.BwdKernelIdeal.nD Cert.BwdKernelIdeal.τ).loc Cert.BwdKernelIdeal.main_arg6)
      ∧ r.2.mem ((c.tc : Thread Cert.BwdKernelIdeal.nD Cert.BwdKernelIdeal.τ).loc Cert.BwdKernelIdeal.main_arg7) = m ((c.tc : Thread Cert.BwdKernelIdeal.nD Cert.BwdKernelIdeal.τ).loc Cert.BwdKernelIdeal.main_arg7))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7))
      ∧ r.2.sem = fun _ => 0)

def quiescent_BwdRefIdeal_pre_finite_bwd [hBwdRefIdeal : Cert.BwdRefIdeal.Facts] [hPre_finite_bwd : Cert.Pre_finite_bwd.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_finite_bwd m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5))
      ∧ r.2.sem = fun _ => 0)

def quiescent_MlpKernelIdeal_pre_finite_mlp [hMlpKernelIdeal : Cert.MlpKernelIdeal.Facts] [hPre_finite_mlp : Cert.Pre_finite_mlp.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal_finite_mlp m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_FfKernel [hFfKernel : Cert.FfKernel.Facts] : Prop :=
  ∀ (m : (ℓ : Loc Cert.FfKernel.nD Cert.FfKernel.τ Cert.FfKernel.sig) → Buf (Elt Bits) ℓ) (g : Dev Cert.FfKernel.nD → PrngReg), Pre_FfKernel m →
    θ_run (Cert.FfKernel.defs (F := Bits)) (onTc (τ := Cert.FfKernel.τ) (Cert.FfKernel.main (F := Bits))) ⟨m, fun _ => 0, g⟩ (fun r => (∀ c : Dev Cert.FfKernel.nD,
      r.2.mem ((c.tc : Thread Cert.FfKernel.nD Cert.FfKernel.τ).loc Cert.FfKernel.main_arg0) = m ((c.tc : Thread Cert.FfKernel.nD Cert.FfKernel.τ).loc Cert.FfKernel.main_arg0)
      ∧ r.2.mem ((c.tc : Thread Cert.FfKernel.nD Cert.FfKernel.τ).loc Cert.FfKernel.main_arg1) = m ((c.tc : Thread Cert.FfKernel.nD Cert.FfKernel.τ).loc Cert.FfKernel.main_arg1)
      ∧ r.2.mem ((c.tc : Thread Cert.FfKernel.nD Cert.FfKernel.τ).loc Cert.FfKernel.main_arg2) = m ((c.tc : Thread Cert.FfKernel.nD Cert.FfKernel.τ).loc Cert.FfKernel.main_arg2)
      ∧ r.2.mem ((c.tc : Thread Cert.FfKernel.nD Cert.FfKernel.τ).loc Cert.FfKernel.main_arg3) = m ((c.tc : Thread Cert.FfKernel.nD Cert.FfKernel.τ).loc Cert.FfKernel.main_arg3)
      ∧ r.2.mem ((c.tc : Thread Cert.FfKernel.nD Cert.FfKernel.τ).loc Cert.FfKernel.main_arg4) = m ((c.tc : Thread Cert.FfKernel.nD Cert.FfKernel.τ).loc Cert.FfKernel.main_arg4))
      ∧ r.2.sem = fun _ => 0)

def quiescent_FfKernelIdeal [hFfKernelIdeal : Cert.FfKernelIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg), Pre_FfKernelIdeal m →
    θ_run (Cert.FfKernelIdeal.defs (F := Ideal)) (onTc (τ := Cert.FfKernelIdeal.τ) (Cert.FfKernelIdeal.main (F := Ideal))) ⟨m, fun _ => 0, g⟩ (fun r => (∀ c : Dev Cert.FfKernelIdeal.nD,
      r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
      ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
      ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
      ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3)
      ∧ r.2.mem ((c.tc : Thread Cert.FfKernelIdeal.nD Cert.FfKernelIdeal.τ).loc Cert.FfKernelIdeal.main_arg4) = m ((c.tc : Thread Cert.FfKernelIdeal.nD Cert.FfKernelIdeal.τ).loc Cert.FfKernelIdeal.main_arg4))
      ∧ r.2.sem = fun _ => 0)

def quiescent_FfRefIdeal [hFfRefIdeal : Cert.FfRefIdeal.Facts] : Prop :=
  ∀ (m : (ℓ : Loc Cert.FfRefIdeal.nD Cert.FfRefIdeal.τ Cert.FfRefIdeal.sig) → Buf (Elt Ideal) ℓ) (g : Dev Cert.FfRefIdeal.nD → PrngReg), Pre_FfRefIdeal m →
    θ_run (Cert.FfRefIdeal.defs (F := Ideal)) (onTc (τ := Cert.FfRefIdeal.τ) (Cert.FfRefIdeal.main (F := Ideal))) ⟨m, fun _ => 0, g⟩ (fun r => (∀ c : Dev Cert.FfRefIdeal.nD,
      r.2.mem ((c.tc : Thread Cert.FfRefIdeal.nD Cert.FfRefIdeal.τ).loc Cert.FfRefIdeal.main_arg0) = m ((c.tc : Thread Cert.FfRefIdeal.nD Cert.FfRefIdeal.τ).loc Cert.FfRefIdeal.main_arg0)
      ∧ r.2.mem ((c.tc : Thread Cert.FfRefIdeal.nD Cert.FfRefIdeal.τ).loc Cert.FfRefIdeal.main_arg1) = m ((c.tc : Thread Cert.FfRefIdeal.nD Cert.FfRefIdeal.τ).loc Cert.FfRefIdeal.main_arg1)
      ∧ r.2.mem ((c.tc : Thread Cert.FfRefIdeal.nD Cert.FfRefIdeal.τ).loc Cert.FfRefIdeal.main_arg2) = m ((c.tc : Thread Cert.FfRefIdeal.nD Cert.FfRefIdeal.τ).loc Cert.FfRefIdeal.main_arg2)
      ∧ r.2.mem ((c.tc : Thread Cert.FfRefIdeal.nD Cert.FfRefIdeal.τ).loc Cert.FfRefIdeal.main_arg3) = m ((c.tc : Thread Cert.FfRefIdeal.nD Cert.FfRefIdeal.τ).loc Cert.FfRefIdeal.main_arg3)
      ∧ r.2.mem ((c.tc : Thread Cert.FfRefIdeal.nD Cert.FfRefIdeal.τ).loc Cert.FfRefIdeal.main_arg4) = m ((c.tc : Thread Cert.FfRefIdeal.nD Cert.FfRefIdeal.τ).loc Cert.FfRefIdeal.main_arg4))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1)
      ∧ r.2.mem ((c.tc : Thread Cert.DwKernel.nD Cert.DwKernel.τ).loc Cert.DwKernel.main_arg2) = m ((c.tc : Thread Cert.DwKernel.nD Cert.DwKernel.τ).loc Cert.DwKernel.main_arg2)
      ∧ r.2.mem ((c.tc : Thread Cert.DwKernel.nD Cert.DwKernel.τ).loc Cert.DwKernel.main_arg3) = m ((c.tc : Thread Cert.DwKernel.nD Cert.DwKernel.τ).loc Cert.DwKernel.main_arg3)
      ∧ r.2.mem ((c.tc : Thread Cert.DwKernel.nD Cert.DwKernel.τ).loc Cert.DwKernel.main_arg4) = m ((c.tc : Thread Cert.DwKernel.nD Cert.DwKernel.τ).loc Cert.DwKernel.main_arg4))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
      ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2)
      ∧ r.2.mem ((c.tc : Thread Cert.DwKernelIdeal.nD Cert.DwKernelIdeal.τ).loc Cert.DwKernelIdeal.main_arg3) = m ((c.tc : Thread Cert.DwKernelIdeal.nD Cert.DwKernelIdeal.τ).loc Cert.DwKernelIdeal.main_arg3)
      ∧ r.2.mem ((c.tc : Thread Cert.DwKernelIdeal.nD Cert.DwKernelIdeal.τ).loc Cert.DwKernelIdeal.main_arg4) = m ((c.tc : Thread Cert.DwKernelIdeal.nD Cert.DwKernelIdeal.τ).loc Cert.DwKernelIdeal.main_arg4))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4))
      ∧ r.2.sem = fun _ => 0)

def quiescent_TnKernel [hTnKernel : Cert.TnKernel.Facts] : Prop :=
  ∀ (m : (ℓ : Loc Cert.TnKernel.nD Cert.TnKernel.τ Cert.TnKernel.sig) → Buf (Elt Bits) ℓ) (g : Dev Cert.TnKernel.nD → PrngReg), Pre_TnKernel m →
    θ_run (Cert.TnKernel.defs (F := Bits)) (onTc (τ := Cert.TnKernel.τ) (Cert.TnKernel.main (F := Bits))) ⟨m, fun _ => 0, g⟩ (fun r => (∀ c : Dev Cert.TnKernel.nD,
      r.2.mem ((c.tc : Thread Cert.TnKernel.nD Cert.TnKernel.τ).loc Cert.TnKernel.main_arg0) = m ((c.tc : Thread Cert.TnKernel.nD Cert.TnKernel.τ).loc Cert.TnKernel.main_arg0)
      ∧ r.2.mem ((c.tc : Thread Cert.TnKernel.nD Cert.TnKernel.τ).loc Cert.TnKernel.main_arg1) = m ((c.tc : Thread Cert.TnKernel.nD Cert.TnKernel.τ).loc Cert.TnKernel.main_arg1)
      ∧ r.2.mem ((c.tc : Thread Cert.TnKernel.nD Cert.TnKernel.τ).loc Cert.TnKernel.main_arg2) = m ((c.tc : Thread Cert.TnKernel.nD Cert.TnKernel.τ).loc Cert.TnKernel.main_arg2)
      ∧ r.2.mem ((c.tc : Thread Cert.TnKernel.nD Cert.TnKernel.τ).loc Cert.TnKernel.main_arg3) = m ((c.tc : Thread Cert.TnKernel.nD Cert.TnKernel.τ).loc Cert.TnKernel.main_arg3))
      ∧ r.2.sem = fun _ => 0)

def quiescent_TnKernelIdeal [hTnKernelIdeal : Cert.TnKernelIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg), Pre_TnKernelIdeal m →
    θ_run (Cert.TnKernelIdeal.defs (F := Ideal)) (onTc (τ := Cert.TnKernelIdeal.τ) (Cert.TnKernelIdeal.main (F := Ideal))) ⟨m, fun _ => 0, g⟩ (fun r => (∀ c : Dev Cert.TnKernelIdeal.nD,
      r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
      ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1)
      ∧ r.2.mem ((c.tc : Thread Cert.TnKernelIdeal.nD Cert.TnKernelIdeal.τ).loc Cert.TnKernelIdeal.main_arg2) = m ((c.tc : Thread Cert.TnKernelIdeal.nD Cert.TnKernelIdeal.τ).loc Cert.TnKernelIdeal.main_arg2)
      ∧ r.2.mem ((c.tc : Thread Cert.TnKernelIdeal.nD Cert.TnKernelIdeal.τ).loc Cert.TnKernelIdeal.main_arg3) = m ((c.tc : Thread Cert.TnKernelIdeal.nD Cert.TnKernelIdeal.τ).loc Cert.TnKernelIdeal.main_arg3))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1)
      ∧ r.2.mem ((c.tc : Thread Cert.TnRefIdeal.nD Cert.TnRefIdeal.τ).loc Cert.TnRefIdeal.main_arg2) = m ((c.tc : Thread Cert.TnRefIdeal.nD Cert.TnRefIdeal.τ).loc Cert.TnRefIdeal.main_arg2)
      ∧ r.2.mem ((c.tc : Thread Cert.TnRefIdeal.nD Cert.TnRefIdeal.τ).loc Cert.TnRefIdeal.main_arg3) = m ((c.tc : Thread Cert.TnRefIdeal.nD Cert.TnRefIdeal.τ).loc Cert.TnRefIdeal.main_arg3))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_AsmKernel [hAsmKernel : Cert.AsmKernel.Facts] : Prop :=
  ∀ (m : (ℓ : Loc Cert.AsmKernel.nD Cert.AsmKernel.τ Cert.AsmKernel.sig) → Buf (Elt Bits) ℓ) (g : Dev Cert.AsmKernel.nD → PrngReg), Pre_AsmKernel m →
    θ_run (Cert.AsmKernel.defs (F := Bits)) (onTc (τ := Cert.AsmKernel.τ) (Cert.AsmKernel.main (F := Bits))) ⟨m, fun _ => 0, g⟩ (fun r => (∀ c : Dev Cert.AsmKernel.nD,
      r.2.mem ((c.tc : Thread Cert.AsmKernel.nD Cert.AsmKernel.τ).loc Cert.AsmKernel.main_arg0) = m ((c.tc : Thread Cert.AsmKernel.nD Cert.AsmKernel.τ).loc Cert.AsmKernel.main_arg0))
      ∧ r.2.sem = fun _ => 0)

def quiescent_AsmKernelIdeal [hAsmKernelIdeal : Cert.AsmKernelIdeal.Facts] : Prop :=
  ∀ (m : (ℓ : Loc Cert.AsmKernelIdeal.nD Cert.AsmKernelIdeal.τ Cert.AsmKernelIdeal.sig) → Buf (Elt Ideal) ℓ) (g : Dev Cert.AsmKernelIdeal.nD → PrngReg), Pre_AsmKernelIdeal m →
    θ_run (Cert.AsmKernelIdeal.defs (F := Ideal)) (onTc (τ := Cert.AsmKernelIdeal.τ) (Cert.AsmKernelIdeal.main (F := Ideal))) ⟨m, fun _ => 0, g⟩ (fun r => (∀ c : Dev Cert.AsmKernelIdeal.nD,
      r.2.mem ((c.tc : Thread Cert.AsmKernelIdeal.nD Cert.AsmKernelIdeal.τ).loc Cert.AsmKernelIdeal.main_arg0) = m ((c.tc : Thread Cert.AsmKernelIdeal.nD Cert.AsmKernelIdeal.τ).loc Cert.AsmKernelIdeal.main_arg0))
      ∧ r.2.sem = fun _ => 0)

def quiescent_AsmRefIdeal [hAsmRefIdeal : Cert.AsmRefIdeal.Facts] : Prop :=
  ∀ (m : (ℓ : Loc Cert.AsmRefIdeal.nD Cert.AsmRefIdeal.τ Cert.AsmRefIdeal.sig) → Buf (Elt Ideal) ℓ) (g : Dev Cert.AsmRefIdeal.nD → PrngReg), Pre_AsmRefIdeal m →
    θ_run (Cert.AsmRefIdeal.defs (F := Ideal)) (onTc (τ := Cert.AsmRefIdeal.τ) (Cert.AsmRefIdeal.main (F := Ideal))) ⟨m, fun _ => 0, g⟩ (fun r => (∀ c : Dev Cert.AsmRefIdeal.nD,
      r.2.mem ((c.tc : Thread Cert.AsmRefIdeal.nD Cert.AsmRefIdeal.τ).loc Cert.AsmRefIdeal.main_arg0) = m ((c.tc : Thread Cert.AsmRefIdeal.nD Cert.AsmRefIdeal.τ).loc Cert.AsmRefIdeal.main_arg0))
      ∧ r.2.sem = fun _ => 0)

def preserves_LossKernel_LossKernelIdeal : Prop :=
  True

def algebraic_LossKernelIdeal_LossRefIdeal [hLossKernelIdeal : Cert.LossKernelIdeal.Facts] [hLossRefIdeal : Cert.LossRefIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_PreKernel_PreKernelIdeal : Prop :=
  True

def algebraic_PreKernelIdeal_PreRefIdeal_pre_finite_pre [hPreKernelIdeal : Cert.PreKernelIdeal.Facts] [hPreRefIdeal : Cert.PreRefIdeal.Facts] [hPre_finite_pre : Cert.Pre_finite_pre.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreKernelIdeal_finite_pre m →
    (∀ c : Dev Cert.PreKernelIdeal.nD,
      m' ((c.tc : Thread Cert.PreRefIdeal.nD Cert.PreRefIdeal.τ).loc Cert.PreRefIdeal.main_arg0) = m ((c.tc : Thread Cert.PreKernelIdeal.nD Cert.PreKernelIdeal.τ).loc Cert.PreKernelIdeal.main_arg0)
      ∧ m' ((c.tc : Thread Cert.PreRefIdeal.nD Cert.PreRefIdeal.τ).loc Cert.PreRefIdeal.main_arg1) = m ((c.tc : Thread Cert.PreKernelIdeal.nD Cert.PreKernelIdeal.τ).loc Cert.PreKernelIdeal.main_arg1)
      ∧ m' ((c.tc : Thread Cert.PreRefIdeal.nD Cert.PreRefIdeal.τ).loc Cert.PreRefIdeal.main_arg2) = m ((c.tc : Thread Cert.PreKernelIdeal.nD Cert.PreKernelIdeal.τ).loc Cert.PreKernelIdeal.main_arg2)
      ∧ m' ((c.tc : Thread Cert.PreRefIdeal.nD Cert.PreRefIdeal.τ).loc Cert.PreRefIdeal.main_arg3) = m ((c.tc : Thread Cert.PreKernelIdeal.nD Cert.PreKernelIdeal.τ).loc Cert.PreKernelIdeal.main_arg3)
      ∧ m' ((c.tc : Thread Cert.PreRefIdeal.nD Cert.PreRefIdeal.τ).loc Cert.PreRefIdeal.main_arg4) = m ((c.tc : Thread Cert.PreKernelIdeal.nD Cert.PreKernelIdeal.τ).loc Cert.PreKernelIdeal.main_arg4)) →
    ∃ (v0 : (c : Dev Cert.PreKernelIdeal.nD) → Buf (Elt Ideal) ((c.tc : Thread Cert.PreKernelIdeal.nD Cert.PreKernelIdeal.τ).loc Cert.PreKernelIdeal.main_v7_0)) (v1 : (c : Dev Cert.PreKernelIdeal.nD) → Buf (Elt Ideal) ((c.tc : Thread Cert.PreKernelIdeal.nD Cert.PreKernelIdeal.τ).loc Cert.PreKernelIdeal.main_v7_1)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v7_0) = v0 c
          ∧ r.2.mem ((c.tc : Thread Cert.PreKernelIdeal.nD Cert.PreKernelIdeal.τ).loc Cert.PreKernelIdeal.main_v7_1) = v1 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v38) = v0 c
          ∧ r.2.mem ((c.tc : Thread Cert.PreRefIdeal.nD Cert.PreRefIdeal.τ).loc Cert.PreRefIdeal.main_v39) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4))

def preserves_PostKernel_PostKernelIdeal : Prop :=
  True

def algebraic_PostKernelIdeal_PostRefIdeal_pre_finite_post [hPostKernelIdeal : Cert.PostKernelIdeal.Facts] [hPostRefIdeal : Cert.PostRefIdeal.Facts] [hPre_finite_post : Cert.Pre_finite_post.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostKernelIdeal_finite_post m →
    (∀ c : Dev Cert.PostKernelIdeal.nD,
      m' ((c.tc : Thread Cert.PostRefIdeal.nD Cert.PostRefIdeal.τ).loc Cert.PostRefIdeal.main_arg0) = m ((c.tc : Thread Cert.PostKernelIdeal.nD Cert.PostKernelIdeal.τ).loc Cert.PostKernelIdeal.main_arg0)
      ∧ m' ((c.tc : Thread Cert.PostRefIdeal.nD Cert.PostRefIdeal.τ).loc Cert.PostRefIdeal.main_arg1) = m ((c.tc : Thread Cert.PostKernelIdeal.nD Cert.PostKernelIdeal.τ).loc Cert.PostKernelIdeal.main_arg1)
      ∧ m' ((c.tc : Thread Cert.PostRefIdeal.nD Cert.PostRefIdeal.τ).loc Cert.PostRefIdeal.main_arg2) = m ((c.tc : Thread Cert.PostKernelIdeal.nD Cert.PostKernelIdeal.τ).loc Cert.PostKernelIdeal.main_arg2)
      ∧ m' ((c.tc : Thread Cert.PostRefIdeal.nD Cert.PostRefIdeal.τ).loc Cert.PostRefIdeal.main_arg3) = m ((c.tc : Thread Cert.PostKernelIdeal.nD Cert.PostKernelIdeal.τ).loc Cert.PostKernelIdeal.main_arg3)) →
    ∃ (v0 : (c : Dev Cert.PostKernelIdeal.nD) → Buf (Elt Ideal) ((c.tc : Thread Cert.PostKernelIdeal.nD Cert.PostKernelIdeal.τ).loc Cert.PostKernelIdeal.main_v4_0)) (v1 : (c : Dev Cert.PostKernelIdeal.nD) → Buf (Elt Ideal) ((c.tc : Thread Cert.PostKernelIdeal.nD Cert.PostKernelIdeal.τ).loc Cert.PostKernelIdeal.main_v4_1)) (v2 : (c : Dev Cert.PostKernelIdeal.nD) → Buf (Elt Ideal) ((c.tc : Thread Cert.PostKernelIdeal.nD Cert.PostKernelIdeal.τ).loc Cert.PostKernelIdeal.main_v4_2)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v4_0) = v0 c
          ∧ r.2.mem ((c.tc : Thread Cert.PostKernelIdeal.nD Cert.PostKernelIdeal.τ).loc Cert.PostKernelIdeal.main_v4_1) = v1 c
          ∧ r.2.mem ((c.tc : Thread Cert.PostKernelIdeal.nD Cert.PostKernelIdeal.τ).loc Cert.PostKernelIdeal.main_v4_2) = v2 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v37) = v0 c
          ∧ r.2.mem ((c.tc : Thread Cert.PostRefIdeal.nD Cert.PostRefIdeal.τ).loc Cert.PostRefIdeal.main_v38) = v1 c
          ∧ r.2.mem ((c.tc : Thread Cert.PostRefIdeal.nD Cert.PostRefIdeal.τ).loc Cert.PostRefIdeal.main_v40) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_SsdKernel_SsdKernelIdeal : Prop :=
  True

def algebraic_SsdKernelIdeal_SsdRefIdeal_pre_finite_ssd [hSsdKernelIdeal : Cert.SsdKernelIdeal.Facts] [hSsdRefIdeal : Cert.SsdRefIdeal.Facts] [hPre_finite_ssd : Cert.Pre_finite_ssd.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdKernelIdeal_finite_ssd m →
    (∀ c : Dev Cert.SsdKernelIdeal.nD,
      m' ((c.tc : Thread Cert.SsdRefIdeal.nD Cert.SsdRefIdeal.τ).loc Cert.SsdRefIdeal.main_arg0) = m ((c.tc : Thread Cert.SsdKernelIdeal.nD Cert.SsdKernelIdeal.τ).loc Cert.SsdKernelIdeal.main_arg0)
      ∧ m' ((c.tc : Thread Cert.SsdRefIdeal.nD Cert.SsdRefIdeal.τ).loc Cert.SsdRefIdeal.main_arg1) = m ((c.tc : Thread Cert.SsdKernelIdeal.nD Cert.SsdKernelIdeal.τ).loc Cert.SsdKernelIdeal.main_arg1)
      ∧ m' ((c.tc : Thread Cert.SsdRefIdeal.nD Cert.SsdRefIdeal.τ).loc Cert.SsdRefIdeal.main_arg2) = m ((c.tc : Thread Cert.SsdKernelIdeal.nD Cert.SsdKernelIdeal.τ).loc Cert.SsdKernelIdeal.main_arg2)
      ∧ m' ((c.tc : Thread Cert.SsdRefIdeal.nD Cert.SsdRefIdeal.τ).loc Cert.SsdRefIdeal.main_arg3) = m ((c.tc : Thread Cert.SsdKernelIdeal.nD Cert.SsdKernelIdeal.τ).loc Cert.SsdKernelIdeal.main_arg3)
      ∧ m' ((c.tc : Thread Cert.SsdRefIdeal.nD Cert.SsdRefIdeal.τ).loc Cert.SsdRefIdeal.main_arg4) = m ((c.tc : Thread Cert.SsdKernelIdeal.nD Cert.SsdKernelIdeal.τ).loc Cert.SsdKernelIdeal.main_arg4)
      ∧ m' ((c.tc : Thread Cert.SsdRefIdeal.nD Cert.SsdRefIdeal.τ).loc Cert.SsdRefIdeal.main_arg5) = m ((c.tc : Thread Cert.SsdKernelIdeal.nD Cert.SsdKernelIdeal.τ).loc Cert.SsdKernelIdeal.main_arg5)
      ∧ m' ((c.tc : Thread Cert.SsdRefIdeal.nD Cert.SsdRefIdeal.τ).loc Cert.SsdRefIdeal.main_arg6) = m ((c.tc : Thread Cert.SsdKernelIdeal.nD Cert.SsdKernelIdeal.τ).loc Cert.SsdKernelIdeal.main_arg6)) →
    ∃ (v0 : (c : Dev Cert.SsdKernelIdeal.nD) → Buf (Elt Ideal) ((c.tc : Thread Cert.SsdKernelIdeal.nD Cert.SsdKernelIdeal.τ).loc Cert.SsdKernelIdeal.main_v35_0)) (v1 : (c : Dev Cert.SsdKernelIdeal.nD) → Buf (Elt Ideal) ((c.tc : Thread Cert.SsdKernelIdeal.nD Cert.SsdKernelIdeal.τ).loc Cert.SsdKernelIdeal.main_v35_1)) (v2 : (c : Dev Cert.SsdKernelIdeal.nD) → Buf (Elt Ideal) ((c.tc : Thread Cert.SsdKernelIdeal.nD Cert.SsdKernelIdeal.τ).loc Cert.SsdKernelIdeal.main_v35_2)),
      θ_run (Cert.SsdKernelIdeal.defs (F := Ideal)) (onTc (τ := Cert.SsdKernelIdeal.τ) (Cert.SsdKernelIdeal.main (F := Ideal))) ⟨m, fun _ => 0, g⟩ (fun r => ∀ c : Dev Cert.SsdKernelIdeal.nD,
          r.2.mem ((c.tc : Thread Cert.SsdKernelIdeal.nD Cert.SsdKernelIdeal.τ).loc Cert.SsdKernelIdeal.main_v35_0) = v0 c
          ∧ r.2.mem ((c.tc : Thread Cert.SsdKernelIdeal.nD Cert.SsdKernelIdeal.τ).loc Cert.SsdKernelIdeal.main_v35_1) = v1 c
          ∧ r.2.mem ((c.tc : Thread Cert.SsdKernelIdeal.nD Cert.SsdKernelIdeal.τ).loc Cert.SsdKernelIdeal.main_v35_2) = v2 c
          ∧ r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
          ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
          ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
          ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
          ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
          ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
          ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v249) = v0 c
          ∧ r.2.mem ((c.tc : Thread Cert.SsdRefIdeal.nD Cert.SsdRefIdeal.τ).loc Cert.SsdRefIdeal.main_v250) = v1 c
          ∧ r.2.mem ((c.tc : Thread Cert.SsdRefIdeal.nD Cert.SsdRefIdeal.τ).loc Cert.SsdRefIdeal.main_v252) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_BwdKernel_BwdKernelIdeal : Prop :=
  True

def algebraic_BwdKernelIdeal_BwdRefIdeal_pre_finite_bwd [hBwdKernelIdeal : Cert.BwdKernelIdeal.Facts] [hBwdRefIdeal : Cert.BwdRefIdeal.Facts] [hPre_finite_bwd : Cert.Pre_finite_bwd.Facts] : Prop :=
  ∀ (m : (ℓ : Loc Cert.BwdKernelIdeal.nD Cert.BwdKernelIdeal.τ Cert.BwdKernelIdeal.sig) → Buf (Elt Ideal) ℓ) (g : Dev Cert.BwdKernelIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdKernelIdeal_finite_bwd m →
    (∀ c : Dev Cert.BwdKernelIdeal.nD,
      m' ((c.tc : Thread Cert.BwdRefIdeal.nD Cert.BwdRefIdeal.τ).loc Cert.BwdRefIdeal.main_arg0) = m ((c.tc : Thread Cert.BwdKernelIdeal.nD Cert.BwdKernelIdeal.τ).loc Cert.BwdKernelIdeal.main_arg0)
      ∧ m' ((c.tc : Thread Cert.BwdRefIdeal.nD Cert.BwdRefIdeal.τ).loc Cert.BwdRefIdeal.main_arg1) = m ((c.tc : Thread Cert.BwdKernelIdeal.nD Cert.BwdKernelIdeal.τ).loc Cert.BwdKernelIdeal.main_arg1)
      ∧ m' ((c.tc : Thread Cert.BwdRefIdeal.nD Cert.BwdRefIdeal.τ).loc Cert.BwdRefIdeal.main_arg2) = m ((c.tc : Thread Cert.BwdKernelIdeal.nD Cert.BwdKernelIdeal.τ).loc Cert.BwdKernelIdeal.main_arg2)
      ∧ m' ((c.tc : Thread Cert.BwdRefIdeal.nD Cert.BwdRefIdeal.τ).loc Cert.BwdRefIdeal.main_arg3) = m ((c.tc : Thread Cert.BwdKernelIdeal.nD Cert.BwdKernelIdeal.τ).loc Cert.BwdKernelIdeal.main_arg3)
      ∧ m' ((c.tc : Thread Cert.BwdRefIdeal.nD Cert.BwdRefIdeal.τ).loc Cert.BwdRefIdeal.main_arg4) = m ((c.tc : Thread Cert.BwdKernelIdeal.nD Cert.BwdKernelIdeal.τ).loc Cert.BwdKernelIdeal.main_arg4)
      ∧ m' ((c.tc : Thread Cert.BwdRefIdeal.nD Cert.BwdRefIdeal.τ).loc Cert.BwdRefIdeal.main_arg5) = m ((c.tc : Thread Cert.BwdKernelIdeal.nD Cert.BwdKernelIdeal.τ).loc Cert.BwdKernelIdeal.main_arg5)
      ∧ m' ((c.tc : Thread Cert.BwdRefIdeal.nD Cert.BwdRefIdeal.τ).loc Cert.BwdRefIdeal.main_arg6) = m ((c.tc : Thread Cert.BwdKernelIdeal.nD Cert.BwdKernelIdeal.τ).loc Cert.BwdKernelIdeal.main_arg6)
      ∧ m' ((c.tc : Thread Cert.BwdRefIdeal.nD Cert.BwdRefIdeal.τ).loc Cert.BwdRefIdeal.main_arg7) = m ((c.tc : Thread Cert.BwdKernelIdeal.nD Cert.BwdKernelIdeal.τ).loc Cert.BwdKernelIdeal.main_arg7)) →
    ∃ (v0 : (c : Dev Cert.BwdKernelIdeal.nD) → Buf (Elt Ideal) ((c.tc : Thread Cert.BwdKernelIdeal.nD Cert.BwdKernelIdeal.τ).loc Cert.BwdKernelIdeal.main_v246_0)) (v1 : (c : Dev Cert.BwdKernelIdeal.nD) → Buf (Elt Ideal) ((c.tc : Thread Cert.BwdKernelIdeal.nD Cert.BwdKernelIdeal.τ).loc Cert.BwdKernelIdeal.main_v246_1)) (v2 : (c : Dev Cert.BwdKernelIdeal.nD) → Buf (Elt Ideal) ((c.tc : Thread Cert.BwdKernelIdeal.nD Cert.BwdKernelIdeal.τ).loc Cert.BwdKernelIdeal.main_v246_4)),
      θ_run (Cert.BwdKernelIdeal.defs (F := Ideal)) (onTc (τ := Cert.BwdKernelIdeal.τ) (Cert.BwdKernelIdeal.main (F := Ideal))) ⟨m, fun _ => 0, g⟩ (fun r => ∀ c : Dev Cert.BwdKernelIdeal.nD,
          r.2.mem ((c.tc : Thread Cert.BwdKernelIdeal.nD Cert.BwdKernelIdeal.τ).loc Cert.BwdKernelIdeal.main_v246_0) = v0 c
          ∧ r.2.mem ((c.tc : Thread Cert.BwdKernelIdeal.nD Cert.BwdKernelIdeal.τ).loc Cert.BwdKernelIdeal.main_v246_1) = v1 c
          ∧ r.2.mem ((c.tc : Thread Cert.BwdKernelIdeal.nD Cert.BwdKernelIdeal.τ).loc Cert.BwdKernelIdeal.main_v246_4) = v2 c
          ∧ r.2.mem ((c.tc : Thread Cert.BwdKernelIdeal.nD Cert.BwdKernelIdeal.τ).loc Cert.BwdKernelIdeal.main_arg0) = m ((c.tc : Thread Cert.BwdKernelIdeal.nD Cert.BwdKernelIdeal.τ).loc Cert.BwdKernelIdeal.main_arg0)
          ∧ r.2.mem ((c.tc : Thread Cert.BwdKernelIdeal.nD Cert.BwdKernelIdeal.τ).loc Cert.BwdKernelIdeal.main_arg1) = m ((c.tc : Thread Cert.BwdKernelIdeal.nD Cert.BwdKernelIdeal.τ).loc Cert.BwdKernelIdeal.main_arg1)
          ∧ r.2.mem ((c.tc : Thread Cert.BwdKernelIdeal.nD Cert.BwdKernelIdeal.τ).loc Cert.BwdKernelIdeal.main_arg2) = m ((c.tc : Thread Cert.BwdKernelIdeal.nD Cert.BwdKernelIdeal.τ).loc Cert.BwdKernelIdeal.main_arg2)
          ∧ r.2.mem ((c.tc : Thread Cert.BwdKernelIdeal.nD Cert.BwdKernelIdeal.τ).loc Cert.BwdKernelIdeal.main_arg3) = m ((c.tc : Thread Cert.BwdKernelIdeal.nD Cert.BwdKernelIdeal.τ).loc Cert.BwdKernelIdeal.main_arg3)
          ∧ r.2.mem ((c.tc : Thread Cert.BwdKernelIdeal.nD Cert.BwdKernelIdeal.τ).loc Cert.BwdKernelIdeal.main_arg4) = m ((c.tc : Thread Cert.BwdKernelIdeal.nD Cert.BwdKernelIdeal.τ).loc Cert.BwdKernelIdeal.main_arg4)
          ∧ r.2.mem ((c.tc : Thread Cert.BwdKernelIdeal.nD Cert.BwdKernelIdeal.τ).loc Cert.BwdKernelIdeal.main_arg5) = m ((c.tc : Thread Cert.BwdKernelIdeal.nD Cert.BwdKernelIdeal.τ).loc Cert.BwdKernelIdeal.main_arg5)
          ∧ r.2.mem ((c.tc : Thread Cert.BwdKernelIdeal.nD Cert.BwdKernelIdeal.τ).loc Cert.BwdKernelIdeal.main_arg6) = m ((c.tc : Thread Cert.BwdKernelIdeal.nD Cert.BwdKernelIdeal.τ).loc Cert.BwdKernelIdeal.main_arg6)
          ∧ r.2.mem ((c.tc : Thread Cert.BwdKernelIdeal.nD Cert.BwdKernelIdeal.τ).loc Cert.BwdKernelIdeal.main_arg7) = m ((c.tc : Thread Cert.BwdKernelIdeal.nD Cert.BwdKernelIdeal.τ).loc Cert.BwdKernelIdeal.main_arg7))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v446) = v0 c
          ∧ r.2.mem ((c.tc : Thread Cert.BwdRefIdeal.nD Cert.BwdRefIdeal.τ).loc Cert.BwdRefIdeal.main_v451) = v1 c
          ∧ r.2.mem ((c.tc : Thread Cert.BwdRefIdeal.nD Cert.BwdRefIdeal.τ).loc Cert.BwdRefIdeal.main_v452) = v2 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6)
          ∧ r.2.mem ((c.tc : Thread Cert.BwdRefIdeal.nD Cert.BwdRefIdeal.τ).loc Cert.BwdRefIdeal.main_arg7) = m' ((c.tc : Thread Cert.BwdRefIdeal.nD Cert.BwdRefIdeal.τ).loc Cert.BwdRefIdeal.main_arg7))

def preserves_MlpKernel_MlpKernelIdeal : Prop :=
  True

def algebraic_MlpKernelIdeal_MlpRefIdeal_pre_finite_mlp [hMlpKernelIdeal : Cert.MlpKernelIdeal.Facts] [hMlpRefIdeal : Cert.MlpRefIdeal.Facts] [hPre_finite_mlp : Cert.Pre_finite_mlp.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpKernelIdeal_finite_mlp m →
    (∀ c : Dev Cert.MlpKernelIdeal.nD,
      m' ((c.tc : Thread Cert.MlpRefIdeal.nD Cert.MlpRefIdeal.τ).loc Cert.MlpRefIdeal.main_arg0) = m ((c.tc : Thread Cert.MlpKernelIdeal.nD Cert.MlpKernelIdeal.τ).loc Cert.MlpKernelIdeal.main_arg0)
      ∧ m' ((c.tc : Thread Cert.MlpRefIdeal.nD Cert.MlpRefIdeal.τ).loc Cert.MlpRefIdeal.main_arg1) = m ((c.tc : Thread Cert.MlpKernelIdeal.nD Cert.MlpKernelIdeal.τ).loc Cert.MlpKernelIdeal.main_arg1)
      ∧ m' ((c.tc : Thread Cert.MlpRefIdeal.nD Cert.MlpRefIdeal.τ).loc Cert.MlpRefIdeal.main_arg2) = m ((c.tc : Thread Cert.MlpKernelIdeal.nD Cert.MlpKernelIdeal.τ).loc Cert.MlpKernelIdeal.main_arg2)
      ∧ m' ((c.tc : Thread Cert.MlpRefIdeal.nD Cert.MlpRefIdeal.τ).loc Cert.MlpRefIdeal.main_arg3) = m ((c.tc : Thread Cert.MlpKernelIdeal.nD Cert.MlpKernelIdeal.τ).loc Cert.MlpKernelIdeal.main_arg3)
      ∧ m' ((c.tc : Thread Cert.MlpRefIdeal.nD Cert.MlpRefIdeal.τ).loc Cert.MlpRefIdeal.main_arg4) = m ((c.tc : Thread Cert.MlpKernelIdeal.nD Cert.MlpKernelIdeal.τ).loc Cert.MlpKernelIdeal.main_arg4)
      ∧ m' ((c.tc : Thread Cert.MlpRefIdeal.nD Cert.MlpRefIdeal.τ).loc Cert.MlpRefIdeal.main_arg5) = m ((c.tc : Thread Cert.MlpKernelIdeal.nD Cert.MlpKernelIdeal.τ).loc Cert.MlpKernelIdeal.main_arg5)) →
    ∃ (v0 : (c : Dev Cert.MlpKernelIdeal.nD) → Buf (Elt Ideal) ((c.tc : Thread Cert.MlpKernelIdeal.nD Cert.MlpKernelIdeal.τ).loc Cert.MlpKernelIdeal.main_v26_0)) (v1 : (c : Dev Cert.MlpKernelIdeal.nD) → Buf (Elt Ideal) ((c.tc : Thread Cert.MlpKernelIdeal.nD Cert.MlpKernelIdeal.τ).loc Cert.MlpKernelIdeal.main_v26_1)) (v2 : (c : Dev Cert.MlpKernelIdeal.nD) → Buf (Elt Ideal) ((c.tc : Thread Cert.MlpKernelIdeal.nD Cert.MlpKernelIdeal.τ).loc Cert.MlpKernelIdeal.main_v26_2)) (v3 : (c : Dev Cert.MlpKernelIdeal.nD) → Buf (Elt Ideal) ((c.tc : Thread Cert.MlpKernelIdeal.nD Cert.MlpKernelIdeal.τ).loc Cert.MlpKernelIdeal.main_v26_3)) (v4 : (c : Dev Cert.MlpKernelIdeal.nD) → Buf (Elt Ideal) ((c.tc : Thread Cert.MlpKernelIdeal.nD Cert.MlpKernelIdeal.τ).loc Cert.MlpKernelIdeal.main_v26_4)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v26_0) = v0 c
          ∧ r.2.mem ((c.tc : Thread Cert.MlpKernelIdeal.nD Cert.MlpKernelIdeal.τ).loc Cert.MlpKernelIdeal.main_v26_1) = v1 c
          ∧ r.2.mem ((c.tc : Thread Cert.MlpKernelIdeal.nD Cert.MlpKernelIdeal.τ).loc Cert.MlpKernelIdeal.main_v26_2) = v2 c
          ∧ r.2.mem ((c.tc : Thread Cert.MlpKernelIdeal.nD Cert.MlpKernelIdeal.τ).loc Cert.MlpKernelIdeal.main_v26_3) = v3 c
          ∧ r.2.mem ((c.tc : Thread Cert.MlpKernelIdeal.nD Cert.MlpKernelIdeal.τ).loc Cert.MlpKernelIdeal.main_v26_4) = v4 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v88) = v0 c
          ∧ r.2.mem ((c.tc : Thread Cert.MlpRefIdeal.nD Cert.MlpRefIdeal.τ).loc Cert.MlpRefIdeal.main_v89) = v1 c
          ∧ r.2.mem ((c.tc : Thread Cert.MlpRefIdeal.nD Cert.MlpRefIdeal.τ).loc Cert.MlpRefIdeal.main_v90) = v2 c
          ∧ r.2.mem ((c.tc : Thread Cert.MlpRefIdeal.nD Cert.MlpRefIdeal.τ).loc Cert.MlpRefIdeal.main_v91) = v3 c
          ∧ r.2.mem ((c.tc : Thread Cert.MlpRefIdeal.nD Cert.MlpRefIdeal.τ).loc Cert.MlpRefIdeal.main_v92) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_OutKernel_OutKernelIdeal : Prop :=
  True

def algebraic_OutKernelIdeal_OutRefIdeal [hOutKernelIdeal : Cert.OutKernelIdeal.Facts] [hOutRefIdeal : Cert.OutRefIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutKernelIdeal m →
    (∀ c : Dev Cert.OutKernelIdeal.nD,
      m' ((c.tc : Thread Cert.OutRefIdeal.nD Cert.OutRefIdeal.τ).loc Cert.OutRefIdeal.main_arg0) = m ((c.tc : Thread Cert.OutKernelIdeal.nD Cert.OutKernelIdeal.τ).loc Cert.OutKernelIdeal.main_arg0)
      ∧ m' ((c.tc : Thread Cert.OutRefIdeal.nD Cert.OutRefIdeal.τ).loc Cert.OutRefIdeal.main_arg1) = m ((c.tc : Thread Cert.OutKernelIdeal.nD Cert.OutKernelIdeal.τ).loc Cert.OutKernelIdeal.main_arg1)
      ∧ m' ((c.tc : Thread Cert.OutRefIdeal.nD Cert.OutRefIdeal.τ).loc Cert.OutRefIdeal.main_arg2) = m ((c.tc : Thread Cert.OutKernelIdeal.nD Cert.OutKernelIdeal.τ).loc Cert.OutKernelIdeal.main_arg2)
      ∧ m' ((c.tc : Thread Cert.OutRefIdeal.nD Cert.OutRefIdeal.τ).loc Cert.OutRefIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v3_0)) (v1 : (c : Dev Cert.OutKernelIdeal.nD) → Buf (Elt Ideal) ((c.tc : Thread Cert.OutKernelIdeal.nD Cert.OutKernelIdeal.τ).loc Cert.OutKernelIdeal.main_v3_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3_0) = v0 c
          ∧ r.2.mem ((c.tc : Thread Cert.OutKernelIdeal.nD Cert.OutKernelIdeal.τ).loc Cert.OutKernelIdeal.main_v3_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v15) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_FfKernel_FfKernelIdeal : Prop :=
  True

def algebraic_FfKernelIdeal_FfRefIdeal [hFfKernelIdeal : Cert.FfKernelIdeal.Facts] [hFfRefIdeal : Cert.FfRefIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg)
    (m' : (ℓ : Loc Cert.FfRefIdeal.nD Cert.FfRefIdeal.τ Cert.FfRefIdeal.sig) → Buf (Elt Ideal) ℓ) (g' : Dev Cert.FfRefIdeal.nD → PrngReg), Pre_FfKernelIdeal m →
    (∀ c : Dev Cert.FfKernelIdeal.nD,
      m' ((c.tc : Thread Cert.FfRefIdeal.nD Cert.FfRefIdeal.τ).loc Cert.FfRefIdeal.main_arg0) = m ((c.tc : Thread Cert.FfKernelIdeal.nD Cert.FfKernelIdeal.τ).loc Cert.FfKernelIdeal.main_arg0)
      ∧ m' ((c.tc : Thread Cert.FfRefIdeal.nD Cert.FfRefIdeal.τ).loc Cert.FfRefIdeal.main_arg1) = m ((c.tc : Thread Cert.FfKernelIdeal.nD Cert.FfKernelIdeal.τ).loc Cert.FfKernelIdeal.main_arg1)
      ∧ m' ((c.tc : Thread Cert.FfRefIdeal.nD Cert.FfRefIdeal.τ).loc Cert.FfRefIdeal.main_arg2) = m ((c.tc : Thread Cert.FfKernelIdeal.nD Cert.FfKernelIdeal.τ).loc Cert.FfKernelIdeal.main_arg2)
      ∧ m' ((c.tc : Thread Cert.FfRefIdeal.nD Cert.FfRefIdeal.τ).loc Cert.FfRefIdeal.main_arg3) = m ((c.tc : Thread Cert.FfKernelIdeal.nD Cert.FfKernelIdeal.τ).loc Cert.FfKernelIdeal.main_arg3)
      ∧ m' ((c.tc : Thread Cert.FfRefIdeal.nD Cert.FfRefIdeal.τ).loc Cert.FfRefIdeal.main_arg4) = m ((c.tc : Thread Cert.FfKernelIdeal.nD Cert.FfKernelIdeal.τ).loc Cert.FfKernelIdeal.main_arg4)) →
    ∃ (v0 : (c : Dev Cert.FfKernelIdeal.nD) → Buf (Elt Ideal) ((c.tc : Thread Cert.FfKernelIdeal.nD Cert.FfKernelIdeal.τ).loc Cert.FfKernelIdeal.main_v6_0)) (v1 : (c : Dev Cert.FfKernelIdeal.nD) → Buf (Elt Ideal) ((c.tc : Thread Cert.FfKernelIdeal.nD Cert.FfKernelIdeal.τ).loc Cert.FfKernelIdeal.main_v6_1)) (v2 : (c : Dev Cert.FfKernelIdeal.nD) → Buf (Elt Ideal) ((c.tc : Thread Cert.FfKernelIdeal.nD Cert.FfKernelIdeal.τ).loc Cert.FfKernelIdeal.main_v6_2)) (v3 : (c : Dev Cert.FfKernelIdeal.nD) → Buf (Elt Ideal) ((c.tc : Thread Cert.FfKernelIdeal.nD Cert.FfKernelIdeal.τ).loc Cert.FfKernelIdeal.main_v6_3)),
      θ_run (Cert.FfKernelIdeal.defs (F := Ideal)) (onTc (τ := Cert.FfKernelIdeal.τ) (Cert.FfKernelIdeal.main (F := Ideal))) ⟨m, fun _ => 0, g⟩ (fun r => ∀ c : Dev Cert.FfKernelIdeal.nD,
          r.2.mem ((c.tc : Thread Cert.FfKernelIdeal.nD Cert.FfKernelIdeal.τ).loc Cert.FfKernelIdeal.main_v6_0) = v0 c
          ∧ r.2.mem ((c.tc : Thread Cert.FfKernelIdeal.nD Cert.FfKernelIdeal.τ).loc Cert.FfKernelIdeal.main_v6_1) = v1 c
          ∧ r.2.mem ((c.tc : Thread Cert.FfKernelIdeal.nD Cert.FfKernelIdeal.τ).loc Cert.FfKernelIdeal.main_v6_2) = v2 c
          ∧ r.2.mem ((c.tc : Thread Cert.FfKernelIdeal.nD Cert.FfKernelIdeal.τ).loc Cert.FfKernelIdeal.main_v6_3) = v3 c
          ∧ r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
          ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
          ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
          ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3)
          ∧ r.2.mem ((c.tc : Thread Cert.FfKernelIdeal.nD Cert.FfKernelIdeal.τ).loc Cert.FfKernelIdeal.main_arg4) = m ((c.tc : Thread Cert.FfKernelIdeal.nD Cert.FfKernelIdeal.τ).loc Cert.FfKernelIdeal.main_arg4))
      ∧ θ_run (Cert.FfRefIdeal.defs (F := Ideal)) (onTc (τ := Cert.FfRefIdeal.τ) (Cert.FfRefIdeal.main (F := Ideal))) ⟨m', fun _ => 0, g'⟩ (fun r => ∀ c : Dev Cert.FfRefIdeal.nD,
          r.2.mem ((c.tc : Thread Cert.FfRefIdeal.nD Cert.FfRefIdeal.τ).loc Cert.FfRefIdeal.main_v17) = v0 c
          ∧ r.2.mem ((c.tc : Thread Cert.FfRefIdeal.nD Cert.FfRefIdeal.τ).loc Cert.FfRefIdeal.main_v18) = v1 c
          ∧ r.2.mem ((c.tc : Thread Cert.FfRefIdeal.nD Cert.FfRefIdeal.τ).loc Cert.FfRefIdeal.main_v19) = v2 c
          ∧ r.2.mem ((c.tc : Thread Cert.FfRefIdeal.nD Cert.FfRefIdeal.τ).loc Cert.FfRefIdeal.main_v33) = v3 c
          ∧ r.2.mem ((c.tc : Thread Cert.FfRefIdeal.nD Cert.FfRefIdeal.τ).loc Cert.FfRefIdeal.main_arg0) = m' ((c.tc : Thread Cert.FfRefIdeal.nD Cert.FfRefIdeal.τ).loc Cert.FfRefIdeal.main_arg0)
          ∧ r.2.mem ((c.tc : Thread Cert.FfRefIdeal.nD Cert.FfRefIdeal.τ).loc Cert.FfRefIdeal.main_arg1) = m' ((c.tc : Thread Cert.FfRefIdeal.nD Cert.FfRefIdeal.τ).loc Cert.FfRefIdeal.main_arg1)
          ∧ r.2.mem ((c.tc : Thread Cert.FfRefIdeal.nD Cert.FfRefIdeal.τ).loc Cert.FfRefIdeal.main_arg2) = m' ((c.tc : Thread Cert.FfRefIdeal.nD Cert.FfRefIdeal.τ).loc Cert.FfRefIdeal.main_arg2)
          ∧ r.2.mem ((c.tc : Thread Cert.FfRefIdeal.nD Cert.FfRefIdeal.τ).loc Cert.FfRefIdeal.main_arg3) = m' ((c.tc : Thread Cert.FfRefIdeal.nD Cert.FfRefIdeal.τ).loc Cert.FfRefIdeal.main_arg3)
          ∧ r.2.mem ((c.tc : Thread Cert.FfRefIdeal.nD Cert.FfRefIdeal.τ).loc Cert.FfRefIdeal.main_arg4) = m' ((c.tc : Thread Cert.FfRefIdeal.nD Cert.FfRefIdeal.τ).loc Cert.FfRefIdeal.main_arg4))

def preserves_DwKernel_DwKernelIdeal : Prop :=
  True

def algebraic_DwKernelIdeal_DwRefIdeal [hDwKernelIdeal : Cert.DwKernelIdeal.Facts] [hDwRefIdeal : Cert.DwRefIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwKernelIdeal m →
    (∀ c : Dev Cert.DwKernelIdeal.nD,
      m' ((c.tc : Thread Cert.DwRefIdeal.nD Cert.DwRefIdeal.τ).loc Cert.DwRefIdeal.main_arg0) = m ((c.tc : Thread Cert.DwKernelIdeal.nD Cert.DwKernelIdeal.τ).loc Cert.DwKernelIdeal.main_arg0)
      ∧ m' ((c.tc : Thread Cert.DwRefIdeal.nD Cert.DwRefIdeal.τ).loc Cert.DwRefIdeal.main_arg1) = m ((c.tc : Thread Cert.DwKernelIdeal.nD Cert.DwKernelIdeal.τ).loc Cert.DwKernelIdeal.main_arg1)
      ∧ m' ((c.tc : Thread Cert.DwRefIdeal.nD Cert.DwRefIdeal.τ).loc Cert.DwRefIdeal.main_arg2) = m ((c.tc : Thread Cert.DwKernelIdeal.nD Cert.DwKernelIdeal.τ).loc Cert.DwKernelIdeal.main_arg2)
      ∧ m' ((c.tc : Thread Cert.DwRefIdeal.nD Cert.DwRefIdeal.τ).loc Cert.DwRefIdeal.main_arg3) = m ((c.tc : Thread Cert.DwKernelIdeal.nD Cert.DwKernelIdeal.τ).loc Cert.DwKernelIdeal.main_arg3)
      ∧ m' ((c.tc : Thread Cert.DwRefIdeal.nD Cert.DwRefIdeal.τ).loc Cert.DwRefIdeal.main_arg4) = m ((c.tc : Thread Cert.DwKernelIdeal.nD Cert.DwKernelIdeal.τ).loc Cert.DwKernelIdeal.main_arg4)) →
    ∃ (v0 : (c : Dev Cert.DwKernelIdeal.nD) → Buf (Elt Ideal) ((c.tc : Thread Cert.DwKernelIdeal.nD Cert.DwKernelIdeal.τ).loc Cert.DwKernelIdeal.main_v16)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v16) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
          ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2)
          ∧ r.2.mem ((c.tc : Thread Cert.DwKernelIdeal.nD Cert.DwKernelIdeal.τ).loc Cert.DwKernelIdeal.main_arg3) = m ((c.tc : Thread Cert.DwKernelIdeal.nD Cert.DwKernelIdeal.τ).loc Cert.DwKernelIdeal.main_arg3)
          ∧ r.2.mem ((c.tc : Thread Cert.DwKernelIdeal.nD Cert.DwKernelIdeal.τ).loc Cert.DwKernelIdeal.main_arg4) = m ((c.tc : Thread Cert.DwKernelIdeal.nD Cert.DwKernelIdeal.τ).loc Cert.DwKernelIdeal.main_arg4))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v19) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4))

def preserves_TnKernel_TnKernelIdeal : Prop :=
  True

def algebraic_TnKernelIdeal_TnRefIdeal [hTnKernelIdeal : Cert.TnKernelIdeal.Facts] [hTnRefIdeal : Cert.TnRefIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnKernelIdeal m →
    (∀ c : Dev Cert.TnKernelIdeal.nD,
      m' ((c.tc : Thread Cert.TnRefIdeal.nD Cert.TnRefIdeal.τ).loc Cert.TnRefIdeal.main_arg0) = m ((c.tc : Thread Cert.TnKernelIdeal.nD Cert.TnKernelIdeal.τ).loc Cert.TnKernelIdeal.main_arg0)
      ∧ m' ((c.tc : Thread Cert.TnRefIdeal.nD Cert.TnRefIdeal.τ).loc Cert.TnRefIdeal.main_arg1) = m ((c.tc : Thread Cert.TnKernelIdeal.nD Cert.TnKernelIdeal.τ).loc Cert.TnKernelIdeal.main_arg1)
      ∧ m' ((c.tc : Thread Cert.TnRefIdeal.nD Cert.TnRefIdeal.τ).loc Cert.TnRefIdeal.main_arg2) = m ((c.tc : Thread Cert.TnKernelIdeal.nD Cert.TnKernelIdeal.τ).loc Cert.TnKernelIdeal.main_arg2)
      ∧ m' ((c.tc : Thread Cert.TnRefIdeal.nD Cert.TnRefIdeal.τ).loc Cert.TnRefIdeal.main_arg3) = m ((c.tc : Thread Cert.TnKernelIdeal.nD Cert.TnKernelIdeal.τ).loc Cert.TnKernelIdeal.main_arg3)) →
    ∃ (v0 : (c : Dev Cert.TnKernelIdeal.nD) → Buf (Elt Ideal) ((c.tc : Thread Cert.TnKernelIdeal.nD Cert.TnKernelIdeal.τ).loc Cert.TnKernelIdeal.main_v17)),
      θ_run (Cert.TnKernelIdeal.defs (F := Ideal)) (onTc (τ := Cert.TnKernelIdeal.τ) (Cert.TnKernelIdeal.main (F := Ideal))) ⟨m, fun _ => 0, g⟩ (fun r => ∀ c : Dev Cert.TnKernelIdeal.nD,
          r.2.mem ((c.tc : Thread Cert.TnKernelIdeal.nD Cert.TnKernelIdeal.τ).loc Cert.TnKernelIdeal.main_v17) = v0 c
          ∧ r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
          ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1)
          ∧ r.2.mem ((c.tc : Thread Cert.TnKernelIdeal.nD Cert.TnKernelIdeal.τ).loc Cert.TnKernelIdeal.main_arg2) = m ((c.tc : Thread Cert.TnKernelIdeal.nD Cert.TnKernelIdeal.τ).loc Cert.TnKernelIdeal.main_arg2)
          ∧ r.2.mem ((c.tc : Thread Cert.TnKernelIdeal.nD Cert.TnKernelIdeal.τ).loc Cert.TnKernelIdeal.main_arg3) = m ((c.tc : Thread Cert.TnKernelIdeal.nD Cert.TnKernelIdeal.τ).loc Cert.TnKernelIdeal.main_arg3))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v18) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1)
          ∧ r.2.mem ((c.tc : Thread Cert.TnRefIdeal.nD Cert.TnRefIdeal.τ).loc Cert.TnRefIdeal.main_arg2) = m' ((c.tc : Thread Cert.TnRefIdeal.nD Cert.TnRefIdeal.τ).loc Cert.TnRefIdeal.main_arg2)
          ∧ r.2.mem ((c.tc : Thread Cert.TnRefIdeal.nD Cert.TnRefIdeal.τ).loc Cert.TnRefIdeal.main_arg3) = m' ((c.tc : Thread Cert.TnRefIdeal.nD Cert.TnRefIdeal.τ).loc Cert.TnRefIdeal.main_arg3))

def preserves_AdamKernel_AdamKernelIdeal : Prop :=
  True

def algebraic_AdamKernelIdeal_AdamRefIdeal [hAdamKernelIdeal : Cert.AdamKernelIdeal.Facts] [hAdamRefIdeal : Cert.AdamRefIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamKernelIdeal m →
    (∀ c : Dev Cert.AdamKernelIdeal.nD,
      m' ((c.tc : Thread Cert.AdamRefIdeal.nD Cert.AdamRefIdeal.τ).loc Cert.AdamRefIdeal.main_arg0) = m ((c.tc : Thread Cert.AdamKernelIdeal.nD Cert.AdamKernelIdeal.τ).loc Cert.AdamKernelIdeal.main_arg0)
      ∧ m' ((c.tc : Thread Cert.AdamRefIdeal.nD Cert.AdamRefIdeal.τ).loc Cert.AdamRefIdeal.main_arg1) = m ((c.tc : Thread Cert.AdamKernelIdeal.nD Cert.AdamKernelIdeal.τ).loc Cert.AdamKernelIdeal.main_arg1)
      ∧ m' ((c.tc : Thread Cert.AdamRefIdeal.nD Cert.AdamRefIdeal.τ).loc Cert.AdamRefIdeal.main_arg2) = m ((c.tc : Thread Cert.AdamKernelIdeal.nD Cert.AdamKernelIdeal.τ).loc Cert.AdamKernelIdeal.main_arg2)
      ∧ m' ((c.tc : Thread Cert.AdamRefIdeal.nD Cert.AdamRefIdeal.τ).loc Cert.AdamRefIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_SumKernel_SumKernelIdeal : Prop :=
  True

def algebraic_SumKernelIdeal_SumRefIdeal [hSumKernelIdeal : Cert.SumKernelIdeal.Facts] [hSumRefIdeal : Cert.SumRefIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumKernelIdeal m →
    (∀ c : Dev Cert.SumKernelIdeal.nD,
      m' ((c.tc : Thread Cert.SumRefIdeal.nD Cert.SumRefIdeal.τ).loc Cert.SumRefIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_AsmKernel_AsmKernelIdeal : Prop :=
  True

def algebraic_AsmKernelIdeal_AsmRefIdeal [hAsmKernelIdeal : Cert.AsmKernelIdeal.Facts] [hAsmRefIdeal : Cert.AsmRefIdeal.Facts] : Prop :=
  ∀ (m : (ℓ : Loc Cert.AsmKernelIdeal.nD Cert.AsmKernelIdeal.τ Cert.AsmKernelIdeal.sig) → Buf (Elt Ideal) ℓ) (g : Dev Cert.AsmKernelIdeal.nD → PrngReg)
    (m' : (ℓ : Loc Cert.AsmRefIdeal.nD Cert.AsmRefIdeal.τ Cert.AsmRefIdeal.sig) → Buf (Elt Ideal) ℓ) (g' : Dev Cert.AsmRefIdeal.nD → PrngReg), Pre_AsmKernelIdeal m →
    (∀ c : Dev Cert.AsmKernelIdeal.nD,
      m' ((c.tc : Thread Cert.AsmRefIdeal.nD Cert.AsmRefIdeal.τ).loc Cert.AsmRefIdeal.main_arg0) = m ((c.tc : Thread Cert.AsmKernelIdeal.nD Cert.AsmKernelIdeal.τ).loc Cert.AsmKernelIdeal.main_arg0)) →
    ∃ (v0 : (c : Dev Cert.AsmKernelIdeal.nD) → Buf (Elt Ideal) ((c.tc : Thread Cert.AsmKernelIdeal.nD Cert.AsmKernelIdeal.τ).loc Cert.AsmKernelIdeal.main_v1)),
      θ_run (Cert.AsmKernelIdeal.defs (F := Ideal)) (onTc (τ := Cert.AsmKernelIdeal.τ) (Cert.AsmKernelIdeal.main (F := Ideal))) ⟨m, fun _ => 0, g⟩ (fun r => ∀ c : Dev Cert.AsmKernelIdeal.nD,
          r.2.mem ((c.tc : Thread Cert.AsmKernelIdeal.nD Cert.AsmKernelIdeal.τ).loc Cert.AsmKernelIdeal.main_v1) = v0 c
          ∧ r.2.mem ((c.tc : Thread Cert.AsmKernelIdeal.nD Cert.AsmKernelIdeal.τ).loc Cert.AsmKernelIdeal.main_arg0) = m ((c.tc : Thread Cert.AsmKernelIdeal.nD Cert.AsmKernelIdeal.τ).loc Cert.AsmKernelIdeal.main_arg0))
      ∧ θ_run (Cert.AsmRefIdeal.defs (F := Ideal)) (onTc (τ := Cert.AsmRefIdeal.τ) (Cert.AsmRefIdeal.main (F := Ideal))) ⟨m', fun _ => 0, g'⟩ (fun r => ∀ c : Dev Cert.AsmRefIdeal.nD,
          r.2.mem ((c.tc : Thread Cert.AsmRefIdeal.nD Cert.AsmRefIdeal.τ).loc Cert.AsmRefIdeal.main_v4) = v0 c
          ∧ r.2.mem ((c.tc : Thread Cert.AsmRefIdeal.nD Cert.AsmRefIdeal.τ).loc Cert.AsmRefIdeal.main_arg0) = m' ((c.tc : Thread Cert.AsmRefIdeal.nD Cert.AsmRefIdeal.τ).loc Cert.AsmRefIdeal.main_arg0))

def Claim : Prop :=
  ∃ (hLossKernel : Cert.LossKernel.Facts) (hLossKernelIdeal : Cert.LossKernelIdeal.Facts) (hLossRefIdeal : Cert.LossRefIdeal.Facts) (hPreKernel : Cert.PreKernel.Facts) (hPreKernelIdeal : Cert.PreKernelIdeal.Facts) (hPreRefIdeal : Cert.PreRefIdeal.Facts) (hPostKernel : Cert.PostKernel.Facts) (hPostKernelIdeal : Cert.PostKernelIdeal.Facts) (hPostRefIdeal : Cert.PostRefIdeal.Facts) (hSsdKernel : Cert.SsdKernel.Facts) (hSsdKernelIdeal : Cert.SsdKernelIdeal.Facts) (hSsdRefIdeal : Cert.SsdRefIdeal.Facts) (hBwdKernel : Cert.BwdKernel.Facts) (hBwdKernelIdeal : Cert.BwdKernelIdeal.Facts) (hBwdRefIdeal : Cert.BwdRefIdeal.Facts) (hMlpKernel : Cert.MlpKernel.Facts) (hMlpKernelIdeal : Cert.MlpKernelIdeal.Facts) (hMlpRefIdeal : Cert.MlpRefIdeal.Facts) (hOutKernel : Cert.OutKernel.Facts) (hOutKernelIdeal : Cert.OutKernelIdeal.Facts) (hOutRefIdeal : Cert.OutRefIdeal.Facts) (hFfKernel : Cert.FfKernel.Facts) (hFfKernelIdeal : Cert.FfKernelIdeal.Facts) (hFfRefIdeal : Cert.FfRefIdeal.Facts) (hDwKernel : Cert.DwKernel.Facts) (hDwKernelIdeal : Cert.DwKernelIdeal.Facts) (hDwRefIdeal : Cert.DwRefIdeal.Facts) (hTnKernel : Cert.TnKernel.Facts) (hTnKernelIdeal : Cert.TnKernelIdeal.Facts) (hTnRefIdeal : Cert.TnRefIdeal.Facts) (hAdamKernel : Cert.AdamKernel.Facts) (hAdamKernelIdeal : Cert.AdamKernelIdeal.Facts) (hAdamRefIdeal : Cert.AdamRefIdeal.Facts) (hSumKernel : Cert.SumKernel.Facts) (hSumKernelIdeal : Cert.SumKernelIdeal.Facts) (hSumRefIdeal : Cert.SumRefIdeal.Facts) (hAsmKernel : Cert.AsmKernel.Facts) (hAsmKernelIdeal : Cert.AsmKernelIdeal.Facts) (hAsmRefIdeal : Cert.AsmRefIdeal.Facts) (hPre_finite_pre : Cert.Pre_finite_pre.Facts) (hPre_finite_post : Cert.Pre_finite_post.Facts) (hPre_finite_ssd : Cert.Pre_finite_ssd.Facts) (hPre_finite_bwd : Cert.Pre_finite_bwd.Facts) (hPre_finite_mlp : Cert.Pre_finite_mlp.Facts),
    quiescent_LossKernel (hLossKernel := hLossKernel)
    ∧ quiescent_LossKernelIdeal (hLossKernelIdeal := hLossKernelIdeal)
    ∧ quiescent_LossRefIdeal (hLossRefIdeal := hLossRefIdeal)
    ∧ quiescent_PreKernel (hPreKernel := hPreKernel)
    ∧ quiescent_PreKernelIdeal (hPreKernelIdeal := hPreKernelIdeal)
    ∧ quiescent_PreKernelIdeal_pre_finite_pre (hPreKernelIdeal := hPreKernelIdeal) (hPre_finite_pre := hPre_finite_pre)
    ∧ quiescent_PreRefIdeal (hPreRefIdeal := hPreRefIdeal)
    ∧ quiescent_PreRefIdeal_pre_finite_pre (hPreRefIdeal := hPreRefIdeal) (hPre_finite_pre := hPre_finite_pre)
    ∧ quiescent_PostKernel (hPostKernel := hPostKernel)
    ∧ quiescent_PostKernelIdeal (hPostKernelIdeal := hPostKernelIdeal)
    ∧ quiescent_PostKernelIdeal_pre_finite_post (hPostKernelIdeal := hPostKernelIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_SsdKernel (hSsdKernel := hSsdKernel)
    ∧ quiescent_SsdKernelIdeal (hSsdKernelIdeal := hSsdKernelIdeal)
    ∧ quiescent_SsdKernelIdeal_pre_finite_ssd (hSsdKernelIdeal := hSsdKernelIdeal) (hPre_finite_ssd := hPre_finite_ssd)
    ∧ quiescent_SsdRefIdeal (hSsdRefIdeal := hSsdRefIdeal)
    ∧ quiescent_SsdRefIdeal_pre_finite_ssd (hSsdRefIdeal := hSsdRefIdeal) (hPre_finite_ssd := hPre_finite_ssd)
    ∧ quiescent_BwdKernel (hBwdKernel := hBwdKernel)
    ∧ quiescent_BwdKernelIdeal (hBwdKernelIdeal := hBwdKernelIdeal)
    ∧ quiescent_BwdKernelIdeal_pre_finite_bwd (hBwdKernelIdeal := hBwdKernelIdeal) (hPre_finite_bwd := hPre_finite_bwd)
    ∧ quiescent_BwdRefIdeal (hBwdRefIdeal := hBwdRefIdeal)
    ∧ quiescent_BwdRefIdeal_pre_finite_bwd (hBwdRefIdeal := hBwdRefIdeal) (hPre_finite_bwd := hPre_finite_bwd)
    ∧ quiescent_MlpKernel (hMlpKernel := hMlpKernel)
    ∧ quiescent_MlpKernelIdeal (hMlpKernelIdeal := hMlpKernelIdeal)
    ∧ quiescent_MlpKernelIdeal_pre_finite_mlp (hMlpKernelIdeal := hMlpKernelIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_OutKernel (hOutKernel := hOutKernel)
    ∧ quiescent_OutKernelIdeal (hOutKernelIdeal := hOutKernelIdeal)
    ∧ quiescent_OutRefIdeal (hOutRefIdeal := hOutRefIdeal)
    ∧ quiescent_FfKernel (hFfKernel := hFfKernel)
    ∧ quiescent_FfKernelIdeal (hFfKernelIdeal := hFfKernelIdeal)
    ∧ quiescent_FfRefIdeal (hFfRefIdeal := hFfRefIdeal)
    ∧ quiescent_DwKernel (hDwKernel := hDwKernel)
    ∧ quiescent_DwKernelIdeal (hDwKernelIdeal := hDwKernelIdeal)
    ∧ quiescent_DwRefIdeal (hDwRefIdeal := hDwRefIdeal)
    ∧ quiescent_TnKernel (hTnKernel := hTnKernel)
    ∧ quiescent_TnKernelIdeal (hTnKernelIdeal := hTnKernelIdeal)
    ∧ quiescent_TnRefIdeal (hTnRefIdeal := hTnRefIdeal)
    ∧ quiescent_AdamKernel (hAdamKernel := hAdamKernel)
    ∧ quiescent_AdamKernelIdeal (hAdamKernelIdeal := hAdamKernelIdeal)
    ∧ quiescent_AdamRefIdeal (hAdamRefIdeal := hAdamRefIdeal)
    ∧ quiescent_SumKernel (hSumKernel := hSumKernel)
    ∧ quiescent_SumKernelIdeal (hSumKernelIdeal := hSumKernelIdeal)
    ∧ quiescent_SumRefIdeal (hSumRefIdeal := hSumRefIdeal)
    ∧ quiescent_AsmKernel (hAsmKernel := hAsmKernel)
    ∧ quiescent_AsmKernelIdeal (hAsmKernelIdeal := hAsmKernelIdeal)
    ∧ quiescent_AsmRefIdeal (hAsmRefIdeal := hAsmRefIdeal)
    ∧ preserves_LossKernel_LossKernelIdeal
    ∧ algebraic_LossKernelIdeal_LossRefIdeal (hLossKernelIdeal := hLossKernelIdeal) (hLossRefIdeal := hLossRefIdeal)
    ∧ preserves_PreKernel_PreKernelIdeal
    ∧ algebraic_PreKernelIdeal_PreRefIdeal_pre_finite_pre (hPreKernelIdeal := hPreKernelIdeal) (hPreRefIdeal := hPreRefIdeal) (hPre_finite_pre := hPre_finite_pre)
    ∧ preserves_PostKernel_PostKernelIdeal
    ∧ algebraic_PostKernelIdeal_PostRefIdeal_pre_finite_post (hPostKernelIdeal := hPostKernelIdeal) (hPostRefIdeal := hPostRefIdeal) (hPre_finite_post := hPre_finite_post)
    ∧ preserves_SsdKernel_SsdKernelIdeal
    ∧ algebraic_SsdKernelIdeal_SsdRefIdeal_pre_finite_ssd (hSsdKernelIdeal := hSsdKernelIdeal) (hSsdRefIdeal := hSsdRefIdeal) (hPre_finite_ssd := hPre_finite_ssd)
    ∧ preserves_BwdKernel_BwdKernelIdeal
    ∧ algebraic_BwdKernelIdeal_BwdRefIdeal_pre_finite_bwd (hBwdKernelIdeal := hBwdKernelIdeal) (hBwdRefIdeal := hBwdRefIdeal) (hPre_finite_bwd := hPre_finite_bwd)
    ∧ preserves_MlpKernel_MlpKernelIdeal
    ∧ algebraic_MlpKernelIdeal_MlpRefIdeal_pre_finite_mlp (hMlpKernelIdeal := hMlpKernelIdeal) (hMlpRefIdeal := hMlpRefIdeal) (hPre_finite_mlp := hPre_finite_mlp)
    ∧ preserves_OutKernel_OutKernelIdeal
    ∧ algebraic_OutKernelIdeal_OutRefIdeal (hOutKernelIdeal := hOutKernelIdeal) (hOutRefIdeal := hOutRefIdeal)
    ∧ preserves_FfKernel_FfKernelIdeal
    ∧ algebraic_FfKernelIdeal_FfRefIdeal (hFfKernelIdeal := hFfKernelIdeal) (hFfRefIdeal := hFfRefIdeal)
    ∧ preserves_DwKernel_DwKernelIdeal
    ∧ algebraic_DwKernelIdeal_DwRefIdeal (hDwKernelIdeal := hDwKernelIdeal) (hDwRefIdeal := hDwRefIdeal)
    ∧ preserves_TnKernel_TnKernelIdeal
    ∧ algebraic_TnKernelIdeal_TnRefIdeal (hTnKernelIdeal := hTnKernelIdeal) (hTnRefIdeal := hTnRefIdeal)
    ∧ preserves_AdamKernel_AdamKernelIdeal
    ∧ algebraic_AdamKernelIdeal_AdamRefIdeal (hAdamKernelIdeal := hAdamKernelIdeal) (hAdamRefIdeal := hAdamRefIdeal)
    ∧ preserves_SumKernel_SumKernelIdeal
    ∧ algebraic_SumKernelIdeal_SumRefIdeal (hSumKernelIdeal := hSumKernelIdeal) (hSumRefIdeal := hSumRefIdeal)
    ∧ preserves_AsmKernel_AsmKernelIdeal
    ∧ algebraic_AsmKernelIdeal_AsmRefIdeal (hAsmKernelIdeal := hAsmKernelIdeal) (hAsmRefIdeal := hAsmRefIdeal)
-- ==== Pre_finite_bwd.lean ====
abbrev S2x2048x1536 : Shape := ⟨3, ![2, 2048, 1536]⟩
abbrev S2x2048x5648 : Shape := ⟨3, ![2, 2048, 5648]⟩
abbrev S16 : Shape := ⟨1, ![16]⟩
abbrev S1024 : Shape := ⟨1, ![1024]⟩
abbrev S2x2048x1024 : Shape := ⟨3, ![2, 2048, 1024]⟩
abbrev S4096x5760 : Shape := ⟨2, ![4096, 5760]⟩
abbrev S_ : Shape := ⟨0, ![]⟩

class Facts : Prop where
  bcast_S_S2x2048x1536 : S_.BroadcastsInDim S2x2048x1536 (![] : Fin 0 → Fin S2x2048x1536.rank)
  bcast_S_S2x2048x5648 : S_.BroadcastsInDim S2x2048x5648 (![] : Fin 0 → Fin S2x2048x5648.rank)
  bcast_S_S16 : S_.BroadcastsInDim S16 (![] : Fin 0 → Fin S16.rank)
  bcast_S_S1024 : S_.BroadcastsInDim S1024 (![] : Fin 0 → Fin S1024.rank)
  bcast_S_S2x2048x1024 : S_.BroadcastsInDim S2x2048x1024 (![] : Fin 0 → Fin S2x2048x1024.rank)

variable [Facts]

def fn_part1 {F : FTy → Type} [FloatOps F] (main_arg6 : FVec F S2x2048x1024 .f32) (main_v2 : IVec S2x2048x1536 1) (main_v5 : IVec S2x2048x5648 1) (main_v8 : IVec S16 1) (main_v11 : IVec S16 1) (main_v14 : IVec S16 1) (main_v17 : IVec S1024 1) : IVec S2x2048x1536 1 × IVec S2x2048x5648 1 × IVec S16 1 × IVec S16 1 × IVec S16 1 × IVec S1024 1 × IVec S2x2048x1024 1 :=
  let main_v18 : FVec F S2x2048x1024 .f32 := Host.absf main_arg6
  let main_cst_5 : FVec F S_ .f32 := constant S_ .f32 0x7F800000#32
  let main_v19 : FVec F S2x2048x1024 .f32 := broadcastInDim S2x2048x1024 ![] bcast_S_S2x2048x1024 main_cst_5
  let main_v20 : IVec S2x2048x1024 1 := cmpf .olt main_v18 main_v19
  (main_v2, main_v5, main_v8, main_v11, main_v14, main_v17, main_v20)

def fn {F : FTy → Type} [FloatOps F] (main_arg0 : FVec F S2x2048x1536 .f32) (main_arg1 : FVec F S2x2048x5648 .f32) (main_arg2 : FVec F S16 .f32) (main_arg3 : FVec F S16 .f32) (main_arg4 : FVec F S16 .f32) (main_arg5 : FVec F S1024 .f32) (main_arg6 : FVec F S2x2048x1024 .f32) (main_arg7 : FVec F S4096x5760 .f32) : IVec S2x2048x1536 1 × IVec S2x2048x5648 1 × IVec S16 1 × IVec S16 1 × IVec S16 1 × IVec S1024 1 × IVec S2x2048x1024 1 :=
  let main_v0 : FVec F S2x2048x1536 .f32 := Host.absf main_arg0
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  let main_v3 : FVec F S2x2048x5648 .f32 := Host.absf main_arg1
  let main_cst_0 : FVec F S_ .f32 := constant S_ .f32 0x7F800000#32
  let main_v4 : FVec F S2x2048x5648 .f32 := broadcastInDim S2x2048x5648 ![] bcast_S_S2x2048x5648 main_cst_0
  let main_v5 : IVec S2x2048x5648 1 := cmpf .olt main_v3 main_v4
  let main_v6 : FVec F S16 .f32 := Host.absf main_arg2
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite_mlp.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S1024 .f32) (main_arg2 : FVec F S1024x4096 .f32) (main_arg3 : FVec F S4096x1024 .f32) (main_arg4 : FVec F S1024 .f32) (main_arg5 : FVec F S4096x1024 .f32) : IVec S4096x1024 1 × IVec S1024 1 × IVec S1024x4096 1 × IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_post.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  bcast_S_S2048x1024 : S_.BroadcastsInDim S2048x1024 (![] : Fin 0 → Fin S2048x1024.rank)
  bcast_S_S1024 : S_.BroadcastsInDim S1024 (![] : Fin 0 → Fin S1024.rank)
  bcast_S_S4096x1024 : S_.BroadcastsInDim S4096x1024 (![] : Fin 0 → Fin S4096x1024.rank)

variable [Facts]

def fn {F : FTy → Type} [FloatOps F] (main_arg0 : FVec F S4096x2048 .f32) (main_arg1 : FVec F S2048x1024 .f32) (main_arg2 : FVec F S1024 .f32) (main_arg3 : FVec F S4096x1024 .f32) : IVec S4096x2048 1 × IVec S2048x1024 1 × IVec S1024 1 × IVec S4096x1024 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_pre.lean ====
abbrev S4096x1024 : Shape := ⟨2, ![4096, 1024]⟩
abbrev S1024 : Shape := ⟨1, ![1024]⟩
abbrev S1024x5648 : Shape := ⟨2, ![1024, 5648]⟩
abbrev S4096x5648 : Shape := ⟨2, ![4096, 5648]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5648 : S_.BroadcastsInDim S1024x5648 (![] : Fin 0 → Fin S1024x5648.rank)
  bcast_S_S4096x5648 : S_.BroadcastsInDim S4096x5648 (![] : Fin 0 → Fin S4096x5648.rank)

variable [Facts]

def fn {F : FTy → Type} [FloatOps F] (main_arg0 : FVec F S4096x1024 .f32) (main_arg1 : FVec F S1024 .f32) (main_arg2 : FVec F S1024x5648 .f32) (main_arg3 : FVec F S4096x1024 .f32) (main_arg4 : FVec F S4096x5648 .f32) : IVec S4096x1024 1 × IVec S1024 1 × IVec S1024x5648 1 × IVec S4096x5648 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5648 .f32 := Host.absf main_arg2
  let main_cst_1 : FVec F S_ .f32 := constant S_ .f32 0x7F800000#32
  let main_v7 : FVec F S1024x5648 .f32 := broadcastInDim S1024x5648 ![] bcast_S_S1024x5648 main_cst_1
  let main_v8 : IVec S1024x5648 1 := cmpf .olt main_v6 main_v7
  let main_v9 : FVec F S4096x5648 .f32 := Host.absf main_arg4
  let main_cst_2 : FVec F S_ .f32 := constant S_ .f32 0x7F800000#32
  let main_v10 : FVec F S4096x5648 .f32 := broadcastInDim S4096x5648 ![] bcast_S_S4096x5648 main_cst_2
  let main_v11 : IVec S4096x5648 1 := cmpf .olt main_v9 main_v10
  (main_v2, main_v5, main_v8, main_v11)
-- ==== Pre_finite_ssd.lean ====
abbrev S2x2048x1536 : Shape := ⟨3, ![2, 2048, 1536]⟩
abbrev S2x2048x5648 : Shape := ⟨3, ![2, 2048, 5648]⟩
abbrev S16 : Shape := ⟨1, ![16]⟩
abbrev S1024 : Shape := ⟨1, ![1024]⟩
abbrev S2x2048x1024 : Shape := ⟨3, ![2, 2048, 1024]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S2x2048x1536 .f32) (main_arg1 : FVec F S2x2048x5648 .f32) (main_arg2 : FVec F S16 .f32) (main_arg3 : FVec F S16 .f32) (main_arg4 : FVec F S16 .f32) (main_arg5 : FVec F S1024 .f32) (main_arg6 : FVec F S2x2048x1024 .f32) : IVec S16 1 :=
  let main_v0 : FVec F S16 .f32 := Host.absf main_arg4
  let main_cst : FVec F S_ .f32 := constant S_ .f32 0x7F800000#32
  let main_v1 : FVec F S16 .f32 := broadcastInDim S16 ![] bcast_S_S16 main_cst
  let main_v2 : IVec S16 1 := cmpf .olt main_v0 main_v1
  main_v2
-- ==== LossKernel.lean ====
abbrev S4096x1024 : Shape := ⟨2, ![4096, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== PreKernel.lean ====
abbrev S4096x1024 : Shape := ⟨2, ![4096, 1024]⟩
abbrev S1024 : Shape := ⟨1, ![1024]⟩
abbrev S1024x5648 : Shape := ⟨2, ![1024, 5648]⟩
abbrev S4096x5648 : Shape := ⟨2, ![4096, 5648]⟩
abbrev S_ : Shape := ⟨0, ![]⟩
abbrev S1024x112 : Shape := ⟨2, ![1024, 112]⟩
abbrev S1024x5760 : Shape := ⟨2, ![1024, 5760]⟩
abbrev S4096x112 : Shape := ⟨2, ![4096, 112]⟩
abbrev S4096x5760 : Shape := ⟨2, ![4096, 5760]⟩
abbrev S1x1024 : Shape := ⟨2, ![1, 1024]⟩
abbrev S512x5760 : Shape := ⟨2, ![512, 5760]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5648, .f32⟩
  | .hbm, ⟨3, _⟩ => ⟨S4096x1024, .f32⟩
  | .hbm, ⟨4, _⟩ => ⟨S4096x5648, .f32⟩
  | .hbm, ⟨5, _⟩ => ⟨S_, .f32⟩
  | .hbm, ⟨6, _⟩ => ⟨S1024x112, .f32⟩
  | .hbm, ⟨7, _⟩ => ⟨S1024x5760, .f32⟩
  | .hbm, ⟨8, _⟩ => ⟨S1024x5760, .bf16⟩
  | .hbm, ⟨9, _⟩ => ⟨S_, .f32⟩
  | .hbm, ⟨10, _⟩ => ⟨S4096x112, .f32⟩
  | .hbm, ⟨11, _⟩ => ⟨S4096x5760, .f32⟩
  | .hbm, ⟨12, _⟩ => ⟨S4096x5760, .bf16⟩
  | .hbm, ⟨13, _⟩ => ⟨S1x1024, .f32⟩
  | .hbm, ⟨14, _⟩ => ⟨S4096x1024, .f32⟩
  | .hbm, ⟨15, _⟩ => ⟨S1x1024, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PreRefIdeal.lean ====
abbrev S4096x1024 : Shape := ⟨2, ![4096, 1024]⟩
abbrev S1024 : Shape := ⟨1, ![1024]⟩
abbrev S1024x5648 : Shape := ⟨2, ![1024, 5648]⟩
abbrev S4096x5648 : Shape := ⟨2, ![4096, 5648]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5648, .f32⟩
  | .hbm, ⟨3, _⟩ => ⟨S4096x1024, .f32⟩
  | .hbm, ⟨4, _⟩ => ⟨S4096x5648, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5648, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== PostKernel.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S1x1024 : Shape := ⟨2, ![1, 1024]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S2048x1024, .bf16⟩
  | .hbm, ⟨8, _⟩ => ⟨S4096x1024, .bf16⟩
  | .hbm, ⟨9, _⟩ => ⟨S1x1024, .f32⟩
  | .hbm, ⟨10, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_20 : BitVec 32 := 0#32
  let v43 : BitVec 1 := Scalar.cmpi .eq arg0 c0_i32_20
  let v44 : BitVec 32 := Scalar.extui v43
  let c0_i32_21 : BitVec 32 := 0#32
  let v45 : BitVec 1 := Scalar.cmpi .ne v44 c0_i32_21
  v45

def k0_cond3 (i : grid0.Coords) : BitVec 1 :=
  let arg0 : BitVec 32 := BitVec.ofNat 32 (i 0).val
  let c0_i32_20 : BitVec 32 := 0#32
  let v43 : BitVec 1 := Scalar.cmpi .eq arg0 c0_i32_20
  let v_true : BitVec 1 := 1#1
  let v46 : BitVec 1 := Scalar.xori v43 v_true
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PostRefIdeal.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S1x1024, .f32⟩
  | .hbm, ⟨52, _⟩ => ⟨S4096x2048, .f32⟩
  | .hbm, ⟨53, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== SsdKernel.lean ====
abbrev S2x2048x1536 : Shape := ⟨3, ![2, 2048, 1536]⟩
abbrev S2x2048x5648 : Shape := ⟨3, ![2, 2048, 5648]⟩
abbrev S16 : Shape := ⟨1, ![16]⟩
abbrev S1024 : Shape := ⟨1, ![1024]⟩
abbrev S2x2048x1024 : Shape := ⟨3, ![2, 2048, 1024]⟩
abbrev S4096x5648 : Shape := ⟨2, ![4096, 5648]⟩
abbrev S_ : Shape := ⟨0, ![]⟩
abbrev S4096x112 : Shape := ⟨2, ![4096, 112]⟩
abbrev S4096x5760 : Shape := ⟨2, ![4096, 5760]⟩
abbrev S4096x1024 : Shape := ⟨2, ![4096, 1024]⟩
abbrev S4096x2048 : Shape := ⟨2, ![4096, 2048]⟩
abbrev S1x16 : Shape := ⟨2, ![1, 16]⟩
abbrev S3x16 : Shape := ⟨2, ![3, 16]⟩
abbrev S3x112 : Shape := ⟨2, ![3, 112]⟩
abbrev S3x128 : Shape := ⟨2, ![3, 128]⟩
abbrev S5x128 : Shape := ⟨2, ![5, 128]⟩
abbrev S8x128 : Shape := ⟨2, ![8, 128]⟩
abbrev S4096x1536 : Shape := ⟨2, ![4096, 1536]⟩
abbrev S1x1024 : Shape := ⟨2, ![1, 1024]⟩
abbrev S128 : Shape := ⟨1, ![128]⟩
abbrev S128x1 : Shape := ⟨2, ![128, 1]⟩
abbrev S128x1024 : Shape := ⟨2, ![128, 1024]⟩
abbrev S1x128 : Shape := ⟨2, ![1, 128]⟩
abbrev S128x128 : Shape := ⟨2, ![128, 128]⟩
abbrev S32x128x1024 : Shape := ⟨3, ![32, 128, 1024]⟩
abbrev S128x256 : Shape := ⟨2, ![128, 256]⟩
abbrev S1x128x1024 : Shape := ⟨3, ![1, 128, 1024]⟩
abbrev S8x1024 : Shape := ⟨2, ![8, 1024]⟩
abbrev S256x128 : Shape := ⟨2, ![256, 128]⟩
abbrev S128x512 : Shape := ⟨2, ![128, 512]⟩
abbrev S1x512 : Shape := ⟨2, ![1, 512]⟩

abbrev nBuf : Space → Nat
  | .hbm => 66
  | .vmem => 22
  | .smem => 0
  | _ => 0

abbrev bufTy : (tb : Table) → Fin (tcTables nBuf tb) → BufTy
  | .hbm, ⟨0, _⟩ => ⟨S2x2048x1536, .f32⟩
  | .hbm, ⟨1, _⟩ => ⟨S2x2048x5648, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S1024, .f32⟩
  | .hbm, ⟨6, _⟩ => ⟨S2x2048x1024, .f32⟩
  | .hbm, ⟨7, _⟩ => ⟨S4096x5648, .f32⟩
  | .hbm, ⟨8, _⟩ => ⟨S_, .f32⟩
  | .hbm, ⟨9, _⟩ => ⟨S4096x112, .f32⟩
  | .hbm, ⟨10, _⟩ => ⟨S4096x5760, .f32⟩
  | .hbm, ⟨11, _⟩ => ⟨S4096x5760, .bf16⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x2048, .f32⟩
  | .hbm, ⟨16, _⟩ => ⟨S4096x2048, .bf16⟩
  | .hbm, ⟨17, _⟩ => ⟨S1x16, .f32⟩
  | .hbm, ⟨18, _⟩ => ⟨S1x16, .f32⟩
  | .hbm, ⟨19, _⟩ => ⟨S1x16, .f32⟩
  | .hbm, ⟨20, _⟩ => ⟨S3x16, .f32⟩
  | .hbm, ⟨21, _⟩ => ⟨S_, .f32⟩
  | .hbm, ⟨22, _⟩ => ⟨S3x112, .f32⟩
  | .hbm, ⟨23, _⟩ => ⟨S3x128, .f32⟩
  | .hbm, ⟨24, _⟩ => ⟨S_, .f32⟩
  | .hbm, ⟨25, _⟩ => ⟨S5x128, .f32⟩
  | .hbm, ⟨26, _⟩ => ⟨S8x128, .f32⟩
  | .hbm, ⟨27, _⟩ => ⟨S4096x1536, .f32⟩
  | .hbm, ⟨28, _⟩ => ⟨S1x1024, .f32⟩
  | .hbm, ⟨29, _⟩ => ⟨S1024, .i32⟩
  | .hbm, ⟨30, _⟩ => ⟨S_, .i32⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S128, .i32⟩
  | .hbm, ⟨49, _⟩ => ⟨S128x1, .i32⟩
  | .hbm, ⟨50, _⟩ => ⟨S1x1024, .i32⟩
  | .hbm, ⟨51, _⟩ => ⟨S128x1024, .i32⟩
  | .hbm, ⟨52, _⟩ => ⟨S128x1024, .i32⟩
  | .hbm, ⟨53, _⟩ => ⟨S128x1024, .i1⟩
  | .hbm, ⟨54, _⟩ => ⟨S128x1024, .bf16⟩
  | .hbm, ⟨55, _⟩ => ⟨S128, .i32⟩
  | .hbm, ⟨56, _⟩ => ⟨S128x1, .i32⟩
  | .hbm, ⟨57, _⟩ => ⟨S128, .i32⟩
  | .hbm, ⟨58, _⟩ => ⟨S1x128, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S128x128, .f32⟩
  | .hbm, ⟨63, _⟩ => ⟨S4096x2048, .bf16⟩
  | .hbm, ⟨64, _⟩ => ⟨S4096x1024, .f32⟩
  | .hbm, ⟨65, _⟩ => ⟨S32x128x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x128, .bf16⟩
  | .local _ .vmem, ⟨7, _⟩ => ⟨S128x128, .bf16⟩
  | .local _ .vmem, ⟨8, _⟩ => ⟨S128x1024, .bf16⟩
  | .local _ .vmem, ⟨9, _⟩ => ⟨S128x1024, .bf16⟩
  | .local _ .vmem, ⟨10, _⟩ => ⟨S8x128, .f32⟩
  | .local _ .vmem, ⟨11, _⟩ => ⟨S128x1024, .bf16⟩
  | .local _ .vmem, ⟨12, _⟩ => ⟨S128x128, .f32⟩
  | .local _ .vmem, ⟨13, _⟩ => ⟨S1x1024, .f32⟩
  | .local _ .vmem, ⟨14, _⟩ => ⟨S128x1024, .bf16⟩
  | .local _ .vmem, ⟨15, _⟩ => ⟨S128x1024, .bf16⟩
  | .local _ .vmem, ⟨16, _⟩ => ⟨S128x1024, .f32⟩
  | .local _ .vmem, ⟨17, _⟩ => ⟨S128x1024, .f32⟩
  | .local _ .vmem, ⟨18, _⟩ => ⟨S1x128x1024, .f32⟩
  | .local _ .vmem, ⟨19, _⟩ => ⟨S1x128x1024, .f32⟩
  | .local _ .vmem, ⟨20, _⟩ => ⟨S128x1024, .f32⟩
  | .local _ .vmem, ⟨21, _⟩ => ⟨S128x1024, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35_0 : Ref sig .tc := ⟨.hbm, 63, rfl⟩
abbrev main_v35_1 : Ref sig .tc := ⟨.hbm, 64, rfl⟩
abbrev main_v35_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SsdRefIdeal.lean ====
abbrev S2x2048x1536 : Shape := ⟨3, ![2, 2048, 1536]⟩
abbrev S2x2048x5648 : Shape := ⟨3, ![2, 2048, 5648]⟩
abbrev S16 : Shape := ⟨1, ![16]⟩
abbrev S1024 : Shape := ⟨1, ![1024]⟩
abbrev S2x2048x1024 : Shape := ⟨3, ![2, 2048, 1024]⟩
abbrev S2x2048x16 : Shape := ⟨3, ![2, 2048, 16]⟩
abbrev S2x2048x256 : Shape := ⟨3, ![2, 2048, 256]⟩
abbrev S2x2048x16x64 : Shape := ⟨4, ![2, 2048, 16, 64]⟩
abbrev S2x2048x2x128 : Shape := ⟨4, ![2, 2048, 2, 128]⟩
abbrev S1x1x16 : Shape := ⟨3, ![1, 1, 16]⟩
abbrev S_ : Shape := ⟨0, ![]⟩
abbrev S2x2048x16x1 : Shape := ⟨4, ![2, 2048, 16, 1]⟩
abbrev S2x16x128x2x8x64 : Shape := ⟨6, ![2, 16, 128, 2, 8, 64]⟩
abbrev S2x16x128x2x8 : Shape := ⟨5, ![2, 16, 128, 2, 8]⟩
abbrev S2x16x2x8x128 : Shape := ⟨5, ![2, 16, 2, 8, 128]⟩
abbrev S2x16x128x2x128 : Shape := ⟨5, ![2, 16, 128, 2, 128]⟩
abbrev S128x128 : Shape := ⟨2, ![128, 128]⟩
abbrev S2x16x2x8x128x1 : Shape := ⟨6, ![2, 16, 2, 8, 128, 1]⟩
abbrev S2x16x2x8x1x128 : Shape := ⟨6, ![2, 16, 2, 8, 1, 128]⟩
abbrev S2x16x2x8x128x128 : Shape := ⟨6, ![2, 16, 2, 8, 128, 128]⟩
abbrev S2x16x2x128x128 : Shape := ⟨5, ![2, 16, 2, 128, 128]⟩
abbrev S2x16x2x1x128x128 : Shape := ⟨6, ![2, 16, 2, 1, 128, 128]⟩
abbrev S2x16x2x8x64x128 : Shape := ⟨6, ![2, 16, 2, 8, 64, 128]⟩
abbrev S2x16x2x8x1 : Shape := ⟨5, ![2, 16, 2, 8, 1]⟩
abbrev S2x16x128x2x8x1 : Shape := ⟨6, ![2, 16, 128, 2, 8, 1]⟩
abbrev S2x16x2x8 : Shape := ⟨4, ![2, 16, 2, 8]⟩
abbrev S2x2x8x64x128 : Shape := ⟨5, ![2, 2, 8, 64, 128]⟩
abbrev S16x2x2x8x64x128 : Shape := ⟨6, ![16, 2, 2, 8, 64, 128]⟩
abbrev S16x2x2x8 : Shape := ⟨4, ![16, 2, 2, 8]⟩
abbrev S0x2x2x8x64x128 : Shape := ⟨6, ![0, 2, 2, 8, 64, 128]⟩
abbrev S0x2x2x8 : Shape := ⟨4, ![0, 2, 2, 8]⟩
abbrev S1x2x2x8x64x128 : Shape := ⟨6, ![1, 2, 2, 8, 64, 128]⟩
abbrev S1x2x2x8 : Shape := ⟨4, ![1, 2, 2, 8]⟩
abbrev S2x2x8 : Shape := ⟨3, ![2, 2, 8]⟩
abbrev S2x2x8x1x1 : Shape := ⟨5, ![2, 2, 8, 1, 1]⟩
abbrev S16x1 : Shape := ⟨2, ![16, 1]⟩
abbrev S1x1x16x1 : Shape := ⟨4, ![1, 1, 16, 1]⟩
abbrev S2x2048x2x512 : Shape := ⟨4, ![2, 2048, 2, 512]⟩
abbrev S2x512 : Shape := ⟨2, ![2, 512]⟩
abbrev S2x2048x2 : Shape := ⟨3, ![2, 2048, 2]⟩
abbrev S2x2048x2x1 : Shape := ⟨4, ![2, 2048, 2, 1]⟩
abbrev S1x1x2x512 : Shape := ⟨4, ![1, 1, 2, 512]⟩
abbrev S2x2048x2048 : Shape := ⟨3, ![2, 2048, 2048]⟩
abbrev S4096x2048 : Shape := ⟨2, ![4096, 2048]⟩
abbrev S4096x1024 : Shape := ⟨2, ![4096, 1024]⟩
abbrev S32x128x1024 : Shape := ⟨3, ![32, 128, 1024]⟩

abbrev nBuf : Space → Nat
  | .hbm => 295
  | .vmem => 0
  | .smem => 0
  | _ => 0

abbrev hbmTy0_0 (i : Nat) : BufTy := match i % 128 with
  | 0 => ⟨S2x2048x1536, .f32⟩
  | 1 => ⟨S2x2048x5648, .f32⟩
  | 2 => ⟨S16, .f32⟩
  | 3 => ⟨S16, .f32⟩
  | 4 => ⟨S16, .f32⟩
  | 5 => ⟨S1024, .f32⟩
  | 6 => ⟨S2x2048x1024, .f32⟩
  | 7 => ⟨S2x2048x1024, .f32⟩
  | 8 => ⟨S2x2048x16, .f32⟩
  | 9 => ⟨S2x2048x1024, .f32⟩
  | 10 => ⟨S2x2048x256, .f32⟩
  | 11 => ⟨S2x2048x256, .f32⟩
  | 12 => ⟨S2x2048x16x64, .f32⟩
  | 13 => ⟨S2x2048x2x128, .f32⟩
  | 14 => ⟨S2x2048x2x128, .f32⟩
  | 15 => ⟨S1x1x16, .f32⟩
  | 16 => ⟨S2x2048x16, .f32⟩
  | 17 => ⟨S2x2048x16, .f32⟩
  | 18 => ⟨S_, .f32⟩
  | 19 => ⟨S2x2048x16, .f32⟩
  | 20 => ⟨S2x2048x16, .f32⟩
  | 21 => ⟨S2x2048x16, .f32⟩
  | 22 => ⟨S2x2048x16, .f32⟩
  | 23 => ⟨S2x2048x16, .i1⟩
  | 24 => ⟨S2x2048x16, .f32⟩
  | 25 => ⟨S2x2048x16, .f32⟩
  | 26 => ⟨S2x2048x16, .f32⟩
  | 27 => ⟨S2x2048x16, .f32⟩
  | 28 => ⟨S2x2048x16, .f32⟩
  | 29 => ⟨S2x2048x16, .f32⟩
  | 30 => ⟨S2x2048x16, .f32⟩
  | 31 => ⟨S2x2048x16, .f32⟩
  | 32 => ⟨S16, .f32⟩
  | 33 => ⟨S16, .f32⟩
  | 34 => ⟨S2x2048x16x1, .f32⟩
  | 35 => ⟨S2x2048x16x64, .f32⟩
  | 36 => ⟨S2x2048x16x64, .f32⟩
  | 37 => ⟨S2x16x128x2x8x64, .f32⟩
  | 38 => ⟨S1x1x16, .f32⟩
  | 39 => ⟨S2x2048x16, .f32⟩
  | 40 => ⟨S2x2048x16, .f32⟩
  | 41 => ⟨S2x16x128x2x8, .f32⟩
  | 42 => ⟨S2x16x2x8x128, .f32⟩
  | 43 => ⟨S2x16x128x2x128, .f32⟩
  | 44 => ⟨S2x16x128x2x128, .f32⟩
  | 45 => ⟨S_, .f32⟩
  | 46 => ⟨S_, .f32⟩
  | 47 => ⟨S2x16x2x8x128, .f32⟩
  | 48 => ⟨S_, .i1⟩
  | 49 => ⟨S128x128, .i1⟩
  | 50 => ⟨S128x128, .i32⟩
  | 51 => ⟨S_, .i32⟩
  | 52 => ⟨S128x128, .i32⟩
  | 53 => ⟨S128x128, .i32⟩
  | 54 => ⟨S128x128, .i32⟩
  | 55 => ⟨S128x128, .i1⟩
  | 56 => ⟨S_, .i1⟩
  | 57 => ⟨S128x128, .i1⟩
  | 58 => ⟨S128x128, .i1⟩
  | 59 => ⟨S2x16x2x8x128x1, .f32⟩
  | 60 => ⟨S2x16x2x8x1x128, .f32⟩
  | 61 => ⟨S2x16x2x8x128x128, .f32⟩
  | 62 => ⟨S2x16x2x8x128x128, .f32⟩
  | 63 => ⟨S2x16x2x8x128x128, .f32⟩
  | 64 => ⟨S_, .f32⟩
  | 65 => ⟨S_, .f32⟩
  | 66 => ⟨S2x16x2x8x128x128, .i1⟩
  | 67 => ⟨S2x16x2x8x128x128, .f32⟩
  | 68 => ⟨S2x16x2x8x128x128, .f32⟩
  | 69 => ⟨S2x16x2x8x128x128, .f32⟩
  | 70 => ⟨S2x16x2x128x128, .f32⟩
  | 71 => ⟨S2x16x2x1x128x128, .f32⟩
  | 72 => ⟨S2x16x2x8x128x128, .f32⟩
  | 73 => ⟨S2x16x2x8x128x128, .f32⟩
  | 74 => ⟨S2x16x2x8x64x128, .f32⟩
  | 75 => ⟨S2x16x128x2x8x64, .f32⟩
  | 76 => ⟨S2x16x2x8x1, .f32⟩
  | 77 => ⟨S2x16x2x8x128, .f32⟩
  | 78 => ⟨S2x16x2x8x128, .f32⟩
  | 79 => ⟨S2x16x2x8x128, .f32⟩
  | 80 => ⟨S2x16x128x2x8, .f32⟩
  | 81 => ⟨S2x16x128x2x8x1, .f32⟩
  | 82 => ⟨S2x16x128x2x8x64, .f32⟩
  | 83 => ⟨S2x16x128x2x8x64, .f32⟩
  | 84 => ⟨S2x16x2x8x64x128, .f32⟩
  | 85 => ⟨S2x16x2x8x1, .f32⟩
  | 86 => ⟨S2x16x2x8, .f32⟩
  | 87 => ⟨S2x16x2x8, .f32⟩
  | 88 => ⟨S_, .f32⟩
  | 89 => ⟨S2x2x8x64x128, .f32⟩
  | 90 => ⟨S16x2x2x8x64x128, .f32⟩
  | 91 => ⟨S16x2x2x8, .f32⟩
  | 92 => ⟨S0x2x2x8x64x128, .f32⟩
  | 93 => ⟨S16x2x2x8x64x128, .f32⟩
  | 94 => ⟨S0x2x2x8, .f32⟩
  | 95 => ⟨S16x2x2x8, .f32⟩
  | 96 => ⟨S_, .f32⟩
  | 97 => ⟨S0x2x2x8x64x128, .f32⟩
  | 98 => ⟨S1x2x2x8x64x128, .f32⟩
  | 99 => ⟨S2x2x8x64x128, .f32⟩
  | 100 => ⟨S1x2x2x8, .f32⟩
  | 101 => ⟨S2x2x8, .f32⟩
  | 102 => ⟨S2x2x8x1x1, .f32⟩
  | 103 => ⟨S2x2x8x64x128, .f32⟩
  | 104 => ⟨S2x2x8x64x128, .f32⟩
  | 105 => ⟨S2x2x8x64x128, .f32⟩
  | 106 => ⟨S1x2x2x8x64x128, .f32⟩
  | 107 => ⟨S2x2x8x64x128, .f32⟩
  | 108 => ⟨S1x2x2x8, .f32⟩
  | 109 => ⟨S2x2x8, .f32⟩
  | 110 => ⟨S2x2x8x1x1, .f32⟩
  | 111 => ⟨S2x2x8x64x128, .f32⟩
  | 112 => ⟨S2x2x8x64x128, .f32⟩
  | 113 => ⟨S2x2x8x64x128, .f32⟩
  | 114 => ⟨S1x2x2x8x64x128, .f32⟩
  | 115 => ⟨S2x2x8x64x128, .f32⟩
  | 116 => ⟨S1x2x2x8, .f32⟩
  | 117 => ⟨S2x2x8, .f32⟩
  | 118 => ⟨S2x2x8x1x1, .f32⟩
  | 119 => ⟨S2x2x8x64x128, .f32⟩
  | 120 => ⟨S2x2x8x64x128, .f32⟩
  | 121 => ⟨S2x2x8x64x128, .f32⟩
  | 122 => ⟨S1x2x2x8x64x128, .f32⟩
  | 123 => ⟨S2x2x8x64x128, .f32⟩
  | 124 => ⟨S1x2x2x8, .f32⟩
  | 125 => ⟨S2x2x8, .f32⟩
  | 126 => ⟨S2x2x8x1x1, .f32⟩
  | 127 => ⟨S2x2x8x64x128, .f32⟩
  | _ => ⟨S2x2048x1536, .f32⟩

abbrev hbmTy0_1 (i : Nat) : BufTy := match i % 128 with
  | 0 => ⟨S2x2x8x64x128, .f32⟩
  | 1 => ⟨S2x2x8x64x128, .f32⟩
  | 2 => ⟨S1x2x2x8x64x128, .f32⟩
  | 3 => ⟨S2x2x8x64x128, .f32⟩
  | 4 => ⟨S1x2x2x8, .f32⟩
  | 5 => ⟨S2x2x8, .f32⟩
  | 6 => ⟨S2x2x8x1x1, .f32⟩
  | 7 => ⟨S2x2x8x64x128, .f32⟩
  | 8 => ⟨S2x2x8x64x128, .f32⟩
  | 9 => ⟨S2x2x8x64x128, .f32⟩
  | 10 => ⟨S1x2x2x8x64x128, .f32⟩
  | 11 => ⟨S2x2x8x64x128, .f32⟩
  | 12 => ⟨S1x2x2x8, .f32⟩
  | 13 => ⟨S2x2x8, .f32⟩
  | 14 => ⟨S2x2x8x1x1, .f32⟩
  | 15 => ⟨S2x2x8x64x128, .f32⟩
  | 16 => ⟨S2x2x8x64x128, .f32⟩
  | 17 => ⟨S2x2x8x64x128, .f32⟩
  | 18 => ⟨S1x2x2x8x64x128, .f32⟩
  | 19 => ⟨S2x2x8x64x128, .f32⟩
  | 20 => ⟨S1x2x2x8, .f32⟩
  | 21 => ⟨S2x2x8, .f32⟩
  | 22 => ⟨S2x2x8x1x1, .f32⟩
  | 23 => ⟨S2x2x8x64x128, .f32⟩
  | 24 => ⟨S2x2x8x64x128, .f32⟩
  | 25 => ⟨S2x2x8x64x128, .f32⟩
  | 26 => ⟨S1x2x2x8x64x128, .f32⟩
  | 27 => ⟨S2x2x8x64x128, .f32⟩
  | 28 => ⟨S1x2x2x8, .f32⟩
  | 29 => ⟨S2x2x8, .f32⟩
  | 30 => ⟨S2x2x8x1x1, .f32⟩
  | 31 => ⟨S2x2x8x64x128, .f32⟩
  | 32 => ⟨S2x2x8x64x128, .f32⟩
  | 33 => ⟨S2x2x8x64x128, .f32⟩
  | 34 => ⟨S1x2x2x8x64x128, .f32⟩
  | 35 => ⟨S2x2x8x64x128, .f32⟩
  | 36 => ⟨S1x2x2x8, .f32⟩
  | 37 => ⟨S2x2x8, .f32⟩
  | 38 => ⟨S2x2x8x1x1, .f32⟩
  | 39 => ⟨S2x2x8x64x128, .f32⟩
  | 40 => ⟨S2x2x8x64x128, .f32⟩
  | 41 => ⟨S2x2x8x64x128, .f32⟩
  | 42 => ⟨S1x2x2x8x64x128, .f32⟩
  | 43 => ⟨S2x2x8x64x128, .f32⟩
  | 44 => ⟨S1x2x2x8, .f32⟩
  | 45 => ⟨S2x2x8, .f32⟩
  | 46 => ⟨S2x2x8x1x1, .f32⟩
  | 47 => ⟨S2x2x8x64x128, .f32⟩
  | 48 => ⟨S2x2x8x64x128, .f32⟩
  | 49 => ⟨S2x2x8x64x128, .f32⟩
  | 50 => ⟨S1x2x2x8x64x128, .f32⟩
  | 51 => ⟨S2x2x8x64x128, .f32⟩
  | 52 => ⟨S1x2x2x8, .f32⟩
  | 53 => ⟨S2x2x8, .f32⟩
  | 54 => ⟨S2x2x8x1x1, .f32⟩
  | 55 => ⟨S2x2x8x64x128, .f32⟩
  | 56 => ⟨S2x2x8x64x128, .f32⟩
  | 57 => ⟨S2x2x8x64x128, .f32⟩
  | 58 => ⟨S1x2x2x8x64x128, .f32⟩
  | 59 => ⟨S2x2x8x64x128, .f32⟩
  | 60 => ⟨S1x2x2x8, .f32⟩
  | 61 => ⟨S2x2x8, .f32⟩
  | 62 => ⟨S2x2x8x1x1, .f32⟩
  | 63 => ⟨S2x2x8x64x128, .f32⟩
  | 64 => ⟨S2x2x8x64x128, .f32⟩
  | 65 => ⟨S2x2x8x64x128, .f32⟩
  | 66 => ⟨S1x2x2x8x64x128, .f32⟩
  | 67 => ⟨S2x2x8x64x128, .f32⟩
  | 68 => ⟨S1x2x2x8, .f32⟩
  | 69 => ⟨S2x2x8, .f32⟩
  | 70 => ⟨S2x2x8x1x1, .f32⟩
  | 71 => ⟨S2x2x8x64x128, .f32⟩
  | 72 => ⟨S2x2x8x64x128, .f32⟩
  | 73 => ⟨S2x2x8x64x128, .f32⟩
  | 74 => ⟨S1x2x2x8x64x128, .f32⟩
  | 75 => ⟨S2x2x8x64x128, .f32⟩
  | 76 => ⟨S1x2x2x8, .f32⟩
  | 77 => ⟨S2x2x8, .f32⟩
  | 78 => ⟨S2x2x8x1x1, .f32⟩
  | 79 => ⟨S2x2x8x64x128, .f32⟩
  | 80 => ⟨S2x2x8x64x128, .f32⟩
  | 81 => ⟨S2x2x8x64x128, .f32⟩
  | 82 => ⟨S1x2x2x8x64x128, .f32⟩
  | 83 => ⟨S2x2x8x64x128, .f32⟩
  | 84 => ⟨S1x2x2x8, .f32⟩
  | 85 => ⟨S2x2x8, .f32⟩
  | 86 => ⟨S2x2x8x1x1, .f32⟩
  | 87 => ⟨S2x2x8x64x128, .f32⟩
  | 88 => ⟨S2x2x8x64x128, .f32⟩
  | 89 => ⟨S2x2x8x64x128, .f32⟩
  | 90 => ⟨S1x2x2x8x64x128, .f32⟩
  | 91 => ⟨S2x2x8x64x128, .f32⟩
  | 92 => ⟨S1x2x2x8, .f32⟩
  | 93 => ⟨S2x2x8, .f32⟩
  | 94 => ⟨S2x2x8x1x1, .f32⟩
  | 95 => ⟨S2x2x8x64x128, .f32⟩
  | 96 => ⟨S2x2x8x64x128, .f32⟩
  | 97 => ⟨S2x2x8x64x128, .f32⟩
  | 98 => ⟨S1x2x2x8x64x128, .f32⟩
  | 99 => ⟨S1x2x2x8x64x128, .f32⟩
  | 100 => ⟨S1x2x2x8x64x128, .f32⟩
  | 101 => ⟨S1x2x2x8x64x128, .f32⟩
  | 102 => ⟨S1x2x2x8x64x128, .f32⟩
  | 103 => ⟨S1x2x2x8x64x128, .f32⟩
  | 104 => ⟨S1x2x2x8x64x128, .f32⟩
  | 105 => ⟨S1x2x2x8x64x128, .f32⟩
  | 106 => ⟨S1x2x2x8x64x128, .f32⟩
  | 107 => ⟨S1x2x2x8x64x128, .f32⟩
  | 108 => ⟨S1x2x2x8x64x128, .f32⟩
  | 109 => ⟨S1x2x2x8x64x128, .f32⟩
  | 110 => ⟨S1x2x2x8x64x128, .f32⟩
  | 111 => ⟨S1x2x2x8x64x128, .f32⟩
  | 112 => ⟨S1x2x2x8x64x128, .f32⟩
  | 113 => ⟨S1x2x2x8x64x128, .f32⟩
  | 114 => ⟨S16x2x2x8x64x128, .f32⟩
  | 115 => ⟨S16x2x2x8x64x128, .f32⟩
  | 116 => ⟨S2x16x2x8x64x128, .f32⟩
  | 117 => ⟨S2x16x2x8x64x128, .f32⟩
  | 118 => ⟨S2x16x128x2x8x64, .f32⟩
  | 119 => ⟨S2x16x2x8x128, .f32⟩
  | 120 => ⟨S2x16x128x2x8, .f32⟩
  | 121 => ⟨S2x16x128x2x8x1, .f32⟩
  | 122 => ⟨S2x16x128x2x8x64, .f32⟩
  | 123 => ⟨S2x16x128x2x8x64, .f32⟩
  | 124 => ⟨S2x16x128x2x8x64, .f32⟩
  | 125 => ⟨S2x2048x16x64, .f32⟩
  | 126 => ⟨S16x1, .f32⟩
  | 127 => ⟨S1x1x16x1, .f32⟩
  | _ => ⟨S2x2048x1536, .f32⟩

abbrev hbmTy0_2 (i : Nat) : BufTy := match i % 128 with
  | 0 => ⟨S2x2048x16x64, .f32⟩
  | 1 => ⟨S2x2048x16x64, .f32⟩
  | 2 => ⟨S2x2048x16x64, .f32⟩
  | 3 => ⟨S2x2048x1024, .f32⟩
  | 4 => ⟨S2x2048x1024, .f32⟩
  | 5 => ⟨S2x2048x1024, .f32⟩
  | 6 => ⟨S_, .f32⟩
  | 7 => ⟨S2x2048x1024, .f32⟩
  | 8 => ⟨S2x2048x1024, .f32⟩
  | 9 => ⟨S_, .f32⟩
  | 10 => ⟨S2x2048x1024, .f32⟩
  | 11 => ⟨S2x2048x1024, .f32⟩
  | 12 => ⟨S2x2048x1024, .f32⟩
  | 13 => ⟨S2x2048x1024, .f32⟩
  | 14 => ⟨S2x2048x2x512, .f32⟩
  | 15 => ⟨S2x512, .f32⟩
  | 16 => ⟨S2x2048x2x512, .f32⟩
  | 17 => ⟨S_, .f32⟩
  | 18 => ⟨S2x2048x2, .f32⟩
  | 19 => ⟨S2x2048x2x1, .f32⟩
  | 20 => ⟨S_, .f32⟩
  | 21 => ⟨S2x2048x2x1, .f32⟩
  | 22 => ⟨S2x2048x2x1, .f32⟩
  | 23 => ⟨S_, .f32⟩
  | 24 => ⟨S2x2048x2x1, .f32⟩
  | 25 => ⟨S2x2048x2x1, .f32⟩
  | 26 => ⟨S2x2048x2x1, .f32⟩
  | 27 => ⟨S2x2048x2x512, .f32⟩
  | 28 => ⟨S2x2048x2x512, .f32⟩
  | 29 => ⟨S1x1x2x512, .f32⟩
  | 30 => ⟨S2x2048x2x512, .f32⟩
  | 31 => ⟨S2x2048x2x512, .f32⟩
  | 32 => ⟨S2x2048x1024, .f32⟩
  | 33 => ⟨S2x2048x2048, .f32⟩
  | 34 => ⟨S4096x2048, .f32⟩
  | 35 => ⟨S4096x2048, .bf16⟩
  | 36 => ⟨S4096x1024, .f32⟩
  | 37 => ⟨S2x16x128x2x8x64, .f32⟩
  | 38 => ⟨S32x128x1024, .f32⟩
  | _ => ⟨S2x2048x1536, .f32⟩

abbrev hbmTy (i : Nat) : BufTy := match i / 128 with
  | 0 => hbmTy0_0 i
  | 1 => hbmTy0_1 i
  | 2 => hbmTy0_2 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_call0_cst : Ref sig .tc := ⟨.hbm, 45, rfl⟩
abbrev main_call1_call0_v0 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_0 : Ref sig .tc := ⟨.hbm, 56, rfl⟩
abbrev main_call2_v5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_1 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_cst_2 : Ref sig .tc := ⟨.hbm, 262, rfl⟩
abbrev main_v225 : Ref sig .tc := ⟨.hbm, 263, rfl⟩
abbrev main_v226 : Ref sig .tc := ⟨.hbm, 264, rfl⟩
abbrev main_cst_3 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_cst_4 : Ref sig .tc := ⟨.hbm, 273, rfl⟩
abbrev main_v234 : Ref sig .tc := ⟨.hbm, 274, rfl⟩
abbrev main_v235 : Ref sig .tc := ⟨.hbm, 275, rfl⟩
abbrev main_cst_5 : Ref sig .tc := ⟨.hbm, 276, rfl⟩
abbrev main_v236 : Ref sig .tc := ⟨.hbm, 277, rfl⟩
abbrev main_v237 : Ref sig .tc := ⟨.hbm, 278, rfl⟩
abbrev main_cst_6 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩

abbrev nD : Nat := 1
abbrev τ : Topo := Topo.v7x

variable {F : FTy → Type} [FloatOps F]
-- ==== BwdKernel.lean ====
abbrev S2x2048x1536 : Shape := ⟨3, ![2, 2048, 1536]⟩
abbrev S2x2048x5648 : Shape := ⟨3, ![2, 2048, 5648]⟩
abbrev S16 : Shape := ⟨1, ![16]⟩
abbrev S1024 : Shape := ⟨1, ![1024]⟩
abbrev S2x2048x1024 : Shape := ⟨3, ![2, 2048, 1024]⟩
abbrev S4096x5760 : Shape := ⟨2, ![4096, 5760]⟩
abbrev S2x2048x16 : Shape := ⟨3, ![2, 2048, 16]⟩
abbrev S2x2048x256 : Shape := ⟨3, ![2, 2048, 256]⟩
abbrev S2x2048x16x64 : Shape := ⟨4, ![2, 2048, 16, 64]⟩
abbrev S2x2048x2x128 : Shape := ⟨4, ![2, 2048, 2, 128]⟩
abbrev S1x1x16 : Shape := ⟨3, ![1, 1, 16]⟩
abbrev S_ : Shape := ⟨0, ![]⟩
abbrev S2x2048x16x1 : Shape := ⟨4, ![2, 2048, 16, 1]⟩
abbrev S2x16x128x2x8x64 : Shape := ⟨6, ![2, 16, 128, 2, 8, 64]⟩
abbrev S2x16x128x2x8 : Shape := ⟨5, ![2, 16, 128, 2, 8]⟩
abbrev S2x16x2x8x128 : Shape := ⟨5, ![2, 16, 2, 8, 128]⟩
abbrev S2x16x128x2x128 : Shape := ⟨5, ![2, 16, 128, 2, 128]⟩
abbrev S128x128 : Shape := ⟨2, ![128, 128]⟩
abbrev S2x16x2x8x128x1 : Shape := ⟨6, ![2, 16, 2, 8, 128, 1]⟩
abbrev S2x16x2x8x1x128 : Shape := ⟨6, ![2, 16, 2, 8, 1, 128]⟩
abbrev S2x16x2x8x128x128 : Shape := ⟨6, ![2, 16, 2, 8, 128, 128]⟩
abbrev S2x16x2x128x128 : Shape := ⟨5, ![2, 16, 2, 128, 128]⟩
abbrev S2x16x2x1x128x128 : Shape := ⟨6, ![2, 16, 2, 1, 128, 128]⟩
abbrev S2x16x2x8x64x128 : Shape := ⟨6, ![2, 16, 2, 8, 64, 128]⟩
abbrev S2x16x2x8x1 : Shape := ⟨5, ![2, 16, 2, 8, 1]⟩
abbrev S2x16x128x2x8x1 : Shape := ⟨6, ![2, 16, 128, 2, 8, 1]⟩
abbrev S2x16x2x8 : Shape := ⟨4, ![2, 16, 2, 8]⟩
abbrev S2x16x2x8x1x1 : Shape := ⟨6, ![2, 16, 2, 8, 1, 1]⟩
abbrev S2x2x8x64x128 : Shape := ⟨5, ![2, 2, 8, 64, 128]⟩
abbrev S16x2x2x8x64x128 : Shape := ⟨6, ![16, 2, 2, 8, 64, 128]⟩
abbrev S16x2x2x8x1x1 : Shape := ⟨6, ![16, 2, 2, 8, 1, 1]⟩
abbrev S0x2x2x8x64x128 : Shape := ⟨6, ![0, 2, 2, 8, 64, 128]⟩
abbrev S0x2x2x8x1x1 : Shape := ⟨6, ![0, 2, 2, 8, 1, 1]⟩
abbrev S1x2x2x8x64x128 : Shape := ⟨6, ![1, 2, 2, 8, 64, 128]⟩
abbrev S1x2x2x8x1x1 : Shape := ⟨6, ![1, 2, 2, 8, 1, 1]⟩
abbrev S2x2x8x1x1 : Shape := ⟨5, ![2, 2, 8, 1, 1]⟩
abbrev S16x1 : Shape := ⟨2, ![16, 1]⟩
abbrev S1x1x16x1 : Shape := ⟨4, ![1, 1, 16, 1]⟩
abbrev S4096x1024 : Shape := ⟨2, ![4096, 1024]⟩
abbrev S32x128x1024 : Shape := ⟨3, ![32, 128, 1024]⟩
abbrev S4096x5648 : Shape := ⟨2, ![4096, 5648]⟩
abbrev S4096x112 : Shape := ⟨2, ![4096, 112]⟩
abbrev S4096x2048 : Shape := ⟨2, ![4096, 2048]⟩
abbrev S1x16 : Shape := ⟨2, ![1, 16]⟩
abbrev S3x16 : Shape := ⟨2, ![3, 16]⟩
abbrev S3x112 : Shape := ⟨2, ![3, 112]⟩
abbrev S3x128 : Shape := ⟨2, ![3, 128]⟩
abbrev S5x128 : Shape := ⟨2, ![5, 128]⟩
abbrev S8x128 : Shape := ⟨2, ![8, 128]⟩
abbrev S4096x1536 : Shape := ⟨2, ![4096, 1536]⟩
abbrev S1x1024 : Shape := ⟨2, ![1, 1024]⟩
abbrev S128 : Shape := ⟨1, ![128]⟩
abbrev S128x1 : Shape := ⟨2, ![128, 1]⟩
abbrev S128x1024 : Shape := ⟨2, ![128, 1024]⟩
abbrev S1x128 : Shape := ⟨2, ![1, 128]⟩
abbrev S4096x128 : Shape := ⟨2, ![4096, 128]⟩
abbrev S128x256 : Shape := ⟨2, ![128, 256]⟩
abbrev S1x128x1024 : Shape := ⟨3, ![1, 128, 1024]⟩
abbrev S128x1536 : Shape := ⟨2, ![128, 1536]⟩
abbrev S8x1024 : Shape := ⟨2, ![8, 1024]⟩
abbrev S128x512 : Shape := ⟨2, ![128, 512]⟩
abbrev S1x512 : Shape := ⟨2, ![1, 512]⟩
abbrev S256x128 : Shape := ⟨2, ![256, 128]⟩

abbrev nBuf : Space → Nat
  | .hbm => 310
  | .vmem => 30
  | .smem => 0
  | _ => 0

abbrev hbmTy0_0 (i : Nat) : BufTy := match i % 128 with
  | 0 => ⟨S2x2048x1536, .f32⟩
  | 1 => ⟨S2x2048x5648, .f32⟩
  | 2 => ⟨S16, .f32⟩
  | 3 => ⟨S16, .f32⟩
  | 4 => ⟨S16, .f32⟩
  | 5 => ⟨S1024, .f32⟩
  | 6 => ⟨S2x2048x1024, .f32⟩
  | 7 => ⟨S4096x5760, .f32⟩
  | 8 => ⟨S2x2048x1024, .f32⟩
  | 9 => ⟨S2x2048x16, .f32⟩
  | 10 => ⟨S2x2048x1024, .f32⟩
  | 11 => ⟨S2x2048x256, .f32⟩
  | 12 => ⟨S2x2048x256, .f32⟩
  | 13 => ⟨S2x2048x16x64, .f32⟩
  | 14 => ⟨S2x2048x2x128, .f32⟩
  | 15 => ⟨S2x2048x2x128, .f32⟩
  | 16 => ⟨S1x1x16, .f32⟩
  | 17 => ⟨S2x2048x16, .f32⟩
  | 18 => ⟨S2x2048x16, .f32⟩
  | 19 => ⟨S_, .f32⟩
  | 20 => ⟨S2x2048x16, .f32⟩
  | 21 => ⟨S2x2048x16, .f32⟩
  | 22 => ⟨S2x2048x16, .f32⟩
  | 23 => ⟨S2x2048x16, .f32⟩
  | 24 => ⟨S2x2048x16, .i1⟩
  | 25 => ⟨S2x2048x16, .f32⟩
  | 26 => ⟨S2x2048x16, .f32⟩
  | 27 => ⟨S2x2048x16, .f32⟩
  | 28 => ⟨S2x2048x16, .f32⟩
  | 29 => ⟨S2x2048x16, .f32⟩
  | 30 => ⟨S2x2048x16, .f32⟩
  | 31 => ⟨S2x2048x16, .f32⟩
  | 32 => ⟨S2x2048x16, .f32⟩
  | 33 => ⟨S16, .f32⟩
  | 34 => ⟨S16, .f32⟩
  | 35 => ⟨S2x2048x16x1, .f32⟩
  | 36 => ⟨S2x2048x16x64, .f32⟩
  | 37 => ⟨S2x2048x16x64, .f32⟩
  | 38 => ⟨S2x16x128x2x8x64, .f32⟩
  | 39 => ⟨S1x1x16, .f32⟩
  | 40 => ⟨S2x2048x16, .f32⟩
  | 41 => ⟨S2x2048x16, .f32⟩
  | 42 => ⟨S2x16x128x2x8, .f32⟩
  | 43 => ⟨S2x16x2x8x128, .f32⟩
  | 44 => ⟨S2x16x128x2x128, .f32⟩
  | 45 => ⟨S2x16x128x2x128, .f32⟩
  | 46 => ⟨S_, .f32⟩
  | 47 => ⟨S_, .f32⟩
  | 48 => ⟨S2x16x2x8x128, .f32⟩
  | 49 => ⟨S_, .i1⟩
  | 50 => ⟨S128x128, .i1⟩
  | 51 => ⟨S128x128, .i32⟩
  | 52 => ⟨S_, .i32⟩
  | 53 => ⟨S128x128, .i32⟩
  | 54 => ⟨S128x128, .i32⟩
  | 55 => ⟨S128x128, .i32⟩
  | 56 => ⟨S128x128, .i1⟩
  | 57 => ⟨S_, .i1⟩
  | 58 => ⟨S128x128, .i1⟩
  | 59 => ⟨S128x128, .i1⟩
  | 60 => ⟨S2x16x2x8x128x1, .f32⟩
  | 61 => ⟨S2x16x2x8x1x128, .f32⟩
  | 62 => ⟨S2x16x2x8x128x128, .f32⟩
  | 63 => ⟨S2x16x2x8x128x128, .f32⟩
  | 64 => ⟨S2x16x2x8x128x128, .f32⟩
  | 65 => ⟨S_, .f32⟩
  | 66 => ⟨S_, .f32⟩
  | 67 => ⟨S2x16x2x8x128x128, .i1⟩
  | 68 => ⟨S2x16x2x8x128x128, .f32⟩
  | 69 => ⟨S2x16x2x8x128x128, .f32⟩
  | 70 => ⟨S2x16x2x8x128x128, .f32⟩
  | 71 => ⟨S2x16x2x128x128, .f32⟩
  | 72 => ⟨S2x16x2x1x128x128, .f32⟩
  | 73 => ⟨S2x16x2x8x128x128, .f32⟩
  | 74 => ⟨S2x16x2x8x128x128, .f32⟩
  | 75 => ⟨S2x16x2x8x64x128, .f32⟩
  | 76 => ⟨S2x16x128x2x8x64, .f32⟩
  | 77 => ⟨S2x16x2x8x1, .f32⟩
  | 78 => ⟨S2x16x2x8x128, .f32⟩
  | 79 => ⟨S2x16x2x8x128, .f32⟩
  | 80 => ⟨S2x16x2x8x128, .f32⟩
  | 81 => ⟨S2x16x128x2x8, .f32⟩
  | 82 => ⟨S2x16x128x2x8x1, .f32⟩
  | 83 => ⟨S2x16x128x2x8x64, .f32⟩
  | 84 => ⟨S2x16x128x2x8x64, .f32⟩
  | 85 => ⟨S2x16x2x8x64x128, .f32⟩
  | 86 => ⟨S2x16x2x8x1, .f32⟩
  | 87 => ⟨S2x16x2x8, .f32⟩
  | 88 => ⟨S2x16x2x8, .f32⟩
  | 89 => ⟨S2x16x2x8x1x1, .f32⟩
  | 90 => ⟨S_, .f32⟩
  | 91 => ⟨S2x2x8x64x128, .f32⟩
  | 92 => ⟨S16x2x2x8x64x128, .f32⟩
  | 93 => ⟨S16x2x2x8x1x1, .f32⟩
  | 94 => ⟨S0x2x2x8x64x128, .f32⟩
  | 95 => ⟨S16x2x2x8x64x128, .f32⟩
  | 96 => ⟨S0x2x2x8x1x1, .f32⟩
  | 97 => ⟨S16x2x2x8x1x1, .f32⟩
  | 98 => ⟨S_, .f32⟩
  | 99 => ⟨S0x2x2x8x64x128, .f32⟩
  | 100 => ⟨S1x2x2x8x64x128, .f32⟩
  | 101 => ⟨S2x2x8x64x128, .f32⟩
  | 102 => ⟨S1x2x2x8x1x1, .f32⟩
  | 103 => ⟨S2x2x8x1x1, .f32⟩
  | 104 => ⟨S2x2x8x64x128, .f32⟩
  | 105 => ⟨S2x2x8x64x128, .f32⟩
  | 106 => ⟨S2x2x8x64x128, .f32⟩
  | 107 => ⟨S1x2x2x8x64x128, .f32⟩
  | 108 => ⟨S2x2x8x64x128, .f32⟩
  | 109 => ⟨S1x2x2x8x1x1, .f32⟩
  | 110 => ⟨S2x2x8x1x1, .f32⟩
  | 111 => ⟨S2x2x8x64x128, .f32⟩
  | 112 => ⟨S2x2x8x64x128, .f32⟩
  | 113 => ⟨S2x2x8x64x128, .f32⟩
  | 114 => ⟨S1x2x2x8x64x128, .f32⟩
  | 115 => ⟨S2x2x8x64x128, .f32⟩
  | 116 => ⟨S1x2x2x8x1x1, .f32⟩
  | 117 => ⟨S2x2x8x1x1, .f32⟩
  | 118 => ⟨S2x2x8x64x128, .f32⟩
  | 119 => ⟨S2x2x8x64x128, .f32⟩
  | 120 => ⟨S2x2x8x64x128, .f32⟩
  | 121 => ⟨S1x2x2x8x64x128, .f32⟩
  | 122 => ⟨S2x2x8x64x128, .f32⟩
  | 123 => ⟨S1x2x2x8x1x1, .f32⟩
  | 124 => ⟨S2x2x8x1x1, .f32⟩
  | 125 => ⟨S2x2x8x64x128, .f32⟩
  | 126 => ⟨S2x2x8x64x128, .f32⟩
  | 127 => ⟨S2x2x8x64x128, .f32⟩
  | _ => ⟨S2x2048x1536, .f32⟩

abbrev hbmTy0_1 (i : Nat) : BufTy := match i % 128 with
  | 0 => ⟨S1x2x2x8x64x128, .f32⟩
  | 1 => ⟨S2x2x8x64x128, .f32⟩
  | 2 => ⟨S1x2x2x8x1x1, .f32⟩
  | 3 => ⟨S2x2x8x1x1, .f32⟩
  | 4 => ⟨S2x2x8x64x128, .f32⟩
  | 5 => ⟨S2x2x8x64x128, .f32⟩
  | 6 => ⟨S2x2x8x64x128, .f32⟩
  | 7 => ⟨S1x2x2x8x64x128, .f32⟩
  | 8 => ⟨S2x2x8x64x128, .f32⟩
  | 9 => ⟨S1x2x2x8x1x1, .f32⟩
  | 10 => ⟨S2x2x8x1x1, .f32⟩
  | 11 => ⟨S2x2x8x64x128, .f32⟩
  | 12 => ⟨S2x2x8x64x128, .f32⟩
  | 13 => ⟨S2x2x8x64x128, .f32⟩
  | 14 => ⟨S1x2x2x8x64x128, .f32⟩
  | 15 => ⟨S2x2x8x64x128, .f32⟩
  | 16 => ⟨S1x2x2x8x1x1, .f32⟩
  | 17 => ⟨S2x2x8x1x1, .f32⟩
  | 18 => ⟨S2x2x8x64x128, .f32⟩
  | 19 => ⟨S2x2x8x64x128, .f32⟩
  | 20 => ⟨S2x2x8x64x128, .f32⟩
  | 21 => ⟨S1x2x2x8x64x128, .f32⟩
  | 22 => ⟨S2x2x8x64x128, .f32⟩
  | 23 => ⟨S1x2x2x8x1x1, .f32⟩
  | 24 => ⟨S2x2x8x1x1, .f32⟩
  | 25 => ⟨S2x2x8x64x128, .f32⟩
  | 26 => ⟨S2x2x8x64x128, .f32⟩
  | 27 => ⟨S2x2x8x64x128, .f32⟩
  | 28 => ⟨S1x2x2x8x64x128, .f32⟩
  | 29 => ⟨S2x2x8x64x128, .f32⟩
  | 30 => ⟨S1x2x2x8x1x1, .f32⟩
  | 31 => ⟨S2x2x8x1x1, .f32⟩
  | 32 => ⟨S2x2x8x64x128, .f32⟩
  | 33 => ⟨S2x2x8x64x128, .f32⟩
  | 34 => ⟨S2x2x8x64x128, .f32⟩
  | 35 => ⟨S1x2x2x8x64x128, .f32⟩
  | 36 => ⟨S2x2x8x64x128, .f32⟩
  | 37 => ⟨S1x2x2x8x1x1, .f32⟩
  | 38 => ⟨S2x2x8x1x1, .f32⟩
  | 39 => ⟨S2x2x8x64x128, .f32⟩
  | 40 => ⟨S2x2x8x64x128, .f32⟩
  | 41 => ⟨S2x2x8x64x128, .f32⟩
  | 42 => ⟨S1x2x2x8x64x128, .f32⟩
  | 43 => ⟨S2x2x8x64x128, .f32⟩
  | 44 => ⟨S1x2x2x8x1x1, .f32⟩
  | 45 => ⟨S2x2x8x1x1, .f32⟩
  | 46 => ⟨S2x2x8x64x128, .f32⟩
  | 47 => ⟨S2x2x8x64x128, .f32⟩
  | 48 => ⟨S2x2x8x64x128, .f32⟩
  | 49 => ⟨S1x2x2x8x64x128, .f32⟩
  | 50 => ⟨S2x2x8x64x128, .f32⟩
  | 51 => ⟨S1x2x2x8x1x1, .f32⟩
  | 52 => ⟨S2x2x8x1x1, .f32⟩
  | 53 => ⟨S2x2x8x64x128, .f32⟩
  | 54 => ⟨S2x2x8x64x128, .f32⟩
  | 55 => ⟨S2x2x8x64x128, .f32⟩
  | 56 => ⟨S1x2x2x8x64x128, .f32⟩
  | 57 => ⟨S2x2x8x64x128, .f32⟩
  | 58 => ⟨S1x2x2x8x1x1, .f32⟩
  | 59 => ⟨S2x2x8x1x1, .f32⟩
  | 60 => ⟨S2x2x8x64x128, .f32⟩
  | 61 => ⟨S2x2x8x64x128, .f32⟩
  | 62 => ⟨S2x2x8x64x128, .f32⟩
  | 63 => ⟨S1x2x2x8x64x128, .f32⟩
  | 64 => ⟨S2x2x8x64x128, .f32⟩
  | 65 => ⟨S1x2x2x8x1x1, .f32⟩
  | 66 => ⟨S2x2x8x1x1, .f32⟩
  | 67 => ⟨S2x2x8x64x128, .f32⟩
  | 68 => ⟨S2x2x8x64x128, .f32⟩
  | 69 => ⟨S2x2x8x64x128, .f32⟩
  | 70 => ⟨S1x2x2x8x64x128, .f32⟩
  | 71 => ⟨S2x2x8x64x128, .f32⟩
  | 72 => ⟨S1x2x2x8x1x1, .f32⟩
  | 73 => ⟨S2x2x8x1x1, .f32⟩
  | 74 => ⟨S2x2x8x64x128, .f32⟩
  | 75 => ⟨S2x2x8x64x128, .f32⟩
  | 76 => ⟨S2x2x8x64x128, .f32⟩
  | 77 => ⟨S1x2x2x8x64x128, .f32⟩
  | 78 => ⟨S2x2x8x64x128, .f32⟩
  | 79 => ⟨S1x2x2x8x1x1, .f32⟩
  | 80 => ⟨S2x2x8x1x1, .f32⟩
  | 81 => ⟨S2x2x8x64x128, .f32⟩
  | 82 => ⟨S2x2x8x64x128, .f32⟩
  | 83 => ⟨S2x2x8x64x128, .f32⟩
  | 84 => ⟨S1x2x2x8x64x128, .f32⟩
  | 85 => ⟨S1x2x2x8x64x128, .f32⟩
  | 86 => ⟨S1x2x2x8x64x128, .f32⟩
  | 87 => ⟨S1x2x2x8x64x128, .f32⟩
  | 88 => ⟨S1x2x2x8x64x128, .f32⟩
  | 89 => ⟨S1x2x2x8x64x128, .f32⟩
  | 90 => ⟨S1x2x2x8x64x128, .f32⟩
  | 91 => ⟨S1x2x2x8x64x128, .f32⟩
  | 92 => ⟨S1x2x2x8x64x128, .f32⟩
  | 93 => ⟨S1x2x2x8x64x128, .f32⟩
  | 94 => ⟨S1x2x2x8x64x128, .f32⟩
  | 95 => ⟨S1x2x2x8x64x128, .f32⟩
  | 96 => ⟨S1x2x2x8x64x128, .f32⟩
  | 97 => ⟨S1x2x2x8x64x128, .f32⟩
  | 98 => ⟨S1x2x2x8x64x128, .f32⟩
  | 99 => ⟨S1x2x2x8x64x128, .f32⟩
  | 100 => ⟨S16x2x2x8x64x128, .f32⟩
  | 101 => ⟨S16x2x2x8x64x128, .f32⟩
  | 102 => ⟨S2x16x2x8x64x128, .f32⟩
  | 103 => ⟨S2x16x2x8x64x128, .f32⟩
  | 104 => ⟨S2x16x128x2x8x64, .f32⟩
  | 105 => ⟨S2x16x2x8x128, .f32⟩
  | 106 => ⟨S2x16x128x2x8, .f32⟩
  | 107 => ⟨S2x16x128x2x8x1, .f32⟩
  | 108 => ⟨S2x16x128x2x8x64, .f32⟩
  | 109 => ⟨S2x16x128x2x8x64, .f32⟩
  | 110 => ⟨S2x16x128x2x8x64, .f32⟩
  | 111 => ⟨S2x2048x16x64, .f32⟩
  | 112 => ⟨S16x1, .f32⟩
  | 113 => ⟨S1x1x16x1, .f32⟩
  | 114 => ⟨S2x2048x16x64, .f32⟩
  | 115 => ⟨S2x2048x16x64, .f32⟩
  | 116 => ⟨S2x2048x16x64, .f32⟩
  | 117 => ⟨S4096x1024, .f32⟩
  | 118 => ⟨S2x16x128x2x8x64, .f32⟩
  | 119 => ⟨S32x128x1024, .f32⟩
  | 120 => ⟨S4096x5648, .f32⟩
  | 121 => ⟨S_, .f32⟩
  | 122 => ⟨S4096x112, .f32⟩
  | 123 => ⟨S4096x5760, .f32⟩
  | 124 => ⟨S4096x5760, .bf16⟩
  | 125 => ⟨S_, .f32⟩
  | 126 => ⟨S4096x1024, .f32⟩
  | 127 => ⟨S4096x1024, .f32⟩
  | _ => ⟨S2x2048x1536, .f32⟩

abbrev hbmTy0_2 (i : Nat) : BufTy := match i % 128 with
  | 0 => ⟨S4096x2048, .f32⟩
  | 1 => ⟨S4096x2048, .bf16⟩
  | 2 => ⟨S1x16, .f32⟩
  | 3 => ⟨S1x16, .f32⟩
  | 4 => ⟨S1x16, .f32⟩
  | 5 => ⟨S3x16, .f32⟩
  | 6 => ⟨S_, .f32⟩
  | 7 => ⟨S3x112, .f32⟩
  | 8 => ⟨S3x128, .f32⟩
  | 9 => ⟨S_, .f32⟩
  | 10 => ⟨S5x128, .f32⟩
  | 11 => ⟨S8x128, .f32⟩
  | 12 => ⟨S4096x1536, .f32⟩
  | 13 => ⟨S1x1024, .f32⟩
  | 14 => ⟨S4096x5760, .bf16⟩
  | 15 => ⟨S1024, .i32⟩
  | 16 => ⟨S_, .i32⟩
  | 17 => ⟨S_, .i32⟩
  | 18 => ⟨S1024, .i32⟩
  | 19 => ⟨S1024, .i32⟩
  | 20 => ⟨S1024, .i32⟩
  | 21 => ⟨S_, .i32⟩
  | 22 => ⟨S1024, .i32⟩
  | 23 => ⟨S1024, .i1⟩
  | 24 => ⟨S1024, .i32⟩
  | 25 => ⟨S1024, .i32⟩
  | 26 => ⟨S_, .i32⟩
  | 27 => ⟨S1024, .i32⟩
  | 28 => ⟨S1024, .i1⟩
  | 29 => ⟨S1024, .i1⟩
  | 30 => ⟨S_, .i32⟩
  | 31 => ⟨S1024, .i32⟩
  | 32 => ⟨S1024, .i32⟩
  | 33 => ⟨S1024, .i32⟩
  | 34 => ⟨S128, .i32⟩
  | 35 => ⟨S128x1, .i32⟩
  | 36 => ⟨S1x1024, .i32⟩
  | 37 => ⟨S128x1024, .i32⟩
  | 38 => ⟨S128x1024, .i32⟩
  | 39 => ⟨S128x1024, .i1⟩
  | 40 => ⟨S128x1024, .bf16⟩
  | 41 => ⟨S128, .i32⟩
  | 42 => ⟨S128x1, .i32⟩
  | 43 => ⟨S128, .i32⟩
  | 44 => ⟨S1x128, .i32⟩
  | 45 => ⟨S128x128, .i32⟩
  | 46 => ⟨S128x128, .i32⟩
  | 47 => ⟨S128x128, .i1⟩
  | 48 => ⟨S128x128, .f32⟩
  | 49 => ⟨S4096x1536, .f32⟩
  | 50 => ⟨S4096x5760, .bf16⟩
  | 51 => ⟨S4096x128, .bf16⟩
  | 52 => ⟨S8x128, .f32⟩
  | 53 => ⟨S1x1024, .f32⟩
  | _ => ⟨S2x2048x1536, .f32⟩

abbrev hbmTy (i : Nat) : BufTy := match i / 128 with
  | 0 => hbmTy0_0 i
  | 1 => hbmTy0_1 i
  | 2 => hbmTy0_2 i
  | _ => ⟨S2x2048x1536, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x128, .bf16⟩
  | .local _ .vmem, ⟨7, _⟩ => ⟨S128x128, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S1x128x1024, .f32⟩
  | .local _ .vmem, ⟨13, _⟩ => ⟨S1x128x1024, .f32⟩
  | .local _ .vmem, ⟨14, _⟩ => ⟨S128x1024, .bf16⟩
  | .local _ .vmem, ⟨15, _⟩ => ⟨S128x1024, .bf16⟩
  | .local _ .vmem, ⟨16, _⟩ => ⟨S8x128, .f32⟩
  | .local _ .vmem, ⟨17, _⟩ => ⟨S128x1024, .bf16⟩
  | .local _ .vmem, ⟨18, _⟩ => ⟨S128x128, .f32⟩
  | .local _ .vmem, ⟨19, _⟩ => ⟨S1x1024, .f32⟩
  | .local _ .vmem, ⟨20, _⟩ => ⟨S128x1536, .f32⟩
  | .local _ .vmem, ⟨21, _⟩ => ⟨S128x1536, .f32⟩
  | .local _ .vmem, ⟨22, _⟩ => ⟨S128x1024, .bf16⟩
  | .local _ .vmem, ⟨23, _⟩ => ⟨S128x1024, .bf16⟩
  | .local _ .vmem, ⟨24, _⟩ => ⟨S128x128, .bf16⟩
  | .local _ .vmem, ⟨25, _⟩ => ⟨S128x128, .bf16⟩
  | .local _ .vmem, ⟨26, _⟩ => ⟨S8x128, .f32⟩
  | .local _ .vmem, ⟨27, _⟩ => ⟨S1x1024, .f32⟩
  | .local _ .vmem, ⟨28, _⟩ => ⟨S128x1024, .f32⟩
  | .local _ .vmem, ⟨29, _⟩ => ⟨S128x1024, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_call0_cst : Ref sig .tc := ⟨.hbm, 46, rfl⟩
abbrev main_call1_call0_v0 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_0 : Ref sig .tc := ⟨.hbm, 57, rfl⟩
abbrev main_call2_v5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_0 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_1 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_cst_2 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_cst_3 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_cst_4 : Ref sig .tc := ⟨.hbm, 262, rfl⟩
abbrev main_v222 : Ref sig .tc := ⟨.hbm, 263, rfl⟩
abbrev main_v223 : Ref sig .tc := ⟨.hbm, 264, rfl⟩
abbrev main_cst_5 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_c_6 : Ref sig .tc := ⟨.hbm, 272, rfl⟩
abbrev main_call4_v0 : Ref sig .tc := ⟨.hbm, 273, rfl⟩
abbrev main_call4_v1 : Ref sig .tc := ⟨.hbm, 274, rfl⟩
abbrev main_call4_v2 : Ref sig .tc := ⟨.hbm, 275, rfl⟩
abbrev main_call4_v3 : Ref sig .tc := ⟨.hbm, 276, rfl⟩
abbrev main_call4_v4 : Ref sig .tc := ⟨.hbm, 277, rfl⟩
abbrev main_call4_v5 : Ref sig .tc := ⟨.hbm, 278, rfl⟩
abbrev main_call4_v6 : Ref sig .tc := ⟨.hbm, 279, rfl⟩
abbrev main_call4_v7 : Ref sig .tc := ⟨.hbm, 280, rfl⟩
abbrev main_call4_v8 : Ref sig .tc := ⟨.hbm, 281, rfl⟩
abbrev main_call4_c : Ref sig .tc := ⟨.hbm, 282, rfl⟩
abbrev main_call4_v9 : Ref sig .tc := ⟨.hbm, 283, rfl⟩
abbrev main_call4_v10 : Ref sig .tc := ⟨.hbm, 284, rfl⟩
abbrev main_call4_v11 : Ref sig .tc := ⟨.hbm, 285, rfl⟩
abbrev main_call4_c_0 : Ref sig .tc := ⟨.hbm, 286, rfl⟩
abbrev main_call4_v12 : Ref sig .tc := ⟨.hbm, 287, rfl⟩
abbrev main_call4_v13 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246_0 : Ref sig .tc := ⟨.hbm, 305, rfl⟩
abbrev main_v246_1 : Ref sig .tc := ⟨.hbm, 306, rfl⟩
abbrev main_v246_2 : Ref sig .tc := ⟨.hbm, 307, rfl⟩
abbrev main_v246_3 : Ref sig .tc := ⟨.hbm, 308, rfl⟩
abbrev main_v246_4 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_276 : BitVec 32 := 0#32
  let v1076 : BitVec 1 := Scalar.cmpi .eq arg0 c0_i32_276
  let v1077 : BitVec 32 := Scalar.extui v1076
  let c0_i32_277 : BitVec 32 := 0#32
  let v1078 : BitVec 1 := Scalar.cmpi .ne v1077 c0_i32_277
  v1078

def k0_cond3 (i : grid0.Coords) : BitVec 1 :=
  let arg0 : BitVec 32 := BitVec.ofNat 32 (i 0).val
  let c0_i32_276 : BitVec 32 := 0#32
  let v1076 : BitVec 1 := Scalar.cmpi .eq arg0 c0_i32_276
  let v_true : BitVec 1 := 1#1
  let v1079 : BitVec 1 := Scalar.xori v1076 v_true
  let v1080 : BitVec 32 := Scalar.extui v1079
  let c0_i32_278 : BitVec 32 := 0#32
  let v1081 : BitVec 1 := Scalar.cmpi .ne v1080 c0_i32_278
  v1081

def k0_cond4 (i : grid0.Coords) : BitVec 1 :=
  let arg0 : BitVec 32 := BitVec.ofNat 32 (i 0).val
  let c0_i32_280 : BitVec 32 := 0#32
  let v1084 : BitVec 1 := Scalar.cmpi .eq arg0 c0_i32_280
  let v1085 : BitVec 32 := Scalar.extui v1084
  let c0_i32_281 : BitVec 32 := 0#32
  let v1086 : BitVec 1 := Scalar.cmpi .ne v1085 c0_i32_281
  v1086

def k0_cond5 (i : grid0.Coords) : BitVec 1 :=
  let arg0 : BitVec 32 := BitVec.ofNat 32 (i 0).val
  let c0_i32_280 : BitVec 32 := 0#32
  let v1084 : BitVec 1 := Scalar.cmpi .eq arg0 c0_i32_280
  let true_282 : BitVec 1 := 1#1
  let v1087 : BitVec 1 := Scalar.xori v1084 true_282
  let v1088 : BitVec 32 := Scalar.extui v1087
  let c0_i32_283 : BitVec 32 := 0#32
  let v1089 : BitVec 1 := Scalar.cmpi .ne v1088 c0_i32_283
  v1089

def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  ![v29.toNat, c0_i32_11.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c4_i32 : BitVec 32 := 4#32
  let c0_i32_11 : BitVec 32 := 0#32
  ![v29.toNat, c4_i32.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c5_i32 : BitVec 32 := 5#32
  let c0_i32_11 : BitVec 32 := 0#32
  ![v29.toNat, c5_i32.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c44_i32 : BitVec 32 := 44#32
  let c0_i32_11 : BitVec 32 := 0#32
  ![v29.toNat, c44_i32.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c3_i32 : BitVec 32 := 3#32
  let c0_i32_11 : BitVec 32 := 0#32
  ![v29.toNat, c3_i32.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  ![v29.toNat, c0_i32_11.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  let c0_i32_13 : BitVec 32 := 0#32
  ![v29.toNat, c0_i32_11.toNat, c0_i32_12.toNat]

def cc0_transform_7 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c1_i32_11 : BitVec 32 := 1#32
  let c0_i32_12 : BitVec 32 := 0#32
  ![v29.toNat, c1_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  ![v29.toNat, c0_i32_11.toNat]

def cc0_transform_14 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c3_i32 : BitVec 32 := 3#32
  let c0_i32_11 : BitVec 32 := 0#32
  ![v29.toNat, c3_i32.toNat]

def cc0_transform_15 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi c15_i32 v27
  let v29 : BitVec 32 := Scalar.addi v17 v28
  let c0_i32_11 : BitVec 32 := 0#32
  let c0_i32_12 : BitVec 32 := 0#32
  ![v29.toNat, c0_i32_11.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== BwdRefIdeal.lean ====
abbrev S2x2048x1536 : Shape := ⟨3, ![2, 2048, 1536]⟩
abbrev S2x2048x5648 : Shape := ⟨3, ![2, 2048, 5648]⟩
abbrev S16 : Shape := ⟨1, ![16]⟩
abbrev S1024 : Shape := ⟨1, ![1024]⟩
abbrev S2x2048x1024 : Shape := ⟨3, ![2, 2048, 1024]⟩
abbrev S4096x5760 : Shape := ⟨2, ![4096, 5760]⟩
abbrev S2x2048x16 : Shape := ⟨3, ![2, 2048, 16]⟩
abbrev S2x2048x256 : Shape := ⟨3, ![2, 2048, 256]⟩
abbrev S2x2048x16x64 : Shape := ⟨4, ![2, 2048, 16, 64]⟩
abbrev S2x2048x2x128 : Shape := ⟨4, ![2, 2048, 2, 128]⟩
abbrev S1x1x16 : Shape := ⟨3, ![1, 1, 16]⟩
abbrev S_ : Shape := ⟨0, ![]⟩
abbrev S2x2048x16x1 : Shape := ⟨4, ![2, 2048, 16, 1]⟩
abbrev S2x16x128x2x8x64 : Shape := ⟨6, ![2, 16, 128, 2, 8, 64]⟩
abbrev S2x16x128x2x8 : Shape := ⟨5, ![2, 16, 128, 2, 8]⟩
abbrev S2x16x2x8x128 : Shape := ⟨5, ![2, 16, 2, 8, 128]⟩
abbrev S2x16x128x2x128 : Shape := ⟨5, ![2, 16, 128, 2, 128]⟩
abbrev S128x128 : Shape := ⟨2, ![128, 128]⟩
abbrev S2x16x2x8x128x1 : Shape := ⟨6, ![2, 16, 2, 8, 128, 1]⟩
abbrev S2x16x2x8x1x128 : Shape := ⟨6, ![2, 16, 2, 8, 1, 128]⟩
abbrev S2x16x2x8x128x128 : Shape := ⟨6, ![2, 16, 2, 8, 128, 128]⟩
abbrev S2x16x2x128x128 : Shape := ⟨5, ![2, 16, 2, 128, 128]⟩
abbrev S2x16x2x1x128x128 : Shape := ⟨6, ![2, 16, 2, 1, 128, 128]⟩
abbrev S2x16x2x8x64x128 : Shape := ⟨6, ![2, 16, 2, 8, 64, 128]⟩
abbrev S2x16x2x8x1 : Shape := ⟨5, ![2, 16, 2, 8, 1]⟩
abbrev S2x16x128x2x8x1 : Shape := ⟨6, ![2, 16, 128, 2, 8, 1]⟩
abbrev S2x16x2x8 : Shape := ⟨4, ![2, 16, 2, 8]⟩
abbrev S2x16x2x8x1x1 : Shape := ⟨6, ![2, 16, 2, 8, 1, 1]⟩
abbrev S2x2x8x64x128 : Shape := ⟨5, ![2, 2, 8, 64, 128]⟩
abbrev S16x2x2x8x64x128 : Shape := ⟨6, ![16, 2, 2, 8, 64, 128]⟩
abbrev S16x2x2x8x1x1 : Shape := ⟨6, ![16, 2, 2, 8, 1, 1]⟩
abbrev S0x2x2x8x64x128 : Shape := ⟨6, ![0, 2, 2, 8, 64, 128]⟩
abbrev S0x2x2x8x1x1 : Shape := ⟨6, ![0, 2, 2, 8, 1, 1]⟩
abbrev S1x2x2x8x64x128 : Shape := ⟨6, ![1, 2, 2, 8, 64, 128]⟩
abbrev S1x2x2x8x1x1 : Shape := ⟨6, ![1, 2, 2, 8, 1, 1]⟩
abbrev S2x2x8x1x1 : Shape := ⟨5, ![2, 2, 8, 1, 1]⟩
abbrev S16x1 : Shape := ⟨2, ![16, 1]⟩
abbrev S1x1x16x1 : Shape := ⟨4, ![1, 1, 16, 1]⟩
abbrev S2x2048x2x512 : Shape := ⟨4, ![2, 2048, 2, 512]⟩
abbrev S2x512 : Shape := ⟨2, ![2, 512]⟩
abbrev S2x2048x2 : Shape := ⟨3, ![2, 2048, 2]⟩
abbrev S2x2048x2x1 : Shape := ⟨4, ![2, 2048, 2, 1]⟩
abbrev S1x1x2x512 : Shape := ⟨4, ![1, 1, 2, 512]⟩
abbrev S4096x1024 : Shape := ⟨2, ![4096, 1024]⟩
abbrev S4096x256 : Shape := ⟨2, ![4096, 256]⟩
abbrev S4096x1536 : Shape := ⟨2, ![4096, 1536]⟩
abbrev S4096x3072 : Shape := ⟨2, ![4096, 3072]⟩
abbrev S4096x1664 : Shape := ⟨2, ![4096, 1664]⟩
abbrev S1x1024 : Shape := ⟨2, ![1, 1024]⟩

abbrev nBuf : Space → Nat
  | .hbm => 508
  | .vmem => 0
  | .smem => 0
  | _ => 0

abbrev hbmTy0_0 (i : Nat) : BufTy := match i % 128 with
  | 0 => ⟨S2x2048x1536, .f32⟩
  | 1 => ⟨S2x2048x5648, .f32⟩
  | 2 => ⟨S16, .f32⟩
  | 3 => ⟨S16, .f32⟩
  | 4 => ⟨S16, .f32⟩
  | 5 => ⟨S1024, .f32⟩
  | 6 => ⟨S2x2048x1024, .f32⟩
  | 7 => ⟨S4096x5760, .f32⟩
  | 8 => ⟨S2x2048x1024, .f32⟩
  | 9 => ⟨S2x2048x16, .f32⟩
  | 10 => ⟨S2x2048x1024, .f32⟩
  | 11 => ⟨S2x2048x256, .f32⟩
  | 12 => ⟨S2x2048x256, .f32⟩
  | 13 => ⟨S2x2048x16x64, .f32⟩
  | 14 => ⟨S2x2048x2x128, .f32⟩
  | 15 => ⟨S2x2048x2x128, .f32⟩
  | 16 => ⟨S1x1x16, .f32⟩
  | 17 => ⟨S2x2048x16, .f32⟩
  | 18 => ⟨S2x2048x16, .f32⟩
  | 19 => ⟨S_, .f32⟩
  | 20 => ⟨S2x2048x16, .f32⟩
  | 21 => ⟨S2x2048x16, .f32⟩
  | 22 => ⟨S2x2048x16, .f32⟩
  | 23 => ⟨S2x2048x16, .f32⟩
  | 24 => ⟨S2x2048x16, .i1⟩
  | 25 => ⟨S2x2048x16, .f32⟩
  | 26 => ⟨S2x2048x16, .f32⟩
  | 27 => ⟨S2x2048x16, .f32⟩
  | 28 => ⟨S2x2048x16, .f32⟩
  | 29 => ⟨S2x2048x16, .f32⟩
  | 30 => ⟨S2x2048x16, .f32⟩
  | 31 => ⟨S2x2048x16, .f32⟩
  | 32 => ⟨S2x2048x16, .f32⟩
  | 33 => ⟨S16, .f32⟩
  | 34 => ⟨S16, .f32⟩
  | 35 => ⟨S2x2048x16x1, .f32⟩
  | 36 => ⟨S2x2048x16x64, .f32⟩
  | 37 => ⟨S2x2048x16x64, .f32⟩
  | 38 => ⟨S2x16x128x2x8x64, .f32⟩
  | 39 => ⟨S1x1x16, .f32⟩
  | 40 => ⟨S2x2048x16, .f32⟩
  | 41 => ⟨S2x2048x16, .f32⟩
  | 42 => ⟨S2x16x128x2x8, .f32⟩
  | 43 => ⟨S2x16x2x8x128, .f32⟩
  | 44 => ⟨S2x16x128x2x128, .f32⟩
  | 45 => ⟨S2x16x128x2x128, .f32⟩
  | 46 => ⟨S_, .f32⟩
  | 47 => ⟨S_, .f32⟩
  | 48 => ⟨S2x16x2x8x128, .f32⟩
  | 49 => ⟨S_, .i1⟩
  | 50 => ⟨S128x128, .i1⟩
  | 51 => ⟨S128x128, .i32⟩
  | 52 => ⟨S_, .i32⟩
  | 53 => ⟨S128x128, .i32⟩
  | 54 => ⟨S128x128, .i32⟩
  | 55 => ⟨S128x128, .i32⟩
  | 56 => ⟨S128x128, .i1⟩
  | 57 => ⟨S_, .i1⟩
  | 58 => ⟨S128x128, .i1⟩
  | 59 => ⟨S128x128, .i1⟩
  | 60 => ⟨S2x16x2x8x128x1, .f32⟩
  | 61 => ⟨S2x16x2x8x1x128, .f32⟩
  | 62 => ⟨S2x16x2x8x128x128, .f32⟩
  | 63 => ⟨S2x16x2x8x128x128, .f32⟩
  | 64 => ⟨S2x16x2x8x128x128, .f32⟩
  | 65 => ⟨S_, .f32⟩
  | 66 => ⟨S_, .f32⟩
  | 67 => ⟨S2x16x2x8x128x128, .i1⟩
  | 68 => ⟨S2x16x2x8x128x128, .f32⟩
  | 69 => ⟨S2x16x2x8x128x128, .f32⟩
  | 70 => ⟨S2x16x2x8x128x128, .f32⟩
  | 71 => ⟨S2x16x2x128x128, .f32⟩
  | 72 => ⟨S2x16x2x1x128x128, .f32⟩
  | 73 => ⟨S2x16x2x8x128x128, .f32⟩
  | 74 => ⟨S2x16x2x8x128x128, .f32⟩
  | 75 => ⟨S2x16x2x8x64x128, .f32⟩
  | 76 => ⟨S2x16x128x2x8x64, .f32⟩
  | 77 => ⟨S2x16x2x8x1, .f32⟩
  | 78 => ⟨S2x16x2x8x128, .f32⟩
  | 79 => ⟨S2x16x2x8x128, .f32⟩
  | 80 => ⟨S2x16x2x8x128, .f32⟩
  | 81 => ⟨S2x16x128x2x8, .f32⟩
  | 82 => ⟨S2x16x128x2x8x1, .f32⟩
  | 83 => ⟨S2x16x128x2x8x64, .f32⟩
  | 84 => ⟨S2x16x128x2x8x64, .f32⟩
  | 85 => ⟨S2x16x2x8x64x128, .f32⟩
  | 86 => ⟨S2x16x2x8x1, .f32⟩
  | 87 => ⟨S2x16x2x8, .f32⟩
  | 88 => ⟨S2x16x2x8, .f32⟩
  | 89 => ⟨S2x16x2x8x1x1, .f32⟩
  | 90 => ⟨S_, .f32⟩
  | 91 => ⟨S2x2x8x64x128, .f32⟩
  | 92 => ⟨S16x2x2x8x64x128, .f32⟩
  | 93 => ⟨S16x2x2x8x1x1, .f32⟩
  | 94 => ⟨S0x2x2x8x64x128, .f32⟩
  | 95 => ⟨S16x2x2x8x64x128, .f32⟩
  | 96 => ⟨S0x2x2x8x1x1, .f32⟩
  | 97 => ⟨S16x2x2x8x1x1, .f32⟩
  | 98 => ⟨S_, .f32⟩
  | 99 => ⟨S0x2x2x8x64x128, .f32⟩
  | 100 => ⟨S1x2x2x8x64x128, .f32⟩
  | 101 => ⟨S2x2x8x64x128, .f32⟩
  | 102 => ⟨S1x2x2x8x1x1, .f32⟩
  | 103 => ⟨S2x2x8x1x1, .f32⟩
  | 104 => ⟨S2x2x8x64x128, .f32⟩
  | 105 => ⟨S2x2x8x64x128, .f32⟩
  | 106 => ⟨S2x2x8x64x128, .f32⟩
  | 107 => ⟨S1x2x2x8x64x128, .f32⟩
  | 108 => ⟨S2x2x8x64x128, .f32⟩
  | 109 => ⟨S1x2x2x8x1x1, .f32⟩
  | 110 => ⟨S2x2x8x1x1, .f32⟩
  | 111 => ⟨S2x2x8x64x128, .f32⟩
  | 112 => ⟨S2x2x8x64x128, .f32⟩
  | 113 => ⟨S2x2x8x64x128, .f32⟩
  | 114 => ⟨S1x2x2x8x64x128, .f32⟩
  | 115 => ⟨S2x2x8x64x128, .f32⟩
  | 116 => ⟨S1x2x2x8x1x1, .f32⟩
  | 117 => ⟨S2x2x8x1x1, .f32⟩
  | 118 => ⟨S2x2x8x64x128, .f32⟩
  | 119 => ⟨S2x2x8x64x128, .f32⟩
  | 120 => ⟨S2x2x8x64x128, .f32⟩
  | 121 => ⟨S1x2x2x8x64x128, .f32⟩
  | 122 => ⟨S2x2x8x64x128, .f32⟩
  | 123 => ⟨S1x2x2x8x1x1, .f32⟩
  | 124 => ⟨S2x2x8x1x1, .f32⟩
  | 125 => ⟨S2x2x8x64x128, .f32⟩
  | 126 => ⟨S2x2x8x64x128, .f32⟩
  | 127 => ⟨S2x2x8x64x128, .f32⟩
  | _ => ⟨S2x2048x1536, .f32⟩

abbrev hbmTy0_1 (i : Nat) : BufTy := match i % 128 with
  | 0 => ⟨S1x2x2x8x64x128, .f32⟩
  | 1 => ⟨S2x2x8x64x128, .f32⟩
  | 2 => ⟨S1x2x2x8x1x1, .f32⟩
  | 3 => ⟨S2x2x8x1x1, .f32⟩
  | 4 => ⟨S2x2x8x64x128, .f32⟩
  | 5 => ⟨S2x2x8x64x128, .f32⟩
  | 6 => ⟨S2x2x8x64x128, .f32⟩
  | 7 => ⟨S1x2x2x8x64x128, .f32⟩
  | 8 => ⟨S2x2x8x64x128, .f32⟩
  | 9 => ⟨S1x2x2x8x1x1, .f32⟩
  | 10 => ⟨S2x2x8x1x1, .f32⟩
  | 11 => ⟨S2x2x8x64x128, .f32⟩
  | 12 => ⟨S2x2x8x64x128, .f32⟩
  | 13 => ⟨S2x2x8x64x128, .f32⟩
  | 14 => ⟨S1x2x2x8x64x128, .f32⟩
  | 15 => ⟨S2x2x8x64x128, .f32⟩
  | 16 => ⟨S1x2x2x8x1x1, .f32⟩
  | 17 => ⟨S2x2x8x1x1, .f32⟩
  | 18 => ⟨S2x2x8x64x128, .f32⟩
  | 19 => ⟨S2x2x8x64x128, .f32⟩
  | 20 => ⟨S2x2x8x64x128, .f32⟩
  | 21 => ⟨S1x2x2x8x64x128, .f32⟩
  | 22 => ⟨S2x2x8x64x128, .f32⟩
  | 23 => ⟨S1x2x2x8x1x1, .f32⟩
  | 24 => ⟨S2x2x8x1x1, .f32⟩
  | 25 => ⟨S2x2x8x64x128, .f32⟩
  | 26 => ⟨S2x2x8x64x128, .f32⟩
  | 27 => ⟨S2x2x8x64x128, .f32⟩
  | 28 => ⟨S1x2x2x8x64x128, .f32⟩
  | 29 => ⟨S2x2x8x64x128, .f32⟩
  | 30 => ⟨S1x2x2x8x1x1, .f32⟩
  | 31 => ⟨S2x2x8x1x1, .f32⟩
  | 32 => ⟨S2x2x8x64x128, .f32⟩
  | 33 => ⟨S2x2x8x64x128, .f32⟩
  | 34 => ⟨S2x2x8x64x128, .f32⟩
  | 35 => ⟨S1x2x2x8x64x128, .f32⟩
  | 36 => ⟨S2x2x8x64x128, .f32⟩
  | 37 => ⟨S1x2x2x8x1x1, .f32⟩
  | 38 => ⟨S2x2x8x1x1, .f32⟩
  | 39 => ⟨S2x2x8x64x128, .f32⟩
  | 40 => ⟨S2x2x8x64x128, .f32⟩
  | 41 => ⟨S2x2x8x64x128, .f32⟩
  | 42 => ⟨S1x2x2x8x64x128, .f32⟩
  | 43 => ⟨S2x2x8x64x128, .f32⟩
  | 44 => ⟨S1x2x2x8x1x1, .f32⟩
  | 45 => ⟨S2x2x8x1x1, .f32⟩
  | 46 => ⟨S2x2x8x64x128, .f32⟩
  | 47 => ⟨S2x2x8x64x128, .f32⟩
  | 48 => ⟨S2x2x8x64x128, .f32⟩
  | 49 => ⟨S1x2x2x8x64x128, .f32⟩
  | 50 => ⟨S2x2x8x64x128, .f32⟩
  | 51 => ⟨S1x2x2x8x1x1, .f32⟩
  | 52 => ⟨S2x2x8x1x1, .f32⟩
  | 53 => ⟨S2x2x8x64x128, .f32⟩
  | 54 => ⟨S2x2x8x64x128, .f32⟩
  | 55 => ⟨S2x2x8x64x128, .f32⟩
  | 56 => ⟨S1x2x2x8x64x128, .f32⟩
  | 57 => ⟨S2x2x8x64x128, .f32⟩
  | 58 => ⟨S1x2x2x8x1x1, .f32⟩
  | 59 => ⟨S2x2x8x1x1, .f32⟩
  | 60 => ⟨S2x2x8x64x128, .f32⟩
  | 61 => ⟨S2x2x8x64x128, .f32⟩
  | 62 => ⟨S2x2x8x64x128, .f32⟩
  | 63 => ⟨S1x2x2x8x64x128, .f32⟩
  | 64 => ⟨S2x2x8x64x128, .f32⟩
  | 65 => ⟨S1x2x2x8x1x1, .f32⟩
  | 66 => ⟨S2x2x8x1x1, .f32⟩
  | 67 => ⟨S2x2x8x64x128, .f32⟩
  | 68 => ⟨S2x2x8x64x128, .f32⟩
  | 69 => ⟨S2x2x8x64x128, .f32⟩
  | 70 => ⟨S1x2x2x8x64x128, .f32⟩
  | 71 => ⟨S2x2x8x64x128, .f32⟩
  | 72 => ⟨S1x2x2x8x1x1, .f32⟩
  | 73 => ⟨S2x2x8x1x1, .f32⟩
  | 74 => ⟨S2x2x8x64x128, .f32⟩
  | 75 => ⟨S2x2x8x64x128, .f32⟩
  | 76 => ⟨S2x2x8x64x128, .f32⟩
  | 77 => ⟨S1x2x2x8x64x128, .f32⟩
  | 78 => ⟨S2x2x8x64x128, .f32⟩
  | 79 => ⟨S1x2x2x8x1x1, .f32⟩
  | 80 => ⟨S2x2x8x1x1, .f32⟩
  | 81 => ⟨S2x2x8x64x128, .f32⟩
  | 82 => ⟨S2x2x8x64x128, .f32⟩
  | 83 => ⟨S2x2x8x64x128, .f32⟩
  | 84 => ⟨S1x2x2x8x64x128, .f32⟩
  | 85 => ⟨S1x2x2x8x64x128, .f32⟩
  | 86 => ⟨S1x2x2x8x64x128, .f32⟩
  | 87 => ⟨S1x2x2x8x64x128, .f32⟩
  | 88 => ⟨S1x2x2x8x64x128, .f32⟩
  | 89 => ⟨S1x2x2x8x64x128, .f32⟩
  | 90 => ⟨S1x2x2x8x64x128, .f32⟩
  | 91 => ⟨S1x2x2x8x64x128, .f32⟩
  | 92 => ⟨S1x2x2x8x64x128, .f32⟩
  | 93 => ⟨S1x2x2x8x64x128, .f32⟩
  | 94 => ⟨S1x2x2x8x64x128, .f32⟩
  | 95 => ⟨S1x2x2x8x64x128, .f32⟩
  | 96 => ⟨S1x2x2x8x64x128, .f32⟩
  | 97 => ⟨S1x2x2x8x64x128, .f32⟩
  | 98 => ⟨S1x2x2x8x64x128, .f32⟩
  | 99 => ⟨S1x2x2x8x64x128, .f32⟩
  | 100 => ⟨S16x2x2x8x64x128, .f32⟩
  | 101 => ⟨S16x2x2x8x64x128, .f32⟩
  | 102 => ⟨S2x16x2x8x64x128, .f32⟩
  | 103 => ⟨S2x16x2x8x64x128, .f32⟩
  | 104 => ⟨S2x16x128x2x8x64, .f32⟩
  | 105 => ⟨S2x16x2x8x128, .f32⟩
  | 106 => ⟨S2x16x128x2x8, .f32⟩
  | 107 => ⟨S2x16x128x2x8x1, .f32⟩
  | 108 => ⟨S2x16x128x2x8x64, .f32⟩
  | 109 => ⟨S2x16x128x2x8x64, .f32⟩
  | 110 => ⟨S2x16x128x2x8x64, .f32⟩
  | 111 => ⟨S2x2048x16x64, .f32⟩
  | 112 => ⟨S16x1, .f32⟩
  | 113 => ⟨S1x1x16x1, .f32⟩
  | 114 => ⟨S2x2048x16x64, .f32⟩
  | 115 => ⟨S2x2048x16x64, .f32⟩
  | 116 => ⟨S2x2048x16x64, .f32⟩
  | 117 => ⟨S2x2048x1024, .f32⟩
  | 118 => ⟨S2x2048x1024, .f32⟩
  | 119 => ⟨S2x2048x1024, .f32⟩
  | 120 => ⟨S_, .f32⟩
  | 121 => ⟨S2x2048x1024, .f32⟩
  | 122 => ⟨S2x2048x1024, .f32⟩
  | 123 => ⟨S_, .f32⟩
  | 124 => ⟨S2x2048x1024, .f32⟩
  | 125 => ⟨S2x2048x1024, .f32⟩
  | 126 => ⟨S_, .f32⟩
  | 127 => ⟨S2x2048x1024, .f32⟩
  | _ => ⟨S2x2048x1536, .f32⟩

abbrev hbmTy0_2 (i : Nat) : BufTy := match i % 128 with
  | 0 => ⟨S2x2048x1024, .f32⟩
  | 1 => ⟨S2x2048x1024, .f32⟩
  | 2 => ⟨S2x2048x1024, .f32⟩
  | 3 => ⟨S2x2048x1024, .f32⟩
  | 4 => ⟨S2x2048x2x512, .f32⟩
  | 5 => ⟨S2x512, .f32⟩
  | 6 => ⟨S2x2048x2x512, .f32⟩
  | 7 => ⟨S_, .f32⟩
  | 8 => ⟨S2x2048x2, .f32⟩
  | 9 => ⟨S2x2048x2x1, .f32⟩
  | 10 => ⟨S_, .f32⟩
  | 11 => ⟨S2x2048x2x1, .f32⟩
  | 12 => ⟨S2x2048x2x1, .f32⟩
  | 13 => ⟨S_, .f32⟩
  | 14 => ⟨S2x2048x2x1, .f32⟩
  | 15 => ⟨S2x2048x2x1, .f32⟩
  | 16 => ⟨S2x2048x2x1, .f32⟩
  | 17 => ⟨S2x2048x2x1, .f32⟩
  | 18 => ⟨S_, .f32⟩
  | 19 => ⟨S2x2048x2x1, .f32⟩
  | 20 => ⟨S2x2048x2x1, .f32⟩
  | 21 => ⟨S2x2048x2x512, .f32⟩
  | 22 => ⟨S2x2048x2x512, .f32⟩
  | 23 => ⟨S1x1x2x512, .f32⟩
  | 24 => ⟨S2x2048x2x512, .f32⟩
  | 25 => ⟨S2x2048x2x512, .f32⟩
  | 26 => ⟨S2x2048x1024, .f32⟩
  | 27 => ⟨S_, .f32⟩
  | 28 => ⟨S2x2x8x64x128, .f32⟩
  | 29 => ⟨S2x2048x2x512, .f32⟩
  | 30 => ⟨S2x2048x2x512, .f32⟩
  | 31 => ⟨S_, .f32⟩
  | 32 => ⟨S2x512, .f32⟩
  | 33 => ⟨S1x1x2x512, .f32⟩
  | 34 => ⟨S2x2048x2x512, .f32⟩
  | 35 => ⟨S2x2048x2x512, .f32⟩
  | 36 => ⟨S_, .f32⟩
  | 37 => ⟨S2x512, .f32⟩
  | 38 => ⟨S2x2048x2x512, .f32⟩
  | 39 => ⟨S_, .f32⟩
  | 40 => ⟨S2x2048x2, .f32⟩
  | 41 => ⟨S2x2048x2x1, .f32⟩
  | 42 => ⟨S2x2048x2x512, .f32⟩
  | 43 => ⟨S2x2048x2x512, .f32⟩
  | 44 => ⟨S2x2048x2x1, .f32⟩
  | 45 => ⟨S_, .f32⟩
  | 46 => ⟨S2x2048x2x1, .f32⟩
  | 47 => ⟨S2x2048x2x1, .f32⟩
  | 48 => ⟨S_, .f32⟩
  | 49 => ⟨S2x2048x2, .f32⟩
  | 50 => ⟨S2x2048x2x512, .f32⟩
  | 51 => ⟨S2x2048x2x512, .f32⟩
  | 52 => ⟨S2x2048x2x512, .f32⟩
  | 53 => ⟨S2x2048x2x512, .f32⟩
  | 54 => ⟨S2x2048x2x512, .f32⟩
  | 55 => ⟨S1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x16x64, .f32⟩
  | 64 => ⟨S2x2048x16x64, .f32⟩
  | 65 => ⟨S2x2048x16x64, .f32⟩
  | 66 => ⟨S2x16x128x2x8x64, .f32⟩
  | 67 => ⟨S2x16x128x2x8x64, .f32⟩
  | 68 => ⟨S2x16x128x2x8x64, .f32⟩
  | 69 => ⟨S2x16x2x8x64x128, .f32⟩
  | 70 => ⟨S2x16x2x128x128, .f32⟩
  | 71 => ⟨S2x16x128x2x128, .f32⟩
  | 72 => ⟨S2x16x2x8x64x128, .f32⟩
  | 73 => ⟨S16x2x2x8x64x128, .f32⟩
  | 74 => ⟨S_, .f32⟩
  | 75 => ⟨S2x2x8x64x128, .f32⟩
  | 76 => ⟨S16x2x2x8x64x128, .f32⟩
  | 77 => ⟨S0x2x2x8x64x128, .f32⟩
  | 78 => ⟨S16x2x2x8x1x1, .f32⟩
  | 79 => ⟨S0x2x2x8x1x1, .f32⟩
  | 80 => ⟨S_, .f32⟩
  | 81 => ⟨S0x2x2x8x64x128, .f32⟩
  | 82 => ⟨S1x2x2x8x64x128, .f32⟩
  | 83 => ⟨S2x2x8x64x128, .f32⟩
  | 84 => ⟨S1x2x2x8x1x1, .f32⟩
  | 85 => ⟨S2x2x8x1x1, .f32⟩
  | 86 => ⟨S2x2x8x64x128, .f32⟩
  | 87 => ⟨S2x2x8x64x128, .f32⟩
  | 88 => ⟨S2x2x8x64x128, .f32⟩
  | 89 => ⟨S1x2x2x8x64x128, .f32⟩
  | 90 => ⟨S2x2x8x64x128, .f32⟩
  | 91 => ⟨S1x2x2x8x1x1, .f32⟩
  | 92 => ⟨S2x2x8x1x1, .f32⟩
  | 93 => ⟨S2x2x8x64x128, .f32⟩
  | 94 => ⟨S2x2x8x64x128, .f32⟩
  | 95 => ⟨S2x2x8x64x128, .f32⟩
  | 96 => ⟨S1x2x2x8x64x128, .f32⟩
  | 97 => ⟨S2x2x8x64x128, .f32⟩
  | 98 => ⟨S1x2x2x8x1x1, .f32⟩
  | 99 => ⟨S2x2x8x1x1, .f32⟩
  | 100 => ⟨S2x2x8x64x128, .f32⟩
  | 101 => ⟨S2x2x8x64x128, .f32⟩
  | 102 => ⟨S2x2x8x64x128, .f32⟩
  | 103 => ⟨S1x2x2x8x64x128, .f32⟩
  | 104 => ⟨S2x2x8x64x128, .f32⟩
  | 105 => ⟨S1x2x2x8x1x1, .f32⟩
  | 106 => ⟨S2x2x8x1x1, .f32⟩
  | 107 => ⟨S2x2x8x64x128, .f32⟩
  | 108 => ⟨S2x2x8x64x128, .f32⟩
  | 109 => ⟨S2x2x8x64x128, .f32⟩
  | 110 => ⟨S1x2x2x8x64x128, .f32⟩
  | 111 => ⟨S2x2x8x64x128, .f32⟩
  | 112 => ⟨S1x2x2x8x1x1, .f32⟩
  | 113 => ⟨S2x2x8x1x1, .f32⟩
  | 114 => ⟨S2x2x8x64x128, .f32⟩
  | 115 => ⟨S2x2x8x64x128, .f32⟩
  | 116 => ⟨S2x2x8x64x128, .f32⟩
  | 117 => ⟨S1x2x2x8x64x128, .f32⟩
  | 118 => ⟨S2x2x8x64x128, .f32⟩
  | 119 => ⟨S1x2x2x8x1x1, .f32⟩
  | 120 => ⟨S2x2x8x1x1, .f32⟩
  | 121 => ⟨S2x2x8x64x128, .f32⟩
  | 122 => ⟨S2x2x8x64x128, .f32⟩
  | 123 => ⟨S2x2x8x64x128, .f32⟩
  | 124 => ⟨S1x2x2x8x64x128, .f32⟩
  | 125 => ⟨S2x2x8x64x128, .f32⟩
  | 126 => ⟨S1x2x2x8x1x1, .f32⟩
  | 127 => ⟨S2x2x8x1x1, .f32⟩
  | _ => ⟨S2x2048x1536, .f32⟩

abbrev hbmTy0_3 (i : Nat) : BufTy := match i % 128 with
  | 0 => ⟨S2x2x8x64x128, .f32⟩
  | 1 => ⟨S2x2x8x64x128, .f32⟩
  | 2 => ⟨S2x2x8x64x128, .f32⟩
  | 3 => ⟨S1x2x2x8x64x128, .f32⟩
  | 4 => ⟨S2x2x8x64x128, .f32⟩
  | 5 => ⟨S1x2x2x8x1x1, .f32⟩
  | 6 => ⟨S2x2x8x1x1, .f32⟩
  | 7 => ⟨S2x2x8x64x128, .f32⟩
  | 8 => ⟨S2x2x8x64x128, .f32⟩
  | 9 => ⟨S2x2x8x64x128, .f32⟩
  | 10 => ⟨S1x2x2x8x64x128, .f32⟩
  | 11 => ⟨S2x2x8x64x128, .f32⟩
  | 12 => ⟨S1x2x2x8x1x1, .f32⟩
  | 13 => ⟨S2x2x8x1x1, .f32⟩
  | 14 => ⟨S2x2x8x64x128, .f32⟩
  | 15 => ⟨S2x2x8x64x128, .f32⟩
  | 16 => ⟨S2x2x8x64x128, .f32⟩
  | 17 => ⟨S1x2x2x8x64x128, .f32⟩
  | 18 => ⟨S2x2x8x64x128, .f32⟩
  | 19 => ⟨S1x2x2x8x1x1, .f32⟩
  | 20 => ⟨S2x2x8x1x1, .f32⟩
  | 21 => ⟨S2x2x8x64x128, .f32⟩
  | 22 => ⟨S2x2x8x64x128, .f32⟩
  | 23 => ⟨S2x2x8x64x128, .f32⟩
  | 24 => ⟨S1x2x2x8x64x128, .f32⟩
  | 25 => ⟨S2x2x8x64x128, .f32⟩
  | 26 => ⟨S1x2x2x8x1x1, .f32⟩
  | 27 => ⟨S2x2x8x1x1, .f32⟩
  | 28 => ⟨S2x2x8x64x128, .f32⟩
  | 29 => ⟨S2x2x8x64x128, .f32⟩
  | 30 => ⟨S2x2x8x64x128, .f32⟩
  | 31 => ⟨S1x2x2x8x64x128, .f32⟩
  | 32 => ⟨S2x2x8x64x128, .f32⟩
  | 33 => ⟨S1x2x2x8x1x1, .f32⟩
  | 34 => ⟨S2x2x8x1x1, .f32⟩
  | 35 => ⟨S2x2x8x64x128, .f32⟩
  | 36 => ⟨S2x2x8x64x128, .f32⟩
  | 37 => ⟨S2x2x8x64x128, .f32⟩
  | 38 => ⟨S1x2x2x8x64x128, .f32⟩
  | 39 => ⟨S2x2x8x64x128, .f32⟩
  | 40 => ⟨S1x2x2x8x1x1, .f32⟩
  | 41 => ⟨S2x2x8x1x1, .f32⟩
  | 42 => ⟨S2x2x8x64x128, .f32⟩
  | 43 => ⟨S2x2x8x64x128, .f32⟩
  | 44 => ⟨S2x2x8x64x128, .f32⟩
  | 45 => ⟨S1x2x2x8x64x128, .f32⟩
  | 46 => ⟨S2x2x8x64x128, .f32⟩
  | 47 => ⟨S1x2x2x8x1x1, .f32⟩
  | 48 => ⟨S2x2x8x1x1, .f32⟩
  | 49 => ⟨S2x2x8x64x128, .f32⟩
  | 50 => ⟨S2x2x8x64x128, .f32⟩
  | 51 => ⟨S2x2x8x64x128, .f32⟩
  | 52 => ⟨S1x2x2x8x64x128, .f32⟩
  | 53 => ⟨S2x2x8x64x128, .f32⟩
  | 54 => ⟨S1x2x2x8x1x1, .f32⟩
  | 55 => ⟨S2x2x8x1x1, .f32⟩
  | 56 => ⟨S2x2x8x64x128, .f32⟩
  | 57 => ⟨S2x2x8x64x128, .f32⟩
  | 58 => ⟨S2x2x8x64x128, .f32⟩
  | 59 => ⟨S1x2x2x8x64x128, .f32⟩
  | 60 => ⟨S2x2x8x64x128, .f32⟩
  | 61 => ⟨S1x2x2x8x1x1, .f32⟩
  | 62 => ⟨S2x2x8x1x1, .f32⟩
  | 63 => ⟨S2x2x8x64x128, .f32⟩
  | 64 => ⟨S2x2x8x64x128, .f32⟩
  | 65 => ⟨S2x2x8x64x128, .f32⟩
  | 66 => ⟨S1x2x2x8x64x128, .f32⟩
  | 67 => ⟨S1x2x2x8x64x128, .f32⟩
  | 68 => ⟨S1x2x2x8x64x128, .f32⟩
  | 69 => ⟨S1x2x2x8x64x128, .f32⟩
  | 70 => ⟨S1x2x2x8x64x128, .f32⟩
  | 71 => ⟨S1x2x2x8x64x128, .f32⟩
  | 72 => ⟨S1x2x2x8x64x128, .f32⟩
  | 73 => ⟨S1x2x2x8x64x128, .f32⟩
  | 74 => ⟨S1x2x2x8x64x128, .f32⟩
  | 75 => ⟨S1x2x2x8x64x128, .f32⟩
  | 76 => ⟨S1x2x2x8x64x128, .f32⟩
  | 77 => ⟨S1x2x2x8x64x128, .f32⟩
  | 78 => ⟨S1x2x2x8x64x128, .f32⟩
  | 79 => ⟨S1x2x2x8x64x128, .f32⟩
  | 80 => ⟨S1x2x2x8x64x128, .f32⟩
  | 81 => ⟨S1x2x2x8x64x128, .f32⟩
  | 82 => ⟨S16x2x2x8x64x128, .f32⟩
  | 83 => ⟨S16x2x2x8x64x128, .f32⟩
  | 84 => ⟨S2x16x2x8x64x128, .f32⟩
  | 85 => ⟨S2x16x2x128x128, .f32⟩
  | 86 => ⟨S2x16x128x2x128, .f32⟩
  | 87 => ⟨S2x16x2x8x64x128, .f32⟩
  | 88 => ⟨S2x16x128x2x8x64, .f32⟩
  | 89 => ⟨S2x16x128x2x8x64, .f32⟩
  | 90 => ⟨S2x16x128x2x8x64, .f32⟩
  | 91 => ⟨S2x16x2x8x64x128, .f32⟩
  | 92 => ⟨S2x16x2x8x128x128, .f32⟩
  | 93 => ⟨S2x16x2x8x64x128, .f32⟩
  | 94 => ⟨S2x16x128x2x8x64, .f32⟩
  | 95 => ⟨S2x16x128x2x8x64, .f32⟩
  | 96 => ⟨S2x16x2x8x128x128, .f32⟩
  | 97 => ⟨S_, .f32⟩
  | 98 => ⟨S2x16x2x128x128, .f32⟩
  | 99 => ⟨S2x16x2x1x128x128, .f32⟩
  | 100 => ⟨S_, .f32⟩
  | 101 => ⟨S2x16x2x128x128, .f32⟩
  | 102 => ⟨S2x16x2x128x128, .f32⟩
  | 103 => ⟨S2x16x128x2x128, .f32⟩
  | 104 => ⟨S2x16x128x2x128, .f32⟩
  | 105 => ⟨S2x16x2x128x128, .f32⟩
  | 106 => ⟨S2x16x128x2x128, .f32⟩
  | 107 => ⟨S2x16x128x2x128, .f32⟩
  | 108 => ⟨S2x2048x2x128, .f32⟩
  | 109 => ⟨S2x2048x2x128, .f32⟩
  | 110 => ⟨S2x2048x16x64, .f32⟩
  | 111 => ⟨S2x2048x16x64, .f32⟩
  | 112 => ⟨S2x2048x16x64, .f32⟩
  | 113 => ⟨S2x2048x16x64, .f32⟩
  | 114 => ⟨S4096x1024, .f32⟩
  | 115 => ⟨S4096x256, .f32⟩
  | 116 => ⟨S4096x256, .f32⟩
  | 117 => ⟨S4096x1536, .f32⟩
  | 118 => ⟨S4096x3072, .f32⟩
  | 119 => ⟨S4096x1024, .f32⟩
  | 120 => ⟨S4096x1664, .f32⟩
  | 121 => ⟨S4096x5760, .f32⟩
  | 122 => ⟨S4096x5760, .bf16⟩
  | 123 => ⟨S1x1024, .f32⟩
  | _ => ⟨S2x2048x1536, .f32⟩

abbrev hbmTy (i : Nat) : BufTy := match i / 128 with
  | 0 => hbmTy0_0 i
  | 1 => hbmTy0_1 i
  | 2 => hbmTy0_2 i
  | 3 => hbmTy0_3 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_call0_cst : Ref sig .tc := ⟨.hbm, 46, rfl⟩
abbrev main_call1_call0_v0 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_0 : Ref sig .tc := ⟨.hbm, 57, rfl⟩
abbrev main_call2_v5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_0 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_1 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_cst_2 : Ref sig .tc := ⟨.hbm, 248, rfl⟩
abbrev main_v210 : Ref sig .tc := ⟨.hbm, 249, rfl⟩
abbrev main_v211 : Ref sig .tc := ⟨.hbm, 250, rfl⟩
abbrev main_cst_3 : Ref sig .tc := ⟨.hbm, 251, rfl⟩
abbrev main_v212 : Ref sig .tc := ⟨.hbm, 252, rfl⟩
abbrev main_v213 : Ref sig .tc := ⟨.hbm, 253, rfl⟩
abbrev main_cst_4 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_cst_5 : Ref sig .tc := ⟨.hbm, 263, rfl⟩
abbrev main_v222 : Ref sig .tc := ⟨.hbm, 264, rfl⟩
abbrev main_v223 : Ref sig .tc := ⟨.hbm, 265, rfl⟩
abbrev main_cst_6 : Ref sig .tc := ⟨.hbm, 266, rfl⟩
abbrev main_v224 : Ref sig .tc := ⟨.hbm, 267, rfl⟩
abbrev main_v225 : Ref sig .tc := ⟨.hbm, 268, rfl⟩
abbrev main_cst_7 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_cst_8 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_cst_9 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_cst_10 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_cst_11 : Ref sig .tc := ⟨.hbm, 292, rfl⟩
abbrev main_v245 : Ref sig .tc := ⟨.hbm, 293, rfl⟩
abbrev main_v246 : Ref sig .tc := ⟨.hbm, 294, rfl⟩
abbrev main_cst_12 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_cst_13 : Ref sig .tc := ⟨.hbm, 301, rfl⟩
abbrev main_v252 : Ref sig .tc := ⟨.hbm, 302, rfl⟩
abbrev main_v253 : Ref sig .tc := ⟨.hbm, 303, rfl⟩
abbrev main_cst_14 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_cst_15 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_cst_16 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_v308 : Ref sig .tc := ⟨.hbm, 361, rfl⟩
abbrev main_v309 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩
abbrev main_v314 : Ref sig .tc := ⟨.hbm, 367, rfl⟩
abbrev main_v315 : Ref sig .tc := ⟨.hbm, 368, rfl⟩
abbrev main_v316 : Ref sig .tc := ⟨.hbm, 369, rfl⟩
abbrev main_v317 : Ref sig .tc := ⟨.hbm, 370, rfl⟩
abbrev main_v318 : Ref sig .tc := ⟨.hbm, 371, rfl⟩
abbrev main_v319 : Ref sig .tc := ⟨.hbm, 372, rfl⟩
abbrev main_v320 : Ref sig .tc := ⟨.hbm, 373, rfl⟩
abbrev main_v321 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_v331 : Ref sig .tc := ⟨.hbm, 384, rfl⟩
abbrev main_v332 : Ref sig .tc := ⟨.hbm, 385, rfl⟩
abbrev main_v333 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_v373 : Ref sig .tc := ⟨.hbm, 426, rfl⟩
abbrev main_v374 : Ref sig .tc := ⟨.hbm, 427, rfl⟩
abbrev main_v375 : Ref sig .tc := ⟨.hbm, 428, rfl⟩
abbrev main_v376 : Ref sig .tc := ⟨.hbm, 429, rfl⟩
abbrev main_v377 : Ref sig .tc := ⟨.hbm, 430, rfl⟩
abbrev main_v378 : Ref sig .tc := ⟨.hbm, 431, rfl⟩
abbrev main_v379 : Ref sig .tc := ⟨.hbm, 432, rfl⟩
abbrev main_v380 : Ref sig .tc := ⟨.hbm, 433, rfl⟩
abbrev main_v381 : Ref sig .tc := ⟨.hbm, 434, rfl⟩
abbrev main_v382 : Ref sig .tc := ⟨.hbm, 435, rfl⟩
abbrev main_v383 : Ref sig .tc := ⟨.hbm, 436, rfl⟩
abbrev main_v384 : Ref sig .tc := ⟨.hbm, 437, rfl⟩
abbrev main_v385 : Ref sig .tc := ⟨.hbm, 438, rfl⟩
abbrev main_v386 : Ref sig .tc := ⟨.hbm, 439, rfl⟩
abbrev main_v387 : Ref sig .tc := ⟨.hbm, 440, rfl⟩
abbrev main_v388 : Ref sig .tc := ⟨.hbm, 441, rfl⟩
abbrev main_v389 : Ref sig .tc := ⟨.hbm, 442, rfl⟩
abbrev main_v390 : Ref sig .tc := ⟨.hbm, 443, rfl⟩
abbrev main_v391 : Ref sig .tc := ⟨.hbm, 444, rfl⟩
abbrev main_v392 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_v396 : Ref sig .tc := ⟨.hbm, 449, rfl⟩
abbrev main_v397 : Ref sig .tc := ⟨.hbm, 450, rfl⟩
abbrev main_v398 : Ref sig .tc := ⟨.hbm, 451, rfl⟩
abbrev main_v399 : Ref sig .tc := ⟨.hbm, 452, rfl⟩
abbrev main_v400 : Ref sig .tc := ⟨.hbm, 453, rfl⟩
abbrev main_v401 : Ref sig .tc := ⟨.hbm, 454, rfl⟩
abbrev main_v402 : Ref sig .tc := ⟨.hbm, 455, rfl⟩
abbrev main_v403 : Ref sig .tc := ⟨.hbm, 456, rfl⟩
abbrev main_v404 : Ref sig .tc := ⟨.hbm, 457, rfl⟩
abbrev main_v405 : Ref sig .tc := ⟨.hbm, 458, rfl⟩
abbrev main_v406 : Ref sig .tc := ⟨.hbm, 459, rfl⟩
abbrev main_v407 : Ref sig .tc := ⟨.hbm, 460, rfl⟩
abbrev main_v408 : Ref sig .tc := ⟨.hbm, 461, rfl⟩
abbrev main_v409 : Ref sig .tc := ⟨.hbm, 462, rfl⟩
abbrev main_v410 : Ref sig .tc := ⟨.hbm, 463, rfl⟩
abbrev main_v411 : Ref sig .tc := ⟨.hbm, 464, rfl⟩
abbrev main_v412 : Ref sig .tc := ⟨.hbm, 465, rfl⟩
abbrev main_v413 : Ref sig .tc := ⟨.hbm, 466, rfl⟩
abbrev main_v414 : Ref sig .tc := ⟨.hbm, 467, rfl⟩
abbrev main_v415 : Ref sig .tc := ⟨.hbm, 468, rfl⟩
abbrev main_v416 : Ref sig .tc := ⟨.hbm, 469, rfl⟩
abbrev main_v417 : Ref sig .tc := ⟨.hbm, 470, rfl⟩
abbrev main_v418 : Ref sig .tc := ⟨.hbm, 471, rfl⟩
abbrev main_v419 : Ref sig .tc := ⟨.hbm, 472, rfl⟩
abbrev main_v420 : Ref sig .tc := ⟨.hbm, 473, rfl⟩
abbrev main_v421 : Ref sig .tc := ⟨.hbm, 474, rfl⟩
abbrev main_v422 : Ref sig .tc := ⟨.hbm, 475, rfl⟩
abbrev main_v423 : Ref sig .tc := ⟨.hbm, 476, rfl⟩
abbrev main_v424 : Ref sig .tc := ⟨.hbm, 477, rfl⟩
abbrev main_v425 : Ref sig .tc := ⟨.hbm, 478, rfl⟩
abbrev main_v426 : Ref sig .tc := ⟨.hbm, 479, rfl⟩
abbrev main_v427 : Ref sig .tc := ⟨.hbm, 480, rfl⟩
abbrev main_cst_17 : Ref sig .tc := ⟨.hbm, 481, rfl⟩
abbrev main_v428 : Ref sig .tc := ⟨.hbm, 482, rfl⟩
abbrev main_v429 : Ref sig .tc := ⟨.hbm, 483, rfl⟩
abbrev main_cst_18 : Ref sig .tc := ⟨.hbm, 484, rfl⟩
abbrev main_v430 : Ref sig .tc := ⟨.hbm, 485, rfl⟩
abbrev main_v431 : Ref sig .tc := ⟨.hbm, 486, rfl⟩
abbrev main_v432 : Ref sig .tc := ⟨.hbm, 487, rfl⟩
abbrev main_v433 : Ref sig .tc := ⟨.hbm, 488, rfl⟩
abbrev main_v434 : Ref sig .tc := ⟨.hbm, 489, rfl⟩
abbrev main_v435 : Ref sig .tc := ⟨.hbm, 490, rfl⟩
abbrev main_v436 : Ref sig .tc := ⟨.hbm, 491, rfl⟩
abbrev main_v437 : Ref sig .tc := ⟨.hbm, 492, rfl⟩
abbrev main_v438 : Ref sig .tc := ⟨.hbm, 493, rfl⟩
abbrev main_v439 : Ref sig .tc := ⟨.hbm, 494, rfl⟩
abbrev main_v440 : Ref sig .tc := ⟨.hbm, 495, rfl⟩
abbrev main_v441 : Ref sig .tc := ⟨.hbm, 496, rfl⟩
abbrev main_v442 : Ref sig .tc := ⟨.hbm, 497, rfl⟩
abbrev main_v443 : Ref sig .tc := ⟨.hbm, 498, rfl⟩
abbrev main_v444 : Ref sig .tc := ⟨.hbm, 499, rfl⟩
abbrev main_v445 : Ref sig .tc := ⟨.hbm, 500, rfl⟩
abbrev main_v446 : Ref sig .tc := ⟨.hbm, 501, rfl⟩
abbrev main_v447 : Ref sig .tc := ⟨.hbm, 502, rfl⟩
abbrev main_v448 : Ref sig .tc := ⟨.hbm, 503, rfl⟩
abbrev main_v449 : Ref sig .tc := ⟨.hbm, 504, rfl⟩
abbrev main_v450 : Ref sig .tc := ⟨.hbm, 505, rfl⟩
abbrev main_v451 : Ref sig .tc := ⟨.hbm, 506, rfl⟩
abbrev main_v452 : Ref sig .tc := ⟨.hbm, 507, rfl⟩

abbrev nD : Nat := 1
abbrev τ : Topo := Topo.v7x

variable {F : FTy → Type} [FloatOps F]
-- ==== MlpKernel.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩
abbrev S1x1024x1024 : Shape := ⟨3, ![1, 1024, 1024]⟩

abbrev nBuf : Space → Nat
  | .hbm => 41
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .bf16⟩
  | .hbm, ⟨29, _⟩ => ⟨S1024x4x1024, .f32⟩
  | .hbm, ⟨30, _⟩ => ⟨S4x1024x1024, .f32⟩
  | .hbm, ⟨31, _⟩ => ⟨S4x1024x1024, .bf16⟩
  | .hbm, ⟨32, _⟩ => ⟨S1x1024, .f32⟩
  | .hbm, ⟨33, _⟩ => ⟨S4096x1024, .bf16⟩
  | .hbm, ⟨34, _⟩ => ⟨S4096x4096, .bf16⟩
  | .hbm, ⟨35, _⟩ => ⟨S1x1024, .f32⟩
  | .hbm, ⟨36, _⟩ => ⟨S4096x1024, .bf16⟩
  | .hbm, ⟨37, _⟩ => ⟨S4096x4096, .bf16⟩
  | .hbm, ⟨38, _⟩ => ⟨S4096x1024, .f32⟩
  | .hbm, ⟨39, _⟩ => ⟨S1x1024, .f32⟩
  | .hbm, ⟨40, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4096x1024, .bf16⟩
  | .local _ .vmem, ⟨6, _⟩ => ⟨S512x4096, .bf16⟩
  | .local _ .vmem, ⟨7, _⟩ => ⟨S512x4096, .bf16⟩
  | .local _ .vmem, ⟨8, _⟩ => ⟨S4x1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev main_v26_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v128 : BitVec 1 := Scalar.cmpi .eq arg0 c0_i32
  let v129 : BitVec 32 := Scalar.extui v128
  let c0_i32_69 : BitVec 32 := 0#32
  let v130 : BitVec 1 := Scalar.cmpi .ne v129 c0_i32_69
  v130

def k0_cond2 (i : grid0.Coords) : BitVec 1 :=
  let arg0 : BitVec 32 := BitVec.ofNat 32 (i 0).val
  let c0_i32 : BitVec 32 := 0#32
  let v128 : BitVec 1 := Scalar.cmpi .eq arg0 c0_i32
  let v_true : BitVec 1 := 1#1
  let v131 : BitVec 1 := Scalar.xori v128 v_true
  let v132 : BitVec 32 := Scalar.extui v131
  let c0_i32_70 : BitVec 32 := 0#32
  let v133 : BitVec 1 := Scalar.cmpi .ne v132 c0_i32_70
  v133

def k0_cond3 (i : grid0.Coords) : BitVec 1 :=
  let arg0 : BitVec 32 := BitVec.ofNat 32 (i 0).val
  let c0_i32_72 : BitVec 32 := 0#32
  let v136 : BitVec 1 := Scalar.cmpi .eq arg0 c0_i32_72
  let v137 : BitVec 32 := Scalar.extui v136
  let c0_i32_73 : BitVec 32 := 0#32
  let v138 : BitVec 1 := Scalar.cmpi .ne v137 c0_i32_73
  v138

def k0_cond4 (i : grid0.Coords) : BitVec 1 :=
  let arg0 : BitVec 32 := BitVec.ofNat 32 (i 0).val
  let c0_i32_72 : BitVec 32 := 0#32
  let v136 : BitVec 1 := Scalar.cmpi .eq arg0 c0_i32_72
  let true_74 : BitVec 1 := 1#1
  let v139 : BitVec 1 := Scalar.xori v136 true_74
  let v140 : BitVec 32 := Scalar.extui v139
  let c0_i32_75 : BitVec 32 := 0#32
  let v141 : BitVec 1 := Scalar.cmpi .ne v140 c0_i32_75
  v141

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MlpRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096x4096, .f32⟩
  | .hbm, ⟨91, _⟩ => ⟨S4096x4096, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1024, .f32⟩
  | .hbm, ⟨107, _⟩ => ⟨S4096x1, .f32⟩
  | .hbm, ⟨108, _⟩ => ⟨S_, .f32⟩
  | .hbm, ⟨109, _⟩ => ⟨S4096x1, .f32⟩
  | .hbm, ⟨110, _⟩ => ⟨S4096x1, .f32⟩
  | .hbm, ⟨111, _⟩ => ⟨S_, .f32⟩
  | .hbm, ⟨112, _⟩ => ⟨S4096, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .bf16⟩
  | .hbm, ⟨119, _⟩ => ⟨S4096x4096, .bf16⟩
  | .hbm, ⟨120, _⟩ => ⟨S4096x1024, .f32⟩
  | .hbm, ⟨121, _⟩ => ⟨S1x1024, .f32⟩
  | .hbm, ⟨122, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_19 : Ref sig .tc := ⟨.hbm, 108, rfl⟩
abbrev main_v80 : Ref sig .tc := ⟨.hbm, 109, rfl⟩
abbrev main_v81 : Ref sig .tc := ⟨.hbm, 110, rfl⟩
abbrev main_cst_20 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]
-- ==== OutKernel.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S4096x2048, .bf16⟩
  | .hbm, ⟨5, _⟩ => ⟨S2048x1024, .bf16⟩
  | .hbm, ⟨6, _⟩ => ⟨S1x1024, .f32⟩
  | .hbm, ⟨7, _⟩ => ⟨S4096x1024, .bf16⟩
  | .hbm, ⟨8, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FfKernel.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S1x1024, .f32⟩
  | .hbm, ⟨9, _⟩ => ⟨S4096x1024, .bf16⟩
  | .hbm, ⟨10, _⟩ => ⟨S1x1024, .f32⟩
  | .hbm, ⟨11, _⟩ => ⟨S4096x4096, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S4096x1024, .bf16⟩
  | .local _ .vmem, ⟨5, _⟩ => ⟨S1x1024, .f32⟩
  | .local _ .vmem, ⟨6, _⟩ => ⟨S512x4096, .bf16⟩
  | .local _ .vmem, ⟨7, _⟩ => ⟨S512x4096, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x4096, .bf16⟩
  | .hbm, ⟨28, _⟩ => ⟨S4096x1024, .bf16⟩
  | .hbm, ⟨29, _⟩ => ⟨S4096x1024, .bf16⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== DwKernel.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S4096x512 : Shape := ⟨2, ![4096, 512]⟩
abbrev S512x1024 : Shape := ⟨2, ![512, 1024]⟩
abbrev S512x4096 : Shape := ⟨2, ![512, 4096]⟩

abbrev nBuf : Space → Nat
  | .hbm => 25
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S4096x4096, .bf16⟩
  | .hbm, ⟨23, _⟩ => ⟨S4096x1024, .bf16⟩
  | .hbm, ⟨24, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S1024x4096, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== TnKernel.lean ====
abbrev S4096x1024 : Shape := ⟨2, ![4096, 1024]⟩
abbrev S1024 : Shape := ⟨1, ![1024]⟩
abbrev S1024x5648 : Shape := ⟨2, ![1024, 5648]⟩
abbrev S4096x5648 : Shape := ⟨2, ![4096, 5648]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x112 : Shape := ⟨2, ![4096, 112]⟩
abbrev S4096x5760 : Shape := ⟨2, ![4096, 5760]⟩
abbrev S1024x5760 : Shape := ⟨2, ![1024, 5760]⟩
abbrev S4096x1152 : Shape := ⟨2, ![4096, 1152]⟩
abbrev S1024x1152 : Shape := ⟨2, ![1024, 1152]⟩
abbrev S1024x4096 : Shape := ⟨2, ![1024, 4096]⟩

abbrev nBuf : Space → Nat
  | .hbm => 26
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5648, .f32⟩
  | .hbm, ⟨3, _⟩ => ⟨S4096x5648, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x112, .f32⟩
  | .hbm, ⟨22, _⟩ => ⟨S4096x5760, .f32⟩
  | .hbm, ⟨23, _⟩ => ⟨S4096x1024, .bf16⟩
  | .hbm, ⟨24, _⟩ => ⟨S4096x5760, .bf16⟩
  | .hbm, ⟨25, _⟩ => ⟨S1024x5760, .bf16⟩
  | .local _ .vmem, ⟨0, _⟩ => ⟨S4096x1024, .bf16⟩
  | .local _ .vmem, ⟨1, _⟩ => ⟨S4096x1152, .bf16⟩
  | .local _ .vmem, ⟨2, _⟩ => ⟨S4096x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TnRefIdeal.lean ====
abbrev S4096x1024 : Shape := ⟨2, ![4096, 1024]⟩
abbrev S1024 : Shape := ⟨1, ![1024]⟩
abbrev S1024x5648 : Shape := ⟨2, ![1024, 5648]⟩
abbrev S4096x5648 : Shape := ⟨2, ![4096, 5648]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5648x1024 : Shape := ⟨2, ![5648, 1024]⟩
abbrev S1024x112 : Shape := ⟨2, ![1024, 112]⟩
abbrev S1024x5760 : Shape := ⟨2, ![1024, 5760]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5648, .f32⟩
  | .hbm, ⟨3, _⟩ => ⟨S4096x5648, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5648, .f32⟩
  | .hbm, ⟨21, _⟩ => ⟨S5648x1024, .f32⟩
  | .hbm, ⟨22, _⟩ => ⟨S1024x5648, .f32⟩
  | .hbm, ⟨23, _⟩ => ⟨S_, .f32⟩
  | .hbm, ⟨24, _⟩ => ⟨S1024x112, .f32⟩
  | .hbm, ⟨25, _⟩ => ⟨S1024x5760, .f32⟩
  | .hbm, ⟨26, _⟩ => ⟨S1024x5760, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== AdamKernel.lean ====
abbrev S16x384 : Shape := ⟨2, ![16, 384]⟩

abbrev nBuf : Space → Nat
  | .hbm => 7
  | .vmem => 7
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S16x384, .f32⟩
  | .hbm, ⟨5, _⟩ => ⟨S16x384, .f32⟩
  | .hbm, ⟨6, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRefIdeal.lean ====
abbrev S16x384 : Shape := ⟨2, ![16, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S_, .f32⟩
  | .hbm, ⟨5, _⟩ => ⟨S16x384, .f32⟩
  | .hbm, ⟨6, _⟩ => ⟨S16x384, .f32⟩
  | .hbm, ⟨7, _⟩ => ⟨S_, .f32⟩
  | .hbm, ⟨8, _⟩ => ⟨S16x384, .f32⟩
  | .hbm, ⟨9, _⟩ => ⟨S16x384, .f32⟩
  | .hbm, ⟨10, _⟩ => ⟨S16x384, .f32⟩
  | .hbm, ⟨11, _⟩ => ⟨S_, .f32⟩
  | .hbm, ⟨12, _⟩ => ⟨S16x384, .f32⟩
  | .hbm, ⟨13, _⟩ => ⟨S16x384, .f32⟩
  | .hbm, ⟨14, _⟩ => ⟨S16x384, .f32⟩
  | .hbm, ⟨15, _⟩ => ⟨S_, .f32⟩
  | .hbm, ⟨16, _⟩ => ⟨S16x384, .f32⟩
  | .hbm, ⟨17, _⟩ => ⟨S16x384, .f32⟩
  | .hbm, ⟨18, _⟩ => ⟨S16x384, .f32⟩
  | .hbm, ⟨19, _⟩ => ⟨S_, .f32⟩
  | .hbm, ⟨20, _⟩ => ⟨S16x384, .f32⟩
  | .hbm, ⟨21, _⟩ => ⟨S16x384, .f32⟩
  | .hbm, ⟨22, _⟩ => ⟨S_, .f32⟩
  | .hbm, ⟨23, _⟩ => ⟨S16x384, .f32⟩
  | .hbm, ⟨24, _⟩ => ⟨S16x384, .f32⟩
  | .hbm, ⟨25, _⟩ => ⟨S16x384, .f32⟩
  | .hbm, ⟨26, _⟩ => ⟨S_, .f32⟩
  | .hbm, ⟨27, _⟩ => ⟨S16x384, .f32⟩
  | .hbm, ⟨28, _⟩ => ⟨S16x384, .f32⟩
  | .hbm, ⟨29, _⟩ => ⟨S16x384, .f32⟩
  | .hbm, ⟨30, _⟩ => ⟨S_, .f32⟩
  | .hbm, ⟨31, _⟩ => ⟨S16x384, .f32⟩
  | .hbm, ⟨32, _⟩ => ⟨S16x384, .f32⟩
  | .hbm, ⟨33, _⟩ => ⟨S16x384, .f32⟩
  | .hbm, ⟨34, _⟩ => ⟨S_, .f32⟩
  | .hbm, ⟨35, _⟩ => ⟨S16x384, .f32⟩
  | .hbm, ⟨36, _⟩ => ⟨S16x384, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumKernel.lean ====
abbrev S8x160x1024 : Shape := ⟨3, ![8, 160, 1024]⟩
abbrev S160x1024 : Shape := ⟨2, ![160, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x160x1024, .f32⟩
  | .hbm, ⟨1, _⟩ => ⟨S160x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRefIdeal.lean ====
abbrev S8x160x1024 : Shape := ⟨3, ![8, 160, 1024]⟩
abbrev S_ : Shape := ⟨0, ![]⟩
abbrev S160x1024 : Shape := ⟨2, ![160, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x160x1024, .f32⟩
  | .hbm, ⟨1, _⟩ => ⟨S_, .f32⟩
  | .hbm, ⟨2, _⟩ => ⟨S160x1024, .f32⟩
  | _, _ => ⟨S8x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AsmKernel.lean ====
abbrev S4x1024x1412 : Shape := ⟨3, ![4, 1024, 1412]⟩
abbrev S1024x5760 : Shape := ⟨2, ![1024, 5760]⟩
abbrev S4x256x1412 : Shape := ⟨3, ![4, 256, 1412]⟩
abbrev S256x5760 : Shape := ⟨2, ![256, 5760]⟩
abbrev S1x256x1412 : Shape := ⟨3, ![1, 256, 1412]⟩
abbrev S256x1412 : Shape := ⟨2, ![256, 1412]⟩
abbrev S256x112 : Shape := ⟨2, ![256, 112]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x1412, .f32⟩
  | .hbm, ⟨1, _⟩ => ⟨S4x1024x1412, .bf16⟩
  | .hbm, ⟨2, _⟩ => ⟨S1024x5760, .bf16⟩
  | .local _ .vmem, ⟨0, _⟩ => ⟨S4x256x1412, .bf16⟩
  | .local _ .vmem, ⟨1, _⟩ => ⟨S4x256x1412, .bf16⟩
  | .local _ .vmem, ⟨2, _⟩ => ⟨S256x5760, .bf16⟩
  | .local _ .vmem, ⟨3, _⟩ => ⟨S256x5760, .bf16⟩
  | _, _ => ⟨S4x1024x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1412 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5760 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== AsmRefIdeal.lean ====
abbrev S4x1024x1412 : Shape := ⟨3, ![4, 1024, 1412]⟩
abbrev S1024x4x1412 : Shape := ⟨3, ![1024, 4, 1412]⟩
abbrev S1024x5648 : Shape := ⟨2, ![1024, 5648]⟩
abbrev S_ : Shape := ⟨0, ![]⟩
abbrev S1024x112 : Shape := ⟨2, ![1024, 112]⟩
abbrev S1024x5760 : Shape := ⟨2, ![1024, 5760]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x1412, .f32⟩
  | .hbm, ⟨1, _⟩ => ⟨S1024x4x1412, .f32⟩
  | .hbm, ⟨2, _⟩ => ⟨S1024x5648, .f32⟩
  | .hbm, ⟨3, _⟩ => ⟨S_, .f32⟩
  | .hbm, ⟨4, _⟩ => ⟨S1024x112, .f32⟩
  | .hbm, ⟨5, _⟩ => ⟨S1024x5760, .f32⟩
  | .hbm, ⟨6, _⟩ => ⟨S1024x5760, .bf16⟩
  | _, _ => ⟨S4x1024x1412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.LossBlock.lean ====
/- What one grid point of the loss head leaves in its two staging buffers, as terms of the two input blocks and of
   what the buffer of the running total held before. -/
module

public import proofs.«01_k».proof.Proof.Gen.LossKernelIdeal.Value
public import Idealize.ShloMosaic.Lib.ValueIdx
public import Idealize.ShloMosaic.PureOps.Ideal.Laws
public import Idealize.ShloMosaic.Lib.Pointwise

@[expose] public section

set_option maxRecDepth 16384

noncomputable section

namespace Cert.LossKernelIdeal.Block

open Cert.LossKernelIdeal Cert.LossKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem off_zero : (![0, 0] : Fin 2 → Nat) = fun _ => 0 := funext fun a => by fin_cases a <;> rfl

/-- At the first point the total's buffer ends holding the block's own part. -/
theorem first_total (c : Dev nD) (t : Fin cfg0.N) (h0 : t.val % 8 = 0) (h1 : ¬1 ≤ t.val) :
    (outsAt0 m c t.val t.isLt).1 = k0_pay3 (iblk m c 0 t) (iblk m c 1 t) := by
  rw [outsAt0_A m c t h0 h1]
  dsimp only
  unfold out0_A_2
  rw [View.read_writes_eq_canon _ _ _ (fun y => cover0_A_2 (y := y) ..)]
  unfold kernelRun0_A
  dsimp only
  sl_unfold_words
  rw [View.canon_unit_zero off_zero]
  simp only [View.readAt_eq_ld, (hs0_0 t).read_unread, (hs0_1 t).read_unread, View.ld_unit_zero (S := S512x1024) off_zero]

/-- At a later point it ends holding what it held plus the block's part. -/
theorem later_total (c : Dev nD) (t : Fin cfg0.N) (h0 : ¬t.val % 8 = 0) (h1 : 1 ≤ t.val) :
    (outsAt0 m c t.val t.isLt).1 = k0_pay4 (iblk m c 0 t) (iblk m c 1 t)
      (outsAt0 m c (t.val - 1) (Nat.lt_of_le_of_lt (Nat.sub_le _ _) t.isLt)).1 := by
  rw [outsAt0_B m c t h0 h1]
  dsimp only
  unfold out0_B_2
  rw [View.read_writes_eq_canon _ _ _ (fun y => cover0_B_2 (y := y) ..)]
  unfold kernelRun0_B
  dsimp only
  sl_unfold_words
  rw [View.canon_unit_zero off_zero]
  simp only [View.readAt_eq_ld, (hs0_0 t).read_unread, (hs0_1 t).read_unread, (hs0_2 t).read_unread,
    View.ld_unit_zero (S := S512x1024) off_zero, View.ld_unit_zero (S := S8x128) off_zero]

/-- The gradient's buffer ends holding the scaled difference of the two blocks, whichever point it is. -/
theorem grad_block (c : Dev nD) (t : Fin cfg0.N) :
    (outsAt0 m c t.val t.isLt).2 = k0_pay2 (iblk m c 0 t) (iblk m c 1 t) := by
  have hN : cfg0.N = 8 := N_0
  have ht := t.isLt
  by_cases h : 1 ≤ t.val
  · rw [outsAt0_B m c t (by omega) h]
    dsimp only
    unfold out0_B_3
    rw [View.read_writes_eq_canon _ _ _ (fun y => cover0_B_3 (y := y) ..)]
    unfold kernelRun0_B
    dsimp only
    sl_unfold_words
    rw [View.canon_unit_zero off_zero]
    simp only [View.readAt_eq_ld, (hs0_0 t).read_unread, (hs0_1 t).read_unread, View.ld_unit_zero (S := S512x1024) off_zero]
  · rw [outsAt0_A m c t (by omega) h]
    dsimp only
    unfold out0_A_3
    rw [View.read_writes_eq_canon _ _ _ (fun y => cover0_A_3 (y := y) ..)]
    unfold kernelRun0_A
    dsimp only
    sl_unfold_words
    rw [View.canon_unit_zero off_zero]
    simp only [View.readAt_eq_ld, (hs0_0 t).read_unread, (hs0_1 t).read_unread, View.ld_unit_zero (S := S512x1024) off_zero]

/-- Block `t` of the first argument starts at row `512 t`. -/
theorem blk_y (c : Dev nD) (t : Fin cfg0.N) (p : Fin 512) (q : Fin 1024) (r : Fin 4096) (hr : r.val = 512 * t.val + p.val) :
    (iblk m c 0 t : Vec F S512x1024 .f32) (ix2 p q) = m ((c.tc : Thread nD τ).loc main_arg0) (ix2 r q) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * p.val = r.val; rw [(hi t).1]; omega
  | ⟨1, _⟩ => show win0_0.index t 1 * 1024 + 1 * q.val = q.val; rw [(hi t).2]; omega

/-- Block `t` of the second argument likewise. -/
theorem blk_target (c : Dev nD) (t : Fin cfg0.N) (p : Fin 512) (q : Fin 1024) (r : Fin 4096) (hr : r.val = 512 * t.val + p.val) :
    (iblk m c 1 t : Vec F S512x1024 .f32) (ix2 p q) = m ((c.tc : Thread nD τ).loc main_arg1) (ix2 r q) := by
  have hi : ∀ t : Fin cfg0.N, win0_1.index t 0 = t.val ∧ win0_1.index t 1 = 0 :=
    (by decide +kernel : ∀ t : Fin grid0.N, win0_1.index t 0 = t.val ∧ win0_1.index t 1 = 0)
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * p.val = r.val; rw [(hi t).1]; omega
  | ⟨1, _⟩ => show win0_1.index t 1 * 1024 + 1 * q.val = q.val; rw [(hi t).2]; omega

end Cert.LossKernelIdeal.Block

end
-- ==== Proof.ERealSums.lean ====
/- Sums of extended reals: a constant factor that is a nonnegative real moves through a finite sum, and a sum over
   `a * b` rows is the sum over `a` blocks of `b` rows. -/
module

public import Idealize.ShloMosaic.PureOps.Ideal.Laws
public import Idealize.ShloMosaic.Lib.ValueIdx

@[expose] public section

noncomputable section

namespace ERealSums

/-- A nonnegative real factor distributes over any finite sum of extended reals. -/
theorem coe_mul_sum {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- Rows `0 … a*b-1` summed are the `a` blocks of `b` rows summed. -/
theorem sum_blocks {M : Type*} [AddCommMonoid M] (a b : ℕ) (f : ℕ → M) :
    ∑ r : Fin (a * b), f r.val = ∑ t : Fin a, ∑ p : Fin b, f (b * t.val + p.val) := by
  rw [← (finProdFinEquiv (m := a) (n := b)).sum_comp, Fintype.sum_prod_type]
  refine Finset.sum_congr rfl fun t _ => Finset.sum_congr rfl fun p _ => ?_
  rw [finProdFinEquiv_apply_val, Nat.add_comm]

end ERealSums

end
-- ==== Proof.LossArray.lean ====
/- What the loss head's two result arrays end holding, over the extended reals, as sums over the arguments' entries. -/
module

public import proofs.«01_k».proof.Proof.LossBlock
public import proofs.«01_k».proof.Proof.ERealSums
public import Idealize.ShloMosaic.Lib.Pipeline.ValueKit
public import Idealize.ShloMosaic.Lib.Pointwise

@[expose] public section

set_option maxRecDepth 16384

noncomputable section

namespace Cert.LossKernelIdeal.Array

open Cert.LossKernelIdeal Cert.LossKernelIdeal.Gen Cert.LossKernelIdeal.Block Idealize.ShloMosaic Idealize.ShloMosaic.TcCoe Idealize.SL.Sem
open Idealize.ShloMosaic.Pipeline (Dat)

/-- The square of the difference at row `r`, column `q`; zero beyond the last row. -/
def sq (y z : Vec Ideal S4096x1024 .f32) (r : ℕ) (q : Fin 1024) : EReal :=
  if h : r < 4096 then (y (ix2 ⟨r, h⟩ q) - z (ix2 ⟨r, h⟩ q)) * (y (ix2 ⟨r, h⟩ q) - z (ix2 ⟨r, h⟩ q)) else 0

/-- The word `0x3A000000` is the real `1 / 2048`. -/
theorem half_over_width : Ideal.ofBits .f32 0x3A000000#32 = ((1 / 2048 : ℝ) : EReal) := by
  simp [Ideal.ofBits, Ideal.ieee, -EReal.coe_mul]; norm_num

/-- The word `0x3A800000` is the real `1 / 1024`. -/
theorem one_over_width : Ideal.ofBits .f32 0x3A800000#32 = ((1 / 1024 : ℝ) : EReal) := by
  simp [Ideal.ofBits, Ideal.ieee, -EReal.coe_mul]; norm_num

theorem zero_word : Ideal.ofBits .f32 0x00000000#32 = 0 := by simp [Ideal.ofBits, Ideal.ieee]

/-- Reordering a tensor's entries by a shape cast keeps the sum of all entries. -/
theorem sum_shapeCast {s t : Shape} (v : s.Idx → EReal) (h : s.ShapeCasts t) : ∑ i, shapeCast t v h i = ∑ j, v j := by
  unfold shapeCast
  exact Equiv.sum_comp _ v

/-- A block's part of the total: the scaled sum of its squares, in every cell. -/
theorem part_apply (x0 x1 : Vec Ideal S512x1024 .f32) (i : S8x128.Idx) :
    k0_pay3 x0 x1 i = ((1 / 2048 : ℝ) : EReal) *
      ∑ p : Fin 512, ∑ q : Fin 1024, (x0 (ix2 p q) - x1 (ix2 p q)) * (x0 (ix2 p q) - x1 (ix2 p q)) := by
  unfold k0_pay3
  show Ideal.ofBits .f32 0x00000000#32 + Ideal.ofBits .f32 0x3A000000#32 * _ = _
  rw [zero_word, zero_add, half_over_width]
  congr 1
  unfold extractAt
  rw [shapeCast_apply _ _ _ (ix1 (0 : Fin 1)) (by decide)]
  refine (Ideal.multiReduction_add_total _ _ reduces_S1x512x1024_S1 (by decide) _ _ _).trans ?_
  refine (sum_shapeCast _ _).trans ?_
  exact sum_idx2 _

/-- The running total after point `n`: the parts of the points so far. -/
theorem total_upto (m : (ℓ : Loc nD τ sig) → Buf (Elt Ideal) ℓ) (c : Dev nD) (i : S8x128.Idx) :
    ∀ (n : ℕ) (h : n < cfg0.N), (outsAt0 m c n h).1 i = ((1 / 2048 : ℝ) : EReal) * ∑ t : Fin (n + 1), ∑ p : Fin 512, ∑ q : Fin 1024,
      sq (m ((c.tc : Thread nD τ).loc main_arg0)) (m ((c.tc : Thread nD τ).loc main_arg1)) (512 * t.val + p.val) q := by
  have hN : cfg0.N = 8 := N_0
  have part : ∀ t : Fin cfg0.N, k0_pay3 (iblk m c 0 t) (iblk m c 1 t) i = ((1 / 2048 : ℝ) : EReal) *
      ∑ p : Fin 512, ∑ q : Fin 1024, sq (m ((c.tc : Thread nD τ).loc main_arg0)) (m ((c.tc : Thread nD τ).loc main_arg1))
        (512 * t.val + p.val) q := by
    intro t
    have ht := t.isLt
    rw [part_apply]
    refine congrArg _ (Finset.sum_congr rfl fun p _ => Finset.sum_congr rfl fun q _ => ?_)
    have hr : 512 * t.val + p.val < 4096 := by omega
    rw [blk_y m c t p q ⟨_, hr⟩ rfl, blk_target m c t p q ⟨_, hr⟩ rfl, sq, dif_pos hr]
  intro n
  induction n with
  | zero =>
    intro h
    rw [first_total m c ⟨0, h⟩ rfl (by simp), part ⟨0, h⟩]
    simp
  | succ n ih =>
    intro h
    have e := later_total m c ⟨n + 1, h⟩ (by dsimp only; omega) (by simp)
    rw [show (outsAt0 m c (n + 1) h).1 = _ from e]
    unfold k0_pay4
    rw [shapeCast_self]
    show (outsAt0 m c (n + 1 - 1) _).1 i + k0_pay3 (iblk m c 0 ⟨n + 1, h⟩) (iblk m c 1 ⟨n + 1, h⟩) i = _
    rw [part ⟨n + 1, h⟩, Fin.sum_univ_castSucc (n := n + 1), EReal.left_distrib_of_nonneg_of_ne_top (by positivity) (EReal.coe_ne_top _)]
    exact congrArg (· + _) (ih (Nat.lt_of_succ_lt h))

/-- The total's array: in every cell the scaled sum of all squares. -/
def total (y z : Vec Ideal S4096x1024 .f32) : Vec Ideal S8x128 .f32 := fun _ =>
  ((1 / 2048 : ℝ) : EReal) * ∑ t : Fin 8, ∑ p : Fin 512, ∑ q : Fin 1024, sq y z (512 * t.val + p.val) q

/-- The gradient's array: the difference over the width. -/
def grad (y z : Vec Ideal S4096x1024 .f32) : Vec Ideal S4096x1024 .f32 := fun i => (y i - z i) * ((1 / 1024 : ℝ) : EReal)

variable (m : (ℓ : Loc nD τ sig) → Buf (Elt Ideal) ℓ)

theorem total_array (c : Dev nD) : (dats m 0 c).arrAt 2 cfg0.N
    = total (m ((c.tc : Thread nD τ).loc main_arg0)) (m ((c.tc : Thread nD τ).loc main_arg1)) := by
  have hN : cfg0.N = 8 := N_0
  refine (dats m 0 c).arrAt_eq_of_covers 2 _ (by decide +kernel) fun t hf y => ?_
  have h7 : t.val = 7 := by
    have := (flush0_2 t).mp hf
    have := lt_of_lt_of_eq t.isLt hN
    omega
  blk_simp
  rw [after0_2, total_upto m c _ t.val t.isLt]
  obtain ⟨v, hv⟩ := t
  subst h7
  rfl

theorem grad_array (c : Dev nD) : (dats m 0 c).arrAt 3 cfg0.N
    = grad (m ((c.tc : Thread nD τ).loc main_arg0)) (m ((c.tc : Thread nD τ).loc main_arg1)) := by
  have hN : cfg0.N = 8 := N_0
  have hi : ∀ t : Fin cfg0.N, win0_3.index t = ![t.val, 0] ∧ win0_0.index t = ![t.val, 0] ∧ win0_1.index t = ![t.val, 0] :=
    (by decide +kernel : ∀ t : Fin grid0.N, win0_3.index t = ![t.val, 0] ∧ win0_0.index t = ![t.val, 0] ∧ win0_1.index t = ![t.val, 0])
  refine (dats m 0 c).arrAt_eq_of_covers 3 _ (by decide +kernel) fun t hf y => ?_
  have ht := lt_of_lt_of_eq t.isLt hN
  blk_simp
  rw [after0_3, grad_block]
  pointwise [k0_pay2, k0_pay1, grad, one_over_width]
  blk_point [iblk, V, (hi t).1, (hi t).2.1, (hi t).2.2]

end Cert.LossKernelIdeal.Array

end
-- ==== Proof.LossEquation.lean ====
/- What the plain loss and its gradient are, entry by entry, and that the loss head's arrays are the same. -/
module

public import proofs.«01_k».proof.Proof.LossArray
public import proofs.«01_k».proof.Proof.Gen.LossRefIdeal.Read

@[expose] public section

set_option maxRecDepth 16384

noncomputable section

namespace Cert.LossRefIdeal.Equation

open Cert.LossRefIdeal Cert.LossRefIdeal.Read Idealize.ShloMosaic

theorem half_word : Ideal.ofBits .f32 0x3F000000#32 = ((1 / 2 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem width_word : Ideal.ofBits .f32 0x44800000#32 = ((1024 : ℝ) : EReal) := by
  simp [Ideal.ofBits, Ideal.ieee, -EReal.coe_mul]; norm_num

/-- The reference's gradient is the difference over the width. -/
theorem grad_eq (y z : Vec Ideal ⟨2, ![4096, 1024]⟩ .f32) :
    val_main_v15 (F := Ideal) y z = Cert.LossKernelIdeal.Array.grad y z := by
  funext i
  pointwise [val_main_v15, val_main_v14, val_main_v13, val_main_v12, val_main_v11, val_main_v10, val_main_v3, val_main_v2,
    val_main_v0, val_main_cst, val_main_cst_4, val_main_cst_5, val_main_cst_6, Cert.LossKernelIdeal.Array.grad]
  rw [half_word, two_word, width_word, Ideal.div_coe (by norm_num)]
  rw [← EReal.coe_mul, ← mul_assoc, ← EReal.coe_mul, mul_comm]
  norm_num

/-- The reference's loss, spread over the tile, is the scaled sum of all squares. -/
theorem total_eq (y z : Vec Ideal ⟨2, ![4096, 1024]⟩ .f32) :
    val_main_v9 (F := Ideal) y z = Cert.LossKernelIdeal.Array.total y z := by
  funext i
  pointwise [val_main_v9, val_main_v8, val_main_v7, val_main_v6, val_main_v5, val_main_v4, val_main_v1,
    val_main_v0, val_main_cst_0, val_main_cst_1, val_main_cst_2, val_main_cst_3, Cert.LossKernelIdeal.Array.total]
  simp only [half_word, width_word, Ideal.div_coe (show (1024 : ℝ) ≠ 0 by norm_num)]
  rw [← ERealSums.sum_blocks 8 512 fun r => ∑ q : Fin 1024, Cert.LossKernelIdeal.Array.sq y z r q,
    ERealSums.coe_mul_sum _ _ (by norm_num), ERealSums.coe_mul_sum _ _ (by norm_num)]
  refine Finset.sum_congr rfl fun (r : Fin 4096) _ => ?_
  rw [mul_comm, mul_assoc, ← EReal.coe_mul, mul_comm]
  refine congr (congrArg _ (by norm_num)) (Finset.sum_congr rfl fun q _ => ?_)
  rw [Cert.LossKernelIdeal.Array.sq, dif_pos r.isLt]

end Cert.LossRefIdeal.Equation

end
-- ==== Proof.RowNorm.lean ====
/- The gradient of a root-mean-square norm along one row of 1024 entries, over the extended reals: the closed form a
   backward kernel writes by hand and the sum the chain rule gives are one value where the row and the scaled cotangent are finite. -/
module

public import Idealize.ShloMosaic.PureOps.Ideal.Laws
public import Idealize.ShloMosaic.Lib.Pointwise

@[expose] public section

noncomputable section

namespace RowNorm

open Idealize.ShloMosaic

/-- An extended real that is a real number. -/
def Real' (x : EReal) : Prop := ∃ r : ℝ, x = (r : EReal)

theorem Real'.mul {x y : EReal} (hx : Real' x) (hy : Real' y) : Real' (x * y) := by
  obtain ⟨r, rfl⟩ := hx
  obtain ⟨s, rfl⟩ := hy
  exact ⟨r * s, (EReal.coe_mul r s).symm⟩

theorem Real'.add {x y : EReal} (hx : Real' x) (hy : Real' y) : Real' (x + y) := by
  obtain ⟨r, rfl⟩ := hx
  obtain ⟨s, rfl⟩ := hy
  exact ⟨r + s, (EReal.coe_add r s).symm⟩

/-- The embedding of the reals carries finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real'.sum {ι : Type*} (s : Finset ι) (f : ι → EReal) (h : ∀ i, Real' (f i)) : Real' (∑ i ∈ s, f i) := by
  choose g hg using h
  exact ⟨∑ i ∈ s, g i, by rw [coe_sum]; exact Finset.sum_congr rfl fun i _ => hg i⟩

/-- `|x| < ⊤` leaves the real numbers. -/
theorem real_of_abs_lt (x : EReal) (h : max x (-x) < ⊤) : Real' x := by
  induction x using EReal.rec with
  | bot => simp at h
  | top => simp at h
  | coe r => exact ⟨r, rfl⟩

/-- What the precondition tests: an entry's absolute value is below the infinite word. -/
theorem real_of_test {x : EReal} (h : Ideal.cmp .olt (max x (-x)) (Ideal.ofBits .f32 0x7F800000#32) = 1#1) : Real' x := by
  refine real_of_abs_lt x ?_
  have ht : Ideal.ofBits .f32 0x7F800000#32 = (⊤ : EReal) := by simp [Ideal.ofBits, Ideal.ieee]
  rw [ht] at h
  by_contra hn
  have h' : BitVec.ofBool (decide (max x (-x) < (⊤ : EReal))) = 1#1 := h
  rw [decide_eq_false hn] at h'
  exact absurd h' (by decide)

theorem width_word : Ideal.ofBits .f32 0x44800000#32 = ((1024 : ℝ) : EReal) := by
  simp [Ideal.ofBits, Ideal.ieee, -EReal.coe_mul]; norm_num

/-- The norm's small constant is a positive real. -/
theorem eps_word : ∃ e : ℝ, 0 < e ∧ Ideal.ofBits .f32 0x358637BD#32 = (e : EReal) := by
  refine ⟨_, ?_, by simp [Ideal.ofBits, Ideal.ieee, -EReal.coe_mul]; rfl⟩
  norm_num

theorem minus_half_word : Ideal.ofBits .f32 0xBF000000#32 = ((-1 / 2 : ℝ) : EReal) := by
  simp [Ideal.ofBits, Ideal.ieee, -EReal.coe_mul]; norm_num

/-- The row's mean square, and the small constant. -/
def msq (x : Fin 1024 → EReal) : EReal :=
  Ideal.div (∑ j, x j * x j) (Ideal.ofBits .f32 0x44800000#32) + Ideal.ofBits .f32 0x358637BD#32

/-- The gradient with the norm's factor taken out. -/
def byHand (x u : Fin 1024 → EReal) (q : Fin 1024) : EReal :=
  Ideal.rsqrt (msq x) * (u q - x q * Ideal.rsqrt (msq x) *
    Ideal.div (∑ j, x j * Ideal.rsqrt (msq x) * u j) (Ideal.ofBits .f32 0x44800000#32))

/-- The part of the gradient that goes through the mean square, per unit of the entry. -/
def through (x u : Fin 1024 → EReal) : EReal :=
  Ideal.div ((∑ j, x j * u j) * (Ideal.ofBits .f32 0xBF000000#32 * Ideal.div (Ideal.rsqrt (msq x)) (msq x)))
    (Ideal.ofBits .f32 0x44800000#32)

/-- The gradient as the chain rule adds it up. -/
def byRule (x u : Fin 1024 → EReal) (q : Fin 1024) : EReal :=
  u q * Ideal.rsqrt (msq x) + x q * through x u + through x u * x q

/-- The mean square of a finite row is a positive real, and so is its reciprocal root. -/
theorem msq_coe (X : Fin 1024 → ℝ) : ∃ v r : ℝ, 0 < v ∧ r * r * v = 1 ∧ msq (fun j => (X j : EReal)) = (v : EReal)
    ∧ Ideal.rsqrt (v : EReal) = (r : EReal) := by
  obtain ⟨e, he, hw⟩ := eps_word
  have h0 : 0 ≤ ∑ j, X j * X j := Finset.sum_nonneg fun j _ => mul_self_nonneg _
  have hv : 0 < (∑ j, X j * X j) * (1 / 1024) + e := by positivity
  refine ⟨(∑ j, X j * X j) * (1 / 1024) + e, (Real.sqrt ((∑ j, X j * X j) * (1 / 1024) + e))⁻¹, hv, ?_, ?_, ?_⟩
  · rw [← mul_inv, Real.mul_self_sqrt hv.le, inv_mul_cancel₀ hv.ne']
  · unfold msq
    rw [hw, width_word, Ideal.div_coe (by norm_num), EReal.coe_add, EReal.coe_mul, coe_sum]
    simp only [EReal.coe_mul]
  · rw [Ideal.rsqrt_coe, if_neg hv.not_gt, if_neg hv.ne']

theorem rsqrt_real (x : Fin 1024 → EReal) (hx : ∀ j, Real' (x j)) : Real' (Ideal.rsqrt (msq x)) := by
  choose X hX using hx
  obtain rfl : x = fun j => (X j : EReal) := funext hX
  obtain ⟨v, r, -, -, hv, hr⟩ := msq_coe X
  exact ⟨r, by rw [hv, hr]⟩

theorem byHand_eq_byRule (x u : Fin 1024 → EReal) (hx : ∀ j, Real' (x j)) (hu : ∀ j, Real' (u j)) (q : Fin 1024) :
    byHand x u q = byRule x u q := by
  choose X hX using hx
  choose U hU using hu
  obtain rfl : x = fun j => (X j : EReal) := funext hX
  obtain rfl : u = fun j => (U j : EReal) := funext hU
  obtain ⟨v, r, hv0, hrv, hv, hr⟩ := msq_coe X
  unfold byHand byRule through
  simp only [hv, hr, width_word, minus_half_word, Ideal.div_coe (show (1024 : ℝ) ≠ 0 by norm_num), Ideal.div_coe hv0.ne',
    ← EReal.coe_mul, ← coe_sum, ← EReal.coe_sub, ← EReal.coe_add]
  refine congrArg _ ?_
  have hs : ∑ j, X j * r * U j = r * ∑ j, X j * U j := by
    rw [Finset.mul_sum]
    exact Finset.sum_congr rfl fun j _ => by ring
  have hi : 1 / v = r * r := by field_simp; linarith
  rw [hs, hi]
  ring

/-- Both gradients of a finite row are real numbers. -/
theorem byRule_real (x u : Fin 1024 → EReal) (hx : ∀ j, Real' (x j)) (hu : ∀ j, Real' (u j)) (q : Fin 1024) :
    Real' (byRule x u q) := by
  choose X hX using hx
  choose U hU using hu
  obtain rfl : x = fun j => (X j : EReal) := funext hX
  obtain rfl : u = fun j => (U j : EReal) := funext hU
  obtain ⟨v, r, hv0, hrv, hv, hr⟩ := msq_coe X
  unfold byRule through
  simp only [hv, hr, width_word, minus_half_word, Ideal.div_coe (show (1024 : ℝ) ≠ 0 by norm_num), Ideal.div_coe hv0.ne',
    ← EReal.coe_mul, ← coe_sum, ← EReal.coe_add]
  exact ⟨_, rfl⟩

end RowNorm

end
-- ==== Proof.PreArray.lean ====
/- What the backward of the input projection and its norm writes, over the extended reals: the residual's cotangent
   plus the norm's gradient of each row, and the gain's gradient as a sum over all rows. -/
module

public import proofs.«01_k».proof.Proof.Gen.PreKernelIdeal.Value
public import proofs.«01_k».proof.Proof.RowNorm
public import proofs.«01_k».proof.Proof.ERealSums
public import Idealize.ShloMosaic.Lib.Pipeline.ValueKit
public import Idealize.ShloMosaic.Lib.Pointwise

@[expose] public section

set_option maxRecDepth 16384

noncomputable section

namespace Cert.PreKernelIdeal.Array

open Cert.PreKernelIdeal Cert.PreKernelIdeal.Gen Idealize.ShloMosaic Idealize.ShloMosaic.TcCoe Idealize.SL.Sem
open Idealize.ShloMosaic.Pipeline (Dat)

/-- A block of the input's gradient at row `p`, column `q`. -/
theorem dx_apply (v0 : Vec Ideal S512x5760 .bf16) (v2 : Vec Ideal S1024x5760 .bf16) (v5 : Vec Ideal S512x1024 .f32)
    (v6 : Vec Ideal S1x1024 .f32) (v31 : Vec Ideal S512x1024 .f32) (p : Fin 512) (q : Fin 1024) :
    k0_pay5 v0 v2 v5 v6 v31 (ix2 p q) = v31 (ix2 p q) + RowNorm.byHand (fun j => v5 (ix2 p j))
      (fun j => (∑ k : Fin 5760, v0 (ix2 p k) * v2 (ix2 j k)) * v6 (ix2 (0 : Fin 1) j)) q := by
  pointwise [k0_pay5, k0_pay4, k0_pay3, k0_pay2, RowNorm.byHand, RowNorm.msq]

/-- A block's part of the gain's gradient at column `q`. -/
theorem dg_apply (v0 : Vec Ideal S512x5760 .bf16) (v2 : Vec Ideal S1024x5760 .bf16) (v5 : Vec Ideal S512x1024 .f32)
    (q : Fin 1024) :
    k0_pay6 v0 v2 v5 (ix2 (0 : Fin 1) q) = ∑ p : Fin 512, (∑ k : Fin 5760, v0 (ix2 p k) * v2 (ix2 q k)) *
      (v5 (ix2 p q) * Ideal.rsqrt (RowNorm.msq fun j => v5 (ix2 p j))) := by
  pointwise [k0_pay6, k0_pay4, k0_pay3, k0_pay2, RowNorm.msq]

/-- The cotangent of the norm's output at row `r`, column `j`. -/
def dh (w : Vec Ideal S1024x5648 .f32) (d : Vec Ideal S4096x5648 .f32) (r : Fin 4096) (j : Fin 1024) : EReal :=
  ∑ k : Fin 5648, d (ix2 r k) * w (ix2 j k)

/-- The input's gradient. -/
def dx (x : Vec Ideal S4096x1024 .f32) (g : Vec Ideal S1024 .f32) (w : Vec Ideal S1024x5648 .f32)
    (e : Vec Ideal S4096x1024 .f32) (d : Vec Ideal S4096x5648 .f32) : Vec Ideal S4096x1024 .f32 := fun i =>
  e i + RowNorm.byHand (fun j => x (ix2 (i 0) j)) (fun j => dh w d (i 0) j * g (ix1 j)) (i 1)

/-- A row's part of the gain's gradient. -/
def dgRow (x : Vec Ideal S4096x1024 .f32) (w : Vec Ideal S1024x5648 .f32) (d : Vec Ideal S4096x5648 .f32)
    (r : Fin 4096) (q : Fin 1024) : EReal :=
  dh w d r q * (x (ix2 r q) * Ideal.rsqrt (RowNorm.msq fun j => x (ix2 r j)))

/-- The gain's gradient. -/
def dg (x : Vec Ideal S4096x1024 .f32) (w : Vec Ideal S1024x5648 .f32) (d : Vec Ideal S4096x5648 .f32) :
    Vec Ideal S1x1024 .f32 := fun i => ∑ r : Fin 4096, dgRow x w d r (i 1)

variable (m : (ℓ : Loc nD τ sig) → Buf (Elt Ideal) ℓ)

theorem dx_block (c : Dev nD) (t : Fin cfg0.N) :
    (outsAt0 m c t.val t.isLt).1 = k0_pay5 (iblk m c 0 t) (iblk m c 1 t) (iblk m c 2 t) (iblk m c 3 t) (iblk m c 4 t) := by
  have hN : cfg0.N = 8 := N_0
  have ht := t.isLt
  by_cases h : 1 ≤ t.val
  · rw [outsAt0_B m c t (by omega) h]
    frame_out
  · rw [outsAt0_A m c t (by omega) h]
    frame_out

/-- A block of the projection's cotangent, as the arguments give it: the columns beyond the last are zero. -/
theorem d_block (c : Dev nD) (t : Fin cfg0.N) (p : Fin 512) (k : Fin 5760) (r : Fin 4096) (hr : r.val = 512 * t.val + p.val) :
    (iblk m c 0 t : Vec Ideal S512x5760 .bf16) (ix2 p k) =
      if h : k.val < 5648 then (m ((c.tc : Thread nD τ).loc main_arg4) : Vec Ideal S4096x5648 .f32) (ix2 r ⟨k.val, h⟩) else (0 : EReal) := by
  have hi : ∀ t : Fin cfg0.N, win0_0.index t = ![t.val, 0] := (by decide +kernel : ∀ t : Fin grid0.N, win0_0.index t = ![t.val, 0])
  blk_simp [iblk, hi t]
  entry_read
  pointwise
  refine dite_congr ?_ (fun h => ?_) fun _ => rfl
  · show (win0_0.index t 1 * 5760 + 1 * k.val < 5648) = _
    rw [hi t]
    show (0 * 5760 + 1 * k.val < 5648) = _
    rw [Nat.zero_mul, Nat.zero_add, Nat.one_mul]
  · refine congrArg (m ((c.tc : Thread nD τ).loc main_arg4) : Vec Ideal S4096x5648 .f32) ?_
    funext a
    apply Fin.ext
    match a with
    | ⟨0, _⟩ => show win0_0.index t 0 * 512 + 1 * p.val = r.val; rw [hi t]; simp; omega
    | ⟨1, _⟩ => show win0_0.index t 1 * 5760 + 1 * k.val = k.val; rw [hi t]; simp

/-- The weights likewise, the whole of them at every point. -/
theorem w_block (c : Dev nD) (t : Fin cfg0.N) (j : Fin 1024) (k : Fin 5760) :
    (iblk m c 1 t : Vec Ideal S1024x5760 .bf16) (ix2 j k) =
      if h : k.val < 5648 then (m ((c.tc : Thread nD τ).loc main_arg2) : Vec Ideal S1024x5648 .f32) (ix2 j ⟨k.val, h⟩) else (0 : EReal) := by
  have hi : ∀ t : Fin cfg0.N, win0_1.index t = ![0, 0] := (by decide +kernel : ∀ t : Fin grid0.N, win0_1.index t = ![0, 0])
  blk_simp [iblk, hi t]
  entry_read
  pointwise
  refine dite_congr ?_ (fun h => ?_) fun _ => rfl
  · show (win0_1.index t 1 * 5760 + 1 * k.val < 5648) = _
    rw [hi t]
    show (0 * 5760 + 1 * k.val < 5648) = _
    rw [Nat.zero_mul, Nat.zero_add, Nat.one_mul]
  · refine congrArg (m ((c.tc : Thread nD τ).loc main_arg2) : Vec Ideal S1024x5648 .f32) ?_
    funext a
    apply Fin.ext
    match a with
    | ⟨0, _⟩ => show win0_1.index t 0 * 1024 + 1 * j.val = j.val; rw [hi t]; simp
    | ⟨1, _⟩ => show win0_1.index t 1 * 5760 + 1 * k.val = k.val; rw [hi t]; simp

/-- The columns of zeros add nothing: a block's products are the rows' cotangents. -/
theorem dh_block (c : Dev nD) (t : Fin cfg0.N) (p : Fin 512) (j : Fin 1024) (r : Fin 4096) (hr : r.val = 512 * t.val + p.val) :
    @Finset.sum (Fin 5760) EReal _ Finset.univ (fun k => @HMul.hMul EReal EReal EReal _ ((iblk m c 0 t : Vec Ideal S512x5760 .bf16) (ix2 p k)) ((iblk m c 1 t : Vec Ideal S1024x5760 .bf16) (ix2 j k)))
      = dh (m ((c.tc : Thread nD τ).loc main_arg2)) (m ((c.tc : Thread nD τ).loc main_arg4)) r j := by
  refine (Fin.sum_univ_add (a := 5648) (b := 112) _).trans ?_
  unfold dh
  refine (congrArg₂ (· + ·) (Finset.sum_congr rfl fun k _ => ?_) (Finset.sum_eq_zero fun k _ => ?_)).trans (add_zero _)
  · rw [d_block m c t p _ r hr, w_block m c t j, dif_pos (show (Fin.castAdd 112 k).val < 5648 from k.isLt), dif_pos (show (Fin.castAdd 112 k).val < 5648 from k.isLt)]
    rfl
  · rw [d_block m c t p _ r hr, dif_neg (by simp), zero_mul]

/-- A row of the input in its block. -/
theorem x_block (c : Dev nD) (t : Fin cfg0.N) (p : Fin 512) (j : Fin 1024) (r : Fin 4096) (hr : r.val = 512 * t.val + p.val) :
    (iblk m c 2 t : Vec Ideal S512x1024 .f32) (ix2 p j) = m ((c.tc : Thread nD τ).loc main_arg0) (ix2 r j) := by
  have hi : ∀ t : Fin cfg0.N, win0_2.index t = ![t.val, 0] := (by decide +kernel : ∀ t : Fin grid0.N, win0_2.index t = ![t.val, 0])
  blk_ext [iblk, V, hi t]

/-- The gain, the whole of it at every point. -/
theorem g_block (c : Dev nD) (t : Fin cfg0.N) (j : Fin 1024) :
    (iblk m c 3 t : Vec Ideal S1x1024 .f32) (ix2 0 j) = m ((c.tc : Thread nD τ).loc main_arg1) (ix1 j) := by
  have hi : ∀ t : Fin cfg0.N, win0_3.index t = ![0, 0] := (by decide +kernel : ∀ t : Fin grid0.N, win0_3.index t = ![0, 0])
  blk_simp [iblk, hi t]
  entry_read
  pointwise
  blk_ext [hi t]

theorem dx_array (c : Dev nD) : (dats m 0 c).arrAt 5 cfg0.N
    = dx (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  have hN : cfg0.N = 8 := N_0
  have hi : ∀ t : Fin cfg0.N, win0_5.index t = ![t.val, 0] ∧ win0_4.index t = ![t.val, 0] :=
    (by decide +kernel : ∀ t : Fin grid0.N, win0_5.index t = ![t.val, 0] ∧ win0_4.index t = ![t.val, 0])
  refine (dats m 0 c).arrAt_eq_of_covers 5 _ (by decide +kernel) fun t hf y => ?_
  have ht := lt_of_lt_of_eq t.isLt hN
  blk_simp
  rw [after0_5, dx_block]
  obtain ⟨p, q, rfl⟩ : ∃ (p : Fin 512) (q : Fin 1024), y = ix2 p q := ⟨y 0, y 1, by funext a; match a with | ⟨0, _⟩ => rfl | ⟨1, _⟩ => rfl⟩
  have hr : 512 * t.val + p.val < 4096 := by omega
  rw [show (win0_5.blk t).view.emb (ix2 p q) = ix2 ⟨512 * t.val + p.val, hr⟩ q by blk_ext [(hi t).1], dx_apply]
  refine congrArg₂ (· + ·) (by blk_ext [iblk, V, (hi t).2]) ?_
  refine congrArg₂ (fun a b => RowNorm.byHand a b q) (funext fun j => x_block m c t p j _ rfl) (funext fun j => ?_)
  exact congrArg₂ (· * ·) (dh_block m c t p j _ rfl) (g_block m c t j)

/-- A point's part of the gain's gradient. -/
theorem dg_block (c : Dev nD) (t : Fin cfg0.N) (q : Fin 1024) :
    k0_pay6 (iblk m c 0 t) (iblk m c 1 t) (iblk m c 2 t) (ix2 (0 : Fin 1) q) = ∑ p : Fin 512,
      dgRow (m ((c.tc : Thread nD τ).loc main_arg0)) (m ((c.tc : Thread nD τ).loc main_arg2)) (m ((c.tc : Thread nD τ).loc main_arg4))
        ⟨t.val * 512 + p.val, by have := lt_of_lt_of_eq t.isLt N_0; omega⟩ q := by
  rw [dg_apply]
  refine Finset.sum_congr rfl fun p _ => ?_
  have hr : (⟨t.val * 512 + p.val, by have := lt_of_lt_of_eq t.isLt N_0; omega⟩ : Fin 4096).val = 512 * t.val + p.val := by
    dsimp only
    omega
  refine congrArg₂ (· * ·) (dh_block m c t p q _ hr) (congrArg₂ (· * ·) (x_block m c t p q _ hr) ?_)
  exact congrArg (fun f => Ideal.rsqrt (RowNorm.msq f)) (funext fun j => x_block m c t p j _ hr)

theorem dg_array (c : Dev nD) : (dats m 0 c).arrAt 6 cfg0.N
    = dg (m ((c.tc : Thread nD τ).loc main_arg0)) (m ((c.tc : Thread nD τ).loc main_arg2)) (m ((c.tc : Thread nD τ).loc main_arg4)) := by
  have hN : cfg0.N = 8 := N_0
  refine (dats m 0 c).arrAt_eq_of_covers 6 _ (by decide +kernel) fun t hf y => ?_
  have ht := lt_of_lt_of_eq t.isLt hN
  have h7 : t.val = 7 := by
    have := (flush0_6 t).mp hf
    omega
  have hi : ∀ t : Fin cfg0.N, win0_6.index t = ![0, 0] := (by decide +kernel : ∀ t : Fin grid0.N, win0_6.index t = ![0, 0])
  blk_simp
  obtain ⟨p, q, rfl⟩ : ∃ (p : Fin 1) (q : Fin 1024), y = ix2 p q := ⟨y 0, y 1, by funext a; match a with | ⟨0, _⟩ => rfl | ⟨1, _⟩ => rfl⟩
  obtain rfl : p = 0 := Subsingleton.elim _ _
  rw [after0_6, show (win0_6.blk t).view.emb (ix2 0 q) = ix2 0 q by blk_ext [hi t],
    Pipeline.eq_sum_fin_of_reset_step_apply_last (fun n h => (outsAt0 m c n h).2) 8 (fun _ => 0) _
      (fun t h j => by rw [outsAt0_A m c t h (by have := lt_of_lt_of_eq t.isLt hN; omega)]; frame_out; rw [zero_add])
      (fun t h j => by
        rw [outsAt0_B m c t h (by omega)]
        frame_out
        unfold k0_pay1
        rw [shapeCast_self]
        rfl)
      (le_of_eq hN) t (by omega) (ix2 0 q), zero_add]
  refine (Finset.sum_congr rfl fun t _ => dg_block m c t q).trans ?_
  exact Fin.sum_mul_add_congr (L := 4096) fun t p h => rfl

end Cert.PreKernelIdeal.Array

end
-- ==== Proof.PreEquation.lean ====
/- The chain rule's gradients of the input projection behind its norm, entry by entry, and that they are the kernel's. -/
module

public import proofs.«01_k».proof.Proof.PreArray
public import proofs.«01_k».proof.Proof.Gen.PreRefIdeal.Read
public import proofs.«01_k».proof.Pre_finite_pre

@[expose] public section

set_option maxRecDepth 16384

noncomputable section

namespace Cert.PreRefIdeal.Equation

open Cert.PreRefIdeal Cert.PreRefIdeal.Read Idealize.ShloMosaic
open Cert.PreKernelIdeal.Array (dx dg dh dgRow)

variable (x : Vec Ideal ⟨2, ![4096, 1024]⟩ .f32) (g : Vec Ideal ⟨1, ![1024]⟩ .f32) (w : Vec Ideal ⟨2, ![1024, 5648]⟩ .f32)
  (e : Vec Ideal ⟨2, ![4096, 1024]⟩ .f32) (d : Vec Ideal ⟨2, ![4096, 5648]⟩ .f32)

/-- The precondition says that every entry of the four arrays is a real number. -/
theorem reals [Cert.Pre_finite_pre.Facts]
    (h : (Cert.Pre_finite_pre.fn (F := Ideal) x g w e d).1 = (fun _ => 1#1)
      ∧ (Cert.Pre_finite_pre.fn (F := Ideal) x g w e d).2.1 = (fun _ => 1#1)
      ∧ (Cert.Pre_finite_pre.fn (F := Ideal) x g w e d).2.2.1 = (fun _ => 1#1)
      ∧ (Cert.Pre_finite_pre.fn (F := Ideal) x g w e d).2.2.2 = (fun _ => 1#1)) :
    (∀ i, RowNorm.Real' (x i)) ∧ (∀ i, RowNorm.Real' (g i)) ∧ (∀ i, RowNorm.Real' (w i)) ∧ (∀ i, RowNorm.Real' (d i)) :=
  ⟨fun i => RowNorm.real_of_test (congrFun h.1 i), fun i => RowNorm.real_of_test (congrFun h.2.1 i),
    fun i => RowNorm.real_of_test (congrFun h.2.2.1 i), fun i => RowNorm.real_of_test (congrFun h.2.2.2 i)⟩

/-- The gain's gradient needs no finiteness: the two sums have the same terms. -/
theorem dg_eq : val_main_v39 (F := Ideal) x w d = dg x w d := by
  funext i
  pointwise [val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, val_main_cst_4, dg, dgRow, dh, RowNorm.msq]
  rw [Finset.univ_unique, Finset.sum_singleton]
  exact Finset.sum_congr rfl fun r _ => mul_comm _ _

theorem dx_eq (hx : ∀ i, RowNorm.Real' (x i)) (hg : ∀ i, RowNorm.Real' (g i)) (hw : ∀ i, RowNorm.Real' (w i))
    (hd : ∀ i, RowNorm.Real' (d i)) : val_main_v38 (F := Ideal) x g w e d = dx x g w e d := by
  funext i
  obtain ⟨p, q, rfl⟩ : ∃ (p : Fin 4096) (q : Fin 1024), i = ix2 p q := ⟨i 0, i 1, by funext a; match a with | ⟨0, _⟩ => rfl | ⟨1, _⟩ => rfl⟩
  have h := RowNorm.byHand_eq_byRule (fun j => x (ix2 p j)) (fun j => dh w d p j * g (ix1 j)) (fun j => hx _)
    (fun j => RowNorm.Real'.mul (RowNorm.Real'.sum _ _ fun k => RowNorm.Real'.mul (hd _) (hw _)) (hg _)) q
  refine Eq.trans ?_ (congrArg (e (ix2 p q) + ·) h.symm)
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7, dh, RowNorm.msq, RowNorm.byRule, RowNorm.through]
  simp only [Finset.univ_unique, Finset.sum_singleton]
  rw [add_assoc, add_assoc]
  exact congrArg (e (ix2 p q) + ·) (add_assoc _ _ _).symm

end Cert.PreRefIdeal.Equation

end
-- ==== Proof.PreValue.lean ====
/- The gradients through the input product and the norm before it are those of the plain layer.
   The assembly: the array the kernel leaves, the plain gradient, and the equation between the two. -/
module

public import proofs.«01_k».proof.Defs
public import proofs.«01_k».proof.Proof.Gen.PreKernelIdeal.Value
public import proofs.«01_k».proof.Proof.Gen.PreRefIdeal.Run
public import proofs.«01_k».proof.Proof.Gen.PreRefIdeal.Read
public import proofs.«01_k».proof.Proof.Gen.Pre_finite_pre
public import proofs.«01_k».proof.Proof.PreEquation

@[expose] public section

noncomputable section

namespace Cert.Proof.Pre

open Idealize.ShloMosaic Idealize.ShloMosaic.TcCoe Idealize.SL.Sem

/-- The gradients through the input product and the norm before it are those of the plain layer. -/
theorem value : Cert.algebraic_PreKernelIdeal_PreRefIdeal_pre_finite_pre (hPreKernelIdeal := Cert.PreKernelIdeal.Gen.facts) (hPreRefIdeal := Cert.PreRefIdeal.Gen.facts) (hPre_finite_pre := Cert.Pre_finite_pre.Gen.facts) := by
  intro m ρ m' ρ' hpre hag
  refine ⟨fun c => Cert.PreKernelIdeal.Array.dx (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4)),
    fun c => Cert.PreKernelIdeal.Array.dg (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg4)),
    (θ_run _ _ _).mono (fun _ h c => ?_) (Cert.PreKernelIdeal.Value.run_blocks m ρ),
    (θ_run _ _ _).mono (fun _ h c => ?_) (Cert.PreRefIdeal.Value.run (F := Ideal) m' ρ')⟩
  · exact ⟨(h c).1.trans (Cert.PreKernelIdeal.Array.dx_array m c), (h c).2.1.trans (Cert.PreKernelIdeal.Array.dg_array m c), (h c).2.2⟩
  · obtain ⟨h0, h1, h2, h3, h4⟩ := hag c
    obtain ⟨hx, hg, hw, hd⟩ := Cert.PreRefIdeal.Equation.reals _ _ _ _ _ (hpre c)
    refine ⟨(h c).1.trans ?_, (h c).2.1.trans ?_, (h c).2.2⟩
    · refine (Cert.PreRefIdeal.Read.val_main_v38_eq m' c).trans ?_
      rw [h0, h1, h2, h3, h4]
      exact Cert.PreRefIdeal.Equation.dx_eq _ _ _ _ _ hx hg hw hd
    · refine (Cert.PreRefIdeal.Read.val_main_v39_eq _ _ _).trans ?_
      rw [h0, h2, h4]
      exact Cert.PreRefIdeal.Equation.dg_eq _ _ _

/-- The plain gradient keeps its arguments and ends every semaphore at zero. -/
theorem ref_frame : Cert.quiescent_PreRefIdeal := fun m ρ _ =>
  (θ_run _ _ _).mono (fun r h => ⟨fun c => (h c).2.2, sem_eq_zero_of_no_sems (by decide) r.2⟩)
    (Cert.PreRefIdeal.Value.run (F := Ideal) m ρ)

end Cert.Proof.Pre

end
-- ==== Proof.PostArray.lean ====
/- What the backward of the mixer's norm and output product writes, over the extended reals: the norm's gradient of each
   row of the product, the gain's gradient as a sum over all rows, and the first pushed back through the weights. -/
module

public import proofs.«01_k».proof.Proof.Gen.PostKernelIdeal.Value
public import proofs.«01_k».proof.Proof.RowNorm
public import Idealize.ShloMosaic.Lib.Pipeline.ValueKit
public import Idealize.ShloMosaic.Lib.Pointwise

@[expose] public section

set_option maxRecDepth 16384

noncomputable section

namespace Cert.PostKernelIdeal.Array

open Cert.PostKernelIdeal Cert.PostKernelIdeal.Gen Idealize.ShloMosaic Idealize.ShloMosaic.TcCoe Idealize.SL.Sem
open Idealize.ShloMosaic.Pipeline (Dat)

/-- A block of the norm's gradient at row `p`, column `q`. -/
theorem dmix_apply (v10 : Vec Ideal S1024x1024 .bf16) (v13 : Vec Ideal S1x1024 .f32) (v15 : Vec Ideal S1024x1024 .f32)
    (p : Fin 1024) (q : Fin 1024) :
    k0_pay5 v10 v13 v15 (ix2 p q) = RowNorm.byHand (fun j => v10 (ix2 p j)) (fun j => v15 (ix2 p j) * v13 (ix2 (0 : Fin 1) j)) q := by
  pointwise [k0_pay5, k0_pay4, k0_pay3, k0_pay2, RowNorm.byHand, RowNorm.msq]

/-- A block pushed back through the weights. -/
theorem dcat_apply (v3 : Vec Ideal S1024x1024 .bf16) (v5 : Vec Ideal S2048x1024 .bf16) (p : Fin 1024) (q : Fin 2048) :
    k0_pay1 v3 v5 (ix2 p q) = ∑ j : Fin 1024, v3 (ix2 p j) * v5 (ix2 q j) := by
  pointwise [k0_pay1]

/-- A block's part of the gain's gradient at column `q`. -/
theorem dg_apply (v10 : Vec Ideal S1024x1024 .bf16) (v15 : Vec Ideal S1024x1024 .f32) (q : Fin 1024) :
    k0_pay6 v10 v15 (ix2 (0 : Fin 1) q) = ∑ p : Fin 1024, v15 (ix2 p q) *
      (v10 (ix2 p q) * Ideal.rsqrt (RowNorm.msq fun j => v10 (ix2 p j))) := by
  pointwise [k0_pay6, k0_pay4, k0_pay3, k0_pay2, RowNorm.msq]

/-- The mixer's output at row `r`, column `j`. -/
def mix (a : Vec Ideal S4096x2048 .f32) (w : Vec Ideal S2048x1024 .f32) (r : Fin 4096) (j : Fin 1024) : EReal :=
  ∑ k : Fin 2048, a (ix2 r k) * w (ix2 k j)

/-- The norm's gradient at row `r`, column `q`. -/
def dm (a : Vec Ideal S4096x2048 .f32) (w : Vec Ideal S2048x1024 .f32) (g : Vec Ideal S1024 .f32) (e : Vec Ideal S4096x1024 .f32)
    (r : Fin 4096) (q : Fin 1024) : EReal :=
  RowNorm.byHand (fun j => mix a w r j) (fun j => e (ix2 r j) * g (ix1 j)) q

/-- The norm's gradient. -/
def dmix (a : Vec Ideal S4096x2048 .f32) (w : Vec Ideal S2048x1024 .f32) (g : Vec Ideal S1024 .f32) (e : Vec Ideal S4096x1024 .f32) :
    Vec Ideal S4096x1024 .bf16 := fun i => dm a w g e (i 0) (i 1)

/-- The gradient of the mixer's input. -/
def dcat (a : Vec Ideal S4096x2048 .f32) (w : Vec Ideal S2048x1024 .f32) (g : Vec Ideal S1024 .f32) (e : Vec Ideal S4096x1024 .f32) :
    Vec Ideal S4096x2048 .bf16 := fun i => ∑ j : Fin 1024, dm a w g e (i 0) j * w (ix2 (i 1) j)

/-- A row's part of the gain's gradient. -/
def dgRow (a : Vec Ideal S4096x2048 .f32) (w : Vec Ideal S2048x1024 .f32) (e : Vec Ideal S4096x1024 .f32)
    (r : Fin 4096) (q : Fin 1024) : EReal :=
  e (ix2 r q) * (mix a w r q * Ideal.rsqrt (RowNorm.msq fun j => mix a w r j))

/-- The gain's gradient. -/
def dg (a : Vec Ideal S4096x2048 .f32) (w : Vec Ideal S2048x1024 .f32) (e : Vec Ideal S4096x1024 .f32) :
    Vec Ideal S1x1024 .f32 := fun i => ∑ r : Fin 4096, dgRow a w e r (i 1)

variable (m : (ℓ : Loc nD τ sig) → Buf (Elt Ideal) ℓ)

/-- The point's block of the norm's gradient, whichever point it is. -/
theorem dmix_block (c : Dev nD) (t : Fin cfg0.N) :
    (outsAt0 m c t.val t.isLt).1 = k0_pay5 (iblk m c 0 t) (iblk m c 1 t) (iblk m c 2 t) := by
  have hN : cfg0.N = 4 := N_0
  have ht := t.isLt
  by_cases h : 1 ≤ t.val
  · rw [outsAt0_B m c t (by omega) h]
    frame_out
  · rw [outsAt0_A m c t (by omega) h]
    frame_out

/-- And that block pushed back through the weights. -/
theorem dcat_block (c : Dev nD) (t : Fin cfg0.N) :
    (outsAt0 m c t.val t.isLt).2.2 = k0_pay1 (k0_pay5 (iblk m c 0 t) (iblk m c 1 t) (iblk m c 2 t)) (iblk m c 3 t) := by
  have hN : cfg0.N = 4 := N_0
  have ht := t.isLt
  by_cases h : 1 ≤ t.val
  · rw [outsAt0_B m c t (by omega) h]
    frame_out
  · rw [outsAt0_A m c t (by omega) h]
    frame_out

/-- A row of the mixer's output in its block. -/
theorem mix_block (c : Dev nD) (t : Fin cfg0.N) (p : Fin 1024) (j : Fin 1024) (r : Fin 4096) (hr : r.val = 1024 * t.val + p.val) :
    (iblk m c 0 t : Vec Ideal S1024x1024 .bf16) (ix2 p j)
      = mix (m ((c.tc : Thread nD τ).loc main_arg0)) (m ((c.tc : Thread nD τ).loc main_arg1)) r j := by
  have hi : ∀ t : Fin cfg0.N, win0_0.index t = ![t.val, 0] := (by decide +kernel : ∀ t : Fin grid0.N, win0_0.index t = ![t.val, 0])
  blk_simp [iblk, hi t]
  entry_read
  pointwise [mix]
  blk_point [hi t]

/-- A row of the cotangent in its block. -/
theorem e_block (c : Dev nD) (t : Fin cfg0.N) (p : Fin 1024) (j : Fin 1024) (r : Fin 4096) (hr : r.val = 1024 * t.val + p.val) :
    (iblk m c 2 t : Vec Ideal S1024x1024 .f32) (ix2 p j) = m ((c.tc : Thread nD τ).loc main_arg3) (ix2 r j) := by
  have hi : ∀ t : Fin cfg0.N, win0_2.index t = ![t.val, 0] := (by decide +kernel : ∀ t : Fin grid0.N, win0_2.index t = ![t.val, 0])
  blk_ext [iblk, V, hi t]

/-- The gain, the whole of it at every point. -/
theorem g_block (c : Dev nD) (t : Fin cfg0.N) (j : Fin 1024) :
    (iblk m c 1 t : Vec Ideal S1x1024 .f32) (ix2 0 j) = m ((c.tc : Thread nD τ).loc main_arg2) (ix1 j) := by
  have hi : ∀ t : Fin cfg0.N, win0_1.index t = ![0, 0] := (by decide +kernel : ∀ t : Fin grid0.N, win0_1.index t = ![0, 0])
  blk_simp [iblk, hi t]
  entry_read
  pointwise
  blk_ext [hi t]

/-- The weights likewise. -/
theorem w_block (c : Dev nD) (t : Fin cfg0.N) (k : Fin 2048) (j : Fin 1024) :
    (iblk m c 3 t : Vec Ideal S2048x1024 .bf16) (ix2 k j) = (m ((c.tc : Thread nD τ).loc main_arg1) : Vec Ideal S2048x1024 .f32) (ix2 k j) := by
  have hi : ∀ t : Fin cfg0.N, win0_3.index t = ![0, 0] := (by decide +kernel : ∀ t : Fin grid0.N, win0_3.index t = ![0, 0])
  blk_simp [iblk, hi t]
  entry_read
  pointwise
  blk_ext [hi t]

/-- The norm's gradient in a block is that of the rows of the arrays. -/
theorem dm_block (c : Dev nD) (t : Fin cfg0.N) (p : Fin 1024) (q : Fin 1024) (r : Fin 4096) (hr : r.val = 1024 * t.val + p.val) :
    k0_pay5 (iblk m c 0 t) (iblk m c 1 t) (iblk m c 2 t) (ix2 p q) = dm (m ((c.tc : Thread nD τ).loc main_arg0))
      (m ((c.tc : Thread nD τ).loc main_arg1)) (m ((c.tc : Thread nD τ).loc main_arg2)) (m ((c.tc : Thread nD τ).loc main_arg3)) r q := by
  rw [dmix_apply]
  refine congrArg₂ (fun a b => RowNorm.byHand a b q) (funext fun j => mix_block m c t p j _ hr) (funext fun j => ?_)
  exact congrArg₂ (· * ·) (e_block m c t p j _ hr) (g_block m c t j)

theorem dmix_array (c : Dev nD) : (dats m 0 c).arrAt 4 cfg0.N
    = dmix (m ((c.tc : Thread nD τ).loc main_arg0)) (m ((c.tc : Thread nD τ).loc main_arg1)) (m ((c.tc : Thread nD τ).loc main_arg2))
      (m ((c.tc : Thread nD τ).loc main_arg3)) := by
  have hN : cfg0.N = 4 := N_0
  have hi : ∀ t : Fin cfg0.N, win0_4.index t = ![t.val, 0] := (by decide +kernel : ∀ t : Fin grid0.N, win0_4.index t = ![t.val, 0])
  refine (dats m 0 c).arrAt_eq_of_covers 4 _ (by decide +kernel) fun t hf y => ?_
  have ht := lt_of_lt_of_eq t.isLt hN
  blk_simp
  rw [after0_4, dmix_block]
  obtain ⟨p, q, rfl⟩ : ∃ (p : Fin 1024) (q : Fin 1024), y = ix2 p q := ⟨y 0, y 1, by funext a; match a with | ⟨0, _⟩ => rfl | ⟨1, _⟩ => rfl⟩
  have hr : 1024 * t.val + p.val < 4096 := by omega
  rw [show (win0_4.blk t).view.emb (ix2 p q) = ix2 ⟨1024 * t.val + p.val, hr⟩ q by blk_ext [hi t]]
  exact dm_block m c t p q _ rfl

theorem dcat_array (c : Dev nD) : (dats m 0 c).arrAt 6 cfg0.N
    = dcat (m ((c.tc : Thread nD τ).loc main_arg0)) (m ((c.tc : Thread nD τ).loc main_arg1)) (m ((c.tc : Thread nD τ).loc main_arg2))
      (m ((c.tc : Thread nD τ).loc main_arg3)) := by
  have hN : cfg0.N = 4 := N_0
  have hi : ∀ t : Fin cfg0.N, win0_6.index t = ![t.val, 0] := (by decide +kernel : ∀ t : Fin grid0.N, win0_6.index t = ![t.val, 0])
  refine (dats m 0 c).arrAt_eq_of_covers 6 _ (by decide +kernel) fun t hf y => ?_
  have ht := lt_of_lt_of_eq t.isLt hN
  blk_simp
  rw [after0_6, dcat_block]
  obtain ⟨p, q, rfl⟩ : ∃ (p : Fin 1024) (q : Fin 2048), y = ix2 p q := ⟨y 0, y 1, by funext a; match a with | ⟨0, _⟩ => rfl | ⟨1, _⟩ => rfl⟩
  have hr : 1024 * t.val + p.val < 4096 := by omega
  rw [show (win0_6.blk t).view.emb (ix2 p q) = ix2 ⟨1024 * t.val + p.val, hr⟩ q by blk_ext [hi t], dcat_apply]
  exact Finset.sum_congr (M := EReal) rfl fun j _ => congrArg₂ (· * ·) (dm_block m c t p j _ rfl) (w_block m c t q j)

/-- A point's part of the gain's gradient. -/
theorem dg_block (c : Dev nD) (t : Fin cfg0.N) (q : Fin 1024) :
    k0_pay6 (iblk m c 0 t) (iblk m c 2 t) (ix2 (0 : Fin 1) q) = ∑ p : Fin 1024,
      dgRow (m ((c.tc : Thread nD τ).loc main_arg0)) (m ((c.tc : Thread nD τ).loc main_arg1)) (m ((c.tc : Thread nD τ).loc main_arg3))
        ⟨t.val * 1024 + p.val, by have := lt_of_lt_of_eq t.isLt N_0; omega⟩ q := by
  rw [dg_apply]
  refine Finset.sum_congr rfl fun p _ => ?_
  have hr : (⟨t.val * 1024 + p.val, by have := lt_of_lt_of_eq t.isLt N_0; omega⟩ : Fin 4096).val = 1024 * t.val + p.val := by
    dsimp only
    omega
  refine congrArg₂ (· * ·) (e_block m c t p q _ hr) (congrArg₂ (· * ·) (mix_block m c t p q _ hr) ?_)
  exact congrArg (fun f => Ideal.rsqrt (RowNorm.msq f)) (funext fun j => mix_block m c t p j _ hr)

theorem dg_array (c : Dev nD) : (dats m 0 c).arrAt 5 cfg0.N
    = dg (m ((c.tc : Thread nD τ).loc main_arg0)) (m ((c.tc : Thread nD τ).loc main_arg1)) (m ((c.tc : Thread nD τ).loc main_arg3)) := by
  have hN : cfg0.N = 4 := N_0
  refine (dats m 0 c).arrAt_eq_of_covers 5 _ (by decide +kernel) fun t hf y => ?_
  have ht := lt_of_lt_of_eq t.isLt hN
  have h3 : t.val = 3 := by
    have := (flush0_5 t).mp hf
    omega
  have hi : ∀ t : Fin cfg0.N, win0_5.index t = ![0, 0] := (by decide +kernel : ∀ t : Fin grid0.N, win0_5.index t = ![0, 0])
  blk_simp
  obtain ⟨p, q, rfl⟩ : ∃ (p : Fin 1) (q : Fin 1024), y = ix2 p q := ⟨y 0, y 1, by funext a; match a with | ⟨0, _⟩ => rfl | ⟨1, _⟩ => rfl⟩
  obtain rfl : p = 0 := Subsingleton.elim _ _
  rw [after0_5, show (win0_5.blk t).view.emb (ix2 0 q) = ix2 0 q by blk_ext [hi t],
    Pipeline.eq_sum_fin_of_reset_step_apply_last (fun n h => (outsAt0 m c n h).2.1) 4 (fun _ => 0) _
      (fun t h j => by rw [outsAt0_A m c t h (by have := lt_of_lt_of_eq t.isLt hN; omega)]; frame_out; rw [zero_add])
      (fun t h j => by
        rw [outsAt0_B m c t h (by omega)]
        frame_out
        unfold k0_pay7
        rw [shapeCast_self]
        rfl)
      (le_of_eq hN) t (by omega) (ix2 0 q), zero_add]
  refine (Finset.sum_congr rfl fun t _ => dg_block m c t q).trans ?_
  exact Fin.sum_mul_add_congr (L := 4096) fun t p h => rfl

end Cert.PostKernelIdeal.Array

end
-- ==== Proof.PostEquation.lean ====
/- The chain rule's gradients of the mixer's norm and output product, entry by entry, and that they are the kernel's. -/
module

public import proofs.«01_k».proof.Proof.PostArray
public import proofs.«01_k».proof.Proof.Gen.PostRefIdeal.Read
public import proofs.«01_k».proof.Pre_finite_post

@[expose] public section

set_option maxRecDepth 16384

noncomputable section

namespace Cert.PostRefIdeal.Equation

open Cert.PostRefIdeal Cert.PostRefIdeal.Read Idealize.ShloMosaic
open Cert.PostKernelIdeal.Array (mix dm dmix dcat dg dgRow)

variable (a : Vec Ideal ⟨2, ![4096, 2048]⟩ .f32) (w : Vec Ideal ⟨2, ![2048, 1024]⟩ .f32) (g : Vec Ideal ⟨1, ![1024]⟩ .f32)
  (e : Vec Ideal ⟨2, ![4096, 1024]⟩ .f32)

/-- The precondition says that every entry of the four arrays is a real number. -/
theorem reals [Cert.Pre_finite_post.Facts]
    (h : (Cert.Pre_finite_post.fn (F := Ideal) a w g e).1 = (fun _ => 1#1)
      ∧ (Cert.Pre_finite_post.fn (F := Ideal) a w g e).2.1 = (fun _ => 1#1)
      ∧ (Cert.Pre_finite_post.fn (F := Ideal) a w g e).2.2.1 = (fun _ => 1#1)
      ∧ (Cert.Pre_finite_post.fn (F := Ideal) a w g e).2.2.2 = (fun _ => 1#1)) :
    (∀ i, RowNorm.Real' (a i)) ∧ (∀ i, RowNorm.Real' (w i)) ∧ (∀ i, RowNorm.Real' (g i)) ∧ (∀ i, RowNorm.Real' (e i)) :=
  ⟨fun i => RowNorm.real_of_test (congrFun h.1 i), fun i => RowNorm.real_of_test (congrFun h.2.1 i),
    fun i => RowNorm.real_of_test (congrFun h.2.2.1 i), fun i => RowNorm.real_of_test (congrFun h.2.2.2 i)⟩

/-- The gain's gradient needs no finiteness: the two sums have the same terms. -/
theorem dg_eq : val_main_v38 (F := Ideal) a w e = dg a w e := by
  funext i
  pointwise [val_main_v40, val_main_v39, val_main_v38, val_main_v37, val_main_v36, val_main_v35, val_main_v34, val_main_v33, val_main_v32, val_main_v31,
    val_main_cst_7, val_main_v30, val_main_v29, val_main_cst_6, val_main_v28, val_main_v27, val_main_v26, val_main_v25, val_main_v24, val_main_cst_5,
    val_main_v23, val_main_v22, val_main_cst_4, val_main_v21, val_main_v20, val_main_v19, val_main_v18, val_main_cst_3, val_main_v17, val_main_v16,
    val_main_v15, val_main_v14, val_main_v13, val_main_v12, val_main_v11, val_main_v10, val_main_cst_2, val_main_v9, val_main_v8, val_main_v7,
    val_main_v6, val_main_cst_1, val_main_v5, val_main_v4, val_main_cst_0, val_main_v3, val_main_v2, val_main_cst, val_main_v1, val_main_v0, dg, dgRow, mix, RowNorm.msq]
  rw [Finset.univ_unique, Finset.sum_singleton]
  exact Finset.sum_congr rfl fun r _ => mul_comm _ _

/-- The norm's gradient of a finite row, at its column `q`, as the chain rule adds it up. -/
theorem dm_rule (ha : ∀ i, RowNorm.Real' (a i)) (hw : ∀ i, RowNorm.Real' (w i)) (hg : ∀ i, RowNorm.Real' (g i))
    (he : ∀ i, RowNorm.Real' (e i)) (p : Fin 4096) (q : Fin 1024) :
    dm a w g e p q = RowNorm.byRule (fun j => mix a w p j) (fun j => e (ix2 p j) * g (ix1 j)) q :=
  RowNorm.byHand_eq_byRule _ _ (fun j => RowNorm.Real'.sum _ _ fun k => RowNorm.Real'.mul (ha _) (hw _))
    (fun j => RowNorm.Real'.mul (he _) (hg _)) q

/-- The reference's norm gradient before its rounding. -/
theorem dm_eq (ha : ∀ i, RowNorm.Real' (a i)) (hw : ∀ i, RowNorm.Real' (w i)) (hg : ∀ i, RowNorm.Real' (g i))
    (he : ∀ i, RowNorm.Real' (e i)) (p : Fin 4096) (q : Fin 1024) : val_main_v36 (F := Ideal) a w g e (ix2 p q) = dm a w g e p q := by
  refine Eq.trans ?_ (dm_rule a w g e ha hw hg he p q).symm
  pointwise [val_main_v40, val_main_v39, val_main_v38, val_main_v37, val_main_v36, val_main_v35, val_main_v34, val_main_v33, val_main_v32, val_main_v31,
    val_main_cst_7, val_main_v30, val_main_v29, val_main_cst_6, val_main_v28, val_main_v27, val_main_v26, val_main_v25, val_main_v24, val_main_cst_5,
    val_main_v23, val_main_v22, val_main_cst_4, val_main_v21, val_main_v20, val_main_v19, val_main_v18, val_main_cst_3, val_main_v17, val_main_v16,
    val_main_v15, val_main_v14, val_main_v13, val_main_v12, val_main_v11, val_main_v10, val_main_cst_2, val_main_v9, val_main_v8, val_main_v7,
    val_main_v6, val_main_cst_1, val_main_v5, val_main_v4, val_main_cst_0, val_main_v3, val_main_v2, val_main_cst, val_main_v1, val_main_v0, mix, RowNorm.msq, RowNorm.byRule, RowNorm.through]
  simp only [Finset.univ_unique, Finset.sum_singleton]

/-- The norm's gradient. -/
theorem dmix_eq (ha : ∀ i, RowNorm.Real' (a i)) (hw : ∀ i, RowNorm.Real' (w i)) (hg : ∀ i, RowNorm.Real' (g i))
    (he : ∀ i, RowNorm.Real' (e i)) : val_main_v37 (F := Ideal) a w g e = dmix a w g e := by
  funext i
  obtain ⟨p, q, rfl⟩ : ∃ (p : Fin 4096) (q : Fin 1024), i = ix2 p q := ⟨i 0, i 1, by funext a; match a with | ⟨0, _⟩ => rfl | ⟨1, _⟩ => rfl⟩
  exact dm_eq a w g e ha hw hg he p q

/-- The gradient of the mixer's input: the norm's gradient through the weights. -/
theorem dcat_eq (ha : ∀ i, RowNorm.Real' (a i)) (hw : ∀ i, RowNorm.Real' (w i)) (hg : ∀ i, RowNorm.Real' (g i))
    (he : ∀ i, RowNorm.Real' (e i)) : val_main_v40 (F := Ideal) a w g e = dcat a w g e := by
  funext i
  obtain ⟨p, q, rfl⟩ : ∃ (p : Fin 4096) (q : Fin 2048), i = ix2 p q := ⟨i 0, i 1, by funext a; match a with | ⟨0, _⟩ => rfl | ⟨1, _⟩ => rfl⟩
  pointwise [val_main_v40, val_main_v39]
  exact Finset.sum_congr (M := EReal) rfl fun j _ => congrArg (· * _) (dm_eq a w g e ha hw hg he p j)

end Cert.PostRefIdeal.Equation

end
-- ==== Proof.PostValue.lean ====
/- The gradients through the norm after the output product are those of the plain layer.
   The assembly: the array the kernel leaves, the plain gradient, and the equation between the two. -/
module

public import proofs.«01_k».proof.Defs
public import proofs.«01_k».proof.Proof.Gen.PostKernelIdeal.Value
public import proofs.«01_k».proof.Proof.Gen.PostRefIdeal.Run
public import proofs.«01_k».proof.Proof.Gen.PostRefIdeal.Read
public import proofs.«01_k».proof.Proof.Gen.Pre_finite_post
public import proofs.«01_k».proof.Proof.PostEquation

@[expose] public section

noncomputable section

namespace Cert.Proof.Post

open Idealize.ShloMosaic Idealize.ShloMosaic.TcCoe Idealize.SL.Sem

/-- The gradients through the norm after the output product are those of the plain layer. -/
theorem value : Cert.algebraic_PostKernelIdeal_PostRefIdeal_pre_finite_post (hPostKernelIdeal := Cert.PostKernelIdeal.Gen.facts) (hPostRefIdeal := Cert.PostRefIdeal.Gen.facts) (hPre_finite_post := Cert.Pre_finite_post.Gen.facts) := by
  intro m ρ m' ρ' hpre hag
  refine ⟨fun c => Cert.PostKernelIdeal.Array.dmix (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)),
    fun c => Cert.PostKernelIdeal.Array.dg (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg3)),
    fun c => Cert.PostKernelIdeal.Array.dcat (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)),
    (θ_run _ _ _).mono (fun _ h c => ?_) (Cert.PostKernelIdeal.Value.run_blocks m ρ),
    (θ_run _ _ _).mono (fun _ h c => ?_) (Cert.PostRefIdeal.Value.run (F := Ideal) m' ρ')⟩
  · exact ⟨(h c).1.trans (Cert.PostKernelIdeal.Array.dmix_array m c), (h c).2.1.trans (Cert.PostKernelIdeal.Array.dg_array m c), (h c).2.2.1.trans (Cert.PostKernelIdeal.Array.dcat_array m c), (h c).2.2.2⟩
  · obtain ⟨h0, h1, h2, h3⟩ := hag c
    obtain ⟨ha, hw, hg, he⟩ := Cert.PostRefIdeal.Equation.reals _ _ _ _ (hpre c)
    refine ⟨(h c).1.trans ?_, (h c).2.1.trans ?_, (h c).2.2.1.trans ?_, (h c).2.2.2⟩
    · refine (Cert.PostRefIdeal.Read.val_main_v37_eq m' c).trans ?_
      rw [h0, h1, h2, h3]
      exact Cert.PostRefIdeal.Equation.dmix_eq _ _ _ _ ha hw hg he
    · refine (Cert.PostRefIdeal.Read.val_main_v38_eq _ _ _).trans ?_
      rw [h0, h1, h3]
      exact Cert.PostRefIdeal.Equation.dg_eq _ _ _
    · refine (Cert.PostRefIdeal.Read.val_main_v40_eq m' c).trans ?_
      rw [h0, h1, h2, h3]
      exact Cert.PostRefIdeal.Equation.dcat_eq _ _ _ _ ha hw hg he

/-- The plain gradient keeps its arguments and ends every semaphore at zero. -/
theorem ref_frame : Cert.quiescent_PostRefIdeal := fun m ρ _ =>
  (θ_run _ _ _).mono (fun r h => ⟨fun c => (h c).2.2.2, sem_eq_zero_of_no_sems (by decide) r.2⟩)
    (Cert.PostRefIdeal.Value.run (F := Ideal) m ρ)

end Cert.Proof.Post

end
-- ==== Proof.SsdEntry.lean ====
/-
  The arrays the host code prepares for the state-space forward call, read at an index: the convolved features, the
  projection behind its padding, the per-head parameters as rows, the matrix that spreads a head over its lanes, the
  triangle of ones that sums along the rows, and the output array whose first half is already filled.
-/
module

public import proofs.«01_k».proof.Proof.Gen.SsdKernelIdeal.Value
public import Idealize.ShloMosaic.Lib.Pipeline.ValueKit
public import Idealize.ShloMosaic.Lib.Pointwise

@[expose] public section

set_option maxRecDepth 16384

noncomputable section

namespace Cert.SsdKernelIdeal.Array

open Cert.SsdKernelIdeal Cert.SsdKernelIdeal.Gen Idealize.ShloMosaic Idealize.ShloMosaic.TcCoe Idealize.SL.Sem

variable (m : (ℓ : Loc nD τ sig) → Buf (Elt Ideal) ℓ)

/-- The host line before the region, as one list. -/
theorem V_flat (c : Dev nD) (b : Ref sig .tc) :
    V m c b = StableHlo.after (hostOps0 ++ (hostOps0_1 ++ hostOps0_2)) (fun b => m (c, b)) b := rfl

theorem bit_one {t : FTy} : (FloatOps.uitofp t (1#1) : Ideal t) = (1 : EReal) := by
  show (((1#1 : BitVec 1).toNat : ℝ) : EReal) = 1
  simp
theorem bit_zero {t : FTy} : (FloatOps.uitofp t (0#1) : Ideal t) = (0 : EReal) := by
  show (((0#1 : BitVec 1).toNat : ℝ) : EReal) = 0
  simp

/-- The comparison matrix: one where the row is at or past the column. -/
theorem tri_apply (c : Dev nD) (l s : Fin 128) :
    (V m c main_v34 : Vec Ideal S128x128 .f32) (ix2 l s) = if s.val ≤ l.val then (1 : EReal) else 0 := by
  rw [V_flat]; simp only [hostOps0, hostOps0_1, hostOps0_2, List.cons_append, List.nil_append]
  entry_read
  pointwise
  by_cases h : s.val ≤ l.val
  · rw [if_pos h, (WordCmp.cmpi_sge_ofNat_eq_one_iff (by omega) (by omega)).2 h]; exact bit_one
  · rw [if_neg h]
    rw [show IntOp.cmpi .sge (BitVec.ofNat 32 l.val) (BitVec.ofNat 32 s.val) = 0#1 from by
      rw [WordCmp.cmpi_sge_ofNat (by omega) (by omega), decide_eq_false h]; rfl]
    exact bit_zero

/-- Which head a lane belongs to. -/
def heads : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

theorem heads_apply (s : Fin 1024) : heads (ix1 s) = BitVec.ofNat 32 (s.val / 64) := by
  pointwise [heads]
  revert s
  decide +kernel

/-- The expansion matrix: one where the row is the lane's head. -/
theorem expand_apply (c : Dev nD) (h : Fin 128) (q : Fin 1024) :
    (V m c main_v26 : Vec Ideal S128x1024 .bf16) (ix2 h q) = if h.val = q.val / 64 then (1 : EReal) else 0 := by
  rw [V_flat]; simp only [hostOps0, hostOps0_1, hostOps0_2, List.cons_append, List.nil_append]
  entry_read
  show (uitofp .bf16 (cmpi .eq (broadcastInDim S128x1024 ![0, 1] bcast_S128x1_S128x1024_0_1 (broadcastInDim S128x1 ![0] bcast_S128_S128x1_0 (iotaInDim S128 32 0)))
    (broadcastInDim S128x1024 ![0, 1] bcast_S1x1024_S128x1024_0_1 (broadcastInDim S1x1024 ![1] bcast_S1024_S1x1024_1 heads))) : FVec Ideal S128x1024 .bf16) (ix2 h q) = _
  pointwise
  rw [heads_apply]
  by_cases hq : h.val = q.val / 64
  · rw [if_pos hq, hq, WordCmp.cmpi_eq_ofNat (by omega) (by omega), decide_eq_true rfl]; exact bit_one
  · rw [if_neg hq]
    rw [WordCmp.cmpi_eq_ofNat (by omega) (by omega), decide_eq_false hq]; exact bit_zero

/-- The projection's rows with zero columns behind them. -/
theorem proj_apply (c : Dev nD) (r : Fin 4096) (j : Fin 5760) (hj : j.val < 5648) :
    (V m c main_v3 : Vec Ideal S4096x5760 .bf16) (ix2 r j) =
      (m (c, Proc.tc.devRef main_arg1) : Vec Ideal S2x2048x5648 .f32) (ix3 (⟨r.val / 2048, by omega⟩ : Fin 2) (⟨r.val % 2048, by omega⟩ : Fin 2048) (⟨j.val, hj⟩ : Fin 5648)) := by
  rw [V_flat]; simp only [hostOps0, hostOps0_1, hostOps0_2, List.cons_append, List.nil_append]
  entry_read
  pointwise
  rw [dif_pos hj]

/-- The three per-head parameters as rows of one block. -/
def parOf (a b d : Vec Ideal S16 .f32) : Vec Ideal S8x128 .f32 :=
  concatenate S8x128 0 [⟨S3x128, concatenate S3x128 1 [⟨S3x16, concatenate S3x16 0 [⟨S1x16, broadcastInDim S1x16 ![1] bcast_S16_S1x16_1 a⟩,
      ⟨S1x16, broadcastInDim S1x16 ![1] bcast_S16_S1x16_1 b⟩, ⟨S1x16, broadcastInDim S1x16 ![1] bcast_S16_S1x16_1 d⟩] concatenates_S1x16_S1x16_S1x16_S3x16_d0⟩,
    ⟨S3x112, broadcastInDim S3x112 ![] bcast_S_S3x112 (constant (F := Ideal) S_ .f32 0x00000000#32)⟩] concatenates_S3x16_S3x112_S3x128_d1⟩,
    ⟨S5x128, broadcastInDim S5x128 ![] bcast_S_S5x128 (constant (F := Ideal) S_ .f32 0x00000000#32)⟩] concatenates_S3x128_S5x128_S8x128_d0

set_option maxHeartbeats 2000000 in
theorem par_eq (c : Dev nD) :
    (V m c main_v15 : Vec Ideal S8x128 .f32) = parOf (m (c, Proc.tc.devRef main_arg2)) (m (c, Proc.tc.devRef main_arg3)) (m (c, Proc.tc.devRef main_arg4)) := by
  rw [V_flat]; simp only [hostOps0, hostOps0_1, hostOps0_2, List.cons_append, List.nil_append]
  with_unfolding_all rfl

theorem par_bias (a b d : Vec Ideal S16 .f32) (h : Fin 16) : parOf a b d (ix2 (0 : Fin 8) (⟨h.val, by omega⟩ : Fin 128)) = a (ix1 h) := by
  pointwise [parOf]
theorem par_log (a b d : Vec Ideal S16 .f32) (h : Fin 16) : parOf a b d (ix2 (1 : Fin 8) (⟨h.val, by omega⟩ : Fin 128)) = b (ix1 h) := by
  pointwise [parOf]
theorem par_skip (a b d : Vec Ideal S16 .f32) (h : Fin 16) : parOf a b d (ix2 (2 : Fin 8) (⟨h.val, by omega⟩ : Fin 128)) = d (ix1 h) := by
  pointwise [parOf]

theorem xbc_apply (c : Dev nD) (r : Fin 4096) (j : Fin 1536) :
    (V m c main_v16 : Vec Ideal S4096x1536 .f32) (ix2 r j) =
      (m (c, Proc.tc.devRef main_arg0) : Vec Ideal S2x2048x1536 .f32) (ix3 (⟨r.val / 2048, by omega⟩ : Fin 2) (⟨r.val % 2048, by omega⟩ : Fin 2048) j) := by
  rw [V_flat]; simp only [hostOps0, hostOps0_1, hostOps0_2, List.cons_append, List.nil_append]
  entry_read
  pointwise
theorem gain_apply (c : Dev nD) (j : Fin 1024) :
    (V m c main_v17 : Vec Ideal S1x1024 .f32) (ix2 (0 : Fin 1) j) = (m (c, Proc.tc.devRef main_arg5) : Vec Ideal S1024 .f32) (ix1 j) := by
  rw [V_flat]; simp only [hostOps0, hostOps0_1, hostOps0_2, List.cons_append, List.nil_append]
  entry_read
  pointwise
theorem cat_apply (c : Dev nD) (r : Fin 4096) (j : Fin 2048) (hj : j.val < 1024) :
    (V m c main_v35_0 : Vec Ideal S4096x2048 .bf16) (ix2 r j) =
      (m (c, Proc.tc.devRef main_arg6) : Vec Ideal S2x2048x1024 .f32) (ix3 (⟨r.val / 2048, by omega⟩ : Fin 2) (⟨r.val % 2048, by omega⟩ : Fin 2048) (⟨j.val, hj⟩ : Fin 1024)) := by
  rw [V_flat]; simp only [hostOps0, hostOps0_1, hostOps0_2, List.cons_append, List.nil_append]
  entry_read
  pointwise
  rw [dif_pos hj]

end Cert.SsdKernelIdeal.Array
-- ==== Proof.SsdMath.lean ====
/- The state-space scan of one chunk of 128 rows, as plain functions over the extended reals: step sizes, cumulative
   decay, the product inside the chunk, the product with the state carried into it, the state carried out of it, the
   gate and the normalisation over each half of the lanes. -/
module

public import Idealize.ShloMosaic.PureOps.Ideal.Laws
public import Idealize.ShloMosaic.Lib.ValueIdx

@[expose] public section

noncomputable section

namespace SsdMath

open Idealize.ShloMosaic

/-- `log (1 + e^u)`, written so that neither end overflows. -/
def soft (u : EReal) : EReal := max u 0 + Ideal.log (1 + Ideal.exp (0 - max u (-u)))

/-- What one chunk reads: features, the two projections of the state, the raw step sizes and the gate's argument. -/
structure Chunk where
  x : Fin 128 → Fin 1024 → EReal
  b : Fin 128 → Fin 2 → Fin 128 → EReal
  c : Fin 128 → Fin 2 → Fin 128 → EReal
  d : Fin 128 → Fin 16 → EReal
  z : Fin 128 → Fin 1024 → EReal

/-- The parameters all chunks share. -/
structure Par where
  bias : Fin 16 → EReal
  alog : Fin 16 → EReal
  skip : Fin 16 → EReal
  gain : Fin 1024 → EReal

/-- The head of a lane, and the group of a lane. -/
def head (q : Fin 1024) : Fin 16 := ⟨q.val / 64, by omega⟩
def group (q : Fin 1024) : Fin 2 := ⟨q.val / 512, by omega⟩

variable (P : Par) (K : Chunk)

/-- Step size and rate. -/
def dt (l : Fin 128) (h : Fin 16) : EReal := soft (K.d l h + P.bias h)
def rate (h : Fin 16) : EReal := 0 - Ideal.exp (P.alog h)

/-- The logarithm of the decay from the chunk's start through row `l`. -/
def cum (l : Fin 128) (h : Fin 16) : EReal := ∑ s : Fin 128, if s.val ≤ l.val then dt P K s h * rate P h else 0

/-- How much of row `s` is left at row `l`: nothing before `s` has come. -/
def decay (l s : Fin 128) (h : Fin 16) : EReal := Ideal.exp (if s.val ≤ l.val then cum P K l h - cum P K s h else ⊥)

def score (g : Fin 2) (l s : Fin 128) : EReal := ∑ n : Fin 128, K.c l g n * K.b s g n

def xdt (l : Fin 128) (q : Fin 1024) : EReal := K.x l q * dt P K l (head q)

/-- What the chunk's own rows give row `l`. -/
def diag (l : Fin 128) (q : Fin 1024) : EReal :=
  ∑ s : Fin 128, score K (group q) l s * decay P K l s (head q) * xdt P K s q

/-- What of row `l` is left at the chunk's end; what is left of the state carried in. -/
def toEnd (l : Fin 128) (h : Fin 16) : EReal := Ideal.exp (cum P K (127 : Fin 128) h - cum P K l h)
def keep (h : Fin 16) : EReal := Ideal.exp (cum P K (127 : Fin 128) h)

/-- What the chunk adds to the state. -/
def fresh (n : Fin 128) (q : Fin 1024) : EReal := ∑ l : Fin 128, K.b l (group q) n * (xdt P K l q * toEnd P K l (head q))

/-- The state after the chunk. -/
def next (S : Fin 128 → Fin 1024 → EReal) (n : Fin 128) (q : Fin 1024) : EReal :=
  S n q * keep P K (head q) + fresh P K n q

/-- What the state carried in gives row `l`. -/
def off (S : Fin 128 → Fin 1024 → EReal) (l : Fin 128) (q : Fin 1024) : EReal :=
  (∑ n : Fin 128, K.c l (group q) n * S n q) * Ideal.exp (cum P K l (head q))

/-- The scan's output row. -/
def out (S : Fin 128 → Fin 1024 → EReal) (l : Fin 128) (q : Fin 1024) : EReal :=
  diag P K l q + off P K S l q + P.skip (head q) * K.x l q

/-- The output under its gate, and one half's mean square. -/
def gated (S : Fin 128 → Fin 1024 → EReal) (l : Fin 128) (q : Fin 1024) : EReal :=
  out P K S l q * (K.z l q * Ideal.logistic (K.z l q))

def halfLane (g : Fin 2) (j : Fin 512) : Fin 1024 := ⟨512 * g.val + j.val, by omega⟩

def scale (y : Fin 1024 → EReal) (g : Fin 2) : EReal :=
  Ideal.rsqrt (Ideal.div (∑ j : Fin 512, y (halfLane g j) * y (halfLane g j)) (Ideal.ofBits .f32 0x44000000#32)
    + Ideal.ofBits .f32 0x358637BD#32)

/-- The gated output normalised over its half of the lanes, with its gain. -/
def normed (S : Fin 128 → Fin 1024 → EReal) (l : Fin 128) (q : Fin 1024) : EReal :=
  gated P K S l q * scale (gated P K S l) (group q) * P.gain q

/-- The state carried into chunk `k` of a row of chunks. -/
def carry (Ks : ℕ → Chunk) : ℕ → Fin 128 → Fin 1024 → EReal
  | 0 => fun _ _ => 0
  | k + 1 => next P (Ks k) (carry Ks k)

/-! ### Signs: the decays are reals -/

theorem exp_nonneg (x : EReal) : 0 ≤ Ideal.exp x := by
  induction x using EReal.rec with
  | bot => exact le_rfl
  | top => exact le_top
  | coe r => exact EReal.coe_nonneg.2 (Real.exp_pos r).le

theorem log_nonneg {x : EReal} (h : 1 ≤ x) : 0 ≤ Ideal.log x := by
  induction x using EReal.rec with
  | bot => exact absurd (le_bot_iff.1 h) (EReal.coe_ne_bot 1)
  | top => exact le_top
  | coe r =>
    have h1 : (1 : ℝ) ≤ r := by exact_mod_cast h
    show (0 : EReal) ≤ if r ≤ 0 then ⊥ else (Real.log r : EReal)
    rw [if_neg (by linarith)]
    exact EReal.coe_nonneg.2 (Real.log_nonneg h1)

theorem soft_nonneg (u : EReal) : 0 ≤ soft u :=
  add_nonneg (le_max_right _ _) (log_nonneg (by
    calc (1 : EReal) = 1 + 0 := (add_zero _).symm
      _ ≤ _ := add_le_add le_rfl (exp_nonneg _)))

theorem rate_nonpos (h : Fin 16) : rate P h ≤ 0 := by
  rw [rate, zero_sub]
  exact EReal.neg_le.1 (by rw [neg_zero]; exact exp_nonneg _)

theorem cum_nonpos (l : Fin 128) (h : Fin 16) : cum P K l h ≤ 0 := by
  refine Finset.sum_nonpos fun s _ => ?_
  split
  · exact EReal.mul_nonpos_iff.2 (.inl ⟨soft_nonneg _, rate_nonpos P h⟩)
  · exact le_rfl

theorem exp_of_nonpos {x : EReal} (h : x ≤ 0) : ∃ r : ℝ, Ideal.exp x = (r : EReal) := by
  induction x using EReal.rec with
  | bot => exact ⟨0, rfl⟩
  | top => exact absurd h (by simp)
  | coe r => exact ⟨Real.exp r, rfl⟩

theorem keep_real (h : Fin 16) : ∃ r : ℝ, keep P K h = (r : EReal) := exp_of_nonpos (cum_nonpos P K _ h)

/-- A real written as three terms, the later two what the earlier ones left over, is itself. -/
theorem three_terms {x : EReal} (hx : ∃ r : ℝ, x = (r : EReal)) : x + (x - x) + ((x - x) - (x - x)) = x := by
  obtain ⟨r, rfl⟩ := hx
  have h0 : (r : EReal) - (r : EReal) = 0 := by rw [← EReal.coe_sub, sub_self]; rfl
  rw [h0, sub_zero, add_zero, add_zero]

/-- The logistic function through the hyperbolic tangent of the half. -/
theorem logistic_tanh (z : EReal) : Ideal.ofBits .f32 0x3F000000#32 * Ideal.tanh (Ideal.ofBits .f32 0x3F000000#32 * z)
    + Ideal.ofBits .f32 0x3F000000#32 = Ideal.logistic z := by
  have hw : Ideal.ofBits .f32 0x3F000000#32 = ((1 / 2 : ℝ) : EReal) := by
    simp [Ideal.ofBits, Ideal.ieee, -EReal.coe_mul]; norm_num
  rw [hw]
  induction z using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (1 / 2 * r) ≠ 0 := (Real.exp_pos _).ne'
    have e : Real.exp (-r) = Real.exp (-(1 / 2 * r)) * Real.exp (-(1 / 2 * r)) := by
      rw [← Real.exp_add]; congr 1; ring
    have e2 : Real.exp (-(1 / 2 * r)) = (Real.exp (1 / 2 * r))⁻¹ := Real.exp_neg _
    rw [e, e2]
    have h2 : 0 < Real.exp (1 / 2 * r) := Real.exp_pos _
    field_simp
    ring

end SsdMath

end
-- ==== Proof.SsdBlock.lean ====
/- What the body of the state-space forward call computes from its blocks, one intermediate block at a time, in the words
   of the chunk's functions. -/
module

public import proofs.«01_k».proof.Proof.SsdEntry
public import proofs.«01_k».proof.Proof.SsdMath
public import Idealize.ShloMosaic.Lib.Pipeline.ValueKit
public import Idealize.ShloMosaic.Lib.Pointwise

@[expose] public section

set_option maxRecDepth 16384

noncomputable section

namespace Cert.SsdKernelIdeal.Array

open Cert.SsdKernelIdeal Cert.SsdKernelIdeal.Gen Idealize.ShloMosaic Idealize.ShloMosaic.TcCoe Idealize.SL.Sem

open SsdMath

/-- A head's lane among the 128 the heads are stored on. -/
def ln (h : Fin 16) : Fin 128 := ⟨h.val, by omega⟩

/-- The lane of the blocks that hold both groups side by side. -/
def gl (g : Fin 2) (n : Fin 128) : Fin 256 := ⟨128 * g.val + n.val, by omega⟩

/-- What the blocks of one grid point hold, in the words of the chunk they are. -/
structure Reads (P : Par) (K : Chunk) (pb : Vec Ideal S8x128 .f32) (D : Vec Ideal S128x128 .bf16) (ex : Vec Ideal S128x1024 .bf16)
    (tri : Vec Ideal S128x128 .f32) (X : Vec Ideal S128x1024 .f32) (B C : Vec Ideal S128x256 .f32)
    (Z : Vec Ideal S128x1024 .bf16) (G : Vec Ideal S1x1024 .f32) : Prop where
  bias : ∀ h, pb (ix2 (0 : Fin 8) (ln h)) = P.bias h
  alog : ∀ h, pb (ix2 (1 : Fin 8) (ln h)) = P.alog h
  skip : ∀ h, pb (ix2 (2 : Fin 8) (ln h)) = P.skip h
  gain : ∀ q, G (ix2 (0 : Fin 1) q) = P.gain q
  d : ∀ l h, D (ix2 l (ln h)) = K.d l h
  ex : ∀ (k : Fin 128) (q : Fin 1024), ex (ix2 k q) = if k.val = q.val / 64 then (1 : EReal) else 0
  tri : ∀ l s : Fin 128, tri (ix2 l s) = if s.val ≤ l.val then (1 : EReal) else 0
  x : ∀ l q, X (ix2 l q) = K.x l q
  b : ∀ l g n, B (ix2 l (gl g n)) = K.b l g n
  c : ∀ l g n, C (ix2 l (gl g n)) = K.c l g n
  z : ∀ l q, Z (ix2 l q) = K.z l q

/-- Spreading the heads over their lanes reads the lane's head. -/
theorem expand_sum (f : Fin 128 → EReal) (e : Fin 128 → EReal) (q : Fin 1024)
    (he : ∀ k : Fin 128, e k = if k.val = q.val / 64 then (1 : EReal) else 0) :
    @Finset.sum (Fin 128) EReal _ Finset.univ (fun k => f k * e k) = f (ln (head q)) := by
  rw [Finset.sum_eq_single (ln (head q))]
  · rw [he, if_pos (show (ln (head q)).val = q.val / 64 from rfl), mul_one]
  · intro k _ hk
    rw [he, if_neg, mul_zero]
    intro h
    exact hk (Fin.ext h)
  · exact fun h => absurd (Finset.mem_univ _) h

theorem zero_word : Ideal.ofBits .f32 0x00000000#32 = 0 := by
  simp [Ideal.ofBits, Ideal.ieee, -EReal.coe_mul]
theorem bot_word : Ideal.ofBits .f32 0xFF800000#32 = ⊥ := by
  simp [Ideal.ofBits, Ideal.ieee, -EReal.coe_mul]

section Common

variable {P : Par} {K : Chunk} {pb : Vec Ideal S8x128 .f32} {D : Vec Ideal S128x128 .bf16} {ex : Vec Ideal S128x1024 .bf16}
  {tri : Vec Ideal S128x128 .f32} {X : Vec Ideal S128x1024 .f32} {B C : Vec Ideal S128x256 .f32}
  {Z : Vec Ideal S128x1024 .bf16} {G : Vec Ideal S1x1024 .f32} (R : Reads P K pb D ex tri X B C Z G)

include R

theorem dt_apply (l : Fin 128) (h : Fin 16) : k0_pay6 pb D (ix2 l (ln h)) = dt P K l h := by
  have e : k0_pay6 pb D (ix2 l (ln h)) = soft (D (ix2 l (ln h)) + pb (ix2 (0 : Fin 8) (ln h))) := by
    pointwise [k0_pay6, k0_pay3]
    rfl
  rw [e, R.bias, R.d]; rfl

theorem kept_apply (l : Fin 128) (h : Fin 16) : k0_pay9 (k0_pay6 pb D) k0_pay7 k0_pay8 (ix2 l (ln h)) = dt P K l h := by
  rw [← dt_apply R l h]
  have hh : (ln h).val < 16 := h.isLt
  pointwise [k0_pay9, k0_pay7, k0_pay8]
  word_cmp
  rw [if_pos hh]

theorem rate_apply (h : Fin 16) : k0_pay5 pb (ix2 (0 : Fin 1) (ln h)) = rate P h := by
  have e : k0_pay5 pb (ix2 (0 : Fin 1) (ln h)) = 0 - Ideal.exp (pb (ix2 (1 : Fin 8) (ln h))) := by
    pointwise [k0_pay5, k0_pay3]
  rw [e, R.alog]; rfl

theorem cum_apply (l : Fin 128) (h : Fin 16) :
    k0_pay10 (k0_pay5 pb) (k0_pay6 pb D) k0_pay7 k0_pay8 tri (ix2 l (ln h)) = cum P K l h := by
  have e : k0_pay10 (k0_pay5 pb) (k0_pay6 pb D) k0_pay7 k0_pay8 tri (ix2 l (ln h)) =
      @Finset.sum (Fin 128) EReal _ Finset.univ (fun s => tri (ix2 l s) * (k0_pay9 (k0_pay6 pb D) k0_pay7 k0_pay8 (ix2 s (ln h)) * k0_pay5 pb (ix2 (0 : Fin 1) (ln h)))) := by
    pointwise [k0_pay10]
  rw [e, cum]
  refine Finset.sum_congr (M := EReal) rfl fun s _ => ?_
  rw [kept_apply R, rate_apply R, R.tri]
  split
  · rw [one_mul]
  · rw [zero_mul]

theorem cumT_apply (h : Fin 16) (l : Fin 128) :
    k0_pay14 (k0_pay5 pb) (k0_pay6 pb D) k0_pay7 k0_pay8 tri (ix2 (ln h) l) = cum P K l h := by
  rw [← cum_apply R l h]
  pointwise [k0_pay14]

theorem dtx_apply (l : Fin 128) (q : Fin 1024) : k0_pay15 (k0_pay6 pb D) k0_pay7 k0_pay8 ex (ix2 l q) = dt P K l (head q) := by
  have e : k0_pay15 (k0_pay6 pb D) k0_pay7 k0_pay8 ex (ix2 l q) =
      @Finset.sum (Fin 128) EReal _ Finset.univ (fun k => k0_pay9 (k0_pay6 pb D) k0_pay7 k0_pay8 (ix2 l k) * ex (ix2 k q)) := by
    pointwise [k0_pay15, k0_pay12]
  rw [e, expand_sum _ _ q (fun k => R.ex k q), kept_apply R]

theorem ecs_apply (l : Fin 128) (q : Fin 1024) :
    k0_pay17 (k0_pay5 pb) (k0_pay6 pb D) k0_pay7 k0_pay8 tri ex (ix2 l q) = Ideal.exp (cum P K l (head q)) := by
  have e : k0_pay17 (k0_pay5 pb) (k0_pay6 pb D) k0_pay7 k0_pay8 tri ex (ix2 l q) =
      @Finset.sum (Fin 128) EReal _ Finset.univ (fun k => Ideal.exp (k0_pay10 (k0_pay5 pb) (k0_pay6 pb D) k0_pay7 k0_pay8 tri (ix2 l k)) * ex (ix2 k q)) := by
    pointwise [k0_pay17, k0_pay12]
  rw [e, expand_sum (fun k => Ideal.exp (k0_pay10 (k0_pay5 pb) (k0_pay6 pb D) k0_pay7 k0_pay8 tri (ix2 l k))) _ q (fun k => R.ex k q), cum_apply R]

theorem toEnd_apply (l : Fin 128) (q : Fin 1024) :
    k0_pay16 (k0_pay5 pb) (k0_pay6 pb D) k0_pay7 k0_pay8 tri ex (ix2 l q) = toEnd P K l (head q) := by
  have e : k0_pay16 (k0_pay5 pb) (k0_pay6 pb D) k0_pay7 k0_pay8 tri ex (ix2 l q) =
      @Finset.sum (Fin 128) EReal _ Finset.univ (fun k => Ideal.exp (k0_pay10 (k0_pay5 pb) (k0_pay6 pb D) k0_pay7 k0_pay8 tri (ix2 (127 : Fin 128) k)
        - k0_pay10 (k0_pay5 pb) (k0_pay6 pb D) k0_pay7 k0_pay8 tri (ix2 l k)) * ex (ix2 k q)) := by
    pointwise [k0_pay16, k0_pay12, k0_pay11]
  rw [e, expand_sum (fun k => Ideal.exp (k0_pay10 (k0_pay5 pb) (k0_pay6 pb D) k0_pay7 k0_pay8 tri (ix2 (127 : Fin 128) k)
        - k0_pay10 (k0_pay5 pb) (k0_pay6 pb D) k0_pay7 k0_pay8 tri (ix2 l k))) _ q (fun k => R.ex k q), cum_apply R, cum_apply R]
  rfl

/-- A row spread in three terms is the row spread, where the lane's head is a real. -/
theorem three_spread (f : Fin 128 → EReal) (q : Fin 1024) (hf : ∃ r : ℝ, f (ln (head q)) = (r : EReal)) :
    @Finset.sum (Fin 128) EReal _ Finset.univ (fun k => f k * ex (ix2 k q))
      + @Finset.sum (Fin 128) EReal _ Finset.univ (fun k => (f k - f k) * ex (ix2 k q))
      + @Finset.sum (Fin 128) EReal _ Finset.univ (fun k => ((f k - f k) - (f k - f k)) * ex (ix2 k q)) = f (ln (head q)) := by
  rw [expand_sum f _ q (fun k => R.ex k q), expand_sum (fun k => f k - f k) _ q (fun k => R.ex k q),
    expand_sum (fun k => (f k - f k) - (f k - f k)) _ q (fun k => R.ex k q)]
  exact three_terms hf

theorem keepx_apply (q : Fin 1024) :
    k0_pay18 (k0_pay4 pb) (k0_pay5 pb) (k0_pay6 pb D) k0_pay7 k0_pay8 tri ex (ix2 (0 : Fin 1) q) = keep P K (head q) := by
  have hk : Ideal.exp (k0_pay10 (k0_pay5 pb) (k0_pay6 pb D) k0_pay7 k0_pay8 tri (ix2 (127 : Fin 128) (ln (head q)))) = keep P K (head q) := by
    rw [cum_apply R]; rfl
  rw [← hk]
  have hr := keep_real P K (head q)
  rw [← hk] at hr
  rw [← three_spread R (fun k => Ideal.exp (k0_pay10 (k0_pay5 pb) (k0_pay6 pb D) k0_pay7 k0_pay8 tri (ix2 (127 : Fin 128) k))) q hr]
  pointwise [k0_pay18, k0_pay13, k0_pay12, k0_pay11, k0_pay4, k0_pay3]
  try rfl

theorem skipx_apply (q : Fin 1024) (hs : ∃ r : ℝ, P.skip (head q) = (r : EReal)) :
    k0_pay19 (k0_pay13 (k0_pay4 pb) (k0_pay5 pb) (k0_pay6 pb D) k0_pay7 k0_pay8 tri ex) (ix2 (0 : Fin 1) q) = P.skip (head q) := by
  have hr := hs
  rw [← R.skip] at hr ⊢
  rw [← three_spread R (fun k => pb (ix2 (2 : Fin 8) k)) q hr]
  pointwise [k0_pay19, k0_pay13, k0_pay12, k0_pay11, k0_pay4, k0_pay3]
  try rfl

theorem xdt_apply (l : Fin 128) (q : Fin 1024) :
    k0_pay22 (k0_pay15 (k0_pay6 pb D) k0_pay7 k0_pay8 ex) X (ix2 l q) = xdt P K l q := by
  have e : k0_pay22 (k0_pay15 (k0_pay6 pb D) k0_pay7 k0_pay8 ex) X (ix2 l q) = X (ix2 l q) * k0_pay15 (k0_pay6 pb D) k0_pay7 k0_pay8 ex (ix2 l q) := by
    pointwise [k0_pay22, k0_pay21, k0_pay20]
  rw [e, dtx_apply R, R.x]; rfl

theorem xdte_apply (l : Fin 128) (q : Fin 1024) :
    k0_pay23 (k0_pay15 (k0_pay6 pb D) k0_pay7 k0_pay8 ex) (k0_pay16 (k0_pay5 pb) (k0_pay6 pb D) k0_pay7 k0_pay8 tri ex) X (ix2 l q)
      = xdt P K l q * toEnd P K l (head q) := by
  have e : k0_pay23 (k0_pay15 (k0_pay6 pb D) k0_pay7 k0_pay8 ex) (k0_pay16 (k0_pay5 pb) (k0_pay6 pb D) k0_pay7 k0_pay8 tri ex) X (ix2 l q)
      = X (ix2 l q) * k0_pay15 (k0_pay6 pb D) k0_pay7 k0_pay8 ex (ix2 l q) * k0_pay16 (k0_pay5 pb) (k0_pay6 pb D) k0_pay7 k0_pay8 tri ex (ix2 l q) := by
    pointwise [k0_pay23, k0_pay21, k0_pay20]
  rw [e, dtx_apply R, toEnd_apply R, R.x]; rfl

end Common

/-! ### The products inside the chunk -/

/-- The lanes of one head of a pair, then those of the other. -/
theorem two_heads (q : Fin 128) (f g : Fin 128 → EReal) :
    @Finset.sum (Fin 128) EReal _ Finset.univ (fun x => Scalar.select (IntOp.cmpi .slt (BitVec.ofNat 32 q.val) 64#32) (f x) 0)
      + @Finset.sum (Fin 128) EReal _ Finset.univ (fun x => Scalar.select (IntOp.cmpi .slt (BitVec.ofNat 32 q.val) 64#32) 0 (g x))
    = if q.val < 64 then @Finset.sum (Fin 128) EReal _ Finset.univ f else @Finset.sum (Fin 128) EReal _ Finset.univ g := by
  word_cmp
  split
  · simp
  · simp

theorem tile_eq (P : Par) (K : Chunk) (l q : Fin 128) (Q : Fin 1024) (j : ℕ) (hQ : Q.val = 128 * j + q.val)
    (g xb u v : Fin 128 → EReal) (hg : ∀ x, g x = score K (group Q) l x) (hx : ∀ x, xb x = xdt P K x Q)
    (hu : ∀ x (h : Fin 16), h.val = 2 * j → u x = cum P K l h - cum P K x h)
    (hv : ∀ x (h : Fin 16), h.val = 2 * j + 1 → v x = cum P K l h - cum P K x h) :
    @Finset.sum (Fin 128) EReal _ Finset.univ (fun x => Scalar.select (IntOp.cmpi .slt (BitVec.ofNat 32 q.val) 64#32)
        (g x * Ideal.exp (Scalar.select (IntOp.cmpi .sge (BitVec.ofNat 32 l.val) (BitVec.ofNat 32 x.val)) (u x) (Ideal.ofBits .f32 0xFF800000#32)) * xb x) 0)
      + @Finset.sum (Fin 128) EReal _ Finset.univ (fun x => Scalar.select (IntOp.cmpi .slt (BitVec.ofNat 32 q.val) 64#32) 0
        (g x * Ideal.exp (Scalar.select (IntOp.cmpi .sge (BitVec.ofNat 32 l.val) (BitVec.ofNat 32 x.val)) (v x) (Ideal.ofBits .f32 0xFF800000#32)) * xb x))
    = diag P K l Q := by
  have hmask : ∀ (x : Fin 128) (w : EReal), Scalar.select (IntOp.cmpi .sge (BitVec.ofNat 32 l.val) (BitVec.ofNat 32 x.val)) w (Ideal.ofBits .f32 0xFF800000#32)
      = if x.val ≤ l.val then w else (⊥ : EReal) := by
    intro x w
    rw [bot_word]
    word_cmp
  rw [two_heads, diag]
  split
  · refine Finset.sum_congr (M := EReal) rfl fun x _ => ?_
    rw [hmask, hg, hx, hu x (head Q) (by show Q.val / 64 = _; omega)]; rfl
  · refine Finset.sum_congr (M := EReal) rfl fun x _ => ?_
    rw [hmask, hg, hx, hv x (head Q) (by show Q.val / 64 = _; omega)]; rfl

section Tiles

variable {P : Par} {K : Chunk} {cs cst : FVec Ideal S128x128 .f32} {xb : FVec Ideal S128x1024 .bf16}
  (hcs : ∀ l h, cs (ix2 l (ln h)) = cum P K l h) (hcst : ∀ h l, cst (ix2 (ln h) l) = cum P K l h)
  (hx : ∀ l q, xb (ix2 l q) = xdt P K l q)

include hcs hcst hx

/-- The lanes' numbers along the columns. -/
abbrev lanes : IVec S128x128 32 := iota .tc S128x128 32 [1] iota_S128x128_d1_w32

theorem tile0 {Bl Cl : Vec Ideal S128x128 .f32} (hg : ∀ l x, k0_pay29 Bl Cl (ix2 l x) = score K 0 l x) (l q : Fin 128) :
    k0_pay33 (k0_pay26 lanes) (k0_pay29 Bl Cl) (extractStridedSlice S128x128 ![0, 0] xb slices_S128x1024_o0_0_S128x128) (k0_pay31 lanes cs cst Bl Cl) (k0_pay32 lanes cs cst) (ix2 l q) = diag P K l ⟨q.val, by omega⟩ := by
  pointwise [k0_pay33, k0_pay26, k0_pay31, k0_pay32]
  exact tile_eq P K l q _ 0 (by simp) _ _ _ _ (fun x => (hg l x).trans (by rw [show group (⟨q.val, by omega⟩ : Fin 1024) = (0 : Fin 2) from Fin.ext (by show q.val / 512 = 0; omega)])) (fun x => hx _ _)
    (fun x h e => by obtain rfl : h = 0 := Fin.ext e; exact congrArg₂ (· - ·) (hcs l 0) (hcst 0 x))
    (fun x h e => by obtain rfl : h = 1 := Fin.ext e; exact congrArg₂ (· - ·) (hcs l 1) (hcst 1 x))

theorem tile1 {g : FVec Ideal S128x128 .f32} (hg : ∀ l x, g (ix2 l x) = score K 0 l x) (l q : Fin 128) :
    k0_pay34 lanes cs cst xb (k0_pay26 lanes) g (ix2 l q) = diag P K l ⟨128 + q.val, by omega⟩ := by
  pointwise [k0_pay34, k0_pay26]
  exact tile_eq P K l q _ 1 rfl _ _ _ _ (fun x => (hg l x).trans (by rw [show group (⟨128 + q.val, by omega⟩ : Fin 1024) = (0 : Fin 2) from Fin.ext (by show (128 + q.val) / 512 = 0; omega)])) (fun x => hx _ _)
    (fun x h e => by obtain rfl : h = 2 := Fin.ext e; exact congrArg₂ (· - ·) (hcs l 2) (hcst 2 x))
    (fun x h e => by obtain rfl : h = 3 := Fin.ext e; exact congrArg₂ (· - ·) (hcs l 3) (hcst 3 x))

theorem tile2 {g : FVec Ideal S128x128 .f32} (hg : ∀ l x, g (ix2 l x) = score K 0 l x) (l q : Fin 128) :
    k0_pay35 lanes cs cst xb (k0_pay26 lanes) g (ix2 l q) = diag P K l ⟨256 + q.val, by omega⟩ := by
  pointwise [k0_pay35, k0_pay26]
  exact tile_eq P K l q _ 2 rfl _ _ _ _ (fun x => (hg l x).trans (by rw [show group (⟨256 + q.val, by omega⟩ : Fin 1024) = (0 : Fin 2) from Fin.ext (by show (256 + q.val) / 512 = 0; omega)])) (fun x => hx _ _)
    (fun x h e => by obtain rfl : h = 4 := Fin.ext e; exact congrArg₂ (· - ·) (hcs l 4) (hcst 4 x))
    (fun x h e => by obtain rfl : h = 5 := Fin.ext e; exact congrArg₂ (· - ·) (hcs l 5) (hcst 5 x))

theorem tile3 {g : FVec Ideal S128x128 .f32} (hg : ∀ l x, g (ix2 l x) = score K 0 l x) (l q : Fin 128) :
    k0_pay39 lanes cst (k0_pay26 lanes) g (k0_pay36 xb) (k0_pay37 lanes cs cst g) (iota .tc S128x128 32 [0] iota_S128x128_d0_w32) (k0_pay38 cs) (ix2 l q) = diag P K l ⟨384 + q.val, by omega⟩ := by
  pointwise [k0_pay39, k0_pay26, k0_pay36, k0_pay37, k0_pay38]
  exact tile_eq P K l q _ 3 rfl _ _ _ _ (fun x => (hg l x).trans (by rw [show group (⟨384 + q.val, by omega⟩ : Fin 1024) = (0 : Fin 2) from Fin.ext (by show (384 + q.val) / 512 = 0; omega)])) (fun x => hx _ _)
    (fun x h e => by obtain rfl : h = 6 := Fin.ext e; exact congrArg₂ (· - ·) (hcs l 6) (hcst 6 x))
    (fun x h e => by obtain rfl : h = 7 := Fin.ext e; exact congrArg₂ (· - ·) (hcs l 7) (hcst 7 x))

theorem tile4 {Bl Cl : Vec Ideal S128x128 .f32} (hg : ∀ l x, k0_pay45 (k0_pay42 Bl) Cl (ix2 l x) = score K 1 l x) (l q : Fin 128) :
    k0_pay46 lanes cs cst xb (k0_pay26 lanes) (k0_pay42 Bl) Cl (ix2 l q) = diag P K l ⟨512 + q.val, by omega⟩ := by
  pointwise [k0_pay46, k0_pay26]
  exact tile_eq P K l q _ 4 rfl _ _ _ _ (fun x => (hg l x).trans (by rw [show group (⟨512 + q.val, by omega⟩ : Fin 1024) = (1 : Fin 2) from Fin.ext (by show (512 + q.val) / 512 = 1; omega)])) (fun x => hx _ _)
    (fun x h e => by obtain rfl : h = 8 := Fin.ext e; exact congrArg₂ (· - ·) (hcs l 8) (hcst 8 x))
    (fun x h e => by obtain rfl : h = 9 := Fin.ext e; exact congrArg₂ (· - ·) (hcs l 9) (hcst 9 x))

theorem tile5 {g : FVec Ideal S128x128 .f32} (hg : ∀ l x, g (ix2 l x) = score K 1 l x) (l q : Fin 128) :
    k0_pay50 lanes cs cst (k0_pay26 lanes) g (k0_pay47 xb) (k0_pay48 cs cst) (k0_pay49 lanes) (Scalar.ofBits .f32 0xFF800000#32) (ix2 l q) = diag P K l ⟨640 + q.val, by omega⟩ := by
  pointwise [k0_pay50, k0_pay26, k0_pay47, k0_pay48, k0_pay49]
  exact tile_eq P K l q _ 5 rfl _ _ _ _ (fun x => (hg l x).trans (by rw [show group (⟨640 + q.val, by omega⟩ : Fin 1024) = (1 : Fin 2) from Fin.ext (by show (640 + q.val) / 512 = 1; omega)])) (fun x => hx _ _)
    (fun x h e => by obtain rfl : h = 10 := Fin.ext e; exact congrArg₂ (· - ·) (hcs l 10) (hcst 10 x))
    (fun x h e => by obtain rfl : h = 11 := Fin.ext e; exact congrArg₂ (· - ·) (hcs l 11) (hcst 11 x))

theorem tile6 {g : FVec Ideal S128x128 .f32} (hg : ∀ l x, g (ix2 l x) = score K 1 l x) (l q : Fin 128) :
    k0_pay54 (k0_pay26 lanes) (k0_pay51 xb) (k0_pay52 lanes cs cst g) (k0_pay53 lanes cs cst g) (ix2 l q) = diag P K l ⟨768 + q.val, by omega⟩ := by
  pointwise [k0_pay54, k0_pay26, k0_pay51, k0_pay52, k0_pay53]
  exact tile_eq P K l q _ 6 rfl _ _ _ _ (fun x => (hg l x).trans (by rw [show group (⟨768 + q.val, by omega⟩ : Fin 1024) = (1 : Fin 2) from Fin.ext (by show (768 + q.val) / 512 = 1; omega)])) (fun x => hx _ _)
    (fun x h e => by obtain rfl : h = 12 := Fin.ext e; exact congrArg₂ (· - ·) (hcs l 12) (hcst 12 x))
    (fun x h e => by obtain rfl : h = 13 := Fin.ext e; exact congrArg₂ (· - ·) (hcs l 13) (hcst 13 x))

theorem tile7 {g : FVec Ideal S128x128 .f32} (hg : ∀ l x, g (ix2 l x) = score K 1 l x) (l q : Fin 128) :
    k0_pay55 lanes cs cst xb (k0_pay26 lanes) g (ix2 l q) = diag P K l ⟨896 + q.val, by omega⟩ := by
  pointwise [k0_pay55, k0_pay26]
  exact tile_eq P K l q _ 7 rfl _ _ _ _ (fun x => (hg l x).trans (by rw [show group (⟨896 + q.val, by omega⟩ : Fin 1024) = (1 : Fin 2) from Fin.ext (by show (896 + q.val) / 512 = 1; omega)])) (fun x => hx _ _)
    (fun x h e => by obtain rfl : h = 14 := Fin.ext e; exact congrArg₂ (· - ·) (hcs l 14) (hcst 14 x))
    (fun x h e => by obtain rfl : h = 15 := Fin.ext e; exact congrArg₂ (· - ·) (hcs l 15) (hcst 15 x))

end Tiles

end Cert.SsdKernelIdeal.Array
-- ==== Proof.SsdPoint.lean ====
/- What one grid point of the state-space forward call leaves: the state after its chunk, the scan's output rows, and the
   normalised rows. The state and the output are written in pieces; each is read back at the piece a lane lies in. -/
module

public import proofs.«01_k».proof.Proof.SsdBlock
public import Idealize.ShloMosaic.Lib.Pipeline.ValueKit
public import Idealize.ShloMosaic.Lib.Pipeline.ReadBack

@[expose] public section

set_option maxRecDepth 16384

noncomputable section

namespace Cert.SsdKernelIdeal.Array

open Cert.SsdKernelIdeal Cert.SsdKernelIdeal.Gen Idealize.ShloMosaic Idealize.ShloMosaic.TcCoe Idealize.SL.Sem SsdMath

/-! ### Blocks written in column pieces -/

theorem canon_col {o w : ℕ} (inb : ∀ a : Fin 2, (![0, o] : Fin 2 → ℕ) a + (![128, w] : Fin 2 → ℕ) a ≤ S128x1024.size a)
    (v : (Rect.unit (s := S128x1024) ![0, o] ![128, w] inb).shape.Idx → Elt Ideal .f32) (L : List ((r : Rect S128x1024) × (r.shape.Idx → Elt Ideal .f32)))
    (l : Fin 128) (q : Fin 1024) (h : Fin w) (hq : q.val = o + h.val) :
    View.canon (⟨Rect.unit (s := S128x1024) ![0, o] ![128, w] inb, v⟩ :: L) (ix2 l q) = v (ix2 l h) := by
  have e : (ix2 l q : S128x1024.Idx) = (Rect.unit (s := S128x1024) ![0, o] ![128, w] inb).emb (ix2 l h) := by
    funext a
    apply Fin.ext
    rw [Rect.emb_apply]
    match a with
    | ⟨0, _⟩ => show l.val = 0 + 1 * l.val; omega
    | ⟨1, _⟩ => show q.val = o + 1 * h.val; omega
  rw [e]
  exact View.canon_cons_emb _ v L _

theorem canon_col_skip {o w : ℕ} (inb : ∀ a : Fin 2, (![0, o] : Fin 2 → ℕ) a + (![128, w] : Fin 2 → ℕ) a ≤ S128x1024.size a)
    (v : (Rect.unit (s := S128x1024) ![0, o] ![128, w] inb).shape.Idx → Elt Ideal .f32) (L : List ((r : Rect S128x1024) × (r.shape.Idx → Elt Ideal .f32)))
    (l : Fin 128) (q : Fin 1024) (hq : q.val < o ∨ o + w ≤ q.val) :
    View.canon (⟨Rect.unit (s := S128x1024) ![0, o] ![128, w] inb, v⟩ :: L) (ix2 l q) = View.canon L (ix2 l q) := by
  refine View.canon_cons_of_not_mem _ L fun hm => ?_
  have hm1 := (Rect.mem_set_unit (inb := inb)).mp hm (1 : Fin 2)
  have h1 : o ≤ q.val := hm1.1
  have h2 : q.val < o + w := hm1.2
  omega

/-- The state's two halves. -/
theorem halves_apply (inb1 : ∀ a : Fin 2, (![0, 512] : Fin 2 → ℕ) a + (![128, 512] : Fin 2 → ℕ) a ≤ S128x1024.size a)
    (inb0 : ∀ a : Fin 2, (![0, 0] : Fin 2 → ℕ) a + (![128, 512] : Fin 2 → ℕ) a ≤ S128x1024.size a)
    (v1 : FVec Ideal S128x512 .f32) (v0 : FVec Ideal S128x512 .f32) (L : List ((r : Rect S128x1024) × (r.shape.Idx → Elt Ideal .f32)))
    (F : Fin 128 → Fin 1024 → EReal) (h1 : ∀ l q, v1 (ix2 l q) = F l (halfLane 1 q)) (h0 : ∀ l q, v0 (ix2 l q) = F l (halfLane 0 q))
    (l : Fin 128) (q : Fin 1024) :
    View.canon (⟨Rect.unit (s := S128x1024) ![0, 512] ![128, 512] inb1, v1⟩ :: ⟨Rect.unit (s := S128x1024) ![0, 0] ![128, 512] inb0, v0⟩ :: L) (ix2 l q)
      = F l q := by
  by_cases h : q.val < 512
  · rw [canon_col_skip inb1 _ _ l q (by omega), canon_col inb0 _ _ l q ⟨q.val, h⟩ (by simp)]
    refine (h0 l ⟨q.val, h⟩).trans (congrArg (F l) (Fin.ext ?_))
    show 512 * 0 + q.val = q.val; omega
  · rw [canon_col inb1 _ _ l q ⟨q.val - 512, by omega⟩ (by show _ = _ + (q.val - 512); omega)]
    refine (h1 l ⟨q.val - 512, by omega⟩).trans (congrArg (F l) (Fin.ext ?_))
    show 512 * 1 + (q.val - 512) = q.val; omega

/-- Four tiles side by side hold what each of them holds. -/
theorem four_apply {o p3 p2 p1 : ℕ} (e1 : p1 = o + 128) (e2 : p2 = o + 256) (e3 : p3 = o + 384)
    (i3 : ∀ a : Fin 2, (![0, p3] : Fin 2 → ℕ) a + (![128, 128] : Fin 2 → ℕ) a ≤ S128x1024.size a)
    (i2 : ∀ a : Fin 2, (![0, p2] : Fin 2 → ℕ) a + (![128, 128] : Fin 2 → ℕ) a ≤ S128x1024.size a)
    (i1 : ∀ a : Fin 2, (![0, p1] : Fin 2 → ℕ) a + (![128, 128] : Fin 2 → ℕ) a ≤ S128x1024.size a)
    (i0 : ∀ a : Fin 2, (![0, o] : Fin 2 → ℕ) a + (![128, 128] : Fin 2 → ℕ) a ≤ S128x1024.size a)
    (v3 v2 v1 v0 : FVec Ideal S128x128 .f32) (L : List ((r : Rect S128x1024) × (r.shape.Idx → Elt Ideal .f32)))
    (F : Fin 128 → Fin 1024 → EReal)
    (h3 : ∀ (l q : Fin 128) (Q : Fin 1024), Q.val = p3 + q.val → v3 (ix2 l q) = F l Q)
    (h2 : ∀ (l q : Fin 128) (Q : Fin 1024), Q.val = p2 + q.val → v2 (ix2 l q) = F l Q)
    (h1 : ∀ (l q : Fin 128) (Q : Fin 1024), Q.val = p1 + q.val → v1 (ix2 l q) = F l Q)
    (h0 : ∀ (l q : Fin 128) (Q : Fin 1024), Q.val = o + q.val → v0 (ix2 l q) = F l Q)
    (l : Fin 128) (q : Fin 1024) (hq : o ≤ q.val) (hq' : q.val < o + 512) :
    View.canon (⟨Rect.unit (s := S128x1024) ![0, p3] ![128, 128] i3, v3⟩ :: ⟨Rect.unit (s := S128x1024) ![0, p2] ![128, 128] i2, v2⟩ ::
      ⟨Rect.unit (s := S128x1024) ![0, p1] ![128, 128] i1, v1⟩ :: ⟨Rect.unit (s := S128x1024) ![0, o] ![128, 128] i0, v0⟩ :: L) (ix2 l q)
      = F l q := by
  by_cases c3 : p3 ≤ q.val
  · rw [canon_col i3 _ _ l q ⟨q.val - p3, by omega⟩ (by show _ = _ + (q.val - p3); omega)]
    exact h3 _ _ _ (by show _ = _ + (q.val - p3); omega)
  rw [canon_col_skip i3 _ _ l q (by omega)]
  by_cases c2 : p2 ≤ q.val
  · rw [canon_col i2 _ _ l q ⟨q.val - p2, by omega⟩ (by show _ = _ + (q.val - p2); omega)]
    exact h2 _ _ _ (by show _ = _ + (q.val - p2); omega)
  rw [canon_col_skip i2 _ _ l q (by omega)]
  by_cases c1 : p1 ≤ q.val
  · rw [canon_col i1 _ _ l q ⟨q.val - p1, by omega⟩ (by show _ = _ + (q.val - p1); omega)]
    exact h1 _ _ _ (by show _ = _ + (q.val - p1); omega)
  rw [canon_col_skip i1 _ _ l q (by omega),
    canon_col i0 _ _ l q ⟨q.val - o, by omega⟩ (by show _ = _ + (q.val - o); omega)]
  exact h0 _ _ _ (by show _ = _ + (q.val - o); omega)

theorem idx_col {o w : ℕ} (inb : ∀ a : Fin 2, (![0, o] : Fin 2 → ℕ) a + (![128, w] : Fin 2 → ℕ) a ≤ S128x1024.size a)
    (l : Fin 128) (h : Fin w) (q : Fin 1024) (hq : q.val = o + h.val) :
    (Rect.unit (s := S128x1024) ![0, o] ![128, w] inb).toLoadRect.idx (ix2 l h) = ix2 l q := by
  funext a
  apply Fin.ext
  match a with
  | ⟨0, _⟩ => show 0 + 1 * l.val = l.val; omega
  | ⟨1, _⟩ => show o + 1 * h.val = q.val; omega

/-! ### The rows of the output, as they are written and read back -/

section Rows

variable (cs cst : FVec Ideal S128x128 .f32) (dtx ecs : FVec Ideal S128x1024 .f32) (X S : Vec Ideal S128x1024 .f32)
  (B C : Vec Ideal S128x256 .f32)

def gram0 : FVec Ideal S128x128 .f32 := k0_pay29 (View.ld B (Rect.unit ![0, 0] ![128, 128] inb_S128x256_S128x128_0_0)) (View.ld C (Rect.unit ![0, 0] ![128, 128] inb_S128x256_S128x128_0_0))
def gram1 : FVec Ideal S128x128 .f32 := k0_pay45 (k0_pay42 (View.ld B (Rect.unit ![0, 128] ![128, 128] inb_S128x256_S128x128_0_128))) (View.ld C (Rect.unit ![0, 128] ![128, 128] inb_S128x256_S128x128_0_128))

/-- The first half's tiles, and the half with what the carried state gives it. -/
def tilesLo : List ((r : Rect S128x1024) × (r.shape.Idx → Elt Ideal .f32)) :=
  [⟨Rect.unit ![0, 384] ![128, 128] inb_S128x1024_S128x128_0_384,
      k0_pay39 lanes cst (k0_pay26 lanes) (gram0 B C) (k0_pay36 (k0_pay22 dtx X)) (k0_pay37 lanes cs cst (gram0 B C)) (iota .tc S128x128 32 [0] iota_S128x128_d0_w32) (k0_pay38 cs)⟩,
   ⟨Rect.unit ![0, 256] ![128, 128] inb_S128x1024_S128x128_0_256, k0_pay35 lanes cs cst (k0_pay22 dtx X) (k0_pay26 lanes) (gram0 B C)⟩,
   ⟨Rect.unit ![0, 128] ![128, 128] inb_S128x1024_S128x128_0_128, k0_pay34 lanes cs cst (k0_pay22 dtx X) (k0_pay26 lanes) (gram0 B C)⟩,
   ⟨Rect.unit ![0, 0] ![128, 128] inb_S128x1024_S128x128_0_0,
      k0_pay33 (k0_pay26 lanes) (gram0 B C) (k0_pay30 dtx X) (k0_pay31 lanes cs cst (View.ld B (Rect.unit ![0, 0] ![128, 128] inb_S128x256_S128x128_0_0)) (View.ld C (Rect.unit ![0, 0] ![128, 128] inb_S128x256_S128x128_0_0))) (k0_pay32 lanes cs cst)⟩]

def halfLo : FVec Ideal S128x512 .f32 :=
  k0_pay40 ecs (k0_pay25 S) (k0_pay28 (View.ld C (Rect.unit ![0, 0] ![128, 128] inb_S128x256_S128x128_0_0)))
    ((View.whole cc0_scratch1).readCov (tilesLo cs cst dtx X B C) (Rect.unit (s := S128x1024) ![0, 0] ![128, 512] inb_S128x1024_S128x512_0_0).toLoadRect)

/-- The second half's tiles, written after the first half. -/
def tilesHi : List ((r : Rect S128x1024) × (r.shape.Idx → Elt Ideal .f32)) :=
  ⟨Rect.unit ![0, 896] ![128, 128] inb_S128x1024_S128x128_0_896, k0_pay55 lanes cs cst (k0_pay22 dtx X) (k0_pay26 lanes) (gram1 B C)⟩ ::
  ⟨Rect.unit ![0, 768] ![128, 128] inb_S128x1024_S128x128_0_768,
      k0_pay54 (k0_pay26 lanes) (k0_pay51 (k0_pay22 dtx X)) (k0_pay52 lanes cs cst (gram1 B C)) (k0_pay53 lanes cs cst (gram1 B C))⟩ ::
  ⟨Rect.unit ![0, 640] ![128, 128] inb_S128x1024_S128x128_0_640,
      k0_pay50 lanes cs cst (k0_pay26 lanes) (gram1 B C) (k0_pay47 (k0_pay22 dtx X)) (k0_pay48 cs cst) (k0_pay49 lanes) (Scalar.ofBits .f32 0xFF800000#32)⟩ ::
  ⟨Rect.unit ![0, 512] ![128, 128] inb_S128x1024_S128x128_0_512,
      k0_pay46 lanes cs cst (k0_pay22 dtx X) (k0_pay26 lanes) (k0_pay42 (View.ld B (Rect.unit ![0, 128] ![128, 128] inb_S128x256_S128x128_0_128))) (View.ld C (Rect.unit ![0, 128] ![128, 128] inb_S128x256_S128x128_0_128))⟩ ::
  ⟨Rect.unit ![0, 0] ![128, 512] inb_S128x1024_S128x512_0_0, halfLo cs cst dtx ecs X S B C⟩ :: tilesLo cs cst dtx X B C

def halfHi : FVec Ideal S128x512 .f32 :=
  k0_pay56 ecs (k0_pay25 S) (k0_pay44 (View.ld C (Rect.unit ![0, 128] ![128, 128] inb_S128x256_S128x128_0_128)))
    ((View.whole cc0_scratch1).readCov (tilesHi cs cst dtx ecs X S B C) (Rect.unit (s := S128x1024) ![0, 512] ![128, 512] inb_S128x1024_S128x512_0_512).toLoadRect)

/-- The output's rows before the skip term. -/
def rows : Vec Ideal S128x1024 .f32 :=
  (View.whole cc0_scratch1).readCov
    (⟨Rect.unit ![0, 512] ![128, 512] inb_S128x1024_S128x512_0_512, halfHi cs cst dtx ecs X S B C⟩ :: tilesHi cs cst dtx ecs X S B C)
    (Rect.unit (s := S128x1024) ![0, 0] ![128, 1024] inb_S128x1024_S128x1024_0_0).toLoadRect

variable {cs cst dtx ecs X S B C} {P : Par} {K : Chunk} {St : Fin 128 → Fin 1024 → EReal}
  (hcs : ∀ (l : Fin 128) (h : Fin 16), cs (ix2 l (ln h)) = cum P K l h) (hcst : ∀ (h : Fin 16) (l : Fin 128), cst (ix2 (ln h) l) = cum P K l h)
  (hx : ∀ (l : Fin 128) (q : Fin 1024), k0_pay22 dtx X (ix2 l q) = xdt P K l q)
  (hB : ∀ l g n, B (ix2 l (gl g n)) = K.b l g n) (hC : ∀ l g n, C (ix2 l (gl g n)) = K.c l g n)
  (he : ∀ (l : Fin 128) (q : Fin 1024), ecs (ix2 l q) = Ideal.exp (cum P K l (head q)))
  (hS : ∀ (n : Fin 128) (q : Fin 1024), S (ix2 n q) = St n q)

theorem ld_group (Y : Vec Ideal S128x256 .f32) (g : Fin 2) (o : ℕ) (ho : o = 128 * g.val)
    (inb : ∀ a : Fin 2, (![0, o] : Fin 2 → ℕ) a + (![128, 128] : Fin 2 → ℕ) a ≤ S128x256.size a) (l n : Fin 128) :
    View.ld Y (Rect.unit (s := S128x256) ![0, o] ![128, 128] inb) (ix2 l n) = Y (ix2 l (gl g n)) := by
  show Y _ = Y _
  congr 1
  funext a
  apply Fin.ext
  match a with
  | ⟨0, _⟩ => show 0 + 1 * l.val = l.val; omega
  | ⟨1, _⟩ => show o + 1 * n.val = 128 * g.val + n.val; omega

include hB hC in
theorem gram0_apply (l s : Fin 128) : gram0 B C (ix2 l s) = score K 0 l s := by
  have e : gram0 B C (ix2 l s) = @Finset.sum (Fin 128) EReal _ Finset.univ (fun n => View.ld C (Rect.unit ![0, 0] ![128, 128] inb_S128x256_S128x128_0_0) (ix2 l n)
      * View.ld B (Rect.unit ![0, 0] ![128, 128] inb_S128x256_S128x128_0_0) (ix2 s n)) := by
    pointwise [gram0, k0_pay29, k0_pay28, k0_pay27]
  rw [e, score]
  exact Finset.sum_congr (M := EReal) rfl fun n _ => congrArg₂ (· * ·) ((ld_group C 0 0 rfl _ l n).trans (hC l 0 n)) ((ld_group B 0 0 rfl _ s n).trans (hB s 0 n))

include hB hC in
theorem gram1_apply (l s : Fin 128) : gram1 B C (ix2 l s) = score K 1 l s := by
  have e : gram1 B C (ix2 l s) = @Finset.sum (Fin 128) EReal _ Finset.univ (fun n => View.ld C (Rect.unit ![0, 128] ![128, 128] inb_S128x256_S128x128_0_128) (ix2 l n)
      * View.ld B (Rect.unit ![0, 128] ![128, 128] inb_S128x256_S128x128_0_128) (ix2 s n)) := by
    pointwise [gram1, k0_pay45, k0_pay44, k0_pay43, k0_pay42]
  rw [e, score]
  exact Finset.sum_congr (M := EReal) rfl fun n _ => congrArg₂ (· * ·) ((ld_group C 1 128 rfl _ l n).trans (hC l 1 n)) ((ld_group B 1 128 rfl _ s n).trans (hB s 1 n))

include hcs hcst hx hB hC

theorem tilesLo_apply (l : Fin 128) (q : Fin 1024) (hq : q.val < 512) :
    View.canon (tilesLo cs cst dtx X B C) (ix2 l q) = diag P K l q := by
  have hg := gram0_apply hB hC
  have hg' : ∀ l x, k0_pay29 (View.ld B (Rect.unit ![0, 0] ![128, 128] inb_S128x256_S128x128_0_0)) (View.ld C (Rect.unit ![0, 0] ![128, 128] inb_S128x256_S128x128_0_0)) (ix2 l x) = score K 0 l x := hg
  refine four_apply (o := 0) rfl rfl rfl _ _ _ _ _ _ _ _ [] (diag P K) ?_ ?_ ?_ ?_ l q (by omega) (by omega) <;> intro l q Q hQ
  · exact (tile3 hcs hcst hx hg l q).trans (congrArg (diag P K l) (Fin.ext hQ.symm))
  · exact (tile2 hcs hcst hx hg l q).trans (congrArg (diag P K l) (Fin.ext hQ.symm))
  · exact (tile1 hcs hcst hx hg l q).trans (congrArg (diag P K l) (Fin.ext hQ.symm))
  · exact (tile0 hcs hcst hx hg' l q).trans (congrArg (diag P K l) (Fin.ext (by show q.val = Q.val; omega)))

theorem tilesHi_apply (l : Fin 128) (q : Fin 1024) (hq : 512 ≤ q.val) :
    View.canon (tilesHi cs cst dtx ecs X S B C) (ix2 l q) = diag P K l q := by
  have hg := gram1_apply hB hC
  have hg' : ∀ l x, k0_pay45 (k0_pay42 (View.ld B (Rect.unit ![0, 128] ![128, 128] inb_S128x256_S128x128_0_128))) (View.ld C (Rect.unit ![0, 128] ![128, 128] inb_S128x256_S128x128_0_128)) (ix2 l x) = score K 1 l x := hg
  refine four_apply (o := 512) rfl rfl rfl _ _ _ _ _ _ _ _ _ (diag P K) ?_ ?_ ?_ ?_ l q hq (by omega) <;> intro l q Q hQ
  · exact (tile7 hcs hcst hx hg l q).trans (congrArg (diag P K l) (Fin.ext hQ.symm))
  · exact (tile6 hcs hcst hx hg l q).trans (congrArg (diag P K l) (Fin.ext hQ.symm))
  · exact (tile5 hcs hcst hx hg l q).trans (congrArg (diag P K l) (Fin.ext hQ.symm))
  · exact (tile4 hcs hcst hx hg' l q).trans (congrArg (diag P K l) (Fin.ext hQ.symm))

include he hS

theorem halfLo_apply (l : Fin 128) (q : Fin 512) :
    halfLo cs cst dtx ecs X S B C (ix2 l q) = diag P K l (halfLane 0 q) + off P K St l (halfLane 0 q) := by
  have e : ∀ V : Vec Ideal S128x512 .f32, k0_pay40 ecs (k0_pay25 S) (k0_pay28 (View.ld C (Rect.unit ![0, 0] ![128, 128] inb_S128x256_S128x128_0_0))) V (ix2 l q) = V (ix2 l q)
      + @Finset.sum (Fin 128) EReal _ Finset.univ (fun n => View.ld C (Rect.unit ![0, 0] ![128, 128] inb_S128x256_S128x128_0_0) (ix2 l n) * S (ix2 n (⟨q.val, by omega⟩ : Fin 1024)))
        * ecs (ix2 l (⟨q.val, by omega⟩ : Fin 1024)) := by
    intro V
    pointwise [k0_pay40, k0_pay25, k0_pay28]
  have hQ : (⟨q.val, by omega⟩ : Fin 1024) = halfLane 0 q := Fin.ext (by show q.val = 512 * 0 + q.val; omega)
  have hG : group (halfLane 0 q) = 0 := Fin.ext (by show (512 * 0 + q.val) / 512 = 0; omega)
  rw [halfLo, e, hQ, View.readCov_eq_canon']
  refine congrArg₂ (· + ·) ?_ (congrArg₂ (· * ·) ?_ (he _ _))
  · show View.canon _ (_ : S128x1024.Idx) = _
    rw [idx_col _ l q (halfLane 0 q) (by show 512 * 0 + q.val = 0 + q.val; omega)]
    exact tilesLo_apply hcs hcst hx hB hC l _ (by show 512 * 0 + q.val < 512; omega)
  · rw [hG]
    exact Finset.sum_congr (M := EReal) rfl fun n _ => congrArg₂ (· * ·) ((ld_group C 0 0 rfl _ l n).trans (hC l 0 n)) (hS n _)

theorem halfHi_apply (l : Fin 128) (q : Fin 512) :
    halfHi cs cst dtx ecs X S B C (ix2 l q) = diag P K l (halfLane 1 q) + off P K St l (halfLane 1 q) := by
  have e : ∀ V : Vec Ideal S128x512 .f32, k0_pay56 ecs (k0_pay25 S) (k0_pay44 (View.ld C (Rect.unit ![0, 128] ![128, 128] inb_S128x256_S128x128_0_128))) V (ix2 l q) = V (ix2 l q)
      + @Finset.sum (Fin 128) EReal _ Finset.univ (fun n => View.ld C (Rect.unit ![0, 128] ![128, 128] inb_S128x256_S128x128_0_128) (ix2 l n) * S (ix2 n (⟨512 + q.val, by omega⟩ : Fin 1024)))
        * ecs (ix2 l (⟨512 + q.val, by omega⟩ : Fin 1024)) := by
    intro V
    pointwise [k0_pay56, k0_pay25, k0_pay44]
  have hQ : (⟨512 + q.val, by omega⟩ : Fin 1024) = halfLane 1 q := Fin.ext (by show 512 + q.val = 512 * 1 + q.val; omega)
  have hG : group (halfLane 1 q) = 1 := Fin.ext (by show (512 * 1 + q.val) / 512 = 1; omega)
  rw [halfHi, e, hQ, View.readCov_eq_canon']
  refine congrArg₂ (· + ·) ?_ (congrArg₂ (· * ·) ?_ (he _ _))
  · show View.canon _ (_ : S128x1024.Idx) = _
    rw [idx_col _ l q (halfLane 1 q) (by show 512 * 1 + q.val = 512 + q.val; omega)]
    exact tilesHi_apply hcs hcst hx hB hC l _ (by show 512 ≤ 512 * 1 + q.val; omega)
  · rw [hG]
    exact Finset.sum_congr (M := EReal) rfl fun n _ => congrArg₂ (· * ·) ((ld_group C 1 128 rfl _ l n).trans (hC l 1 n)) (hS n _)

theorem rows_apply (l : Fin 128) (q : Fin 1024) :
    rows cs cst dtx ecs X S B C (ix2 l q) = diag P K l q + off P K St l q := by
  rw [rows, View.readCov_eq_canon']
  show View.canon _ (_ : S128x1024.Idx) = _
  rw [idx_col _ l q q (by omega)]
  by_cases h : q.val < 512
  · rw [canon_col_skip _ _ _ l q (by omega), tilesHi, canon_col_skip _ _ _ l q (by omega), canon_col_skip _ _ _ l q (by omega),
      canon_col_skip _ _ _ l q (by omega), canon_col_skip _ _ _ l q (by omega), canon_col _ _ _ l q ⟨q.val, h⟩ (by simp)]
    have hQ : halfLane 0 ⟨q.val, h⟩ = q := Fin.ext (by show 512 * 0 + q.val = q.val; omega)
    rw [halfLo_apply hcs hcst hx hB hC he hS, hQ]
  · rw [canon_col _ _ _ l q ⟨q.val - 512, by omega⟩ (by show _ = _ + (q.val - 512); omega)]
    have hQ : halfLane 1 ⟨q.val - 512, by omega⟩ = q := Fin.ext (by show 512 * 1 + (q.val - 512) = q.val; omega)
    rw [halfHi_apply hcs hcst hx hB hC he hS, hQ]

end Rows

/-! ### The point's four blocks -/

section Blocks

variable {P : Par} {K : Chunk} {pb : Vec Ideal S8x128 .f32} {D : Vec Ideal S128x128 .bf16} {ex : Vec Ideal S128x1024 .bf16}
  {tri : Vec Ideal S128x128 .f32} {X : Vec Ideal S128x1024 .f32} {B C : Vec Ideal S128x256 .f32}
  {Z : Vec Ideal S128x1024 .bf16} {G : Vec Ideal S1x1024 .f32} (R : Reads P K pb D ex tri X B C Z G)
  {S : Vec Ideal S128x1024 .f32} {St : Fin 128 → Fin 1024 → EReal} (hS : ∀ (n : Fin 128) (q : Fin 1024), S (ix2 n q) = St n q)

include R hS

theorem nextLo_apply (n : Fin 128) (q : Fin 512) :
    k0_pay41 (k0_pay18 (k0_pay4 pb) (k0_pay5 pb) (k0_pay6 pb D) k0_pay7 k0_pay8 tri ex)
      (k0_pay23 (k0_pay15 (k0_pay6 pb D) k0_pay7 k0_pay8 ex) (k0_pay16 (k0_pay5 pb) (k0_pay6 pb D) k0_pay7 k0_pay8 tri ex) X) S
      (k0_pay27 (View.ld B (Rect.unit ![0, 0] ![128, 128] inb_S128x256_S128x128_0_0))) (ix2 n q) = next P K St n (halfLane 0 q) := by
  have hQ : (⟨q.val, by omega⟩ : Fin 1024) = halfLane 0 q := Fin.ext (by show q.val = 512 * 0 + q.val; omega)
  have hG : group (halfLane 0 q) = 0 := Fin.ext (by show (512 * 0 + q.val) / 512 = 0; omega)
  have e : ∀ (kx : FVec Ideal S1x1024 .f32) (xe : FVec Ideal S128x1024 .bf16), k0_pay41 kx xe S (k0_pay27 (View.ld B (Rect.unit ![0, 0] ![128, 128] inb_S128x256_S128x128_0_0))) (ix2 n q)
      = S (ix2 n (⟨q.val, by omega⟩ : Fin 1024)) * kx (ix2 (0 : Fin 1) (⟨q.val, by omega⟩ : Fin 1024))
        + @Finset.sum (Fin 128) EReal _ Finset.univ (fun l => View.ld B (Rect.unit ![0, 0] ![128, 128] inb_S128x256_S128x128_0_0) (ix2 l n) * xe (ix2 l (⟨q.val, by omega⟩ : Fin 1024))) := by
    intro kx xe
    pointwise [k0_pay41, k0_pay27]
  rw [e, hQ, hS, keepx_apply R, next, fresh, hG]
  refine congrArg _ (Finset.sum_congr (M := EReal) rfl fun l _ => congrArg₂ (· * ·) ((ld_group B 0 0 rfl _ l n).trans (R.b l 0 n)) (xdte_apply R l _))

theorem nextHi_apply (n : Fin 128) (q : Fin 512) :
    k0_pay57 (k0_pay18 (k0_pay4 pb) (k0_pay5 pb) (k0_pay6 pb D) k0_pay7 k0_pay8 tri ex)
      (k0_pay23 (k0_pay15 (k0_pay6 pb D) k0_pay7 k0_pay8 ex) (k0_pay16 (k0_pay5 pb) (k0_pay6 pb D) k0_pay7 k0_pay8 tri ex) X) S
      (k0_pay43 (k0_pay42 (View.ld B (Rect.unit ![0, 128] ![128, 128] inb_S128x256_S128x128_0_128)))) (ix2 n q) = next P K St n (halfLane 1 q) := by
  have hQ : (⟨512 + q.val, by omega⟩ : Fin 1024) = halfLane 1 q := Fin.ext (by show 512 + q.val = 512 * 1 + q.val; omega)
  have hG : group (halfLane 1 q) = 1 := Fin.ext (by show (512 * 1 + q.val) / 512 = 1; omega)
  have e : ∀ (kx : FVec Ideal S1x1024 .f32) (xe : FVec Ideal S128x1024 .bf16), k0_pay57 kx xe S (k0_pay43 (k0_pay42 (View.ld B (Rect.unit ![0, 128] ![128, 128] inb_S128x256_S128x128_0_128)))) (ix2 n q)
      = S (ix2 n (⟨512 + q.val, by omega⟩ : Fin 1024)) * kx (ix2 (0 : Fin 1) (⟨512 + q.val, by omega⟩ : Fin 1024))
        + @Finset.sum (Fin 128) EReal _ Finset.univ (fun l => View.ld B (Rect.unit ![0, 128] ![128, 128] inb_S128x256_S128x128_0_128) (ix2 l n) * xe (ix2 l (⟨512 + q.val, by omega⟩ : Fin 1024))) := by
    intro kx xe
    pointwise [k0_pay57, k0_pay43, k0_pay42]
  rw [e, hQ, hS, keepx_apply R, next, fresh, hG]
  refine congrArg _ (Finset.sum_congr (M := EReal) rfl fun l _ => congrArg₂ (· * ·) ((ld_group B 1 128 rfl _ l n).trans (R.b l 1 n)) (xdte_apply R l _))

/-- The scan's output. -/
theorem out_apply (l : Fin 128) (q : Fin 1024) (hs : ∃ r : ℝ, P.skip (head q) = (r : EReal)) :
    k0_pay58 (k0_pay19 (k0_pay13 (k0_pay4 pb) (k0_pay5 pb) (k0_pay6 pb D) k0_pay7 k0_pay8 tri ex)) (k0_pay20 X)
      (rows (k0_pay10 (k0_pay5 pb) (k0_pay6 pb D) k0_pay7 k0_pay8 tri) (k0_pay14 (k0_pay5 pb) (k0_pay6 pb D) k0_pay7 k0_pay8 tri)
        (k0_pay15 (k0_pay6 pb D) k0_pay7 k0_pay8 ex) (k0_pay17 (k0_pay5 pb) (k0_pay6 pb D) k0_pay7 k0_pay8 tri ex) X S B C) (ix2 l q)
      = out P K St l q := by
  have e : ∀ (s : FVec Ideal S1x1024 .f32) (V : Vec Ideal S128x1024 .f32), k0_pay58 s (k0_pay20 X) V (ix2 l q) = V (ix2 l q) + s (ix2 (0 : Fin 1) q) * X (ix2 l q) := by
    intro s V
    pointwise [k0_pay58, k0_pay20]
  rw [e, skipx_apply R q hs, R.x, rows_apply (cum_apply R) (cumT_apply R) (xdt_apply R) R.b R.c (ecs_apply R) hS, out]

/-- The normalised output. -/
theorem normed_apply (hs : ∀ q, ∃ r : ℝ, P.skip (head q) = (r : EReal)) (l : Fin 128) (q : Fin 1024) :
    k0_pay1 (k0_pay59 G) (k0_pay60 (k0_pay19 (k0_pay13 (k0_pay4 pb) (k0_pay5 pb) (k0_pay6 pb D) k0_pay7 k0_pay8 tri ex)) (k0_pay20 X)
      (rows (k0_pay10 (k0_pay5 pb) (k0_pay6 pb D) k0_pay7 k0_pay8 tri) (k0_pay14 (k0_pay5 pb) (k0_pay6 pb D) k0_pay7 k0_pay8 tri)
        (k0_pay15 (k0_pay6 pb D) k0_pay7 k0_pay8 ex) (k0_pay17 (k0_pay5 pb) (k0_pay6 pb D) k0_pay7 k0_pay8 tri ex) X S B C) Z) (ix2 l q)
      = normed P K St l q := by
  have hg : ∀ j : Fin 1024, k0_pay60 (k0_pay19 (k0_pay13 (k0_pay4 pb) (k0_pay5 pb) (k0_pay6 pb D) k0_pay7 k0_pay8 tri ex)) (k0_pay20 X)
      (rows (k0_pay10 (k0_pay5 pb) (k0_pay6 pb D) k0_pay7 k0_pay8 tri) (k0_pay14 (k0_pay5 pb) (k0_pay6 pb D) k0_pay7 k0_pay8 tri)
        (k0_pay15 (k0_pay6 pb D) k0_pay7 k0_pay8 ex) (k0_pay17 (k0_pay5 pb) (k0_pay6 pb D) k0_pay7 k0_pay8 tri ex) X S B C) Z (ix2 l j) = gated P K St l j := by
    intro j
    have e : ∀ (s : FVec Ideal S1x1024 .f32) (V : Vec Ideal S128x1024 .f32), k0_pay60 s (k0_pay20 X) V Z (ix2 l j)
        = k0_pay58 s (k0_pay20 X) V (ix2 l j) * (Z (ix2 l j) * (Ideal.ofBits .f32 0x3F000000#32 * Ideal.tanh (Ideal.ofBits .f32 0x3F000000#32 * Z (ix2 l j))
          + Ideal.ofBits .f32 0x3F000000#32)) := by
      intro s V
      pointwise [k0_pay60]
    rw [e, out_apply R hS l j (hs j), logistic_tanh, R.z, gated]
  generalize k0_pay60 (F := Ideal) _ _ _ _ = Y at hg ⊢
  by_cases h : q.val < 512
  · have hG : group q = 0 := Fin.ext (by show q.val / 512 = 0; omega)
    have hq : ∀ j : Fin 512, (⟨j.val, by omega⟩ : Fin 1024) = halfLane 0 j := fun j => Fin.ext (by show j.val = 512 * 0 + j.val; omega)
    pointwise [k0_pay1, k0_pay59]
    refine (dif_pos h).trans ?_
    rw [normed, R.gain, hg, hG, scale]
    refine congrArg (fun t => gated P K St l q * t * P.gain q) (congrArg (fun t => Ideal.rsqrt (Ideal.div t _ + _)) (Finset.sum_congr (M := EReal) rfl fun j _ => ?_))
    exact (congrArg₂ (· * ·) (hg _) (hg _)).trans (by rw [hq])
  · have hG : group q = 1 := Fin.ext (by show q.val / 512 = 1; omega)
    have hq : ∀ j : Fin 512, (⟨512 + j.val, by omega⟩ : Fin 1024) = halfLane 1 j := fun j => Fin.ext (by show 512 + j.val = 512 * 1 + j.val; omega)
    have hq' : (⟨512 + (q.val - 512), by omega⟩ : Fin 1024) = q := Fin.ext (by show 512 + (q.val - 512) = q.val; omega)
    pointwise [k0_pay1, k0_pay59]
    refine (dif_neg h).trans ?_
    rw [hq', normed, R.gain, hg, hG, scale]
    refine congrArg (fun t => gated P K St l q * t * P.gain q) (congrArg (fun t => Ideal.rsqrt (Ideal.div t _ + _)) (Finset.sum_congr (M := EReal) rfl fun j _ => ?_))
    exact (congrArg₂ (· * ·) (hg _) (hg _)).trans (by rw [hq])

end Blocks

end Cert.SsdKernelIdeal.Array
-- ==== Proof.SsdArray.lean ====
/- From the blocks of the state-space forward call to its three arrays: what each window's block holds of the arguments, the state
   carried from chunk to chunk, and the arrays the points' blocks make up. -/
module

public import proofs.«01_k».proof.Proof.SsdPoint
public import proofs.«01_k».proof.Proof.SsdEntry
public import Idealize.ShloMosaic.Lib.Pipeline.ValueKit

@[expose] public section

set_option maxRecDepth 16384

noncomputable section

namespace Cert.SsdKernelIdeal.Array

open Cert.SsdKernelIdeal Cert.SsdKernelIdeal.Gen Idealize.ShloMosaic Idealize.ShloMosaic.TcCoe Idealize.SL.Sem SsdMath
open Idealize.ShloMosaic.Pipeline (Dat)

variable (m : (ℓ : Loc nD τ sig) → Buf (Elt Ideal) ℓ)

/-! ### What a point leaves, from the blocks it reads -/

/-- The state a point starts from: zeros at the first chunk of a batch, what the point before left otherwise. -/
def stateIn (m : (ℓ : Loc nD τ sig) → Buf (Elt Ideal) ℓ) (c : Dev nD) (t : Fin cfg0.N) : Vec Ideal S128x1024 .f32 :=
  if t.val % 16 = 0 then (k0_pay2 (F := Ideal)) else (outsAt0 m c (t.val - 1) (Nat.lt_of_le_of_lt (Nat.sub_le _ _) t.isLt)).2.2.2

/-- The scan's output rows. -/
theorem out_block (c : Dev nD) (t : Fin cfg0.N) : (outsAt0 m c t.val t.isLt).2.1 =
    k0_pay58 (k0_pay19 (k0_pay13 (k0_pay4 (iblk m c 5 t)) (k0_pay5 (iblk m c 5 t)) (k0_pay6 (iblk m c 5 t) (iblk m c 3 t)) k0_pay7 k0_pay8 (iblk m c 7 t) (iblk m c 6 t))) (k0_pay20 (X0_0 m c t))
      (rows (k0_pay10 (k0_pay5 (iblk m c 5 t)) (k0_pay6 (iblk m c 5 t) (iblk m c 3 t)) k0_pay7 k0_pay8 (iblk m c 7 t)) (k0_pay14 (k0_pay5 (iblk m c 5 t)) (k0_pay6 (iblk m c 5 t) (iblk m c 3 t)) k0_pay7 k0_pay8 (iblk m c 7 t))
        (k0_pay15 (k0_pay6 (iblk m c 5 t) (iblk m c 3 t)) k0_pay7 k0_pay8 (iblk m c 6 t)) (k0_pay17 (k0_pay5 (iblk m c 5 t)) (k0_pay6 (iblk m c 5 t) (iblk m c 3 t)) k0_pay7 k0_pay8 (iblk m c 7 t) (iblk m c 6 t)) (X0_0 m c t) (stateIn m c t) (iblk m c 1 t) (iblk m c 2 t)) := by
  by_cases h : t.val % 16 = 0
  · rw [stateIn, if_pos h, outsAt0_A m c t h]
    frame_out
    rfl
  · rw [stateIn, if_neg h, outsAt0_B m c t h]
    frame_out
    simp only [read_unread_whole]
    rfl

/-- The normalised rows. -/
theorem normed_block (c : Dev nD) (t : Fin cfg0.N) : (outsAt0 m c t.val t.isLt).1 =
    k0_pay1 (k0_pay59 (iblk m c 8 t)) (k0_pay60 (k0_pay19 (k0_pay13 (k0_pay4 (iblk m c 5 t)) (k0_pay5 (iblk m c 5 t)) (k0_pay6 (iblk m c 5 t) (iblk m c 3 t)) k0_pay7 k0_pay8 (iblk m c 7 t) (iblk m c 6 t))) (k0_pay20 (X0_0 m c t))
      (rows (k0_pay10 (k0_pay5 (iblk m c 5 t)) (k0_pay6 (iblk m c 5 t) (iblk m c 3 t)) k0_pay7 k0_pay8 (iblk m c 7 t)) (k0_pay14 (k0_pay5 (iblk m c 5 t)) (k0_pay6 (iblk m c 5 t) (iblk m c 3 t)) k0_pay7 k0_pay8 (iblk m c 7 t))
        (k0_pay15 (k0_pay6 (iblk m c 5 t) (iblk m c 3 t)) k0_pay7 k0_pay8 (iblk m c 6 t)) (k0_pay17 (k0_pay5 (iblk m c 5 t)) (k0_pay6 (iblk m c 5 t) (iblk m c 3 t)) k0_pay7 k0_pay8 (iblk m c 7 t) (iblk m c 6 t)) (X0_0 m c t) (stateIn m c t) (iblk m c 1 t) (iblk m c 2 t)) (X0_4 m c t)) := by
  by_cases h : t.val % 16 = 0
  · rw [stateIn, if_pos h, outsAt0_A m c t h]
    frame_out
    rfl
  · rw [stateIn, if_neg h, outsAt0_B m c t h]
    frame_out
    simp only [read_unread_whole]
    rfl

/-- The state handed out: the one the point starts from. -/
theorem state_block (c : Dev nD) (t : Fin cfg0.N) : (outsAt0 m c t.val t.isLt).2.2.1 =
    k0_pay24 (stateIn m c t) := by
  by_cases h : t.val % 16 = 0
  · rw [stateIn, if_pos h, outsAt0_A m c t h]
    frame_out
  · rw [stateIn, if_neg h, outsAt0_B m c t h]
    frame_out
    simp only [read_unread_whole]

/-- The state the point leaves, from the state it starts from. -/
theorem next_block {P : Par} {K : Chunk} {St : Fin 128 → Fin 1024 → EReal} (c : Dev nD) (t : Fin cfg0.N)
    (R : Reads P K (iblk m c 5 t) (iblk m c 3 t) (iblk m c 6 t) (iblk m c 7 t) (X0_0 m c t) (iblk m c 1 t) (iblk m c 2 t) (X0_4 m c t) (iblk m c 8 t))
    (hS : ∀ (n : Fin 128) (q : Fin 1024), stateIn m c t (ix2 n q) = St n q) (n : Fin 128) (q : Fin 1024) :
    ((outsAt0 m c t.val t.isLt).2.2.2 : Vec Ideal S128x1024 .f32) (ix2 n q) = next P K St n q := by
  have hlo := nextLo_apply R hS
  have hhi := nextHi_apply R hS
  by_cases h : t.val % 16 = 0
  · rw [stateIn, if_pos h] at hlo hhi
    rw [outsAt0_A m c t h]
    frame_out
    exact halves_apply _ _ _ _ _ (next P K St) hhi hlo n q
  · rw [stateIn, if_neg h] at hlo hhi
    rw [outsAt0_B m c t h]
    frame_out
    simp only [read_unread_whole]
    exact halves_apply _ _ _ _ _ (next P K St) hhi hlo n q

/-! ### What the blocks hold of the arrays -/

/-- Features. -/
theorem x_block (c : Dev nD) (t : Fin cfg0.N) (l : Fin 128) (q : Fin 1024) (r : Fin 4096) (hr : r.val = 128 * t.val + l.val) :
    X0_0 m c t (ix2 l q) = (V m c main_v16 : Vec Ideal S4096x1536 .f32) (ix2 r (⟨q.val, by omega⟩ : Fin 1536)) := by
  have hi : ∀ t : Fin cfg0.N, win0_0.index t = ![t.val, 0] := (by decide +kernel : ∀ t : Fin grid0.N, win0_0.index t = ![t.val, 0])
  unfold X0_0 Pipeline.Window.fill
  rw [dif_pos (moved0_0 t _)]
  show iblk m c 0 t _ = _
  blk_simp [iblk, hi t]
  blk_ext [hi t]

/-- First projection of the state. -/
theorem b_block (c : Dev nD) (t : Fin cfg0.N) (l : Fin 128) (q : Fin 256) (r : Fin 4096) (hr : r.val = 128 * t.val + l.val) :
    (iblk m c 1 t : Vec Ideal S128x256 .f32) (ix2 l q) = (V m c main_v16 : Vec Ideal S4096x1536 .f32) (ix2 r (⟨1024 + q.val, by omega⟩ : Fin 1536)) := by
  have hi : ∀ t : Fin cfg0.N, win0_1.index t = ![t.val, 4] := (by decide +kernel : ∀ t : Fin grid0.N, win0_1.index t = ![t.val, 4])
  blk_simp [iblk, hi t]
  blk_ext [hi t]

/-- Second projection of the state. -/
theorem c_block (c : Dev nD) (t : Fin cfg0.N) (l : Fin 128) (q : Fin 256) (r : Fin 4096) (hr : r.val = 128 * t.val + l.val) :
    (iblk m c 2 t : Vec Ideal S128x256 .f32) (ix2 l q) = (V m c main_v16 : Vec Ideal S4096x1536 .f32) (ix2 r (⟨1280 + q.val, by omega⟩ : Fin 1536)) := by
  have hi : ∀ t : Fin cfg0.N, win0_2.index t = ![t.val, 5] := (by decide +kernel : ∀ t : Fin grid0.N, win0_2.index t = ![t.val, 5])
  blk_simp [iblk, hi t]
  blk_ext [hi t]

/-- Raw step sizes. -/
theorem d_block (c : Dev nD) (t : Fin cfg0.N) (l : Fin 128) (q : Fin 128) (r : Fin 4096) (hr : r.val = 128 * t.val + l.val) :
    (iblk m c 3 t : Vec Ideal S128x128 .bf16) (ix2 l q) = (V m c main_v3 : Vec Ideal S4096x5760 .bf16) (ix2 r (⟨5632 + q.val, by omega⟩ : Fin 5760)) := by
  have hi : ∀ t : Fin cfg0.N, win0_3.index t = ![t.val, 44] := (by decide +kernel : ∀ t : Fin grid0.N, win0_3.index t = ![t.val, 44])
  blk_simp [iblk, hi t]
  blk_ext [hi t]

/-- The gate's argument. -/
theorem z_block (c : Dev nD) (t : Fin cfg0.N) (l : Fin 128) (q : Fin 1024) (r : Fin 4096) (hr : r.val = 128 * t.val + l.val) :
    X0_4 m c t (ix2 l q) = (V m c main_v3 : Vec Ideal S4096x5760 .bf16) (ix2 r (⟨3072 + q.val, by omega⟩ : Fin 5760)) := by
  have hi : ∀ t : Fin cfg0.N, win0_4.index t = ![t.val, 3] := (by decide +kernel : ∀ t : Fin grid0.N, win0_4.index t = ![t.val, 3])
  unfold X0_4 Pipeline.Window.fill
  rw [dif_pos (moved0_4 t _)]
  show iblk m c 4 t _ = _
  blk_simp [iblk, hi t]
  blk_ext [hi t]

/-- The parameters. -/
theorem par_block (c : Dev nD) (t : Fin cfg0.N) (l : Fin 8) (q : Fin 128) :
    (iblk m c 5 t : Vec Ideal S8x128 .f32) (ix2 l q) = (V m c main_v15 : Vec Ideal S8x128 .f32) (ix2 l q) := by
  have hi : ∀ t : Fin cfg0.N, win0_5.index t = ![0, 0] := (by decide +kernel : ∀ t : Fin grid0.N, win0_5.index t = ![0, 0])
  blk_simp [iblk, hi t]
  blk_ext [hi t]

/-- The expansion matrix. -/
theorem expand_block (c : Dev nD) (t : Fin cfg0.N) (l : Fin 128) (q : Fin 1024) :
    (iblk m c 6 t : Vec Ideal S128x1024 .bf16) (ix2 l q) = (V m c main_v26 : Vec Ideal S128x1024 .bf16) (ix2 l q) := by
  have hi : ∀ t : Fin cfg0.N, win0_6.index t = ![0, 0] := (by decide +kernel : ∀ t : Fin grid0.N, win0_6.index t = ![0, 0])
  blk_simp [iblk, hi t]
  blk_ext [hi t]

/-- The comparison matrix. -/
theorem tri_block (c : Dev nD) (t : Fin cfg0.N) (l : Fin 128) (q : Fin 128) :
    (iblk m c 7 t : Vec Ideal S128x128 .f32) (ix2 l q) = (V m c main_v34 : Vec Ideal S128x128 .f32) (ix2 l q) := by
  have hi : ∀ t : Fin cfg0.N, win0_7.index t = ![0, 0] := (by decide +kernel : ∀ t : Fin grid0.N, win0_7.index t = ![0, 0])
  blk_simp [iblk, hi t]
  blk_ext [hi t]

/-- The gain. -/
theorem gain_block (c : Dev nD) (t : Fin cfg0.N) (l : Fin 1) (q : Fin 1024) :
    (iblk m c 8 t : Vec Ideal S1x1024 .f32) (ix2 l q) = (V m c main_v17 : Vec Ideal S1x1024 .f32) (ix2 l q) := by
  have hi : ∀ t : Fin cfg0.N, win0_8.index t = ![0, 0] := (by decide +kernel : ∀ t : Fin grid0.N, win0_8.index t = ![0, 0])
  blk_simp [iblk, hi t]
  blk_ext [hi t]

/-! ### The chunks in the arguments -/

/-- Chunk `k` of batch `b`, read off the convolved features and the projection. -/
def chunk (u : Vec Ideal S2x2048x1536 .f32) (p : Vec Ideal S2x2048x5648 .f32) (b : Fin 2) (k : ℕ) : Chunk where
  x l q := u (ix3 b (⟨(128 * k + l.val) % 2048, by omega⟩ : Fin 2048) (⟨q.val, by omega⟩ : Fin 1536))
  b l g n := u (ix3 b (⟨(128 * k + l.val) % 2048, by omega⟩ : Fin 2048) (⟨1024 + (128 * g.val + n.val), by omega⟩ : Fin 1536))
  c l g n := u (ix3 b (⟨(128 * k + l.val) % 2048, by omega⟩ : Fin 2048) (⟨1280 + (128 * g.val + n.val), by omega⟩ : Fin 1536))
  d l h := p (ix3 b (⟨(128 * k + l.val) % 2048, by omega⟩ : Fin 2048) (⟨5632 + h.val, by omega⟩ : Fin 5648))
  z l q := p (ix3 b (⟨(128 * k + l.val) % 2048, by omega⟩ : Fin 2048) (⟨3072 + q.val, by omega⟩ : Fin 5648))

def params (a₂ a₃ a₄ : Vec Ideal S16 .f32) (a₅ : Vec Ideal S1024 .f32) : Par where
  bias h := a₂ (ix1 h)
  alog h := a₃ (ix1 h)
  skip h := a₄ (ix1 h)
  gain q := a₅ (ix1 q)

/-- The device's chunks and parameters. -/
def chunkAt (c : Dev nD) (b : Fin 2) (k : ℕ) : Chunk := chunk (m (c, Proc.tc.devRef main_arg0)) (m (c, Proc.tc.devRef main_arg1)) b k
def parAt (c : Dev nD) : Par :=
  params (m (c, Proc.tc.devRef main_arg2)) (m (c, Proc.tc.devRef main_arg3)) (m (c, Proc.tc.devRef main_arg4)) (m (c, Proc.tc.devRef main_arg5))

theorem row_eq {A : Type} (f : Fin 2 → Fin 2048 → A) (n l : ℕ) (hn : n < 32) (hl : l < 128) (h1 : (128 * n + l) / 2048 < 2)
    (h2 : (128 * n + l) % 2048 < 2048) :
    f ⟨(128 * n + l) / 2048, h1⟩ ⟨(128 * n + l) % 2048, h2⟩ = f ⟨n / 16, by omega⟩ ⟨(128 * (n % 16) + l) % 2048, by omega⟩ := by
  congr 2 <;> omega

/-- The blocks of a point are those of its chunk. -/
theorem reads (c : Dev nD) (t : Fin cfg0.N) (b : Fin 2) (hb : b.val = t.val / 16) :
    Reads (parAt m c) (chunkAt m c b (t.val % 16)) (iblk m c 5 t) (iblk m c 3 t) (iblk m c 6 t) (iblk m c 7 t) (X0_0 m c t) (iblk m c 1 t) (iblk m c 2 t)
      (X0_4 m c t) (iblk m c 8 t) := by
  have ht := lt_of_lt_of_eq t.isLt N_0
  rw [show b = ⟨t.val / 16, by omega⟩ from Fin.ext hb]
  have hr : ∀ l : Fin 128, 128 * t.val + l.val < 4096 := fun l => by omega
  exact
  { bias := fun h => (par_block m c t 0 (ln h)).trans (by rw [par_eq]; exact par_bias _ _ _ h)
    alog := fun h => (par_block m c t 1 (ln h)).trans (by rw [par_eq]; exact par_log _ _ _ h)
    skip := fun h => (par_block m c t 2 (ln h)).trans (by rw [par_eq]; exact par_skip _ _ _ h)
    gain := fun q => (gain_block m c t 0 q).trans (gain_apply m c q)
    d := fun l h => ((d_block m c t l (ln h) ⟨_, hr l⟩ rfl).trans (proj_apply m c _ _ (by show 5632 + h.val < 5648; omega))).trans
      (row_eq (fun b r => m (c, Proc.tc.devRef main_arg1) (ix3 b r _)) t.val l.val ht l.isLt _ _)
    ex := fun k q => (expand_block m c t k q).trans (expand_apply m c k q)
    tri := fun l s => (tri_block m c t l s).trans (tri_apply m c l s)
    x := fun l q => ((x_block m c t l q ⟨_, hr l⟩ rfl).trans (xbc_apply m c _ _)).trans
      (row_eq (fun b r => m (c, Proc.tc.devRef main_arg0) (ix3 b r _)) t.val l.val ht l.isLt _ _)
    b := fun l g n => ((b_block m c t l (gl g n) ⟨_, hr l⟩ rfl).trans (xbc_apply m c _ _)).trans
      (row_eq (fun b r => m (c, Proc.tc.devRef main_arg0) (ix3 b r _)) t.val l.val ht l.isLt _ _)
    c := fun l g n => ((c_block m c t l (gl g n) ⟨_, hr l⟩ rfl).trans (xbc_apply m c _ _)).trans
      (row_eq (fun b r => m (c, Proc.tc.devRef main_arg0) (ix3 b r _)) t.val l.val ht l.isLt _ _)
    z := fun l q => ((z_block m c t l q ⟨_, hr l⟩ rfl).trans (proj_apply m c _ _ (by show 3072 + q.val < 5648; omega))).trans
      (row_eq (fun b r => m (c, Proc.tc.devRef main_arg1) (ix3 b r _)) t.val l.val ht l.isLt _ _) }

/-! ### The state from chunk to chunk -/

theorem zeros_apply (n : Fin 128) (q : Fin 1024) : (k0_pay2 (F := Ideal)) (ix2 n q) = (0 : EReal) := by
  pointwise [k0_pay2]

/-- A point starts from the state its batch's earlier chunks leave. -/
theorem stateIn_apply (c : Dev nD) (k : ℕ) : ∀ (t : Fin cfg0.N) (b : Fin 2), b.val = t.val / 16 → t.val % 16 = k → ∀ (n : Fin 128) (q : Fin 1024),
    stateIn m c t (ix2 n q) = carry (parAt m c) (chunkAt m c b) k n q := by
  induction k with
  | zero =>
    intro t b hb hk n q
    rw [stateIn, if_pos hk, carry]
    exact zeros_apply n q
  | succ k ih =>
    intro t b hb hk n q
    have ht := t.isLt
    have hp := next_block m c (⟨t.val - 1, by omega⟩ : Fin cfg0.N) (reads m c _ b (by show b.val = (t.val - 1) / 16; omega))
      (ih ⟨t.val - 1, by omega⟩ b (by show b.val = (t.val - 1) / 16; omega) (by show (t.val - 1) % 16 = k; omega)) n q
    rw [stateIn, if_neg (by omega), carry]
    rw [show (t.val - 1) % 16 = k by omega] at hp
    exact hp

/-! ### The three arrays -/

/-- The scan's output rows. -/
def scanned (c : Dev nD) : Vec Ideal S4096x1024 .f32 := fun i =>
  out (parAt m c) (chunkAt m c ⟨(i 0).val / 2048, by have : (i 0).val < 4096 := (i 0).isLt; omega⟩ ((i 0).val / 128 % 16))
    (carry (parAt m c) (chunkAt m c ⟨(i 0).val / 2048, by have : (i 0).val < 4096 := (i 0).isLt; omega⟩) ((i 0).val / 128 % 16))
    ⟨(i 0).val % 128, by omega⟩ (i 1)

theorem out_array (hs : ∀ (c : Dev nD) q, ∃ r : ℝ, (parAt m c).skip (head q) = (r : EReal)) (c : Dev nD) :
    (dats m 0 c).arrAt 10 cfg0.N = scanned m c := by
  have hN : cfg0.N = 32 := N_0
  have hi : ∀ t : Fin cfg0.N, win0_10.index t = ![t.val, 0] := (by decide +kernel : ∀ t : Fin grid0.N, win0_10.index t = ![t.val, 0])
  refine (dats m 0 c).arrAt_eq_of_covers 10 _ (by decide +kernel) fun t hf y => ?_
  have ht := lt_of_lt_of_eq t.isLt hN
  blk_simp
  rw [after0_10, out_block]
  obtain ⟨p, q, rfl⟩ : ∃ (p : Fin 128) (q : Fin 1024), y = ix2 p q := ⟨y 0, y 1, by funext a; match a with | ⟨0, _⟩ => rfl | ⟨1, _⟩ => rfl⟩
  have hr : 128 * t.val + p.val < 4096 := by omega
  rw [show (win0_10.blk t).view.emb (ix2 p q) = ix2 ⟨128 * t.val + p.val, hr⟩ q by blk_ext [hi t]]
  have hb : t.val / 16 < 2 := by omega
  rw [out_apply (reads m c t ⟨t.val / 16, hb⟩ rfl) (stateIn_apply m c _ t ⟨t.val / 16, hb⟩ rfl rfl) p q (hs c q)]
  show _ = out _ (chunkAt m c ⟨(128 * t.val + p.val) / 2048, _⟩ ((128 * t.val + p.val) / 128 % 16)) _ ⟨(128 * t.val + p.val) % 128, _⟩ q
  have e1 : (⟨t.val / 16, hb⟩ : Fin 2) = ⟨(128 * t.val + p.val) / 2048, by omega⟩ := Fin.ext (by show t.val / 16 = (128 * t.val + p.val) / 2048; omega)
  have e2 : t.val % 16 = (128 * t.val + p.val) / 128 % 16 := by omega
  have e3 : p = ⟨(128 * t.val + p.val) % 128, by omega⟩ := Fin.ext (by show p.val = (128 * t.val + p.val) % 128; omega)
  rw [e1, e2]
  exact congrArg (fun l => out (parAt m c) _ _ l q) e3

/-- The states carried into the chunks. -/
def states (c : Dev nD) : Vec Ideal S32x128x1024 .f32 := fun i =>
  carry (parAt m c) (chunkAt m c ⟨(i 0).val / 16, by have : (i 0).val < 32 := (i 0).isLt; omega⟩) ((i 0).val % 16) (i 1) (i 2)

theorem state_array (c : Dev nD) : (dats m 0 c).arrAt 11 cfg0.N = states m c := by
  have hN : cfg0.N = 32 := N_0
  have hi : ∀ t : Fin cfg0.N, win0_11.index t = ![t.val, 0, 0] := (by decide +kernel : ∀ t : Fin grid0.N, win0_11.index t = ![t.val, 0, 0])
  refine (dats m 0 c).arrAt_eq_of_covers 11 _ (by decide +kernel) fun t hf y => ?_
  have ht := lt_of_lt_of_eq t.isLt hN
  blk_simp
  rw [after0_11, state_block]
  obtain ⟨o, n, q, rfl⟩ : ∃ (o : Fin 1) (n : Fin 128) (q : Fin 1024), y = ix3 o n q :=
    ⟨y 0, y 1, y 2, by funext a; match a with | ⟨0, _⟩ => rfl | ⟨1, _⟩ => rfl | ⟨2, _⟩ => rfl⟩
  obtain rfl : o = 0 := Subsingleton.elim _ _
  rw [show (win0_11.blk t).view.emb (ix3 0 n q) = ix3 ⟨t.val, ht⟩ n q by blk_ext [hi t]]
  have e : k0_pay24 (stateIn m c t) (ix3 0 n q) = stateIn m c t (ix2 n q) := by
    pointwise [k0_pay24]
  rw [e, stateIn_apply m c _ t ⟨t.val / 16, by omega⟩ rfl rfl]
  rfl

/-- The rows handed on: the other half's beside the normalised ones. -/
def mixed (c : Dev nD) : Vec Ideal S4096x2048 .bf16 := fun i =>
  if 1024 ≤ (i 1).val then
    normed (parAt m c) (chunkAt m c ⟨(i 0).val / 2048, by have : (i 0).val < 4096 := (i 0).isLt; omega⟩ ((i 0).val / 128 % 16))
      (carry (parAt m c) (chunkAt m c ⟨(i 0).val / 2048, by have : (i 0).val < 4096 := (i 0).isLt; omega⟩) ((i 0).val / 128 % 16))
      ⟨(i 0).val % 128, by omega⟩ ⟨(i 1).val - 1024, by have : (i 1).val < 2048 := (i 1).isLt; omega⟩
  else (m (c, Proc.tc.devRef main_arg6) : Vec Ideal S2x2048x1024 .f32)
    (ix3 ⟨(i 0).val / 2048, by have : (i 0).val < 4096 := (i 0).isLt; omega⟩ ⟨(i 0).val % 2048, by omega⟩ ⟨(i 1).val % 1024, by omega⟩)

theorem mixed_array (hs : ∀ (c : Dev nD) q, ∃ r : ℝ, (parAt m c).skip (head q) = (r : EReal)) (c : Dev nD) :
    (dats m 0 c).arrAt 9 cfg0.N = mixed m c := by
  have hN : cfg0.N = 32 := N_0
  have hi : ∀ t : Fin cfg0.N, win0_9.index t = ![t.val, 1] := (by decide +kernel : ∀ t : Fin grid0.N, win0_9.index t = ![t.val, 1])
  have key : (dats m 0 c).arrAt 9 cfg0.N = fun i => if 1 ≤ (i 1 : ℕ) / 1024 then mixed m c i else (V m c main_v35_0 : Vec Ideal S4096x2048 .bf16) i := by
    refine (dats m 0 c).arrAt_eq_of_coversWhere 9 _ (fun β => 1 ≤ β (1 : Fin _)) (by decide +kernel) (fun t hf y => ?_) (fun j => Iff.rfl)
    have ht := lt_of_lt_of_eq t.isLt hN
    blk_simp
    rw [after0_9, normed_block]
    obtain ⟨p, q, rfl⟩ : ∃ (p : Fin 128) (q : Fin 1024), y = ix2 p q := ⟨y 0, y 1, by funext a; match a with | ⟨0, _⟩ => rfl | ⟨1, _⟩ => rfl⟩
    have hr : 128 * t.val + p.val < 4096 := by omega
    have hq : 1024 + q.val < 2048 := by omega
    rw [show (win0_9.blk t).view.emb (ix2 p q) = ix2 ⟨128 * t.val + p.val, hr⟩ ⟨1024 + q.val, hq⟩ by blk_ext [hi t]]
    have hb : t.val / 16 < 2 := by omega
    rw [normed_apply (reads m c t ⟨t.val / 16, hb⟩ rfl) (stateIn_apply m c _ t ⟨t.val / 16, hb⟩ rfl rfl) (hs c) p q]
    refine Eq.symm ((if_pos (show 1024 ≤ 1024 + q.val by omega)).trans ?_)
    have e1 : (⟨t.val / 16, hb⟩ : Fin 2) = ⟨(128 * t.val + p.val) / 2048, by omega⟩ := Fin.ext (by show t.val / 16 = (128 * t.val + p.val) / 2048; omega)
    have e2 : t.val % 16 = (128 * t.val + p.val) / 128 % 16 := by omega
    have e3 : (⟨(128 * t.val + p.val) % 128, by omega⟩ : Fin 128) = p := Fin.ext (by show (128 * t.val + p.val) % 128 = p.val; omega)
    have e4 : (⟨1024 + q.val - 1024, by omega⟩ : Fin 1024) = q := Fin.ext (by show 1024 + q.val - 1024 = q.val; omega)
    rw [e1, e2]
    exact congrArg₂ (fun l j => normed (parAt m c) _ _ l j) e3 e4
  rw [key]
  funext i
  obtain ⟨r, j, rfl⟩ : ∃ (r : Fin 4096) (j : Fin 2048), i = ix2 r j := ⟨i 0, i 1, by funext a; match a with | ⟨0, _⟩ => rfl | ⟨1, _⟩ => rfl⟩
  by_cases h : 1024 ≤ j.val
  · exact if_pos (show 1 ≤ j.val / 1024 by omega)
  · refine (if_neg (show ¬ 1 ≤ j.val / 1024 by omega)).trans ((cat_apply m c r j (by omega)).trans ?_)
    refine Eq.symm ((if_neg (show ¬ 1024 ≤ j.val from h)).trans ?_)
    congr 2
    exact Fin.ext (by show j.val % 1024 = j.val; omega)

end Cert.SsdKernelIdeal.Array
-- ==== Proof.SsdCumsum.lean ====
/- The running sum as a window sum: over the reals a window reaching 127 places back, filled with zeros before the start, adds up
   the entries so far. -/
module

public import proofs.«01_k».proof.Proof.SsdMath
public import proofs.«01_k».proof.SsdRefIdeal
public import Idealize.ShloMosaic.Lib.Pipeline.ValueKit

@[expose] public section

set_option maxRecDepth 16384

noncomputable section

namespace SsdMath

open Idealize.ShloMosaic Cert.SsdRefIdeal

theorem foldl_add {M : Type} [AddCommMonoid M] {A : Type} (f : A → M) (L : List A) (v : M) :
    L.foldl (fun r n => r + f n) v = v + (L.map f).sum := by
  induction L generalizing v with
  | nil => simp
  | cons a L ih => rw [List.foldl_cons, ih, List.map_cons, List.sum_cons, add_assoc]

theorem foldl_idx {S : Shape} (f : S.Idx → EReal) (v : EReal) :
    (List.finRange S.numel).foldl (fun r n => r + f (S.rowMajor.symm n)) v = v + ∑ i : S.Idx, f i := by
  rw [foldl_add (fun n => f (S.rowMajor.symm n)), ← Fin.sum_univ_def, Equiv.sum_comp S.rowMajor.symm f]

/-- A float window sum over the reals: the initial value, and every place of the window. -/
theorem window_sum {s t u : Shape} (window strides lo hi : Fin s.rank → ℕ) (x : FVec Ideal s .f32) (z : FVec Ideal u .f32)
    (h : s.ReduceWindows window strides lo hi t) (hu : 0 < u.numel) (j : t.Idx) :
    Host.reduceWindowAdd window strides lo hi x z h hu j = ((z (Shape.Idx.first hu) : EReal) + ∑ i : (⟨s.rank, window⟩ : Shape).Idx,
      if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else z (Shape.Idx.first hu) : EReal) := by
  refine Eq.trans ?_ (foldl_idx (S := ⟨s.rank, window⟩) (fun i =>
      if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else z (Shape.Idx.first hu)) (z (Shape.Idx.first hu)))
  show Host.reduceWindow (fun a b : EReal => a + b) window strides lo hi x z h hu j = _
  unfold Host.reduceWindow
  refine congrArg (fun F : EReal → Fin (⟨s.rank, window⟩ : Shape).numel → EReal => List.foldl F (z (Shape.Idx.first hu)) (List.finRange (⟨s.rank, window⟩ : Shape).numel))
    (funext fun r => funext fun n => congrArg (r + ·) ?_)
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

abbrev W5 : Shape := ⟨5, ![1, 1, 1, 1, 128]⟩

theorem sum_window {M : Type} [AddCommMonoid M] (f : W5.Idx → M) : ∑ i : W5.Idx, f i = ∑ w : Fin 128, f (ix5 0 0 0 0 w) := by
  refine (Fintype.sum_bijective (fun w : Fin 128 => (ix5 0 0 0 0 w : W5.Idx)) ⟨fun a b h => congrFun h 4, fun i => ⟨i 4, ?_⟩⟩ _ _ fun w => rfl).symm
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => exact Subsingleton.elim (α := Fin 1) _ _
  | ⟨4, _⟩ => rfl

theorem cumsum_apply (x : FVec Ideal S2x16x2x8x128 .f32) (z : FVec Ideal S_ .f32) (hz : ∀ i, z i = (0 : EReal))
    (h : S2x16x2x8x128.ReduceWindows ![1, 1, 1, 1, 128] ![1, 1, 1, 1, 1] ![0, 0, 0, 0, 127] ![0, 0, 0, 0, 0] S2x16x2x8x128) (hu : 0 < S_.numel)
    (b : Fin 2) (k : Fin 16) (g : Fin 2) (e : Fin 8) (l : Fin 128) :
    Host.reduceWindowAdd ![1, 1, 1, 1, 128] ![1, 1, 1, 1, 1] ![0, 0, 0, 0, 127] ![0, 0, 0, 0, 0] x z h hu (ix5 b k g e l)
      = ∑ s : Fin 128, if s.val ≤ l.val then (x (ix5 b k g e s) : EReal) else 0 := by
  have e0 : z (Shape.Idx.first hu) = (0 : EReal) := hz _
  let j : S2x16x2x8x128.Idx := ix5 b k g e l
  let f : W5.Idx → EReal := fun i =>
    let p : Fin 5 → ℕ := fun a => (j a).val * (![1, 1, 1, 1, 1] : Fin 5 → ℕ) a + (i a).val
    if hin : ∀ a, (![0, 0, 0, 0, 127] : Fin 5 → ℕ) a ≤ p a ∧ p a - (![0, 0, 0, 0, 127] : Fin 5 → ℕ) a < S2x16x2x8x128.size a
      then x (fun a => ⟨p a - (![0, 0, 0, 0, 127] : Fin 5 → ℕ) a, (hin a).2⟩) else z (Shape.Idx.first hu)
  have e1 : Host.reduceWindowAdd ![1, 1, 1, 1, 128] ![1, 1, 1, 1, 1] ![0, 0, 0, 0, 127] ![0, 0, 0, 0, 0] x z h hu j
      = z (Shape.Idx.first hu) + ∑ i : W5.Idx, f i := by
    rw [window_sum]
    refine congrArg (z (Shape.Idx.first hu) + ·) (Finset.sum_congr rfl fun i _ => ?_)
    simp only [f]
    split
    · next h1 => split; · rfl
                 · next h2 => exact absurd h1 h2
    · next h1 => split; · next h2 => exact absurd h2 h1
                 · rfl
  show Host.reduceWindowAdd ![1, 1, 1, 1, 128] ![1, 1, 1, 1, 1] ![0, 0, 0, 0, 127] ![0, 0, 0, 0, 0] x z h hu j = _
  rw [e1, e0, zero_add, sum_window]
  have hf : ∀ w : Fin 128, f (ix5 0 0 0 0 w) = if hw : 127 ≤ l.val + w.val then (x (ix5 b k g e ⟨l.val + w.val - 127, by omega⟩) : EReal) else 0 := by
    intro w
    by_cases hw : 127 ≤ l.val + w.val
    · have hin : ∀ a : Fin 5, (![0, 0, 0, 0, 127] : Fin 5 → ℕ) a ≤ (j a).val * (![1, 1, 1, 1, 1] : Fin 5 → ℕ) a + ((ix5 0 0 0 0 w : W5.Idx) a).val
          ∧ (j a).val * (![1, 1, 1, 1, 1] : Fin 5 → ℕ) a + ((ix5 0 0 0 0 w : W5.Idx) a).val - (![0, 0, 0, 0, 127] : Fin 5 → ℕ) a < S2x16x2x8x128.size a := by
        intro a
        match a with
        | ⟨0, _⟩ => show 0 ≤ b.val * 1 + 0 ∧ b.val * 1 + 0 - 0 < 2; omega
        | ⟨1, _⟩ => show 0 ≤ k.val * 1 + 0 ∧ k.val * 1 + 0 - 0 < 16; omega
        | ⟨2, _⟩ => show 0 ≤ g.val * 1 + 0 ∧ g.val * 1 + 0 - 0 < 2; omega
        | ⟨3, _⟩ => show 0 ≤ e.val * 1 + 0 ∧ e.val * 1 + 0 - 0 < 8; omega
        | ⟨4, _⟩ => show 127 ≤ l.val * 1 + w.val ∧ l.val * 1 + w.val - 127 < 128; omega
      rw [dif_pos hw]
      refine (dif_pos hin).trans (congrArg x (funext fun a => Fin.ext ?_))
      match a with
      | ⟨0, _⟩ => show b.val * 1 + 0 - 0 = b.val; omega
      | ⟨1, _⟩ => show k.val * 1 + 0 - 0 = k.val; omega
      | ⟨2, _⟩ => show g.val * 1 + 0 - 0 = g.val; omega
      | ⟨3, _⟩ => show e.val * 1 + 0 - 0 = e.val; omega
      | ⟨4, _⟩ => show l.val * 1 + w.val - 127 = l.val + w.val - 127; omega
    · rw [dif_neg hw, ← e0]
      refine dif_neg fun hin => hw ?_
      have h4 : 127 ≤ l.val * 1 + w.val := (hin 4).1
      omega
  rw [Finset.sum_congr rfl fun w _ => hf w]
  -- the place `w` of the window holds entry `l + w - 127`
  rw [← Finset.sum_filter_add_sum_filter_not Finset.univ (fun w : Fin 128 => 127 ≤ l.val + w.val),
    ← Finset.sum_filter_add_sum_filter_not Finset.univ (fun s : Fin 128 => s.val ≤ l.val)]
  refine congrArg₂ (· + ·) ?_ ?_
  · refine Finset.sum_bij' (fun w _ => (⟨(l.val + w.val - 127) % 128, by omega⟩ : Fin 128)) (fun s _ => (⟨(127 + s.val - l.val) % 128, by omega⟩ : Fin 128)) ?_ ?_ ?_ ?_ ?_
    · intro w hw
      have := (Finset.mem_filter.1 hw).2
      exact Finset.mem_filter.2 ⟨Finset.mem_univ _, by show (l.val + w.val - 127) % 128 ≤ l.val; omega⟩
    · intro s hs
      have := (Finset.mem_filter.1 hs).2
      exact Finset.mem_filter.2 ⟨Finset.mem_univ _, by show 127 ≤ l.val + (127 + s.val - l.val) % 128; omega⟩
    · intro w hw
      have := (Finset.mem_filter.1 hw).2
      exact Fin.ext (by show (127 + (l.val + w.val - 127) % 128 - l.val) % 128 = w.val; omega)
    · intro s hs
      have := (Finset.mem_filter.1 hs).2
      exact Fin.ext (by show (l.val + (127 + s.val - l.val) % 128 - 127) % 128 = s.val; omega)
    · intro w hw
      have := (Finset.mem_filter.1 hw).2
      rw [dif_pos this, if_pos (show (l.val + w.val - 127) % 128 ≤ l.val by omega)]
      refine congrArg (fun s => x (ix5 b k g e s)) (Fin.ext ?_)
      show l.val + w.val - 127 = (l.val + w.val - 127) % 128
      omega
  · rw [Finset.sum_eq_zero fun w hw => dif_neg (Finset.mem_filter.1 hw).2, Finset.sum_eq_zero fun s hs => if_neg (Finset.mem_filter.1 hs).2]

end SsdMath
-- ==== Proof.SsdEquation.lean ====
/- The scan of the reference, stage by stage: its entries are those of the chunks. -/
module

public import proofs.«01_k».proof.Proof.SsdArray
public import proofs.«01_k».proof.Proof.SsdCumsum
public import proofs.«01_k».proof.Proof.Gen.SsdRefIdeal.Read
public import proofs.«01_k».proof.Proof.RowNorm
public import proofs.«01_k».proof.Pre_finite_ssd
public import Idealize.ShloMosaic.Lib.Pipeline.ValueKit

@[expose] public section

set_option maxRecDepth 16384

noncomputable section

namespace Cert.SsdRefIdeal.Equation

open Cert.SsdRefIdeal Cert.SsdRefIdeal.Read Cert.SsdRefIdeal.Gen Idealize.ShloMosaic Idealize.ShloMosaic.TcCoe Idealize.SL.Sem SsdMath
open Cert.SsdKernelIdeal.Array (chunk params zero_word bot_word)

variable (x0 : Vec Ideal ⟨3, ![2, 2048, 1536]⟩ .f32) (x1 : Vec Ideal ⟨3, ![2, 2048, 5648]⟩ .f32) (x2 x3 x4 : Vec Ideal ⟨1, ![16]⟩ .f32)
  (x5 : Vec Ideal ⟨1, ![1024]⟩ .f32) (x6 : Vec Ideal ⟨3, ![2, 2048, 1024]⟩ .f32)

/-- A head and a lane by group, place in the group and place in the head; a row by chunk. -/
def hd (g : Fin 2) (e : Fin 8) : Fin 16 := ⟨g.val * 8 + e.val, by omega⟩
def lane (g : Fin 2) (e : Fin 8) (p : Fin 64) : Fin 1024 := ⟨(g.val * 8 + e.val) * 64 + p.val, by omega⟩
def seq (k : Fin 16) (l : Fin 128) : Fin 2048 := ⟨k.val * 128 + l.val, by omega⟩

theorem head_lane (g : Fin 2) (e : Fin 8) (p : Fin 64) : head (lane g e p) = hd g e :=
  Fin.ext (by show ((g.val * 8 + e.val) * 64 + p.val) / 64 = g.val * 8 + e.val; omega)
theorem group_lane (g : Fin 2) (e : Fin 8) (p : Fin 64) : group (lane g e p) = g :=
  Fin.ext (by show ((g.val * 8 + e.val) * 64 + p.val) / 512 = g.val; omega)

abbrev Kc (b : Fin 2) (k : Fin 16) : Chunk := chunk x0 x1 b k.val
abbrev Pc : Par := params x2 x3 x4 x5

theorem seq_row (k : Fin 16) (l : Fin 128) : (⟨(128 * k.val + l.val) % 2048, by omega⟩ : Fin 2048) = seq k l :=
  Fin.ext (by show (128 * k.val + l.val) % 2048 = k.val * 128 + l.val; omega)

theorem chunk_x (b : Fin 2) (k : Fin 16) (l : Fin 128) (q : Fin 1024) :
    (chunk x0 x1 b k.val).x l q = x0 (ix3 b (seq k l) (⟨q.val, by omega⟩ : Fin 1536)) := congrArg (fun r => x0 (ix3 b r _)) (seq_row k l)
theorem chunk_b (b : Fin 2) (k : Fin 16) (l : Fin 128) (g : Fin 2) (n : Fin 128) :
    (chunk x0 x1 b k.val).b l g n = x0 (ix3 b (seq k l) (⟨1024 + (g.val * 128 + n.val), by omega⟩ : Fin 1536)) := by
  refine (congrArg (fun r => x0 (ix3 b r _)) (seq_row k l)).trans (congrArg (fun q => x0 (ix3 b _ q)) (Fin.ext ?_))
  show 1024 + (128 * g.val + n.val) = 1024 + (g.val * 128 + n.val)
  omega
theorem chunk_c (b : Fin 2) (k : Fin 16) (l : Fin 128) (g : Fin 2) (n : Fin 128) :
    (chunk x0 x1 b k.val).c l g n = x0 (ix3 b (seq k l) (⟨1280 + (g.val * 128 + n.val), by omega⟩ : Fin 1536)) := by
  refine (congrArg (fun r => x0 (ix3 b r _)) (seq_row k l)).trans (congrArg (fun q => x0 (ix3 b _ q)) (Fin.ext ?_))
  show 1280 + (128 * g.val + n.val) = 1280 + (g.val * 128 + n.val)
  omega
theorem chunk_d (b : Fin 2) (k : Fin 16) (l : Fin 128) (h : Fin 16) :
    (chunk x0 x1 b k.val).d l h = x1 (ix3 b (seq k l) (⟨5632 + h.val, by omega⟩ : Fin 5648)) := congrArg (fun r => x1 (ix3 b r _)) (seq_row k l)
theorem chunk_z (b : Fin 2) (k : Fin 16) (l : Fin 128) (q : Fin 1024) :
    (chunk x0 x1 b k.val).z l q = x1 (ix3 b (seq k l) (⟨3072 + q.val, by omega⟩ : Fin 5648)) := congrArg (fun r => x1 (ix3 b r _)) (seq_row k l)

/-- The softplus the reference writes has a branch for what is not a number, and there is none. -/
theorem softplus_eq (b : Fin 2) (r : Fin 2048) (h : Fin 16) :
    val_main_v11 (F := Ideal) x1 x2 (ix3 b r h) = soft (x1 (ix3 b r (⟨5632 + h.val, by omega⟩ : Fin 5648)) + x2 (ix1 h)) := by
  pointwise [val_main_v11, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v10, val_main_v9, val_main_v8, val_main_v1]
  refine (if_neg (fun h => h rfl)).trans ?_
  rw [soft, zero_sub]
  rfl

theorem dt_eq (b : Fin 2) (k : Fin 16) (l : Fin 128) (h : Fin 16) :
    val_main_v11 (F := Ideal) x1 x2 (ix3 b (seq k l) h) = dt (Pc x2 x3 x4 x5) (Kc x0 x1 b k) l h := by
  rw [softplus_eq, dt, chunk_d]
  rfl

theorem rise_eq (b : Fin 2) (k : Fin 16) (g : Fin 2) (e : Fin 8) (l : Fin 128) :
    val_main_v22 (F := Ideal) x1 x2 x3 (ix5 b k g e l) = dt (Pc x2 x3 x4 x5) (Kc x0 x1 b k) l (hd g e) * rate (Pc x2 x3 x4 x5) (hd g e) := by
  rw [← dt_eq, rate, zero_sub]
  pointwise [val_main_v22, val_main_v21, val_main_v20, val_main_v19, val_main_v18, val_main_v13, val_main_v12]
  rfl

theorem cum_eq (b : Fin 2) (k : Fin 16) (g : Fin 2) (e : Fin 8) (l : Fin 128) :
    val_main_v25 (F := Ideal) x1 x2 x3 (ix5 b k g e l) = cum (Pc x2 x3 x4 x5) (Kc x0 x1 b k) l (hd g e) := by
  refine (cumsum_apply _ _ (fun i => ?_) _ _ b k g e l).trans ?_
  · exact zero_word
  · exact Finset.sum_congr rfl fun s _ => by rw [rise_eq x0 x1 x2 x3 x4 x5]

theorem xdt_eq (b : Fin 2) (k : Fin 16) (l : Fin 128) (g : Fin 2) (e : Fin 8) (p : Fin 64) :
    val_main_v17 (F := Ideal) x0 x1 x2 (ix6 b k l g e p) = xdt (Pc x2 x3 x4 x5) (Kc x0 x1 b k) l (lane g e p) := by
  rw [xdt, head_lane, ← dt_eq, chunk_x]
  pointwise [val_main_v17, val_main_v16, val_main_v15, val_main_v14, val_main_v5, val_main_v2]
  rfl

theorem b_eq (b : Fin 2) (k : Fin 16) (l : Fin 128) (g : Fin 2) (n : Fin 128) :
    val_main_v23 (F := Ideal) x0 (ix5 b k l g n) = (Kc x0 x1 b k).b l g n := by
  rw [chunk_b]
  pointwise [val_main_v23, val_main_v6, val_main_v3]
  rfl

theorem c_eq (b : Fin 2) (k : Fin 16) (l : Fin 128) (g : Fin 2) (n : Fin 128) :
    val_main_v24 (F := Ideal) x0 (ix5 b k l g n) = (Kc x0 x1 b k).c l g n := by
  rw [chunk_c]
  pointwise [val_main_v24, val_main_v7, val_main_v4]
  rfl

theorem mask_eq (l s : Fin 128) (x y : EReal) :
    Scalar.select (Scalar.select (IntOp.cmpi CmpIPredicate.sge (IntOp.addi (BitVec.ofNat 32 l.val) 0#32) (BitVec.ofNat 32 s.val)) 1#1 0#1) x y
      = if s.val ≤ l.val then x else y := by
  have h0 : IntOp.addi (BitVec.ofNat 32 l.val) 0#32 = BitVec.ofNat 32 l.val := BitVec.add_zero _
  rw [h0, WordCmp.cmpi_sge_ofNat (by omega) (by omega)]
  by_cases h : s.val ≤ l.val <;> simp [h, Scalar.select]

theorem diag_eq (b : Fin 2) (k : Fin 16) (l : Fin 128) (g : Fin 2) (e : Fin 8) (p : Fin 64) :
    val_main_v40 (F := Ideal) x0 x1 x2 x3 (ix6 b k l g e p) = diag (Pc x2 x3 x4 x5) (Kc x0 x1 b k) l (lane g e p) := by
  pointwise [val_main_v40, val_main_v39, val_main_v38, val_main_v37, val_main_v36, val_main_v35, val_main_v34, val_main_v33, val_main_v32, val_main_v31, val_main_v30, val_main_v29, val_main_v28, val_main_v27, val_main_v26, val_main_call2_v5, val_main_call2_c_0, val_main_call2_v4, val_main_call2_v3, val_main_call2_v2, val_main_call2_v1, val_main_call2_c, val_main_call2_v0, val_main_c, val_main_cst, val_main_call3_v0, val_main_call3_v1, val_main_call3_v2]
  refine Finset.sum_congr rfl fun s _ => ?_
  rw [mask_eq, xdt_eq x0 x1 x2 x3 x4 x5, cum_eq x0 x1 x2 x3 x4 x5, cum_eq x0 x1 x2 x3 x4 x5, mul_comm, head_lane, group_lane]
  refine congrArg₂ _ (congrArg₂ _ (Finset.sum_congr rfl fun n _ => ?_) ?_) rfl
  · rw [b_eq x0 x1, c_eq x0 x1]
  · rw [decay]
    refine congrArg Ideal.exp (congrArg _ bot_word)

theorem fresh_eq (b : Fin 2) (k : Fin 16) (g : Fin 2) (e : Fin 8) (p : Fin 64) (n : Fin 128) :
    val_main_v49 (F := Ideal) x0 x1 x2 x3 (ix6 b k g e p n) = fresh (Pc x2 x3 x4 x5) (Kc x0 x1 b k) n (lane g e p) := by
  pointwise [val_main_v49, val_main_v48, val_main_v47, val_main_v46, val_main_v45, val_main_v44, val_main_v43, val_main_v42, val_main_v41]
  refine Finset.sum_congr rfl fun s _ => ?_
  rw [xdt_eq x0 x1 x2 x3 x4 x5, b_eq x0 x1, mul_comm, head_lane, group_lane, toEnd, ← cum_eq, ← cum_eq]

theorem keep_eq (b : Fin 2) (k : Fin 16) (g : Fin 2) (e : Fin 8) :
    val_main_v52 (F := Ideal) x1 x2 x3 (ix4 b k g e) = keep (Pc x2 x3 x4 x5) (Kc x0 x1 b k) (hd g e) := by
  pointwise [val_main_v52, val_main_v51, val_main_v50]
  exact congrArg Ideal.exp (cum_eq x0 x1 x2 x3 x4 x5 b k g e _)

/-- One step of the reference's scan, at chunk `k`. -/
def scanStep (ke : FVec Ideal S16x2x2x8 .f32) (fr : FVec Ideal S16x2x2x8x64x128 .f32) (k : ℕ)
    (h4 : S16x2x2x8.Slices ![k, 0, 0, 0] S1x2x2x8) (h6 : S16x2x2x8x64x128.Slices ![k, 0, 0, 0, 0, 0] S1x2x2x8x64x128)
    (S : FVec Ideal S2x2x8x64x128 .f32) : FVec Ideal S2x2x8x64x128 .f32 :=
  addf (mulf S (broadcastInDim S2x2x8x64x128 ![0, 1, 2, 3, 4] bcast_S2x2x8x1x1_S2x2x8x64x128_0_1_2_3_4
    (broadcastInDim S2x2x8x1x1 ![0, 1, 2] bcast_S2x2x8_S2x2x8x1x1_0_1_2
      (shapeCast _ (extractStridedSlice S1x2x2x8 ![k, 0, 0, 0] ke h4) shapeCasts_S1x2x2x8_S2x2x8))))
    (shapeCast _ (extractStridedSlice S1x2x2x8x64x128 ![k, 0, 0, 0, 0, 0] fr h6) shapeCasts_S1x2x2x8x64x128_S2x2x8x64x128)

theorem scanStep_apply (ke : FVec Ideal S16x2x2x8 .f32) (fr : FVec Ideal S16x2x2x8x64x128 .f32) (k : Fin 16)
    (h4 : S16x2x2x8.Slices ![k.val, 0, 0, 0] S1x2x2x8) (h6 : S16x2x2x8x64x128.Slices ![k.val, 0, 0, 0, 0, 0] S1x2x2x8x64x128)
    (S : FVec Ideal S2x2x8x64x128 .f32) (b g : Fin 2) (e : Fin 8) (p : Fin 64) (n : Fin 128) :
    scanStep ke fr k.val h4 h6 S (ix5 b g e p n) = S (ix5 b g e p n) * ke (ix4 k b g e) + fr (ix6 k b g e p n) := by
  pointwise [scanStep]

/-- The states before each chunk and after the last. -/
def carried : Fin 17 → Vec Ideal S2x2x8x64x128 .f32 :=
  ![val_main_v53 (F := Ideal), val_main_v68 (F := Ideal) x0 x1 x2 x3, val_main_v76 (F := Ideal) x0 x1 x2 x3, val_main_v84 (F := Ideal) x0 x1 x2 x3, val_main_v92 (F := Ideal) x0 x1 x2 x3, val_main_v100 (F := Ideal) x0 x1 x2 x3, val_main_v108 (F := Ideal) x0 x1 x2 x3, val_main_v116 (F := Ideal) x0 x1 x2 x3, val_main_v124 (F := Ideal) x0 x1 x2 x3, val_main_v132 (F := Ideal) x0 x1 x2 x3, val_main_v140 (F := Ideal) x0 x1 x2 x3, val_main_v148 (F := Ideal) x0 x1 x2 x3, val_main_v156 (F := Ideal) x0 x1 x2 x3, val_main_v164 (F := Ideal) x0 x1 x2 x3, val_main_v172 (F := Ideal) x0 x1 x2 x3, val_main_v180 (F := Ideal) x0 x1 x2 x3, val_main_v188 (F := Ideal) x0 x1 x2 x3]

theorem slice4 : ∀ k : Fin 16, S16x2x2x8.Slices ![k.val, 0, 0, 0] S1x2x2x8 := by decide +kernel
theorem slice6 : ∀ k : Fin 16, S16x2x2x8x64x128.Slices ![k.val, 0, 0, 0, 0, 0] S1x2x2x8x64x128 := by decide +kernel

theorem carried_succ (k : Fin 16) : carried x0 x1 x2 x3 k.succ =
    scanStep (val_main_v59 (F := Ideal) x1 x2 x3) (val_main_v57 (F := Ideal) x0 x1 x2 x3) k.val (slice4 k) (slice6 k) (carried x0 x1 x2 x3 k.castSucc) := by
  fin_cases k <;> rfl

theorem stacked_eq (k : Fin 16) (b g : Fin 2) (e : Fin 8) (p : Fin 64) (n : Fin 128) :
    val_main_v205 (F := Ideal) x0 x1 x2 x3 (ix6 k b g e p n) = carried x0 x1 x2 x3 k.castSucc (ix5 b g e p n) := by
  fin_cases k <;> (pointwise [val_main_v205, val_main_v189, val_main_v190, val_main_v191, val_main_v192, val_main_v193, val_main_v194, val_main_v195, val_main_v196, val_main_v197, val_main_v198, val_main_v199, val_main_v200, val_main_v201, val_main_v202, val_main_v203, val_main_v204]; rfl)

theorem carried_eq (k : ℕ) (hk : k < 17) (b g : Fin 2) (e : Fin 8) (p : Fin 64) (n : Fin 128) :
    carried x0 x1 x2 x3 ⟨k, hk⟩ (ix5 b g e p n) = carry (Pc x2 x3 x4 x5) (chunk x0 x1 b) k n (lane g e p) := by
  induction k with
  | zero => exact zero_word
  | succ k ih =>
    refine (congrFun (carried_succ x0 x1 x2 x3 ⟨k, by omega⟩) _).trans ?_
    rw [scanStep_apply]
    refine congrArg₂ _ (congrArg₂ _ (ih (by omega)) ?_) ?_
    · rw [head_lane]
      refine Eq.trans ?_ (keep_eq x0 x1 x2 x3 x4 x5 b ⟨k, by omega⟩ g e)
      pointwise [val_main_v59, val_main_v55]
    · refine Eq.trans ?_ (fresh_eq x0 x1 x2 x3 x4 x5 b ⟨k, by omega⟩ g e p n)
      pointwise [val_main_v57, val_main_v54]

theorem carry_eq (b : Fin 2) (k : Fin 16) (g : Fin 2) (e : Fin 8) (p : Fin 64) (n : Fin 128) :
    val_main_v207 (F := Ideal) x0 x1 x2 x3 (ix6 b k g e p n) = carry (Pc x2 x3 x4 x5) (chunk x0 x1 b) k.val n (lane g e p) := by
  pointwise [val_main_v207, val_main_v206]
  refine (dif_neg (Nat.not_lt_zero _)).trans ((stacked_eq x0 x1 x2 x3 k b g e p n).trans ?_)
  exact carried_eq x0 x1 x2 x3 x4 x5 k.val (by omega) b g e p n

theorem sum_eq (b : Fin 2) (k : Fin 16) (l : Fin 128) (g : Fin 2) (e : Fin 8) (p : Fin 64) :
    val_main_v215 (F := Ideal) x0 x1 x2 x3 (ix6 b k l g e p) = diag (Pc x2 x3 x4 x5) (Kc x0 x1 b k) l (lane g e p)
      + off (Pc x2 x3 x4 x5) (Kc x0 x1 b k) (carry (Pc x2 x3 x4 x5) (chunk x0 x1 b) k.val) l (lane g e p) := by
  pointwise [val_main_v215, val_main_v214, val_main_v213, val_main_v212, val_main_v211, val_main_v210, val_main_v209, val_main_v208]
  rw [diag_eq x0 x1 x2 x3 x4 x5, cum_eq x0 x1 x2 x3 x4 x5, off, head_lane, group_lane]
  refine congrArg _ (congrArg₂ _ (Finset.sum_congr rfl fun n _ => ?_) rfl)
  rw [carry_eq x0 x1 x2 x3 x4 x5, c_eq x0 x1, mul_comm]

theorem lane_of (q : Fin 1024) : lane ⟨q.val / 64 / 8, by omega⟩ ⟨q.val / 64 % 8, by omega⟩ ⟨q.val % 64, by omega⟩ = q :=
  Fin.ext (by show (q.val / 64 / 8 * 8 + q.val / 64 % 8) * 64 + q.val % 64 = q.val; omega)

abbrev outAt (b : Fin 2) (r : Fin 2048) (q : Fin 1024) : EReal :=
  out (Pc x2 x3 x4 x5) (chunk x0 x1 b (r.val / 128)) (carry (Pc x2 x3 x4 x5) (chunk x0 x1 b) (r.val / 128)) ⟨r.val % 128, by omega⟩ q
theorem out_eq (b : Fin 2) (r : Fin 2048) (q : Fin 1024) :
    val_main_v222 (F := Ideal) x0 x1 x2 x3 x4 (ix3 b r q) = outAt x0 x1 x2 x3 x4 x5 b r q := by
  have hr : seq ⟨r.val / 128, by omega⟩ ⟨r.val % 128, by omega⟩ = r := Fin.ext (by show r.val / 128 * 128 + r.val % 128 = r.val; omega)
  have hx : (chunk x0 x1 b (r.val / 128)).x ⟨r.val % 128, by omega⟩ q = x0 (ix3 b r (⟨q.val, by omega⟩ : Fin 1536)) :=
    (chunk_x x0 x1 b ⟨r.val / 128, by omega⟩ _ q).trans (congrArg (fun s => x0 (ix3 b s _)) hr)
  pointwise [val_main_v222, val_main_v221, val_main_v220, val_main_v219, val_main_v218, val_main_v217, val_main_v216, val_main_v5, val_main_v2]
  rw [sum_eq x0 x1 x2 x3 x4 x5, lane_of, outAt, out, hx]
  rfl

/-- The output under its gate at a row of the sequence. -/
abbrev gatedAt (b : Fin 2) (r : Fin 2048) (q : Fin 1024) : EReal :=
  gated (Pc x2 x3 x4 x5) (chunk x0 x1 b (r.val / 128)) (carry (Pc x2 x3 x4 x5) (chunk x0 x1 b) (r.val / 128)) ⟨r.val % 128, by omega⟩ q

theorem gated_eq (b : Fin 2) (r : Fin 2048) (q : Fin 1024) :
    val_main_v230 (F := Ideal) x0 x1 x2 x3 x4 (ix3 b r q) = gatedAt x0 x1 x2 x3 x4 x5 b r q := by
  have hr : seq ⟨r.val / 128, by omega⟩ ⟨r.val % 128, by omega⟩ = r := Fin.ext (by show r.val / 128 * 128 + r.val % 128 = r.val; omega)
  have hz : (chunk x0 x1 b (r.val / 128)).z ⟨r.val % 128, by omega⟩ q = x1 (ix3 b r (⟨3072 + q.val, by omega⟩ : Fin 5648)) :=
    (chunk_z x0 x1 b ⟨r.val / 128, by omega⟩ _ q).trans (congrArg (fun s => x1 (ix3 b s _)) hr)
  pointwise [val_main_v230, val_main_v229, val_main_v228, val_main_v227, val_main_v226, val_main_v225, val_main_v224, val_main_v223, val_main_v0, val_main_cst_2, val_main_cst_3]
  rw [out_eq x0 x1 x2 x3 x4 x5, gatedAt, gated, hz]
  rfl

theorem normed_eq (b : Fin 2) (r : Fin 2048) (q : Fin 1024) :
    val_main_v246 (F := Ideal) x0 x1 x2 x3 x4 x5 (ix3 b r q) =
      normed (Pc x2 x3 x4 x5) (chunk x0 x1 b (r.val / 128)) (carry (Pc x2 x3 x4 x5) (chunk x0 x1 b) (r.val / 128)) ⟨r.val % 128, by omega⟩ q := by
  pointwise [val_main_v246, val_main_v245, val_main_v244, val_main_v243, val_main_v242, val_main_v241, val_main_v240, val_main_v239, val_main_v238, val_main_v237, val_main_v236, val_main_v235, val_main_v234, val_main_v233, val_main_v232, val_main_v231, val_main_cst_4, val_main_cst_5, val_main_cst_6]
  rw [gated_eq x0 x1 x2 x3 x4 x5, normed, scale]
  refine congrArg₂ _ (congrArg₂ _ rfl (congrArg Ideal.rsqrt (congrArg₂ _ (congrArg₂ Ideal.div (Finset.sum_congr rfl fun j _ => ?_) rfl) rfl))) rfl
  have hl : (⟨q.val / 512 * 512 + j.val, by omega⟩ : Fin 1024) = halfLane (group q) j :=
    Fin.ext (by show q.val / 512 * 512 + j.val = 512 * (q.val / 512) + j.val; omega)
  rw [gated_eq x0 x1 x2 x3 x4 x5, hl]

/-- The three results, entry by entry. -/
theorem mixed_eq (r : Fin 4096) (q : Fin 2048) :
    val_main_v249 (F := Ideal) x0 x1 x2 x3 x4 x5 x6 (ix2 r q) =
      if 1024 ≤ q.val then
        normed (Pc x2 x3 x4 x5) (chunk x0 x1 ⟨r.val / 2048, by omega⟩ (r.val / 128 % 16))
          (carry (Pc x2 x3 x4 x5) (chunk x0 x1 ⟨r.val / 2048, by omega⟩) (r.val / 128 % 16)) ⟨r.val % 128, by omega⟩ ⟨q.val - 1024, by omega⟩
      else x6 (ix3 ⟨r.val / 2048, by omega⟩ ⟨r.val % 2048, by omega⟩ ⟨q.val % 1024, by omega⟩) := by
  pointwise [val_main_v249, val_main_v248, val_main_v247]
  have e1 : r.val % 2048 / 128 = r.val / 128 % 16 := by omega
  have e2 : (⟨r.val % 2048 % 128, by omega⟩ : Fin 128) = ⟨r.val % 128, by omega⟩ := Fin.ext (by show r.val % 2048 % 128 = r.val % 128; omega)
  by_cases h : q.val < 1024
  · refine (dif_pos h).trans (Eq.symm ((if_neg (by omega)).trans ?_))
    exact congrArg (fun j => x6 (ix3 _ _ j)) (Fin.ext (by show q.val % 1024 = q.val; omega))
  · refine (dif_neg h).trans (Eq.trans ?_ (if_pos (by omega)).symm)
    rw [normed_eq, ← e1, ← e2]

theorem scanned_eq (r : Fin 4096) (q : Fin 1024) :
    val_main_v250 (F := Ideal) x0 x1 x2 x3 x4 (ix2 r q) =
      out (Pc x2 x3 x4 x5) (chunk x0 x1 ⟨r.val / 2048, by omega⟩ (r.val / 128 % 16))
        (carry (Pc x2 x3 x4 x5) (chunk x0 x1 ⟨r.val / 2048, by omega⟩) (r.val / 128 % 16)) ⟨r.val % 128, by omega⟩ q := by
  pointwise [val_main_v250]
  have e1 : r.val % 2048 / 128 = r.val / 128 % 16 := by omega
  have e2 : (⟨r.val % 2048 % 128, by omega⟩ : Fin 128) = ⟨r.val % 128, by omega⟩ := Fin.ext (by show r.val % 2048 % 128 = r.val % 128; omega)
  rw [out_eq x0 x1 x2 x3 x4 x5, outAt, ← e1, ← e2]

theorem states_eq (r : Fin 32) (n : Fin 128) (q : Fin 1024) :
    val_main_v252 (F := Ideal) x0 x1 x2 x3 (ix3 r n q) =
      carry (Pc x2 x3 x4 x5) (chunk x0 x1 ⟨r.val / 16, by omega⟩) (r.val % 16) n q := by
  pointwise [val_main_v252, val_main_v251]
  rw [carry_eq x0 x1 x2 x3 x4 x5]
  exact congrArg _ (Fin.ext (by show (q.val / 512 * 8 + q.val / 64 % 8) * 64 + q.val % 64 = q.val; omega))

/-- The precondition says that every entry of the skip is a real number. -/
theorem reals [Cert.Pre_finite_ssd.Facts] (h : Cert.Pre_finite_ssd.fn (F := Ideal) x0 x1 x2 x3 x4 x5 x6 = (fun _ => 1#1)) (i : Fin 16) :
    ∃ r : ℝ, x4 (ix1 i) = (r : EReal) := by
  obtain ⟨r, hr⟩ := RowNorm.real_of_test (congrFun h (ix1 i))
  exact ⟨r, hr⟩

end Cert.SsdRefIdeal.Equation

end
-- ==== Proof.SsdValue.lean ====
/- The chunked scan with its gate and norm is the plain layer's.
   The assembly: the arrays the kernel leaves, the plain results, and the equations between them. -/
module

public import proofs.«01_k».proof.Defs
public import proofs.«01_k».proof.Proof.Gen.SsdKernelIdeal.Value
public import proofs.«01_k».proof.Proof.Gen.SsdRefIdeal.Run
public import proofs.«01_k».proof.Proof.Gen.SsdRefIdeal.Read
public import proofs.«01_k».proof.Proof.Gen.Pre_finite_ssd
public import proofs.«01_k».proof.Proof.SsdEquation

@[expose] public section

noncomputable section

namespace Cert.Proof.Ssd

open Idealize.ShloMosaic Idealize.ShloMosaic.StableHlo Idealize.ShloMosaic.TcCoe Idealize.SL.Sem

/-- The chunked scan with its gate and norm is the plain layer's. -/
theorem value : Cert.algebraic_SsdKernelIdeal_SsdRefIdeal_pre_finite_ssd (hSsdKernelIdeal := Cert.SsdKernelIdeal.Gen.facts) (hSsdRefIdeal := Cert.SsdRefIdeal.Gen.facts) (hPre_finite_ssd := Cert.Pre_finite_ssd.Gen.facts) := by
  intro m ρ m' ρ' hpre hag
  have hs : ∀ (c : Dev Cert.SsdKernelIdeal.nD) q, ∃ r : ℝ, (Cert.SsdKernelIdeal.Array.parAt m c).skip (SsdMath.head q) = (r : EReal) :=
    fun c q => Cert.SsdRefIdeal.Equation.reals _ _ _ _ _ _ _ (hpre c) _
  refine ⟨fun c => Cert.SsdKernelIdeal.Array.mixed m c, fun c => Cert.SsdKernelIdeal.Array.scanned m c, fun c => Cert.SsdKernelIdeal.Array.states m c,
    (θ_run _ _ _).mono (fun _ h c => ?_) (Cert.SsdKernelIdeal.Value.run_blocks m ρ),
    (θ_run _ _ _).mono (fun _ h c => ?_) (Cert.SsdRefIdeal.Value.run (F := Ideal) m' ρ')⟩
  · exact ⟨(h c).1.trans (Cert.SsdKernelIdeal.Array.mixed_array m hs c), (h c).2.1.trans (Cert.SsdKernelIdeal.Array.out_array m hs c),
      (h c).2.2.1.trans (Cert.SsdKernelIdeal.Array.state_array m c), (h c).2.2.2⟩
  · obtain ⟨h0, h1, h2, h3, h4, h5, h6⟩ := hag c
    rw [← launchContents_devRef m' c] at h0 h1 h2 h3 h4 h5 h6
    refine ⟨(h c).1.trans ?_, (h c).2.1.trans ?_, (h c).2.2.1.trans ?_, (h c).2.2.2⟩
    · refine (Cert.SsdRefIdeal.Read.val_main_v249_eq (launchContents m' c)).trans ?_
      rw [h0, h1, h2, h3, h4, h5, h6]
      funext i
      obtain ⟨r, q, rfl⟩ : ∃ (r : Fin 4096) (q : Fin 2048), i = ix2 r q := ⟨i 0, i 1, by funext a; match a with | ⟨0, _⟩ => rfl | ⟨1, _⟩ => rfl⟩
      exact Cert.SsdRefIdeal.Equation.mixed_eq _ _ _ _ _ _ _ r q
    · refine (Cert.SsdRefIdeal.Read.val_main_v250_eq (launchContents m' c)).trans ?_
      rw [h0, h1, h2, h3, h4]
      funext i
      obtain ⟨r, q, rfl⟩ : ∃ (r : Fin 4096) (q : Fin 1024), i = ix2 r q := ⟨i 0, i 1, by funext a; match a with | ⟨0, _⟩ => rfl | ⟨1, _⟩ => rfl⟩
      exact Cert.SsdRefIdeal.Equation.scanned_eq _ _ _ _ _ _ r q
    · refine (Cert.SsdRefIdeal.Read.val_main_v252_eq (launchContents m' c)).trans ?_
      rw [h0, h1, h2, h3]
      funext i
      obtain ⟨r, n, q, rfl⟩ : ∃ (r : Fin 32) (n : Fin 128) (q : Fin 1024), i = ix3 r n q :=
        ⟨i 0, i 1, i 2, by funext a; match a with | ⟨0, _⟩ => rfl | ⟨1, _⟩ => rfl | ⟨2, _⟩ => rfl⟩
      exact Cert.SsdRefIdeal.Equation.states_eq _ _ _ _ _ _ r n q

/-- The plain layer keeps its arguments and ends every semaphore at zero. -/
theorem ref_frame : Cert.quiescent_SsdRefIdeal := fun m ρ _ =>
  (θ_run _ _ _).mono (fun r h => ⟨fun c => (h c).2.2.2, sem_eq_zero_of_no_sems (by decide) r.2⟩)
    (Cert.SsdRefIdeal.Value.run (F := Ideal) m ρ)

end Cert.Proof.Ssd

end
-- ==== Proof.BwdMath.lean ====
/- The gradient of the state-space scan of one chunk of 128 rows, as plain functions over the extended reals: through the
   norm and the gate to the scan's output, from there to the features and the two projections of the state, and the
   gradient handed to the chunk before. -/
module

public import proofs.«01_k».proof.Proof.SsdMath
public import Idealize.ShloMosaic.PureOps.Ideal.Laws
public import Idealize.ShloMosaic.Lib.ValueIdx

@[expose] public section

noncomputable section

namespace SsdMath

open Idealize.ShloMosaic

/-- Rows of lanes. -/
abbrev Rows := Fin 128 → Fin 1024 → EReal

variable (P : Par) (K : Chunk)

/-- The gate, and the output under it, from the output's rows. -/
def gate (l : Fin 128) (q : Fin 1024) : EReal := K.z l q * Ideal.logistic (K.z l q)
def under (Y : Rows) (l : Fin 128) (q : Fin 1024) : EReal := Y l q * gate K l q

/-- The cotangent under the gain. -/
def lifted (ct : Rows) (l : Fin 128) (q : Fin 1024) : EReal := ct l q * P.gain q

/-- The norm's gradient along one half of a row, the norm's factor taken out. -/
def halfGrad (y u : Fin 1024 → EReal) (q : Fin 1024) : EReal :=
  scale y (group q) * (u q - y q * scale y (group q) *
    Ideal.div (∑ j : Fin 512, y (halfLane (group q) j) * scale y (group q) * u (halfLane (group q) j)) (Ideal.ofBits .f32 0x44000000#32))

/-- The gradient at the gated output, at the output, at the gate's argument, and one row's share of the gain's. -/
def dGated (Y ct : Rows) (l : Fin 128) (q : Fin 1024) : EReal := halfGrad (under K Y l) (lifted P ct l) q
def dOut (Y ct : Rows) (l : Fin 128) (q : Fin 1024) : EReal := dGated P K Y ct l q * gate K l q
def dGate (Y ct : Rows) (l : Fin 128) (q : Fin 1024) : EReal :=
  dGated P K Y ct l q * Y l q * (Ideal.logistic (K.z l q) * (1 + K.z l q * (1 - Ideal.logistic (K.z l q))))
def dGain (Y ct : Rows) (l : Fin 128) (q : Fin 1024) : EReal := ct l q * (under K Y l q * scale (under K Y l) (group q))

/-- The gradient at the product with the carried state. -/
def dOff (g : Rows) (l : Fin 128) (q : Fin 1024) : EReal := g l q * Ideal.exp (cum P K l (head q))

/-- A lane of a head, and a head of a group. -/
def headLane (h : Fin 16) (p : Fin 64) : Fin 1024 := ⟨64 * h.val + p.val, by omega⟩
def groupHead (g : Fin 2) (e : Fin 8) : Fin 16 := ⟨8 * g.val + e.val, by omega⟩

/-- The gradient at the product inside the chunk, and at the scores a group's heads share. -/
def dMix (g : Rows) (h : Fin 16) (l s : Fin 128) : EReal := ∑ p : Fin 64, g l (headLane h p) * xdt P K s (headLane h p)
def dScore (g : Rows) (k : Fin 2) (l s : Fin 128) : EReal :=
  ∑ e : Fin 8, dMix P K g (groupHead k e) l s * decay P K l s (groupHead k e)

/-- The gradients at the two projections: inside the chunk, and through the states carried in and out. -/
def dC (S g : Rows) (l : Fin 128) (k : Fin 2) (n : Fin 128) : EReal :=
  (∑ s : Fin 128, dScore P K g k l s * K.b s k n) + ∑ j : Fin 512, dOff P K g l (halfLane k j) * S n (halfLane k j)
def dB (T g : Rows) (s : Fin 128) (k : Fin 2) (n : Fin 128) : EReal :=
  (∑ l : Fin 128, dScore P K g k l s * K.c l k n)
    + ∑ j : Fin 512, xdt P K s (halfLane k j) * toEnd P K s (head (halfLane k j)) * T n (halfLane k j)

/-- The gradient at the features times their step sizes, and at the features. -/
def inside (g : Rows) (s : Fin 128) (q : Fin 1024) : EReal :=
  ∑ l : Fin 128, score K (group q) l s * decay P K l s (head q) * g l q
def dXdt (T g : Rows) (s : Fin 128) (q : Fin 1024) : EReal :=
  inside P K g s q + toEnd P K s (head q) * ∑ n : Fin 128, K.b s (group q) n * T n q
def dX (T g : Rows) (s : Fin 128) (q : Fin 1024) : EReal :=
  dXdt P K T g s q * dt P K s (head q) + P.skip (head q) * g s q

/-- The gradient at the state carried in, from the one at the state carried out. -/
def before (T g : Rows) (n : Fin 128) (q : Fin 1024) : EReal :=
  T n q * keep P K (head q) + ∑ l : Fin 128, K.c l (group q) n * dOff P K g l q

/-- The gradient at the state carried out of the chunk `j` places before the last of sixteen. -/
def back (Ks : ℕ → Chunk) (G : ℕ → Rows) : ℕ → Rows
  | 0 => fun _ _ => 0
  | j + 1 => before P (Ks (15 - j)) (back Ks G j) (G (15 - j))

theorem gated_eq_under (S : Rows) : gated P K S = under K (out P K S) := rfl

end SsdMath

end
-- ==== Proof.BwdBlock.lean ====
/- What the body of the state-space backward call computes from its blocks before it reaches the heads: step sizes, decays,
   the features under them, and the gradient at the scan's output, through the norm and the gate. -/
module

public import proofs.«01_k».proof.Proof.Gen.BwdKernelIdeal.Value
public import proofs.«01_k».proof.Proof.SsdPoint
public import proofs.«01_k».proof.Proof.BwdMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.BwdKernelIdeal.Array

open Cert.BwdKernelIdeal Cert.BwdKernelIdeal.Gen Idealize.ShloMosaic Idealize.ShloMosaic.TcCoe Idealize.SL.Sem
open SsdMath
open Cert.SsdKernelIdeal.Array (Reads ln gl)

section Common

variable {P : Par} {K : Chunk} {pb : Vec Ideal S8x128 .f32} {D : Vec Ideal S128x128 .bf16} {ex : Vec Ideal S128x1024 .bf16}
  {tri : Vec Ideal S128x128 .f32} {X : Vec Ideal S128x1024 .f32} {B C : Vec Ideal S128x256 .f32}
  {Z : Vec Ideal S128x1024 .bf16} {G : Vec Ideal S1x1024 .f32} (R : Reads P K pb D ex tri X B C Z G)

include R

/-! ### The parts the forward call shares -/

theorem cum_apply (l : Fin 128) (h : Fin 16) : k0_pay12 (k0_pay6 pb) (k0_pay8 pb D) k0_pay9 k0_pay10 tri (ix2 l (ln h)) = cum P K l h :=
  Cert.SsdKernelIdeal.Array.cum_apply R l h
theorem cumT_apply (h : Fin 16) (l : Fin 128) : k0_pay19 (k0_pay6 pb) (k0_pay8 pb D) k0_pay9 k0_pay10 tri (ix2 (ln h) l) = cum P K l h :=
  Cert.SsdKernelIdeal.Array.cumT_apply R h l
theorem dtx_apply (l : Fin 128) (q : Fin 1024) : k0_pay20 (k0_pay8 pb D) k0_pay9 k0_pay10 ex (ix2 l q) = dt P K l (head q) :=
  Cert.SsdKernelIdeal.Array.dtx_apply R l q
theorem ecs_apply (l : Fin 128) (q : Fin 1024) :
    k0_pay22 (k0_pay6 pb) (k0_pay8 pb D) k0_pay9 k0_pay10 tri ex (ix2 l q) = Ideal.exp (cum P K l (head q)) :=
  Cert.SsdKernelIdeal.Array.ecs_apply R l q
theorem toEnd_apply (l : Fin 128) (q : Fin 1024) :
    k0_pay21 (k0_pay6 pb) (k0_pay8 pb D) k0_pay9 k0_pay10 tri ex (ix2 l q) = toEnd P K l (head q) :=
  Cert.SsdKernelIdeal.Array.toEnd_apply R l q
theorem keepx_apply (q : Fin 1024) :
    k0_pay23 (k0_pay5 pb) (k0_pay6 pb) (k0_pay8 pb D) k0_pay9 k0_pay10 tri ex (ix2 (0 : Fin 1) q) = keep P K (head q) :=
  Cert.SsdKernelIdeal.Array.keepx_apply R q
theorem skipx_apply (q : Fin 1024) (hs : ∃ r : ℝ, P.skip (head q) = (r : EReal)) :
    k0_pay24 (k0_pay18 (k0_pay5 pb) (k0_pay6 pb) (k0_pay8 pb D) k0_pay9 k0_pay10 tri ex) (ix2 (0 : Fin 1) q) = P.skip (head q) :=
  Cert.SsdKernelIdeal.Array.skipx_apply R q hs
theorem xdt_apply (l : Fin 128) (q : Fin 1024) : k0_pay27 (k0_pay20 (k0_pay8 pb D) k0_pay9 k0_pay10 ex) X (ix2 l q) = xdt P K l q :=
  Cert.SsdKernelIdeal.Array.xdt_apply R l q
theorem xdte_apply (l : Fin 128) (q : Fin 1024) :
    k0_pay28 (k0_pay20 (k0_pay8 pb D) k0_pay9 k0_pay10 ex) (k0_pay21 (k0_pay6 pb) (k0_pay8 pb D) k0_pay9 k0_pay10 tri ex) X (ix2 l q)
      = xdt P K l q * toEnd P K l (head q) :=
  Cert.SsdKernelIdeal.Array.xdte_apply R l q

end Common

/-! ### The gradient at the scan's output, through the norm and the gate -/

/-- A half of a row's block. -/
theorem ld_half {t : EltTy} (Y : Vec Ideal S128x1024 t) (g : Fin 2) (o : ℕ) (ho : o = 512 * g.val)
    (inb : ∀ a : Fin 2, (![0, o] : Fin 2 → ℕ) a + (![128, 512] : Fin 2 → ℕ) a ≤ S128x1024.size a) (l : Fin 128) (j : Fin 512) :
    View.ld Y (Rect.unit (s := S128x1024) ![0, o] ![128, 512] inb) (ix2 l j) = Y (ix2 l (halfLane g j)) := by
  show Y _ = Y _
  congr 1
  funext a
  apply Fin.ext
  match a with
  | ⟨0, _⟩ => show 0 + 1 * l.val = l.val; omega
  | ⟨1, _⟩ => show o + 1 * j.val = 512 * g.val + j.val; omega

/-- The gradient of one half, from its entries. -/
theorem half_form (y u : Fin 1024 → EReal) (g : Fin 2) (q : Fin 1024) (hg : group q = g) (f v : Fin 512 → EReal)
    (hf : ∀ j, f j = y (halfLane g j)) (hv : ∀ j, v j = u (halfLane g j)) (a b : EReal) (ha : a = u q) (hb : b = y q) :
    Ideal.rsqrt (Ideal.div (@Finset.sum (Fin 512) EReal _ Finset.univ (fun x => f x * f x)) (Ideal.ofBits .f32 0x44000000#32) + Ideal.ofBits .f32 0x358637BD#32)
      * (a - b * Ideal.rsqrt (Ideal.div (@Finset.sum (Fin 512) EReal _ Finset.univ (fun x => f x * f x)) (Ideal.ofBits .f32 0x44000000#32) + Ideal.ofBits .f32 0x358637BD#32)
        * Ideal.div (@Finset.sum (Fin 512) EReal _ Finset.univ (fun x => f x * Ideal.rsqrt (Ideal.div (@Finset.sum (Fin 512) EReal _ Finset.univ (fun x => f x * f x)) (Ideal.ofBits .f32 0x44000000#32)
          + Ideal.ofBits .f32 0x358637BD#32) * v x)) (Ideal.ofBits .f32 0x44000000#32)) = halfGrad y u q := by
  obtain rfl : f = fun j => y (halfLane g j) := funext hf
  obtain rfl : v = fun j => u (halfLane g j) := funext hv
  subst hg ha hb
  rfl

theorem gain_form (y : Fin 1024 → EReal) (g : Fin 2) (q : Fin 1024) (hg : group q = g) (f : Fin 512 → EReal)
    (hf : ∀ j, f j = y (halfLane g j)) (a b d : EReal) (ha : a = d) (hb : b = y q) :
    a * (b * Ideal.rsqrt (Ideal.div (@Finset.sum (Fin 512) EReal _ Finset.univ (fun x => f x * f x)) (Ideal.ofBits .f32 0x44000000#32) + Ideal.ofBits .f32 0x358637BD#32))
      = d * (y q * scale y (group q)) := by
  obtain rfl : f = fun j => y (halfLane g j) := funext hf
  subst hg ha hb
  rfl

section Gate

variable {P : Par} {K : Chunk} {Y : Vec Ideal S128x1024 .f32} {Z U : Vec Ideal S128x1024 .bf16} {G : Vec Ideal S1x1024 .f32}
  {Yr ct : Rows} (hY : ∀ (l : Fin 128) (q : Fin 1024), Y (ix2 l q) = Yr l q) (hZ : ∀ (l : Fin 128) (q : Fin 1024), Z (ix2 l q) = K.z l q)
  (hU : ∀ (l : Fin 128) (q : Fin 1024), U (ix2 l q) = ct l q) (hG : ∀ q : Fin 1024, G (ix2 (0 : Fin 1) q) = P.gain q)

include hZ in
theorem sig_apply (l : Fin 128) (q : Fin 1024) : k0_pay35 Z (ix2 l q) = Ideal.logistic (K.z l q) := by
  have e : k0_pay35 Z (ix2 l q) = Ideal.ofBits .f32 0x3F000000#32 * Ideal.tanh (Ideal.ofBits .f32 0x3F000000#32 * Z (ix2 l q)) + Ideal.ofBits .f32 0x3F000000#32 := by
    pointwise [k0_pay35, k0_pay33]
  rw [e, logistic_tanh, hZ]

include hZ in
theorem gate_apply (l : Fin 128) (q : Fin 1024) : k0_pay36 Z (ix2 l q) = gate K l q := by
  have e : k0_pay36 Z (ix2 l q) = Z (ix2 l q) * k0_pay35 Z (ix2 l q) := by
    pointwise [k0_pay36, k0_pay33]
  rw [e, sig_apply hZ, hZ, gate]

include hY hZ in
theorem under_apply (l : Fin 128) (q : Fin 1024) : k0_pay37 Y Z (ix2 l q) = under K Yr l q := by
  have e : k0_pay37 Y Z (ix2 l q) = Y (ix2 l q) * k0_pay36 Z (ix2 l q) := by
    pointwise [k0_pay37, k0_pay32]
  rw [e, gate_apply hZ, hY, under]

/-- The two halves of the cotangent's rows. -/
abbrev lo (U : Vec Ideal S128x1024 .bf16) : Vec Ideal S128x512 .bf16 := View.ld U (Rect.unit (s := S128x1024) ![0, 0] ![128, 512] inb_S128x1024_S128x512_0_0)
abbrev hi (U : Vec Ideal S128x1024 .bf16) : Vec Ideal S128x512 .bf16 := View.ld U (Rect.unit (s := S128x1024) ![0, 512] ![128, 512] inb_S128x1024_S128x512_0_512)

include hY hZ hU hG

theorem dGated_apply (l : Fin 128) (q : Fin 1024) :
    k0_pay48 (k0_pay34 G) (k0_pay37 Y Z) (k0_pay38 Y Z) (k0_pay39 G) (k0_pay40 (lo U)) (k0_pay41 Y Z) (FloatOps.ofBits FTy.f32 0x358637BD#32) (hi U) (ix2 l q)
      = dGated P K Yr ct l q := by
  have hw := under_apply hY hZ l
  have h0 : ∀ j : Fin 512, lo U (ix2 l j) = ct l (halfLane 0 j) := fun j => (ld_half U 0 0 rfl _ l j).trans (hU l _)
  have h1 : ∀ j : Fin 512, hi U (ix2 l j) = ct l (halfLane 1 j) := fun j => (ld_half U 1 512 rfl _ l j).trans (hU l _)
  generalize lo U = U0 at h0 ⊢
  generalize hi U = U1 at h1 ⊢
  by_cases h : q.val < 512
  · have hq : group q = 0 := Fin.ext (by show q.val / 512 = 0; omega)
    have hl : ∀ j : Fin 512, (⟨j.val, by omega⟩ : Fin 1024) = halfLane 0 j := fun j => Fin.ext (by show j.val = 512 * 0 + j.val; omega)
    have hh : halfLane 0 ⟨q.val, h⟩ = q := Fin.ext (by show 512 * 0 + q.val = q.val; omega)
    pointwise [k0_pay48, k0_pay34, k0_pay38, k0_pay39, k0_pay40, k0_pay41, k0_pay42, k0_pay43, k0_pay44, k0_pay45, k0_pay46, k0_pay47]
    refine (dif_pos h).trans ?_
    exact half_form (under K Yr l) (lifted P ct l) 0 q hq _ _ (fun j => (hw _).trans (by rw [hl])) (fun j => congrArg₂ (· * ·) (h0 j) ((hG _).trans (by rw [hl])))
      _ _ (congrArg₂ (· * ·) ((h0 _).trans (by rw [hh])) (hG q)) (hw q)
  · have hq : group q = 1 := Fin.ext (by show q.val / 512 = 1; omega)
    have hl : ∀ j : Fin 512, (⟨512 + j.val, by omega⟩ : Fin 1024) = halfLane 1 j := fun j => Fin.ext (by show 512 + j.val = 512 * 1 + j.val; omega)
    have hh : halfLane 1 ⟨q.val - 512, by omega⟩ = q := Fin.ext (by show 512 * 1 + (q.val - 512) = q.val; omega)
    have hm : (⟨512 + (q.val - 512), by omega⟩ : Fin 1024) = q := Fin.ext (by show 512 + (q.val - 512) = q.val; omega)
    pointwise [k0_pay48, k0_pay34, k0_pay38, k0_pay39, k0_pay40, k0_pay41, k0_pay42, k0_pay43, k0_pay44, k0_pay45, k0_pay46, k0_pay47]
    refine (dif_neg h).trans ?_
    exact half_form (under K Yr l) (lifted P ct l) 1 q hq _ _ (fun j => (hw _).trans (by rw [hl])) (fun j => congrArg₂ (· * ·) (h1 j) ((hG _).trans (by rw [hl])))
      _ _ (congrArg₂ (· * ·) ((h1 _).trans (by rw [hh])) ((hG _).trans (by rw [hm]))) ((hw _).trans (by rw [hm]))

/-- The gradient at the scan's output. -/
theorem dOut_apply (l : Fin 128) (q : Fin 1024) :
    k0_pay50 (k0_pay34 G) (k0_pay36 Z) (k0_pay37 Y Z) (k0_pay38 Y Z) (k0_pay39 G) (k0_pay40 (lo U)) (k0_pay41 Y Z) (FloatOps.ofBits FTy.f32 0x358637BD#32) (hi U) (ix2 l q)
      = dOut P K Yr ct l q := by
  rw [dOut, ← dGated_apply hY hZ hU hG, ← gate_apply hZ]
  pointwise [k0_pay50]

/-- The gradient at the gate's argument. -/
theorem dGate_apply (l : Fin 128) (q : Fin 1024) :
    k0_pay52 (k0_pay33 Z) (k0_pay35 Z) (k0_pay51 (k0_pay32 Y) (k0_pay34 G) (k0_pay37 Y Z) (k0_pay38 Y Z) (k0_pay39 G) (k0_pay40 (lo U)) (k0_pay41 Y Z)
      (FloatOps.ofBits FTy.f32 0x358637BD#32) (hi U)) (FloatOps.ofBits FTy.f32 0x3F800000#32) (ix2 l q) = dGate P K Yr ct l q := by
  rw [dGate, ← dGated_apply hY hZ hU hG, ← sig_apply hZ, ← hZ, ← hY]
  pointwise [k0_pay52, k0_pay51, k0_pay33, k0_pay32]

/-- The rows of the gain's gradient. -/
theorem dGain_apply (l : Fin 128) (q : Fin 1024) :
    k0_pay49 (k0_pay37 Y Z) (k0_pay38 Y Z) (k0_pay40 (lo U)) (k0_pay41 Y Z) (FloatOps.ofBits FTy.f32 0x358637BD#32) (hi U) (ix2 l q) = dGain K Yr ct l q := by
  have hw := under_apply hY hZ l
  have h0 : ∀ j : Fin 512, lo U (ix2 l j) = ct l (halfLane 0 j) := fun j => (ld_half U 0 0 rfl _ l j).trans (hU l _)
  have h1 : ∀ j : Fin 512, hi U (ix2 l j) = ct l (halfLane 1 j) := fun j => (ld_half U 1 512 rfl _ l j).trans (hU l _)
  generalize lo U = U0 at h0 ⊢
  generalize hi U = U1 at h1 ⊢
  by_cases h : q.val < 512
  · have hq : group q = 0 := Fin.ext (by show q.val / 512 = 0; omega)
    have hl : ∀ j : Fin 512, (⟨j.val, by omega⟩ : Fin 1024) = halfLane 0 j := fun j => Fin.ext (by show j.val = 512 * 0 + j.val; omega)
    have hh : halfLane 0 ⟨q.val, h⟩ = q := Fin.ext (by show 512 * 0 + q.val = q.val; omega)
    pointwise [k0_pay49, k0_pay38, k0_pay40, k0_pay41, k0_pay42, k0_pay43, k0_pay44, k0_pay45, k0_pay46, k0_pay47]
    refine (dif_pos h).trans ?_
    exact gain_form (under K Yr l) 0 q hq _ (fun j => (hw _).trans (by rw [hl])) _ _ _ ((h0 _).trans (by rw [hh])) (hw q)
  · have hq : group q = 1 := Fin.ext (by show q.val / 512 = 1; omega)
    have hl : ∀ j : Fin 512, (⟨512 + j.val, by omega⟩ : Fin 1024) = halfLane 1 j := fun j => Fin.ext (by show 512 + j.val = 512 * 1 + j.val; omega)
    have hh : halfLane 1 ⟨q.val - 512, by omega⟩ = q := Fin.ext (by show 512 * 1 + (q.val - 512) = q.val; omega)
    have hm : (⟨512 + (q.val - 512), by omega⟩ : Fin 1024) = q := Fin.ext (by show 512 + (q.val - 512) = q.val; omega)
    pointwise [k0_pay49, k0_pay38, k0_pay40, k0_pay41, k0_pay42, k0_pay43, k0_pay44, k0_pay45, k0_pay46, k0_pay47]
    refine (dif_neg h).trans ?_
    exact gain_form (under K Yr l) 1 q hq _ (fun j => (hw _).trans (by rw [hl])) _ _ _ ((h1 _).trans (by rw [hh])) ((hw _).trans (by rw [hm]))

end Gate

end Cert.BwdKernelIdeal.Array
-- ==== Proof.BwdHeads.lean ====
/- The products of the state-space backward call over pairs of heads: each pair's columns of the gradient at the features times
   their step sizes, each pair's gradient at the product inside the chunk, and the sum over a group's heads at its scores. -/
module

public import proofs.«01_k».proof.Proof.BwdBlock
public import proofs.«01_k».proof.Proof.SsdPoint
public import proofs.«01_k».proof.Proof.BwdMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.BwdKernelIdeal.Array

open Cert.BwdKernelIdeal Cert.BwdKernelIdeal.Gen Idealize.ShloMosaic Idealize.ShloMosaic.TcCoe Idealize.SL.Sem
open SsdMath
open Cert.SsdKernelIdeal.Array (Reads ln gl)

/-! ### A pair of heads at a time -/

/-- The decay as the body writes it. -/
theorem decay_form (P : Par) (K : Chunk) (l s : Fin 128) (h : Fin 16) (u : EReal) (hu : u = cum P K l h - cum P K s h) :
    Ideal.exp (Scalar.select (IntOp.cmpi .sge (BitVec.ofNat 32 l.val) (BitVec.ofNat 32 s.val)) u (Ideal.ofBits .f32 0xFF800000#32)) = decay P K l s h := by
  subst hu
  rw [Cert.SsdKernelIdeal.Array.bot_word]
  word_cmp
  rfl

/-- Lanes of one head of a pair, then those of the other. -/
theorem pair_form (P : Par) (K : Chunk) (g : Rows) (s q : Fin 128) (Q : Fin 1024) (j : ℕ) (hQ : Q.val = 128 * j + q.val)
    (a y u v : Fin 128 → EReal) (ha : ∀ x, a x = score K (group Q) x s) (hy : ∀ x, y x = g x Q)
    (hu : ∀ x (h : Fin 16), h.val = 2 * j → u x = cum P K x h - cum P K s h)
    (hv : ∀ x (h : Fin 16), h.val = 2 * j + 1 → v x = cum P K x h - cum P K s h) :
    @Finset.sum (Fin 128) EReal _ Finset.univ (fun x => Scalar.select (IntOp.cmpi .slt (BitVec.ofNat 32 q.val) 64#32)
        (a x * Ideal.exp (Scalar.select (IntOp.cmpi .sge (BitVec.ofNat 32 x.val) (BitVec.ofNat 32 s.val)) (u x) (Ideal.ofBits .f32 0xFF800000#32)) * y x) 0)
      + @Finset.sum (Fin 128) EReal _ Finset.univ (fun x => Scalar.select (IntOp.cmpi .slt (BitVec.ofNat 32 q.val) 64#32) 0
        (a x * Ideal.exp (Scalar.select (IntOp.cmpi .sge (BitVec.ofNat 32 x.val) (BitVec.ofNat 32 s.val)) (v x) (Ideal.ofBits .f32 0xFF800000#32)) * y x))
    = ∑ l : Fin 128, score K (group Q) l s * decay P K l s (head Q) * g l Q := by
  rw [Cert.SsdKernelIdeal.Array.two_heads]
  split
  · refine Finset.sum_congr (M := EReal) rfl fun x _ => ?_
    rw [decay_form P K x s (head Q) _ (hu x (head Q) (by show Q.val / 64 = _; omega)), ha, hy]
  · refine Finset.sum_congr (M := EReal) rfl fun x _ => ?_
    rw [decay_form P K x s (head Q) _ (hv x (head Q) (by show Q.val / 64 = _; omega)), ha, hy]

/-- The two heads' gradients at the product inside the chunk, side by side. -/
def Mix (P : Par) (K : Chunk) (g : Rows) (j : ℕ) (M : FVec Ideal S128x256 .f32) : Prop :=
  ∀ (l s : Fin 128) (h : Fin 16), (h.val = 2 * j → M (ix2 l (⟨s.val, by omega⟩ : Fin 256)) = dMix P K g h l s)
    ∧ (h.val = 2 * j + 1 → M (ix2 l (⟨128 + s.val, by omega⟩ : Fin 256)) = dMix P K g h l s)

theorem mix_form (P : Par) (K : Chunk) (g : Rows) (l s : Fin 128) (h : Fin 16) (j : ℕ) (f : Fin 128 → EReal)
    (hf : ∀ (x : Fin 128) (Q : Fin 1024), Q.val = 128 * j + x.val → f x = g l Q * xdt P K s Q) :
    (h.val = 2 * j → @Finset.sum (Fin 128) EReal _ Finset.univ (fun x => Scalar.select (IntOp.cmpi .slt (BitVec.ofNat 32 x.val) 64#32) (f x) 0) = dMix P K g h l s)
    ∧ (h.val = 2 * j + 1 → @Finset.sum (Fin 128) EReal _ Finset.univ (fun x => Scalar.select (IntOp.cmpi .slt (BitVec.ofNat 32 x.val) 64#32) 0 (f x)) = dMix P K g h l s) := by
  have e1 : ∀ (x : Fin 128) (a b : EReal), Scalar.select (IntOp.cmpi .slt (BitVec.ofNat 32 x.val) 64#32) a b = if x.val < 64 then a else b := by
    intro x a b
    word_cmp
  have e2 : ∀ F : Fin 128 → EReal, @Finset.sum (Fin 128) EReal _ Finset.univ F
      = @Finset.sum (Fin 64) EReal _ Finset.univ (fun p => F ⟨p.val, by omega⟩) + @Finset.sum (Fin 64) EReal _ Finset.univ (fun p => F ⟨64 + p.val, by omega⟩) :=
    fun F => Fin.sum_univ_add (M := EReal) (a := 64) (b := 64) F
  constructor
  · intro hh
    rw [e2, dMix]
    refine (congrArg₂ (· + ·) (Finset.sum_congr (M := EReal) rfl fun p _ => ?_) (Finset.sum_eq_zero (M := EReal) fun p _ => ?_)).trans (add_zero _)
    · rw [e1, if_pos (show p.val < 64 from p.isLt)]
      exact hf _ _ (by show 64 * h.val + p.val = 128 * j + p.val; omega)
    · rw [e1, if_neg (show ¬ 64 + p.val < 64 by omega)]
  · intro hh
    rw [e2, dMix]
    refine (congrArg₂ (· + ·) (Finset.sum_eq_zero (M := EReal) fun p _ => ?_) (Finset.sum_congr (M := EReal) rfl fun p _ => ?_)).trans (zero_add _)
    · rw [e1, if_pos (show p.val < 64 from p.isLt)]
    · rw [e1, if_neg (show ¬ 64 + p.val < 64 by omega)]
      exact hf _ _ (by show 64 * h.val + p.val = 128 * j + (64 + p.val); omega)

/-- The eight heads of a group, added up at its scores. -/
theorem eight_form {P : Par} {K : Chunk} {g : Rows} {M0 M1 M2 M3 : FVec Ideal S128x256 .f32} (k : Fin 2) (l s : Fin 128)
    (h0 : Mix P K g (4 * k.val) M0) (h1 : Mix P K g (4 * k.val + 1) M1) (h2 : Mix P K g (4 * k.val + 2) M2) (h3 : Mix P K g (4 * k.val + 3) M3)
    (u : Fin 8 → EReal) (hu : ∀ e, u e = cum P K l (groupHead k e) - cum P K s (groupHead k e)) (d : EReal → EReal)
    (hd : ∀ x, d x = Ideal.exp (Scalar.select (IntOp.cmpi .sge (BitVec.ofNat 32 l.val) (BitVec.ofNat 32 s.val)) x (Ideal.ofBits .f32 0xFF800000#32))) :
    M0 (ix2 l (⟨s.val, by omega⟩ : Fin 256)) * d (u 0) + M0 (ix2 l (⟨128 + s.val, by omega⟩ : Fin 256)) * d (u 1)
      + M1 (ix2 l (⟨s.val, by omega⟩ : Fin 256)) * d (u 2) + M1 (ix2 l (⟨128 + s.val, by omega⟩ : Fin 256)) * d (u 3)
      + M2 (ix2 l (⟨s.val, by omega⟩ : Fin 256)) * d (u 4) + M2 (ix2 l (⟨128 + s.val, by omega⟩ : Fin 256)) * d (u 5)
      + M3 (ix2 l (⟨s.val, by omega⟩ : Fin 256)) * d (u 6) + M3 (ix2 l (⟨128 + s.val, by omega⟩ : Fin 256)) * d (u 7)
      = dScore P K g k l s := by
  rw [dScore, Fin.sum_univ_eight]
  have hc : ∀ e, d (u e) = decay P K l s (groupHead k e) := fun e => (hd _).trans (decay_form P K l s (groupHead k e) _ (hu e))
  rw [hc, hc, hc, hc, hc, hc, hc, hc,
    (h0 l s (groupHead k 0)).1 (by show 8 * k.val + 0 = _; omega), (h0 l s (groupHead k 1)).2 (by show 8 * k.val + 1 = _; omega),
    (h1 l s (groupHead k 2)).1 (by show 8 * k.val + 2 = _; omega), (h1 l s (groupHead k 3)).2 (by show 8 * k.val + 3 = _; omega),
    (h2 l s (groupHead k 4)).1 (by show 8 * k.val + 4 = _; omega), (h2 l s (groupHead k 5)).2 (by show 8 * k.val + 5 = _; omega),
    (h3 l s (groupHead k 6)).1 (by show 8 * k.val + 6 = _; omega), (h3 l s (groupHead k 7)).2 (by show 8 * k.val + 7 = _; omega)]

section Heads

variable {P : Par} {K : Chunk} {g : Rows} {CS CST : FVec Ideal S128x128 .f32} {XB DYB : FVec Ideal S128x1024 .bf16} {DY : FVec Ideal S128x1024 .f32}
  (hcs : ∀ (l : Fin 128) (h : Fin 16), CS (ix2 l (ln h)) = cum P K l h) (hcst : ∀ (h : Fin 16) (l : Fin 128), CST (ix2 (ln h) l) = cum P K l h)
  (hx : ∀ (l : Fin 128) (q : Fin 1024), XB (ix2 l q) = xdt P K l q) (hy : ∀ (l : Fin 128) (q : Fin 1024), DYB (ix2 l q) = g l q)
  (hy0 : ∀ (l : Fin 128) (q : Fin 1024), DY (ix2 l q) = g l q)

/-- The lanes' numbers along the columns and the rows' along the rows. -/
abbrev lanes : IVec S128x128 32 := iota .tc S128x128 32 [1] iota_S128x128_d1_w32
abbrev rowNos : IVec S128x128 32 := iota .tc S128x128 32 [0] iota_S128x128_d0_w32

include hx hy0 in
theorem mix0 : Mix P K g 0 (k0_pay65 lanes XB DY) := by
  intro l s h
  have := mix_form P K g l s h 0 (fun x => DY (ix2 l (⟨x.val, by omega⟩ : Fin 1024)) * XB (ix2 s (⟨x.val, by omega⟩ : Fin 1024)))
    fun x Q hQ => by rw [hy0, hx, show (⟨x.val, by omega⟩ : Fin 1024) = Q from Fin.ext (by show x.val = Q.val; omega)]
  constructor
  · intro hh
    refine Eq.trans ?_ (this.1 hh)
    pointwise [k0_pay53, k0_pay55, k0_pay62, k0_pay63, k0_pay65]
  · intro hh
    refine Eq.trans ?_ (this.2 hh)
    pointwise [k0_pay53, k0_pay55, k0_pay62, k0_pay63, k0_pay65]

include hx hy in
theorem mix1 : Mix P K g 1 (k0_pay85 XB DYB (k0_pay55 lanes)) := by
  intro l s h
  have := mix_form P K g l s h 1 (fun x => DYB (ix2 l (⟨128 + x.val, by omega⟩ : Fin 1024)) * XB (ix2 s (⟨128 + x.val, by omega⟩ : Fin 1024)))
    fun x Q hQ => by rw [hy, hx, show (⟨128 + x.val, by omega⟩ : Fin 1024) = Q from Fin.ext (by show 128 + x.val = Q.val; omega)]
  constructor
  · intro hh
    refine Eq.trans ?_ (this.1 hh)
    pointwise [k0_pay55, k0_pay82, k0_pay83, k0_pay85]
  · intro hh
    refine Eq.trans ?_ (this.2 hh)
    pointwise [k0_pay55, k0_pay82, k0_pay83, k0_pay85]

include hx hy in
theorem mix2 : Mix P K g 2 (k0_pay104 XB DYB (k0_pay55 lanes)) := by
  intro l s h
  have := mix_form P K g l s h 2 (fun x => DYB (ix2 l (⟨256 + x.val, by omega⟩ : Fin 1024)) * XB (ix2 s (⟨256 + x.val, by omega⟩ : Fin 1024)))
    fun x Q hQ => by rw [hy, hx, show (⟨256 + x.val, by omega⟩ : Fin 1024) = Q from Fin.ext (by show 256 + x.val = Q.val; omega)]
  constructor
  · intro hh
    refine Eq.trans ?_ (this.1 hh)
    pointwise [k0_pay55, k0_pay101, k0_pay102, k0_pay104]
  · intro hh
    refine Eq.trans ?_ (this.2 hh)
    pointwise [k0_pay55, k0_pay101, k0_pay102, k0_pay104]

include hx hy in
theorem mix3 : Mix P K g 3 (k0_pay126 XB DYB (k0_pay55 lanes)) := by
  intro l s h
  have := mix_form P K g l s h 3 (fun x => DYB (ix2 l (⟨384 + x.val, by omega⟩ : Fin 1024)) * XB (ix2 s (⟨384 + x.val, by omega⟩ : Fin 1024)))
    fun x Q hQ => by rw [hy, hx, show (⟨384 + x.val, by omega⟩ : Fin 1024) = Q from Fin.ext (by show 384 + x.val = Q.val; omega)]
  constructor
  · intro hh
    refine Eq.trans ?_ (this.1 hh)
    pointwise [k0_pay55, k0_pay123, k0_pay124, k0_pay126]
  · intro hh
    refine Eq.trans ?_ (this.2 hh)
    pointwise [k0_pay55, k0_pay123, k0_pay124, k0_pay126]

include hx hy in
theorem mix4 : Mix P K g 4 (k0_pay159 XB DYB (k0_pay55 lanes)) := by
  intro l s h
  have := mix_form P K g l s h 4 (fun x => DYB (ix2 l (⟨512 + x.val, by omega⟩ : Fin 1024)) * XB (ix2 s (⟨512 + x.val, by omega⟩ : Fin 1024)))
    fun x Q hQ => by rw [hy, hx, show (⟨512 + x.val, by omega⟩ : Fin 1024) = Q from Fin.ext (by show 512 + x.val = Q.val; omega)]
  constructor
  · intro hh
    refine Eq.trans ?_ (this.1 hh)
    pointwise [k0_pay55, k0_pay156, k0_pay157, k0_pay159]
  · intro hh
    refine Eq.trans ?_ (this.2 hh)
    pointwise [k0_pay55, k0_pay156, k0_pay157, k0_pay159]

include hx hy in
theorem mix5 : Mix P K g 5 (k0_pay180 XB DYB (k0_pay55 lanes)) := by
  intro l s h
  have := mix_form P K g l s h 5 (fun x => DYB (ix2 l (⟨640 + x.val, by omega⟩ : Fin 1024)) * XB (ix2 s (⟨640 + x.val, by omega⟩ : Fin 1024)))
    fun x Q hQ => by rw [hy, hx, show (⟨640 + x.val, by omega⟩ : Fin 1024) = Q from Fin.ext (by show 640 + x.val = Q.val; omega)]
  constructor
  · intro hh
    refine Eq.trans ?_ (this.1 hh)
    pointwise [k0_pay55, k0_pay177, k0_pay178, k0_pay180]
  · intro hh
    refine Eq.trans ?_ (this.2 hh)
    pointwise [k0_pay55, k0_pay177, k0_pay178, k0_pay180]

include hx hy in
theorem mix6 : Mix P K g 6 (k0_pay202 XB DYB (k0_pay55 lanes)) := by
  intro l s h
  have := mix_form P K g l s h 6 (fun x => DYB (ix2 l (⟨768 + x.val, by omega⟩ : Fin 1024)) * XB (ix2 s (⟨768 + x.val, by omega⟩ : Fin 1024)))
    fun x Q hQ => by rw [hy, hx, show (⟨768 + x.val, by omega⟩ : Fin 1024) = Q from Fin.ext (by show 768 + x.val = Q.val; omega)]
  constructor
  · intro hh
    refine Eq.trans ?_ (this.1 hh)
    pointwise [k0_pay55, k0_pay199, k0_pay200, k0_pay202]
  · intro hh
    refine Eq.trans ?_ (this.2 hh)
    pointwise [k0_pay55, k0_pay199, k0_pay200, k0_pay202]

include hx hy in
theorem mix7 : Mix P K g 7 (k0_pay225 XB DYB (k0_pay55 lanes)) := by
  intro l s h
  have := mix_form P K g l s h 7 (fun x => DYB (ix2 l (⟨896 + x.val, by omega⟩ : Fin 1024)) * XB (ix2 s (⟨896 + x.val, by omega⟩ : Fin 1024)))
    fun x Q hQ => by rw [hy, hx, show (⟨896 + x.val, by omega⟩ : Fin 1024) = Q from Fin.ext (by show 896 + x.val = Q.val; omega)]
  constructor
  · intro hh
    refine Eq.trans ?_ (this.1 hh)
    pointwise [k0_pay55, k0_pay222, k0_pay223, k0_pay225]
  · intro hh
    refine Eq.trans ?_ (this.2 hh)
    pointwise [k0_pay55, k0_pay222, k0_pay223, k0_pay225]

include hcs hcst hy0 in
theorem cols0 {gr : FVec Ideal S128x128 .f32} (hg : ∀ l s : Fin 128, gr (ix2 l s) = score K 0 l s) (s q : Fin 128) :
    k0_pay81 (k0_pay64 lanes DY) (k0_pay72 gr (k0_pay66 lanes CS CST)) (k0_pay74 lanes CS CST gr) (ix2 s q) = inside P K g s ⟨q.val, by omega⟩ := by
  pointwise [k0_pay53, k0_pay55, k0_pay62, k0_pay63, k0_pay64, k0_pay66, k0_pay67, k0_pay72, k0_pay73, k0_pay74, k0_pay81]
  exact pair_form P K g s q _ 0 (by show q.val = _; omega) _ _ _ _ (fun x => (hg x s).trans (by rw [show group (⟨q.val, by omega⟩ : Fin 1024) = (0 : Fin 2) from Fin.ext (by show (q.val) / 512 = 0; omega)])) (fun x => hy0 _ _)
    (fun x h e => by obtain rfl : h = 0 := Fin.ext e; exact congrArg₂ (· - ·) (hcs x 0) (hcst 0 s))
    (fun x h e => by obtain rfl : h = 1 := Fin.ext e; exact congrArg₂ (· - ·) (hcs x 1) (hcst 1 s))

include hcs hcst hy in
theorem cols1 {gr : FVec Ideal S128x128 .f32} (hg : ∀ l s : Fin 128, gr (ix2 l s) = score K 0 l s) (s q : Fin 128) :
    k0_pay100 (k0_pay99 lanes CS CST gr (k0_pay84 DYB (k0_pay55 lanes)) (k0_pay87 lanes CS CST gr)) (ix2 s q) = inside P K g s ⟨128 + q.val, by omega⟩ := by
  pointwise [k0_pay55, k0_pay82, k0_pay83, k0_pay84, k0_pay86, k0_pay87, k0_pay92, k0_pay93, k0_pay99, k0_pay100]
  exact pair_form P K g s q _ 1 (by show 128 + q.val = _; omega) _ _ _ _ (fun x => (hg x s).trans (by rw [show group (⟨128 + q.val, by omega⟩ : Fin 1024) = (0 : Fin 2) from Fin.ext (by show (128 + q.val) / 512 = 0; omega)])) (fun x => hy _ _)
    (fun x h e => by obtain rfl : h = 2 := Fin.ext e; exact congrArg₂ (· - ·) (hcs x 2) (hcst 2 s))
    (fun x h e => by obtain rfl : h = 3 := Fin.ext e; exact congrArg₂ (· - ·) (hcs x 3) (hcst 3 s))

include hcs hcst hy in
theorem cols2 {gr : FVec Ideal S128x128 .f32} (hg : ∀ l s : Fin 128, gr (ix2 l s) = score K 0 l s) (s q : Fin 128) :
    k0_pay122 lanes gr (k0_pay103 DYB (k0_pay55 lanes)) (k0_pay112 lanes CS CST gr) rowNos (k0_pay113 CST) (k0_pay114 CS) (ix2 s q) = inside P K g s ⟨256 + q.val, by omega⟩ := by
  pointwise [k0_pay55, k0_pay101, k0_pay102, k0_pay103, k0_pay105, k0_pay106, k0_pay112, k0_pay113, k0_pay114, k0_pay115, k0_pay116, k0_pay122]
  exact pair_form P K g s q _ 2 (by show 256 + q.val = _; omega) _ _ _ _ (fun x => (hg x s).trans (by rw [show group (⟨256 + q.val, by omega⟩ : Fin 1024) = (0 : Fin 2) from Fin.ext (by show (256 + q.val) / 512 = 0; omega)])) (fun x => hy _ _)
    (fun x h e => by obtain rfl : h = 4 := Fin.ext e; exact congrArg₂ (· - ·) (hcs x 4) (hcst 4 s))
    (fun x h e => by obtain rfl : h = 5 := Fin.ext e; exact congrArg₂ (· - ·) (hcs x 5) (hcst 5 s))

include hcs hcst hy in
theorem cols3 {gr : FVec Ideal S128x128 .f32} (hg : ∀ l s : Fin 128, gr (ix2 l s) = score K 0 l s) (s q : Fin 128) :
    k0_pay144 (k0_pay125 DYB (k0_pay55 lanes)) (k0_pay135 lanes CST gr rowNos (k0_pay127 CS)) (k0_pay137 lanes CS CST gr) (ix2 s q) = inside P K g s ⟨384 + q.val, by omega⟩ := by
  pointwise [k0_pay55, k0_pay123, k0_pay124, k0_pay125, k0_pay127, k0_pay128, k0_pay129, k0_pay135, k0_pay136, k0_pay137, k0_pay144]
  exact pair_form P K g s q _ 3 (by show 384 + q.val = _; omega) _ _ _ _ (fun x => (hg x s).trans (by rw [show group (⟨384 + q.val, by omega⟩ : Fin 1024) = (0 : Fin 2) from Fin.ext (by show (384 + q.val) / 512 = 0; omega)])) (fun x => hy _ _)
    (fun x h e => by obtain rfl : h = 6 := Fin.ext e; exact congrArg₂ (· - ·) (hcs x 6) (hcst 6 s))
    (fun x h e => by obtain rfl : h = 7 := Fin.ext e; exact congrArg₂ (· - ·) (hcs x 7) (hcst 7 s))

include hcs hcst hy in
theorem cols4 {b1 : FVec Ideal S128x128 .bf16} {c1 : FVec Ideal S128x128 .f32} (hg : ∀ l s : Fin 128, (k0_pay155 b1 c1) (ix2 l s) = score K 1 l s) (s q : Fin 128) :
    k0_pay176 lanes CST (k0_pay155 b1 c1) (k0_pay158 DYB (k0_pay55 lanes)) (k0_pay167 lanes CS CST b1 c1) rowNos (k0_pay168 CS) (ix2 s q) = inside P K g s ⟨512 + q.val, by omega⟩ := by
  pointwise [k0_pay55, k0_pay156, k0_pay157, k0_pay158, k0_pay160, k0_pay161, k0_pay167, k0_pay168, k0_pay169, k0_pay170, k0_pay176]
  exact pair_form P K g s q _ 4 (by show 512 + q.val = _; omega) _ _ _ _ (fun x => (hg x s).trans (by rw [show group (⟨512 + q.val, by omega⟩ : Fin 1024) = (1 : Fin 2) from Fin.ext (by show (512 + q.val) / 512 = 1; omega)])) (fun x => hy _ _)
    (fun x h e => by obtain rfl : h = 8 := Fin.ext e; exact congrArg₂ (· - ·) (hcs x 8) (hcst 8 s))
    (fun x h e => by obtain rfl : h = 9 := Fin.ext e; exact congrArg₂ (· - ·) (hcs x 9) (hcst 9 s))

include hcs hcst hy in
theorem cols5 {gr : FVec Ideal S128x128 .f32} (hg : ∀ l s : Fin 128, gr (ix2 l s) = score K 1 l s) (s q : Fin 128) :
    k0_pay198 (k0_pay179 DYB (k0_pay55 lanes)) (k0_pay188 lanes CS CST gr) (k0_pay190 lanes CS CST gr) (ix2 s q) = inside P K g s ⟨640 + q.val, by omega⟩ := by
  pointwise [k0_pay55, k0_pay177, k0_pay178, k0_pay179, k0_pay181, k0_pay182, k0_pay188, k0_pay189, k0_pay190, k0_pay198]
  exact pair_form P K g s q _ 5 (by show 640 + q.val = _; omega) _ _ _ _ (fun x => (hg x s).trans (by rw [show group (⟨640 + q.val, by omega⟩ : Fin 1024) = (1 : Fin 2) from Fin.ext (by show (640 + q.val) / 512 = 1; omega)])) (fun x => hy _ _)
    (fun x h e => by obtain rfl : h = 10 := Fin.ext e; exact congrArg₂ (· - ·) (hcs x 10) (hcst 10 s))
    (fun x h e => by obtain rfl : h = 11 := Fin.ext e; exact congrArg₂ (· - ·) (hcs x 11) (hcst 11 s))

include hcs hcst hy in
theorem cols6 {gr : FVec Ideal S128x128 .f32} (hg : ∀ l s : Fin 128, gr (ix2 l s) = score K 1 l s) (s q : Fin 128) :
    k0_pay221 (k0_pay201 DYB (k0_pay55 lanes)) (k0_pay210 (k0_pay204 lanes CS CST gr)) (k0_pay212 lanes CS CST gr) (ix2 s q) = inside P K g s ⟨768 + q.val, by omega⟩ := by
  pointwise [k0_pay55, k0_pay199, k0_pay200, k0_pay201, k0_pay203, k0_pay204, k0_pay210, k0_pay211, k0_pay212, k0_pay221]
  exact pair_form P K g s q _ 6 (by show 768 + q.val = _; omega) _ _ _ _ (fun x => (hg x s).trans (by rw [show group (⟨768 + q.val, by omega⟩ : Fin 1024) = (1 : Fin 2) from Fin.ext (by show (768 + q.val) / 512 = 1; omega)])) (fun x => hy _ _)
    (fun x h e => by obtain rfl : h = 12 := Fin.ext e; exact congrArg₂ (· - ·) (hcs x 12) (hcst 12 s))
    (fun x h e => by obtain rfl : h = 13 := Fin.ext e; exact congrArg₂ (· - ·) (hcs x 13) (hcst 13 s))

include hcs hcst hy in
theorem cols7 {gr : FVec Ideal S128x128 .f32} (hg : ∀ l s : Fin 128, gr (ix2 l s) = score K 1 l s) (s q : Fin 128) :
    k0_pay239 lanes CS CST gr (k0_pay224 DYB (k0_pay55 lanes)) (k0_pay227 lanes CS CST gr) (ix2 s q) = inside P K g s ⟨896 + q.val, by omega⟩ := by
  pointwise [k0_pay55, k0_pay222, k0_pay223, k0_pay224, k0_pay226, k0_pay227, k0_pay233, k0_pay234, k0_pay239]
  exact pair_form P K g s q _ 7 (by show 896 + q.val = _; omega) _ _ _ _ (fun x => (hg x s).trans (by rw [show group (⟨896 + q.val, by omega⟩ : Fin 1024) = (1 : Fin 2) from Fin.ext (by show (896 + q.val) / 512 = 1; omega)])) (fun x => hy _ _)
    (fun x h e => by obtain rfl : h = 14 := Fin.ext e; exact congrArg₂ (· - ·) (hcs x 14) (hcst 14 s))
    (fun x h e => by obtain rfl : h = 15 := Fin.ext e; exact congrArg₂ (· - ·) (hcs x 15) (hcst 15 s))

include hcs hcst hx hy hy0 in
theorem scores0 (l s : Fin 128) :
    k0_pay145 (k0_pay134 lanes CST (k0_pay121 lanes (k0_pay104 XB DYB (k0_pay55 lanes)) (k0_pay111 lanes CS CST XB DYB (k0_pay55 lanes) (k0_pay98 lanes CS CST (k0_pay80 (k0_pay71 k0_pay61 (k0_pay65 lanes XB DY) (k0_pay66 lanes CS CST)) (k0_pay73 lanes CS CST) (k0_pay75 (k0_pay65 lanes XB DY))) (k0_pay85 XB DYB (k0_pay55 lanes)) (k0_pay86 lanes CS CST) (k0_pay88 XB DYB (k0_pay55 lanes)))) rowNos (k0_pay113 CST) (k0_pay114 CS)) (k0_pay126 XB DYB (k0_pay55 lanes)) rowNos (k0_pay127 CS)) (k0_pay136 lanes CS CST) (k0_pay138 (k0_pay126 XB DYB (k0_pay55 lanes))) (ix2 l s) = dScore P K g 0 l s := by
  pointwise [k0_pay61, k0_pay66, k0_pay68, k0_pay71, k0_pay73, k0_pay75, k0_pay80, k0_pay86, k0_pay88, k0_pay92, k0_pay94, k0_pay98, k0_pay105, k0_pay107, k0_pay111, k0_pay113, k0_pay114, k0_pay115, k0_pay117, k0_pay121, k0_pay127, k0_pay128, k0_pay130, k0_pay134, k0_pay136, k0_pay138, k0_pay145]
  exact eight_form 0 l s (mix0 hx hy0) (mix1 hx hy) (mix2 hx hy) (mix3 hx hy)
    (fun e => CS (ix2 l (ln (groupHead 0 e))) - CST (ix2 (ln (groupHead 0 e)) s)) (fun e => congrArg₂ (· - ·) (hcs l _) (hcst _ s))
    (fun x => Ideal.exp (Scalar.select (IntOp.cmpi .sge (BitVec.ofNat 32 l.val) (BitVec.ofNat 32 s.val)) x (Ideal.ofBits .f32 0xFF800000#32))) (fun x => rfl)

include hcs hcst hx hy hy0 in
theorem scores1 (l s : Fin 128) :
    k0_pay240 lanes CS CST (k0_pay220 (k0_pay209 (k0_pay197 (k0_pay187 lanes CS CST (k0_pay175 lanes CST (k0_pay159 XB DYB (k0_pay55 lanes)) (k0_pay166 lanes CS CST XB DYB (k0_pay55 lanes)) rowNos (k0_pay168 CS)) (k0_pay180 XB DYB (k0_pay55 lanes))) (k0_pay189 lanes CS CST) (k0_pay191 (k0_pay180 XB DYB (k0_pay55 lanes)))) (k0_pay203 lanes CS CST) (k0_pay205 XB DYB (k0_pay55 lanes))) (k0_pay211 lanes CS CST) (k0_pay213 (k0_pay202 XB DYB (k0_pay55 lanes)))) (k0_pay225 XB DYB (k0_pay55 lanes)) (k0_pay226 lanes CS CST) (k0_pay228 XB DYB (k0_pay55 lanes)) (ix2 l s) = dScore P K g 1 l s := by
  pointwise [k0_pay160, k0_pay162, k0_pay166, k0_pay168, k0_pay169, k0_pay171, k0_pay175, k0_pay181, k0_pay183, k0_pay187, k0_pay189, k0_pay191, k0_pay197, k0_pay203, k0_pay205, k0_pay209, k0_pay211, k0_pay213, k0_pay220, k0_pay226, k0_pay228, k0_pay233, k0_pay235, k0_pay240]
  exact eight_form 1 l s (mix4 hx hy) (mix5 hx hy) (mix6 hx hy) (mix7 hx hy)
    (fun e => CS (ix2 l (ln (groupHead 1 e))) - CST (ix2 (ln (groupHead 1 e)) s)) (fun e => congrArg₂ (· - ·) (hcs l _) (hcst _ s))
    (fun x => Ideal.exp (Scalar.select (IntOp.cmpi .sge (BitVec.ofNat 32 l.val) (BitVec.ofNat 32 s.val)) x (Ideal.ofBits .f32 0xFF800000#32))) (fun x => rfl)

end Heads

end Cert.BwdKernelIdeal.Array
-- ==== Proof.BwdPoint.lean ====
/- What one grid point of the state-space backward call leaves: the columns of its first array, and the gradient at the
   state carried into its chunk. Both are written in pieces; each is read back at the piece a lane lies in. -/
module

public import proofs.«01_k».proof.Proof.BwdHeads
public import proofs.«01_k».proof.Proof.SsdPoint
public import proofs.«01_k».proof.Proof.BwdMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.BwdKernelIdeal.Array

open Cert.BwdKernelIdeal Cert.BwdKernelIdeal.Gen Idealize.ShloMosaic Idealize.ShloMosaic.TcCoe Idealize.SL.Sem
open SsdMath
open Cert.SsdKernelIdeal.Array (Reads ln gl canon_col canon_col_skip four_apply halves_apply idx_col ld_group)

/-! ### Columns of the wide block -/

theorem wide_hit {o w : ℕ} (inb : ∀ a : Fin 2, (![0, o] : Fin 2 → ℕ) a + (![128, w] : Fin 2 → ℕ) a ≤ S128x1536.size a)
    (v : (Rect.unit (s := S128x1536) ![0, o] ![128, w] inb).shape.Idx → Elt Ideal .f32) (L : List ((r : Rect S128x1536) × (r.shape.Idx → Elt Ideal .f32)))
    (l : Fin 128) (q : Fin 1536) (h : Fin w) (hq : q.val = o + h.val) :
    View.canon (⟨Rect.unit (s := S128x1536) ![0, o] ![128, w] inb, v⟩ :: L) (ix2 l q) = v (ix2 l h) := by
  have e : (ix2 l q : S128x1536.Idx) = (Rect.unit (s := S128x1536) ![0, o] ![128, w] inb).emb (ix2 l h) := by
    refine funext fun a => Fin.ext ?_
    rw [Rect.emb_apply]
    match a with
    | ⟨0, _⟩ => exact (by omega : l.val = 0 + 1 * l.val)
    | ⟨1, _⟩ => exact (by omega : q.val = o + 1 * h.val)
  exact e ▸ View.canon_cons_emb _ v L _

theorem wide_skip {o w : ℕ} (inb : ∀ a : Fin 2, (![0, o] : Fin 2 → ℕ) a + (![128, w] : Fin 2 → ℕ) a ≤ S128x1536.size a)
    (v : (Rect.unit (s := S128x1536) ![0, o] ![128, w] inb).shape.Idx → Elt Ideal .f32) (L : List ((r : Rect S128x1536) × (r.shape.Idx → Elt Ideal .f32)))
    (l : Fin 128) (q : Fin 1536) (hq : q.val < o ∨ o + w ≤ q.val) :
    View.canon (⟨Rect.unit (s := S128x1536) ![0, o] ![128, w] inb, v⟩ :: L) (ix2 l q) = View.canon L (ix2 l q) :=
  View.canon_cons_of_not_mem _ L fun hm => by
    have h := (Rect.mem_set_unit (inb := inb)).mp hm (1 : Fin 2)
    have h1 : o ≤ q.val := h.1
    have h2 : q.val < o + w := h.2
    omega

/-! ### The pieces, as they are written and read back -/

abbrev grp0 (B : Vec Ideal S128x256 .f32) : Vec Ideal S128x128 .f32 := View.ld B (Rect.unit (s := S128x256) ![0, 0] ![128, 128] inb_S128x256_S128x128_0_0)
abbrev grp1 (B : Vec Ideal S128x256 .f32) : Vec Ideal S128x128 .f32 := View.ld B (Rect.unit (s := S128x256) ![0, 128] ![128, 128] inb_S128x256_S128x128_0_128)

/-- A group's scores. -/
def gram0 (B C : Vec Ideal S128x256 .f32) : FVec Ideal S128x128 .f32 := k0_pay60 (grp0 B) (grp0 C)
def gram1 (B C : Vec Ideal S128x256 .f32) : FVec Ideal S128x128 .f32 := k0_pay155 (k0_pay152 (grp1 B)) (k0_pay153 (grp1 C))

section Pieces

variable (CS CST : FVec Ideal S128x128 .f32) (DTX ECS TE : FVec Ideal S128x1024 .f32) (XB XE : FVec Ideal S128x1024 .bf16)
  (DY : FVec Ideal S128x1024 .f32) (SK KX : FVec Ideal S1x1024 .f32) (S : Vec Ideal S1x128x1024 .f32) (T : Vec Ideal S128x1024 .f32) (B C : Vec Ideal S128x256 .f32)

/-- What the chunk's own rows give the first group's lanes; the same with the state's part; then the second group's. -/
def tilesLo : List ((r : Rect S128x1024) × (r.shape.Idx → Elt Ideal .f32)) :=
  [⟨Rect.unit ![0, 384] ![128, 128] inb_S128x1024_S128x128_0_384, k0_pay144 (k0_pay125 (k0_pay53 DY) (k0_pay55 lanes)) (k0_pay135 lanes CST (gram0 B C) rowNos (k0_pay127 CS)) (k0_pay137 lanes CS CST (gram0 B C))⟩,
   ⟨Rect.unit ![0, 256] ![128, 128] inb_S128x1024_S128x128_0_256, k0_pay122 lanes (gram0 B C) (k0_pay103 (k0_pay53 DY) (k0_pay55 lanes)) (k0_pay112 lanes CS CST (gram0 B C)) rowNos (k0_pay113 CST) (k0_pay114 CS)⟩,
   ⟨Rect.unit ![0, 128] ![128, 128] inb_S128x1024_S128x128_0_128, k0_pay100 (k0_pay99 lanes CS CST (gram0 B C) (k0_pay84 (k0_pay53 DY) (k0_pay55 lanes)) (k0_pay87 lanes CS CST (gram0 B C)))⟩,
   ⟨Rect.unit ![0, 0] ![128, 128] inb_S128x1024_S128x128_0_0, k0_pay81 (k0_pay64 lanes DY) (k0_pay72 (gram0 B C) (k0_pay66 lanes CS CST)) (k0_pay74 lanes CS CST (gram0 B C))⟩]

def halfLo : FVec Ideal S128x512 .f32 :=
  k0_pay147 TE (k0_pay31 T) (k0_pay58 (grp0 B))
    ((View.whole cc0_scratch1).readCov (tilesLo CS CST DY B C) (Rect.unit (s := S128x1024) ![0, 0] ![128, 512] inb_S128x1024_S128x512_0_0).toLoadRect)

def tilesHi : List ((r : Rect S128x1024) × (r.shape.Idx → Elt Ideal .f32)) :=
  ⟨Rect.unit ![0, 896] ![128, 128] inb_S128x1024_S128x128_0_896, k0_pay239 lanes CS CST (gram1 B C) (k0_pay224 (k0_pay53 DY) (k0_pay55 lanes)) (k0_pay227 lanes CS CST (gram1 B C))⟩ ::
  ⟨Rect.unit ![0, 768] ![128, 128] inb_S128x1024_S128x128_0_768, k0_pay221 (k0_pay201 (k0_pay53 DY) (k0_pay55 lanes)) (k0_pay210 (k0_pay204 lanes CS CST (gram1 B C))) (k0_pay212 lanes CS CST (gram1 B C))⟩ ::
  ⟨Rect.unit ![0, 640] ![128, 128] inb_S128x1024_S128x128_0_640, k0_pay198 (k0_pay179 (k0_pay53 DY) (k0_pay55 lanes)) (k0_pay188 lanes CS CST (gram1 B C)) (k0_pay190 lanes CS CST (gram1 B C))⟩ ::
  ⟨Rect.unit ![0, 512] ![128, 128] inb_S128x1024_S128x128_0_512, k0_pay176 lanes CST (gram1 B C) (k0_pay158 (k0_pay53 DY) (k0_pay55 lanes)) (k0_pay167 lanes CS CST (k0_pay152 (grp1 B)) (k0_pay153 (grp1 C))) rowNos (k0_pay168 CS)⟩ ::
  ⟨Rect.unit ![0, 0] ![128, 512] inb_S128x1024_S128x512_0_0, halfLo CS CST TE DY T B C⟩ :: tilesLo CS CST DY B C

def halfHi : FVec Ideal S128x512 .f32 :=
  k0_pay243 TE (k0_pay152 (grp1 B)) (k0_pay241 (k0_pay31 T)) (constant S128x512 FTy.f32 0#32)
    ((View.whole cc0_scratch1).readCov (tilesHi CS CST TE DY T B C) (Rect.unit (s := S128x1024) ![0, 512] ![128, 512] inb_S128x1024_S128x512_0_512).toLoadRect)

/-- The gradient at the features times their step sizes. -/
def dXdtRows : Vec Ideal S128x1024 .f32 :=
  (View.whole cc0_scratch1).readCov
    (⟨Rect.unit ![0, 512] ![128, 512] inb_S128x1024_S128x512_0_512, halfHi CS CST TE DY T B C⟩ :: tilesHi CS CST TE DY T B C)
    (Rect.unit (s := S128x1024) ![0, 0] ![128, 1024] inb_S128x1024_S128x1024_0_0).toLoadRect

/-- A group's gradient at its scores. -/
def sums0 : FVec Ideal S128x128 .bf16 := k0_pay145 (k0_pay134 lanes CST (k0_pay121 lanes (k0_pay104 XB (k0_pay53 DY) (k0_pay55 lanes)) (k0_pay111 lanes CS CST XB (k0_pay53 DY) (k0_pay55 lanes) (k0_pay98 lanes CS CST (k0_pay80 (k0_pay71 k0_pay61 (k0_pay65 lanes XB DY) (k0_pay66 lanes CS CST)) (k0_pay73 lanes CS CST) (k0_pay75 (k0_pay65 lanes XB DY))) (k0_pay85 XB (k0_pay53 DY) (k0_pay55 lanes)) (k0_pay86 lanes CS CST) (k0_pay88 XB (k0_pay53 DY) (k0_pay55 lanes)))) rowNos (k0_pay113 CST) (k0_pay114 CS)) (k0_pay126 XB (k0_pay53 DY) (k0_pay55 lanes)) rowNos (k0_pay127 CS)) (k0_pay136 lanes CS CST) (k0_pay138 (k0_pay126 XB (k0_pay53 DY) (k0_pay55 lanes)))
def sums1 : FVec Ideal S128x128 .bf16 := k0_pay240 lanes CS CST (k0_pay220 (k0_pay209 (k0_pay197 (k0_pay187 lanes CS CST (k0_pay175 lanes CST (k0_pay159 XB (k0_pay53 DY) (k0_pay55 lanes)) (k0_pay166 lanes CS CST XB (k0_pay53 DY) (k0_pay55 lanes)) rowNos (k0_pay168 CS)) (k0_pay180 XB (k0_pay53 DY) (k0_pay55 lanes))) (k0_pay189 lanes CS CST) (k0_pay191 (k0_pay180 XB (k0_pay53 DY) (k0_pay55 lanes)))) (k0_pay203 lanes CS CST) (k0_pay205 XB (k0_pay53 DY) (k0_pay55 lanes))) (k0_pay211 lanes CS CST) (k0_pay213 (k0_pay202 XB (k0_pay53 DY) (k0_pay55 lanes)))) (k0_pay225 XB (k0_pay53 DY) (k0_pay55 lanes)) (k0_pay226 lanes CS CST) (k0_pay228 XB (k0_pay53 DY) (k0_pay55 lanes))

/-- The point's block of the first array. -/
def dxBlock : Vec Ideal S128x1536 .f32 :=
  View.canon
    [⟨Rect.unit ![0, 0] ![128, 1024] inb_S128x1536_S128x1024_0_0, k0_pay254 DTX SK DY (dXdtRows CS CST TE DY T B C)⟩,
     ⟨Rect.unit ![0, 1408] ![128, 128] inb_S128x1536_S128x128_0_1408, k0_pay244 (k0_pay30 S) (k0_pay54 ECS DY) (k0_pay152 (grp1 B)) (sums1 CS CST XB DY)⟩,
     ⟨Rect.unit ![0, 1152] ![128, 128] inb_S128x1536_S128x128_0_1152, k0_pay245 XE (k0_pay31 T) (k0_pay154 (k0_pay153 (grp1 C))) (sums1 CS CST XB DY)⟩,
     ⟨Rect.unit ![0, 1280] ![128, 128] inb_S128x1536_S128x128_0_1280, k0_pay148 (k0_pay30 S) (k0_pay54 ECS DY) (k0_pay58 (grp0 B)) (k0_pay134 lanes CST (k0_pay121 lanes (k0_pay104 XB (k0_pay53 DY) (k0_pay55 lanes)) (k0_pay111 lanes CS CST XB (k0_pay53 DY) (k0_pay55 lanes) (k0_pay98 lanes CS CST (k0_pay80 (k0_pay71 k0_pay61 (k0_pay65 lanes XB DY) (k0_pay66 lanes CS CST)) (k0_pay73 lanes CS CST) (k0_pay75 (k0_pay65 lanes XB DY))) (k0_pay85 XB (k0_pay53 DY) (k0_pay55 lanes)) (k0_pay86 lanes CS CST) (k0_pay88 XB (k0_pay53 DY) (k0_pay55 lanes)))) rowNos (k0_pay113 CST) (k0_pay114 CS)) (k0_pay126 XB (k0_pay53 DY) (k0_pay55 lanes)) rowNos (k0_pay127 CS)) (k0_pay136 lanes CS CST) (k0_pay138 (k0_pay126 XB (k0_pay53 DY) (k0_pay55 lanes)))⟩,
     ⟨Rect.unit ![0, 1024] ![128, 128] inb_S128x1536_S128x128_0_1024, k0_pay149 XE (k0_pay31 T) (k0_pay59 (grp0 C)) (k0_pay134 lanes CST (k0_pay121 lanes (k0_pay104 XB (k0_pay53 DY) (k0_pay55 lanes)) (k0_pay111 lanes CS CST XB (k0_pay53 DY) (k0_pay55 lanes) (k0_pay98 lanes CS CST (k0_pay80 (k0_pay71 k0_pay61 (k0_pay65 lanes XB DY) (k0_pay66 lanes CS CST)) (k0_pay73 lanes CS CST) (k0_pay75 (k0_pay65 lanes XB DY))) (k0_pay85 XB (k0_pay53 DY) (k0_pay55 lanes)) (k0_pay86 lanes CS CST) (k0_pay88 XB (k0_pay53 DY) (k0_pay55 lanes)))) rowNos (k0_pay113 CST) (k0_pay114 CS)) (k0_pay126 XB (k0_pay53 DY) (k0_pay55 lanes)) rowNos (k0_pay127 CS)) (k0_pay136 lanes CS CST) (k0_pay138 (k0_pay126 XB (k0_pay53 DY) (k0_pay55 lanes)))⟩]

variable {CS CST DTX ECS TE XB XE DY SK KX S T B C} {P : Par} {K : Chunk} {g St Tt : Rows}
  (hcs : ∀ (l : Fin 128) (h : Fin 16), CS (ix2 l (ln h)) = cum P K l h) (hcst : ∀ (h : Fin 16) (l : Fin 128), CST (ix2 (ln h) l) = cum P K l h)
  (hdt : ∀ (l : Fin 128) (q : Fin 1024), DTX (ix2 l q) = dt P K l (head q))
  (hec : ∀ (l : Fin 128) (q : Fin 1024), ECS (ix2 l q) = Ideal.exp (cum P K l (head q)))
  (hte : ∀ (l : Fin 128) (q : Fin 1024), TE (ix2 l q) = toEnd P K l (head q))
  (hx : ∀ (l : Fin 128) (q : Fin 1024), XB (ix2 l q) = xdt P K l q)
  (hxe : ∀ (l : Fin 128) (q : Fin 1024), XE (ix2 l q) = xdt P K l q * toEnd P K l (head q))
  (hy : ∀ (l : Fin 128) (q : Fin 1024), DY (ix2 l q) = g l q)
  (hsk : ∀ q : Fin 1024, SK (ix2 (0 : Fin 1) q) = P.skip (head q)) (hkx : ∀ q : Fin 1024, KX (ix2 (0 : Fin 1) q) = keep P K (head q))
  (hS : ∀ (n : Fin 128) (q : Fin 1024), S (ix3 (0 : Fin 1) n q) = St n q) (hT : ∀ (n : Fin 128) (q : Fin 1024), T (ix2 n q) = Tt n q)
  (hB : ∀ l g n, B (ix2 l (gl g n)) = K.b l g n) (hC : ∀ l g n, C (ix2 l (gl g n)) = K.c l g n)

theorem grp0_apply {A : Vec Ideal S128x256 .f32} {f : Fin 128 → Fin 2 → Fin 128 → EReal} (h : ∀ l g n, A (ix2 l (gl g n)) = f l g n) (l n : Fin 128) :
    grp0 A (ix2 l n) = f l 0 n := (ld_group A 0 0 rfl _ l n).trans (h l 0 n)
theorem grp1_apply {A : Vec Ideal S128x256 .f32} {f : Fin 128 → Fin 2 → Fin 128 → EReal} (h : ∀ l g n, A (ix2 l (gl g n)) = f l g n) (l n : Fin 128) :
    grp1 A (ix2 l n) = f l 1 n := (ld_group A 1 128 rfl _ l n).trans (h l 1 n)

include hB hC in
theorem gram0_apply (l s : Fin 128) : gram0 B C (ix2 l s) = score K 0 l s := by
  have e : gram0 B C (ix2 l s) = @Finset.sum (Fin 128) EReal _ Finset.univ (fun n => grp0 C (ix2 l n) * grp0 B (ix2 s n)) := by
    pointwise [gram0, k0_pay60, k0_pay59, k0_pay58]
  rw [e, score]
  exact Finset.sum_congr (M := EReal) rfl fun n _ => congrArg₂ (· * ·) (grp0_apply hC l n) (grp0_apply hB s n)

include hB hC in
theorem gram1_apply (l s : Fin 128) : gram1 B C (ix2 l s) = score K 1 l s := by
  have e : gram1 B C (ix2 l s) = @Finset.sum (Fin 128) EReal _ Finset.univ (fun n => grp1 C (ix2 l n) * grp1 B (ix2 s n)) := by
    pointwise [gram1, k0_pay155, k0_pay154, k0_pay153, k0_pay152]
  rw [e, score]
  exact Finset.sum_congr (M := EReal) rfl fun n _ => congrArg₂ (· * ·) (grp1_apply hC l n) (grp1_apply hB s n)

include hy in
theorem narrow (l : Fin 128) (q : Fin 1024) : k0_pay53 DY (ix2 l q) = g l q := by
  rw [← hy]
  pointwise [k0_pay53]

include hec hy in
theorem dOff_apply (l : Fin 128) (q : Fin 1024) : k0_pay54 ECS DY (ix2 l q) = dOff P K g l q := by
  rw [dOff, ← hy, ← hec]
  pointwise [k0_pay54]

section Inside

include hcs hcst hy hB hC

theorem tilesLo_apply (l : Fin 128) (q : Fin 1024) (hq : q.val < 512) : View.canon (tilesLo CS CST DY B C) (ix2 l q) = inside P K g l q := by
  have hg := gram0_apply hB hC
  have hn := narrow hy
  refine four_apply (o := 0) rfl rfl rfl _ _ _ _ _ _ _ _ [] (inside P K g) ?_ ?_ ?_ ?_ l q (by omega) (by omega) <;> intro l q Q hQ
  · exact (cols3 hcs hcst hn hg l q).trans (congrArg (inside P K g l) (Fin.ext hQ.symm))
  · exact (cols2 hcs hcst hn hg l q).trans (congrArg (inside P K g l) (Fin.ext hQ.symm))
  · exact (cols1 hcs hcst hn hg l q).trans (congrArg (inside P K g l) (Fin.ext hQ.symm))
  · exact (cols0 hcs hcst hy hg l q).trans (congrArg (inside P K g l) (Fin.ext (by show q.val = Q.val; omega)))

theorem tilesHi_apply (l : Fin 128) (q : Fin 1024) (hq : 512 ≤ q.val) : View.canon (tilesHi CS CST TE DY T B C) (ix2 l q) = inside P K g l q := by
  have hg := gram1_apply hB hC
  have hn := narrow hy
  refine four_apply (o := 512) rfl rfl rfl _ _ _ _ _ _ _ _ _ (inside P K g) ?_ ?_ ?_ ?_ l q hq (by omega) <;> intro l q Q hQ
  · exact (cols7 hcs hcst hn hg l q).trans (congrArg (inside P K g l) (Fin.ext hQ.symm))
  · exact (cols6 hcs hcst hn hg l q).trans (congrArg (inside P K g l) (Fin.ext hQ.symm))
  · exact (cols5 hcs hcst hn hg l q).trans (congrArg (inside P K g l) (Fin.ext hQ.symm))
  · exact (cols4 hcs hcst hn hg l q).trans (congrArg (inside P K g l) (Fin.ext hQ.symm))

include hte hT

theorem halfLo_apply (l : Fin 128) (q : Fin 512) : halfLo CS CST TE DY T B C (ix2 l q) = dXdt P K Tt g l (halfLane 0 q) := by
  have e : ∀ V : Vec Ideal S128x512 .f32, k0_pay147 TE (k0_pay31 T) (k0_pay58 (grp0 B)) V (ix2 l q) = V (ix2 l q) + TE (ix2 l (⟨q.val, by omega⟩ : Fin 1024))
      * @Finset.sum (Fin 128) EReal _ Finset.univ (fun n => grp0 B (ix2 l n) * T (ix2 n (⟨q.val, by omega⟩ : Fin 1024))) := by
    intro V
    pointwise [k0_pay147, k0_pay146, k0_pay31, k0_pay58]
  have hQ : (⟨q.val, by omega⟩ : Fin 1024) = halfLane 0 q := Fin.ext (by show q.val = 512 * 0 + q.val; omega)
  have hG : group (halfLane 0 q) = 0 := Fin.ext (by show (512 * 0 + q.val) / 512 = 0; omega)
  rw [halfLo, e, hQ, View.readCov_eq_canon', dXdt, hG]
  refine congrArg₂ (· + ·) ?_ (congrArg₂ (· * ·) (hte _ _) (Finset.sum_congr (M := EReal) rfl fun n _ => congrArg₂ (· * ·) (grp0_apply hB l n) (hT n _)))
  show View.canon _ (_ : S128x1024.Idx) = _
  rw [idx_col _ l q (halfLane 0 q) (by show 512 * 0 + q.val = 0 + q.val; omega)]
  exact tilesLo_apply hcs hcst hy hB hC l _ (by show 512 * 0 + q.val < 512; omega)

theorem halfHi_apply (l : Fin 128) (q : Fin 512) : halfHi CS CST TE DY T B C (ix2 l q) = dXdt P K Tt g l (halfLane 1 q) := by
  have e : ∀ V : Vec Ideal S128x512 .f32, k0_pay243 TE (k0_pay152 (grp1 B)) (k0_pay241 (k0_pay31 T)) (constant S128x512 FTy.f32 0#32) V (ix2 l q)
      = V (ix2 l q) + TE (ix2 l (⟨512 + q.val, by omega⟩ : Fin 1024))
        * @Finset.sum (Fin 128) EReal _ Finset.univ (fun n => grp1 B (ix2 l n) * T (ix2 n (⟨512 + q.val, by omega⟩ : Fin 1024))) := by
    intro V
    pointwise [k0_pay243, k0_pay242, k0_pay241, k0_pay31, k0_pay152]
  have hQ : (⟨512 + q.val, by omega⟩ : Fin 1024) = halfLane 1 q := Fin.ext (by show 512 + q.val = 512 * 1 + q.val; omega)
  have hG : group (halfLane 1 q) = 1 := Fin.ext (by show (512 * 1 + q.val) / 512 = 1; omega)
  rw [halfHi, e, hQ, View.readCov_eq_canon', dXdt, hG]
  refine congrArg₂ (· + ·) ?_ (congrArg₂ (· * ·) (hte _ _) (Finset.sum_congr (M := EReal) rfl fun n _ => congrArg₂ (· * ·) (grp1_apply hB l n) (hT n _)))
  show View.canon _ (_ : S128x1024.Idx) = _
  rw [idx_col _ l q (halfLane 1 q) (by show 512 * 1 + q.val = 512 + q.val; omega)]
  exact tilesHi_apply hcs hcst hy hB hC l _ (by show 512 ≤ 512 * 1 + q.val; omega)

theorem dXdtRows_apply (l : Fin 128) (q : Fin 1024) : dXdtRows CS CST TE DY T B C (ix2 l q) = dXdt P K Tt g l q := by
  rw [dXdtRows, View.readCov_eq_canon']
  show View.canon _ (_ : S128x1024.Idx) = _
  rw [idx_col _ l q q (by omega)]
  by_cases h : q.val < 512
  · rw [canon_col_skip _ _ _ l q (by omega), tilesHi, canon_col_skip _ _ _ l q (by omega), canon_col_skip _ _ _ l q (by omega),
      canon_col_skip _ _ _ l q (by omega), canon_col_skip _ _ _ l q (by omega), canon_col _ _ _ l q ⟨q.val, h⟩ (by simp)]
    rw [halfLo_apply hcs hcst hte hy hT hB hC, show halfLane 0 ⟨q.val, h⟩ = q from Fin.ext (by show 512 * 0 + q.val = q.val; omega)]
  · rw [canon_col _ _ _ l q ⟨q.val - 512, by omega⟩ (by show _ = _ + (q.val - 512); omega)]
    rw [halfHi_apply hcs hcst hte hy hT hB hC, show halfLane 1 ⟨q.val - 512, by omega⟩ = q from Fin.ext (by show 512 * 1 + (q.val - 512) = q.val; omega)]

end Inside

include hcs hcst hx hy in
theorem sums0_apply (l s : Fin 128) : sums0 CS CST XB DY (ix2 l s) = dScore P K g 0 l s := scores0 hcs hcst hx (narrow hy) hy l s
include hcs hcst hx hy in
theorem sums1_apply (l s : Fin 128) : sums1 CS CST XB DY (ix2 l s) = dScore P K g 1 l s := scores1 hcs hcst hx (narrow hy) hy l s

include hcs hcst hdt hec hte hx hxe hy hsk hS hT hB hC

/-- The columns of the features. -/
theorem dx_cols (l : Fin 128) (q : Fin 1536) (hq : q.val < 1024) :
    dxBlock CS CST DTX ECS TE XB XE DY SK S T B C (ix2 l q) = dX P K Tt g l ⟨q.val, hq⟩ := by
  rw [dxBlock, wide_hit _ _ _ l q ⟨q.val, hq⟩ (by simp), dX, ← dXdtRows_apply hcs hcst hte hy hT hB hC, ← hdt, ← hsk, ← hy]
  pointwise [k0_pay254]

/-- The columns of the first projection of the state, then of the second. -/
theorem db_cols (l : Fin 128) (k : Fin 2) (n : Fin 128) (q : Fin 1536) (hq : q.val = 1024 + (128 * k.val + n.val)) :
    dxBlock CS CST DTX ECS TE XB XE DY SK S T B C (ix2 l q) = dB P K Tt g l k n := by
  rw [dxBlock, wide_skip _ _ _ l q (by omega), wide_skip _ _ _ l q (by omega)]
  match k, hq with
  | 0, hq =>
    have hq' : q.val = 1024 + n.val := by have : ((0 : Fin 2) : ℕ) = 0 := rfl; omega
    rw [wide_skip _ _ _ l q (by omega), wide_skip _ _ _ l q (by omega), wide_hit _ _ _ l q n hq', dB]
    refine Eq.trans (b := (@Finset.sum (Fin 128) EReal _ Finset.univ (fun x => sums0 CS CST XB DY (ix2 x l) * grp0 C (ix2 x n)))
      + @Finset.sum (Fin 512) EReal _ Finset.univ (fun j => XE (ix2 l (⟨j.val, by omega⟩ : Fin 1024)) * T (ix2 n (⟨j.val, by omega⟩ : Fin 1024)))) ?_ ?_
    · unfold sums0
      pointwise [k0_pay149, k0_pay59, k0_pay31]
    · refine congrArg₂ (· + ·) (Finset.sum_congr (M := EReal) rfl fun x _ => congrArg₂ (· * ·) (sums0_apply hcs hcst hx hy x l) (grp0_apply hC x n))
        (Finset.sum_congr (M := EReal) rfl fun j _ => ?_)
      rw [show (⟨j.val, by omega⟩ : Fin 1024) = halfLane 0 j from Fin.ext (by show j.val = 512 * 0 + j.val; omega), hxe, hT]
  | 1, hq =>
    have hq' : q.val = 1152 + n.val := by have : ((1 : Fin 2) : ℕ) = 1 := rfl; omega
    rw [wide_hit _ _ _ l q n hq', dB]
    refine Eq.trans (b := (@Finset.sum (Fin 128) EReal _ Finset.univ (fun x => sums1 CS CST XB DY (ix2 x l) * grp1 C (ix2 x n)))
      + @Finset.sum (Fin 512) EReal _ Finset.univ (fun j => XE (ix2 l (⟨512 + j.val, by omega⟩ : Fin 1024)) * T (ix2 n (⟨512 + j.val, by omega⟩ : Fin 1024)))) ?_ ?_
    · pointwise [k0_pay245, k0_pay154, k0_pay153, k0_pay31]
    · refine congrArg₂ (· + ·) (Finset.sum_congr (M := EReal) rfl fun x _ => congrArg₂ (· * ·) (sums1_apply hcs hcst hx hy x l) (grp1_apply hC x n))
        (Finset.sum_congr (M := EReal) rfl fun j _ => ?_)
      rw [show (⟨512 + j.val, by omega⟩ : Fin 1024) = halfLane 1 j from Fin.ext (by show 512 + j.val = 512 * 1 + j.val; omega), hxe, hT]

theorem dc_cols (l : Fin 128) (k : Fin 2) (n : Fin 128) (q : Fin 1536) (hq : q.val = 1280 + (128 * k.val + n.val)) :
    dxBlock CS CST DTX ECS TE XB XE DY SK S T B C (ix2 l q) = dC P K St g l k n := by
  rw [dxBlock, wide_skip _ _ _ l q (by omega)]
  match k, hq with
  | 0, hq =>
    have hq' : q.val = 1280 + n.val := by have : ((0 : Fin 2) : ℕ) = 0 := rfl; omega
    rw [wide_skip _ _ _ l q (by omega), wide_skip _ _ _ l q (by omega), wide_hit _ _ _ l q n hq', dC]
    refine Eq.trans (b := (@Finset.sum (Fin 128) EReal _ Finset.univ (fun x => sums0 CS CST XB DY (ix2 l x) * grp0 B (ix2 x n)))
      + @Finset.sum (Fin 512) EReal _ Finset.univ (fun j => k0_pay54 ECS DY (ix2 l (⟨j.val, by omega⟩ : Fin 1024)) * S (ix3 (0 : Fin 1) n (⟨j.val, by omega⟩ : Fin 1024)))) ?_ ?_
    · unfold sums0
      pointwise [k0_pay148, k0_pay58, k0_pay30, k0_pay29]
    · refine congrArg₂ (· + ·) (Finset.sum_congr (M := EReal) rfl fun x _ => congrArg₂ (· * ·) (sums0_apply hcs hcst hx hy l x) (grp0_apply hB x n))
        (Finset.sum_congr (M := EReal) rfl fun j _ => ?_)
      rw [show (⟨j.val, by omega⟩ : Fin 1024) = halfLane 0 j from Fin.ext (by show j.val = 512 * 0 + j.val; omega), dOff_apply hec hy, hS]
  | 1, hq =>
    have hq' : q.val = 1408 + n.val := by have : ((1 : Fin 2) : ℕ) = 1 := rfl; omega
    rw [wide_hit _ _ _ l q n hq', dC]
    refine Eq.trans (b := (@Finset.sum (Fin 128) EReal _ Finset.univ (fun x => sums1 CS CST XB DY (ix2 l x) * grp1 B (ix2 x n)))
      + @Finset.sum (Fin 512) EReal _ Finset.univ (fun j => k0_pay54 ECS DY (ix2 l (⟨512 + j.val, by omega⟩ : Fin 1024)) * S (ix3 (0 : Fin 1) n (⟨512 + j.val, by omega⟩ : Fin 1024)))) ?_ ?_
    · pointwise [k0_pay244, k0_pay152, k0_pay30, k0_pay29]
    · refine congrArg₂ (· + ·) (Finset.sum_congr (M := EReal) rfl fun x _ => congrArg₂ (· * ·) (sums1_apply hcs hcst hx hy l x) (grp1_apply hB x n))
        (Finset.sum_congr (M := EReal) rfl fun j _ => ?_)
      rw [show (⟨512 + j.val, by omega⟩ : Fin 1024) = halfLane 1 j from Fin.ext (by show 512 + j.val = 512 * 1 + j.val; omega), dOff_apply hec hy, hS]

omit hcs hcst hdt hte hx hxe hsk hS hB
include hkx

/-- The gradient at the state carried in, one half of the lanes and the other. -/
theorem beforeLo_apply (n : Fin 128) (q : Fin 512) :
    k0_pay150 KX T (k0_pay54 ECS DY) (k0_pay59 (grp0 C)) (ix2 n q) = before P K Tt g n (halfLane 0 q) := by
  have e : k0_pay150 KX T (k0_pay54 ECS DY) (k0_pay59 (grp0 C)) (ix2 n q) = T (ix2 n (⟨q.val, by omega⟩ : Fin 1024)) * KX (ix2 (0 : Fin 1) (⟨q.val, by omega⟩ : Fin 1024))
      + @Finset.sum (Fin 128) EReal _ Finset.univ (fun l => grp0 C (ix2 l n) * k0_pay54 ECS DY (ix2 l (⟨q.val, by omega⟩ : Fin 1024))) := by
    pointwise [k0_pay150, k0_pay59]
  rw [e, show (⟨q.val, by omega⟩ : Fin 1024) = halfLane 0 q from Fin.ext (by show q.val = 512 * 0 + q.val; omega), hT, hkx, before,
    show group (halfLane 0 q) = 0 from Fin.ext (by show (512 * 0 + q.val) / 512 = 0; omega)]
  exact congrArg _ (Finset.sum_congr (M := EReal) rfl fun l _ => congrArg₂ (· * ·) (grp0_apply hC l n) (dOff_apply hec hy l _))

theorem beforeHi_apply (n : Fin 128) (q : Fin 512) :
    k0_pay246 KX T (k0_pay54 ECS DY) (k0_pay154 (k0_pay153 (grp1 C))) (ix2 n q) = before P K Tt g n (halfLane 1 q) := by
  have e : k0_pay246 KX T (k0_pay54 ECS DY) (k0_pay154 (k0_pay153 (grp1 C))) (ix2 n q) = T (ix2 n (⟨512 + q.val, by omega⟩ : Fin 1024)) * KX (ix2 (0 : Fin 1) (⟨512 + q.val, by omega⟩ : Fin 1024))
      + @Finset.sum (Fin 128) EReal _ Finset.univ (fun l => grp1 C (ix2 l n) * k0_pay54 ECS DY (ix2 l (⟨512 + q.val, by omega⟩ : Fin 1024))) := by
    pointwise [k0_pay246, k0_pay154, k0_pay153]
  rw [e, show (⟨512 + q.val, by omega⟩ : Fin 1024) = halfLane 1 q from Fin.ext (by show 512 + q.val = 512 * 1 + q.val; omega), hT, hkx, before,
    show group (halfLane 1 q) = 1 from Fin.ext (by show (512 * 1 + q.val) / 512 = 1; omega)]
  exact congrArg _ (Finset.sum_congr (M := EReal) rfl fun l _ => congrArg₂ (· * ·) (grp1_apply hC l n) (dOff_apply hec hy l _))

end Pieces

end Cert.BwdKernelIdeal.Array
-- ==== Proof.BwdEntry.lean ====
/- The arrays the host code prepares for the state-space backward call, read at an index: the convolved features, the
   projection behind its padding, the cotangent beside zeros, the per-head parameters as rows, the matrix that spreads a
   head over its lanes, the triangle of ones, and the array whose columns of the gate the call fills. The lines before
   those, the forward pass's, are kept apart in three stretches. -/
module

public import proofs.«01_k».proof.Proof.Gen.BwdKernelIdeal.Value
public import proofs.«01_k».proof.Proof.SsdEntry
public import Idealize.ShloMosaic.Lib.Pipeline.ValueKit
public import Idealize.ShloMosaic.Lib.Pointwise

@[expose] public section

set_option maxRecDepth 16384

noncomputable section

namespace Cert.BwdKernelIdeal.Array

open Cert.BwdKernelIdeal Cert.BwdKernelIdeal.Gen Idealize.ShloMosaic Idealize.ShloMosaic.TcCoe Idealize.SL.Sem
open Cert.SsdKernelIdeal.Array (bit_one bit_zero heads heads_apply parOf par_bias par_log par_skip)

variable (m : (ℓ : Loc nD τ sig) → Buf (Elt Ideal) ℓ)

/-- The host line in stretches: up to the chunks' own products, to the scan's first state, the scan, the output and the
    states handed to the call, and what is prepared for the call besides. -/
abbrev headOps : List (HloOp τ sig (Elt Ideal)) :=
  hostOps0 ++ (hostOps0_1 ++ (hostOps0_2 ++ (hostOps0_3 ++ (hostOps0_4 ++ (hostOps0_5 ++ (hostOps0_6 ++ hostOps0_7))))))
abbrev freshOps : List (HloOp τ sig (Elt Ideal)) := hostOps0_8.take 30
abbrev scanOps : List (HloOp τ sig (Elt Ideal)) := (hostOps0_8.drop 30).take 131
abbrev outOps : List (HloOp τ sig (Elt Ideal)) := (hostOps0_8.drop 161).take 17
abbrev lastOps : List (HloOp τ sig (Elt Ideal)) := hostOps0_8.drop 178 ++ (hostOps0_9 ++ hostOps0_10)

def headV (c : Dev nD) : Valuation τ sig (Elt Ideal) := StableHlo.after headOps (fun b => m (c, b))
def freshV (c : Dev nD) : Valuation τ sig (Elt Ideal) := StableHlo.after freshOps (headV m c)
def scanV (c : Dev nD) : Valuation τ sig (Elt Ideal) := StableHlo.after scanOps (freshV m c)
def outV (c : Dev nD) : Valuation τ sig (Elt Ideal) := StableHlo.after outOps (scanV m c)

theorem V_last (c : Dev nD) (b : Ref sig .tc) : V m c b = StableHlo.after lastOps (outV m c) b := rfl

/-- The buffers the first four stretches write. -/
abbrev written : List (Ref sig .tc) := [main_v0, main_v1, main_v2, main_v3, main_v4, main_v5, main_v6, main_v7, main_v8, main_v9, main_v10, main_call0_cst,
  main_call0_v0, main_call0_v1, main_call0_v2, main_call0_v3, main_call0_v4, main_call0_v5, main_call0_v6, main_call0_v7, main_call0_v8, main_call0_v9, main_call0_v10, main_call0_v11,
  main_v11, main_v12, main_v13, main_v14, main_v15, main_v16, main_v17, main_v18, main_v19, main_v20, main_v21, main_v22,
  main_v23, main_v24, main_call1_call0_cst, main_call1_call0_v0, main_v25, main_c, main_v26, main_call2_v0, main_call2_c, main_call2_v1, main_call2_v2, main_call2_v3,
  main_call2_v4, main_call2_c_0, main_call2_v5, main_v27, main_v28, main_v29, main_v30, main_v31, main_v32, main_cst, main_call3_v0, main_call3_v1,
  main_call3_v2, main_v33, main_v34, main_v35, main_v36, main_v37, main_v38, main_v39, main_v40, main_v41, main_v42, main_v43,
  main_v44, main_v45, main_v46, main_v47, main_v48, main_v49, main_v50, main_v51, main_v52, main_v53, main_cst_0, main_v54,
  main_v55, main_v56, main_v57, main_v58, main_v59, main_v60, main_cst_1, main_v61, main_v62, main_v63, main_v64, main_v65,
  main_v66, main_v67, main_v68, main_v69, main_v70, main_v71, main_v72, main_v73, main_v74, main_v75, main_v76, main_v77,
  main_v78, main_v79, main_v80, main_v81, main_v82, main_v83, main_v84, main_v85, main_v86, main_v87, main_v88, main_v89,
  main_v90, main_v91, main_v92, main_v93, main_v94, main_v95, main_v96, main_v97, main_v98, main_v99, main_v100, main_v101,
  main_v102, main_v103, main_v104, main_v105, main_v106, main_v107, main_v108, main_v109, main_v110, main_v111, main_v112, main_v113,
  main_v114, main_v115, main_v116, main_v117, main_v118, main_v119, main_v120, main_v121, main_v122, main_v123, main_v124, main_v125,
  main_v126, main_v127, main_v128, main_v129, main_v130, main_v131, main_v132, main_v133, main_v134, main_v135, main_v136, main_v137,
  main_v138, main_v139, main_v140, main_v141, main_v142, main_v143, main_v144, main_v145, main_v146, main_v147, main_v148, main_v149,
  main_v150, main_v151, main_v152, main_v153, main_v154, main_v155, main_v156, main_v157, main_v158, main_v159, main_v160, main_v161,
  main_v162, main_v163, main_v164, main_v165, main_v166, main_v167, main_v168, main_v169, main_v170, main_v171, main_v172, main_v173,
  main_v174, main_v175, main_v176, main_v177, main_v178, main_v179, main_v180, main_v181, main_v182, main_v183, main_v184, main_v185,
  main_v186, main_v187, main_v188, main_v189, main_v190, main_v191, main_v192, main_v193, main_v194, main_v195, main_v196, main_v197,
  main_v198, main_v199, main_v200, main_v201, main_v202, main_v203, main_v204, main_v205, main_v206, main_v207, main_v208, main_v209]

theorem outV_flat (c : Dev nD) : outV m c = StableHlo.after (headOps ++ (freshOps ++ (scanOps ++ outOps))) (fun b => m (c, b)) := rfl

/-- They leave the arguments alone. -/
theorem outV_keep (c : Dev nD) (r : Ref sig .tc) (h : r ∉ written) : outV m c (Proc.devRef .tc r) = m (c, Proc.devRef .tc r) := by
  rw [outV_flat]
  exact StableHlo.after_of_writes_sub (W := written) _ _ (StableHlo.forall_writes_sub_of_map rfl) h

theorem outV_arg0 (c : Dev nD) : outV m c (Proc.devRef .tc main_arg0) = m (c, Proc.devRef .tc main_arg0) := outV_keep m c main_arg0 (by decide +kernel)
theorem outV_arg1 (c : Dev nD) : outV m c (Proc.devRef .tc main_arg1) = m (c, Proc.devRef .tc main_arg1) := outV_keep m c main_arg1 (by decide +kernel)
theorem outV_arg2 (c : Dev nD) : outV m c (Proc.devRef .tc main_arg2) = m (c, Proc.devRef .tc main_arg2) := outV_keep m c main_arg2 (by decide +kernel)
theorem outV_arg3 (c : Dev nD) : outV m c (Proc.devRef .tc main_arg3) = m (c, Proc.devRef .tc main_arg3) := outV_keep m c main_arg3 (by decide +kernel)
theorem outV_arg4 (c : Dev nD) : outV m c (Proc.devRef .tc main_arg4) = m (c, Proc.devRef .tc main_arg4) := outV_keep m c main_arg4 (by decide +kernel)
theorem outV_arg5 (c : Dev nD) : outV m c (Proc.devRef .tc main_arg5) = m (c, Proc.devRef .tc main_arg5) := outV_keep m c main_arg5 (by decide +kernel)
theorem outV_arg6 (c : Dev nD) : outV m c (Proc.devRef .tc main_arg6) = m (c, Proc.devRef .tc main_arg6) := outV_keep m c main_arg6 (by decide +kernel)
theorem outV_arg7 (c : Dev nD) : outV m c (Proc.devRef .tc main_arg7) = m (c, Proc.devRef .tc main_arg7) := outV_keep m c main_arg7 (by decide +kernel)

/-- The comparison matrix: one where the row is at or past the column. -/
theorem tri_apply (c : Dev nD) (l s : Fin 128) :
    (V m c main_v245 : Vec Ideal S128x128 .f32) (ix2 l s) = if s.val ≤ l.val then (1 : EReal) else 0 := by
  rw [V_last]
  simp only [lastOps, hostOps0_8, hostOps0_9, hostOps0_10, List.drop_succ_cons, List.drop_zero, List.cons_append, List.nil_append]
  entry_read
  pointwise
  by_cases h : s.val ≤ l.val
  · rw [if_pos h, (WordCmp.cmpi_sge_ofNat_eq_one_iff (by omega) (by omega)).2 h]; exact bit_one
  · rw [if_neg h]
    rw [show IntOp.cmpi .sge (BitVec.ofNat 32 l.val) (BitVec.ofNat 32 s.val) = 0#1 from by
      rw [WordCmp.cmpi_sge_ofNat (by omega) (by omega), decide_eq_false h]; rfl]
    exact bit_zero

/-- The expansion matrix: one where the row is the lane's head. -/
theorem expand_apply (c : Dev nD) (h : Fin 128) (q : Fin 1024) :
    (V m c main_v237 : Vec Ideal S128x1024 .bf16) (ix2 h q) = if h.val = q.val / 64 then (1 : EReal) else 0 := by
  rw [V_last]
  simp only [lastOps, hostOps0_8, hostOps0_9, hostOps0_10, List.drop_succ_cons, List.drop_zero, List.cons_append, List.nil_append]
  entry_read
  show (uitofp .bf16 (cmpi .eq (broadcastInDim S128x1024 ![0, 1] bcast_S128x1_S128x1024_0_1 (broadcastInDim S128x1 ![0] bcast_S128_S128x1_0 (iotaInDim S128 32 0)))
    (broadcastInDim S128x1024 ![0, 1] bcast_S1x1024_S128x1024_0_1 (broadcastInDim S1x1024 ![1] bcast_S1024_S1x1024_1 heads))) : FVec Ideal S128x1024 .bf16) (ix2 h q) = _
  pointwise
  rw [heads_apply]
  by_cases hq : h.val = q.val / 64
  · rw [if_pos hq, hq, WordCmp.cmpi_eq_ofNat (by omega) (by omega), decide_eq_true rfl]; exact bit_one
  · rw [if_neg hq]
    rw [WordCmp.cmpi_eq_ofNat (by omega) (by omega), decide_eq_false hq]; exact bit_zero

/-- The projection's rows with zero columns behind them. -/
theorem proj_apply (c : Dev nD) (r : Fin 4096) (j : Fin 5760) (hj : j.val < 5648) :
    (V m c main_v213 : Vec Ideal S4096x5760 .bf16) (ix2 r j) =
      (m (c, Proc.tc.devRef main_arg1) : Vec Ideal S2x2048x5648 .f32) (ix3 (⟨r.val / 2048, by omega⟩ : Fin 2) (⟨r.val % 2048, by omega⟩ : Fin 2048) (⟨j.val, hj⟩ : Fin 5648)) := by
  rw [V_last]
  simp only [lastOps, hostOps0_8, hostOps0_9, hostOps0_10, List.drop_succ_cons, List.drop_zero, List.cons_append, List.nil_append]
  entry_read
  rw [outV_arg1]
  pointwise
  rw [dif_pos hj]

/-- The cotangent's rows behind zero columns. -/
theorem ct_apply (c : Dev nD) (r : Fin 4096) (j : Fin 1024) :
    (V m c main_v217 : Vec Ideal S4096x2048 .bf16) (ix2 r (⟨1024 + j.val, by omega⟩ : Fin 2048)) =
      (m (c, Proc.tc.devRef main_arg6) : Vec Ideal S2x2048x1024 .f32) (ix3 (⟨r.val / 2048, by omega⟩ : Fin 2) (⟨r.val % 2048, by omega⟩ : Fin 2048) j) := by
  rw [V_last]
  simp only [lastOps, hostOps0_8, hostOps0_9, hostOps0_10, List.drop_succ_cons, List.drop_zero, List.cons_append, List.nil_append]
  entry_read
  rw [outV_arg6]
  pointwise

set_option maxHeartbeats 2000000 in
theorem par_eq (c : Dev nD) :
    (V m c main_v225 : Vec Ideal S8x128 .f32) = parOf (m (c, Proc.tc.devRef main_arg2)) (m (c, Proc.tc.devRef main_arg3)) (m (c, Proc.tc.devRef main_arg4)) := by
  rw [V_last, ← outV_arg2 m c, ← outV_arg3 m c, ← outV_arg4 m c]
  generalize outV m c = V0
  with_unfolding_all rfl

theorem xbc_apply (c : Dev nD) (r : Fin 4096) (j : Fin 1536) :
    (V m c main_v226 : Vec Ideal S4096x1536 .f32) (ix2 r j) =
      (m (c, Proc.tc.devRef main_arg0) : Vec Ideal S2x2048x1536 .f32) (ix3 (⟨r.val / 2048, by omega⟩ : Fin 2) (⟨r.val % 2048, by omega⟩ : Fin 2048) j) := by
  rw [V_last]
  simp only [lastOps, hostOps0_8, hostOps0_9, hostOps0_10, List.drop_succ_cons, List.drop_zero, List.cons_append, List.nil_append]
  entry_read
  rw [outV_arg0]
  pointwise
theorem gain_apply (c : Dev nD) (j : Fin 1024) :
    (V m c main_v227 : Vec Ideal S1x1024 .f32) (ix2 (0 : Fin 1) j) = (m (c, Proc.tc.devRef main_arg5) : Vec Ideal S1024 .f32) (ix1 j) := by
  rw [V_last]
  simp only [lastOps, hostOps0_8, hostOps0_9, hostOps0_10, List.drop_succ_cons, List.drop_zero, List.cons_append, List.nil_append]
  entry_read
  rw [outV_arg5]
  pointwise
theorem rest_apply (c : Dev nD) (r : Fin 4096) (j : Fin 5760) :
    (V m c main_v246_1 : Vec Ideal S4096x5760 .bf16) (ix2 r j) = (m (c, Proc.tc.devRef main_arg7) : Vec Ideal S4096x5760 .f32) (ix2 r j) := by
  rw [V_last]
  simp only [lastOps, hostOps0_8, hostOps0_9, hostOps0_10, List.drop_succ_cons, List.drop_zero, List.cons_append, List.nil_append]
  entry_read
  rw [outV_arg7]
  pointwise

/-- The output's rows and the states are what the third stretch leaves. -/
theorem saved_out (c : Dev nD) (r : Fin 4096) (q : Fin 1024) :
    (V m c main_v207 : Vec Ideal S4096x1024 .f32) (ix2 r q) = (outV m c (Proc.devRef .tc main_v207) : Vec Ideal S4096x1024 .f32) (ix2 r q) := by
  rw [V_last]
  simp only [lastOps, hostOps0_8, hostOps0_9, hostOps0_10, List.drop_succ_cons, List.drop_zero, List.cons_append, List.nil_append]
  entry_read
  rfl
theorem saved_states (c : Dev nD) (k : Fin 32) (n : Fin 128) (q : Fin 1024) :
    (V m c main_v209 : Vec Ideal S32x128x1024 .f32) (ix3 k n q) = (outV m c (Proc.devRef .tc main_v209) : Vec Ideal S32x128x1024 .f32) (ix3 k n q) := by
  rw [V_last]
  simp only [lastOps, hostOps0_8, hostOps0_9, hostOps0_10, List.drop_succ_cons, List.drop_zero, List.cons_append, List.nil_append]
  entry_read
  rfl

end Cert.BwdKernelIdeal.Array
-- ==== Proof.BwdArray.lean ====
/- From the blocks of the state-space backward call to what its points leave: what each window's block holds of the arrays, the
   chunk a point works on, and its blocks of the gradients. -/
module

public import proofs.«01_k».proof.Proof.BwdPoint
public import proofs.«01_k».proof.Proof.BwdEntry
public import proofs.«01_k».proof.Proof.SsdArray
public import Idealize.ShloMosaic.Lib.Pipeline.ValueKit

@[expose] public section

set_option maxRecDepth 16384

noncomputable section

namespace SsdMath

/-! ### A row of chunks: the output, its gradient, and the gradient handed from chunk to chunk -/

variable (P : Par) (Ks : ℕ → Chunk) (ct : ℕ → Rows)

def outRows (k : ℕ) : Rows := out P (Ks k) (carry P Ks k)
def outGrad (k : ℕ) : Rows := dOut P (Ks k) (outRows P Ks k) (ct k)
def handed (k : ℕ) : Rows := back P Ks (outGrad P Ks ct) (15 - k)

/-- A row of the gradient at the convolved features: features, then the two projections of the state. -/
def gradRow (k : ℕ) (l : Fin 128) (q : Fin 1536) : EReal :=
  if h : q.val < 1024 then dX P (Ks k) (handed P Ks ct k) (outGrad P Ks ct k) l ⟨q.val, h⟩
  else if q.val < 1280 then
    dB P (Ks k) (handed P Ks ct k) (outGrad P Ks ct k) l ⟨(q.val - 1024) / 128 % 2, by omega⟩ ⟨(q.val - 1024) % 128, by omega⟩
  else dC P (Ks k) (carry P Ks k) (outGrad P Ks ct k) l ⟨(q.val - 1280) / 128 % 2, by omega⟩ ⟨(q.val - 1280) % 128, by omega⟩

end SsdMath

namespace Cert.BwdKernelIdeal.Array

open Cert.BwdKernelIdeal Cert.BwdKernelIdeal.Gen Idealize.ShloMosaic Idealize.ShloMosaic.TcCoe Idealize.SL.Sem SsdMath
open Idealize.ShloMosaic.Pipeline (Dat)
open Cert.SsdKernelIdeal.Array (Reads ln gl chunk params row_eq halves_apply par_bias par_log par_skip)

variable (m : (ℓ : Loc nD τ sig) → Buf (Elt Ideal) ℓ)

/-! ### What the blocks hold of the arrays -/

/-- Features. -/
theorem x_block (c : Dev nD) (t : Fin cfg0.N) (l : Fin 128) (q : Fin 1024) (r : Fin 4096) (hr : r.val = 128 * (t.val / 16 * 16 + (15 - t.val % 16)) + l.val) :
    X0_0 m c t (ix2 l q) = (V m c main_v226 : Vec Ideal S4096x1536 .f32) (ix2 r (⟨q.val, by omega⟩ : Fin 1536)) := by
  have hi : ∀ t : Fin cfg0.N, win0_0.index t = ![(t.val / 16 * 16 + (15 - t.val % 16)), 0] := (by decide +kernel : ∀ t : Fin grid0.N, win0_0.index t = ![(t.val / 16 * 16 + (15 - t.val % 16)), 0])
  unfold X0_0 Pipeline.Window.fill
  rw [dif_pos (moved0_0 t _)]
  show iblk m c 0 t _ = _
  blk_simp [iblk, hi t]
  blk_ext [hi t]

/-- First projection of the state. -/
theorem b_block (c : Dev nD) (t : Fin cfg0.N) (l : Fin 128) (q : Fin 256) (r : Fin 4096) (hr : r.val = 128 * (t.val / 16 * 16 + (15 - t.val % 16)) + l.val) :
    (iblk m c 1 t : Vec Ideal S128x256 .f32) (ix2 l q) = (V m c main_v226 : Vec Ideal S4096x1536 .f32) (ix2 r (⟨1024 + q.val, by omega⟩ : Fin 1536)) := by
  have hi : ∀ t : Fin cfg0.N, win0_1.index t = ![(t.val / 16 * 16 + (15 - t.val % 16)), 4] := (by decide +kernel : ∀ t : Fin grid0.N, win0_1.index t = ![(t.val / 16 * 16 + (15 - t.val % 16)), 4])
  blk_simp [iblk, hi t]
  blk_ext [hi t]

/-- Second projection of the state. -/
theorem c_block (c : Dev nD) (t : Fin cfg0.N) (l : Fin 128) (q : Fin 256) (r : Fin 4096) (hr : r.val = 128 * (t.val / 16 * 16 + (15 - t.val % 16)) + l.val) :
    (iblk m c 2 t : Vec Ideal S128x256 .f32) (ix2 l q) = (V m c main_v226 : Vec Ideal S4096x1536 .f32) (ix2 r (⟨1280 + q.val, by omega⟩ : Fin 1536)) := by
  have hi : ∀ t : Fin cfg0.N, win0_2.index t = ![(t.val / 16 * 16 + (15 - t.val % 16)), 5] := (by decide +kernel : ∀ t : Fin grid0.N, win0_2.index t = ![(t.val / 16 * 16 + (15 - t.val % 16)), 5])
  blk_simp [iblk, hi t]
  blk_ext [hi t]

/-- Raw step sizes. -/
theorem d_block (c : Dev nD) (t : Fin cfg0.N) (l : Fin 128) (q : Fin 128) (r : Fin 4096) (hr : r.val = 128 * (t.val / 16 * 16 + (15 - t.val % 16)) + l.val) :
    (iblk m c 3 t : Vec Ideal S128x128 .bf16) (ix2 l q) = (V m c main_v213 : Vec Ideal S4096x5760 .bf16) (ix2 r (⟨5632 + q.val, by omega⟩ : Fin 5760)) := by
  have hi : ∀ t : Fin cfg0.N, win0_3.index t = ![(t.val / 16 * 16 + (15 - t.val % 16)), 44] := (by decide +kernel : ∀ t : Fin grid0.N, win0_3.index t = ![(t.val / 16 * 16 + (15 - t.val % 16)), 44])
  blk_simp [iblk, hi t]
  blk_ext [hi t]

/-- The gate's argument. -/
theorem z_block (c : Dev nD) (t : Fin cfg0.N) (l : Fin 128) (q : Fin 1024) (r : Fin 4096) (hr : r.val = 128 * (t.val / 16 * 16 + (15 - t.val % 16)) + l.val) :
    X0_4 m c t (ix2 l q) = (V m c main_v213 : Vec Ideal S4096x5760 .bf16) (ix2 r (⟨3072 + q.val, by omega⟩ : Fin 5760)) := by
  have hi : ∀ t : Fin cfg0.N, win0_4.index t = ![(t.val / 16 * 16 + (15 - t.val % 16)), 3] := (by decide +kernel : ∀ t : Fin grid0.N, win0_4.index t = ![(t.val / 16 * 16 + (15 - t.val % 16)), 3])
  unfold X0_4 Pipeline.Window.fill
  rw [dif_pos (moved0_4 t _)]
  show iblk m c 4 t _ = _
  blk_simp [iblk, hi t]
  blk_ext [hi t]

/-- The scan's output. -/
theorem y_block (c : Dev nD) (t : Fin cfg0.N) (l : Fin 128) (q : Fin 1024) (r : Fin 4096) (hr : r.val = 128 * (t.val / 16 * 16 + (15 - t.val % 16)) + l.val) :
    (iblk m c 5 t : Vec Ideal S128x1024 .f32) (ix2 l q) = (V m c main_v207 : Vec Ideal S4096x1024 .f32) (ix2 r q) := by
  have hi : ∀ t : Fin cfg0.N, win0_5.index t = ![(t.val / 16 * 16 + (15 - t.val % 16)), 0] := (by decide +kernel : ∀ t : Fin grid0.N, win0_5.index t = ![(t.val / 16 * 16 + (15 - t.val % 16)), 0])
  blk_simp [iblk, hi t]
  blk_ext [hi t]

/-- The state carried in. -/
theorem s_block (c : Dev nD) (t : Fin cfg0.N) (n : Fin 128) (q : Fin 1024) (k : Fin 32) (hk : k.val = (t.val / 16 * 16 + (15 - t.val % 16))) :
    (iblk m c 6 t : Vec Ideal S1x128x1024 .f32) (ix3 (0 : Fin 1) n q) = (V m c main_v209 : Vec Ideal S32x128x1024 .f32) (ix3 k n q) := by
  have hi : ∀ t : Fin cfg0.N, win0_6.index t = ![(t.val / 16 * 16 + (15 - t.val % 16)), 0, 0] := (by decide +kernel : ∀ t : Fin grid0.N, win0_6.index t = ![(t.val / 16 * 16 + (15 - t.val % 16)), 0, 0])
  blk_simp [iblk, hi t]
  blk_ext [hi t]

/-- The cotangent. -/
theorem u_block (c : Dev nD) (t : Fin cfg0.N) (l : Fin 128) (q : Fin 1024) (r : Fin 4096) (hr : r.val = 128 * (t.val / 16 * 16 + (15 - t.val % 16)) + l.val) :
    (iblk m c 7 t : Vec Ideal S128x1024 .bf16) (ix2 l q) = (V m c main_v217 : Vec Ideal S4096x2048 .bf16) (ix2 r (⟨1024 + q.val, by omega⟩ : Fin 2048)) := by
  have hi : ∀ t : Fin cfg0.N, win0_7.index t = ![(t.val / 16 * 16 + (15 - t.val % 16)), 1] := (by decide +kernel : ∀ t : Fin grid0.N, win0_7.index t = ![(t.val / 16 * 16 + (15 - t.val % 16)), 1])
  blk_simp [iblk, hi t]
  blk_ext [hi t]

/-- The parameters. -/
theorem par_block (c : Dev nD) (t : Fin cfg0.N) (l : Fin 8) (q : Fin 128) :
    (iblk m c 8 t : Vec Ideal S8x128 .f32) (ix2 l q) = (V m c main_v225 : Vec Ideal S8x128 .f32) (ix2 l q) := by
  have hi : ∀ t : Fin cfg0.N, win0_8.index t = ![0, 0] := (by decide +kernel : ∀ t : Fin grid0.N, win0_8.index t = ![0, 0])
  blk_simp [iblk, hi t]
  blk_ext [hi t]

/-- The expansion matrix. -/
theorem expand_block (c : Dev nD) (t : Fin cfg0.N) (l : Fin 128) (q : Fin 1024) :
    (iblk m c 9 t : Vec Ideal S128x1024 .bf16) (ix2 l q) = (V m c main_v237 : Vec Ideal S128x1024 .bf16) (ix2 l q) := by
  have hi : ∀ t : Fin cfg0.N, win0_9.index t = ![0, 0] := (by decide +kernel : ∀ t : Fin grid0.N, win0_9.index t = ![0, 0])
  blk_simp [iblk, hi t]
  blk_ext [hi t]

/-- The comparison matrix. -/
theorem tri_block (c : Dev nD) (t : Fin cfg0.N) (l : Fin 128) (q : Fin 128) :
    (iblk m c 10 t : Vec Ideal S128x128 .f32) (ix2 l q) = (V m c main_v245 : Vec Ideal S128x128 .f32) (ix2 l q) := by
  have hi : ∀ t : Fin cfg0.N, win0_10.index t = ![0, 0] := (by decide +kernel : ∀ t : Fin grid0.N, win0_10.index t = ![0, 0])
  blk_simp [iblk, hi t]
  blk_ext [hi t]

/-- The gain. -/
theorem gain_block (c : Dev nD) (t : Fin cfg0.N) (l : Fin 1) (q : Fin 1024) :
    (iblk m c 11 t : Vec Ideal S1x1024 .f32) (ix2 l q) = (V m c main_v227 : Vec Ideal S1x1024 .f32) (ix2 l q) := by
  have hi : ∀ t : Fin cfg0.N, win0_11.index t = ![0, 0] := (by decide +kernel : ∀ t : Fin grid0.N, win0_11.index t = ![0, 0])
  blk_simp [iblk, hi t]
  blk_ext [hi t]

/-! ### The chunk a point works on -/

/-- The device's chunks, parameters and cotangent. -/
def chunkAt (c : Dev nD) (b : Fin 2) (k : ℕ) : Chunk := chunk (m (c, Proc.tc.devRef main_arg0)) (m (c, Proc.tc.devRef main_arg1)) b k
def parAt (c : Dev nD) : Par :=
  params (m (c, Proc.tc.devRef main_arg2)) (m (c, Proc.tc.devRef main_arg3)) (m (c, Proc.tc.devRef main_arg4)) (m (c, Proc.tc.devRef main_arg5))
def cotangent (u : Vec Ideal S2x2048x1024 .f32) (b : Fin 2) (k : ℕ) : Rows := fun l q => u (ix3 b (⟨(128 * k + l.val) % 2048, by omega⟩ : Fin 2048) q)
def ctAt (c : Dev nD) (b : Fin 2) (k : ℕ) : Rows := cotangent (m (c, Proc.tc.devRef main_arg6)) b k

/-- The chunk of a point within its batch: the last one first. -/
abbrev pos (n : ℕ) : ℕ := 15 - n % 16

/-- What the forward lines left for the call: the scan's output and the states carried into the chunks. -/
structure Saved : Prop where
  out : ∀ (c : Dev nD) (b : Fin 2) (k : ℕ) (l : Fin 128) (q : Fin 1024) (r : Fin 4096), k < 16 → r.val = 2048 * b.val + (128 * k + l.val) →
    (V m c main_v207 : Vec Ideal S4096x1024 .f32) (ix2 r q) = outRows (parAt m c) (chunkAt m c b) k l q
  state : ∀ (c : Dev nD) (b : Fin 2) (k : ℕ) (n : Fin 128) (q : Fin 1024) (j : Fin 32), k < 16 → j.val = 16 * b.val + k →
    (V m c main_v209 : Vec Ideal S32x128x1024 .f32) (ix3 j n q) = carry (parAt m c) (chunkAt m c b) k n q

/-- The blocks of a point are those of its chunk. -/
theorem reads (c : Dev nD) (t : Fin cfg0.N) (b : Fin 2) (hb : b.val = t.val / 16) :
    Reads (parAt m c) (chunkAt m c b (pos t.val)) (iblk m c 8 t) (iblk m c 3 t) (iblk m c 9 t) (iblk m c 10 t) (X0_0 m c t) (iblk m c 1 t) (iblk m c 2 t)
      (X0_4 m c t) (iblk m c 11 t) := by
  have ht := lt_of_lt_of_eq t.isLt N_0
  have hr : ∀ l : Fin 128, 128 * (t.val / 16 * 16 + (15 - t.val % 16)) + l.val < 4096 := fun l => by omega
  have hrow : ∀ {A : Type} (f : Fin 2 → Fin 2048 → A) (l : Fin 128) (h1) (h2),
      f ⟨(128 * (t.val / 16 * 16 + (15 - t.val % 16)) + l.val) / 2048, h1⟩ ⟨(128 * (t.val / 16 * 16 + (15 - t.val % 16)) + l.val) % 2048, h2⟩
        = f b ⟨(128 * pos t.val + l.val) % 2048, by omega⟩ := by
    intro A f l h1 h2
    have e1 : (⟨(128 * (t.val / 16 * 16 + (15 - t.val % 16)) + l.val) / 2048, h1⟩ : Fin 2) = b := Fin.ext (by dsimp only; omega)
    rw [e1]
    exact congrArg (f b) (Fin.ext (by show _ % 2048 = (128 * (15 - t.val % 16) + l.val) % 2048; omega))
  exact
  { bias := fun h => (par_block m c t 0 (ln h)).trans (by rw [par_eq]; exact par_bias _ _ _ h)
    alog := fun h => (par_block m c t 1 (ln h)).trans (by rw [par_eq]; exact par_log _ _ _ h)
    skip := fun h => (par_block m c t 2 (ln h)).trans (by rw [par_eq]; exact par_skip _ _ _ h)
    gain := fun q => (gain_block m c t 0 q).trans (gain_apply m c q)
    d := fun l h => ((d_block m c t l (ln h) ⟨_, hr l⟩ rfl).trans (proj_apply m c _ _ (by show 5632 + h.val < 5648; omega))).trans
      (hrow (fun b r => m (c, Proc.tc.devRef main_arg1) (ix3 b r _)) l _ _)
    ex := fun k q => (expand_block m c t k q).trans (expand_apply m c k q)
    tri := fun l s => (tri_block m c t l s).trans (tri_apply m c l s)
    x := fun l q => ((x_block m c t l q ⟨_, hr l⟩ rfl).trans (xbc_apply m c _ _)).trans
      (hrow (fun b r => m (c, Proc.tc.devRef main_arg0) (ix3 b r _)) l _ _)
    b := fun l g n => ((b_block m c t l (gl g n) ⟨_, hr l⟩ rfl).trans (xbc_apply m c _ _)).trans
      (hrow (fun b r => m (c, Proc.tc.devRef main_arg0) (ix3 b r _)) l _ _)
    c := fun l g n => ((c_block m c t l (gl g n) ⟨_, hr l⟩ rfl).trans (xbc_apply m c _ _)).trans
      (hrow (fun b r => m (c, Proc.tc.devRef main_arg0) (ix3 b r _)) l _ _)
    z := fun l q => ((z_block m c t l q ⟨_, hr l⟩ rfl).trans (proj_apply m c _ _ (by show 3072 + q.val < 5648; omega))).trans
      (hrow (fun b r => m (c, Proc.tc.devRef main_arg1) (ix3 b r _)) l _ _) }

theorem u_read (c : Dev nD) (t : Fin cfg0.N) (b : Fin 2) (hb : b.val = t.val / 16) (l : Fin 128) (q : Fin 1024) :
    (iblk m c 7 t : Vec Ideal S128x1024 .bf16) (ix2 l q) = ctAt m c b (pos t.val) l q := by
  have ht := lt_of_lt_of_eq t.isLt N_0
  have hr : 128 * (t.val / 16 * 16 + (15 - t.val % 16)) + l.val < 4096 := by omega
  rw [u_block m c t l q ⟨_, hr⟩ rfl, ct_apply]
  show (m (c, Proc.tc.devRef main_arg6) : Vec Ideal S2x2048x1024 .f32) _ = (m (c, Proc.tc.devRef main_arg6) : Vec Ideal S2x2048x1024 .f32) _
  congr 2
  · exact Fin.ext (by show _ / 2048 = b.val; dsimp only; omega)
  · exact Fin.ext (by show _ % 2048 = (128 * (15 - t.val % 16) + l.val) % 2048; dsimp only; omega)

theorem y_read {m} (H : Saved m) (c : Dev nD) (t : Fin cfg0.N) (b : Fin 2) (hb : b.val = t.val / 16) (l : Fin 128) (q : Fin 1024) :
    (iblk m c 5 t : Vec Ideal S128x1024 .f32) (ix2 l q) = outRows (parAt m c) (chunkAt m c b) (pos t.val) l q := by
  have ht := lt_of_lt_of_eq t.isLt N_0
  have hr : 128 * (t.val / 16 * 16 + (15 - t.val % 16)) + l.val < 4096 := by omega
  rw [y_block m c t l q ⟨_, hr⟩ rfl]
  exact H.out c b (pos t.val) l q _ (by show 15 - t.val % 16 < 16; omega) (by show _ = 2048 * b.val + (128 * (15 - t.val % 16) + l.val); dsimp only; omega)

theorem s_read {m} (H : Saved m) (c : Dev nD) (t : Fin cfg0.N) (b : Fin 2) (hb : b.val = t.val / 16) (n : Fin 128) (q : Fin 1024) :
    (iblk m c 6 t : Vec Ideal S1x128x1024 .f32) (ix3 (0 : Fin 1) n q) = carry (parAt m c) (chunkAt m c b) (pos t.val) n q := by
  have ht := lt_of_lt_of_eq t.isLt N_0
  have hr : t.val / 16 * 16 + (15 - t.val % 16) < 32 := by omega
  rw [s_block m c t n q ⟨_, hr⟩ rfl]
  exact H.state c b (pos t.val) n q _ (by show 15 - t.val % 16 < 16; omega) (by show _ = 16 * b.val + (15 - t.val % 16); dsimp only; omega)

/-! ### What a point leaves, from the blocks it reads -/

/-- The gradient a point starts from: zeros at the last chunk of a batch, what the point before left otherwise. -/
def gradIn (c : Dev nD) (t : Fin cfg0.N) : Vec Ideal S128x1024 .f32 :=
  if t.val % 16 = 0 then (k0_pay3 (F := Ideal)) else (outsAt0 m c (t.val - 1) (Nat.lt_of_le_of_lt (Nat.sub_le _ _) t.isLt)).2.2.2.2.2

/-- The gradient at the scan's output, from the blocks. -/
abbrev dyOf (c : Dev nD) (t : Fin cfg0.N) : FVec Ideal S128x1024 .f32 :=
  k0_pay50 (k0_pay34 (iblk m c 11 t)) (k0_pay36 (X0_4 m c t)) (k0_pay37 (iblk m c 5 t) (X0_4 m c t)) (k0_pay38 (iblk m c 5 t) (X0_4 m c t)) (k0_pay39 (iblk m c 11 t))
    (k0_pay40 (lo (iblk m c 7 t))) (k0_pay41 (iblk m c 5 t) (X0_4 m c t)) (FloatOps.ofBits FTy.f32 0x358637BD#32) (hi (iblk m c 7 t))

theorem dx_block (c : Dev nD) (t : Fin cfg0.N) : (outsAt0 m c t.val t.isLt).1 =
    dxBlock (k0_pay12 (k0_pay6 (iblk m c 8 t)) (k0_pay8 (iblk m c 8 t) (iblk m c 3 t)) k0_pay9 k0_pay10 (iblk m c 10 t))
      (k0_pay19 (k0_pay6 (iblk m c 8 t)) (k0_pay8 (iblk m c 8 t) (iblk m c 3 t)) k0_pay9 k0_pay10 (iblk m c 10 t))
      (k0_pay20 (k0_pay8 (iblk m c 8 t) (iblk m c 3 t)) k0_pay9 k0_pay10 (iblk m c 9 t))
      (k0_pay22 (k0_pay6 (iblk m c 8 t)) (k0_pay8 (iblk m c 8 t) (iblk m c 3 t)) k0_pay9 k0_pay10 (iblk m c 10 t) (iblk m c 9 t))
      (k0_pay21 (k0_pay6 (iblk m c 8 t)) (k0_pay8 (iblk m c 8 t) (iblk m c 3 t)) k0_pay9 k0_pay10 (iblk m c 10 t) (iblk m c 9 t))
      (k0_pay27 (k0_pay20 (k0_pay8 (iblk m c 8 t) (iblk m c 3 t)) k0_pay9 k0_pay10 (iblk m c 9 t)) (X0_0 m c t))
      (k0_pay28 (k0_pay20 (k0_pay8 (iblk m c 8 t) (iblk m c 3 t)) k0_pay9 k0_pay10 (iblk m c 9 t))
        (k0_pay21 (k0_pay6 (iblk m c 8 t)) (k0_pay8 (iblk m c 8 t) (iblk m c 3 t)) k0_pay9 k0_pay10 (iblk m c 10 t) (iblk m c 9 t)) (X0_0 m c t))
      (dyOf m c t)
      (k0_pay24 (k0_pay18 (k0_pay5 (iblk m c 8 t)) (k0_pay6 (iblk m c 8 t)) (k0_pay8 (iblk m c 8 t) (iblk m c 3 t)) k0_pay9 k0_pay10 (iblk m c 10 t) (iblk m c 9 t)))
      (iblk m c 6 t) (gradIn m c t) (iblk m c 1 t) (iblk m c 2 t) := by
  have ht := lt_of_lt_of_eq t.isLt N_0
  by_cases h : t.val % 16 = 0
  · rw [gradIn, if_pos h]
    by_cases h1 : t.val % 32 = 0
    · rw [outsAt0_A m c t h h1 (by omega) h1 (by omega)]
      frame_out
      rfl
    · rw [outsAt0_C m c t h h1 (by omega) h1 (by omega)]
      frame_out
      rfl
  · rw [gradIn, if_neg h, outsAt0_B m c t h (by omega) (by omega) (by omega) (by omega)]
    frame_out
    simp only [read_unread_whole]
    rfl

theorem dz_block (c : Dev nD) (t : Fin cfg0.N) : (outsAt0 m c t.val t.isLt).2.1 =
    k0_pay52 (k0_pay33 (X0_4 m c t)) (k0_pay35 (X0_4 m c t)) (k0_pay51 (k0_pay32 (iblk m c 5 t)) (k0_pay34 (iblk m c 11 t)) (k0_pay37 (iblk m c 5 t) (X0_4 m c t))
      (k0_pay38 (iblk m c 5 t) (X0_4 m c t)) (k0_pay39 (iblk m c 11 t)) (k0_pay40 (lo (iblk m c 7 t))) (k0_pay41 (iblk m c 5 t) (X0_4 m c t))
      (FloatOps.ofBits FTy.f32 0x358637BD#32) (hi (iblk m c 7 t))) (FloatOps.ofBits FTy.f32 0x3F800000#32) := by
  have ht := lt_of_lt_of_eq t.isLt N_0
  by_cases h : t.val % 16 = 0
  · by_cases h1 : t.val % 32 = 0
    · rw [outsAt0_A m c t h h1 (by omega) h1 (by omega)]
      frame_out
      try rfl
    · rw [outsAt0_C m c t h h1 (by omega) h1 (by omega)]
      frame_out
      try rfl
  · rw [outsAt0_B m c t h (by omega) (by omega) (by omega) (by omega)]
    frame_out
    try rfl

/-- The rows of the gain's gradient, from the blocks. -/
abbrev gainOf (c : Dev nD) (t : Fin cfg0.N) : FVec Ideal S128x1024 .f32 :=
  k0_pay49 (k0_pay37 (iblk m c 5 t) (X0_4 m c t)) (k0_pay38 (iblk m c 5 t) (X0_4 m c t)) (k0_pay40 (lo (iblk m c 7 t))) (k0_pay41 (iblk m c 5 t) (X0_4 m c t))
    (FloatOps.ofBits FTy.f32 0x358637BD#32) (hi (iblk m c 7 t))

theorem dgs_first (c : Dev nD) (t : Fin cfg0.N) (h : t.val % 32 = 0) :
    (outsAt0 m c t.val t.isLt).2.2.2.2.1 = k0_pay1 (gainOf m c t) := by
  have ht := lt_of_lt_of_eq t.isLt N_0
  rw [outsAt0_A m c t (by omega) h (by omega) h (by omega)]
  frame_out

theorem dgs_later (c : Dev nD) (t : Fin cfg0.N) (h : ¬ t.val % 32 = 0) :
    (outsAt0 m c t.val t.isLt).2.2.2.2.1
      = k0_pay2 (gainOf m c t) (outsAt0 m c (t.val - 1) (Nat.lt_of_le_of_lt (Nat.sub_le _ _) t.isLt)).2.2.2.2.1 := by
  have ht := lt_of_lt_of_eq t.isLt N_0
  by_cases h0 : t.val % 16 = 0
  · rw [outsAt0_C m c t h0 h (by omega) h (by omega)]
    frame_out
  · rw [outsAt0_B m c t h0 h (by omega) h (by omega)]
    frame_out

section Point

variable {m} (H : Saved m) (c : Dev nD) (t : Fin cfg0.N) (b : Fin 2) (hb : b.val = t.val / 16)

include H hb

theorem dy_apply (l : Fin 128) (q : Fin 1024) : dyOf m c t (ix2 l q) = outGrad (parAt m c) (chunkAt m c b) (ctAt m c b) (pos t.val) l q :=
  dOut_apply (y_read H c t b hb) (reads m c t b hb).z (u_read m c t b hb) (reads m c t b hb).gain l q

theorem dz_apply (l : Fin 128) (q : Fin 1024) : ((outsAt0 m c t.val t.isLt).2.1 : Vec Ideal S128x1024 .bf16) (ix2 l q)
    = dGate (parAt m c) (chunkAt m c b (pos t.val)) (outRows (parAt m c) (chunkAt m c b) (pos t.val)) (ctAt m c b (pos t.val)) l q := by
  rw [dz_block]
  exact dGate_apply (y_read H c t b hb) (reads m c t b hb).z (u_read m c t b hb) (reads m c t b hb).gain l q

theorem gainRows_apply (l : Fin 128) (q : Fin 1024) : gainOf m c t (ix2 l q)
    = dGain (chunkAt m c b (pos t.val)) (outRows (parAt m c) (chunkAt m c b) (pos t.val)) (ctAt m c b (pos t.val)) l q :=
  dGain_apply (y_read H c t b hb) (reads m c t b hb).z (u_read m c t b hb) (reads m c t b hb).gain l q

/-- The gradient the point leaves for the chunk before, from the one it starts from. -/
theorem before_block {T : Rows} (hT : ∀ (n : Fin 128) (q : Fin 1024), gradIn m c t (ix2 n q) = T n q) (n : Fin 128) (q : Fin 1024) :
    ((outsAt0 m c t.val t.isLt).2.2.2.2.2 : Vec Ideal S128x1024 .f32) (ix2 n q)
      = before (parAt m c) (chunkAt m c b (pos t.val)) T (outGrad (parAt m c) (chunkAt m c b) (ctAt m c b) (pos t.val)) n q := by
  have ht := lt_of_lt_of_eq t.isLt N_0
  have R := reads m c t b hb
  have hlo := beforeLo_apply (ecs_apply R) (dy_apply H c t b hb) (keepx_apply R) hT R.c
  have hhi := beforeHi_apply (ecs_apply R) (dy_apply H c t b hb) (keepx_apply R) hT R.c
  by_cases h : t.val % 16 = 0
  · rw [gradIn, if_pos h] at hlo hhi
    by_cases h1 : t.val % 32 = 0
    · rw [outsAt0_A m c t h h1 (by omega) h1 (by omega)]
      frame_out
      exact halves_apply _ _ _ _ _ (before (parAt m c) (chunkAt m c b (pos t.val)) T _) hhi hlo n q
    · rw [outsAt0_C m c t h h1 (by omega) h1 (by omega)]
      frame_out
      exact halves_apply _ _ _ _ _ (before (parAt m c) (chunkAt m c b (pos t.val)) T _) hhi hlo n q
  · rw [gradIn, if_neg h] at hlo hhi
    rw [outsAt0_B m c t h (by omega) (by omega) (by omega) (by omega)]
    frame_out
    simp only [read_unread_whole]
    exact halves_apply _ _ _ _ _ (before (parAt m c) (chunkAt m c b (pos t.val)) T _) hhi hlo n q

end Point

theorem zeros_apply (n : Fin 128) (q : Fin 1024) : (k0_pay3 (F := Ideal)) (ix2 n q) = (0 : EReal) := by
  pointwise [k0_pay3]

/-- A point starts from the gradient its batch's later chunks hand on. -/
theorem gradIn_apply {m} (H : Saved m) (c : Dev nD) (j : ℕ) : ∀ (t : Fin cfg0.N) (b : Fin 2), b.val = t.val / 16 → t.val % 16 = j → ∀ (n : Fin 128) (q : Fin 1024),
    gradIn m c t (ix2 n q) = back (parAt m c) (chunkAt m c b) (outGrad (parAt m c) (chunkAt m c b) (ctAt m c b)) j n q := by
  induction j with
  | zero =>
    intro t b hb hk n q
    rw [gradIn, if_pos hk, back]
    exact zeros_apply n q
  | succ j ih =>
    intro t b hb hk n q
    have ht := t.isLt
    have hp := before_block H c (⟨t.val - 1, by omega⟩ : Fin cfg0.N) b (by show b.val = (t.val - 1) / 16; omega)
      (ih ⟨t.val - 1, by omega⟩ b (by show b.val = (t.val - 1) / 16; omega) (by show (t.val - 1) % 16 = j; omega)) n q
    rw [gradIn, if_neg (by omega), back]
    rw [show pos (t.val - 1) = 15 - j by show 15 - (t.val - 1) % 16 = 15 - j; omega] at hp
    exact hp

/-- A row of the point's block of the first gradient. -/
theorem dx_apply {m} (H : Saved m) (hs : ∀ (c : Dev nD) q, ∃ r : ℝ, (parAt m c).skip (head q) = (r : EReal)) (c : Dev nD) (t : Fin cfg0.N) (b : Fin 2)
    (hb : b.val = t.val / 16) (l : Fin 128) (q : Fin 1536) :
    ((outsAt0 m c t.val t.isLt).1 : Vec Ideal S128x1536 .f32) (ix2 l q) = gradRow (parAt m c) (chunkAt m c b) (ctAt m c b) (pos t.val) l q := by
  have R := reads m c t b hb
  have hT : ∀ (n : Fin 128) (q : Fin 1024), gradIn m c t (ix2 n q) = handed (parAt m c) (chunkAt m c b) (ctAt m c b) (pos t.val) n q := fun n q => by
    rw [gradIn_apply H c _ t b hb rfl, handed, show 15 - pos t.val = t.val % 16 by show 15 - (15 - t.val % 16) = _; omega]
  have hy := dy_apply H c t b hb
  have hsk : ∀ q : Fin 1024, k0_pay24 (k0_pay18 (k0_pay5 (iblk m c 8 t)) (k0_pay6 (iblk m c 8 t)) (k0_pay8 (iblk m c 8 t) (iblk m c 3 t)) k0_pay9 k0_pay10
      (iblk m c 10 t) (iblk m c 9 t)) (ix2 (0 : Fin 1) q) = (parAt m c).skip (head q) := fun q => skipx_apply R q (hs c q)
  rw [dx_block, gradRow]
  by_cases h : q.val < 1024
  · rw [dif_pos h]
    exact dx_cols (cum_apply R) (cumT_apply R) (dtx_apply R) (ecs_apply R) (toEnd_apply R) (xdt_apply R) (xdte_apply R) hy hsk (s_read H c t b hb) hT R.b R.c l q h
  · rw [dif_neg h]
    by_cases h2 : q.val < 1280
    · rw [if_pos h2]
      exact db_cols (cum_apply R) (cumT_apply R) (dtx_apply R) (ecs_apply R) (toEnd_apply R) (xdt_apply R) (xdte_apply R) hy hsk (s_read H c t b hb) hT R.b R.c l
        ⟨(q.val - 1024) / 128 % 2, by omega⟩ ⟨(q.val - 1024) % 128, by omega⟩ q (by dsimp only; omega)
    · rw [if_neg h2]
      exact dc_cols (cum_apply R) (cumT_apply R) (dtx_apply R) (ecs_apply R) (toEnd_apply R) (xdt_apply R) (xdte_apply R) hy hsk (s_read H c t b hb) hT R.b R.c l
        ⟨(q.val - 1280) / 128 % 2, by omega⟩ ⟨(q.val - 1280) % 128, by omega⟩ q (by dsimp only; omega)

end Cert.BwdKernelIdeal.Array
-- ==== Proof.BwdArrays.lean ====
/- The arrays the state-space backward call leaves: each point's block of the first two, and the gain's gradient summed over
   the points. -/
module

public import proofs.«01_k».proof.Proof.BwdArray
public import proofs.«01_k».proof.Proof.ERealSums

@[expose] public section

set_option maxRecDepth 16384

noncomputable section

namespace Cert.BwdKernelIdeal.Array

open Cert.BwdKernelIdeal Cert.BwdKernelIdeal.Gen Idealize.ShloMosaic Idealize.ShloMosaic.TcCoe Idealize.SL.Sem SsdMath
open Idealize.ShloMosaic.Pipeline (Dat)

variable {m : (ℓ : Loc nD τ sig) → Buf (Elt Ideal) ℓ} (H : Saved m)

/-- The batch, the chunk and the place in it of a row. -/
abbrev rb (r : Fin 4096) : Fin 2 := ⟨r.val / 2048, by omega⟩
abbrev rk (r : Fin 4096) : ℕ := r.val / 128 % 16
abbrev rl (r : Fin 4096) : Fin 128 := ⟨r.val % 128, by omega⟩

/-- A row of a point's block in the array. -/
abbrev rowOf (t : Fin 32) (p : Fin 128) : Fin 4096 := ⟨128 * (t.val / 16 * 16 + (15 - t.val % 16)) + p.val, by omega⟩

/-- What a point writes at a row is what the row's chunk holds. -/
theorem at_row {A : Type} (f : Fin 2 → ℕ → Fin 128 → A) (t : Fin 32) (p : Fin 128) :
    f (rb (rowOf t p)) (rk (rowOf t p)) (rl (rowOf t p)) = f ⟨t.val / 16, by omega⟩ (pos t.val) p := by
  have h1 : rb (rowOf t p) = ⟨t.val / 16, by omega⟩ := Fin.ext (by show (128 * (t.val / 16 * 16 + (15 - t.val % 16)) + p.val) / 2048 = t.val / 16; omega)
  have h2 : rk (rowOf t p) = pos t.val := by show (128 * (t.val / 16 * 16 + (15 - t.val % 16)) + p.val) / 128 % 16 = 15 - t.val % 16; omega
  have h3 : rl (rowOf t p) = p := Fin.ext (by show (128 * (t.val / 16 * 16 + (15 - t.val % 16)) + p.val) % 128 = p.val; omega)
  rw [h1, h2, h3]

variable (m) in
/-- The gradient at the convolved features, as an array. -/
def dxWhole (c : Dev nD) : Vec Ideal S4096x1536 .f32 := fun i => gradRow (parAt m c) (chunkAt m c (rb (i 0))) (ctAt m c (rb (i 0))) (rk (i 0)) (rl (i 0)) (i 1)

variable (m) in
/-- The gradient at the gate's argument, row by row. -/
def dzRow (c : Dev nD) (r : Fin 4096) (q : Fin 1024) : EReal :=
  dGate (parAt m c) (chunkAt m c (rb r) (rk r)) (outRows (parAt m c) (chunkAt m c (rb r)) (rk r)) (ctAt m c (rb r) (rk r)) (rl r) q

variable (m) in
/-- The array whose columns of the gate the call fills. -/
def dprojWhole (c : Dev nD) : Vec Ideal S4096x5760 .bf16 := fun i =>
  if h : 3072 ≤ (i 1).val ∧ (i 1).val < 4096 then dzRow m c (i 0) ⟨(i 1).val - 3072, by omega⟩
  else (m (c, Proc.tc.devRef main_arg7) : Vec Ideal S4096x5760 .f32) (ix2 (i 0) (i 1))

variable (m) in
/-- One row's share of the gain's gradient. -/
def gainRow (c : Dev nD) (r : Fin 4096) (q : Fin 1024) : EReal :=
  dGain (chunkAt m c (rb r) (rk r)) (outRows (parAt m c) (chunkAt m c (rb r)) (rk r)) (ctAt m c (rb r) (rk r)) (rl r) q

include H in
theorem dx_array (hs : ∀ (c : Dev nD) q, ∃ r : ℝ, (parAt m c).skip (head q) = (r : EReal)) (c : Dev nD) :
    (dats m 0 c).arrAt 12 cfg0.N = dxWhole m c := by
  refine (dats m 0 c).arrAt_eq_of_covers 12 _ (by decide +kernel) fun t hf y => ?_
  have ht := lt_of_lt_of_eq t.isLt N_0
  have hi : ∀ t : Fin cfg0.N, win0_12.index t = ![(t.val / 16 * 16 + (15 - t.val % 16)), 0] := (by decide +kernel : ∀ t : Fin grid0.N, win0_12.index t = ![(t.val / 16 * 16 + (15 - t.val % 16)), 0])
  blk_simp
  rw [after0_12]
  obtain ⟨p, q, rfl⟩ : ∃ (p : Fin 128) (q : Fin 1536), y = ix2 p q := ⟨y 0, y 1, by funext a; match a with | ⟨0, _⟩ => rfl | ⟨1, _⟩ => rfl⟩
  rw [show (win0_12.blk t).view.emb (ix2 p q) = ix2 (rowOf ⟨t.val, ht⟩ p) q by blk_ext [hi t]]
  refine (dx_apply H hs c t ⟨t.val / 16, by omega⟩ rfl p q).trans ?_
  exact (at_row (fun b k l => gradRow (parAt m c) (chunkAt m c b) (ctAt m c b) k l q) ⟨t.val, ht⟩ p).symm

/-- The gate's columns among the array's. -/
theorem dz_index (t : Fin cfg0.N) : win0_13.index t = ![(t.val / 16 * 16 + (15 - t.val % 16)), 3] :=
  (by decide +kernel : ∀ t : Fin grid0.N, win0_13.index t = ![(t.val / 16 * 16 + (15 - t.val % 16)), 3]) t

theorem dz_emb (t : Fin cfg0.N) (ht : t.val < 32) (y : (win0_13.xblock (grid0.coords t)).Idx) (p : Fin 128) (q : Fin 1024) (hq : 3072 + q.val < 5760)
    (hp : p.val = (y (0 : Fin 2)).val) (hq' : q.val = (y (1 : Fin 2)).val) :
    (win0_13.blk t).view.emb y = ix2 (rowOf ⟨t.val, ht⟩ p) ⟨3072 + q.val, hq⟩ := by
  have h0 := win0_13.rect_emb_val t y (0 : Fin 2)
  have h1 := win0_13.rect_emb_val t y (1 : Fin 2)
  rw [dz_index t] at h0 h1
  rw [← hp] at h0
  rw [← hq'] at h1
  funext a
  apply Fin.ext
  match a with
  | ⟨0, _⟩ =>
    refine h0.trans ?_
    show (t.val / 16 * 16 + (15 - t.val % 16)) * 128 + p.val = 128 * (t.val / 16 * 16 + (15 - t.val % 16)) + p.val
    omega
  | ⟨1, _⟩ => exact h1

theorem dz_place (t : Fin cfg0.N) (y : (win0_13.xblock (grid0.coords t)).Idx) (p : Fin 128) (q : Fin 1024)
    (hp : p.val = (y (0 : Fin 2)).val) (hq' : q.val = (y (1 : Fin 2)).val) : win0_13.xinj (grid0.coords t) y = (ix2 p q : S128x1024.Idx) := by
  funext a
  apply Fin.ext
  match a with
  | ⟨0, _⟩ => exact hp.symm
  | ⟨1, _⟩ => exact hq'.symm

include H in
theorem dz_point (c : Dev nD) (t : Fin cfg0.N) (ht : t.val < 32) (p : Fin 128) (q : Fin 1024) (hq : 3072 + q.val < 5760) :
    ((outsAt0 m c t.val t.isLt).2.1 : Vec Ideal S128x1024 .bf16) (ix2 p q) = dprojWhole m c (ix2 (rowOf ⟨t.val, ht⟩ p) ⟨3072 + q.val, hq⟩) := by
  refine (dz_apply H c t ⟨t.val / 16, by omega⟩ rfl p q).trans ?_
  refine Eq.symm ((dif_pos (show 3072 ≤ 3072 + q.val ∧ 3072 + q.val < 4096 by omega)).trans ?_)
  have e : (⟨3072 + q.val - 3072, by omega⟩ : Fin 1024) = q := Fin.ext (by show 3072 + q.val - 3072 = q.val; omega)
  refine (congrArg (dzRow m c (rowOf ⟨t.val, ht⟩ p)) e).trans ?_
  exact at_row (fun b k l => dGate (parAt m c) (chunkAt m c b k) (outRows (parAt m c) (chunkAt m c b) k) (ctAt m c b k) l q) ⟨t.val, ht⟩ p

include H in
theorem dz_written (c : Dev nD) : (dats m 0 c).arrAt 13 cfg0.N
    = fun i => if (i 1 : ℕ) / 1024 = 3 then dprojWhole m c i else (V m c main_v246_1 : Vec Ideal S4096x5760 .bf16) i := by
  refine (dats m 0 c).arrAt_eq_of_coversWhere 13 _ (fun β => β (1 : Fin _) = 3) (by decide +kernel) (fun t hf y => ?_) (fun j => Iff.rfl)
  have ht := lt_of_lt_of_eq t.isLt N_0
  obtain ⟨p, hp⟩ : ∃ p : Fin 128, p.val = (y (0 : Fin 2)).val := ⟨win0_13.xinj (grid0.coords t) y (0 : Fin 2), rfl⟩
  obtain ⟨q, hq'⟩ : ∃ q : Fin 1024, q.val = (y (1 : Fin 2)).val := ⟨win0_13.xinj (grid0.coords t) y (1 : Fin 2), rfl⟩
  have hq : 3072 + q.val < 5760 := by omega
  rw [after0_13, dz_emb t ht y p q hq hp hq']
  refine (cast_eq _ _).trans ?_
  exact (congrArg ((outsAt0 m c t.val t.isLt).2.1 : Vec Ideal S128x1024 .bf16) (dz_place t y p q hp hq')).trans (dz_point H c t ht p q hq)

include H in
theorem dz_array (c : Dev nD) : (dats m 0 c).arrAt 13 cfg0.N = dprojWhole m c := by
  refine (dz_written H c).trans ?_
  funext i
  obtain ⟨r, j, rfl⟩ : ∃ (r : Fin 4096) (j : Fin 5760), i = ix2 r j := ⟨i 0, i 1, by funext a; match a with | ⟨0, _⟩ => rfl | ⟨1, _⟩ => rfl⟩
  show (if j.val / 1024 = 3 then dprojWhole m c (ix2 r j) else (V m c main_v246_1 : Vec Ideal S4096x5760 .bf16) (ix2 r j)) = dprojWhole m c (ix2 r j)
  by_cases h : j.val / 1024 = 3
  · rw [if_pos h]
  · rw [if_neg h, rest_apply m c r j]
    show _ = if h : 3072 ≤ j.val ∧ j.val < 4096 then dzRow m c r ⟨j.val - 3072, by omega⟩ else (m (c, Proc.tc.devRef main_arg7) : Vec Ideal S4096x5760 .f32) (ix2 r j)
    rw [dif_neg (show ¬ (3072 ≤ j.val ∧ j.val < 4096) by omega)]

/-! ### The gain's gradient -/

/-- A block's rows summed. -/
theorem rows_apply (v : FVec Ideal S128x1024 .f32) (q : Fin 1024) : k0_pay1 v (ix2 (0 : Fin 1) q) = ∑ p : Fin 128, v (ix2 p q) := by
  pointwise [k0_pay1]

theorem rows_later (v : FVec Ideal S128x1024 .f32) (w : Vec Ideal S1x1024 .f32) (q : Fin 1024) :
    k0_pay2 v w (ix2 (0 : Fin 1) q) = w (ix2 (0 : Fin 1) q) + k0_pay1 v (ix2 (0 : Fin 1) q) := by
  unfold k0_pay2
  rw [shapeCast_self]
  rfl

/-- The point at which a batch's chunk stands, and back. -/
def turn (t : Fin 32) : Fin 32 := ⟨t.val / 16 * 16 + (15 - t.val % 16), by omega⟩
theorem turn_turn : Function.Involutive turn := fun t => Fin.ext (by
  show (t.val / 16 * 16 + (15 - t.val % 16)) / 16 * 16 + (15 - (t.val / 16 * 16 + (15 - t.val % 16)) % 16) = t.val
  omega)

variable (m) in
def gainWhole (c : Dev nD) : Vec Ideal S1x1024 .f32 := fun i => @Finset.sum (Fin 4096) EReal _ Finset.univ fun r => gainRow m c r (i 1)

/-- Rows summed point by point, in whichever order the points come. -/
theorem turn_sum (f : Fin 4096 → EReal) : ∑ t : Fin 32, ∑ p : Fin 128, f (rowOf t p) = ∑ r : Fin 4096, f r := by
  refine Eq.trans ?_ ((Equiv.sum_comp turn_turn.toPerm (fun t : Fin 32 => ∑ p : Fin 128, f ⟨128 * t.val + p.val, by omega⟩)).trans ?_)
  · rfl
  · exact Fin.sum_mul_add_congr (L := 4096) fun t p h => congrArg f (Fin.ext (by show 128 * t.val + p.val = t.val * 128 + p.val; omega))

include H in
theorem gain_block_sum (c : Dev nD) (t : Fin 32) (h : t.val < cfg0.N) (q : Fin 1024) :
    k0_pay1 (gainOf m c ⟨t.val, h⟩) (ix2 (0 : Fin 1) q) = ∑ p : Fin 128, gainRow m c (rowOf t p) q := by
  rw [rows_apply]
  refine Finset.sum_congr rfl fun p _ => ?_
  refine (gainRows_apply H c ⟨t.val, h⟩ ⟨t.val / 16, by omega⟩ rfl p q).trans ?_
  exact (at_row (fun b k l => dGain (chunkAt m c b k) (outRows (parAt m c) (chunkAt m c b) k) (ctAt m c b k) l q) t p).symm

include H in
theorem dgs_array (c : Dev nD) : (dats m 0 c).arrAt 16 cfg0.N = gainWhole m c := by
  have hN : cfg0.N = 32 := N_0
  refine (dats m 0 c).arrAt_eq_of_covers 16 _ (by decide +kernel) fun t hf y => ?_
  have ht := lt_of_lt_of_eq t.isLt hN
  have h3 : t.val = 31 := by
    have := (flush0_16 t).mp hf
    omega
  have hi : ∀ t : Fin cfg0.N, win0_16.index t = ![0, 0] := (by decide +kernel : ∀ t : Fin grid0.N, win0_16.index t = ![0, 0])
  blk_simp
  obtain ⟨p, q, rfl⟩ : ∃ (p : Fin 1) (q : Fin 1024), y = ix2 p q := ⟨y 0, y 1, by funext a; match a with | ⟨0, _⟩ => rfl | ⟨1, _⟩ => rfl⟩
  obtain rfl : p = 0 := Subsingleton.elim _ _
  rw [after0_16, show (win0_16.blk t).view.emb (ix2 0 q) = ix2 0 q by blk_ext [hi t]]
  refine (Pipeline.eq_sum_fin_of_reset_step_apply_last (M := EReal) (fun n h (q : Fin 1024) => ((outsAt0 m c n h).2.2.2.2.1 : Vec Ideal S1x1024 .f32) (ix2 (0 : Fin 1) q))
      32 (fun _ => 0) (fun t q => (k0_pay1 (gainOf m c t)) (ix2 (0 : Fin 1) q))
      (fun t h q => by
        rw [zero_add]
        exact congrFun (dgs_first m c t h) _)
      (fun t h q => (congrFun (dgs_later m c t h) _).trans (rows_later _ _ q))
      (le_of_eq hN) t (by omega) q).trans ?_
  refine (zero_add _).trans ?_
  refine Eq.trans ?_ (turn_sum fun r => gainRow m c r q)
  refine (Equiv.sum_comp (finCongr hN.symm) _).symm.trans ?_
  exact Finset.sum_congr rfl fun t _ => gain_block_sum H c t _ q

end Cert.BwdKernelIdeal.Array

end
-- ==== Proof.BwdStages.lean ====
/- The forward lines of the derivative's reference, stage by stage: step sizes, decays, the states carried from chunk to chunk
   and the scan's output are those of the chunks. -/
module

public import proofs.«01_k».proof.Proof.SsdEquation
public import proofs.«01_k».proof.Proof.BwdMath
public import proofs.«01_k».proof.Proof.Gen.BwdRefIdeal.Read
public import Idealize.ShloMosaic.Lib.Pipeline.ValueKit

@[expose] public section

set_option maxRecDepth 16384

noncomputable section

namespace Cert.BwdRefIdeal.Equation

open Cert.BwdRefIdeal Cert.BwdRefIdeal.Read Cert.BwdRefIdeal.Gen Idealize.ShloMosaic Idealize.ShloMosaic.TcCoe Idealize.SL.Sem SsdMath
open Cert.SsdKernelIdeal.Array (chunk params zero_word bot_word)
open Cert.SsdRefIdeal.Equation (hd lane seq head_lane group_lane Kc Pc lane_of seq_row chunk_x chunk_z mask_eq)

variable (x0 : Vec Ideal ⟨3, ![2, 2048, 1536]⟩ .f32) (x1 : Vec Ideal ⟨3, ![2, 2048, 5648]⟩ .f32) (x2 x3 x4 : Vec Ideal ⟨1, ![16]⟩ .f32)
  (x5 : Vec Ideal ⟨1, ![1024]⟩ .f32) (x6 : Vec Ideal ⟨3, ![2, 2048, 1024]⟩ .f32)

/-! ### What the forward layer computes the same way -/

theorem dt_eq (b : Fin 2) (k : Fin 16) (l : Fin 128) (h : Fin 16) :
    val_main_v11 (F := Ideal) x1 x2 (ix3 b (seq k l) h) = dt (Pc x2 x3 x4 x5) (Kc x0 x1 b k) l h :=
  (congrFun (show val_main_v11 (F := Ideal) x1 x2 = Cert.SsdRefIdeal.Read.val_main_v11 x1 x2 from rfl) _).trans (Cert.SsdRefIdeal.Equation.dt_eq x0 x1 x2 x3 x4 x5 b k l h)

theorem cum_eq (b : Fin 2) (k : Fin 16) (g : Fin 2) (e : Fin 8) (l : Fin 128) :
    val_main_v25 (F := Ideal) x1 x2 x3 (ix5 b k g e l) = cum (Pc x2 x3 x4 x5) (Kc x0 x1 b k) l (hd g e) :=
  (congrFun (show val_main_v25 (F := Ideal) x1 x2 x3 = Cert.SsdRefIdeal.Read.val_main_v25 x1 x2 x3 from rfl) _).trans (Cert.SsdRefIdeal.Equation.cum_eq x0 x1 x2 x3 x4 x5 b k g e l)

theorem xdt_eq (b : Fin 2) (k : Fin 16) (l : Fin 128) (g : Fin 2) (e : Fin 8) (p : Fin 64) :
    val_main_v17 (F := Ideal) x0 x1 x2 (ix6 b k l g e p) = xdt (Pc x2 x3 x4 x5) (Kc x0 x1 b k) l (lane g e p) :=
  (congrFun (show val_main_v17 (F := Ideal) x0 x1 x2 = Cert.SsdRefIdeal.Read.val_main_v17 x0 x1 x2 from rfl) _).trans (Cert.SsdRefIdeal.Equation.xdt_eq x0 x1 x2 x3 x4 x5 b k l g e p)

theorem b_eq (b : Fin 2) (k : Fin 16) (l : Fin 128) (g : Fin 2) (n : Fin 128) :
    val_main_v23 (F := Ideal) x0 (ix5 b k l g n) = (Kc x0 x1 b k).b l g n :=
  (congrFun (show val_main_v23 (F := Ideal) x0 = Cert.SsdRefIdeal.Read.val_main_v23 x0 from rfl) _).trans (Cert.SsdRefIdeal.Equation.b_eq x0 x1 b k l g n)

theorem c_eq (b : Fin 2) (k : Fin 16) (l : Fin 128) (g : Fin 2) (n : Fin 128) :
    val_main_v24 (F := Ideal) x0 (ix5 b k l g n) = (Kc x0 x1 b k).c l g n :=
  (congrFun (show val_main_v24 (F := Ideal) x0 = Cert.SsdRefIdeal.Read.val_main_v24 x0 from rfl) _).trans (Cert.SsdRefIdeal.Equation.c_eq x0 x1 b k l g n)

theorem diag_eq (b : Fin 2) (k : Fin 16) (l : Fin 128) (g : Fin 2) (e : Fin 8) (p : Fin 64) :
    val_main_v40 (F := Ideal) x0 x1 x2 x3 (ix6 b k l g e p) = diag (Pc x2 x3 x4 x5) (Kc x0 x1 b k) l (lane g e p) :=
  (congrFun (show val_main_v40 (F := Ideal) x0 x1 x2 x3 = Cert.SsdRefIdeal.Read.val_main_v40 x0 x1 x2 x3 from rfl) _).trans (Cert.SsdRefIdeal.Equation.diag_eq x0 x1 x2 x3 x4 x5 b k l g e p)

theorem fresh_eq (b : Fin 2) (k : Fin 16) (g : Fin 2) (e : Fin 8) (p : Fin 64) (n : Fin 128) :
    val_main_v49 (F := Ideal) x0 x1 x2 x3 (ix6 b k g e p n) = fresh (Pc x2 x3 x4 x5) (Kc x0 x1 b k) n (lane g e p) :=
  (congrFun (show val_main_v49 (F := Ideal) x0 x1 x2 x3 = Cert.SsdRefIdeal.Read.val_main_v49 x0 x1 x2 x3 from rfl) _).trans (Cert.SsdRefIdeal.Equation.fresh_eq x0 x1 x2 x3 x4 x5 b k g e p n)

theorem keep_eq (b : Fin 2) (k : Fin 16) (g : Fin 2) (e : Fin 8) :
    val_main_v52 (F := Ideal) x1 x2 x3 (ix4 b k g e) = keep (Pc x2 x3 x4 x5) (Kc x0 x1 b k) (hd g e) :=
  (congrFun (show val_main_v52 (F := Ideal) x1 x2 x3 = Cert.SsdRefIdeal.Read.val_main_v52 x1 x2 x3 from rfl) _).trans (Cert.SsdRefIdeal.Equation.keep_eq x0 x1 x2 x3 x4 x5 b k g e)

/-- The decays between rows, and the decays to the chunk's end. -/
theorem decay_eq (b : Fin 2) (k : Fin 16) (g : Fin 2) (e : Fin 8) (l s : Fin 128) :
    val_main_v34 (F := Ideal) x1 x2 x3 (ix6 b k g e l s) = decay (Pc x2 x3 x4 x5) (Kc x0 x1 b k) l s (hd g e) := by
  pointwise [val_main_v34, val_main_v33, val_main_v32, val_main_v31, val_main_v30, val_main_v29, val_main_v28, val_main_v27, val_main_v26, val_main_call2_v5, val_main_call2_c_0, val_main_call2_v4, val_main_call2_v3, val_main_call2_v2, val_main_call2_v1, val_main_call2_c, val_main_call2_v0, val_main_c, val_main_cst, val_main_call3_v0, val_main_call3_v1, val_main_call3_v2]
  rw [mask_eq, cum_eq x0 x1 x2 x3 x4 x5, cum_eq x0 x1 x2 x3 x4 x5, decay]
  exact congrArg Ideal.exp (congrArg _ bot_word)

theorem toEnd_eq (b : Fin 2) (k : Fin 16) (l : Fin 128) (g : Fin 2) (e : Fin 8) :
    val_main_v45 (F := Ideal) x1 x2 x3 (ix5 b k l g e) = toEnd (Pc x2 x3 x4 x5) (Kc x0 x1 b k) l (hd g e) := by
  rw [toEnd, ← cum_eq, ← cum_eq]
  pointwise [val_main_v45, val_main_v44, val_main_v43, val_main_v42, val_main_v41]

theorem score_eq (b : Fin 2) (k : Fin 16) (g : Fin 2) (l s : Fin 128) :
    val_main_v35 (F := Ideal) x0 (ix5 b k g l s) = score (Kc x0 x1 b k) g l s := by
  pointwise [val_main_v35]
  exact Finset.sum_congr (M := EReal) rfl fun n _ => by rw [b_eq x0 x1, c_eq x0 x1]

/-! ### The states carried from chunk to chunk -/

/-- One step of the scan, at chunk `k`. -/
def scanStep (ke : FVec Ideal S16x2x2x8x1x1 .f32) (fr : FVec Ideal S16x2x2x8x64x128 .f32) (k : ℕ)
    (h4 : S16x2x2x8x1x1.Slices ![k, 0, 0, 0, 0, 0] S1x2x2x8x1x1) (h6 : S16x2x2x8x64x128.Slices ![k, 0, 0, 0, 0, 0] S1x2x2x8x64x128)
    (S : FVec Ideal S2x2x8x64x128 .f32) : FVec Ideal S2x2x8x64x128 .f32 :=
  addf (mulf S (broadcastInDim S2x2x8x64x128 ![0, 1, 2, 3, 4] bcast_S2x2x8x1x1_S2x2x8x64x128_0_1_2_3_4
    (shapeCast _ (extractStridedSlice S1x2x2x8x1x1 ![k, 0, 0, 0, 0, 0] ke h4) shapeCasts_S1x2x2x8x1x1_S2x2x8x1x1)))
    (shapeCast _ (extractStridedSlice S1x2x2x8x64x128 ![k, 0, 0, 0, 0, 0] fr h6) shapeCasts_S1x2x2x8x64x128_S2x2x8x64x128)

theorem scanStep_apply (ke : FVec Ideal S16x2x2x8x1x1 .f32) (fr : FVec Ideal S16x2x2x8x64x128 .f32) (k : Fin 16)
    (h4 : S16x2x2x8x1x1.Slices ![k.val, 0, 0, 0, 0, 0] S1x2x2x8x1x1) (h6 : S16x2x2x8x64x128.Slices ![k.val, 0, 0, 0, 0, 0] S1x2x2x8x64x128)
    (S : FVec Ideal S2x2x8x64x128 .f32) (b g : Fin 2) (e : Fin 8) (p : Fin 64) (n : Fin 128) :
    scanStep ke fr k.val h4 h6 S (ix5 b g e p n) = S (ix5 b g e p n) * ke (ix6 k b g e (0 : Fin 1) (0 : Fin 1)) + fr (ix6 k b g e p n) := by
  pointwise [scanStep]

/-- The states before each chunk and after the last. -/
def carried : Fin 17 → Vec Ideal S2x2x8x64x128 .f32 :=
  ![val_main_v54 (F := Ideal), val_main_v68 (F := Ideal) x0 x1 x2 x3, val_main_v75 (F := Ideal) x0 x1 x2 x3, val_main_v82 (F := Ideal) x0 x1 x2 x3, val_main_v89 (F := Ideal) x0 x1 x2 x3, val_main_v96 (F := Ideal) x0 x1 x2 x3, val_main_v103 (F := Ideal) x0 x1 x2 x3, val_main_v110 (F := Ideal) x0 x1 x2 x3, val_main_v117 (F := Ideal) x0 x1 x2 x3, val_main_v124 (F := Ideal) x0 x1 x2 x3, val_main_v131 (F := Ideal) x0 x1 x2 x3, val_main_v138 (F := Ideal) x0 x1 x2 x3, val_main_v145 (F := Ideal) x0 x1 x2 x3, val_main_v152 (F := Ideal) x0 x1 x2 x3, val_main_v159 (F := Ideal) x0 x1 x2 x3, val_main_v166 (F := Ideal) x0 x1 x2 x3, val_main_v173 (F := Ideal) x0 x1 x2 x3]

theorem slice4 : ∀ k : Fin 16, S16x2x2x8x1x1.Slices ![k.val, 0, 0, 0, 0, 0] S1x2x2x8x1x1 := by decide +kernel
theorem slice6 : ∀ k : Fin 16, S16x2x2x8x64x128.Slices ![k.val, 0, 0, 0, 0, 0] S1x2x2x8x64x128 := by decide +kernel

theorem carried_succ (k : Fin 16) : carried x0 x1 x2 x3 k.succ =
    scanStep (val_main_v60 (F := Ideal) x1 x2 x3) (val_main_v58 (F := Ideal) x0 x1 x2 x3) k.val (slice4 k) (slice6 k) (carried x0 x1 x2 x3 k.castSucc) := by
  fin_cases k <;> rfl

theorem stacked_eq (k : Fin 16) (b g : Fin 2) (e : Fin 8) (p : Fin 64) (n : Fin 128) :
    val_main_v190 (F := Ideal) x0 x1 x2 x3 (ix6 k b g e p n) = carried x0 x1 x2 x3 k.castSucc (ix5 b g e p n) := by
  fin_cases k <;> (pointwise [val_main_v190, val_main_v174, val_main_v175, val_main_v176, val_main_v177, val_main_v178, val_main_v179, val_main_v180, val_main_v181, val_main_v182, val_main_v183, val_main_v184, val_main_v185, val_main_v186, val_main_v187, val_main_v188, val_main_v189]; rfl)

/-- What is left of a state at the chunk's end. -/
theorem kept_eq (b : Fin 2) (k : Fin 16) (g : Fin 2) (e : Fin 8) :
    val_main_v56 (F := Ideal) x1 x2 x3 (ix6 k b g e (0 : Fin 1) (0 : Fin 1)) = keep (Pc x2 x3 x4 x5) (Kc x0 x1 b k) (hd g e) := by
  rw [← keep_eq]
  pointwise [val_main_v56, val_main_v53]

theorem carried_eq (k : ℕ) (hk : k < 17) (b g : Fin 2) (e : Fin 8) (p : Fin 64) (n : Fin 128) :
    carried x0 x1 x2 x3 ⟨k, hk⟩ (ix5 b g e p n) = carry (Pc x2 x3 x4 x5) (chunk x0 x1 b) k n (lane g e p) := by
  induction k with
  | zero => exact zero_word
  | succ k ih =>
    refine (congrFun (carried_succ x0 x1 x2 x3 ⟨k, by omega⟩) _).trans ?_
    rw [scanStep_apply]
    refine congrArg₂ _ (congrArg₂ _ (ih (by omega)) ?_) ?_
    · rw [head_lane]
      refine Eq.trans ?_ (kept_eq x0 x1 x2 x3 x4 x5 b ⟨k, by omega⟩ g e)
      pointwise [val_main_v60]
    · refine Eq.trans ?_ (fresh_eq x0 x1 x2 x3 x4 x5 b ⟨k, by omega⟩ g e p n)
      pointwise [val_main_v58, val_main_v55]

theorem carry_eq (b : Fin 2) (k : Fin 16) (g : Fin 2) (e : Fin 8) (p : Fin 64) (n : Fin 128) :
    val_main_v192 (F := Ideal) x0 x1 x2 x3 (ix6 b k g e p n) = carry (Pc x2 x3 x4 x5) (chunk x0 x1 b) k.val n (lane g e p) := by
  pointwise [val_main_v192, val_main_v191]
  refine (dif_neg (Nat.not_lt_zero _)).trans ((stacked_eq x0 x1 x2 x3 k b g e p n).trans ?_)
  exact carried_eq x0 x1 x2 x3 x4 x5 k.val (by omega) b g e p n

theorem sum_eq (b : Fin 2) (k : Fin 16) (l : Fin 128) (g : Fin 2) (e : Fin 8) (p : Fin 64) :
    val_main_v200 (F := Ideal) x0 x1 x2 x3 (ix6 b k l g e p) = diag (Pc x2 x3 x4 x5) (Kc x0 x1 b k) l (lane g e p)
      + off (Pc x2 x3 x4 x5) (Kc x0 x1 b k) (carry (Pc x2 x3 x4 x5) (chunk x0 x1 b) k.val) l (lane g e p) := by
  pointwise [val_main_v200, val_main_v199, val_main_v198, val_main_v197, val_main_v196, val_main_v195, val_main_v194, val_main_v193]
  rw [diag_eq x0 x1 x2 x3 x4 x5, cum_eq x0 x1 x2 x3 x4 x5, off, head_lane, group_lane]
  refine congrArg _ (congrArg₂ _ (Finset.sum_congr rfl fun n _ => ?_) rfl)
  rw [carry_eq x0 x1 x2 x3 x4 x5, c_eq x0 x1, mul_comm]

theorem row_seq (r : Fin 2048) : seq ⟨r.val / 128, by omega⟩ ⟨r.val % 128, by omega⟩ = r := Fin.ext (by show r.val / 128 * 128 + r.val % 128 = r.val; omega)

theorem out_eq (b : Fin 2) (r : Fin 2048) (q : Fin 1024) :
    val_main_v207 (F := Ideal) x0 x1 x2 x3 x4 (ix3 b r q) = out (Pc x2 x3 x4 x5) (chunk x0 x1 b (r.val / 128))
      (carry (Pc x2 x3 x4 x5) (chunk x0 x1 b) (r.val / 128)) ⟨r.val % 128, by omega⟩ q := by
  have hx : (chunk x0 x1 b (r.val / 128)).x ⟨r.val % 128, by omega⟩ q = x0 (ix3 b r (⟨q.val, by omega⟩ : Fin 1536)) :=
    (chunk_x x0 x1 b ⟨r.val / 128, by omega⟩ _ q).trans (congrArg (fun s => x0 (ix3 b s _)) (row_seq r))
  pointwise [val_main_v207, val_main_v206, val_main_v205, val_main_v204, val_main_v203, val_main_v202, val_main_v201, val_main_v5, val_main_v2]
  rw [sum_eq x0 x1 x2 x3 x4 x5, lane_of, out, hx]
  rfl

end Cert.BwdRefIdeal.Equation
-- ==== Proof.HalfNorm.lean ====
/- The gradient of the root-mean-square norm along one half of a row, 512 entries: the closed form and the sum the chain
   rule gives are one value where the half and the scaled cotangent are finite. -/
module

public import proofs.«01_k».proof.Proof.RowNorm
public import proofs.«01_k».proof.Proof.BwdMath

@[expose] public section

noncomputable section

namespace SsdMath

open Idealize.ShloMosaic RowNorm

theorem half_word : Ideal.ofBits .f32 0x44000000#32 = ((512 : ℝ) : EReal) := by
  simp [Ideal.ofBits, Ideal.ieee, -EReal.coe_mul]; norm_num

/-- The mean square of a half, with the small constant. -/
def square (y : Fin 1024 → EReal) (g : Fin 2) : EReal :=
  Ideal.div (∑ j : Fin 512, y (halfLane g j) * y (halfLane g j)) (Ideal.ofBits .f32 0x44000000#32) + Ideal.ofBits .f32 0x358637BD#32

theorem scale_eq (y : Fin 1024 → EReal) (g : Fin 2) : scale y g = Ideal.rsqrt (square y g) := rfl

/-- What goes through the mean square, per unit of the entry; the gradient as the chain rule adds it up. -/
def passing (y u : Fin 1024 → EReal) (g : Fin 2) : EReal :=
  Ideal.div ((∑ j : Fin 512, y (halfLane g j) * u (halfLane g j))
    * (Ideal.ofBits .f32 0xBF000000#32 * Ideal.div (scale y g) (square y g))) (Ideal.ofBits .f32 0x44000000#32)

def chained (y u : Fin 1024 → EReal) (q : Fin 1024) : EReal :=
  u q * scale y (group q) + y q * passing y u (group q) + passing y u (group q) * y q

theorem square_coe (Y : Fin 1024 → ℝ) (g : Fin 2) : ∃ v r : ℝ, 0 < v ∧ r * r * v = 1 ∧ square (fun j => (Y j : EReal)) g = (v : EReal)
    ∧ scale (fun j => (Y j : EReal)) g = (r : EReal) := by
  obtain ⟨e, he, hw⟩ := eps_word
  have hm : square (fun j => (Y j : EReal)) g = (((∑ j : Fin 512, Y (halfLane g j) * Y (halfLane g j)) * (1 / 512) + e : ℝ) : EReal) := by
    rw [square, hw, half_word, Ideal.div_coe (by norm_num), EReal.coe_add, EReal.coe_mul, coe_sum]
    simp only [EReal.coe_mul]
  have hv : 0 < (∑ j : Fin 512, Y (halfLane g j) * Y (halfLane g j)) * (1 / 512) + e :=
    add_pos_of_nonneg_of_pos (mul_nonneg (Finset.sum_nonneg fun j _ => mul_self_nonneg _) (by norm_num)) he
  generalize (∑ j : Fin 512, Y (halfLane g j) * Y (halfLane g j)) * (1 / 512) + e = v at hm hv
  refine ⟨v, (Real.sqrt v)⁻¹, hv, ?_, hm, ?_⟩
  · rw [← mul_inv, Real.mul_self_sqrt hv.le, inv_mul_cancel₀ hv.ne']
  · rw [scale_eq, hm, Ideal.rsqrt_coe, if_neg hv.not_gt, if_neg hv.ne']

theorem halfGrad_eq (y u : Fin 1024 → EReal) (hy : ∀ j, Real' (y j)) (hu : ∀ j, Real' (u j)) (q : Fin 1024) :
    halfGrad y u q = chained y u q ∧ Real' (halfGrad y u q) := by
  choose Y hY using hy
  choose U hU using hu
  obtain rfl : y = fun j => (Y j : EReal) := funext hY
  obtain rfl : u = fun j => (U j : EReal) := funext hU
  obtain ⟨v, r, hv0, hrv, hv, hr⟩ := square_coe Y (group q)
  have hs : ∑ j : Fin 512, Y (halfLane (group q) j) * r * U (halfLane (group q) j) = r * ∑ j : Fin 512, Y (halfLane (group q) j) * U (halfLane (group q) j) := by
    rw [Finset.mul_sum]
    exact Finset.sum_congr rfl fun j _ => by ring
  have hi : 1 / v = r * r := by field_simp; linarith
  unfold halfGrad chained passing
  simp only [hv, hr, half_word, minus_half_word, Ideal.div_coe (show (512 : ℝ) ≠ 0 by norm_num), Ideal.div_coe hv0.ne',
    ← EReal.coe_mul, ← coe_sum, ← EReal.coe_sub, ← EReal.coe_add]
  refine ⟨congrArg _ ?_, ⟨_, rfl⟩⟩
  rw [hs, hi]
  ring

end SsdMath

end
-- ==== Proof.BwdReals.lean ====
/- Where all inputs are real numbers, so are the scan's output, its gate, and what the norm's gradient is taken of. -/
module

public import proofs.«01_k».proof.Proof.HalfNorm
public import proofs.«01_k».proof.Proof.BwdArray

@[expose] public section

noncomputable section

namespace SsdMath

open Idealize.ShloMosaic RowNorm

theorem real_zero : Real' 0 := ⟨0, rfl⟩

theorem real_sub {x y : EReal} (hx : Real' x) (hy : Real' y) : Real' (x - y) := by
  obtain ⟨r, rfl⟩ := hx
  obtain ⟨s, rfl⟩ := hy
  exact ⟨r - s, (EReal.coe_sub r s).symm⟩

theorem real_exp {x : EReal} (hx : Real' x) : Real' (Ideal.exp x) := by
  obtain ⟨r, rfl⟩ := hx
  exact ⟨Real.exp r, rfl⟩

theorem real_logistic {x : EReal} (hx : Real' x) : Real' (Ideal.logistic x) := by
  obtain ⟨r, rfl⟩ := hx
  exact ⟨_, Ideal.logistic_coe r⟩

theorem real_soft {u : EReal} (hu : Real' u) : Real' (soft u) := by
  obtain ⟨r, rfl⟩ := hu
  have h1 : max (r : EReal) ((0 : ℝ) : EReal) = ((max r 0 : ℝ) : EReal) := (EReal.coe_strictMono.monotone.map_max (a := r) (b := 0)).symm
  have h2 : max (r : EReal) (-(r : EReal)) = ((max r (-r) : ℝ) : EReal) := by
    rw [← EReal.coe_neg]
    exact (EReal.coe_strictMono.monotone.map_max (a := r) (b := -r)).symm
  have hp : ¬ 1 + Real.exp (0 - max r (-r)) ≤ 0 := not_le.2 (add_pos one_pos (Real.exp_pos _))
  rw [soft, h2, ← EReal.coe_zero, h1, ← EReal.coe_sub, Ideal.exp_coe, ← EReal.coe_one, ← EReal.coe_add, Ideal.log_coe, if_neg hp, ← EReal.coe_add]
  exact ⟨_, rfl⟩

/-- A row of chunks with real entries, and real parameters. -/
structure RealRow (P : Par) (Ks : ℕ → Chunk) : Prop where
  bias : ∀ h, Real' (P.bias h)
  alog : ∀ h, Real' (P.alog h)
  skip : ∀ h, Real' (P.skip h)
  gain : ∀ q, Real' (P.gain q)
  x : ∀ k l q, Real' ((Ks k).x l q)
  b : ∀ k l g n, Real' ((Ks k).b l g n)
  c : ∀ k l g n, Real' ((Ks k).c l g n)
  d : ∀ k l h, Real' ((Ks k).d l h)
  z : ∀ k l q, Real' ((Ks k).z l q)

namespace RealRow

variable {P : Par} {Ks : ℕ → Chunk} (R : RealRow P Ks) (k : ℕ)
include R

theorem dt (l : Fin 128) (h : Fin 16) : Real' (dt P (Ks k) l h) := real_soft ((R.d k l h).add (R.bias h))
theorem rate (h : Fin 16) : Real' (rate P h) := real_sub real_zero (real_exp (R.alog h))

theorem cum (l : Fin 128) (h : Fin 16) : Real' (cum P (Ks k) l h) := by
  refine Real'.sum _ _ fun s => ?_
  split
  · exact (R.dt k s h).mul (R.rate h)
  · exact real_zero

theorem decay (l s : Fin 128) (h : Fin 16) : Real' (decay P (Ks k) l s h) := by
  rw [SsdMath.decay]
  split
  · exact real_exp (real_sub (R.cum k l h) (R.cum k s h))
  · exact real_zero

theorem xdt (l : Fin 128) (q : Fin 1024) : Real' (xdt P (Ks k) l q) := (R.x k l q).mul (R.dt k l _)

theorem diag (l : Fin 128) (q : Fin 1024) : Real' (diag P (Ks k) l q) :=
  Real'.sum _ _ fun s => ((Real'.sum _ _ fun n => (R.c k l _ n).mul (R.b k s _ n)).mul (R.decay k l s _)).mul (R.xdt k s q)

theorem toEnd (l : Fin 128) (h : Fin 16) : Real' (toEnd P (Ks k) l h) := real_exp (real_sub (R.cum k _ h) (R.cum k l h))

theorem fresh (n : Fin 128) (q : Fin 1024) : Real' (fresh P (Ks k) n q) :=
  Real'.sum _ _ fun l => (R.b k l _ n).mul ((R.xdt k l q).mul (R.toEnd k l _))

theorem carry (n : Fin 128) (q : Fin 1024) : Real' (carry P Ks k n q) := by
  induction k with
  | zero => exact real_zero
  | succ k ih => exact (ih.mul (real_exp (R.cum k _ _))).add (R.fresh k n q)

theorem out (l : Fin 128) (q : Fin 1024) : Real' (outRows P Ks k l q) :=
  ((R.diag k l q).add ((Real'.sum _ _ fun n => (R.c k l _ n).mul (R.carry k n q)).mul (real_exp (R.cum k l _)))).add ((R.skip _).mul (R.x k l q))

theorem gate (l : Fin 128) (q : Fin 1024) : Real' (gate (Ks k) l q) := (R.z k l q).mul (real_logistic (R.z k l q))

theorem under (l : Fin 128) (q : Fin 1024) : Real' (under (Ks k) (outRows P Ks k) l q) := (R.out k l q).mul (R.gate k l q)

end RealRow

/-- The gradient at the gate's argument, as the product rule adds it up. -/
theorem dGate_eq {P : Par} {K : Chunk} {Y ct : Rows} {l : Fin 128} {q : Fin 1024} (hG : Real' (dGated P K Y ct l q)) (hY : Real' (Y l q)) (hz : Real' (K.z l q)) :
    dGate P K Y ct l q = Y l q * dGated P K Y ct l q * Ideal.logistic (K.z l q)
      + K.z l q * (Y l q * dGated P K Y ct l q) * (Ideal.logistic (K.z l q) * (1 - Ideal.logistic (K.z l q))) := by
  rw [dGate]
  generalize dGated P K Y ct l q = G at hG ⊢
  generalize Y l q = y at hY ⊢
  have hs := real_logistic hz
  generalize Ideal.logistic (K.z l q) = s at hs ⊢
  generalize K.z l q = z at hz ⊢
  obtain ⟨G, rfl⟩ := hG
  obtain ⟨y, rfl⟩ := hY
  obtain ⟨s, rfl⟩ := hs
  obtain ⟨z, rfl⟩ := hz
  rw [← EReal.coe_one]
  simp only [← EReal.coe_sub, ← EReal.coe_mul, ← EReal.coe_add]
  congr 1
  ring

end SsdMath

end
-- ==== Proof.BwdNorm.lean ====
/- The norm and the gate in the derivative's reference: under the scan's output, the chain rule's sum is the closed form, and
   the gradients at the gate's argument and at the output are those of the chunks. -/
module

public import proofs.«01_k».proof.Proof.BwdStages
public import proofs.«01_k».proof.Proof.BwdReals

@[expose] public section

set_option maxRecDepth 16384

noncomputable section

namespace Cert.BwdRefIdeal.Equation

open Cert.BwdRefIdeal Cert.BwdRefIdeal.Read Cert.BwdRefIdeal.Gen Idealize.ShloMosaic Idealize.ShloMosaic.TcCoe Idealize.SL.Sem SsdMath
open Cert.SsdKernelIdeal.Array (chunk params zero_word bot_word)
open Cert.SsdRefIdeal.Equation (hd lane seq head_lane group_lane Kc Pc lane_of seq_row chunk_x chunk_z mask_eq)
open Cert.BwdKernelIdeal.Array (cotangent)
open RowNorm (Real')

variable (x0 : Vec Ideal ⟨3, ![2, 2048, 1536]⟩ .f32) (x1 : Vec Ideal ⟨3, ![2, 2048, 5648]⟩ .f32) (x2 x3 x4 : Vec Ideal ⟨1, ![16]⟩ .f32)
  (x5 : Vec Ideal ⟨1, ![1024]⟩ .f32) (x6 : Vec Ideal ⟨3, ![2, 2048, 1024]⟩ .f32)

/-! ### A row of the sequence in its chunk -/

abbrev at_ (r : Fin 2048) : Fin 128 := ⟨r.val % 128, by omega⟩
/-- The chunk of a row, the output's rows there, and the cotangent's. -/
abbrev Kr (b : Fin 2) (r : Fin 2048) : Chunk := chunk x0 x1 b (r.val / 128)
abbrev Yr (b : Fin 2) (r : Fin 2048) : Rows := outRows (Pc x2 x3 x4 x5) (chunk x0 x1 b) (r.val / 128)
abbrev Cr (b : Fin 2) (r : Fin 2048) : Rows := cotangent x6 b (r.val / 128)

theorem z_row (b : Fin 2) (r : Fin 2048) (q : Fin 1024) : (Kr x0 x1 b r).z (at_ r) q = x1 (ix3 b r (⟨3072 + q.val, by omega⟩ : Fin 5648)) :=
  (chunk_z x0 x1 b ⟨r.val / 128, by omega⟩ _ q).trans (congrArg (fun s => x1 (ix3 b s _)) (row_seq r))

theorem ct_row (b : Fin 2) (r : Fin 2048) (q : Fin 1024) : Cr x6 b r (at_ r) q = x6 (ix3 b r q) :=
  congrArg (fun s => x6 (ix3 b s q)) (Fin.ext (by show (128 * (r.val / 128) + r.val % 128) % 2048 = r.val; omega))

theorem half_of (q : Fin 1024) : halfLane ⟨q.val / 512, by omega⟩ ⟨q.val % 512, by omega⟩ = q := Fin.ext (by show 512 * (q.val / 512) + q.val % 512 = q.val; omega)
theorem group_half (g : Fin 2) (j : Fin 512) : group (halfLane g j) = g := Fin.ext (by show (512 * g.val + j.val) / 512 = g.val; omega)

/-! ### The gated output and its norm -/

theorem under_eq (b : Fin 2) (r : Fin 2048) (q : Fin 1024) :
    val_main_v218 (F := Ideal) x0 x1 x2 x3 x4 (ix3 b r q) = under (Kr x0 x1 b r) (Yr x0 x1 x2 x3 x4 x5 b r) (at_ r) q := by
  pointwise [val_main_v218, val_main_v217, val_main_v213, val_main_v212, val_main_v211, val_main_v210, val_main_v209, val_main_v208, val_main_cst_2, val_main_cst_3, val_main_cst_4, val_main_cst_5, val_main_v0]
  rw [out_eq x0 x1 x2 x3 x4 x5, under, gate, z_row]
  rfl

theorem half_eq (b : Fin 2) (r : Fin 2048) (g : Fin 2) (j : Fin 512) :
    val_main_v219 (F := Ideal) x0 x1 x2 x3 x4 (ix4 b r g j) = under (Kr x0 x1 b r) (Yr x0 x1 x2 x3 x4 x5 b r) (at_ r) (halfLane g j) := by
  rw [← under_eq]
  pointwise [val_main_v219]
  exact congrArg (fun s => val_main_v218 (F := Ideal) x0 x1 x2 x3 x4 (ix3 b r s)) (Fin.ext (by show g.val * 512 + j.val = 512 * g.val + j.val; omega))

theorem square_eq (b : Fin 2) (r : Fin 2048) (g : Fin 2) :
    val_main_v227 (F := Ideal) x0 x1 x2 x3 x4 (ix4 b r g (0 : Fin 1)) = square (under (Kr x0 x1 b r) (Yr x0 x1 x2 x3 x4 x5 b r) (at_ r)) g := by
  pointwise [val_main_v227, val_main_v226, val_main_v225, val_main_v224, val_main_v223, val_main_v222, val_main_v221, val_main_cst_5, val_main_cst_6, val_main_cst_7, val_main_cst_8]
  rw [square]
  exact congrArg (fun s => Ideal.div s _ + _) (Finset.sum_congr rfl fun j _ => by rw [half_eq x0 x1 x2 x3 x4 x5])

theorem scale_row (b : Fin 2) (r : Fin 2048) (g : Fin 2) :
    val_main_v228 (F := Ideal) x0 x1 x2 x3 x4 (ix4 b r g (0 : Fin 1)) = scale (under (Kr x0 x1 b r) (Yr x0 x1 x2 x3 x4 x5 b r) (at_ r)) g := by
  rw [scale_eq, ← square_eq]
  pointwise [val_main_v228]

theorem lane_half (g : Fin 2) (j : Fin 512) (h : g.val * 512 + j.val < 1024) : (⟨g.val * 512 + j.val, h⟩ : Fin 1024) = halfLane g j :=
  Fin.ext (by show g.val * 512 + j.val = 512 * g.val + j.val; omega)

theorem lifted_eq (b : Fin 2) (r : Fin 2048) (g : Fin 2) (j : Fin 512) :
    val_main_v244 (F := Ideal) x5 x6 (ix4 b r g j) = lifted (Pc x2 x3 x4 x5) (Cr x6 b r) (at_ r) (halfLane g j) := by
  rw [lifted, ct_row]
  pointwise [val_main_v244, val_main_v243, val_main_v239, val_main_v234, val_main_v220]
  rw [lane_half]
  rfl

theorem chained_eq (b : Fin 2) (r : Fin 2048) (g : Fin 2) (j : Fin 512) :
    val_main_v259 (F := Ideal) x0 x1 x2 x3 x4 x5 x6 (ix4 b r g j)
      = chained (under (Kr x0 x1 b r) (Yr x0 x1 x2 x3 x4 x5 b r) (at_ r)) (lifted (Pc x2 x3 x4 x5) (Cr x6 b r) (at_ r)) (halfLane g j) := by
  pointwise [val_main_v259, val_main_v258, val_main_v257, val_main_v256, val_main_v255, val_main_v254, val_main_v253, val_main_v252, val_main_v251, val_main_v250, val_main_v249, val_main_v248, val_main_v247, val_main_v246, val_main_v231, val_main_v230, val_main_v229,
    val_main_cst_14, val_main_cst_12, val_main_cst_13, val_main_cst_8]
  have hs : ∀ s : Fin 1, s = 0 := fun s => Subsingleton.elim _ _
  simp only [Finset.univ_unique, Finset.sum_singleton, hs default, scale_row x0 x1 x2 x3 x4 x5, square_eq x0 x1 x2 x3 x4 x5, half_eq x0 x1 x2 x3 x4 x5, lifted_eq x2 x3 x4 x5 x6]
  rw [chained, passing, group_half]

section Finite

variable (R : ∀ b, RealRow (Pc x2 x3 x4 x5) (chunk x0 x1 b)) (h6 : ∀ i, Real' (x6 i))
include R h6

theorem lifted_real (b : Fin 2) (r : Fin 2048) (q : Fin 1024) : Real' (lifted (Pc x2 x3 x4 x5) (Cr x6 b r) (at_ r) q) := (h6 _).mul ((R b).gain q)

theorem dGated_eq (b : Fin 2) (r : Fin 2048) (q : Fin 1024) : val_main_v261 (F := Ideal) x0 x1 x2 x3 x4 x5 x6 (ix3 b r q)
    = dGated (Pc x2 x3 x4 x5) (Kr x0 x1 b r) (Yr x0 x1 x2 x3 x4 x5 b r) (Cr x6 b r) (at_ r) q := by
  rw [dGated, (halfGrad_eq _ _ (fun j => (R b).under _ _ j) (lifted_real x0 x1 x2 x3 x4 x5 x6 R h6 b r) q).1]
  pointwise [val_main_v261]
  rw [chained_eq, half_of]

theorem dOut_eq (b : Fin 2) (r : Fin 2048) (q : Fin 1024) : val_main_v263 (F := Ideal) x0 x1 x2 x3 x4 x5 x6 (ix3 b r q)
    = outGrad (Pc x2 x3 x4 x5) (chunk x0 x1 b) (cotangent x6 b) (r.val / 128) (at_ r) q := by
  pointwise [val_main_v263, val_main_v217, val_main_v213, val_main_v212, val_main_v211, val_main_v210, val_main_v209, val_main_v208, val_main_cst_2, val_main_cst_3, val_main_cst_4, val_main_cst_5, val_main_v0]
  rw [dGated_eq x0 x1 x2 x3 x4 x5 x6 R h6, outGrad, dOut, gate, z_row]
  rfl

theorem dGate_row (b : Fin 2) (r : Fin 2048) (q : Fin 1024) : val_main_v267 (F := Ideal) x0 x1 x2 x3 x4 x5 x6 (ix3 b r q)
    = dGate (Pc x2 x3 x4 x5) (Kr x0 x1 b r) (Yr x0 x1 x2 x3 x4 x5 b r) (Cr x6 b r) (at_ r) q := by
  rw [dGate_eq (halfGrad_eq _ _ (fun j => (R b).under _ _ j) (lifted_real x0 x1 x2 x3 x4 x5 x6 R h6 b r) q).2 ((R b).out _ _ _) ((R b).z _ _ _)]
  pointwise [val_main_v267, val_main_v266, val_main_v265, val_main_v264, val_main_v262, val_main_v216, val_main_v215, val_main_v214, val_main_v213, val_main_v212, val_main_v211, val_main_v210, val_main_v209, val_main_v208, val_main_cst_2, val_main_cst_3, val_main_cst_4, val_main_cst_5, val_main_v0]
  rw [dGated_eq x0 x1 x2 x3 x4 x5 x6 R h6, out_eq x0 x1 x2 x3 x4 x5, z_row]
  rfl

end Finite

/-! ### The gain's gradient -/

/-- A sum over the first two axes. -/
theorem sum_two (v : FVec Ideal S2x2048x2x512 .f32) (z : EReal) (g : Fin 2) (j : Fin 512) :
    Ideal.hostReduceAdd reducesTo_S2x2048x2x512_S2x512_d0_1 v z (ix2 g j) = z + ∑ b : Fin 2, ∑ r : Fin 2048, v (ix4 b r g j) := by
  unfold Ideal.hostReduceAdd
  refine congrArg (z + ·) ((Finset.sum_filter_eq_sum_of_fiber _ (fun k : Fin 2 × Fin 2048 => (ix4 k.1 k.2 g j : S2x2048x2x512.Idx)) (fun _ _ e => Prod.ext (congrFun e 0) (congrFun e 1)) ?_ v).trans
    (Fintype.sum_prod_type _))
  intro i
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext a
    apply Fin.ext
    match a with
    | ⟨0, _⟩ => rfl
    | ⟨1, _⟩ => rfl

theorem sum_unit (v : FVec Ideal S1x1x2x512 .f32) (z : EReal) (g : Fin 2) (j : Fin 512) :
    Ideal.hostReduceAdd reducesTo_S1x1x2x512_S2x512_d0_1 v z (ix2 g j) = z + v (ix4 (0 : Fin 1) (0 : Fin 1) g j) := by
  unfold Ideal.hostReduceAdd
  refine congrArg (z + ·) ((Finset.sum_filter_eq_sum_of_fiber _ (fun k : Fin 1 => (ix4 k (0 : Fin 1) g j : S1x1x2x512.Idx)) (fun _ _ _ => Subsingleton.elim _ _) ?_ v).trans
    (Fin.sum_univ_one _))
  intro i
  constructor
  · intro e
    refine ⟨i 0, ?_⟩
    funext a
    apply Fin.ext
    match a with
    | ⟨0, _⟩ => rfl
    | ⟨1, _⟩ => exact (Nat.lt_one_iff.1 (i 1).isLt).symm
    | ⟨2, _⟩ => exact (congrArg Fin.val (congrFun e 0)).symm
    | ⟨3, _⟩ => exact (congrArg Fin.val (congrFun e 1)).symm
  · rintro ⟨k, rfl⟩
    funext a
    apply Fin.ext
    match a with
    | ⟨0, _⟩ => rfl
    | ⟨1, _⟩ => rfl

theorem share_eq (b : Fin 2) (r : Fin 2048) (g : Fin 2) (j : Fin 512) : val_main_v240 (F := Ideal) x0 x1 x2 x3 x4 x6 (ix4 b r g j)
    = dGain (Kr x0 x1 b r) (Yr x0 x1 x2 x3 x4 x5 b r) (Cr x6 b r) (at_ r) (halfLane g j) := by
  pointwise [val_main_v240, val_main_v239, val_main_v233, val_main_v232]
  rw [half_eq x0 x1 x2 x3 x4 x5, scale_row x0 x1 x2 x3 x4 x5, lane_half, dGain, group_half, ct_row, mul_comm]

theorem dGain_eq (q : Fin 1024) : val_main_v452 (F := Ideal) x0 x1 x2 x3 x4 x6 (ix2 (0 : Fin 1) q)
    = ∑ b : Fin 2, ∑ r : Fin 2048, dGain (Kr x0 x1 b r) (Yr x0 x1 x2 x3 x4 x5 b r) (Cr x6 b r) (at_ r) q := by
  pointwise [val_main_v452, val_main_v260, val_main_v245]
  rw [sum_unit]
  pointwise [val_main_v242, val_main_v241]
  rw [sum_two]
  simp only [share_eq x0 x1 x2 x3 x4 x5, half_of]
  rw [show val_main_cst_11 (F := Ideal) (Shape.Idx.first h_S_) = (0 : EReal) from zero_word, show val_main_cst_10 (F := Ideal) (Shape.Idx.first h_S_) = (0 : EReal) from zero_word, zero_add, zero_add]

end Cert.BwdRefIdeal.Equation
-- ==== Proof.BwdScan.lean ====
/- The derivative's reference from the gradient at the scan's output to the gradient at the convolved features: the gradients
   handed back from chunk to chunk, and what each chunk makes of them. -/
module

public import proofs.«01_k».proof.Proof.BwdNorm

@[expose] public section

set_option maxRecDepth 16384

noncomputable section

namespace Cert.BwdRefIdeal.Equation

open Cert.BwdRefIdeal Cert.BwdRefIdeal.Read Cert.BwdRefIdeal.Gen Idealize.ShloMosaic Idealize.ShloMosaic.TcCoe Idealize.SL.Sem SsdMath
open Cert.SsdKernelIdeal.Array (chunk params zero_word bot_word)
open Cert.SsdRefIdeal.Equation (hd lane seq head_lane group_lane Kc Pc lane_of seq_row chunk_x chunk_z mask_eq)
open Cert.BwdKernelIdeal.Array (cotangent)
open RowNorm (Real')

/-! ### Lanes -/

theorem lane_half_eq (g : Fin 2) (e : Fin 8) (p : Fin 64) : lane g e p = halfLane g (finProdFinEquiv (e, p)) :=
  Fin.ext (by show (g.val * 8 + e.val) * 64 + p.val = 512 * g.val + (p.val + 64 * e.val); omega)

/-- A half's lanes, head by head. -/
theorem sum_lanes (f : Fin 1024 → EReal) (g : Fin 2) : ∑ e : Fin 8, ∑ p : Fin 64, f (lane g e p) = ∑ j : Fin 512, f (halfLane g j) := by
  rw [← (finProdFinEquiv (m := 8) (n := 64)).sum_comp (fun j : Fin 512 => f (halfLane g j)), Fintype.sum_prod_type]
  exact Finset.sum_congr rfl fun e _ => Finset.sum_congr rfl fun p _ => by rw [lane_half_eq]

theorem head_group (g : Fin 2) (e : Fin 8) : groupHead g e = hd g e := Fin.ext (by show 8 * g.val + e.val = g.val * 8 + e.val; omega)
theorem headLane_eq (g : Fin 2) (e : Fin 8) (p : Fin 64) : headLane (hd g e) p = lane g e p :=
  Fin.ext (by show 64 * (g.val * 8 + e.val) + p.val = (g.val * 8 + e.val) * 64 + p.val; omega)

theorem at_seq {A : Type} (f : ℕ → Fin 128 → A) (k : Fin 16) (l : Fin 128) : f ((seq k l).val / 128) (at_ (seq k l)) = f k.val l := by
  have h1 : (seq k l).val / 128 = k.val := by show (k.val * 128 + l.val) / 128 = k.val; omega
  have h2 : at_ (seq k l) = l := Fin.ext (by show (k.val * 128 + l.val) % 128 = l.val; omega)
  rw [h1, h2]

/-- A sum along an axis of one element. -/
theorem sum_one (v : FVec Ideal S2x16x2x1x128x128 .f32) (z : EReal) (b : Fin 2) (k : Fin 16) (g : Fin 2) (l s : Fin 128) :
    Ideal.hostReduceAdd reducesTo_S2x16x2x1x128x128_S2x16x2x128x128_d3 v z (ix5 b k g l s) = z + v (ix6 b k g (0 : Fin 1) l s) := by
  unfold Ideal.hostReduceAdd
  refine congrArg (z + ·) ((Finset.sum_filter_eq_sum_of_fiber _ (fun j : Fin 1 => (ix6 b k g j l s : S2x16x2x1x128x128.Idx)) (fun _ _ _ => Subsingleton.elim _ _) ?_ v).trans
    (Fin.sum_univ_one _))
  intro i
  constructor
  · intro e
    refine ⟨i 3, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => exact (congrArg Fin.val (congrFun e 4)).symm
  · rintro ⟨j, rfl⟩
    funext a
    apply Fin.ext
    match a with
    | ⟨0, _⟩ => rfl
    | ⟨1, _⟩ => rfl
    | ⟨2, _⟩ => rfl
    | ⟨3, _⟩ => rfl
    | ⟨4, _⟩ => rfl

/-- A sum along the heads of a group. -/
theorem sum_eight (v : FVec Ideal S2x16x2x8x128x128 .f32) (z : EReal) (b : Fin 2) (k : Fin 16) (g : Fin 2) (l s : Fin 128) :
    Ideal.hostReduceAdd reducesTo_S2x16x2x8x128x128_S2x16x2x128x128_d3 v z (ix5 b k g l s) = z + ∑ e : Fin 8, v (ix6 b k g e l s) := by
  unfold Ideal.hostReduceAdd
  refine congrArg (z + ·) (Finset.sum_filter_eq_sum_of_fiber _ (fun e : Fin 8 => (ix6 b k g e l s : S2x16x2x8x128x128.Idx)) (fun _ _ e => congrFun e 3) ?_ v)
  intro i
  constructor
  · intro e
    refine ⟨i 3, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => exact (congrArg Fin.val (congrFun e 4)).symm
  · rintro ⟨j, rfl⟩
    funext a
    apply Fin.ext
    match a with
    | ⟨0, _⟩ => rfl
    | ⟨1, _⟩ => rfl
    | ⟨2, _⟩ => rfl
    | ⟨3, _⟩ => rfl
    | ⟨4, _⟩ => rfl

variable (x0 : Vec Ideal ⟨3, ![2, 2048, 1536]⟩ .f32) (x1 : Vec Ideal ⟨3, ![2, 2048, 5648]⟩ .f32) (x2 x3 x4 : Vec Ideal ⟨1, ![16]⟩ .f32)
  (x5 : Vec Ideal ⟨1, ![1024]⟩ .f32) (x6 : Vec Ideal ⟨3, ![2, 2048, 1024]⟩ .f32)

/-- The gradient at the scan's output, chunk by chunk. -/
abbrev Gc (b : Fin 2) (k : ℕ) : Rows := outGrad (Pc x2 x3 x4 x5) (chunk x0 x1 b) (cotangent x6 b) k
abbrev Tc (b : Fin 2) (k : ℕ) : Rows := handed (Pc x2 x3 x4 x5) (chunk x0 x1 b) (cotangent x6 b) k

section Finite

variable (R : ∀ b, RealRow (Pc x2 x3 x4 x5) (chunk x0 x1 b)) (h6 : ∀ i, Real' (x6 i))
include R h6

theorem dy_eq (b : Fin 2) (k : Fin 16) (l : Fin 128) (g : Fin 2) (e : Fin 8) (p : Fin 64) :
    val_main_v271 (F := Ideal) x0 x1 x2 x3 x4 x5 x6 (ix6 b k l g e p) = Gc x0 x1 x2 x3 x4 x5 x6 b k.val l (lane g e p) := by
  refine Eq.trans ?_ (at_seq (fun k l => Gc x0 x1 x2 x3 x4 x5 x6 b k l (lane g e p)) k l)
  refine Eq.trans ?_ (dOut_eq x0 x1 x2 x3 x4 x5 x6 R h6 b (seq k l) (lane g e p))
  pointwise [val_main_v271, val_main_v268]
  rfl

theorem dyT_eq (b : Fin 2) (k : Fin 16) (l : Fin 128) (g : Fin 2) (e : Fin 8) (p : Fin 64) :
    val_main_v422 (F := Ideal) x0 x1 x2 x3 x4 x5 x6 (ix6 b k g e p l) = Gc x0 x1 x2 x3 x4 x5 x6 b k.val l (lane g e p) := by
  rw [← dy_eq x0 x1 x2 x3 x4 x5 x6 R h6]
  pointwise [val_main_v422]

theorem dOff_eq (b : Fin 2) (k : Fin 16) (l : Fin 128) (g : Fin 2) (e : Fin 8) (p : Fin 64) :
    val_main_v274 (F := Ideal) x0 x1 x2 x3 x4 x5 x6 (ix6 b k g e p l) = dOff (Pc x2 x3 x4 x5) (Kc x0 x1 b k) (Gc x0 x1 x2 x3 x4 x5 x6 b k.val) l (lane g e p) := by
  pointwise [val_main_v274, val_main_v273, val_main_v272, val_main_v197, val_main_v196, val_main_v195]
  rw [dy_eq x0 x1 x2 x3 x4 x5 x6 R h6, cum_eq x0 x1 x2 x3 x4 x5, dOff, head_lane]

/-- What a chunk adds to the gradient it hands back. -/
theorem push_eq (b : Fin 2) (k : Fin 16) (g : Fin 2) (e : Fin 8) (p : Fin 64) (n : Fin 128) :
    val_main_v280 (F := Ideal) x0 x1 x2 x3 x4 x5 x6 (ix6 k b g e p n)
      = ∑ l : Fin 128, (Kc x0 x1 b k).c l (group (lane g e p)) n * dOff (Pc x2 x3 x4 x5) (Kc x0 x1 b k) (Gc x0 x1 x2 x3 x4 x5 x6 b k.val) l (lane g e p) := by
  pointwise [val_main_v280, val_main_v278, val_main_v277]
  rw [group_lane]
  exact Finset.sum_congr (M := EReal) rfl fun l _ => by rw [dOff_eq x0 x1 x2 x3 x4 x5 x6 R h6, c_eq x0 x1, mul_comm]

end Finite

/-- One step back, at chunk `k`. -/
def backStep (ke : FVec Ideal S16x2x2x8x1x1 .f32) (pu : FVec Ideal S16x2x2x8x64x128 .f32) (k : ℕ)
    (h4 : S16x2x2x8x1x1.Slices ![k, 0, 0, 0, 0, 0] S1x2x2x8x1x1) (h6 : S16x2x2x8x64x128.Slices ![k, 0, 0, 0, 0, 0] S1x2x2x8x64x128)
    (S : FVec Ideal S2x2x8x64x128 .f32) : FVec Ideal S2x2x8x64x128 .f32 :=
  addf (shapeCast _ (extractStridedSlice S1x2x2x8x64x128 ![k, 0, 0, 0, 0, 0] pu h6) shapeCasts_S1x2x2x8x64x128_S2x2x8x64x128)
    (mulf S (broadcastInDim S2x2x8x64x128 ![0, 1, 2, 3, 4] bcast_S2x2x8x1x1_S2x2x8x64x128_0_1_2_3_4
    (shapeCast _ (extractStridedSlice S1x2x2x8x1x1 ![k, 0, 0, 0, 0, 0] ke h4) shapeCasts_S1x2x2x8x1x1_S2x2x8x1x1)))

theorem backStep_apply (ke : FVec Ideal S16x2x2x8x1x1 .f32) (pu : FVec Ideal S16x2x2x8x64x128 .f32) (k : Fin 16)
    (h4 : S16x2x2x8x1x1.Slices ![k.val, 0, 0, 0, 0, 0] S1x2x2x8x1x1) (h6 : S16x2x2x8x64x128.Slices ![k.val, 0, 0, 0, 0, 0] S1x2x2x8x64x128)
    (S : FVec Ideal S2x2x8x64x128 .f32) (b g : Fin 2) (e : Fin 8) (p : Fin 64) (n : Fin 128) :
    backStep ke pu k.val h4 h6 S (ix5 b g e p n) = pu (ix6 k b g e p n) + S (ix5 b g e p n) * ke (ix6 k b g e (0 : Fin 1) (0 : Fin 1)) := by
  pointwise [backStep]

/-- The gradients handed back, the last chunk's first. -/
def handing : Fin 17 → Vec Ideal S2x2x8x64x128 .f32 :=
  ![val_main_v279 (F := Ideal), val_main_v291 (F := Ideal) x0 x1 x2 x3 x4 x5 x6, val_main_v298 (F := Ideal) x0 x1 x2 x3 x4 x5 x6, val_main_v305 (F := Ideal) x0 x1 x2 x3 x4 x5 x6, val_main_v312 (F := Ideal) x0 x1 x2 x3 x4 x5 x6, val_main_v319 (F := Ideal) x0 x1 x2 x3 x4 x5 x6, val_main_v326 (F := Ideal) x0 x1 x2 x3 x4 x5 x6, val_main_v333 (F := Ideal) x0 x1 x2 x3 x4 x5 x6, val_main_v340 (F := Ideal) x0 x1 x2 x3 x4 x5 x6, val_main_v347 (F := Ideal) x0 x1 x2 x3 x4 x5 x6, val_main_v354 (F := Ideal) x0 x1 x2 x3 x4 x5 x6, val_main_v361 (F := Ideal) x0 x1 x2 x3 x4 x5 x6, val_main_v368 (F := Ideal) x0 x1 x2 x3 x4 x5 x6, val_main_v375 (F := Ideal) x0 x1 x2 x3 x4 x5 x6, val_main_v382 (F := Ideal) x0 x1 x2 x3 x4 x5 x6, val_main_v389 (F := Ideal) x0 x1 x2 x3 x4 x5 x6, val_main_v396 (F := Ideal) x0 x1 x2 x3 x4 x5 x6]

theorem handing_succ (k : Fin 16) : handing x0 x1 x2 x3 x4 x5 x6 k.succ =
    backStep (val_main_v282 (F := Ideal) x1 x2 x3) (val_main_v280 (F := Ideal) x0 x1 x2 x3 x4 x5 x6) (15 - k.val)
      (slice4 ⟨15 - k.val, by omega⟩) (slice6 ⟨15 - k.val, by omega⟩) (handing x0 x1 x2 x3 x4 x5 x6 k.castSucc) := by
  fin_cases k <;> rfl

theorem stackedBack_eq (k : Fin 16) (b g : Fin 2) (e : Fin 8) (p : Fin 64) (n : Fin 128) :
    val_main_v413 (F := Ideal) x0 x1 x2 x3 x4 x5 x6 (ix6 k b g e p n) = handing x0 x1 x2 x3 x4 x5 x6 ⟨15 - k.val, by omega⟩ (ix5 b g e p n) := by
  fin_cases k <;> (pointwise [val_main_v413, val_main_v397, val_main_v398, val_main_v399, val_main_v400, val_main_v401, val_main_v402, val_main_v403, val_main_v404, val_main_v405, val_main_v406, val_main_v407, val_main_v408, val_main_v409, val_main_v410, val_main_v411, val_main_v412]; rfl)

section Finite

variable (R : ∀ b, RealRow (Pc x2 x3 x4 x5) (chunk x0 x1 b)) (h6 : ∀ i, Real' (x6 i))
include R h6

theorem handing_eq (k : ℕ) (hk : k < 17) (b g : Fin 2) (e : Fin 8) (p : Fin 64) (n : Fin 128) :
    handing x0 x1 x2 x3 x4 x5 x6 ⟨k, hk⟩ (ix5 b g e p n) = back (Pc x2 x3 x4 x5) (chunk x0 x1 b) (Gc x0 x1 x2 x3 x4 x5 x6 b) k n (lane g e p) := by
  induction k with
  | zero => exact zero_word
  | succ k ih =>
    refine (congrFun (handing_succ x0 x1 x2 x3 x4 x5 x6 ⟨k, by omega⟩) _).trans ?_
    refine (backStep_apply _ _ ⟨15 - k, by omega⟩ _ _ _ b g e p n).trans ?_
    rw [back, before, add_comm]
    refine congrArg₂ _ (congrArg₂ _ (ih (by omega)) ?_) (push_eq x0 x1 x2 x3 x4 x5 x6 R h6 b ⟨15 - k, by omega⟩ g e p n)
    rw [head_lane]
    refine Eq.trans ?_ (kept_eq x0 x1 x2 x3 x4 x5 b ⟨15 - k, by omega⟩ g e)
    pointwise [val_main_v282]

/-- The gradient at the state carried out of a chunk. -/
theorem handed_eq (b : Fin 2) (k : Fin 16) (g : Fin 2) (e : Fin 8) (p : Fin 64) (n : Fin 128) :
    val_main_v415 (F := Ideal) x0 x1 x2 x3 x4 x5 x6 (ix6 b k g e p n) = Tc x0 x1 x2 x3 x4 x5 x6 b k.val n (lane g e p) := by
  pointwise [val_main_v415, val_main_v414]
  refine Eq.trans ?_ ((stackedBack_eq x0 x1 x2 x3 x4 x5 x6 k b g e p n).trans (handing_eq x0 x1 x2 x3 x4 x5 x6 R h6 (15 - k.val) (by omega) b g e p n))
  first | rfl | exact dif_pos k.isLt

/-! ### What a chunk makes of them -/

theorem dXdt_eq (b : Fin 2) (k : Fin 16) (l : Fin 128) (g : Fin 2) (e : Fin 8) (p : Fin 64) :
    val_main_v426 (F := Ideal) x0 x1 x2 x3 x4 x5 x6 (ix6 b k l g e p)
      = dXdt (Pc x2 x3 x4 x5) (Kc x0 x1 b k) (Tc x0 x1 x2 x3 x4 x5 x6 b k.val) (Gc x0 x1 x2 x3 x4 x5 x6 b k.val) l (lane g e p) := by
  pointwise [val_main_v426, val_main_v425, val_main_v424, val_main_v421, val_main_v420, val_main_v419, val_main_v418, val_main_v38, val_main_v37, val_main_v36, val_main_v46]
  simp only [dyT_eq x0 x1 x2 x3 x4 x5 x6 R h6, handed_eq x0 x1 x2 x3 x4 x5 x6 R h6, toEnd_eq x0 x1 x2 x3 x4 x5, score_eq x0 x1, decay_eq x0 x1 x2 x3 x4 x5, b_eq x0 x1]
  rw [dXdt, inside, head_lane, group_lane, add_comm]
  refine congrArg₂ _ (Finset.sum_congr rfl fun s _ => mul_comm _ _) ((mul_comm _ _).trans (congrArg _ (Finset.sum_congr rfl fun n _ => mul_comm _ _)))

theorem dScore_eq (b : Fin 2) (k : Fin 16) (g : Fin 2) (l s : Fin 128) :
    val_main_v430 (F := Ideal) x0 x1 x2 x3 x4 x5 x6 (ix5 b k g l s)
      = dScore (Pc x2 x3 x4 x5) (Kc x0 x1 b k) (Gc x0 x1 x2 x3 x4 x5 x6 b k.val) g l s := by
  refine (sum_one (val_main_v429 (F := Ideal) x0 x1 x2 x3 x4 x5 x6) (val_main_cst_18 (F := Ideal) default) b k g l s).trans ?_
  refine (congrArg (· + _) (show val_main_cst_18 (F := Ideal) default = (0 : EReal) from zero_word)).trans ((zero_add _).trans ?_)
  pointwise [val_main_v429, val_main_v428, val_main_v427, val_main_v423, val_main_cst_17]
  refine (sum_eight (val_main_v427 (F := Ideal) x0 x1 x2 x3 x4 x5 x6) 0 b k g l s).trans ((zero_add _).trans ?_)
  rw [dScore]
  refine Finset.sum_congr rfl fun e _ => ?_
  pointwise [val_main_v427, val_main_v423]
  simp only [dyT_eq x0 x1 x2 x3 x4 x5 x6 R h6, xdt_eq x0 x1 x2 x3 x4 x5, decay_eq x0 x1 x2 x3 x4 x5]
  rw [head_group, dMix]
  simp only [headLane_eq]

theorem dC_eq (b : Fin 2) (k : Fin 16) (l : Fin 128) (g : Fin 2) (n : Fin 128) :
    val_main_v436 (F := Ideal) x0 x1 x2 x3 x4 x5 x6 (ix5 b k l g n)
      = dC (Pc x2 x3 x4 x5) (Kc x0 x1 b k) (carry (Pc x2 x3 x4 x5) (chunk x0 x1 b) k.val) (Gc x0 x1 x2 x3 x4 x5 x6 b k.val) l g n := by
  pointwise [val_main_v436, val_main_v276, val_main_v275, val_main_v435, val_main_v434]
  simp only [dOff_eq x0 x1 x2 x3 x4 x5 x6 R h6, carry_eq x0 x1 x2 x3 x4 x5, dScore_eq x0 x1 x2 x3 x4 x5 x6 R h6, b_eq x0 x1]
  rw [dC, add_comm, ← sum_lanes (fun q => dOff (Pc x2 x3 x4 x5) (Kc x0 x1 b k) (Gc x0 x1 x2 x3 x4 x5 x6 b k.val) l q * carry (Pc x2 x3 x4 x5) (chunk x0 x1 b) k.val n q) g]

theorem dB_eq (b : Fin 2) (k : Fin 16) (l : Fin 128) (g : Fin 2) (n : Fin 128) :
    val_main_v433 (F := Ideal) x0 x1 x2 x3 x4 x5 x6 (ix5 b k l g n)
      = dB (Pc x2 x3 x4 x5) (Kc x0 x1 b k) (Tc x0 x1 x2 x3 x4 x5 x6 b k.val) (Gc x0 x1 x2 x3 x4 x5 x6 b k.val) l g n := by
  pointwise [val_main_v433, val_main_v417, val_main_v416, val_main_v432, val_main_v431, val_main_v48, val_main_v47, val_main_v46]
  simp only [handed_eq x0 x1 x2 x3 x4 x5 x6 R h6, xdt_eq x0 x1 x2 x3 x4 x5, toEnd_eq x0 x1 x2 x3 x4 x5, dScore_eq x0 x1 x2 x3 x4 x5 x6 R h6, c_eq x0 x1]
  rw [dB, add_comm, ← sum_lanes (fun q => xdt (Pc x2 x3 x4 x5) (Kc x0 x1 b k) l q * toEnd (Pc x2 x3 x4 x5) (Kc x0 x1 b k) l (head q) * Tc x0 x1 x2 x3 x4 x5 x6 b k.val n q) g]
  refine congrArg _ (Finset.sum_congr rfl fun e _ => Finset.sum_congr rfl fun p _ => ?_)
  rw [head_lane, mul_comm]

theorem dX_eq (b : Fin 2) (k : Fin 16) (l : Fin 128) (g : Fin 2) (e : Fin 8) (p : Fin 64) :
    val_main_v442 (F := Ideal) x0 x1 x2 x3 x4 x5 x6 (ix4 b (seq k l) (hd g e) p)
      = dX (Pc x2 x3 x4 x5) (Kc x0 x1 b k) (Tc x0 x1 x2 x3 x4 x5 x6 b k.val) (Gc x0 x1 x2 x3 x4 x5 x6 b k.val) l (lane g e p) := by
  rw [dX, ← dXdt_eq x0 x1 x2 x3 x4 x5 x6 R h6, ← dy_eq x0 x1 x2 x3 x4 x5 x6 R h6, head_lane, ← dt_eq x0 x1 x2 x3 x4 x5, add_comm]
  pointwise [val_main_v442, val_main_v441, val_main_v440, val_main_v439, val_main_v14, val_main_v270, val_main_v269, val_main_v203, val_main_v202, val_main_v271]
  have e1 : ∀ h, (⟨(seq k l).val / 128, h⟩ : Fin 16) = k := fun h => Fin.ext (by show (k.val * 128 + l.val) / 128 = k.val; omega)
  have e2 : ∀ h, (⟨(seq k l).val % 128, h⟩ : Fin 128) = l := fun h => Fin.ext (by show (k.val * 128 + l.val) % 128 = l.val; omega)
  have e3 : ∀ h, (⟨(hd g e).val / 8, h⟩ : Fin 2) = g := fun h => Fin.ext (by show (g.val * 8 + e.val) / 8 = g.val; omega)
  have e4 : ∀ h, (⟨(hd g e).val % 8, h⟩ : Fin 8) = e := fun h => Fin.ext (by show (g.val * 8 + e.val) % 8 = e.val; omega)
  simp only [e1, e2, e3, e4]
  rfl

/-- The gradient at the convolved features. -/
theorem dxbc_eq (r : Fin 4096) (q : Fin 1536) : val_main_v446 (F := Ideal) x0 x1 x2 x3 x4 x5 x6 (ix2 r q)
    = gradRow (Pc x2 x3 x4 x5) (chunk x0 x1 (⟨r.val / 2048, by omega⟩ : Fin 2)) (cotangent x6 ⟨r.val / 2048, by omega⟩) (r.val / 128 % 16) ⟨r.val % 128, by omega⟩ q := by
  have hrow : (⟨r.val % 2048, by omega⟩ : Fin 2048) = seq ⟨r.val / 128 % 16, by omega⟩ ⟨r.val % 128, by omega⟩ :=
    Fin.ext (by show r.val % 2048 = r.val / 128 % 16 * 128 + r.val % 128; omega)
  rw [gradRow]
  by_cases h : q.val < 1024
  · rw [dif_pos h]
    refine Eq.trans ?_ ((dX_eq x0 x1 x2 x3 x4 x5 x6 R h6 (⟨r.val / 2048, by omega⟩ : Fin 2) ⟨r.val / 128 % 16, by omega⟩ ⟨r.val % 128, by omega⟩
      ⟨q.val / 64 / 8, by omega⟩ ⟨q.val / 64 % 8, by omega⟩ ⟨q.val % 64, by omega⟩).trans (by rw [lane_of ⟨q.val, h⟩]))
    pointwise [val_main_v446, val_main_v443]
    refine (dif_pos h).trans ?_
    rw [hrow]
    exact congrArg (fun j => val_main_v442 (F := Ideal) x0 x1 x2 x3 x4 x5 x6 (ix4 _ _ j _)) (Fin.ext (by show q.val / 64 = q.val / 64 / 8 * 8 + q.val / 64 % 8; omega))
  · rw [dif_neg h]
    by_cases h2 : q.val < 1280
    · rw [if_pos h2]
      refine Eq.trans ?_ (dB_eq x0 x1 x2 x3 x4 x5 x6 R h6 (⟨r.val / 2048, by omega⟩ : Fin 2) ⟨r.val / 128 % 16, by omega⟩ ⟨r.val % 128, by omega⟩
        ⟨(q.val - 1024) / 128 % 2, by omega⟩ ⟨(q.val - 1024) % 128, by omega⟩)
      pointwise [val_main_v446, val_main_v444, val_main_v438]
      refine (dif_neg h).trans ((dif_pos (show q.val - 1024 < 256 by omega)).trans ?_)
      exact congrArg (fun j => val_main_v433 (F := Ideal) x0 x1 x2 x3 x4 x5 x6 (ix5 _ _ _ j _)) (Fin.ext (by show (q.val - 1024) / 128 = (q.val - 1024) / 128 % 2; omega))
    · rw [if_neg h2]
      refine Eq.trans ?_ (dC_eq x0 x1 x2 x3 x4 x5 x6 R h6 (⟨r.val / 2048, by omega⟩ : Fin 2) ⟨r.val / 128 % 16, by omega⟩ ⟨r.val % 128, by omega⟩
        ⟨(q.val - 1280) / 128 % 2, by omega⟩ ⟨(q.val - 1280) % 128, by omega⟩)
      pointwise [val_main_v446, val_main_v445, val_main_v437]
      refine (dif_neg h).trans ((dif_neg (show ¬ q.val - 1024 < 256 by omega)).trans ?_)
      exact congrArg₂ (fun i j => val_main_v436 (F := Ideal) x0 x1 x2 x3 x4 x5 x6 (ix5 _ _ _ i j))
        (Fin.ext (by show (q.val - 1024 - 256) / 128 = (q.val - 1280) / 128 % 2; omega)) (Fin.ext (by show (q.val - 1024 - 256) % 128 = (q.val - 1280) % 128; omega))

end Finite

end Cert.BwdRefIdeal.Equation
-- ==== Proof.BwdEquation.lean ====
/- The three arrays of the state-space backward call are the derivative's: the gradient at the convolved features, the one at the
   gate's argument among the array's other columns, and the gain's. -/
module

public import proofs.«01_k».proof.Proof.BwdArrays
public import proofs.«01_k».proof.Proof.BwdScan
public import proofs.«01_k».proof.Proof.Gen.Pre_finite_bwd

@[expose] public section

set_option maxRecDepth 16384

noncomputable section

namespace Cert.BwdRefIdeal.Equation

open Cert.BwdRefIdeal Cert.BwdRefIdeal.Read Cert.BwdRefIdeal.Gen Idealize.ShloMosaic Idealize.ShloMosaic.TcCoe Idealize.SL.Sem SsdMath
open Cert.SsdKernelIdeal.Array (chunk params)
open Cert.SsdRefIdeal.Equation (Pc)
open Cert.BwdKernelIdeal.Array (cotangent rb rk rl)
open RowNorm (Real')

variable (x0 : Vec Ideal ⟨3, ![2, 2048, 1536]⟩ .f32) (x1 : Vec Ideal ⟨3, ![2, 2048, 5648]⟩ .f32) (x2 x3 x4 : Vec Ideal ⟨1, ![16]⟩ .f32)
  (x5 : Vec Ideal ⟨1, ![1024]⟩ .f32) (x6 : Vec Ideal ⟨3, ![2, 2048, 1024]⟩ .f32) (x7 : Vec Ideal ⟨2, ![4096, 5760]⟩ .f32)

/-- The precondition says that the entries of all arrays but the last are real numbers. -/
theorem reals [Cert.Pre_finite_bwd.Facts]
    (h : (Cert.Pre_finite_bwd.fn (F := Ideal) x0 x1 x2 x3 x4 x5 x6 x7).1 = (fun _ => 1#1)
      ∧ (Cert.Pre_finite_bwd.fn (F := Ideal) x0 x1 x2 x3 x4 x5 x6 x7).2.1 = (fun _ => 1#1)
      ∧ (Cert.Pre_finite_bwd.fn (F := Ideal) x0 x1 x2 x3 x4 x5 x6 x7).2.2.1 = (fun _ => 1#1)
      ∧ (Cert.Pre_finite_bwd.fn (F := Ideal) x0 x1 x2 x3 x4 x5 x6 x7).2.2.2.1 = (fun _ => 1#1)
      ∧ (Cert.Pre_finite_bwd.fn (F := Ideal) x0 x1 x2 x3 x4 x5 x6 x7).2.2.2.2.1 = (fun _ => 1#1)
      ∧ (Cert.Pre_finite_bwd.fn (F := Ideal) x0 x1 x2 x3 x4 x5 x6 x7).2.2.2.2.2.1 = (fun _ => 1#1)
      ∧ (Cert.Pre_finite_bwd.fn (F := Ideal) x0 x1 x2 x3 x4 x5 x6 x7).2.2.2.2.2.2 = (fun _ => 1#1)) :
    (∀ b, RealRow (Pc x2 x3 x4 x5) (chunk x0 x1 b)) ∧ ∀ i, Real' (x6 i) := by
  obtain ⟨t0, t1, t2, t3, t4, t5, t6⟩ := h
  have r0 : ∀ i, Real' (x0 i) := fun i => RowNorm.real_of_test (congrFun t0 i)
  have r1 : ∀ i, Real' (x1 i) := fun i => RowNorm.real_of_test (congrFun t1 i)
  exact ⟨fun b =>
    { bias := fun h => RowNorm.real_of_test (congrFun t2 (ix1 h))
      alog := fun h => RowNorm.real_of_test (congrFun t3 (ix1 h))
      skip := fun h => RowNorm.real_of_test (congrFun t4 (ix1 h))
      gain := fun q => RowNorm.real_of_test (congrFun t5 (ix1 q))
      x := fun _ _ _ => r0 _
      b := fun _ _ _ _ => r0 _
      c := fun _ _ _ _ => r0 _
      d := fun _ _ _ => r1 _
      z := fun _ _ _ => r1 _ }, fun i => RowNorm.real_of_test (congrFun t6 i)⟩

/-- A row among its batch's. -/
theorem at_flat {A : Type} (f : Fin 2 → ℕ → Fin 128 → A) (b : Fin 2) (r : Fin 2048) (i : Fin 4096) (hi : i.val = b.val * 2048 + r.val) :
    f (rb i) (rk i) (rl i) = f b (r.val / 128) (at_ r) := by
  have h1 : rb i = b := Fin.ext (by show i.val / 2048 = b.val; omega)
  have h2 : rk i = r.val / 128 := by show i.val / 128 % 16 = r.val / 128; omega
  have h3 : rl i = at_ r := Fin.ext (by show i.val % 128 = r.val % 128; omega)
  rw [h1, h2, h3]

/-- One row of the gain's gradient. -/
abbrev gainAt (r : Fin 4096) (q : Fin 1024) : EReal :=
  dGain (chunk x0 x1 (rb r) (rk r)) (outRows (Pc x2 x3 x4 x5) (chunk x0 x1 (rb r)) (rk r)) (cotangent x6 (rb r) (rk r)) (rl r) q

/-- One row of the gradient at the gate's argument. -/
abbrev gateAt (r : Fin 4096) (q : Fin 1024) : EReal :=
  dGate (Pc x2 x3 x4 x5) (chunk x0 x1 (rb r) (rk r)) (outRows (Pc x2 x3 x4 x5) (chunk x0 x1 (rb r)) (rk r)) (cotangent x6 (rb r) (rk r)) (rl r) q

theorem gain_eq (q : Fin 1024) : val_main_v452 (F := Ideal) x0 x1 x2 x3 x4 x6 (ix2 (0 : Fin 1) q) = ∑ r : Fin 4096, gainAt x0 x1 x2 x3 x4 x5 x6 r q := by
  rw [dGain_eq x0 x1 x2 x3 x4 x5 x6 q]
  exact Fin.sum_mul_add_congr (L := 4096) fun b r h =>
    (at_flat (fun b k l => dGain (chunk x0 x1 b k) (outRows (Pc x2 x3 x4 x5) (chunk x0 x1 b) k) (cotangent x6 b k) l q) b r _ rfl).symm

section Finite

variable (R : ∀ b, RealRow (Pc x2 x3 x4 x5) (chunk x0 x1 b)) (h6 : ∀ i, Real' (x6 i))
include R h6

theorem gate_flat (r : Fin 4096) (q : Fin 1024) : val_main_v448 (F := Ideal) x0 x1 x2 x3 x4 x5 x6 (ix2 r q) = gateAt x0 x1 x2 x3 x4 x5 x6 r q := by
  obtain ⟨b, hb⟩ : ∃ b : Fin 2, b.val = r.val / 2048 := ⟨⟨r.val / 2048, by omega⟩, rfl⟩
  obtain ⟨s, hs⟩ : ∃ s : Fin 2048, s.val = r.val % 2048 := ⟨⟨r.val % 2048, by omega⟩, rfl⟩
  have a := at_flat (fun b k l => dGate (Pc x2 x3 x4 x5) (chunk x0 x1 b k) (outRows (Pc x2 x3 x4 x5) (chunk x0 x1 b) k) (cotangent x6 b k) l q) b s r (by omega)
  refine Eq.trans ?_ ((dGate_row x0 x1 x2 x3 x4 x5 x6 R h6 b s q).trans a.symm)
  pointwise [val_main_v448]
  exact congrArg₂ (fun b s => val_main_v267 (F := Ideal) x0 x1 x2 x3 x4 x5 x6 (ix3 b s q)) (Fin.ext hb.symm) (Fin.ext hs.symm)

theorem dproj_eq (r : Fin 4096) (j : Fin 5760) : val_main_v451 (F := Ideal) x0 x1 x2 x3 x4 x5 x6 x7 (ix2 r j)
    = if h : 3072 ≤ j.val ∧ j.val < 4096 then gateAt x0 x1 x2 x3 x4 x5 x6 r ⟨j.val - 3072, by omega⟩ else x7 (ix2 r j) := by
  by_cases h1 : j.val < 3072
  · rw [dif_neg (by omega)]
    pointwise [val_main_v451, val_main_v450, val_main_v447]
    exact dif_pos h1
  · by_cases h2 : j.val < 4096
    · rw [dif_pos ⟨by omega, h2⟩, ← gate_flat x0 x1 x2 x3 x4 x5 x6 R h6]
      pointwise [val_main_v451, val_main_v450]
      exact (dif_neg h1).trans (dif_pos (show j.val - 3072 < 1024 by omega))
    · rw [dif_neg (by omega)]
      pointwise [val_main_v451, val_main_v450, val_main_v449]
      refine (dif_neg h1).trans ((dif_neg (show ¬ j.val - 3072 < 1024 by omega)).trans ?_)
      exact congrArg (fun k => x7 (ix2 r k)) (Fin.ext (by show 4096 + (j.val - 3072 - 1024) = j.val; omega))

end Finite

end Cert.BwdRefIdeal.Equation

end
-- ==== Proof.BwdForward.lean ====
/- The forward lines before the state-space backward call are the reference's own, so what they leave for the call are the
   output's rows and the states carried into the chunks. -/
module

public import proofs.«01_k».proof.Proof.BwdStages
public import proofs.«01_k».proof.Proof.BwdArray

@[expose] public section

set_option maxRecDepth 16384

noncomputable section

namespace Cert.BwdKernelIdeal.Array

open Cert.BwdKernelIdeal Cert.BwdKernelIdeal.Gen Idealize.ShloMosaic Idealize.ShloMosaic.TcCoe Idealize.SL.Sem SsdMath
open Cert.SsdKernelIdeal.Array (chunk params)
open Cert.BwdRefIdeal.Read (val_main_v5 val_main_v17 val_main_v23 val_main_v24 val_main_v25 val_main_v33 val_main_v40 val_main_v54 val_main_v58 val_main_v60 val_main_v61 val_main_v192 val_main_v206 val_main_v207)

variable (m : (ℓ : Loc nD τ sig) → Buf (Elt Ideal) ℓ) (c : Dev nD)

abbrev a0 : Vec Ideal S2x2048x1536 .f32 := m (c, Proc.tc.devRef main_arg0)
abbrev a1 : Vec Ideal S2x2048x5648 .f32 := m (c, Proc.tc.devRef main_arg1)
abbrev a2 : Vec Ideal S16 .f32 := m (c, Proc.tc.devRef main_arg2)
abbrev a3 : Vec Ideal S16 .f32 := m (c, Proc.tc.devRef main_arg3)
abbrev a4 : Vec Ideal S16 .f32 := m (c, Proc.tc.devRef main_arg4)

/-! ### Up to the chunks' own products -/

theorem head_v5 : (headV m c (Proc.devRef .tc main_v5) : Vec Ideal _ .f32) = val_main_v5 (F := Ideal) (a0 m c) := by
  rw [headV]
  simp only [headOps, hostOps0, hostOps0_1, hostOps0_2, hostOps0_3, hostOps0_4, hostOps0_5, hostOps0_6, hostOps0_7, List.cons_append, List.nil_append]
  entry_read
  rfl
theorem head_v17 : (headV m c (Proc.devRef .tc main_v17) : Vec Ideal _ .f32) = val_main_v17 (F := Ideal) (a0 m c) (a1 m c) (a2 m c) := by
  rw [headV]
  simp only [headOps, hostOps0, hostOps0_1, hostOps0_2, hostOps0_3, hostOps0_4, hostOps0_5, hostOps0_6, hostOps0_7, List.cons_append, List.nil_append]
  entry_read
  rfl
theorem head_v23 : (headV m c (Proc.devRef .tc main_v23) : Vec Ideal _ .f32) = val_main_v23 (F := Ideal) (a0 m c) := by
  rw [headV]
  simp only [headOps, hostOps0, hostOps0_1, hostOps0_2, hostOps0_3, hostOps0_4, hostOps0_5, hostOps0_6, hostOps0_7, List.cons_append, List.nil_append]
  entry_read
  rfl
theorem head_v24 : (headV m c (Proc.devRef .tc main_v24) : Vec Ideal _ .f32) = val_main_v24 (F := Ideal) (a0 m c) := by
  rw [headV]
  simp only [headOps, hostOps0, hostOps0_1, hostOps0_2, hostOps0_3, hostOps0_4, hostOps0_5, hostOps0_6, hostOps0_7, List.cons_append, List.nil_append]
  entry_read
  rfl
theorem head_v25 : (headV m c (Proc.devRef .tc main_v25) : Vec Ideal _ .f32) = val_main_v25 (F := Ideal) (a1 m c) (a2 m c) (a3 m c) := by
  rw [headV]
  simp only [headOps, hostOps0, hostOps0_1, hostOps0_2, hostOps0_3, hostOps0_4, hostOps0_5, hostOps0_6, hostOps0_7, List.cons_append, List.nil_append]
  entry_read
  rfl
theorem head_v33 : (headV m c (Proc.devRef .tc main_v33) : Vec Ideal _ .f32) = val_main_v33 (F := Ideal) (a1 m c) (a2 m c) (a3 m c) := by
  rw [headV]
  simp only [headOps, hostOps0, hostOps0_1, hostOps0_2, hostOps0_3, hostOps0_4, hostOps0_5, hostOps0_6, hostOps0_7, List.cons_append, List.nil_append]
  entry_read
  rfl

/-! ### To the scan's first state -/

theorem fresh_v40 : (freshV m c (Proc.devRef .tc main_v40) : Vec Ideal _ .f32) = Cert.BwdRefIdeal.Read.val_main_v40 (F := Ideal) (a0 m c) (a1 m c) (a2 m c) (a3 m c) := by
  rw [freshV]
  simp only [freshOps, hostOps0_8, List.take_succ_cons, List.take_zero]
  entry_read
  rw [head_v17, head_v24, head_v23, head_v33]
  rfl
theorem fresh_v54 : (freshV m c (Proc.devRef .tc main_v54) : Vec Ideal _ .f32) = Cert.BwdRefIdeal.Read.val_main_v54 (F := Ideal) := by
  rw [freshV]
  simp only [freshOps, hostOps0_8, List.take_succ_cons, List.take_zero]
  entry_read
  rfl
theorem fresh_v58 : (freshV m c (Proc.devRef .tc main_v58) : Vec Ideal _ .f32) = Cert.BwdRefIdeal.Read.val_main_v58 (F := Ideal) (a0 m c) (a1 m c) (a2 m c) (a3 m c) := by
  rw [freshV]
  simp only [freshOps, hostOps0_8, List.take_succ_cons, List.take_zero]
  entry_read
  rw [head_v17, head_v25, head_v23]
  rfl
theorem fresh_v60 : (freshV m c (Proc.devRef .tc main_v60) : Vec Ideal _ .f32) = Cert.BwdRefIdeal.Read.val_main_v60 (F := Ideal) (a1 m c) (a2 m c) (a3 m c) := by
  rw [freshV]
  simp only [freshOps, hostOps0_8, List.take_succ_cons, List.take_zero]
  entry_read
  rw [head_v25]
  rfl
theorem fresh_v61 : (freshV m c (Proc.devRef .tc main_v61) : Vec Ideal _ .f32) = Cert.BwdRefIdeal.Read.val_main_v61 (F := Ideal) := by
  rw [freshV]
  simp only [freshOps, hostOps0_8, List.take_succ_cons, List.take_zero]
  entry_read
  rfl
theorem fresh_v5 : (freshV m c (Proc.devRef .tc main_v5) : Vec Ideal _ .f32) = Cert.BwdRefIdeal.Read.val_main_v5 (F := Ideal) (a0 m c) := by
  rw [freshV]
  simp only [freshOps, hostOps0_8, List.take_succ_cons, List.take_zero]
  entry_read
  exact head_v5 m c
theorem fresh_v24 : (freshV m c (Proc.devRef .tc main_v24) : Vec Ideal _ .f32) = Cert.BwdRefIdeal.Read.val_main_v24 (F := Ideal) (a0 m c) := by
  rw [freshV]
  simp only [freshOps, hostOps0_8, List.take_succ_cons, List.take_zero]
  entry_read
  exact head_v24 m c
theorem fresh_v25 : (freshV m c (Proc.devRef .tc main_v25) : Vec Ideal _ .f32) = Cert.BwdRefIdeal.Read.val_main_v25 (F := Ideal) (a1 m c) (a2 m c) (a3 m c) := by
  rw [freshV]
  simp only [freshOps, hostOps0_8, List.take_succ_cons, List.take_zero]
  entry_read
  exact head_v25 m c

/-! ### The scan: its steps, the states side by side, the stack -/

abbrev stepOps : List (HloOp τ sig (Elt Ideal)) := (hostOps0_8.drop 30).take 112
abbrev layOps : List (HloOp τ sig (Elt Ideal)) := (hostOps0_8.drop 142).take 16
abbrev tailOps : List (HloOp τ sig (Elt Ideal)) := (hostOps0_8.drop 158).take 3

def stepV : Valuation τ sig (Elt Ideal) := StableHlo.after stepOps (freshV m c)
def layV : Valuation τ sig (Elt Ideal) := StableHlo.after layOps (stepV m c)
theorem scanV_eq : scanV m c = StableHlo.after tailOps (layV m c) := rfl

theorem step_v68 : (stepV m c (Proc.devRef .tc main_v68) : Vec Ideal _ .f32) = Cert.BwdRefIdeal.Read.val_main_v68 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v75 : (stepV m c (Proc.devRef .tc main_v75) : Vec Ideal _ .f32) = Cert.BwdRefIdeal.Read.val_main_v75 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v82 : (stepV m c (Proc.devRef .tc main_v82) : Vec Ideal _ .f32) = Cert.BwdRefIdeal.Read.val_main_v82 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v89 : (stepV m c (Proc.devRef .tc main_v89) : Vec Ideal _ .f32) = Cert.BwdRefIdeal.Read.val_main_v89 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v96 : (stepV m c (Proc.devRef .tc main_v96) : Vec Ideal _ .f32) = Cert.BwdRefIdeal.Read.val_main_v96 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v103 : (stepV m c (Proc.devRef .tc main_v103) : Vec Ideal _ .f32) = Cert.BwdRefIdeal.Read.val_main_v103 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v110 : (stepV m c (Proc.devRef .tc main_v110) : Vec Ideal _ .f32) = Cert.BwdRefIdeal.Read.val_main_v110 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v117 : (stepV m c (Proc.devRef .tc main_v117) : Vec Ideal _ .f32) = Cert.BwdRefIdeal.Read.val_main_v117 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v124 : (stepV m c (Proc.devRef .tc main_v124) : Vec Ideal _ .f32) = Cert.BwdRefIdeal.Read.val_main_v124 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v131 : (stepV m c (Proc.devRef .tc main_v131) : Vec Ideal _ .f32) = Cert.BwdRefIdeal.Read.val_main_v131 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v138 : (stepV m c (Proc.devRef .tc main_v138) : Vec Ideal _ .f32) = Cert.BwdRefIdeal.Read.val_main_v138 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v145 : (stepV m c (Proc.devRef .tc main_v145) : Vec Ideal _ .f32) = Cert.BwdRefIdeal.Read.val_main_v145 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v152 : (stepV m c (Proc.devRef .tc main_v152) : Vec Ideal _ .f32) = Cert.BwdRefIdeal.Read.val_main_v152 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v159 : (stepV m c (Proc.devRef .tc main_v159) : Vec Ideal _ .f32) = Cert.BwdRefIdeal.Read.val_main_v159 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v166 : (stepV m c (Proc.devRef .tc main_v166) : Vec Ideal _ .f32) = Cert.BwdRefIdeal.Read.val_main_v166 (F := Ideal) (a0 m c) (a1 m c) (a2 m c) (a3 m c) := by
  rw [stepV]
  simp only [stepOps, hostOps0_8, List.drop_succ_cons, List.drop_zero, List.take_succ_cons, List.take_zero]
  entry_read
  rw [fresh_v54, fresh_v58, fresh_v60]
  rfl
theorem step_v54 : (stepV m c (Proc.devRef .tc main_v54) : Vec Ideal _ .f32) = Cert.BwdRefIdeal.Read.val_main_v54 (F := Ideal) := by
  rw [stepV]
  simp only [stepOps, hostOps0_8, List.drop_succ_cons, List.drop_zero, List.take_succ_cons, List.take_zero]
  entry_read
  exact fresh_v54 m c
theorem step_v61 : (stepV m c (Proc.devRef .tc main_v61) : Vec Ideal _ .f32) = Cert.BwdRefIdeal.Read.val_main_v61 (F := Ideal) := by
  rw [stepV]
  simp only [stepOps, hostOps0_8, List.drop_succ_cons, List.drop_zero, List.take_succ_cons, List.take_zero]
  entry_read
  exact fresh_v61 m c
theorem step_v40 : (stepV m c (Proc.devRef .tc main_v40) : Vec Ideal _ .f32) = Cert.BwdRefIdeal.Read.val_main_v40 (F := Ideal) (a0 m c) (a1 m c) (a2 m c) (a3 m c) := by
  rw [stepV]
  simp only [stepOps, hostOps0_8, List.drop_succ_cons, List.drop_zero, List.take_succ_cons, List.take_zero]
  entry_read
  exact fresh_v40 m c
theorem step_v5 : (stepV m c (Proc.devRef .tc main_v5) : Vec Ideal _ .f32) = Cert.BwdRefIdeal.Read.val_main_v5 (F := Ideal) (a0 m c) := by
  rw [stepV]
  simp only [stepOps, hostOps0_8, List.drop_succ_cons, List.drop_zero, List.take_succ_cons, List.take_zero]
  entry_read
  exact fresh_v5 m c
theorem step_v24 : (stepV m c (Proc.devRef .tc main_v24) : Vec Ideal _ .f32) = Cert.BwdRefIdeal.Read.val_main_v24 (F := Ideal) (a0 m c) := by
  rw [stepV]
  simp only [stepOps, hostOps0_8, List.drop_succ_cons, List.drop_zero, List.take_succ_cons, List.take_zero]
  entry_read
  exact fresh_v24 m c
theorem step_v25 : (stepV m c (Proc.devRef .tc main_v25) : Vec Ideal _ .f32) = Cert.BwdRefIdeal.Read.val_main_v25 (F := Ideal) (a1 m c) (a2 m c) (a3 m c) := by
  rw [stepV]
  simp only [stepOps, hostOps0_8, List.drop_succ_cons, List.drop_zero, List.take_succ_cons, List.take_zero]
  entry_read
  exact fresh_v25 m c
theorem lay_v174 : (layV m c (Proc.devRef .tc main_v174) : Vec Ideal _ .f32) = Cert.BwdRefIdeal.Read.val_main_v174 (F := Ideal) := by
  rw [layV]
  simp only [layOps, hostOps0_8, List.drop_succ_cons, List.drop_zero, List.take_succ_cons, List.take_zero]
  entry_read
  rw [step_v54]
  rfl
theorem lay_v175 : (layV m c (Proc.devRef .tc main_v175) : Vec Ideal _ .f32) = Cert.BwdRefIdeal.Read.val_main_v175 (F := Ideal) (a0 m c) (a1 m c) (a2 m c) (a3 m c) := by
  rw [layV]
  simp only [layOps, hostOps0_8, List.drop_succ_cons, List.drop_zero, List.take_succ_cons, List.take_zero]
  entry_read
  rw [step_v68]
  rfl
theorem lay_v176 : (layV m c (Proc.devRef .tc main_v176) : Vec Ideal _ .f32) = Cert.BwdRefIdeal.Read.val_main_v176 (F := Ideal) (a0 m c) (a1 m c) (a2 m c) (a3 m c) := by
  rw [layV]
  simp only [layOps, hostOps0_8, List.drop_succ_cons, List.drop_zero, List.take_succ_cons, List.take_zero]
  entry_read
  rw [step_v75]
  rfl
theorem lay_v177 : (layV m c (Proc.devRef .tc main_v177) : Vec Ideal _ .f32) = Cert.BwdRefIdeal.Read.val_main_v177 (F := Ideal) (a0 m c) (a1 m c) (a2 m c) (a3 m c) := by
  rw [layV]
  simp only [layOps, hostOps0_8, List.drop_succ_cons, List.drop_zero, List.take_succ_cons, List.take_zero]
  entry_read
  rw [step_v82]
  rfl
theorem lay_v178 : (layV m c (Proc.devRef .tc main_v178) : Vec Ideal _ .f32) = Cert.BwdRefIdeal.Read.val_main_v178 (F := Ideal) (a0 m c) (a1 m c) (a2 m c) (a3 m c) := by
  rw [layV]
  simp only [layOps, hostOps0_8, List.drop_succ_cons, List.drop_zero, List.take_succ_cons, List.take_zero]
  entry_read
  rw [step_v89]
  rfl
theorem lay_v179 : (layV m c (Proc.devRef .tc main_v179) : Vec Ideal _ .f32) = Cert.BwdRefIdeal.Read.val_main_v179 (F := Ideal) (a0 m c) (a1 m c) (a2 m c) (a3 m c) := by
  rw [layV]
  simp only [layOps, hostOps0_8, List.drop_succ_cons, List.drop_zero, List.take_succ_cons, List.take_zero]
  entry_read
  rw [step_v96]
  rfl
theorem lay_v180 : (layV m c (Proc.devRef .tc main_v180) : Vec Ideal _ .f32) = Cert.BwdRefIdeal.Read.val_main_v180 (F := Ideal) (a0 m c) (a1 m c) (a2 m c) (a3 m c) := by
  rw [layV]
  simp only [layOps, hostOps0_8, List.drop_succ_cons, List.drop_zero, List.take_succ_cons, List.take_zero]
  entry_read
  rw [step_v103]
  rfl
theorem lay_v181 : (layV m c (Proc.devRef .tc main_v181) : Vec Ideal _ .f32) = Cert.BwdRefIdeal.Read.val_main_v181 (F := Ideal) (a0 m c) (a1 m c) (a2 m c) (a3 m c) := by
  rw [layV]
  simp only [layOps, hostOps0_8, List.drop_succ_cons, List.drop_zero, List.take_succ_cons, List.take_zero]
  entry_read
  rw [step_v110]
  rfl
theorem lay_v182 : (layV m c (Proc.devRef .tc main_v182) : Vec Ideal _ .f32) = Cert.BwdRefIdeal.Read.val_main_v182 (F := Ideal) (a0 m c) (a1 m c) (a2 m c) (a3 m c) := by
  rw [layV]
  simp only [layOps, hostOps0_8, List.drop_succ_cons, List.drop_zero, List.take_succ_cons, List.take_zero]
  entry_read
  rw [step_v117]
  rfl
theorem lay_v183 : (layV m c (Proc.devRef .tc main_v183) : Vec Ideal _ .f32) = Cert.BwdRefIdeal.Read.val_main_v183 (F := Ideal) (a0 m c) (a1 m c) (a2 m c) (a3 m c) := by
  rw [layV]
  simp only [layOps, hostOps0_8, List.drop_succ_cons, List.drop_zero, List.take_succ_cons, List.take_zero]
  entry_read
  rw [step_v124]
  rfl
theorem lay_v184 : (layV m c (Proc.devRef .tc main_v184) : Vec Ideal _ .f32) = Cert.BwdRefIdeal.Read.val_main_v184 (F := Ideal) (a0 m c) (a1 m c) (a2 m c) (a3 m c) := by
  rw [layV]
  simp only [layOps, hostOps0_8, List.drop_succ_cons, List.drop_zero, List.take_succ_cons, List.take_zero]
  entry_read
  rw [step_v131]
  rfl
theorem lay_v185 : (layV m c (Proc.devRef .tc main_v185) : Vec Ideal _ .f32) = Cert.BwdRefIdeal.Read.val_main_v185 (F := Ideal) (a0 m c) (a1 m c) (a2 m c) (a3 m c) := by
  rw [layV]
  simp only [layOps, hostOps0_8, List.drop_succ_cons, List.drop_zero, List.take_succ_cons, List.take_zero]
  entry_read
  rw [step_v138]
  rfl
theorem lay_v186 : (layV m c (Proc.devRef .tc main_v186) : Vec Ideal _ .f32) = Cert.BwdRefIdeal.Read.val_main_v186 (F := Ideal) (a0 m c) (a1 m c) (a2 m c) (a3 m c) := by
  rw [layV]
  simp only [layOps, hostOps0_8, List.drop_succ_cons, List.drop_zero, List.take_succ_cons, List.take_zero]
  entry_read
  rw [step_v145]
  rfl
theorem lay_v187 : (layV m c (Proc.devRef .tc main_v187) : Vec Ideal _ .f32) = Cert.BwdRefIdeal.Read.val_main_v187 (F := Ideal) (a0 m c) (a1 m c) (a2 m c) (a3 m c) := by
  rw [layV]
  simp only [layOps, hostOps0_8, List.drop_succ_cons, List.drop_zero, List.take_succ_cons, List.take_zero]
  entry_read
  rw [step_v152]
  rfl
theorem lay_v188 : (layV m c (Proc.devRef .tc main_v188) : Vec Ideal _ .f32) = Cert.BwdRefIdeal.Read.val_main_v188 (F := Ideal) (a0 m c) (a1 m c) (a2 m c) (a3 m c) := by
  rw [layV]
  simp only [layOps, hostOps0_8, List.drop_succ_cons, List.drop_zero, List.take_succ_cons, List.take_zero]
  entry_read
  rw [step_v159]
  rfl
theorem lay_v189 : (layV m c (Proc.devRef .tc main_v189) : Vec Ideal _ .f32) = Cert.BwdRefIdeal.Read.val_main_v189 (F := Ideal) (a0 m c) (a1 m c) (a2 m c) (a3 m c) := by
  rw [layV]
  simp only [layOps, hostOps0_8, List.drop_succ_cons, List.drop_zero, List.take_succ_cons, List.take_zero]
  entry_read
  rw [step_v166]
  rfl
theorem lay_v61 : (layV m c (Proc.devRef .tc main_v61) : Vec Ideal _ .f32) = Cert.BwdRefIdeal.Read.val_main_v61 (F := Ideal) := by
  rw [layV]
  simp only [layOps, hostOps0_8, List.drop_succ_cons, List.drop_zero, List.take_succ_cons, List.take_zero]
  entry_read
  exact step_v61 m c
theorem lay_v40 : (layV m c (Proc.devRef .tc main_v40) : Vec Ideal _ .f32) = Cert.BwdRefIdeal.Read.val_main_v40 (F := Ideal) (a0 m c) (a1 m c) (a2 m c) (a3 m c) := by
  rw [layV]
  simp only [layOps, hostOps0_8, List.drop_succ_cons, List.drop_zero, List.take_succ_cons, List.take_zero]
  entry_read
  exact step_v40 m c
theorem lay_v5 : (layV m c (Proc.devRef .tc main_v5) : Vec Ideal _ .f32) = Cert.BwdRefIdeal.Read.val_main_v5 (F := Ideal) (a0 m c) := by
  rw [layV]
  simp only [layOps, hostOps0_8, List.drop_succ_cons, List.drop_zero, List.take_succ_cons, List.take_zero]
  entry_read
  exact step_v5 m c
theorem lay_v24 : (layV m c (Proc.devRef .tc main_v24) : Vec Ideal _ .f32) = Cert.BwdRefIdeal.Read.val_main_v24 (F := Ideal) (a0 m c) := by
  rw [layV]
  simp only [layOps, hostOps0_8, List.drop_succ_cons, List.drop_zero, List.take_succ_cons, List.take_zero]
  entry_read
  exact step_v24 m c
theorem lay_v25 : (layV m c (Proc.devRef .tc main_v25) : Vec Ideal _ .f32) = Cert.BwdRefIdeal.Read.val_main_v25 (F := Ideal) (a1 m c) (a2 m c) (a3 m c) := by
  rw [layV]
  simp only [layOps, hostOps0_8, List.drop_succ_cons, List.drop_zero, List.take_succ_cons, List.take_zero]
  entry_read
  exact step_v25 m c

theorem tail_stack (V0 : Valuation τ sig (Elt Ideal)) : (StableHlo.after tailOps V0 (Proc.devRef .tc main_v192) : Vec Ideal S2x16x2x8x64x128 .f32) =
    transpose S2x16x2x8x64x128 [1, 0, 2, 3, 4, 5] (concatenate S16x2x2x8x64x128 0 [⟨S0x2x2x8x64x128, (V0 (Proc.devRef .tc main_v61) : Vec Ideal S0x2x2x8x64x128 .f32)⟩,
      ⟨S16x2x2x8x64x128, (concatenate S16x2x2x8x64x128 0 [⟨S1x2x2x8x64x128, (V0 (Proc.devRef .tc main_v174) : Vec Ideal S1x2x2x8x64x128 .f32)⟩, ⟨S1x2x2x8x64x128, (V0 (Proc.devRef .tc main_v175) : Vec Ideal S1x2x2x8x64x128 .f32)⟩, ⟨S1x2x2x8x64x128, (V0 (Proc.devRef .tc main_v176) : Vec Ideal S1x2x2x8x64x128 .f32)⟩, ⟨S1x2x2x8x64x128, (V0 (Proc.devRef .tc main_v177) : Vec Ideal S1x2x2x8x64x128 .f32)⟩, ⟨S1x2x2x8x64x128, (V0 (Proc.devRef .tc main_v178) : Vec Ideal S1x2x2x8x64x128 .f32)⟩, ⟨S1x2x2x8x64x128, (V0 (Proc.devRef .tc main_v179) : Vec Ideal S1x2x2x8x64x128 .f32)⟩, ⟨S1x2x2x8x64x128, (V0 (Proc.devRef .tc main_v180) : Vec Ideal S1x2x2x8x64x128 .f32)⟩, ⟨S1x2x2x8x64x128, (V0 (Proc.devRef .tc main_v181) : Vec Ideal S1x2x2x8x64x128 .f32)⟩, ⟨S1x2x2x8x64x128, (V0 (Proc.devRef .tc main_v182) : Vec Ideal S1x2x2x8x64x128 .f32)⟩, ⟨S1x2x2x8x64x128, (V0 (Proc.devRef .tc main_v183) : Vec Ideal S1x2x2x8x64x128 .f32)⟩, ⟨S1x2x2x8x64x128, (V0 (Proc.devRef .tc main_v184) : Vec Ideal S1x2x2x8x64x128 .f32)⟩, ⟨S1x2x2x8x64x128, (V0 (Proc.devRef .tc main_v185) : Vec Ideal S1x2x2x8x64x128 .f32)⟩, ⟨S1x2x2x8x64x128, (V0 (Proc.devRef .tc main_v186) : Vec Ideal S1x2x2x8x64x128 .f32)⟩, ⟨S1x2x2x8x64x128, (V0 (Proc.devRef .tc main_v187) : Vec Ideal S1x2x2x8x64x128 .f32)⟩, ⟨S1x2x2x8x64x128, (V0 (Proc.devRef .tc main_v188) : Vec Ideal S1x2x2x8x64x128 .f32)⟩, ⟨S1x2x2x8x64x128, (V0 (Proc.devRef .tc main_v189) : Vec Ideal S1x2x2x8x64x128 .f32)⟩]
        concatenates_S1x2x2x8x64x128_S1x2x2x8x64x128_S1x2x2x8x64x128_S1x2x2x8x64x128_S1x2x2x8x64x128_S1x2x2x8x64x128_S1x2x2x8x64x128_S1x2x2x8x64x128_S1x2x2x8x64x128_S1x2x2x8x64x128_S1x2x2x8x64x128_S1x2x2x8x64x128_S1x2x2x8x64x128_S1x2x2x8x64x128_S1x2x2x8x64x128_S1x2x2x8x64x128_S16x2x2x8x64x128_d0 : Vec Ideal S16x2x2x8x64x128 .f32)⟩]
      concatenates_S0x2x2x8x64x128_S16x2x2x8x64x128_S16x2x2x8x64x128_d0) transposes_S16x2x2x8x64x128_S2x16x2x8x64x128_1_0_2_3_4_5 := by
  with_unfolding_all rfl

theorem scan_v192 : (scanV m c (Proc.devRef .tc main_v192) : Vec Ideal _ .f32) = Cert.BwdRefIdeal.Read.val_main_v192 (F := Ideal) (a0 m c) (a1 m c) (a2 m c) (a3 m c) := by
  rw [scanV_eq, tail_stack, lay_v61, lay_v174, lay_v175, lay_v176, lay_v177, lay_v178, lay_v179, lay_v180, lay_v181, lay_v182, lay_v183, lay_v184, lay_v185, lay_v186, lay_v187, lay_v188, lay_v189]
  rfl
theorem scan_v40 : (scanV m c (Proc.devRef .tc main_v40) : Vec Ideal _ .f32) = Cert.BwdRefIdeal.Read.val_main_v40 (F := Ideal) (a0 m c) (a1 m c) (a2 m c) (a3 m c) := by
  refine Eq.trans ?_ (lay_v40 m c)
  rw [scanV_eq]
  generalize layV m c = V0
  with_unfolding_all rfl
theorem scan_v5 : (scanV m c (Proc.devRef .tc main_v5) : Vec Ideal _ .f32) = Cert.BwdRefIdeal.Read.val_main_v5 (F := Ideal) (a0 m c) := by
  refine Eq.trans ?_ (lay_v5 m c)
  rw [scanV_eq]
  generalize layV m c = V0
  with_unfolding_all rfl
theorem scan_v24 : (scanV m c (Proc.devRef .tc main_v24) : Vec Ideal _ .f32) = Cert.BwdRefIdeal.Read.val_main_v24 (F := Ideal) (a0 m c) := by
  refine Eq.trans ?_ (lay_v24 m c)
  rw [scanV_eq]
  generalize layV m c = V0
  with_unfolding_all rfl
theorem scan_v25 : (scanV m c (Proc.devRef .tc main_v25) : Vec Ideal _ .f32) = Cert.BwdRefIdeal.Read.val_main_v25 (F := Ideal) (a1 m c) (a2 m c) (a3 m c) := by
  refine Eq.trans ?_ (lay_v25 m c)
  rw [scanV_eq]
  generalize layV m c = V0
  with_unfolding_all rfl

theorem scan_arg4 : (scanV m c (Proc.devRef .tc main_arg4) : Vec Ideal S16 .f32) = a4 m c := by
  rw [show scanV m c = StableHlo.after (headOps ++ (freshOps ++ scanOps)) (fun b => m (c, b)) from rfl]
  exact StableHlo.after_of_writes_sub (W := written.take 223) _ _ (StableHlo.forall_writes_sub_of_map rfl) (by decide +kernel)

/-! ### What is handed to the call -/

theorem out_v207 : (outV m c (Proc.devRef .tc main_v207) : Vec Ideal S4096x1024 .f32)
    = shapeCast _ (val_main_v206 (F := Ideal) (a0 m c) (a1 m c) (a2 m c) (a3 m c) (a4 m c)) shapeCasts_S2x2048x16x64_S4096x1024 := by
  rw [outV]
  simp only [outOps, hostOps0_8, List.drop_succ_cons, List.drop_zero, List.take_succ_cons, List.take_zero]
  entry_read
  rw [scan_v192, scan_v24, scan_v25, scan_v40, scan_v5, scan_arg4]
  rfl

theorem out_v209 : (outV m c (Proc.devRef .tc main_v209) : Vec Ideal S32x128x1024 .f32)
    = shapeCast _ (transpose S2x16x128x2x8x64 [0, 1, 5, 2, 3, 4] (val_main_v192 (F := Ideal) (a0 m c) (a1 m c) (a2 m c) (a3 m c))
        transposes_S2x16x2x8x64x128_S2x16x128x2x8x64_0_1_5_2_3_4 : FVec Ideal S2x16x128x2x8x64 .f32) shapeCasts_S2x16x128x2x8x64_S32x128x1024 := by
  rw [outV]
  simp only [outOps, hostOps0_8, List.drop_succ_cons, List.drop_zero, List.take_succ_cons, List.take_zero]
  entry_read
  rw [scan_v192]
  rfl

theorem saved : Saved m where
  out c b k l q r hk hr := by
    rw [saved_out, out_v207]
    have e := Cert.BwdRefIdeal.Equation.out_eq (a0 m c) (a1 m c) (a2 m c) (a3 m c) (a4 m c) (m (c, Proc.tc.devRef main_arg5)) b (⟨128 * k + l.val, by omega⟩ : Fin 2048) q
    pointwise [val_main_v207] at e
    have e1 : (128 * k + l.val) / 128 = k := by omega
    have e2 : ∀ h, (⟨(128 * k + l.val) % 128, h⟩ : Fin 128) = l := fun h => Fin.ext (by show (128 * k + l.val) % 128 = l.val; omega)
    simp only [e1, e2] at e
    refine Eq.trans ?_ e
    have i1 : ∀ h, (⟨r.val / 2048, h⟩ : Fin 2) = b := fun h => Fin.ext (by show r.val / 2048 = b.val; omega)
    have i2 : ∀ h h', (⟨r.val % 2048, h⟩ : Fin 2048) = ⟨128 * k + l.val, h'⟩ := fun h h' => Fin.ext (by show r.val % 2048 = 128 * k + l.val; omega)
    pointwise
    rw [i1, i2]
  state c b k n q j hk hj := by
    rw [saved_states, out_v209]
    have e := Cert.BwdRefIdeal.Equation.carry_eq (a0 m c) (a1 m c) (a2 m c) (a3 m c) (a4 m c) (m (c, Proc.tc.devRef main_arg5)) b ⟨k, hk⟩ ⟨q.val / 64 / 8, by omega⟩ ⟨q.val / 64 % 8, by omega⟩ ⟨q.val % 64, by omega⟩ n
    rw [Cert.SsdRefIdeal.Equation.lane_of] at e
    refine Eq.trans ?_ e
    have i1 : ∀ h, (⟨j.val / 16, h⟩ : Fin 2) = b := fun h => Fin.ext (by show j.val / 16 = b.val; omega)
    have i2 : ∀ h, (⟨j.val % 16, h⟩ : Fin 16) = ⟨k, hk⟩ := fun h => Fin.ext (by show j.val % 16 = k; omega)
    have i3 : ∀ h h', (⟨q.val / 512, h⟩ : Fin 2) = ⟨q.val / 64 / 8, h'⟩ := fun h h' => Fin.ext (by show q.val / 512 = q.val / 64 / 8; omega)
    pointwise
    rw [i1, i2, i3]

end Cert.BwdKernelIdeal.Array
-- ==== Proof.BwdValue.lean ====
/- The hand-written gradient of the chunked scan with its gate and norm is the plain layer's derivative.
   The assembly: the arrays the kernel leaves, the plain derivative, and the equations between them. -/
module

public import proofs.«01_k».proof.Defs
public import proofs.«01_k».proof.Proof.Gen.BwdKernelIdeal.Value
public import proofs.«01_k».proof.Proof.Gen.BwdRefIdeal.Run
public import proofs.«01_k».proof.Proof.Gen.BwdRefIdeal.Read
public import proofs.«01_k».proof.Proof.Gen.Pre_finite_bwd
public import proofs.«01_k».proof.Proof.BwdEquation
public import proofs.«01_k».proof.Proof.BwdForward

@[expose] public section

noncomputable section

namespace Cert.Proof.Bwd

open Idealize.ShloMosaic Idealize.ShloMosaic.StableHlo Idealize.ShloMosaic.TcCoe Idealize.SL.Sem

/-- The hand-written gradient of the chunked scan with its gate and norm is the plain layer's derivative. -/
theorem value : Cert.algebraic_BwdKernelIdeal_BwdRefIdeal_pre_finite_bwd (hBwdKernelIdeal := Cert.BwdKernelIdeal.Gen.facts) (hBwdRefIdeal := Cert.BwdRefIdeal.Gen.facts) (hPre_finite_bwd := Cert.Pre_finite_bwd.Gen.facts) := by
  intro m ρ m' ρ' hpre hag
  have H : Cert.BwdKernelIdeal.Array.Saved m := Cert.BwdKernelIdeal.Array.saved m
  have hs : ∀ (c : Dev Cert.BwdKernelIdeal.nD) q, ∃ r : ℝ, (Cert.BwdKernelIdeal.Array.parAt m c).skip (SsdMath.head q) = (r : EReal) :=
    fun c q => ((Cert.BwdRefIdeal.Equation.reals _ _ _ _ _ _ _ _ (hpre c)).1 0).skip _
  refine ⟨fun c => Cert.BwdKernelIdeal.Array.dxWhole m c, fun c => Cert.BwdKernelIdeal.Array.dprojWhole m c, fun c => Cert.BwdKernelIdeal.Array.gainWhole m c,
    (θ_run _ _ _).mono (fun _ h c => ?_) (Cert.BwdKernelIdeal.Value.run_blocks m ρ),
    (θ_run _ _ _).mono (fun _ h c => ?_) (Cert.BwdRefIdeal.Value.run (F := Ideal) m' ρ')⟩
  · exact ⟨(h c).1.trans (Cert.BwdKernelIdeal.Array.dx_array H hs c), (h c).2.1.trans (Cert.BwdKernelIdeal.Array.dz_array H c),
      (h c).2.2.2.2.1.trans (Cert.BwdKernelIdeal.Array.dgs_array H c), (h c).2.2.2.2.2⟩
  · obtain ⟨h0, h1, h2, h3, h4, h5, h6, h7⟩ := hag c
    rw [← launchContents_devRef m' c] at h0 h1 h2 h3 h4 h5 h6 h7
    obtain ⟨R, u⟩ := Cert.BwdRefIdeal.Equation.reals _ _ _ _ _ _ _ _ (hpre c)
    refine ⟨(h c).1.trans ?_, (h c).2.1.trans ?_, (h c).2.2.1.trans ?_, (h c).2.2.2⟩
    · refine (Cert.BwdRefIdeal.Read.val_main_v446_eq (launchContents m' c)).trans ?_
      rw [h0, h1, h2, h3, h4, h5, h6]
      funext i
      obtain ⟨r, q, rfl⟩ : ∃ (r : Fin 4096) (q : Fin 1536), i = ix2 r q := ⟨i 0, i 1, by funext a; match a with | ⟨0, _⟩ => rfl | ⟨1, _⟩ => rfl⟩
      exact Cert.BwdRefIdeal.Equation.dxbc_eq _ _ _ _ _ _ _ R u r q
    · refine (Cert.BwdRefIdeal.Read.val_main_v451_eq (launchContents m' c)).trans ?_
      rw [h0, h1, h2, h3, h4, h5, h6, h7]
      funext i
      obtain ⟨r, q, rfl⟩ : ∃ (r : Fin 4096) (q : Fin 5760), i = ix2 r q := ⟨i 0, i 1, by funext a; match a with | ⟨0, _⟩ => rfl | ⟨1, _⟩ => rfl⟩
      exact Cert.BwdRefIdeal.Equation.dproj_eq _ _ _ _ _ _ _ _ R u r q
    · refine (Cert.BwdRefIdeal.Read.val_main_v452_eq (launchContents m' c)).trans ?_
      rw [h0, h1, h2, h3, h4, h6]
      funext i
      obtain ⟨r, q, rfl⟩ : ∃ (r : Fin 1) (q : Fin 1024), i = ix2 r q := ⟨i 0, i 1, by funext a; match a with | ⟨0, _⟩ => rfl | ⟨1, _⟩ => rfl⟩
      obtain rfl : r = 0 := Subsingleton.elim _ _
      exact Cert.BwdRefIdeal.Equation.gain_eq _ _ _ _ _ _ _ q

/-- The plain derivative keeps its arguments and ends every semaphore at zero. -/
theorem ref_frame : Cert.quiescent_BwdRefIdeal := fun m ρ _ =>
  (θ_run _ _ _).mono (fun r h => ⟨fun c => (h c).2.2.2, sem_eq_zero_of_no_sems (by decide) r.2⟩)
    (Cert.BwdRefIdeal.Value.run (F := Ideal) m ρ)

end Cert.Proof.Bwd

end
-- ==== Proof.MlpMath.lean ====
/- The gradients of the block of two products with a squared rectifier between them and a norm on either side, over the
   extended reals, entry by entry: the norms' gradients as a backward pass writes them by hand. -/
module

public import proofs.«01_k».proof.Proof.RowNorm

@[expose] public section

noncomputable section

namespace MlpMath

open Idealize.ShloMosaic

/-- The six arrays, by rows and columns: the input, the first norm's gain, the two products' weights, the second norm's
    gain, and the cotangent of the block's output. -/
structure Args where
  x : Fin 4096 → Fin 1024 → EReal
  g : Fin 1024 → EReal
  up : Fin 1024 → Fin 4096 → EReal
  down : Fin 4096 → Fin 1024 → EReal
  h : Fin 1024 → EReal
  e : Fin 4096 → Fin 1024 → EReal

/-- Six arrays, by rows and columns. -/
abbrev args (x : Vec Ideal ⟨2, ![4096, 1024]⟩ .f32) (g : Vec Ideal ⟨1, ![1024]⟩ .f32) (u : Vec Ideal ⟨2, ![1024, 4096]⟩ .f32)
    (d : Vec Ideal ⟨2, ![4096, 1024]⟩ .f32) (h : Vec Ideal ⟨1, ![1024]⟩ .f32) (e : Vec Ideal ⟨2, ![4096, 1024]⟩ .f32) : Args where
  x r j := x (ix2 r j)
  g j := g (ix1 j)
  up j f := u (ix2 j f)
  down f k := d (ix2 f k)
  h j := h (ix1 j)
  e r j := e (ix2 r j)

variable (A : Args)

/-- The input's rows over their root mean square. -/
def unit (r : Fin 4096) (j : Fin 1024) : EReal := A.x r j * Ideal.rsqrt (RowNorm.msq fun k => A.x r k)

/-- The first product. -/
def hid (r f : Fin 4096) : EReal := ∑ j, unit A r j * A.g j * A.up j f

/-- Its positive part. -/
def pos (r f : Fin 4096) : EReal := max (hid A r f) 0

/-- The second product, of the squares. -/
def out (r : Fin 4096) (k : Fin 1024) : EReal := ∑ f, pos A r f * pos A r f * A.down f k

/-- The second norm's gradient. -/
def dOut (r : Fin 4096) (q : Fin 1024) : EReal := RowNorm.byHand (fun j => out A r j) (fun j => A.e r j * A.h j) q

/-- The gradient at the first product. -/
def dHid (r f : Fin 4096) : EReal := (∑ k, dOut A r k * A.down f k) * (Ideal.ofBits .f32 0x40000000#32 * pos A r f)

/-- The gradient at the first norm's output. -/
def dNorm (r : Fin 4096) (j : Fin 1024) : EReal := ∑ f, dHid A r f * A.up j f

/-- The gradient at the input. -/
def dIn (r : Fin 4096) (q : Fin 1024) : EReal := A.e r q + RowNorm.byHand (fun j => A.x r j) (fun j => dNorm A r j * A.g j) q

/-- A row's parts of the two gains' gradients. -/
def dh (r : Fin 4096) (q : Fin 1024) : EReal := A.e r q * (out A r q * Ideal.rsqrt (RowNorm.msq fun j => out A r j))
def dg (r : Fin 4096) (q : Fin 1024) : EReal := dNorm A r q * unit A r q

/-- Every entry is a real number. -/
structure Finite : Prop where
  x : ∀ r j, RowNorm.Real' (A.x r j)
  g : ∀ j, RowNorm.Real' (A.g j)
  up : ∀ j f, RowNorm.Real' (A.up j f)
  down : ∀ f k, RowNorm.Real' (A.down f k)
  h : ∀ j, RowNorm.Real' (A.h j)
  e : ∀ r j, RowNorm.Real' (A.e r j)

variable {A} (H : Finite A)

include H

theorem unit_real (r : Fin 4096) (j : Fin 1024) : RowNorm.Real' (unit A r j) :=
  RowNorm.Real'.mul (H.x r j) (RowNorm.rsqrt_real _ fun k => H.x r k)

theorem hid_real (r f : Fin 4096) : RowNorm.Real' (hid A r f) :=
  RowNorm.Real'.sum _ _ fun j => RowNorm.Real'.mul (RowNorm.Real'.mul (unit_real H r j) (H.g j)) (H.up j f)

theorem pos_real (r f : Fin 4096) : RowNorm.Real' (pos A r f) := by
  unfold pos
  rcases max_choice (hid A r f) 0 with h | h <;> rw [h]
  · exact hid_real H r f
  · exact ⟨0, rfl⟩

theorem out_real (r : Fin 4096) (k : Fin 1024) : RowNorm.Real' (out A r k) :=
  RowNorm.Real'.sum _ _ fun f => RowNorm.Real'.mul (RowNorm.Real'.mul (pos_real H r f) (pos_real H r f)) (H.down f k)

/-- The chain rule's sum is the second norm's gradient. -/
theorem dOut_rule (r : Fin 4096) (q : Fin 1024) :
    dOut A r q = RowNorm.byRule (fun j => out A r j) (fun j => A.e r j * A.h j) q :=
  RowNorm.byHand_eq_byRule _ _ (fun j => out_real H r j) (fun j => RowNorm.Real'.mul (H.e r j) (H.h j)) q

theorem dOut_real (r : Fin 4096) (q : Fin 1024) : RowNorm.Real' (dOut A r q) := by
  rw [dOut_rule H]
  exact RowNorm.byRule_real _ _ (fun j => out_real H r j) (fun j => RowNorm.Real'.mul (H.e r j) (H.h j)) q

omit H in
theorem two_real : RowNorm.Real' (Ideal.ofBits .f32 0x40000000#32) :=
  ⟨_, by simp [Ideal.ofBits, Ideal.ieee, -EReal.coe_mul]; rfl⟩

theorem dHid_real (r f : Fin 4096) : RowNorm.Real' (dHid A r f) :=
  RowNorm.Real'.mul (RowNorm.Real'.sum _ _ fun k => RowNorm.Real'.mul (dOut_real H r k) (H.down f k))
    (RowNorm.Real'.mul two_real (pos_real H r f))

theorem dNorm_real (r : Fin 4096) (j : Fin 1024) : RowNorm.Real' (dNorm A r j) :=
  RowNorm.Real'.sum _ _ fun f => RowNorm.Real'.mul (dHid_real H r f) (H.up j f)

/-- And the first norm's. -/
theorem dIn_rule (r : Fin 4096) (q : Fin 1024) :
    dIn A r q = A.e r q + RowNorm.byRule (fun j => A.x r j) (fun j => dNorm A r j * A.g j) q :=
  congrArg (A.e r q + ·) (RowNorm.byHand_eq_byRule _ _ (fun j => H.x r j) (fun j => RowNorm.Real'.mul (dNorm_real H r j) (H.g j)) q)

omit H

/-- Where the first product is not positive the factor is zero, so a choice between the two changes nothing. -/
theorem dHid_choice (r f : Fin 4096) (T : EReal) :
    (if 0 < hid A r f then T * (Ideal.ofBits .f32 0x40000000#32 * pos A r f) else 0) = T * (Ideal.ofBits .f32 0x40000000#32 * pos A r f) := by
  by_cases h : 0 < hid A r f
  · exact if_pos h
  · rw [if_neg h, pos, max_eq_right (not_lt.mp h), mul_zero, mul_zero]

end MlpMath

end
-- ==== Proof.MlpArray.lean ====
/- What the backward of the block of two products writes, over the extended reals. A point holds 512 rows and goes
   through the hidden columns in four chunks: the chunks side by side are the hidden gradient, their products' sums the
   gradient at the first norm's output, and the gains' gradients are summed over the points. -/
module

public import proofs.«01_k».proof.Proof.Gen.MlpKernelIdeal.Value
public import proofs.«01_k».proof.Proof.MlpMath
public import proofs.«01_k».proof.Proof.ERealSums
public import Idealize.ShloMosaic.Lib.Pipeline.ValueKit
public import Idealize.ShloMosaic.Lib.Pointwise

@[expose] public section

set_option maxRecDepth 16384

noncomputable section

namespace Cert.MlpKernelIdeal.Array

open Cert.MlpKernelIdeal Cert.MlpKernelIdeal.Gen Idealize.ShloMosaic Idealize.ShloMosaic.TcCoe Idealize.SL.Sem MlpMath
open Idealize.ShloMosaic.Pipeline (Dat)

/-! ### One block -/

/-- A block of the second norm's gradient at row `p`, column `q`. -/
theorem dOut_apply (e : Vec Ideal S512x1024 .f32) (o : Vec Ideal S512x1024 .bf16) (g : Vec Ideal S1x1024 .f32) (p : Fin 512) (q : Fin 1024) :
    k0_pay6 e o g (ix2 p q) = RowNorm.byHand (fun j => o (ix2 p j)) (fun j => e (ix2 p j) * g (ix2 (0 : Fin 1) j)) q := by
  pointwise [k0_pay6, k0_pay4, k0_pay3, k0_pay2, RowNorm.byHand, RowNorm.msq]

/-- A block's part of the second gain's gradient. -/
theorem dh_apply (e : Vec Ideal S512x1024 .f32) (o : Vec Ideal S512x1024 .bf16) (q : Fin 1024) :
    k0_pay23 (k0_pay5 e o) (ix2 (0 : Fin 1) q) = ∑ p : Fin 512, e (ix2 p q) * (o (ix2 p q) * Ideal.rsqrt (RowNorm.msq fun j => o (ix2 p j))) := by
  pointwise [k0_pay23, k0_pay5, k0_pay4, k0_pay3, k0_pay2, RowNorm.msq]

/-- A block of the input's gradient. -/
theorem dIn_apply (e : Vec Ideal S512x1024 .f32) (n : FVec Ideal S512x1024 .f32) (x : Vec Ideal S512x1024 .f32) (g : Vec Ideal S1x1024 .f32)
    (p : Fin 512) (q : Fin 1024) : k0_pay22 e n x (k0_pay18 g) (k0_pay19 x) (ix2 p q)
      = e (ix2 p q) + RowNorm.byHand (fun j => x (ix2 p j)) (fun j => n (ix2 p j) * g (ix2 (0 : Fin 1) j)) q := by
  pointwise [k0_pay22, k0_pay21, k0_pay20, k0_pay19, k0_pay18, RowNorm.byHand, RowNorm.msq]

/-- A block's part of the first gain's gradient. -/
theorem dg_apply (n : FVec Ideal S512x1024 .f32) (x : Vec Ideal S512x1024 .f32) (q : Fin 1024) :
    k0_pay25 n x (k0_pay19 x) (ix2 (0 : Fin 1) q) = ∑ p : Fin 512, n (ix2 p q) * (x (ix2 p q) * Ideal.rsqrt (RowNorm.msq fun j => x (ix2 p j))) := by
  pointwise [k0_pay25, k0_pay21, k0_pay20, k0_pay19, RowNorm.msq]

section Chunks

variable (D : FVec Ideal S512x1024 .bf16) (W : Vec Ideal S4096x1024 .bf16) (P : Vec Ideal S512x4096 .bf16) (U : Vec Ideal S4x1024x1024 .bf16)

/-- The hidden gradient of a block, from its hidden columns. -/
def hidden (p : Fin 512) (f : Fin 4096) : EReal :=
  @Finset.sum (Fin 1024) EReal _ Finset.univ (fun k => @HMul.hMul EReal EReal EReal _ (D (ix2 p k)) (W (ix2 f k)))
    * (Ideal.ofBits .f32 0x40000000#32 * max (P (ix2 p f) : EReal) 0)

theorem chunk (W : Vec Ideal S1024x1024 .bf16) (P : Vec Ideal S512x1024 .bf16) (p : Fin 512) (j : Fin 1024) :
    k0_pay16 D W P (ix2 p j) = @Finset.sum (Fin 1024) EReal _ Finset.univ (fun k => @HMul.hMul EReal EReal EReal _ (D (ix2 p k)) (W (ix2 j k)))
    * (Ideal.ofBits .f32 0x40000000#32 * max (P (ix2 p j) : EReal) 0) := by
  pointwise [k0_pay16]

/-- A chunk of it, wherever it starts. -/
theorem chunk_apply {o : ℕ} (iw : ∀ a : Fin 2, (![o, 0] : Fin 2 → ℕ) a + (![1024, 1024] : Fin 2 → ℕ) a ≤ S4096x1024.size a)
    (ip : ∀ a : Fin 2, (![0, o] : Fin 2 → ℕ) a + (![512, 1024] : Fin 2 → ℕ) a ≤ S512x4096.size a)
    (p : Fin 512) (j : Fin 1024) (f : Fin 4096) (hf : f.val = o + j.val) :
    k0_pay16 D (View.ld W (Rect.unit (s := S4096x1024) ![o, 0] ![1024, 1024] iw)) (View.ld P (Rect.unit (s := S512x4096) ![0, o] ![512, 1024] ip)) (ix2 p j)
      = hidden D W P p f := by
  rw [chunk, hidden]
  refine congrArg₂ (· * ·) (Finset.sum_congr (M := EReal) rfl fun k _ => congrArg _ ?_) (congrArg (fun z => _ * max z 0) ?_)
  · refine View.ld_unit_apply_of W _ _ _ _ (ix2 f k) fun a => ?_
    match a with
    | ⟨0, _⟩ => exact hf
    | ⟨1, _⟩ => exact (Nat.zero_add _).symm
  · refine View.ld_unit_apply_of P _ _ _ _ (ix2 p f) fun a => ?_
    match a with
    | ⟨0, _⟩ => exact (Nat.zero_add _).symm
    | ⟨1, _⟩ => exact hf

abbrev w0 : Vec Ideal S1024x1024 .bf16 := View.ld W (Rect.unit (s := S4096x1024) ![0, 0] ![1024, 1024] inb_S4096x1024_S1024x1024_0_0)
abbrev w1 : Vec Ideal S1024x1024 .bf16 := View.ld W (Rect.unit (s := S4096x1024) ![1024, 0] ![1024, 1024] inb_S4096x1024_S1024x1024_1024_0)
abbrev w2 : Vec Ideal S1024x1024 .bf16 := View.ld W (Rect.unit (s := S4096x1024) ![2048, 0] ![1024, 1024] inb_S4096x1024_S1024x1024_2048_0)
abbrev w3 : Vec Ideal S1024x1024 .bf16 := View.ld W (Rect.unit (s := S4096x1024) ![3072, 0] ![1024, 1024] inb_S4096x1024_S1024x1024_3072_0)
abbrev p0 : Vec Ideal S512x1024 .bf16 := View.ld P (Rect.unit (s := S512x4096) ![0, 0] ![512, 1024] inb_S512x4096_S512x1024_0_0)
abbrev p1 : Vec Ideal S512x1024 .bf16 := View.ld P (Rect.unit (s := S512x4096) ![0, 1024] ![512, 1024] inb_S512x4096_S512x1024_0_1024)
abbrev p2 : Vec Ideal S512x1024 .bf16 := View.ld P (Rect.unit (s := S512x4096) ![0, 2048] ![512, 1024] inb_S512x4096_S512x1024_0_2048)
abbrev p3 : Vec Ideal S512x1024 .bf16 := View.ld P (Rect.unit (s := S512x4096) ![0, 3072] ![512, 1024] inb_S512x4096_S512x1024_0_3072)

/-- The four chunks side by side. -/
def hiddenBlock : Vec Ideal S512x4096 .bf16 :=
  View.canon [⟨Rect.unit (s := S512x4096) ![0, 3072] ![512, 1024] inb_S512x4096_S512x1024_0_3072, k0_pay16 D (w3 W) (p3 P)⟩,
    ⟨Rect.unit (s := S512x4096) ![0, 2048] ![512, 1024] inb_S512x4096_S512x1024_0_2048, k0_pay16 D (w2 W) (p2 P)⟩,
    ⟨Rect.unit (s := S512x4096) ![0, 1024] ![512, 1024] inb_S512x4096_S512x1024_0_1024, k0_pay16 D (w1 W) (p1 P)⟩,
    ⟨Rect.unit (s := S512x4096) ![0, 0] ![512, 1024] inb_S512x4096_S512x1024_0_0, k0_pay16 D (w0 W) (p0 P)⟩]

theorem hit {o : ℕ} (inb : ∀ a : Fin 2, (![0, o] : Fin 2 → ℕ) a + (![512, 1024] : Fin 2 → ℕ) a ≤ S512x4096.size a)
    (v : (Rect.unit (s := S512x4096) ![0, o] ![512, 1024] inb).shape.Idx → Elt Ideal .bf16) (L : List ((r : Rect S512x4096) × (r.shape.Idx → Elt Ideal .bf16)))
    (p : Fin 512) (f : Fin 4096) (j : Fin 1024) (hf : f.val = o + j.val) :
    View.canon (⟨Rect.unit (s := S512x4096) ![0, o] ![512, 1024] inb, v⟩ :: L) (ix2 p f) = v (ix2 p j) := by
  have e : (ix2 p f : S512x4096.Idx) = (Rect.unit (s := S512x4096) ![0, o] ![512, 1024] inb).emb (ix2 p j) := by
    refine funext fun a => Fin.ext ?_
    rw [Rect.emb_apply]
    match a with
    | ⟨0, _⟩ => show p.val = 0 + 1 * p.val; omega
    | ⟨1, _⟩ => show f.val = o + 1 * j.val; omega
  rw [e]
  exact View.canon_cons_emb _ v L _

theorem miss {o : ℕ} (inb : ∀ a : Fin 2, (![0, o] : Fin 2 → ℕ) a + (![512, 1024] : Fin 2 → ℕ) a ≤ S512x4096.size a)
    (v : (Rect.unit (s := S512x4096) ![0, o] ![512, 1024] inb).shape.Idx → Elt Ideal .bf16) (L : List ((r : Rect S512x4096) × (r.shape.Idx → Elt Ideal .bf16)))
    (p : Fin 512) (f : Fin 4096) (hf : f.val < o ∨ o + 1024 ≤ f.val) :
    View.canon (⟨Rect.unit (s := S512x4096) ![0, o] ![512, 1024] inb, v⟩ :: L) (ix2 p f) = View.canon L (ix2 p f) := by
  refine View.canon_cons_of_not_mem _ L fun hm => ?_
  have hm1 := (Rect.mem_set_unit (inb := inb)).mp hm (1 : Fin 2)
  have h1 : o ≤ f.val := hm1.1
  have h2 : f.val < o + 1024 := hm1.2
  omega

theorem hiddenBlock_apply (p : Fin 512) (f : Fin 4096) : hiddenBlock D W P (ix2 p f) = hidden D W P p f := by
  unfold hiddenBlock
  by_cases c3 : 3072 ≤ f.val
  · rw [hit _ _ _ p f ⟨f.val - 3072, by omega⟩ (by show _ = _ + (f.val - 3072); omega)]
    exact chunk_apply D W P _ _ _ _ _ (by show _ = _ + (f.val - 3072); omega)
  rw [miss _ _ _ p f (by omega)]
  by_cases c2 : 2048 ≤ f.val
  · rw [hit _ _ _ p f ⟨f.val - 2048, by omega⟩ (by show _ = _ + (f.val - 2048); omega)]
    exact chunk_apply D W P _ _ _ _ _ (by show _ = _ + (f.val - 2048); omega)
  rw [miss _ _ _ p f (by omega)]
  by_cases c1 : 1024 ≤ f.val
  · rw [hit _ _ _ p f ⟨f.val - 1024, by omega⟩ (by show _ = _ + (f.val - 1024); omega)]
    exact chunk_apply D W P _ _ _ _ _ (by show _ = _ + (f.val - 1024); omega)
  rw [miss _ _ _ p f (by omega), hit _ _ _ p f ⟨f.val, by omega⟩ (by show _ = _ + f.val; omega)]
  exact chunk_apply D W P _ _ _ _ _ (by show _ = _ + f.val; omega)

abbrev u0 : Vec Ideal S1x1024x1024 .bf16 := View.ld U (Rect.unit (s := S4x1024x1024) ![0, 0, 0] ![1, 1024, 1024] inb_S4x1024x1024_S1x1024x1024_0_0_0)
abbrev u1 : Vec Ideal S1x1024x1024 .bf16 := View.ld U (Rect.unit (s := S4x1024x1024) ![1, 0, 0] ![1, 1024, 1024] inb_S4x1024x1024_S1x1024x1024_1_0_0)
abbrev u2 : Vec Ideal S1x1024x1024 .bf16 := View.ld U (Rect.unit (s := S4x1024x1024) ![2, 0, 0] ![1, 1024, 1024] inb_S4x1024x1024_S1x1024x1024_2_0_0)
abbrev u3 : Vec Ideal S1x1024x1024 .bf16 := View.ld U (Rect.unit (s := S4x1024x1024) ![3, 0, 0] ![1, 1024, 1024] inb_S4x1024x1024_S1x1024x1024_3_0_0)

/-- The chunks' products added up. -/
def normBlock : FVec Ideal S512x1024 .f32 :=
  k0_pay17 D (k0_pay11 D (k0_pay12 D (w0 W)) (k0_pay8 (p0 P)) (u0 U) (w1 W) (p1 P) (u1 U)) (k0_pay12 D (w2 W)) (k0_pay13 (p2 P)) k0_pay14 (u2 U) (w3 W) (p3 P) (u3 U)

theorem normBlock_sum (p : Fin 512) (j : Fin 1024) : normBlock D W P U (ix2 p j)
    = @Finset.sum (Fin 1024) EReal _ Finset.univ (fun k => @HMul.hMul EReal EReal EReal _ (k0_pay16 D (w0 W) (p0 P) (ix2 p k)) (u0 U (ix3 (0 : Fin 1) j k)))
      + @Finset.sum (Fin 1024) EReal _ Finset.univ (fun k => @HMul.hMul EReal EReal EReal _ (k0_pay16 D (w1 W) (p1 P) (ix2 p k)) (u1 U (ix3 (0 : Fin 1) j k)))
      + @Finset.sum (Fin 1024) EReal _ Finset.univ (fun k => @HMul.hMul EReal EReal EReal _ (k0_pay16 D (w2 W) (p2 P) (ix2 p k)) (u2 U (ix3 (0 : Fin 1) j k)))
      + @Finset.sum (Fin 1024) EReal _ Finset.univ (fun k => @HMul.hMul EReal EReal EReal _ (k0_pay16 D (w3 W) (p3 P) (ix2 p k)) (u3 U (ix3 (0 : Fin 1) j k))) := by
  have e0 : k0_pay9 (k0_pay12 D (w0 W)) (k0_pay8 (p0 P)) = k0_pay16 D (w0 W) (p0 P) := rfl
  have e1 : k0_pay10 D (w1 W) (p1 P) = k0_pay16 D (w1 W) (p1 P) := rfl
  have e2 : k0_pay15 (k0_pay12 D (w2 W)) (k0_pay13 (p2 P)) k0_pay14 = k0_pay16 D (w2 W) (p2 P) := rfl
  unfold normBlock k0_pay17 k0_pay11
  rw [e0, e1, e2]
  generalize k0_pay16 D (w0 W) (p0 P) = a0
  generalize k0_pay16 D (w1 W) (p1 P) = a1
  generalize k0_pay16 D (w2 W) (p2 P) = a2
  generalize k0_pay16 D (w3 W) (p3 P) = a3
  generalize u0 U = b0
  generalize u1 U = b1
  generalize u2 U = b2
  generalize u3 U = b3
  pointwise

/-- A chunk of the first product's weights. -/
theorem u_apply {o : ℕ} (iu : ∀ a : Fin 3, (![o, 0, 0] : Fin 3 → ℕ) a + (![1, 1024, 1024] : Fin 3 → ℕ) a ≤ S4x1024x1024.size a) (b : Fin 4) (hb : b.val = o)
    (j k : Fin 1024) : View.ld U (Rect.unit (s := S4x1024x1024) ![o, 0, 0] ![1, 1024, 1024] iu) (ix3 (0 : Fin 1) j k) = U (ix3 b j k) := by
  refine View.ld_unit_apply_of U _ _ _ _ (ix3 b j k) fun a => ?_
  match a with
  | ⟨0, _⟩ => exact hb
  | ⟨1, _⟩ => exact (Nat.zero_add _).symm
  | ⟨2, _⟩ => exact (Nat.zero_add _).symm

/-- Summed over the chunks it is summed over the hidden columns. -/
theorem normBlock_apply (up : Fin 1024 → Fin 4096 → EReal)
    (hu : ∀ (b : Fin 4) (j k : Fin 1024) (f : Fin 4096), f.val = b.val * 1024 + k.val → U (ix3 b j k) = up j f) (p : Fin 512) (j : Fin 1024) :
    normBlock D W P U (ix2 p j) = ∑ f, hidden D W P p f * up j f := by
  rw [normBlock_sum]
  refine Eq.trans ?_ (Fin.sum_mul_add_congr (M := EReal) (L := 4096) (S := 4) (n := 1024)
    (F := fun b k => hidden D W P p ⟨b.val * 1024 + k.val, by omega⟩ * up j ⟨b.val * 1024 + k.val, by omega⟩) fun _ _ _ => rfl)
  rw [Fin.sum_univ_four]
  refine congrArg₂ (· + ·) (congrArg₂ (· + ·) (congrArg₂ (· + ·) ?_ ?_) ?_) ?_
  · exact Finset.sum_congr (M := EReal) rfl fun k _ => congrArg₂ (· * ·) (chunk_apply D W P _ _ _ _ _ rfl) ((u_apply U _ 0 rfl j k).trans (hu _ j k _ rfl))
  · exact Finset.sum_congr (M := EReal) rfl fun k _ => congrArg₂ (· * ·) (chunk_apply D W P _ _ _ _ _ rfl) ((u_apply U _ 1 rfl j k).trans (hu _ j k _ rfl))
  · exact Finset.sum_congr (M := EReal) rfl fun k _ => congrArg₂ (· * ·) (chunk_apply D W P _ _ _ _ _ rfl) ((u_apply U _ 2 rfl j k).trans (hu _ j k _ rfl))
  · exact Finset.sum_congr (M := EReal) rfl fun k _ => congrArg₂ (· * ·) (chunk_apply D W P _ _ _ _ _ rfl) ((u_apply U _ 3 rfl j k).trans (hu _ j k _ rfl))

end Chunks

/-! ### The points -/

variable (m : (ℓ : Loc nD τ sig) → Buf (Elt Ideal) ℓ)

/-- A point's block of the second norm's gradient, and what follows from it. -/
abbrev dOutB (c : Dev nD) (t : Fin cfg0.N) : FVec Ideal S512x1024 .bf16 := k0_pay6 (iblk m c 2 t) (iblk m c 0 t) (iblk m c 1 t)
abbrev normB (c : Dev nD) (t : Fin cfg0.N) : FVec Ideal S512x1024 .f32 := normBlock (dOutB m c t) (iblk m c 3 t) (iblk m c 4 t) (iblk m c 5 t)

theorem first_blocks (c : Dev nD) (t : Fin cfg0.N) (h : ¬1 ≤ t.val) : outsAt0 m c t.val t.isLt
    = (dOutB m c t, hiddenBlock (dOutB m c t) (iblk m c 3 t) (iblk m c 4 t),
      k0_pay22 (iblk m c 2 t) (normB m c t) (iblk m c 6 t) (k0_pay18 (iblk m c 7 t)) (k0_pay19 (iblk m c 6 t)),
      k0_pay23 (k0_pay5 (iblk m c 2 t) (iblk m c 0 t)), k0_pay25 (normB m c t) (iblk m c 6 t) (k0_pay19 (iblk m c 6 t))) := by
  have ht := lt_of_lt_of_eq t.isLt N_0
  rw [outsAt0_A m c t (by omega) h (by omega) h]
  refine Prod.ext ?_ (Prod.ext ?_ (Prod.ext ?_ (Prod.ext ?_ ?_))) <;> dsimp only <;> frame_out
  all_goals rfl

theorem later_blocks (c : Dev nD) (t : Fin cfg0.N) (h : 1 ≤ t.val) : outsAt0 m c t.val t.isLt
    = (dOutB m c t, hiddenBlock (dOutB m c t) (iblk m c 3 t) (iblk m c 4 t),
      k0_pay22 (iblk m c 2 t) (normB m c t) (iblk m c 6 t) (k0_pay18 (iblk m c 7 t)) (k0_pay19 (iblk m c 6 t)),
      addf (outsAt0 m c (t.val - 1) (Nat.lt_of_le_of_lt (Nat.sub_le _ _) t.isLt)).2.2.2.1 (k0_pay23 (k0_pay5 (iblk m c 2 t) (iblk m c 0 t))),
      addf (outsAt0 m c (t.val - 1) (Nat.lt_of_le_of_lt (Nat.sub_le _ _) t.isLt)).2.2.2.2 (k0_pay25 (normB m c t) (iblk m c 6 t) (k0_pay19 (iblk m c 6 t)))) := by
  have ht := lt_of_lt_of_eq t.isLt N_0
  rw [outsAt0_B m c t (by omega) h (by omega) h]
  refine Prod.ext ?_ (Prod.ext ?_ (Prod.ext ?_ (Prod.ext ?_ ?_))) <;> dsimp only <;> frame_out
  any_goals rfl
  · unfold k0_pay24
    rw [shapeCast_self]
  · unfold k0_pay1
    rw [shapeCast_self]
    rfl

/-! ### What the blocks hold -/

/-- The arguments. -/
abbrev argsAt (c : Dev nD) : Args := args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5))

/-- A row of the second product in its block. -/
theorem out_block (c : Dev nD) (t : Fin cfg0.N) (p : Fin 512) (k : Fin 1024) (r : Fin 4096) (hr : r.val = 512 * t.val + p.val) :
    (iblk m c 0 t : Vec Ideal S512x1024 .bf16) (ix2 p k) = out (argsAt m c) r k := by
  have hi : ∀ t : Fin cfg0.N, win0_0.index t = ![t.val, 0] := (by decide +kernel : ∀ t : Fin grid0.N, win0_0.index t = ![t.val, 0])
  obtain ⟨x, hx⟩ : ∃ x : S4096x1024.Idx, x = ix2 r k := ⟨_, rfl⟩
  have e : (win0_0.blk t).view.emb (ix2 p k) = ix2 r k := by blk_ext [hi t]
  blk_simp [iblk]
  rw [e]
  entry_read
  pointwise [out, pos, hid, unit, RowNorm.msq]

/-- A row of the first. -/
theorem hid_block (c : Dev nD) (t : Fin cfg0.N) (p : Fin 512) (f : Fin 4096) (r : Fin 4096) (hr : r.val = 512 * t.val + p.val) :
    (iblk m c 4 t : Vec Ideal S512x4096 .bf16) (ix2 p f) = hid (argsAt m c) r f := by
  have hi : ∀ t : Fin cfg0.N, win0_4.index t = ![t.val, 0] := (by decide +kernel : ∀ t : Fin grid0.N, win0_4.index t = ![t.val, 0])
  have e : (win0_4.blk t).view.emb (ix2 p f) = ix2 r f := by blk_ext [hi t]
  blk_simp [iblk]
  rw [e]
  entry_read
  pointwise [hid, unit, RowNorm.msq]

/-- A row of the cotangent. -/
theorem e_block (c : Dev nD) (t : Fin cfg0.N) (p : Fin 512) (j : Fin 1024) (r : Fin 4096) (hr : r.val = 512 * t.val + p.val) :
    (iblk m c 2 t : Vec Ideal S512x1024 .f32) (ix2 p j) = m ((c.tc : Thread nD τ).loc main_arg5) (ix2 r j) := by
  have hi : ∀ t : Fin cfg0.N, win0_2.index t = ![t.val, 0] := (by decide +kernel : ∀ t : Fin grid0.N, win0_2.index t = ![t.val, 0])
  blk_ext [iblk, V, hi t]

/-- A row of the input. -/
theorem x_block (c : Dev nD) (t : Fin cfg0.N) (p : Fin 512) (j : Fin 1024) (r : Fin 4096) (hr : r.val = 512 * t.val + p.val) :
    (iblk m c 6 t : Vec Ideal S512x1024 .f32) (ix2 p j) = m ((c.tc : Thread nD τ).loc main_arg0) (ix2 r j) := by
  have hi : ∀ t : Fin cfg0.N, win0_6.index t = ![t.val, 0] := (by decide +kernel : ∀ t : Fin grid0.N, win0_6.index t = ![t.val, 0])
  blk_ext [iblk, V, hi t]

/-- The gains and the weights, the whole of them at every point. -/
theorem h_block (c : Dev nD) (t : Fin cfg0.N) (j : Fin 1024) :
    (iblk m c 1 t : Vec Ideal S1x1024 .f32) (ix2 0 j) = m ((c.tc : Thread nD τ).loc main_arg4) (ix1 j) := by
  have hi : ∀ t : Fin cfg0.N, win0_1.index t = ![0, 0] := (by decide +kernel : ∀ t : Fin grid0.N, win0_1.index t = ![0, 0])
  blk_simp [iblk, hi t]
  entry_read
  pointwise
  blk_ext [hi t]

theorem g_block (c : Dev nD) (t : Fin cfg0.N) (j : Fin 1024) :
    (iblk m c 7 t : Vec Ideal S1x1024 .f32) (ix2 0 j) = m ((c.tc : Thread nD τ).loc main_arg1) (ix1 j) := by
  have hi : ∀ t : Fin cfg0.N, win0_7.index t = ![0, 0] := (by decide +kernel : ∀ t : Fin grid0.N, win0_7.index t = ![0, 0])
  blk_simp [iblk, hi t]
  entry_read
  pointwise
  blk_ext [hi t]

theorem down_block (c : Dev nD) (t : Fin cfg0.N) (f : Fin 4096) (k : Fin 1024) :
    (iblk m c 3 t : Vec Ideal S4096x1024 .bf16) (ix2 f k) = (m ((c.tc : Thread nD τ).loc main_arg3) : Vec Ideal S4096x1024 .f32) (ix2 f k) := by
  have hi : ∀ t : Fin cfg0.N, win0_3.index t = ![0, 0] := (by decide +kernel : ∀ t : Fin grid0.N, win0_3.index t = ![0, 0])
  blk_simp [iblk, hi t]
  entry_read
  pointwise
  blk_ext [hi t]

theorem up_block (c : Dev nD) (t : Fin cfg0.N) (b : Fin 4) (j k : Fin 1024) (f : Fin 4096) (hf : f.val = b.val * 1024 + k.val) :
    (iblk m c 5 t : Vec Ideal S4x1024x1024 .bf16) (ix3 b j k) = (m ((c.tc : Thread nD τ).loc main_arg2) : Vec Ideal S1024x4096 .f32) (ix2 j f) := by
  have hi : ∀ t : Fin cfg0.N, win0_5.index t = ![0, 0, 0] := (by decide +kernel : ∀ t : Fin grid0.N, win0_5.index t = ![0, 0, 0])
  have e : (win0_5.blk t).view.emb (ix3 b j k) = ix3 b j k := by blk_ext [hi t]
  blk_simp [iblk]
  rw [e]
  entry_read
  pointwise
  exact congrArg (fun f => m (c, Proc.tc.devRef main_arg2) (ix2 j f)) (Fin.ext hf.symm)

/-- A point's blocks are those of the rows of the arrays. -/
theorem dOut_block (c : Dev nD) (t : Fin cfg0.N) (p : Fin 512) (q : Fin 1024) (r : Fin 4096) (hr : r.val = 512 * t.val + p.val) :
    dOutB m c t (ix2 p q) = dOut (argsAt m c) r q := by
  refine (dOut_apply _ _ _ p q).trans ?_
  refine congrArg₂ (fun a b => RowNorm.byHand a b q) (funext fun j => out_block m c t p j _ hr) (funext fun j => ?_)
  exact congrArg₂ (· * ·) (e_block m c t p j _ hr) (h_block m c t j)

theorem dHid_block (c : Dev nD) (t : Fin cfg0.N) (p : Fin 512) (f : Fin 4096) (r : Fin 4096) (hr : r.val = 512 * t.val + p.val) :
    hidden (dOutB m c t) (iblk m c 3 t) (iblk m c 4 t) p f = dHid (argsAt m c) r f := by
  unfold hidden dHid
  refine congrArg₂ (· * ·) (Finset.sum_congr (M := EReal) rfl fun k _ => ?_) (congrArg (fun z => _ * max z 0) (hid_block m c t p f _ hr))
  exact congrArg₂ (· * ·) (dOut_block m c t p k _ hr) (down_block m c t f k)

theorem dNorm_block (c : Dev nD) (t : Fin cfg0.N) (p : Fin 512) (j : Fin 1024) (r : Fin 4096) (hr : r.val = 512 * t.val + p.val) :
    normB m c t (ix2 p j) = dNorm (argsAt m c) r j := by
  refine (normBlock_apply _ _ _ _ (argsAt m c).up (fun b j k f hf => up_block m c t b j k f hf) p j).trans ?_
  exact Finset.sum_congr (M := EReal) rfl fun f _ => congrArg (· * _) (dHid_block m c t p f _ hr)

/-! ### What the arrays hold -/

theorem dOut_array (c : Dev nD) : (dats m 0 c).arrAt 8 cfg0.N = fun i => dOut (argsAt m c) (i 0) (i 1) := by
  have hi : ∀ t : Fin cfg0.N, win0_8.index t = ![t.val, 0] := (by decide +kernel : ∀ t : Fin grid0.N, win0_8.index t = ![t.val, 0])
  refine (dats m 0 c).arrAt_eq_of_covers 8 _ (by decide +kernel) fun t hf y => ?_
  have ht := lt_of_lt_of_eq t.isLt N_0
  blk_simp
  rw [after0_8, show (outsAt0 m c t.val t.isLt).1 = dOutB m c t from
    (em (1 ≤ t.val)).elim (fun h => congrArg (·.1) (later_blocks m c t h)) fun h => congrArg (·.1) (first_blocks m c t h)]
  obtain ⟨p, q, rfl⟩ : ∃ (p : Fin 512) (q : Fin 1024), y = ix2 p q := ⟨y 0, y 1, by funext a; match a with | ⟨0, _⟩ => rfl | ⟨1, _⟩ => rfl⟩
  have hr : 512 * t.val + p.val < 4096 := by omega
  rw [show (win0_8.blk t).view.emb (ix2 p q) = ix2 ⟨512 * t.val + p.val, hr⟩ q by blk_ext [hi t]]
  exact dOut_block m c t p q _ rfl

/-- The chunks are written at every point. -/
theorem hidden_out (c : Dev nD) (t : Fin cfg0.N) :
    (outsAt0 m c t.val t.isLt).2.1 = hiddenBlock (dOutB m c t) (iblk m c 3 t) (iblk m c 4 t) := by
  by_cases h : 1 ≤ t.val
  · rw [later_blocks m c t h]
  · rw [first_blocks m c t h]

theorem dHid_array (c : Dev nD) : (dats m 0 c).arrAt 9 cfg0.N = fun i => dHid (argsAt m c) (i 0) (i 1) := by
  have hi : ∀ t : Fin cfg0.N, win0_9.index t = ![t.val, 0] := (by decide +kernel : ∀ t : Fin grid0.N, win0_9.index t = ![t.val, 0])
  refine (dats m 0 c).arrAt_eq_of_covers 9 _ (by decide +kernel) fun t hf y => ?_
  have ht := lt_of_lt_of_eq t.isLt N_0
  blk_simp
  rw [after0_9, hidden_out]
  obtain ⟨p, f, rfl⟩ : ∃ (p : Fin 512) (f : Fin 4096), y = ix2 p f := ⟨y 0, y 1, by funext a; match a with | ⟨0, _⟩ => rfl | ⟨1, _⟩ => rfl⟩
  obtain ⟨r, hr⟩ : ∃ r : Fin 4096, r.val = 512 * t.val + p.val := ⟨⟨512 * t.val + p.val, by omega⟩, rfl⟩
  rw [show (win0_9.blk t).view.emb (ix2 p f) = ix2 r f by blk_ext [hi t]]
  exact (hiddenBlock_apply _ _ _ p f).trans (dHid_block m c t p f r hr)

theorem dIn_array (c : Dev nD) : (dats m 0 c).arrAt 10 cfg0.N = fun i => dIn (argsAt m c) (i 0) (i 1) := by
  have hi : ∀ t : Fin cfg0.N, win0_10.index t = ![t.val, 0] := (by decide +kernel : ∀ t : Fin grid0.N, win0_10.index t = ![t.val, 0])
  refine (dats m 0 c).arrAt_eq_of_covers 10 _ (by decide +kernel) fun t hf y => ?_
  have ht := lt_of_lt_of_eq t.isLt N_0
  blk_simp
  rw [after0_10, show (outsAt0 m c t.val t.isLt).2.2.1
      = k0_pay22 (iblk m c 2 t) (normB m c t) (iblk m c 6 t) (k0_pay18 (iblk m c 7 t)) (k0_pay19 (iblk m c 6 t)) from
    (em (1 ≤ t.val)).elim (fun h => congrArg (·.2.2.1) (later_blocks m c t h)) fun h => congrArg (·.2.2.1) (first_blocks m c t h)]
  obtain ⟨p, q, rfl⟩ : ∃ (p : Fin 512) (q : Fin 1024), y = ix2 p q := ⟨y 0, y 1, by funext a; match a with | ⟨0, _⟩ => rfl | ⟨1, _⟩ => rfl⟩
  have hr : 512 * t.val + p.val < 4096 := by omega
  rw [show (win0_10.blk t).view.emb (ix2 p q) = ix2 ⟨512 * t.val + p.val, hr⟩ q by blk_ext [hi t]]
  refine (dIn_apply _ _ _ _ p q).trans ?_
  refine congrArg₂ (· + ·) (e_block m c t p q _ rfl) (congrArg₂ (fun a b => RowNorm.byHand a b q) (funext fun j => x_block m c t p j _ rfl)
    (funext fun j => ?_))
  exact congrArg₂ (· * ·) (dNorm_block m c t p j _ rfl) (g_block m c t j)

/-- A point's parts of the gains' gradients. -/
theorem dh_block (c : Dev nD) (t : Fin cfg0.N) (q : Fin 1024) :
    k0_pay23 (k0_pay5 (iblk m c 2 t) (iblk m c 0 t)) (ix2 (0 : Fin 1) q) = ∑ p : Fin 512,
      dh (argsAt m c) ⟨t.val * 512 + p.val, by have := lt_of_lt_of_eq t.isLt N_0; omega⟩ q := by
  rw [dh_apply]
  refine Finset.sum_congr rfl fun p _ => ?_
  have hr : (⟨t.val * 512 + p.val, by have := lt_of_lt_of_eq t.isLt N_0; omega⟩ : Fin 4096).val = 512 * t.val + p.val := by
    dsimp only
    omega
  refine congrArg₂ (· * ·) (e_block m c t p q _ hr) (congrArg₂ (· * ·) (out_block m c t p q _ hr) ?_)
  exact congrArg (fun f => Ideal.rsqrt (RowNorm.msq f)) (funext fun j => out_block m c t p j _ hr)

theorem dg_block (c : Dev nD) (t : Fin cfg0.N) (q : Fin 1024) :
    k0_pay25 (normB m c t) (iblk m c 6 t) (k0_pay19 (iblk m c 6 t)) (ix2 (0 : Fin 1) q) = ∑ p : Fin 512,
      dg (argsAt m c) ⟨t.val * 512 + p.val, by have := lt_of_lt_of_eq t.isLt N_0; omega⟩ q := by
  rw [dg_apply]
  refine Finset.sum_congr rfl fun p _ => ?_
  have hr : (⟨t.val * 512 + p.val, by have := lt_of_lt_of_eq t.isLt N_0; omega⟩ : Fin 4096).val = 512 * t.val + p.val := by
    dsimp only
    omega
  refine congrArg₂ (· * ·) (dNorm_block m c t p q _ hr) (congrArg₂ (· * ·) (x_block m c t p q _ hr) ?_)
  exact congrArg (fun f => Ideal.rsqrt (RowNorm.msq f)) (funext fun j => x_block m c t p j _ hr)

theorem dh_array (c : Dev nD) : (dats m 0 c).arrAt 11 cfg0.N = fun i => ∑ r : Fin 4096, dh (argsAt m c) r (i 1) := by
  have hN : cfg0.N = 8 := N_0
  refine (dats m 0 c).arrAt_eq_of_covers 11 _ (by decide +kernel) fun t hf y => ?_
  have ht := lt_of_lt_of_eq t.isLt hN
  have h7 : t.val = 7 := by
    have := (flush0_11 t).mp hf
    omega
  have hi : ∀ t : Fin cfg0.N, win0_11.index t = ![0, 0] := (by decide +kernel : ∀ t : Fin grid0.N, win0_11.index t = ![0, 0])
  blk_simp
  obtain ⟨p, q, rfl⟩ : ∃ (p : Fin 1) (q : Fin 1024), y = ix2 p q := ⟨y 0, y 1, by funext a; match a with | ⟨0, _⟩ => rfl | ⟨1, _⟩ => rfl⟩
  obtain rfl : p = 0 := Subsingleton.elim _ _
  rw [after0_11, show (win0_11.blk t).view.emb (ix2 0 q) = ix2 0 q by blk_ext [hi t],
    Pipeline.eq_sum_fin_of_reset_step_apply_last (fun n h => (outsAt0 m c n h).2.2.2.1) 8 (fun _ => 0) _
      (fun t h j => by
        rw [first_blocks m c t (by have := lt_of_lt_of_eq t.isLt hN; omega)]
        exact (zero_add _).symm)
      (fun t h j => by
        rw [later_blocks m c t (by omega)]
        rfl)
      (le_of_eq hN) t (by omega) (ix2 0 q), zero_add]
  refine (Finset.sum_congr rfl fun t _ => dh_block m c t q).trans ?_
  exact Fin.sum_mul_add_congr (L := 4096) fun t p h => rfl

theorem dg_array (c : Dev nD) : (dats m 0 c).arrAt 12 cfg0.N = fun i => ∑ r : Fin 4096, dg (argsAt m c) r (i 1) := by
  have hN : cfg0.N = 8 := N_0
  refine (dats m 0 c).arrAt_eq_of_covers 12 _ (by decide +kernel) fun t hf y => ?_
  have ht := lt_of_lt_of_eq t.isLt hN
  have h7 : t.val = 7 := by
    have := (flush0_12 t).mp hf
    omega
  have hi : ∀ t : Fin cfg0.N, win0_12.index t = ![0, 0] := (by decide +kernel : ∀ t : Fin grid0.N, win0_12.index t = ![0, 0])
  blk_simp
  obtain ⟨p, q, rfl⟩ : ∃ (p : Fin 1) (q : Fin 1024), y = ix2 p q := ⟨y 0, y 1, by funext a; match a with | ⟨0, _⟩ => rfl | ⟨1, _⟩ => rfl⟩
  obtain rfl : p = 0 := Subsingleton.elim _ _
  rw [after0_12, show (win0_12.blk t).view.emb (ix2 0 q) = ix2 0 q by blk_ext [hi t],
    Pipeline.eq_sum_fin_of_reset_step_apply_last (fun n h => (outsAt0 m c n h).2.2.2.2) 8 (fun _ => 0) _
      (fun t h j => by
        rw [first_blocks m c t (by have := lt_of_lt_of_eq t.isLt hN; omega)]
        exact (zero_add _).symm)
      (fun t h j => by
        rw [later_blocks m c t (by omega)]
        rfl)
      (le_of_eq hN) t (by omega) (ix2 0 q), zero_add]
  refine (Finset.sum_congr rfl fun t _ => dg_block m c t q).trans ?_
  exact Fin.sum_mul_add_congr (L := 4096) fun t p h => rfl

end Cert.MlpKernelIdeal.Array

end
-- ==== Proof.MlpEquation.lean ====
/- The chain rule's gradients of the block of two products with a squared rectifier between them and a norm on either
   side, as the reference writes them, entry by entry: they are the gradients written by hand. -/
module

public import proofs.«01_k».proof.Proof.MlpMath
public import proofs.«01_k».proof.Proof.Gen.MlpRefIdeal.Read
public import proofs.«01_k».proof.Pre_finite_mlp

@[expose] public section

set_option maxRecDepth 16384

noncomputable section

namespace Cert.MlpRefIdeal.Equation

open Cert.MlpRefIdeal Cert.MlpRefIdeal.Read Idealize.ShloMosaic MlpMath

variable (x : Vec Ideal ⟨2, ![4096, 1024]⟩ .f32) (g : Vec Ideal ⟨1, ![1024]⟩ .f32) (u : Vec Ideal ⟨2, ![1024, 4096]⟩ .f32)
  (d : Vec Ideal ⟨2, ![4096, 1024]⟩ .f32) (h : Vec Ideal ⟨1, ![1024]⟩ .f32) (e : Vec Ideal ⟨2, ![4096, 1024]⟩ .f32)

/-- The precondition says that every entry of the six arrays is a real number. -/
theorem reals [Cert.Pre_finite_mlp.Facts]
    (H : (Cert.Pre_finite_mlp.fn (F := Ideal) x g u d h e).1 = (fun _ => 1#1)
      ∧ (Cert.Pre_finite_mlp.fn (F := Ideal) x g u d h e).2.1 = (fun _ => 1#1)
      ∧ (Cert.Pre_finite_mlp.fn (F := Ideal) x g u d h e).2.2.1 = (fun _ => 1#1)
      ∧ (Cert.Pre_finite_mlp.fn (F := Ideal) x g u d h e).2.2.2.1 = (fun _ => 1#1)
      ∧ (Cert.Pre_finite_mlp.fn (F := Ideal) x g u d h e).2.2.2.2.1 = (fun _ => 1#1)
      ∧ (Cert.Pre_finite_mlp.fn (F := Ideal) x g u d h e).2.2.2.2.2 = (fun _ => 1#1)) : Finite (args x g u d h e) where
  x r j := RowNorm.real_of_test (congrFun H.1 (ix2 r j))
  g j := RowNorm.real_of_test (congrFun H.2.1 (ix1 j))
  up j f := RowNorm.real_of_test (congrFun H.2.2.1 (ix2 j f))
  down f k := RowNorm.real_of_test (congrFun H.2.2.2.1 (ix2 f k))
  h j := RowNorm.real_of_test (congrFun H.2.2.2.2.1 (ix1 j))
  e r j := RowNorm.real_of_test (congrFun H.2.2.2.2.2 (ix2 r j))

/-! ### The forward lines -/

theorem unit_eq (r : Fin 4096) (j : Fin 1024) : val_main_v12 (F := Ideal) x (ix2 r j) = unit (args x g u d h e) r j := by
  pointwise [val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, unit, RowNorm.msq]

theorem hid_eq (r f : Fin 4096) : val_main_v16 (F := Ideal) x g u (ix2 r f) = hid (args x g u d h e) r f := by
  pointwise [val_main_v16, val_main_v15, val_main_v14, val_main_v13, hid]
  exact Finset.sum_congr (M := EReal) rfl fun j _ => by rw [unit_eq x g u d h e r j]

theorem pos_eq (r f : Fin 4096) : val_main_v17 (F := Ideal) x g u (ix2 r f) = pos (args x g u d h e) r f := by
  rw [pos, ← hid_eq]
  pointwise [val_main_v17, val_main_call0_v0, val_main_call0_cst]

theorem out_eq (r : Fin 4096) (k : Fin 1024) : val_main_v24 (F := Ideal) x g u d (ix2 r k) = out (args x g u d h e) r k := by
  pointwise [val_main_v24, val_main_v21, out]
  exact Finset.sum_congr (M := EReal) rfl fun f _ => by rw [pos_eq x g u d h e r f]

/-! ### The gradients -/

variable {x g u d h e} (H : Finite (args x g u d h e))

include H

theorem dOut_eq (r : Fin 4096) (q : Fin 1024) : val_main_v62 (F := Ideal) x g u d h e (ix2 r q) = dOut (args x g u d h e) r q := by
  refine Eq.trans ?_ (dOut_rule H r q).symm
  pointwise [val_main_v62, val_main_v61, val_main_v60, val_main_v59, val_main_v58, val_main_v57, val_main_cst_14, val_main_v56, val_main_v55, val_main_cst_13, val_main_v54, val_main_v53, val_main_v52, val_main_v51, val_main_v50, val_main_cst_12, val_main_v49, val_main_v48, val_main_cst_11, val_main_v47, val_main_v46, val_main_v45, val_main_v44, val_main_cst_10, val_main_v43, val_main_v42, val_main_v41, val_main_v40, val_main_v39, val_main_v38, val_main_v37, val_main_v36, val_main_v35, val_main_v34, val_main_cst_9, val_main_v33, val_main_v32, val_main_v31, val_main_v30, val_main_cst_8, val_main_v29, val_main_v28, val_main_cst_7, val_main_v27, val_main_v26, val_main_cst_6, val_main_v25, RowNorm.byRule, RowNorm.through, RowNorm.msq]
  simp only [out_eq x g u d h e, Finset.univ_unique, Finset.sum_singleton]

theorem dHid_eq (r f : Fin 4096) : val_main_v66 (F := Ideal) x g u d h e (ix2 r f) = dHid (args x g u d h e) r f := by
  refine Eq.trans ?_ (dHid_choice r f _)
  pointwise [val_main_v66, val_main_v65, val_main_cst_15, val_main_v64, val_main_v63, val_main_v23, val_main_v22, val_main_cst_5, val_main_v19, val_main_v18, val_main_cst_3]
  simp only [hid_eq x g u d h e, pos_eq x g u d h e, dOut_eq H]

theorem dNorm_eq (r : Fin 4096) (j : Fin 1024) : val_main_v67 (F := Ideal) x g u d h e (ix2 r j) = dNorm (args x g u d h e) r j := by
  pointwise [val_main_v67, dNorm]
  exact Finset.sum_congr (M := EReal) rfl fun f _ => by rw [dHid_eq H r f]

theorem dIn_eq (r : Fin 4096) (q : Fin 1024) : val_main_v90 (F := Ideal) x g u d h e (ix2 r q) = dIn (args x g u d h e) r q := by
  refine Eq.trans ?_ (dIn_rule H r q).symm
  pointwise [val_main_v90, val_main_v72, val_main_v71, val_main_v87, val_main_v86, val_main_v85, val_main_v84, val_main_v83, val_main_v82, val_main_cst_20, val_main_v81, val_main_v80, val_main_cst_19, val_main_v79, val_main_v78, val_main_v77, val_main_v76, val_main_v75, val_main_cst_18, val_main_v74, val_main_v10, val_main_v9, val_main_cst_2, val_main_v8, val_main_v7, val_main_v6, val_main_v5, val_main_cst_1, val_main_v4, val_main_v3, val_main_cst_0, val_main_v2, val_main_v1, val_main_cst, val_main_v0, val_main_v13, RowNorm.byRule, RowNorm.through, RowNorm.msq]
  simp only [dNorm_eq H, Finset.univ_unique, Finset.sum_singleton]

theorem dg_eq (q : Fin 1024) : val_main_v92 (F := Ideal) x g u d h e (ix2 0 q) = ∑ r, dg (args x g u d h e) r q := by
  pointwise [val_main_v92, val_main_v73, val_main_v70, val_main_v69, val_main_v68, val_main_cst_16, val_main_cst_17, dg]
  simp only [Finset.univ_unique, Finset.sum_singleton]
  exact Finset.sum_congr (M := EReal) rfl fun r _ => by rw [dNorm_eq H, unit_eq x g u d h e, mul_comm]

omit H

theorem dh_eq (q : Fin 1024) : val_main_v91 (F := Ideal) x g u d e (ix2 0 q) = ∑ r, dh (args x g u d h e) r q := by
  pointwise [val_main_v91, val_main_v48, val_main_cst_11, val_main_v45, val_main_v44, val_main_v43, val_main_cst_10, val_main_v32, val_main_v31, val_main_v30, val_main_cst_8, val_main_v29, val_main_v28, val_main_cst_7, val_main_v27, val_main_v26, val_main_cst_6, val_main_v25, val_main_v36, val_main_v37, val_main_v42, dh, RowNorm.msq]
  simp only [Finset.univ_unique, Finset.sum_singleton]
  exact Finset.sum_congr (M := EReal) rfl fun r _ => by simp only [out_eq x g u d h e]; exact mul_comm _ _

end Cert.MlpRefIdeal.Equation

end
-- ==== Proof.MlpValue.lean ====
/- The gradients of the block of two products are those of the plain layer. The assembly: the arrays the kernel leaves,
   the plain gradients, and the equations between the two. -/
module

public import proofs.«01_k».proof.Defs
public import proofs.«01_k».proof.Proof.Gen.Pre_finite_mlp
public import proofs.«01_k».proof.Proof.MlpArray
public import proofs.«01_k».proof.Proof.MlpEquation

@[expose] public section

noncomputable section

namespace Cert.Proof.Mlp

open Idealize.ShloMosaic Idealize.ShloMosaic.TcCoe Idealize.SL.Sem Cert.MlpKernelIdeal.Array

/-- Two arrays of rows agree where their entries do. -/
theorem entries {n k : ℕ} {a b : Vec Ideal ⟨2, ![n, k]⟩ .f32} (h : ∀ (r : Fin n) (q : Fin k), a (ix2 r q) = b (ix2 r q)) : a = b := by
  funext i
  have e : i = ix2 (i 0) (i 1) := by
    funext a
    match a with
    | ⟨0, _⟩ => rfl
    | ⟨1, _⟩ => rfl
  rw [e]
  exact h _ _

/-- The gradients of the block of two products are those of the plain layer. -/
theorem value : Cert.algebraic_MlpKernelIdeal_MlpRefIdeal_pre_finite_mlp (hMlpKernelIdeal := Cert.MlpKernelIdeal.Gen.facts) (hMlpRefIdeal := Cert.MlpRefIdeal.Gen.facts) (hPre_finite_mlp := Cert.Pre_finite_mlp.Gen.facts) := by
  intro m ρ m' ρ' hpre hag
  refine ⟨fun c i => MlpMath.dOut (argsAt m c) (i 0) (i 1), fun c i => MlpMath.dHid (argsAt m c) (i 0) (i 1),
    fun c i => MlpMath.dIn (argsAt m c) (i 0) (i 1), fun c i => @Finset.sum (Fin 4096) EReal _ Finset.univ (fun r => MlpMath.dh (argsAt m c) r (i 1)),
    fun c i => @Finset.sum (Fin 4096) EReal _ Finset.univ (fun r => MlpMath.dg (argsAt m c) r (i 1)),
    (θ_run _ _ _).mono (fun _ h c => ?_) (Cert.MlpKernelIdeal.Value.run_blocks m ρ),
    (θ_run _ _ _).mono (fun _ h c => ?_) (Cert.MlpRefIdeal.Value.run (F := Ideal) m' ρ')⟩
  · obtain ⟨k0, k1, k2, k3, k4, ka⟩ := h c
    exact ⟨k0.trans (dOut_array m c), k1.trans (dHid_array m c), k2.trans (dIn_array m c), k3.trans (dh_array m c), k4.trans (dg_array m c), ka⟩
  · obtain ⟨h0, h1, h2, h3, h4, h5⟩ := hag c
    have H := Cert.MlpRefIdeal.Equation.reals _ _ _ _ _ _ (hpre c)
    obtain ⟨r0, r1, r2, r3, r4, ra⟩ := h c
    refine ⟨r0.trans ?_, r1.trans ?_, r2.trans ?_, r3.trans ?_, r4.trans ?_, ra⟩
    · refine (Cert.MlpRefIdeal.Read.val_main_v88_eq _).trans ?_
      change Cert.MlpRefIdeal.Read.val_main_v88 (F := Ideal) (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4)) (m' ((c.tc : Thread Cert.MlpRefIdeal.nD Cert.MlpRefIdeal.τ).loc Cert.MlpRefIdeal.main_arg5)) = _
      rw [h0, h1, h2, h3, h4, h5]
      exact entries fun r q => Cert.MlpRefIdeal.Equation.dOut_eq H r q
    · refine (Cert.MlpRefIdeal.Read.val_main_v89_eq _).trans ?_
      change Cert.MlpRefIdeal.Read.val_main_v89 (F := Ideal) (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4)) (m' ((c.tc : Thread Cert.MlpRefIdeal.nD Cert.MlpRefIdeal.τ).loc Cert.MlpRefIdeal.main_arg5)) = _
      rw [h0, h1, h2, h3, h4, h5]
      exact entries fun r q => Cert.MlpRefIdeal.Equation.dHid_eq H r q
    · refine (Cert.MlpRefIdeal.Read.val_main_v90_eq _).trans ?_
      change Cert.MlpRefIdeal.Read.val_main_v90 (F := Ideal) (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4)) (m' ((c.tc : Thread Cert.MlpRefIdeal.nD Cert.MlpRefIdeal.τ).loc Cert.MlpRefIdeal.main_arg5)) = _
      rw [h0, h1, h2, h3, h4, h5]
      exact entries fun r q => Cert.MlpRefIdeal.Equation.dIn_eq H r q
    · refine (Cert.MlpRefIdeal.Read.val_main_v91_eq _).trans ?_
      change Cert.MlpRefIdeal.Read.val_main_v91 (F := Ideal) (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg5)) = _
      rw [h0, h1, h2, h3, h5]
      refine entries fun r q => ?_
      obtain rfl : r = 0 := Subsingleton.elim _ _
      exact Cert.MlpRefIdeal.Equation.dh_eq (h := m ((c.tc : Thread Cert.MlpKernelIdeal.nD Cert.MlpKernelIdeal.τ).loc Cert.MlpKernelIdeal.main_arg4)) q
    · refine (Cert.MlpRefIdeal.Read.val_main_v92_eq _).trans ?_
      change Cert.MlpRefIdeal.Read.val_main_v92 (F := Ideal) (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4)) (m' ((c.tc : Thread Cert.MlpRefIdeal.nD Cert.MlpRefIdeal.τ).loc Cert.MlpRefIdeal.main_arg5)) = _
      rw [h0, h1, h2, h3, h4, h5]
      refine entries fun r q => ?_
      obtain rfl : r = 0 := Subsingleton.elim _ _
      exact Cert.MlpRefIdeal.Equation.dg_eq H q

/-- The plain gradients keep their arguments and end every semaphore at zero. -/
theorem ref_frame : Cert.quiescent_MlpRefIdeal := fun m ρ _ =>
  (θ_run _ _ _).mono (fun r h => ⟨fun c => (h c).2.2.2.2.2, sem_eq_zero_of_no_sems (by decide) r.2⟩)
    (Cert.MlpRefIdeal.Value.run (F := Ideal) m ρ)

end Cert.Proof.Mlp

end
-- ==== Proof.OutArray.lean ====
/- What the output projection with its norm writes, over the extended reals. A point holds 1024 rows: it writes their
   product with the weights, and the input plus the product's norm. -/
module

public import proofs.«01_k».proof.Proof.Gen.OutKernelIdeal.Value
public import proofs.«01_k».proof.Proof.RowNorm
public import Idealize.ShloMosaic.Lib.Pipeline.ValueKit
public import Idealize.ShloMosaic.Lib.Pointwise

@[expose] public section

set_option maxRecDepth 16384

noncomputable section

namespace Cert.OutKernelIdeal.Array

open Cert.OutKernelIdeal Cert.OutKernelIdeal.Gen Idealize.ShloMosaic Idealize.ShloMosaic.TcCoe Idealize.SL.Sem
open Idealize.ShloMosaic.Pipeline (Dat)

/-- A row of the product of two arrays. -/
def mix (a : Vec Ideal S4096x2048 .f32) (w : Vec Ideal S2048x1024 .f32) (r : Fin 4096) (q : Fin 1024) : EReal :=
  @Finset.sum (Fin 2048) EReal _ Finset.univ (fun k => @HMul.hMul EReal EReal EReal _ (a (ix2 r k)) (w (ix2 k q)))

/-- The input's row plus the norm of the product's. -/
def res (a : Vec Ideal S4096x2048 .f32) (w : Vec Ideal S2048x1024 .f32) (x : Vec Ideal S4096x1024 .f32) (g : Vec Ideal S1024 .f32)
    (r : Fin 4096) (q : Fin 1024) : EReal :=
  x (ix2 r q) + mix a w r q * Ideal.rsqrt (RowNorm.msq fun j => mix a w r j) * g (ix1 q)

/-! ### One block -/

theorem mix_apply (a : Vec Ideal S1024x2048 .bf16) (w : Vec Ideal S2048x1024 .bf16) (p q : Fin 1024) :
    k0_pay1 a w (ix2 p q) = @Finset.sum (Fin 2048) EReal _ Finset.univ (fun k => @HMul.hMul EReal EReal EReal _ (a (ix2 p k)) (w (ix2 k q))) := by
  pointwise [k0_pay1]

theorem res_apply (a : Vec Ideal S1024x2048 .bf16) (w : Vec Ideal S2048x1024 .bf16) (x : Vec Ideal S1024x1024 .f32) (g : Vec Ideal S1x1024 .f32)
    (p q : Fin 1024) : k0_pay3 a w x g (ix2 p q)
      = x (ix2 p q) + k0_pay1 a w (ix2 p q) * Ideal.rsqrt (RowNorm.msq fun j => k0_pay1 a w (ix2 p j)) * g (ix2 (0 : Fin 1) q) := by
  unfold k0_pay3
  generalize k0_pay1 a w = y
  pointwise [RowNorm.msq]

/-! ### What the blocks hold -/

variable (m : (ℓ : Loc nD τ sig) → Buf (Elt Ideal) ℓ)

abbrev mixAt (c : Dev nD) : Fin 4096 → Fin 1024 → EReal := mix (m ((c.tc : Thread nD τ).loc main_arg0)) (m ((c.tc : Thread nD τ).loc main_arg1))
abbrev resAt (c : Dev nD) : Fin 4096 → Fin 1024 → EReal := res (m ((c.tc : Thread nD τ).loc main_arg0)) (m ((c.tc : Thread nD τ).loc main_arg1))
  (m ((c.tc : Thread nD τ).loc main_arg2)) (m ((c.tc : Thread nD τ).loc main_arg3))

theorem a_block (c : Dev nD) (t : Fin cfg0.N) (p : Fin 1024) (k : Fin 2048) (r : Fin 4096) (hr : r.val = 1024 * t.val + p.val) :
    (iblk m c 0 t : Vec Ideal S1024x2048 .bf16) (ix2 p k) = (m ((c.tc : Thread nD τ).loc main_arg0) : Vec Ideal S4096x2048 .f32) (ix2 r k) := by
  have hi : ∀ t : Fin cfg0.N, win0_0.index t = ![t.val, 0] := (by decide +kernel : ∀ t : Fin grid0.N, win0_0.index t = ![t.val, 0])
  have e : (win0_0.blk t).view.emb (ix2 p k) = ix2 r k := by blk_ext [hi t]
  blk_simp [iblk]
  rw [e]
  entry_read
  pointwise

theorem w_block (c : Dev nD) (t : Fin cfg0.N) (k : Fin 2048) (q : Fin 1024) :
    (iblk m c 1 t : Vec Ideal S2048x1024 .bf16) (ix2 k q) = (m ((c.tc : Thread nD τ).loc main_arg1) : Vec Ideal S2048x1024 .f32) (ix2 k q) := by
  have hi : ∀ t : Fin cfg0.N, win0_1.index t = ![0, 0] := (by decide +kernel : ∀ t : Fin grid0.N, win0_1.index t = ![0, 0])
  have e : (win0_1.blk t).view.emb (ix2 k q) = ix2 k q := by blk_ext [hi t]
  blk_simp [iblk]
  rw [e]
  entry_read
  pointwise

theorem x_block (c : Dev nD) (t : Fin cfg0.N) (p q : Fin 1024) (r : Fin 4096) (hr : r.val = 1024 * t.val + p.val) :
    (iblk m c 2 t : Vec Ideal S1024x1024 .f32) (ix2 p q) = m ((c.tc : Thread nD τ).loc main_arg2) (ix2 r q) := by
  have hi : ∀ t : Fin cfg0.N, win0_2.index t = ![t.val, 0] := (by decide +kernel : ∀ t : Fin grid0.N, win0_2.index t = ![t.val, 0])
  blk_ext [iblk, V, hi t]

theorem g_block (c : Dev nD) (t : Fin cfg0.N) (q : Fin 1024) :
    (iblk m c 3 t : Vec Ideal S1x1024 .f32) (ix2 0 q) = m ((c.tc : Thread nD τ).loc main_arg3) (ix1 q) := by
  have hi : ∀ t : Fin cfg0.N, win0_3.index t = ![0, 0] := (by decide +kernel : ∀ t : Fin grid0.N, win0_3.index t = ![0, 0])
  blk_simp [iblk, hi t]
  entry_read
  pointwise
  blk_ext [hi t]

theorem mix_block (c : Dev nD) (t : Fin cfg0.N) (p q : Fin 1024) (r : Fin 4096) (hr : r.val = 1024 * t.val + p.val) :
    k0_pay1 (iblk m c 0 t) (iblk m c 1 t) (ix2 p q) = mixAt m c r q := by
  refine (mix_apply _ _ p q).trans ?_
  exact Finset.sum_congr (M := EReal) rfl fun k _ => congrArg₂ (· * ·) (a_block m c t p k r hr) (w_block m c t k q)

theorem res_block (c : Dev nD) (t : Fin cfg0.N) (p q : Fin 1024) (r : Fin 4096) (hr : r.val = 1024 * t.val + p.val) :
    k0_pay3 (iblk m c 0 t) (iblk m c 1 t) (iblk m c 2 t) (iblk m c 3 t) (ix2 p q) = resAt m c r q := by
  refine (res_apply _ _ _ _ p q).trans ?_
  refine congrArg₂ (· + ·) (x_block m c t p q r hr) (congrArg₂ (· * ·) (congrArg₂ (· * ·) (mix_block m c t p q r hr) ?_) (g_block m c t q))
  exact congrArg (fun f => Ideal.rsqrt (RowNorm.msq f)) (funext fun j => mix_block m c t p j r hr)

/-! ### What the arrays hold -/

theorem mix_out (c : Dev nD) (t : Fin cfg0.N) : out0_4 (iblk m c 0 t) (iblk m c 1 t) (iblk m c 2 t) (iblk m c 3 t)
    = k0_pay2 (iblk m c 0 t) (iblk m c 1 t) := by
  frame_out

theorem res_out (c : Dev nD) (t : Fin cfg0.N) : out0_5 (iblk m c 0 t) (iblk m c 1 t) (iblk m c 2 t) (iblk m c 3 t)
    = k0_pay3 (iblk m c 0 t) (iblk m c 1 t) (iblk m c 2 t) (iblk m c 3 t) := by
  frame_out

theorem mix_array (c : Dev nD) : (dats m 0 c).arrAt 4 cfg0.N = fun i => mixAt m c (i 0) (i 1) := by
  have hi : ∀ t : Fin cfg0.N, win0_4.index t = ![t.val, 0] := (by decide +kernel : ∀ t : Fin grid0.N, win0_4.index t = ![t.val, 0])
  refine (dats m 0 c).arrAt_eq_of_covers 4 _ (by decide +kernel) fun t hf y => ?_
  have ht := lt_of_lt_of_eq t.isLt N_0
  blk_simp
  rw [after0_4, mix_out]
  obtain ⟨p, q, rfl⟩ : ∃ (p : Fin 1024) (q : Fin 1024), y = ix2 p q := ⟨y 0, y 1, by funext a; match a with | ⟨0, _⟩ => rfl | ⟨1, _⟩ => rfl⟩
  obtain ⟨r, hr⟩ : ∃ r : Fin 4096, r.val = 1024 * t.val + p.val := ⟨⟨1024 * t.val + p.val, by omega⟩, rfl⟩
  rw [show (win0_4.blk t).view.emb (ix2 p q) = ix2 r q by blk_ext [hi t]]
  exact mix_block m c t p q r hr

theorem res_array (c : Dev nD) : (dats m 0 c).arrAt 5 cfg0.N = fun i => resAt m c (i 0) (i 1) := by
  have hi : ∀ t : Fin cfg0.N, win0_5.index t = ![t.val, 0] := (by decide +kernel : ∀ t : Fin grid0.N, win0_5.index t = ![t.val, 0])
  refine (dats m 0 c).arrAt_eq_of_covers 5 _ (by decide +kernel) fun t hf y => ?_
  have ht := lt_of_lt_of_eq t.isLt N_0
  blk_simp
  rw [after0_5, res_out]
  obtain ⟨p, q, rfl⟩ : ∃ (p : Fin 1024) (q : Fin 1024), y = ix2 p q := ⟨y 0, y 1, by funext a; match a with | ⟨0, _⟩ => rfl | ⟨1, _⟩ => rfl⟩
  obtain ⟨r, hr⟩ : ∃ r : Fin 4096, r.val = 1024 * t.val + p.val := ⟨⟨1024 * t.val + p.val, by omega⟩, rfl⟩
  rw [show (win0_5.blk t).view.emb (ix2 p q) = ix2 r q by blk_ext [hi t]]
  exact res_block m c t p q r hr

end Cert.OutKernelIdeal.Array

end
-- ==== Proof.OutValue.lean ====
/- The output projection with its norm is the plain layer's: the arrays the kernel leaves are the plain product, and the
   input plus the plain norm of it. -/
module

public import proofs.«01_k».proof.Defs
public import proofs.«01_k».proof.Proof.Gen.OutRefIdeal.Read
public import proofs.«01_k».proof.Proof.OutArray

@[expose] public section

set_option maxRecDepth 16384

noncomputable section

namespace Cert.OutRefIdeal.Equation

open Cert.OutRefIdeal Cert.OutRefIdeal.Read Idealize.ShloMosaic Cert.OutKernelIdeal.Array

variable (a : Vec Ideal ⟨2, ![4096, 2048]⟩ .f32) (w : Vec Ideal ⟨2, ![2048, 1024]⟩ .f32) (x : Vec Ideal ⟨2, ![4096, 1024]⟩ .f32)
  (g : Vec Ideal ⟨1, ![1024]⟩ .f32)

theorem mix_eq (r : Fin 4096) (q : Fin 1024) : val_main_v0 (F := Ideal) a w (ix2 r q) = mix a w r q := by
  pointwise [val_main_v0, mix]

theorem res_eq (r : Fin 4096) (q : Fin 1024) : val_main_v15 (F := Ideal) a w x g (ix2 r q) = res a w x g r q := by
  pointwise [val_main_v15, val_main_v14, val_main_v13, val_main_v12, val_main_v11, val_main_v10, val_main_v9, val_main_v8, val_main_v7, val_main_cst_1, val_main_v6, val_main_v5, val_main_cst_0, val_main_v4, val_main_v3, val_main_cst, val_main_v2, res, RowNorm.msq]
  simp only [mix_eq]

end Cert.OutRefIdeal.Equation

namespace Cert.Proof.Out

open Idealize.ShloMosaic Idealize.ShloMosaic.TcCoe Idealize.SL.Sem Cert.OutKernelIdeal.Array

/-- An array of rows is known by its entries. -/
theorem entries {n k : ℕ} {a b : Vec Ideal ⟨2, ![n, k]⟩ .f32} (h : ∀ (r : Fin n) (q : Fin k), a (ix2 r q) = b (ix2 r q)) : a = b := by
  funext i
  have e : i = ix2 (i 0) (i 1) := by
    funext a
    match a with
    | ⟨0, _⟩ => rfl
    | ⟨1, _⟩ => rfl
  rw [e]
  exact h _ _

/-- The output projection and its norm are the plain layer's. -/
theorem value : Cert.algebraic_OutKernelIdeal_OutRefIdeal (hOutKernelIdeal := Cert.OutKernelIdeal.Gen.facts) (hOutRefIdeal := Cert.OutRefIdeal.Gen.facts) := by
  intro m ρ m' ρ' _ hag
  refine ⟨fun c i => mixAt m c (i 0) (i 1), fun c i => resAt m c (i 0) (i 1),
    (θ_run _ _ _).mono (fun _ h c => ?_) (Cert.OutKernelIdeal.Value.run_blocks m ρ),
    (θ_run _ _ _).mono (fun _ h c => ?_) (Cert.OutRefIdeal.Value.run (F := Ideal) m' ρ')⟩
  · obtain ⟨k0, k1, ka⟩ := h c
    exact ⟨k0.trans (mix_array m c), k1.trans (res_array m c), ka⟩
  · obtain ⟨h0, h1, h2, h3⟩ := hag c
    obtain ⟨r0, r1, ra⟩ := h c
    refine ⟨r0.trans ?_, r1.trans ?_, ra⟩
    · refine (Cert.OutRefIdeal.Read.val_main_v1_eq _ _).trans ?_
      change Cert.OutRefIdeal.Read.val_main_v0 (F := Ideal) (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) = _
      rw [h0, h1]
      exact entries fun r q => Cert.OutRefIdeal.Equation.mix_eq _ _ r q
    · refine (Cert.OutRefIdeal.Read.val_main_v15_eq _ _ _ _).trans ?_
      change Cert.OutRefIdeal.Read.val_main_v15 (F := Ideal) (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3)) = _
      rw [h0, h1, h2, h3]
      exact entries fun r q => Cert.OutRefIdeal.Equation.res_eq _ _ _ _ r q

/-- The plain layer keeps its arguments and ends every semaphore at zero. -/
theorem ref_frame : Cert.quiescent_OutRefIdeal := fun m ρ _ =>
  (θ_run _ _ _).mono (fun r h => ⟨fun c => (h c).2.2, sem_eq_zero_of_no_sems (by decide) r.2⟩)
    (Cert.OutRefIdeal.Value.run (F := Ideal) m ρ)

end Cert.Proof.Out

end
-- ==== Proof.FfArray.lean ====
/- What the forward of the block of two products writes, over the extended reals. A point holds 512 rows and goes through
   the hidden columns in four chunks: the chunks side by side are the first product, and the second product is the sum of
   the four chunks' products of the squared positive parts. -/
module

public import proofs.«01_k».proof.Proof.Gen.FfKernelIdeal.Value
public import proofs.«01_k».proof.Proof.MlpMath
public import proofs.«01_k».proof.Proof.ERealSums
public import Idealize.ShloMosaic.Lib.Pipeline.ValueKit
public import Idealize.ShloMosaic.Lib.Pointwise

@[expose] public section

set_option maxRecDepth 16384

noncomputable section

namespace Cert.FfKernelIdeal.Array

open Cert.FfKernelIdeal Cert.FfKernelIdeal.Gen Idealize.ShloMosaic Idealize.ShloMosaic.TcCoe Idealize.SL.Sem MlpMath
open Idealize.ShloMosaic.Pipeline (Dat)

/-! ### One block -/

/-- The first norm of a block. -/
theorem norm_apply (x : Vec Ideal S512x1024 .f32) (g : Vec Ideal S1x1024 .f32) (p : Fin 512) (j : Fin 1024) :
    k0_pay4 x g (ix2 p j) = x (ix2 p j) * Ideal.rsqrt (RowNorm.msq fun k => x (ix2 p k)) * g (ix2 (0 : Fin 1) j) := by
  pointwise [k0_pay4, RowNorm.msq]

/-- The block's output: the input plus the second norm. -/
theorem res_apply (x a : FVec Ideal S512x1024 .f32) (b : FVec Ideal S512x1024 .bf16) (d : FVec Ideal S1024x1024 .bf16) (g : Vec Ideal S1x1024 .f32)
    (p : Fin 512) (q : Fin 1024) : k0_pay3 x a b d g (ix2 p q)
      = x (ix2 p q) + k0_pay1 a b d (ix2 p q) * Ideal.rsqrt (RowNorm.msq fun j => k0_pay1 a b d (ix2 p j)) * g (ix2 (0 : Fin 1) q) := by
  unfold k0_pay3
  generalize k0_pay1 a b d = y
  pointwise [RowNorm.msq]

section Chunks

variable (H : FVec Ideal S512x1024 .bf16) (W : Vec Ideal S4096x1024 .bf16) (U : Vec Ideal S4x1024x1024 .bf16)
  (up : Fin 1024 → Fin 4096 → EReal)
  (hu : ∀ (b : Fin 4) (j k : Fin 1024) (f : Fin 4096), f.val = b.val * 1024 + k.val → U (ix3 b j k) = up j f)

/-- The first product of a block. -/
def first (p : Fin 512) (f : Fin 4096) : EReal := ∑ j : Fin 1024, (H (ix2 p j) : EReal) * up j f

abbrev u0 : Vec Ideal S1x1024x1024 .bf16 := View.ld U (Rect.unit (s := S4x1024x1024) ![0, 0, 0] ![1, 1024, 1024] inb_S4x1024x1024_S1x1024x1024_0_0_0)
abbrev u1 : Vec Ideal S1x1024x1024 .bf16 := View.ld U (Rect.unit (s := S4x1024x1024) ![1, 0, 0] ![1, 1024, 1024] inb_S4x1024x1024_S1x1024x1024_1_0_0)
abbrev u2 : Vec Ideal S1x1024x1024 .bf16 := View.ld U (Rect.unit (s := S4x1024x1024) ![2, 0, 0] ![1, 1024, 1024] inb_S4x1024x1024_S1x1024x1024_2_0_0)
abbrev u3 : Vec Ideal S1x1024x1024 .bf16 := View.ld U (Rect.unit (s := S4x1024x1024) ![3, 0, 0] ![1, 1024, 1024] inb_S4x1024x1024_S1x1024x1024_3_0_0)
abbrev w0 : Vec Ideal S1024x1024 .bf16 := View.ld W (Rect.unit (s := S4096x1024) ![0, 0] ![1024, 1024] inb_S4096x1024_S1024x1024_0_0)
abbrev w1 : Vec Ideal S1024x1024 .bf16 := View.ld W (Rect.unit (s := S4096x1024) ![1024, 0] ![1024, 1024] inb_S4096x1024_S1024x1024_1024_0)
abbrev w2 : Vec Ideal S1024x1024 .bf16 := View.ld W (Rect.unit (s := S4096x1024) ![2048, 0] ![1024, 1024] inb_S4096x1024_S1024x1024_2048_0)
abbrev w3 : Vec Ideal S1024x1024 .bf16 := View.ld W (Rect.unit (s := S4096x1024) ![3072, 0] ![1024, 1024] inb_S4096x1024_S1024x1024_3072_0)

theorem chunk (u : Vec Ideal S1x1024x1024 .bf16) (p : Fin 512) (k : Fin 1024) :
    k0_pay13 H u (ix2 p k) = @Finset.sum (Fin 1024) EReal _ Finset.univ (fun j => @HMul.hMul EReal EReal EReal _ (H (ix2 p j)) (u (ix3 (0 : Fin 1) j k))) := by
  pointwise [k0_pay13]

theorem squares (u : Vec Ideal S1x1024x1024 .bf16) (p : Fin 512) (k : Fin 1024) :
    k0_pay15 H u (ix2 p k) = max (k0_pay13 H u (ix2 p k) : EReal) 0 * max (k0_pay13 H u (ix2 p k) : EReal) 0 := by
  unfold k0_pay15
  generalize k0_pay13 H u = y
  pointwise

include hu in
/-- A chunk of the first product, wherever it starts. -/
theorem chunk_apply {o : ℕ} (iu : ∀ a : Fin 3, (![o, 0, 0] : Fin 3 → ℕ) a + (![1, 1024, 1024] : Fin 3 → ℕ) a ≤ S4x1024x1024.size a) (b : Fin 4)
    (hb : b.val = o) (p : Fin 512) (k : Fin 1024) (f : Fin 4096) (hf : f.val = b.val * 1024 + k.val) :
    k0_pay13 H (View.ld U (Rect.unit (s := S4x1024x1024) ![o, 0, 0] ![1, 1024, 1024] iu)) (ix2 p k) = first H up p f := by
  rw [chunk, first]
  refine Finset.sum_congr (M := EReal) rfl fun j _ => congrArg (_ * ·) (Eq.trans ?_ (hu b j k f hf))
  refine View.ld_unit_apply_of U _ _ _ _ (ix3 b j k) fun a => ?_
  match a with
  | ⟨0, _⟩ => exact hb
  | ⟨1, _⟩ => exact (Nat.zero_add _).symm
  | ⟨2, _⟩ => exact (Nat.zero_add _).symm

/-- The four chunks side by side. -/
def firstBlock : Vec Ideal S512x4096 .bf16 :=
  View.canon [⟨Rect.unit (s := S512x4096) ![0, 3072] ![512, 1024] inb_S512x4096_S512x1024_0_3072, k0_pay14 H (u3 U)⟩,
    ⟨Rect.unit (s := S512x4096) ![0, 2048] ![512, 1024] inb_S512x4096_S512x1024_0_2048, k0_pay14 H (u2 U)⟩,
    ⟨Rect.unit (s := S512x4096) ![0, 1024] ![512, 1024] inb_S512x4096_S512x1024_0_1024, k0_pay14 H (u1 U)⟩,
    ⟨Rect.unit (s := S512x4096) ![0, 0] ![512, 1024] inb_S512x4096_S512x1024_0_0, k0_pay14 H (u0 U)⟩]

/-- A column in a piece, and one outside it. -/
theorem within {o : ℕ} (inb : ∀ a : Fin 2, (![0, o] : Fin 2 → ℕ) a + (![512, 1024] : Fin 2 → ℕ) a ≤ S512x4096.size a)
    (v : (Rect.unit (s := S512x4096) ![0, o] ![512, 1024] inb).shape.Idx → Elt Ideal .bf16) (L : List ((r : Rect S512x4096) × (r.shape.Idx → Elt Ideal .bf16)))
    (p : Fin 512) (f : Fin 4096) (j : Fin 1024) (hf : f.val = o + j.val) :
    View.canon (⟨Rect.unit (s := S512x4096) ![0, o] ![512, 1024] inb, v⟩ :: L) (ix2 p f) = v (ix2 p j) := by
  rw [show (ix2 p f : S512x4096.Idx) = (Rect.unit (s := S512x4096) ![0, o] ![512, 1024] inb).emb (ix2 p j) from
    funext fun a => Fin.ext (by
      rw [Rect.emb_apply]
      match a with
      | ⟨0, _⟩ => show p.val = 0 + 1 * p.val; omega
      | ⟨1, _⟩ => show f.val = o + 1 * j.val; omega)]
  exact View.canon_cons_emb _ v L _

theorem outside {o : ℕ} (inb : ∀ a : Fin 2, (![0, o] : Fin 2 → ℕ) a + (![512, 1024] : Fin 2 → ℕ) a ≤ S512x4096.size a)
    (v : (Rect.unit (s := S512x4096) ![0, o] ![512, 1024] inb).shape.Idx → Elt Ideal .bf16) (L : List ((r : Rect S512x4096) × (r.shape.Idx → Elt Ideal .bf16)))
    (p : Fin 512) (f : Fin 4096) (hf : f.val < o) :
    View.canon (⟨Rect.unit (s := S512x4096) ![0, o] ![512, 1024] inb, v⟩ :: L) (ix2 p f) = View.canon L (ix2 p f) :=
  View.canon_cons_of_not_mem _ L fun hm => absurd ((Rect.mem_set_unit (inb := inb)).mp hm (1 : Fin 2)).1 (Nat.not_le.mpr hf)

include hu in
theorem firstBlock_apply (p : Fin 512) (f : Fin 4096) : firstBlock H U (ix2 p f) = first H up p f := by
  unfold firstBlock
  by_cases c3 : 3072 ≤ f.val
  · rw [within _ _ _ p f ⟨f.val - 3072, by omega⟩ (by show _ = _ + (f.val - 3072); omega)]
    exact chunk_apply H U up hu _ 3 rfl _ _ _ (by show _ = 3 * 1024 + (f.val - 3072); omega)
  rw [outside _ _ _ p f (by omega)]
  by_cases c2 : 2048 ≤ f.val
  · rw [within _ _ _ p f ⟨f.val - 2048, by omega⟩ (by show _ = _ + (f.val - 2048); omega)]
    exact chunk_apply H U up hu _ 2 rfl _ _ _ (by show _ = 2 * 1024 + (f.val - 2048); omega)
  rw [outside _ _ _ p f (by omega)]
  by_cases c1 : 1024 ≤ f.val
  · rw [within _ _ _ p f ⟨f.val - 1024, by omega⟩ (by show _ = _ + (f.val - 1024); omega)]
    exact chunk_apply H U up hu _ 1 rfl _ _ _ (by show _ = 1 * 1024 + (f.val - 1024); omega)
  rw [outside _ _ _ p f (by omega), within _ _ _ p f ⟨f.val, by omega⟩ (by show _ = _ + f.val; omega)]
  exact chunk_apply H U up hu _ 0 rfl _ _ _ (by show _ = 0 * 1024 + f.val; omega)

/-- The chunks' products added up. -/
def secondBlock : FVec Ideal S512x1024 .f32 :=
  k0_pay1 (k0_pay12 H (matmul dot_S512x1024_S1024x1024_S512x1024_1_0_0_1_n_n none (k0_pay15 H (u0 U)) (k0_pay16 (w0 W)) (constant S512x1024 .f32 0x00000000#32))
    (k0_pay13 H (u1 U)) (w1 W) (u2 U) (w2 W)) (k0_pay15 H (u3 U)) (k0_pay16 (w3 W))

theorem second_sum (p : Fin 512) (q : Fin 1024) : secondBlock H W U (ix2 p q)
    = @Finset.sum (Fin 1024) EReal _ Finset.univ (fun k => @HMul.hMul EReal EReal EReal _ (k0_pay15 H (u0 U) (ix2 p k)) (w0 W (ix2 k q)))
      + @Finset.sum (Fin 1024) EReal _ Finset.univ (fun k => @HMul.hMul EReal EReal EReal _ (k0_pay15 H (u1 U) (ix2 p k)) (w1 W (ix2 k q)))
      + @Finset.sum (Fin 1024) EReal _ Finset.univ (fun k => @HMul.hMul EReal EReal EReal _ (k0_pay15 H (u2 U) (ix2 p k)) (w2 W (ix2 k q)))
      + @Finset.sum (Fin 1024) EReal _ Finset.univ (fun k => @HMul.hMul EReal EReal EReal _ (k0_pay15 H (u3 U) (ix2 p k)) (w3 W (ix2 k q))) := by
  have e : secondBlock H W U = addf (addf (addf
      (matmul dot_S512x1024_S1024x1024_S512x1024_1_0_0_1_n_n none (k0_pay15 H (u0 U)) (k0_pay16 (w0 W)) (constant S512x1024 .f32 0x00000000#32))
      (matmul dot_S512x1024_S1024x1024_S512x1024_1_0_0_1_n_n none (k0_pay15 H (u1 U)) (k0_pay16 (w1 W)) (constant S512x1024 .f32 0x00000000#32)))
      (matmul dot_S512x1024_S1024x1024_S512x1024_1_0_0_1_n_n none (k0_pay15 H (u2 U)) (k0_pay16 (w2 W)) (constant S512x1024 .f32 0x00000000#32)))
      (matmul dot_S512x1024_S1024x1024_S512x1024_1_0_0_1_n_n none (k0_pay15 H (u3 U)) (k0_pay16 (w3 W)) (constant S512x1024 .f32 0x00000000#32)) := rfl
  rw [e]
  generalize k0_pay15 H (u0 U) = a0
  generalize k0_pay15 H (u1 U) = a1
  generalize k0_pay15 H (u2 U) = a2
  generalize k0_pay15 H (u3 U) = a3
  generalize w0 W = b0
  generalize w1 W = b1
  generalize w2 W = b2
  generalize w3 W = b3
  pointwise [k0_pay16]

/-- A chunk of the second product's weights. -/
theorem w_apply {o : ℕ} (iw : ∀ a : Fin 2, (![o, 0] : Fin 2 → ℕ) a + (![1024, 1024] : Fin 2 → ℕ) a ≤ S4096x1024.size a)
    (k q : Fin 1024) (f : Fin 4096) (hf : f.val = o + k.val) :
    View.ld W (Rect.unit (s := S4096x1024) ![o, 0] ![1024, 1024] iw) (ix2 k q) = W (ix2 f q) := by
  refine View.ld_unit_apply_of W _ _ _ _ (ix2 f q) fun a => ?_
  match a with
  | ⟨0, _⟩ => exact hf
  | ⟨1, _⟩ => exact (Nat.zero_add _).symm

include hu in
/-- One term of a chunk's product. -/
theorem term {o v : ℕ} (iu : ∀ a : Fin 3, (![o, 0, 0] : Fin 3 → ℕ) a + (![1, 1024, 1024] : Fin 3 → ℕ) a ≤ S4x1024x1024.size a)
    (iw : ∀ a : Fin 2, (![v, 0] : Fin 2 → ℕ) a + (![1024, 1024] : Fin 2 → ℕ) a ≤ S4096x1024.size a) (b : Fin 4)
    (hb : b.val = o) (hv : v = b.val * 1024) (p : Fin 512) (k q : Fin 1024) (f : Fin 4096) (hf : f.val = b.val * 1024 + k.val) :
    @HMul.hMul EReal EReal EReal _ (k0_pay15 H (View.ld U (Rect.unit (s := S4x1024x1024) ![o, 0, 0] ![1, 1024, 1024] iu)) (ix2 p k))
        (View.ld W (Rect.unit (s := S4096x1024) ![v, 0] ![1024, 1024] iw) (ix2 k q))
      = max (first H up p f) 0 * max (first H up p f) 0 * (W (ix2 f q) : EReal) := by
  rw [squares, chunk_apply H U up hu iu b hb p k f hf]
  exact congrArg (_ * ·) (w_apply W iw k q f (by omega))

include hu in
/-- Summed over the chunks it is summed over the hidden columns. -/
theorem second_apply (p : Fin 512) (q : Fin 1024) :
    secondBlock H W U (ix2 p q) = ∑ f : Fin 4096, max (first H up p f) 0 * max (first H up p f) 0 * (W (ix2 f q) : EReal) := by
  rw [second_sum]
  refine Eq.trans ?_ (Fin.sum_mul_add_congr (M := EReal) (L := 4096) (S := 4) (n := 1024)
    (F := fun b k => max (first H up p ⟨b.val * 1024 + k.val, by omega⟩) 0 * max (first H up p ⟨b.val * 1024 + k.val, by omega⟩) 0
      * (W (ix2 ⟨b.val * 1024 + k.val, by omega⟩ q) : EReal)) fun _ _ _ => rfl)
  rw [Fin.sum_univ_four]
  refine congrArg₂ (· + ·) (congrArg₂ (· + ·) (congrArg₂ (· + ·) ?_ ?_) ?_) ?_
  · exact Finset.sum_congr (M := EReal) rfl fun k _ => term H W U up hu _ _ 0 rfl rfl p k q _ rfl
  · exact Finset.sum_congr (M := EReal) rfl fun k _ => term H W U up hu _ _ 1 rfl rfl p k q _ rfl
  · exact Finset.sum_congr (M := EReal) rfl fun k _ => term H W U up hu _ _ 2 rfl rfl p k q _ rfl
  · exact Finset.sum_congr (M := EReal) rfl fun k _ => term H W U up hu _ _ 3 rfl rfl p k q _ rfl

end Chunks

/-! ### What the blocks hold -/

variable (m : (ℓ : Loc nD τ sig) → Buf (Elt Ideal) ℓ)

/-- The arguments; there is no cotangent, the input stands in its place and is not read there. -/
abbrev argsAt (c : Dev nD) : Args := args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg0))

theorem x_block (c : Dev nD) (t : Fin cfg0.N) (p : Fin 512) (j : Fin 1024) (r : Fin 4096) (hr : r.val = 512 * t.val + p.val) :
    (iblk m c 0 t : Vec Ideal S512x1024 .f32) (ix2 p j) = m ((c.tc : Thread nD τ).loc main_arg0) (ix2 r j) := by
  have hi : ∀ t : Fin cfg0.N, win0_0.index t = ![t.val, 0] := (by decide +kernel : ∀ t : Fin grid0.N, win0_0.index t = ![t.val, 0])
  blk_ext [iblk, V, hi t]

theorem g_block (c : Dev nD) (t : Fin cfg0.N) (j : Fin 1024) :
    (iblk m c 1 t : Vec Ideal S1x1024 .f32) (ix2 0 j) = m ((c.tc : Thread nD τ).loc main_arg1) (ix1 j) := by
  have hi : ∀ t : Fin cfg0.N, win0_1.index t = ![0, 0] := (by decide +kernel : ∀ t : Fin grid0.N, win0_1.index t = ![0, 0])
  blk_simp [iblk, hi t]
  entry_read
  pointwise
  blk_ext [hi t]

theorem h_block (c : Dev nD) (t : Fin cfg0.N) (j : Fin 1024) :
    (iblk m c 4 t : Vec Ideal S1x1024 .f32) (ix2 0 j) = m ((c.tc : Thread nD τ).loc main_arg4) (ix1 j) := by
  have hi : ∀ t : Fin cfg0.N, win0_4.index t = ![0, 0] := (by decide +kernel : ∀ t : Fin grid0.N, win0_4.index t = ![0, 0])
  blk_simp [iblk, hi t]
  entry_read
  pointwise
  blk_ext [hi t]

theorem down_block (c : Dev nD) (t : Fin cfg0.N) (f : Fin 4096) (k : Fin 1024) :
    (iblk m c 3 t : Vec Ideal S4096x1024 .bf16) (ix2 f k) = (m ((c.tc : Thread nD τ).loc main_arg3) : Vec Ideal S4096x1024 .f32) (ix2 f k) := by
  have hi : ∀ t : Fin cfg0.N, win0_3.index t = ![0, 0] := (by decide +kernel : ∀ t : Fin grid0.N, win0_3.index t = ![0, 0])
  blk_simp [iblk, hi t]
  entry_read
  pointwise
  blk_ext [hi t]

theorem up_block (c : Dev nD) (t : Fin cfg0.N) (b : Fin 4) (j k : Fin 1024) (f : Fin 4096) (hf : f.val = b.val * 1024 + k.val) :
    (iblk m c 2 t : Vec Ideal S4x1024x1024 .bf16) (ix3 b j k) = (argsAt m c).up j f := by
  have hi : ∀ t : Fin cfg0.N, win0_2.index t = ![0, 0, 0] := (by decide +kernel : ∀ t : Fin grid0.N, win0_2.index t = ![0, 0, 0])
  have e : (win0_2.blk t).view.emb (ix3 b j k) = ix3 b j k := by blk_ext [hi t]
  blk_simp [iblk]
  rw [e]
  entry_read
  pointwise
  exact congrArg (fun f => m (c, Proc.tc.devRef main_arg2) (ix2 j f)) (Fin.ext hf.symm)

/-- A point's blocks of the first norm and of the second product. -/
abbrev normB (c : Dev nD) (t : Fin cfg0.N) : FVec Ideal S512x1024 .bf16 := k0_pay4 (iblk m c 0 t) (iblk m c 1 t)
abbrev secondB (c : Dev nD) (t : Fin cfg0.N) : FVec Ideal S512x1024 .f32 := secondBlock (normB m c t) (iblk m c 3 t) (iblk m c 2 t)

theorem norm_block (c : Dev nD) (t : Fin cfg0.N) (p : Fin 512) (j : Fin 1024) (r : Fin 4096) (hr : r.val = 512 * t.val + p.val) :
    normB m c t (ix2 p j) = unit (argsAt m c) r j * (argsAt m c).g j := by
  refine (norm_apply _ _ p j).trans ?_
  refine congrArg₂ (· * ·) (congrArg₂ (· * ·) (x_block m c t p j r hr) ?_) (g_block m c t j)
  exact congrArg (fun f => Ideal.rsqrt (RowNorm.msq f)) (funext fun k => x_block m c t p k r hr)

theorem first_block (c : Dev nD) (t : Fin cfg0.N) (p : Fin 512) (f : Fin 4096) (r : Fin 4096) (hr : r.val = 512 * t.val + p.val) :
    first (normB m c t) (argsAt m c).up p f = hid (argsAt m c) r f :=
  Finset.sum_congr (M := EReal) rfl fun j _ => congrArg (· * _) (norm_block m c t p j r hr)

theorem second_block (c : Dev nD) (t : Fin cfg0.N) (p : Fin 512) (q : Fin 1024) (r : Fin 4096) (hr : r.val = 512 * t.val + p.val) :
    secondB m c t (ix2 p q) = out (argsAt m c) r q := by
  refine (second_apply _ _ _ (argsAt m c).up (fun b j k f hf => up_block m c t b j k f hf) p q).trans ?_
  refine Finset.sum_congr (M := EReal) rfl fun f _ => congrArg₂ (· * ·) ?_ (down_block m c t f q)
  rw [first_block m c t p f r hr]
  rfl

/-- The output of the whole block: the input plus the second norm. -/
def res (A : Args) (r : Fin 4096) (q : Fin 1024) : EReal := A.x r q + out A r q * Ideal.rsqrt (RowNorm.msq fun j => out A r j) * A.h q

/-! ### What a point writes -/

section Point

variable (x : Vec Ideal S512x1024 .f32) (g : Vec Ideal S1x1024 .f32) (U : Vec Ideal S4x1024x1024 .bf16) (W : Vec Ideal S4096x1024 .bf16)
  (h : Vec Ideal S1x1024 .f32)

/-- The names a chunk's product goes by. -/
theorem chunk_names (u : Vec Ideal S1x1024x1024 .bf16) : k0_pay6 x g u = k0_pay14 (k0_pay4 x g) u ∧ k0_pay9 x g u = k0_pay14 (k0_pay4 x g) u
    ∧ (∀ H, k0_pay11 H u = k0_pay14 H u) ∧ k0_pay8 x g u = k0_pay13 (k0_pay4 x g) u := ⟨rfl, rfl, fun _ => rfl, rfl⟩

theorem product_name (u : Vec Ideal S1x1024x1024 .bf16) (w : Vec Ideal S1024x1024 .bf16) : k0_pay7 x g u w
    = matmul dot_S512x1024_S1024x1024_S512x1024_1_0_0_1_n_n none (k0_pay15 (k0_pay4 x g) u) (k0_pay16 w) (constant S512x1024 .f32 0x00000000#32) := rfl

/-- The values a point keeps between its chunks. -/
theorem norm_kept : k0_pay17 x g U W h = k0_pay4 x g := by
  unfold k0_pay17
  frame_out

theorem sum_kept : k0_pay18 x g U W h = k0_pay12 (k0_pay4 x g) (k0_pay7 x g (u0 U) (w0 W)) (k0_pay8 x g (u1 U)) (w1 W) (u2 U) (w2 W) := by
  unfold k0_pay18
  rw [norm_kept]
  frame_out

theorem second_kept : k0_pay1 (k0_pay18 x g U W h) (k0_pay19 x g U W h) (k0_pay20 x g U W h) = secondBlock (k0_pay4 x g) W U := by
  unfold k0_pay19 k0_pay20
  rw [norm_kept, sum_kept, product_name, (chunk_names x g _).2.2.2]
  rfl

theorem first_out : out0_5 x g U W h = firstBlock (k0_pay4 x g) U := by
  frame_out
  rw [norm_kept, (chunk_names x g _).1, (chunk_names x g _).2.1, (chunk_names x g _).2.2.1]

theorem norm_out : out0_6 x g U W h = k0_pay4 x g := by
  frame_out

theorem second_out : out0_7 x g U W h = truncf .bf16 (secondBlock (k0_pay4 x g) W U) bitsLt_bf16_f32 := by
  frame_out
  unfold k0_pay2
  rw [second_kept]

theorem res_out (p : Fin 512) (q : Fin 1024) : out0_8 x g U W h (ix2 p q)
    = x (ix2 p q) + secondBlock (k0_pay4 x g) W U (ix2 p q) * Ideal.rsqrt (RowNorm.msq fun j => secondBlock (k0_pay4 x g) W U (ix2 p j))
        * h (ix2 (0 : Fin 1) q) := by
  frame_out
  rw [res_apply, second_kept]

end Point

/-! ### What the arrays hold -/

theorem first_array (c : Dev nD) : (dats m 0 c).arrAt 5 cfg0.N = fun i => hid (argsAt m c) (i 0) (i 1) := by
  have hi : ∀ t : Fin cfg0.N, win0_5.index t = ![t.val, 0] := (by decide +kernel : ∀ t : Fin grid0.N, win0_5.index t = ![t.val, 0])
  refine (dats m 0 c).arrAt_eq_of_covers 5 _ (by decide +kernel) fun t hf y => ?_
  have ht := lt_of_lt_of_eq t.isLt N_0
  blk_simp
  rw [after0_5, first_out]
  obtain ⟨p, f, rfl⟩ : ∃ (p : Fin 512) (f : Fin 4096), y = ix2 p f := ⟨y 0, y 1, by funext a; match a with | ⟨0, _⟩ => rfl | ⟨1, _⟩ => rfl⟩
  obtain ⟨r, hr⟩ : ∃ r : Fin 4096, r.val = 512 * t.val + p.val := ⟨⟨512 * t.val + p.val, by omega⟩, rfl⟩
  rw [show (win0_5.blk t).view.emb (ix2 p f) = ix2 r f by blk_ext [hi t]]
  exact (firstBlock_apply _ _ (argsAt m c).up (fun b j k f hf => up_block m c t b j k f hf) p f).trans (first_block m c t p f r hr)

theorem norm_array (c : Dev nD) : (dats m 0 c).arrAt 6 cfg0.N = fun i => unit (argsAt m c) (i 0) (i 1) * (argsAt m c).g (i 1) := by
  have hi : ∀ t : Fin cfg0.N, win0_6.index t = ![t.val, 0] := (by decide +kernel : ∀ t : Fin grid0.N, win0_6.index t = ![t.val, 0])
  refine (dats m 0 c).arrAt_eq_of_covers 6 _ (by decide +kernel) fun t hf y => ?_
  have ht := lt_of_lt_of_eq t.isLt N_0
  blk_simp
  rw [after0_6, norm_out]
  obtain ⟨p, q, rfl⟩ : ∃ (p : Fin 512) (q : Fin 1024), y = ix2 p q := ⟨y 0, y 1, by funext a; match a with | ⟨0, _⟩ => rfl | ⟨1, _⟩ => rfl⟩
  obtain ⟨r, hr⟩ : ∃ r : Fin 4096, r.val = 512 * t.val + p.val := ⟨⟨512 * t.val + p.val, by omega⟩, rfl⟩
  rw [show (win0_6.blk t).view.emb (ix2 p q) = ix2 r q by blk_ext [hi t]]
  exact norm_block m c t p q r hr

theorem second_array (c : Dev nD) : (dats m 0 c).arrAt 7 cfg0.N = fun i => out (argsAt m c) (i 0) (i 1) := by
  have hi : ∀ t : Fin cfg0.N, win0_7.index t = ![t.val, 0] := (by decide +kernel : ∀ t : Fin grid0.N, win0_7.index t = ![t.val, 0])
  refine (dats m 0 c).arrAt_eq_of_covers 7 _ (by decide +kernel) fun t hf y => ?_
  have ht := lt_of_lt_of_eq t.isLt N_0
  blk_simp
  rw [after0_7, second_out]
  obtain ⟨p, q, rfl⟩ : ∃ (p : Fin 512) (q : Fin 1024), y = ix2 p q := ⟨y 0, y 1, by funext a; match a with | ⟨0, _⟩ => rfl | ⟨1, _⟩ => rfl⟩
  obtain ⟨r, hr⟩ : ∃ r : Fin 4096, r.val = 512 * t.val + p.val := ⟨⟨512 * t.val + p.val, by omega⟩, rfl⟩
  rw [show (win0_7.blk t).view.emb (ix2 p q) = ix2 r q by blk_ext [hi t]]
  exact second_block m c t p q r hr

theorem res_array (c : Dev nD) : (dats m 0 c).arrAt 8 cfg0.N = fun i => res (argsAt m c) (i 0) (i 1) := by
  have hi : ∀ t : Fin cfg0.N, win0_8.index t = ![t.val, 0] := (by decide +kernel : ∀ t : Fin grid0.N, win0_8.index t = ![t.val, 0])
  refine (dats m 0 c).arrAt_eq_of_covers 8 _ (by decide +kernel) fun t hf y => ?_
  have ht := lt_of_lt_of_eq t.isLt N_0
  blk_simp
  obtain ⟨p, q, rfl⟩ : ∃ (p : Fin 512) (q : Fin 1024), y = ix2 p q := ⟨y 0, y 1, by funext a; match a with | ⟨0, _⟩ => rfl | ⟨1, _⟩ => rfl⟩
  obtain ⟨r, hr⟩ : ∃ r : Fin 4096, r.val = 512 * t.val + p.val := ⟨⟨512 * t.val + p.val, by omega⟩, rfl⟩
  rw [after0_8, res_out, show (win0_8.blk t).view.emb (ix2 p q) = ix2 r q by blk_ext [hi t]]
  refine congrArg₂ (· + ·) (x_block m c t p q r hr) (congrArg₂ (· * ·) (congrArg₂ (· * ·) (second_block m c t p q r hr) ?_) (h_block m c t q))
  exact congrArg (fun f => Ideal.rsqrt (RowNorm.msq f)) (funext fun j => second_block m c t p j r hr)

end Cert.FfKernelIdeal.Array

end
-- ==== Proof.FfValue.lean ====
/- The forward of the block of two products is the plain layer's: the first product, the first norm, the second product,
   and the input plus the second norm, entry by entry. -/
module

public import proofs.«01_k».proof.Defs
public import proofs.«01_k».proof.Proof.Gen.FfRefIdeal.Read
public import proofs.«01_k».proof.Proof.FfArray

@[expose] public section

set_option maxRecDepth 16384

noncomputable section

namespace Cert.FfRefIdeal.Equation

open Cert.FfRefIdeal Cert.FfRefIdeal.Read Idealize.ShloMosaic MlpMath Cert.FfKernelIdeal.Array

variable (x : Vec Ideal ⟨2, ![4096, 1024]⟩ .f32) (g : Vec Ideal ⟨1, ![1024]⟩ .f32) (u : Vec Ideal ⟨2, ![1024, 4096]⟩ .f32)
  (d : Vec Ideal ⟨2, ![4096, 1024]⟩ .f32) (h : Vec Ideal ⟨1, ![1024]⟩ .f32)

theorem norm_eq (r : Fin 4096) (j : Fin 1024) : val_main_v12 (F := Ideal) x g (ix2 r j) = unit (args x g u d h x) r j * (args x g u d h x).g j := by
  pointwise [val_main_v12, val_main_v11, val_main_v10, val_main_v9, val_main_v8, val_main_v7, val_main_v6, val_main_v5, val_main_cst_1, val_main_v4, val_main_v3, val_main_cst_0, val_main_v2, val_main_v1, val_main_cst, val_main_v0, unit, RowNorm.msq]

theorem first_eq (r f : Fin 4096) : val_main_v13 (F := Ideal) x g u (ix2 r f) = hid (args x g u d h x) r f := by
  pointwise [val_main_v13, hid]
  exact Finset.sum_congr (M := EReal) rfl fun j _ => congrArg (· * _) (norm_eq x g u d h r j)

theorem second_eq (r : Fin 4096) (q : Fin 1024) : val_main_v16 (F := Ideal) x g u d (ix2 r q) = out (args x g u d h x) r q := by
  pointwise [val_main_v16, val_main_v15, val_main_v14, val_main_call0_v0, val_main_call0_cst, out, pos]
  exact Finset.sum_congr (M := EReal) rfl fun f _ => by rw [first_eq x g u d h r f]

theorem res_eq (r : Fin 4096) (q : Fin 1024) : val_main_v33 (F := Ideal) x g u d h (ix2 r q) = res (args x g u d h x) r q := by
  pointwise [val_main_v33, val_main_v32, val_main_v31, val_main_v30, val_main_v29, val_main_v28, val_main_v27, val_main_v26, val_main_v25, val_main_cst_4, val_main_v24, val_main_v23, val_main_cst_3, val_main_v22, val_main_v21, val_main_cst_2, val_main_v20, res, RowNorm.msq]
  simp only [second_eq x g u d h]

end Cert.FfRefIdeal.Equation

namespace Cert.Proof.Ff

open Idealize.ShloMosaic Idealize.ShloMosaic.TcCoe Idealize.SL.Sem Cert.FfKernelIdeal.Array

/-- An array of rows is known by its entries. -/
theorem entries {n k : ℕ} {a b : Vec Ideal ⟨2, ![n, k]⟩ .f32} (h : ∀ (r : Fin n) (q : Fin k), a (ix2 r q) = b (ix2 r q)) : a = b := by
  funext i
  have e : i = ix2 (i 0) (i 1) := by
    funext a
    match a with
    | ⟨0, _⟩ => rfl
    | ⟨1, _⟩ => rfl
  rw [e]
  exact h _ _

/-- The forward of the block of two products is the plain layer's. -/
theorem value : Cert.algebraic_FfKernelIdeal_FfRefIdeal (hFfKernelIdeal := Cert.FfKernelIdeal.Gen.facts) (hFfRefIdeal := Cert.FfRefIdeal.Gen.facts) := by
  intro m ρ m' ρ' _ hag
  refine ⟨fun c i => MlpMath.hid (argsAt m c) (i 0) (i 1), fun c i => MlpMath.unit (argsAt m c) (i 0) (i 1) * (argsAt m c).g (i 1),
    fun c i => MlpMath.out (argsAt m c) (i 0) (i 1), fun c i => res (argsAt m c) (i 0) (i 1),
    (θ_run _ _ _).mono (fun _ h c => ?_) (Cert.FfKernelIdeal.Value.run_blocks m ρ),
    (θ_run _ _ _).mono (fun _ h c => ?_) (Cert.FfRefIdeal.Value.run (F := Ideal) m' ρ')⟩
  · obtain ⟨k0, k1, k2, k3, ka⟩ := h c
    exact ⟨k0.trans (first_array m c), k1.trans (norm_array m c), k2.trans (second_array m c), k3.trans (res_array m c), ka⟩
  · obtain ⟨h0, h1, h2, h3, h4⟩ := hag c
    obtain ⟨r0, r1, r2, r3, ra⟩ := h c
    refine ⟨r0.trans ?_, r1.trans ?_, r2.trans ?_, r3.trans ?_, ra⟩
    · refine (Cert.FfRefIdeal.Read.val_main_v17_eq _ _ _).trans ?_
      change Cert.FfRefIdeal.Read.val_main_v13 (F := Ideal) (m' ((c.tc : Thread Cert.FfRefIdeal.nD Cert.FfRefIdeal.τ).loc Cert.FfRefIdeal.main_arg0)) (m' ((c.tc : Thread Cert.FfRefIdeal.nD Cert.FfRefIdeal.τ).loc Cert.FfRefIdeal.main_arg1)) (m' ((c.tc : Thread Cert.FfRefIdeal.nD Cert.FfRefIdeal.τ).loc Cert.FfRefIdeal.main_arg2)) = _
      rw [h0, h1, h2]
      exact entries fun r q => Cert.FfRefIdeal.Equation.first_eq _ _ _ _ _ r q
    · refine (Cert.FfRefIdeal.Read.val_main_v18_eq _ _).trans ?_
      change Cert.FfRefIdeal.Read.val_main_v12 (F := Ideal) (m' ((c.tc : Thread Cert.FfRefIdeal.nD Cert.FfRefIdeal.τ).loc Cert.FfRefIdeal.main_arg0)) (m' ((c.tc : Thread Cert.FfRefIdeal.nD Cert.FfRefIdeal.τ).loc Cert.FfRefIdeal.main_arg1)) = _
      rw [h0, h1]
      exact entries fun r q => Cert.FfRefIdeal.Equation.norm_eq _ _ _ _ _ r q
    · refine (Cert.FfRefIdeal.Read.val_main_v19_eq _ _ _ _).trans ?_
      change Cert.FfRefIdeal.Read.val_main_v16 (F := Ideal) (m' ((c.tc : Thread Cert.FfRefIdeal.nD Cert.FfRefIdeal.τ).loc Cert.FfRefIdeal.main_arg0)) (m' ((c.tc : Thread Cert.FfRefIdeal.nD Cert.FfRefIdeal.τ).loc Cert.FfRefIdeal.main_arg1)) (m' ((c.tc : Thread Cert.FfRefIdeal.nD Cert.FfRefIdeal.τ).loc Cert.FfRefIdeal.main_arg2)) (m' ((c.tc : Thread Cert.FfRefIdeal.nD Cert.FfRefIdeal.τ).loc Cert.FfRefIdeal.main_arg3)) = _
      rw [h0, h1, h2, h3]
      exact entries fun r q => Cert.FfRefIdeal.Equation.second_eq _ _ _ _ _ r q
    · refine (Cert.FfRefIdeal.Read.val_main_v33_eq _ _).trans ?_
      change Cert.FfRefIdeal.Read.val_main_v33 (F := Ideal) (m' ((c.tc : Thread Cert.FfRefIdeal.nD Cert.FfRefIdeal.τ).loc Cert.FfRefIdeal.main_arg0)) (m' ((c.tc : Thread Cert.FfRefIdeal.nD Cert.FfRefIdeal.τ).loc Cert.FfRefIdeal.main_arg1)) (m' ((c.tc : Thread Cert.FfRefIdeal.nD Cert.FfRefIdeal.τ).loc Cert.FfRefIdeal.main_arg2)) (m' ((c.tc : Thread Cert.FfRefIdeal.nD Cert.FfRefIdeal.τ).loc Cert.FfRefIdeal.main_arg3)) (m' ((c.tc : Thread Cert.FfRefIdeal.nD Cert.FfRefIdeal.τ).loc Cert.FfRefIdeal.main_arg4)) = _
      rw [h0, h1, h2, h3, h4]
      exact entries fun r q => Cert.FfRefIdeal.Equation.res_eq _ _ _ _ _ r q

/-- The plain layer keeps its arguments and ends every semaphore at zero. -/
theorem ref_frame : Cert.quiescent_FfRefIdeal := fun m ρ _ =>
  (θ_run _ _ _).mono (fun r h => ⟨fun c => (h c).2.2.2.2, sem_eq_zero_of_no_sems (by decide) r.2⟩)
    (Cert.FfRefIdeal.Value.run (F := Ideal) m ρ)

end Cert.Proof.Ff

end
-- ==== Proof.DwArray.lean ====
/- What the second weights' gradient kernel writes, over the extended reals. A point holds 512 hidden columns, squares
   their positive parts, and multiplies the squares, turned, by the whole cotangent. -/
module

public import proofs.«01_k».proof.Proof.Gen.DwKernelIdeal.Value
public import proofs.«01_k».proof.Proof.RowNorm
public import Idealize.ShloMosaic.Lib.Pipeline.ValueKit
public import Idealize.ShloMosaic.Lib.Pointwise

@[expose] public section

set_option maxRecDepth 16384

noncomputable section

namespace Cert.DwKernelIdeal.Array

open Cert.DwKernelIdeal Cert.DwKernelIdeal.Gen Idealize.ShloMosaic Idealize.ShloMosaic.TcCoe Idealize.SL.Sem
open Idealize.ShloMosaic.Pipeline (Dat)

section Layer

variable (x : Vec Ideal S4096x1024 .f32) (g : Vec Ideal S1024 .f32) (u : Vec Ideal S1024x4096 .f32) (d : Vec Ideal S4096x1024 .f32)

/-- The first product, of the input's norm. -/
def hid (r f : Fin 4096) : EReal :=
  ∑ j : Fin 1024, (x (ix2 r j) * Ideal.rsqrt (RowNorm.msq fun k => x (ix2 r k)) * g (ix1 j) * u (ix2 j f) : EReal)

/-- The second weights' gradient: the squares of its positive part, turned, times the cotangent. -/
def grad (f : Fin 4096) (q : Fin 1024) : EReal :=
  ∑ r : Fin 4096, (max (hid x g u r f) 0 * max (hid x g u r f) 0 * d (ix2 r q) : EReal)

end Layer

/-- A block of it, from a block of the first product. -/
theorem grad_apply (h : Vec Ideal S4096x512 .bf16) (d : Vec Ideal S4096x1024 .bf16) (p : Fin 512) (q : Fin 1024) :
    k0_pay2 (k0_pay1 h) d (ix2 p q)
      = @Finset.sum (Fin 4096) EReal _ Finset.univ (fun r => @HMul.hMul EReal EReal EReal _ (max (h (ix2 r p) : EReal) 0 * max (h (ix2 r p) : EReal) 0) (d (ix2 r q))) := by
  pointwise [k0_pay2, k0_pay1]

variable (m : (ℓ : Loc nD τ sig) → Buf (Elt Ideal) ℓ)

abbrev hidAt (c : Dev nD) : Fin 4096 → Fin 4096 → EReal := hid (m ((c.tc : Thread nD τ).loc main_arg0)) (m ((c.tc : Thread nD τ).loc main_arg1))
  (m ((c.tc : Thread nD τ).loc main_arg2))
abbrev gradAt (c : Dev nD) : Fin 4096 → Fin 1024 → EReal := grad (m ((c.tc : Thread nD τ).loc main_arg0)) (m ((c.tc : Thread nD τ).loc main_arg1))
  (m ((c.tc : Thread nD τ).loc main_arg2)) (m ((c.tc : Thread nD τ).loc main_arg4))

/-- A point's columns of the first product. -/
theorem hid_block (c : Dev nD) (t : Fin cfg0.N) (r : Fin 4096) (p : Fin 512) (f : Fin 4096) (hf : f.val = 512 * t.val + p.val) :
    (iblk m c 0 t : Vec Ideal S4096x512 .bf16) (ix2 r p) = hidAt m c r f := by
  have hi : ∀ t : Fin cfg0.N, win0_0.index t = ![0, t.val] := (by decide +kernel : ∀ t : Fin grid0.N, win0_0.index t = ![0, t.val])
  have e : (win0_0.blk t).view.emb (ix2 r p) = ix2 r f := by blk_ext [hi t]
  blk_simp [iblk]
  rw [e]
  entry_read
  pointwise [hid, RowNorm.msq]

/-- The cotangent, the whole of it at every point. -/
theorem d_block (c : Dev nD) (t : Fin cfg0.N) (r : Fin 4096) (q : Fin 1024) :
    (iblk m c 1 t : Vec Ideal S4096x1024 .bf16) (ix2 r q) = (m ((c.tc : Thread nD τ).loc main_arg4) : Vec Ideal S4096x1024 .f32) (ix2 r q) := by
  have hi : ∀ t : Fin cfg0.N, win0_1.index t = ![0, 0] := (by decide +kernel : ∀ t : Fin grid0.N, win0_1.index t = ![0, 0])
  have e : (win0_1.blk t).view.emb (ix2 r q) = ix2 r q := by blk_ext [hi t]
  blk_simp [iblk]
  rw [e]
  entry_read
  pointwise

/-- A point turns its squares in the scratch buffer and multiplies them there. -/
theorem grad_out (c : Dev nD) (t : Fin cfg0.N) : outsAt0 m c t = k0_pay2 (k0_pay1 (iblk m c 0 t)) (iblk m c 1 t) := by
  unfold outsAt0
  frame_out

theorem grad_array (c : Dev nD) : (dats m 0 c).arrAt 2 cfg0.N = fun i => gradAt m c (i 0) (i 1) := by
  have hi : ∀ t : Fin cfg0.N, win0_2.index t = ![t.val, 0] := (by decide +kernel : ∀ t : Fin grid0.N, win0_2.index t = ![t.val, 0])
  refine (dats m 0 c).arrAt_eq_of_covers 2 _ (by decide +kernel) fun t hf y => ?_
  have ht := lt_of_lt_of_eq t.isLt N_0
  blk_simp
  rw [after0_2, grad_out]
  obtain ⟨p, q, rfl⟩ : ∃ (p : Fin 512) (q : Fin 1024), y = ix2 p q := ⟨y 0, y 1, by funext a; match a with | ⟨0, _⟩ => rfl | ⟨1, _⟩ => rfl⟩
  obtain ⟨f, hf⟩ : ∃ f : Fin 4096, f.val = 512 * t.val + p.val := ⟨⟨512 * t.val + p.val, by omega⟩, rfl⟩
  rw [show (win0_2.blk t).view.emb (ix2 p q) = ix2 f q by blk_ext [hi t]]
  refine (grad_apply _ _ p q).trans ?_
  refine Finset.sum_congr (M := EReal) rfl fun r _ => congrArg₂ (· * ·) ?_ (d_block m c t r q)
  exact congrArg (fun z : EReal => max z 0 * max z 0) (hid_block m c t r p f hf)

end Cert.DwKernelIdeal.Array

end
-- ==== Proof.DwValue.lean ====
/- The second weights' gradient of the squared rectifier's layer is the chain rule's. -/
module

public import proofs.«01_k».proof.Defs
public import proofs.«01_k».proof.Proof.Gen.DwRefIdeal.Read
public import proofs.«01_k».proof.Proof.DwArray

@[expose] public section

set_option maxRecDepth 16384

noncomputable section

namespace Cert.DwRefIdeal.Equation

open Cert.DwRefIdeal Cert.DwRefIdeal.Read Idealize.ShloMosaic Cert.DwKernelIdeal.Array

variable (x : Vec Ideal ⟨2, ![4096, 1024]⟩ .f32) (g : Vec Ideal ⟨1, ![1024]⟩ .f32) (u : Vec Ideal ⟨2, ![1024, 4096]⟩ .f32)
  (d : Vec Ideal ⟨2, ![4096, 1024]⟩ .f32)

theorem hid_eq (r f : Fin 4096) : val_main_v13 (F := Ideal) x g u (ix2 r f) = hid x g u r f := by
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0, hid, RowNorm.msq]

theorem square_eq (r f : Fin 4096) : val_main_v15 (F := Ideal) x g u (ix2 r f) = max (hid x g u r f) 0 * max (hid x g u r f) 0 := by
  rw [← hid_eq]
  pointwise [val_main_v15, val_main_v14, val_main_call0_v0, val_main_call0_cst]

theorem grad_eq (f : Fin 4096) (q : Fin 1024) : val_main_v19 (F := Ideal) x g u d (ix2 f q) = grad x g u d f q := by
  pointwise [val_main_v19, val_main_v18, val_main_v17, grad]
  exact Finset.sum_congr (M := EReal) rfl fun r _ => by rw [square_eq x g u r f, mul_comm]

end Cert.DwRefIdeal.Equation

namespace Cert.Proof.Dw

open Idealize.ShloMosaic Idealize.ShloMosaic.TcCoe Idealize.SL.Sem Cert.DwKernelIdeal.Array

/-- The second weights' gradient is the chain rule's. -/
theorem value : Cert.algebraic_DwKernelIdeal_DwRefIdeal (hDwKernelIdeal := Cert.DwKernelIdeal.Gen.facts) (hDwRefIdeal := Cert.DwRefIdeal.Gen.facts) := by
  intro m ρ m' ρ' _ hag
  refine ⟨fun c i => gradAt m c (i 0) (i 1),
    (θ_run _ _ _).mono (fun _ h c => ?_) (Cert.DwKernelIdeal.Value.run_blocks m ρ),
    (θ_run _ _ _).mono (fun _ h c => ?_) (Cert.DwRefIdeal.Value.run (F := Ideal) m' ρ')⟩
  · obtain ⟨k0, ka⟩ := h c
    exact ⟨k0.trans (grad_array m c), ka⟩
  · obtain ⟨h0, h1, h2, h3, h4⟩ := hag c
    obtain ⟨r0, ra⟩ := h c
    refine ⟨r0.trans ?_, ra⟩
    refine (Cert.DwRefIdeal.Read.val_main_v19_eq _ _ _ _).trans ?_
    change Cert.DwRefIdeal.Read.val_main_v19 (F := Ideal) (m' ((c.tc : Thread Cert.DwRefIdeal.nD Cert.DwRefIdeal.τ).loc Cert.DwRefIdeal.main_arg0)) (m' ((c.tc : Thread Cert.DwRefIdeal.nD Cert.DwRefIdeal.τ).loc Cert.DwRefIdeal.main_arg1)) (m' ((c.tc : Thread Cert.DwRefIdeal.nD Cert.DwRefIdeal.τ).loc Cert.DwRefIdeal.main_arg2)) (m' ((c.tc : Thread Cert.DwRefIdeal.nD Cert.DwRefIdeal.τ).loc Cert.DwRefIdeal.main_arg4)) = _
    rw [h0, h1, h2, h4]
    refine funext fun i => ?_
    have e : i = ix2 (i 0) (i 1) := by
      funext a
      match a with
      | ⟨0, _⟩ => rfl
      | ⟨1, _⟩ => rfl
    rw [e]
    exact Cert.DwRefIdeal.Equation.grad_eq _ _ _ _ _ _

/-- The chain rule's program keeps its arguments and ends every semaphore at zero. -/
theorem ref_frame : Cert.quiescent_DwRefIdeal := fun m ρ _ =>
  (θ_run _ _ _).mono (fun r h => ⟨fun c => (h c).2, sem_eq_zero_of_no_sems (by decide) r.2⟩)
    (Cert.DwRefIdeal.Value.run (F := Ideal) m ρ)

end Cert.Proof.Dw

end
-- ==== Proof.TnArray.lean ====
/- What the input product's weights' gradient kernel writes, over the extended reals. The first point turns the whole norm
   into a scratch buffer; every point multiplies it by its 1152 columns of the cotangent, behind which stand zero columns. -/
module

public import proofs.«01_k».proof.Proof.Gen.TnKernelIdeal.Value
public import proofs.«01_k».proof.Proof.RowNorm
public import Idealize.ShloMosaic.Lib.Pipeline.ValueKit
public import Idealize.ShloMosaic.Lib.Pointwise

@[expose] public section

set_option maxRecDepth 16384

noncomputable section

namespace Cert.TnKernelIdeal.Array

open Cert.TnKernelIdeal Cert.TnKernelIdeal.Gen Idealize.ShloMosaic Idealize.ShloMosaic.TcCoe Idealize.SL.Sem
open Idealize.ShloMosaic.Pipeline (Dat)

section Layer

variable (x : Vec Ideal S4096x1024 .f32) (g : Vec Ideal S1024 .f32) (d : Vec Ideal S4096x5648 .f32)

/-- The input's norm. -/
def nrm (r : Fin 4096) (j : Fin 1024) : EReal := x (ix2 r j) * Ideal.rsqrt (RowNorm.msq fun k => x (ix2 r k)) * g (ix1 j)

/-- The cotangent with zero columns behind it. -/
def wide (r : Fin 4096) (e : Fin 5760) : EReal := if h : e.val < 5648 then d (ix2 r (⟨e.val, h⟩ : Fin 5648)) else 0

/-- The weights' gradient, with the same zero columns. -/
def grad (j : Fin 1024) (e : Fin 5760) : EReal := ∑ r : Fin 4096, (nrm x g r j * wide d r e : EReal)

end Layer

/-- The turned norm. -/
theorem turn_apply (h : Vec Ideal S4096x1024 .bf16) (j : Fin 1024) (r : Fin 4096) : k0_pay1 h (ix2 j r) = h (ix2 r j) := by
  pointwise [k0_pay1]

/-- A block of the product. -/
theorem grad_apply (s : Vec Ideal S1024x4096 .bf16) (d : Vec Ideal S4096x1152 .bf16) (j : Fin 1024) (p : Fin 1152) :
    k0_pay2 s d (ix2 j p) = @Finset.sum (Fin 4096) EReal _ Finset.univ (fun r => @HMul.hMul EReal EReal EReal _ (s (ix2 j r)) (d (ix2 r p))) := by
  pointwise [k0_pay2]

variable (m : (ℓ : Loc nD τ sig) → Buf (Elt Ideal) ℓ)

abbrev nrmAt (c : Dev nD) : Fin 4096 → Fin 1024 → EReal := nrm (m ((c.tc : Thread nD τ).loc main_arg0)) (m ((c.tc : Thread nD τ).loc main_arg1))
abbrev wideAt (c : Dev nD) : Fin 4096 → Fin 5760 → EReal := wide (m ((c.tc : Thread nD τ).loc main_arg3))
abbrev gradAt (c : Dev nD) : Fin 1024 → Fin 5760 → EReal := grad (m ((c.tc : Thread nD τ).loc main_arg0)) (m ((c.tc : Thread nD τ).loc main_arg1))
  (m ((c.tc : Thread nD τ).loc main_arg3))

/-- The norm, the whole of it at every point. -/
theorem nrm_block (c : Dev nD) (t : Fin cfg0.N) (r : Fin 4096) (j : Fin 1024) :
    (iblk m c 0 t : Vec Ideal S4096x1024 .bf16) (ix2 r j) = nrmAt m c r j := by
  have hi : ∀ t : Fin cfg0.N, win0_0.index t = ![0, 0] := (by decide +kernel : ∀ t : Fin grid0.N, win0_0.index t = ![0, 0])
  have e : (win0_0.blk t).view.emb (ix2 r j) = ix2 r j := by blk_ext [hi t]
  blk_simp [iblk]
  rw [e]
  entry_read
  pointwise [nrm, RowNorm.msq]

/-- A point's columns of the cotangent. -/
theorem wide_block (c : Dev nD) (t : Fin cfg0.N) (r : Fin 4096) (p : Fin 1152) (e : Fin 5760) (he : e.val = 1152 * t.val + p.val) :
    (iblk m c 1 t : Vec Ideal S4096x1152 .bf16) (ix2 r p) = wideAt m c r e := by
  have hi : ∀ t : Fin cfg0.N, win0_1.index t = ![0, t.val] := (by decide +kernel : ∀ t : Fin grid0.N, win0_1.index t = ![0, t.val])
  have e' : (win0_1.blk t).view.emb (ix2 r p) = ix2 r e := by blk_ext [hi t]
  blk_simp [iblk]
  rw [e']
  entry_read
  pointwise [wide]

/-- The first point turns the norm and multiplies. -/
theorem first (c : Dev nD) (t : Fin cfg0.N) (h : t.val % 5 = 0) :
    outsAt0 m c t.val t.isLt = (k0_pay2 (k0_pay1 (iblk m c 0 t)) (iblk m c 1 t), k0_pay1 (iblk m c 0 t)) := by
  rw [outsAt0_A m c t h]
  refine Prod.ext ?_ ?_ <;> dsimp only <;> frame_out

/-- The later ones multiply what it left. -/
theorem later (c : Dev nD) (t : Fin cfg0.N) (h : ¬ t.val % 5 = 0) :
    outsAt0 m c t.val t.isLt = (k0_pay2 (outsAt0 m c (t.val - 1) (Nat.lt_of_le_of_lt (Nat.sub_le _ _) t.isLt)).2 (iblk m c 1 t),
      (outsAt0 m c (t.val - 1) (Nat.lt_of_le_of_lt (Nat.sub_le _ _) t.isLt)).2) := by
  rw [outsAt0_B m c t h]
  generalize (outsAt0 m c (t.val - 1) (Nat.lt_of_le_of_lt (Nat.sub_le _ _) t.isLt)).2 = s
  refine Prod.ext ?_ rfl
  dsimp only
  frame_out
  exact congrArg (k0_pay2 · (iblk m c 1 t)) (Memref.IsWhole.read_unread (m := Memref.whole cc0_scratch0) _ s)

/-- After every point the scratch buffer holds the turned norm. -/
theorem scratch (c : Dev nD) : ∀ (n : ℕ) (hn : n < cfg0.N) (j : Fin 1024) (r : Fin 4096), (outsAt0 m c n hn).2 (ix2 j r) = nrmAt m c r j
  | 0, hn, j, r => by
    rw [first m c ⟨0, hn⟩ rfl]
    dsimp only
    exact (turn_apply _ j r).trans (nrm_block m c _ r j)
  | n + 1, hn, j, r => by
    have h5 : n + 1 < 5 := lt_of_lt_of_eq hn N_0
    rw [later m c ⟨n + 1, hn⟩ (by show ¬ (n + 1) % 5 = 0; omega)]
    exact scratch c n (Nat.lt_of_succ_lt hn) j r

/-- What a point leaves. -/
theorem point_apply (c : Dev nD) (t : Fin cfg0.N) (j : Fin 1024) (p : Fin 1152) (e : Fin 5760) (he : e.val = 1152 * t.val + p.val) :
    (outsAt0 m c t.val t.isLt).1 (ix2 j p) = gradAt m c j e := by
  by_cases h : t.val % 5 = 0
  · rw [first m c t h]
    refine (grad_apply _ _ j p).trans ?_
    exact Finset.sum_congr (M := EReal) rfl fun r _ => congrArg₂ (· * ·) ((turn_apply _ j r).trans (nrm_block m c _ r j)) (wide_block m c t r p e he)
  · rw [later m c t h]
    refine (grad_apply _ _ j p).trans ?_
    exact Finset.sum_congr (M := EReal) rfl fun r _ => congrArg₂ (· * ·) (scratch m c _ _ j r) (wide_block m c t r p e he)

theorem grad_array (c : Dev nD) : (dats m 0 c).arrAt 2 cfg0.N = fun i => gradAt m c (i 0) (i 1) := by
  have hi : ∀ t : Fin cfg0.N, win0_2.index t = ![0, t.val] := (by decide +kernel : ∀ t : Fin grid0.N, win0_2.index t = ![0, t.val])
  refine (dats m 0 c).arrAt_eq_of_covers 2 _ (by decide +kernel) fun t hf y => ?_
  have ht := lt_of_lt_of_eq t.isLt N_0
  blk_simp
  rw [after0_2]
  obtain ⟨j, p, rfl⟩ : ∃ (j : Fin 1024) (p : Fin 1152), y = ix2 j p := ⟨y 0, y 1, by funext a; match a with | ⟨0, _⟩ => rfl | ⟨1, _⟩ => rfl⟩
  obtain ⟨e, he⟩ : ∃ e : Fin 5760, e.val = 1152 * t.val + p.val := ⟨⟨1152 * t.val + p.val, by omega⟩, rfl⟩
  rw [show (win0_2.blk t).view.emb (ix2 j p) = ix2 j e by blk_ext [hi t]]
  exact point_apply m c t j p e he

end Cert.TnKernelIdeal.Array

end
-- ==== Proof.TnValue.lean ====
/- The input product's weights' gradient is the chain rule's, with zero columns behind it. -/
module

public import proofs.«01_k».proof.Defs
public import proofs.«01_k».proof.Proof.Gen.TnRefIdeal.Read
public import proofs.«01_k».proof.Proof.TnArray

@[expose] public section

set_option maxRecDepth 16384

noncomputable section

namespace Cert.TnRefIdeal.Equation

open Cert.TnRefIdeal Cert.TnRefIdeal.Read Idealize.ShloMosaic Cert.TnKernelIdeal.Array

variable (x : Vec Ideal ⟨2, ![4096, 1024]⟩ .f32) (g : Vec Ideal ⟨1, ![1024]⟩ .f32) (d : Vec Ideal ⟨2, ![4096, 5648]⟩ .f32)

theorem nrm_eq (r : Fin 4096) (j : Fin 1024) : val_main_v12 (F := Ideal) x g (ix2 r j) = nrm x g r j := by
  pointwise [val_main_v12, val_main_v11, val_main_v10, val_main_v9, val_main_v8, val_main_v7, val_main_v6, val_main_v5, val_main_cst_1, val_main_v4, val_main_v3, val_main_cst_0, val_main_v2, val_main_v1, val_main_cst, val_main_v0, nrm, RowNorm.msq]

/-- The chain rule's sum takes its factors the other way round. -/
theorem slim_eq (j : Fin 1024) (e : Fin 5648) : val_main_v15 (F := Ideal) x g d (ix2 j e)
    = @Finset.sum (Fin 4096) EReal _ Finset.univ (fun r => @HMul.hMul EReal EReal EReal _ (nrm x g r j) (d (ix2 r e))) := by
  pointwise [val_main_v15, val_main_v14]
  exact Finset.sum_congr (M := EReal) rfl fun r _ => by rw [nrm_eq x g r j, mul_comm]

theorem grad_eq (j : Fin 1024) (e : Fin 5760) : val_main_v18 (F := Ideal) x g d (ix2 j e) = grad x g d j e := by
  by_cases h : e.val < 5648
  · refine Eq.trans (?_ : _ = val_main_v15 (F := Ideal) x g d (ix2 j (⟨e.val, h⟩ : Fin 5648))) ((slim_eq x g d j ⟨e.val, h⟩).trans ?_)
    · unfold val_main_v18 val_main_v17
      generalize val_main_v15 (F := Ideal) x g d = y
      pointwise
      rw [dif_pos h]
    · exact Finset.sum_congr (M := EReal) rfl fun r _ => by rw [show wide d r e = d (ix2 r (⟨e.val, h⟩ : Fin 5648)) from dif_pos h]
  · refine Eq.trans (?_ : _ = (0 : EReal)) (Finset.sum_eq_zero fun r _ => ?_).symm
    · unfold val_main_v18 val_main_v17
      generalize val_main_v15 (F := Ideal) x g d = y
      pointwise [val_main_v16, val_main_cst_2]
      rw [dif_neg h]
    · rw [show wide d r e = 0 from dif_neg h, mul_zero]

end Cert.TnRefIdeal.Equation

namespace Cert.Proof.Tn

open Idealize.ShloMosaic Idealize.ShloMosaic.TcCoe Idealize.SL.Sem Cert.TnKernelIdeal.Array

/-- The input product's weights' gradient is the chain rule's. -/
theorem value : Cert.algebraic_TnKernelIdeal_TnRefIdeal (hTnKernelIdeal := Cert.TnKernelIdeal.Gen.facts) (hTnRefIdeal := Cert.TnRefIdeal.Gen.facts) := by
  intro m ρ m' ρ' _ hag
  refine ⟨fun c i => gradAt m c (i 0) (i 1),
    (θ_run _ _ _).mono (fun _ h c => ?_) (Cert.TnKernelIdeal.Value.run_blocks m ρ),
    (θ_run _ _ _).mono (fun _ h c => ?_) (Cert.TnRefIdeal.Value.run (F := Ideal) m' ρ')⟩
  · obtain ⟨k0, ka⟩ := h c
    exact ⟨k0.trans (grad_array m c), ka⟩
  · obtain ⟨h0, h1, h2, h3⟩ := hag c
    obtain ⟨r0, ra⟩ := h c
    refine ⟨r0.trans ?_, ra⟩
    refine (Cert.TnRefIdeal.Read.val_main_v18_eq _ _ _).trans ?_
    change Cert.TnRefIdeal.Read.val_main_v18 (F := Ideal) (m' ((c.tc : Thread Cert.TnRefIdeal.nD Cert.TnRefIdeal.τ).loc Cert.TnRefIdeal.main_arg0)) (m' ((c.tc : Thread Cert.TnRefIdeal.nD Cert.TnRefIdeal.τ).loc Cert.TnRefIdeal.main_arg1)) (m' ((c.tc : Thread Cert.TnRefIdeal.nD Cert.TnRefIdeal.τ).loc Cert.TnRefIdeal.main_arg3)) = _
    rw [h0, h1, h3]
    refine funext fun i => ?_
    have e : i = ix2 (i 0) (i 1) := by
      funext a
      match a with
      | ⟨0, _⟩ => rfl
      | ⟨1, _⟩ => rfl
    rw [e]
    exact Cert.TnRefIdeal.Equation.grad_eq _ _ _ _ _

/-- The chain rule's program keeps its arguments and ends every semaphore at zero. -/
theorem ref_frame : Cert.quiescent_TnRefIdeal := fun m ρ _ =>
  (θ_run _ _ _).mono (fun r h => ⟨fun c => (h c).2, sem_eq_zero_of_no_sems (by decide) r.2⟩)
    (Cert.TnRefIdeal.Value.run (F := Ideal) m ρ)

end Cert.Proof.Tn

end
-- ==== Proof.AdamValue.lean ====
/- The optimiser's step is the plain formula: the kernel's three arrays are the plain step, first and second averages,
   entry by entry. -/
module

public import proofs.«01_k».proof.Defs
public import proofs.«01_k».proof.Proof.Gen.AdamKernelIdeal.Value
public import proofs.«01_k».proof.Proof.Gen.AdamRefIdeal.Read
public import Idealize.ShloMosaic.Lib.Pointwise

@[expose] public section

set_option maxRecDepth 16384

noncomputable section

namespace Cert.AdamRefIdeal.Equation

open Cert.AdamRefIdeal Cert.AdamRefIdeal.Read Idealize.ShloMosaic

variable (w g a b : Vec Ideal ⟨2, ![16, 384]⟩ .f32)

/-- The first average. -/
theorem first_eq : val_main_v4 (F := Ideal) g a = Cert.AdamKernelIdeal.Value.G5 (F := Ideal) g a := by
  funext i
  pointwise [val_main_v4, val_main_v3, val_main_v2, val_main_v1, val_main_v0, val_main_cst, val_main_cst_0]

/-- The second average. -/
theorem second_eq : val_main_v10 (F := Ideal) g b = Cert.AdamKernelIdeal.Value.G6 (F := Ideal) g b := by
  funext i
  pointwise [val_main_v10, val_main_v9, val_main_v8, val_main_v7, val_main_v6, val_main_v5, val_main_cst_1, val_main_cst_2]

/-- The step. -/
theorem step_eq : val_main_v23 (F := Ideal) w g a b = Cert.AdamKernelIdeal.Value.G4 (F := Ideal) g a b w := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, first_eq, second_eq]
  rfl

end Cert.AdamRefIdeal.Equation

namespace Cert.Proof.Adam

open Idealize.ShloMosaic Idealize.ShloMosaic.TcCoe Idealize.SL.Sem Cert.AdamKernelIdeal.Value

/-- The optimiser's step is the plain one. -/
theorem value : Cert.algebraic_AdamKernelIdeal_AdamRefIdeal (hAdamKernelIdeal := Cert.AdamKernelIdeal.Gen.facts) (hAdamRefIdeal := Cert.AdamRefIdeal.Gen.facts) := by
  intro m ρ m' ρ' _ hag
  refine ⟨fun c => _, fun c => _, fun c => _, Cert.AdamKernelIdeal.Value.run m ρ,
    (θ_run _ _ _).mono (fun _ h c => ?_) (Cert.AdamRefIdeal.Value.run (F := Ideal) m' ρ')⟩
  obtain ⟨h0, h1, h2, h3⟩ := hag c
  obtain ⟨r0, r1, r2, ra⟩ := h c
  refine ⟨r0.trans ?_, r1.trans ?_, r2.trans ?_, ra⟩
  · refine ((Cert.AdamRefIdeal.Read.val_main_v23_eq _ _ _ _).trans (Cert.AdamRefIdeal.Equation.step_eq _ _ _ _)).trans ?_
    rw [h0, h1, h2, h3]
  · refine ((Cert.AdamRefIdeal.Read.val_main_v4_eq _ _).trans (Cert.AdamRefIdeal.Equation.first_eq _ _)).trans ?_
    rw [h1, h2]
  · refine ((Cert.AdamRefIdeal.Read.val_main_v10_eq _ _).trans (Cert.AdamRefIdeal.Equation.second_eq _ _)).trans ?_
    rw [h1, h3]

/-- The plain step keeps its arguments and ends every semaphore at zero. -/
theorem ref_frame : Cert.quiescent_AdamRefIdeal := fun m ρ _ =>
  (θ_run _ _ _).mono (fun r h => ⟨fun c => (h c).2.2.2, sem_eq_zero_of_no_sems (by decide) r.2⟩)
    (Cert.AdamRefIdeal.Value.run (F := Ideal) m ρ)

end Cert.Proof.Adam

end
-- ==== Proof.SumArray.lean ====
/- What the sum of the small gradients writes, over the extended reals: a point holds eight rows of every device's part and
   writes their sum. -/
module

public import proofs.«01_k».proof.Proof.Gen.SumKernelIdeal.Value
public import Idealize.ShloMosaic.Lib.Pipeline.ValueKit
public import Idealize.ShloMosaic.Lib.Pointwise

@[expose] public section

set_option maxRecDepth 16384

noncomputable section

namespace Cert.SumKernelIdeal.Array

open Cert.SumKernelIdeal Cert.SumKernelIdeal.Gen Idealize.ShloMosaic Idealize.ShloMosaic.TcCoe Idealize.SL.Sem
open Idealize.ShloMosaic.Pipeline (Dat)

/-- The sum over the devices. -/
def total (y : Vec Ideal S8x160x1024 .f32) (r : Fin 160) (q : Fin 1024) : EReal :=
  @Finset.sum (Fin 8) EReal _ Finset.univ (fun k => y (ix3 k r q))

/-- Eight terms added one after the other are their sum. -/
theorem eight (f : Fin 8 → EReal) : f 0 + f 1 + f 2 + f 3 + f 4 + f 5 + f 6 + f 7 = ∑ k, f k := by
  rw [Fin.sum_univ_eight]

variable (m : (ℓ : Loc nD τ sig) → Buf (Elt Ideal) ℓ)

abbrev totalAt (c : Dev nD) : Fin 160 → Fin 1024 → EReal := total (m ((c.tc : Thread nD τ).loc main_arg0))

theorem y_block (c : Dev nD) (t : Fin cfg0.N) (k : Fin 8) (p : Fin 8) (q : Fin 1024) (r : Fin 160) (hr : r.val = 8 * t.val + p.val) :
    (iblk m c 0 t : Vec Ideal S8x8x1024 .f32) (ix3 k p q) = m ((c.tc : Thread nD τ).loc main_arg0) (ix3 k r q) := by
  have hi : ∀ t : Fin cfg0.N, win0_0.index t = ![0, t.val, 0] := (by decide +kernel : ∀ t : Fin grid0.N, win0_0.index t = ![0, t.val, 0])
  blk_ext [iblk, V, hi t]

/-- What a point leaves, entry by entry. -/
theorem out_apply (x : Vec Ideal S8x8x1024 .f32) (p : Fin 8) (q : Fin 1024) :
    out0_1 x (ix2 p q) = @Finset.sum (Fin 8) EReal _ Finset.univ (fun k => x (ix3 k p q)) := by
  unfold out0_1
  refine (Cert.SumKernelIdeal.Value.canon1_eq _ _ _ _ _ _ _ _ (ix2 p q)).trans ?_
  refine Eq.trans ?_ (eight fun k => x (ix3 k p q))
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals exact congrArg x (funext fun a => Fin.ext (by match a with | ⟨0, _⟩ => rfl | ⟨1, _⟩ => exact (Nat.zero_add _).trans (Nat.one_mul _) | ⟨2, _⟩ => exact (Nat.zero_add _).trans (Nat.one_mul _)))

theorem total_array (c : Dev nD) : (dats m 0 c).arrAt 1 cfg0.N = fun i => totalAt m c (i 0) (i 1) := by
  have hi : ∀ t : Fin cfg0.N, win0_1.index t = ![t.val, 0] := (by decide +kernel : ∀ t : Fin grid0.N, win0_1.index t = ![t.val, 0])
  refine (dats m 0 c).arrAt_eq_of_covers 1 _ (by decide +kernel) fun t hf y => ?_
  have ht := lt_of_lt_of_eq t.isLt N_0
  blk_simp
  rw [after0_1]
  obtain ⟨p, q, rfl⟩ : ∃ (p : Fin 8) (q : Fin 1024), y = ix2 p q := ⟨y 0, y 1, by funext a; match a with | ⟨0, _⟩ => rfl | ⟨1, _⟩ => rfl⟩
  obtain ⟨r, hr⟩ : ∃ r : Fin 160, r.val = 8 * t.val + p.val := ⟨⟨8 * t.val + p.val, by omega⟩, rfl⟩
  rw [show (win0_1.blk t).view.emb (ix2 p q) = ix2 r q by blk_ext [hi t]]
  refine (out_apply _ p q).trans ?_
  exact Finset.sum_congr rfl fun k _ => y_block m c t k p q r hr

end Cert.SumKernelIdeal.Array

end
-- ==== Proof.SumValue.lean ====
/- The sum of the small gradients is the plain sum over the devices. -/
module

public import proofs.«01_k».proof.Defs
public import proofs.«01_k».proof.Proof.Gen.SumRefIdeal.Read
public import proofs.«01_k».proof.Proof.SumArray

@[expose] public section

set_option maxRecDepth 16384

noncomputable section

namespace Cert.SumRefIdeal.Equation

open Cert.SumRefIdeal Cert.SumRefIdeal.Read Idealize.ShloMosaic Cert.SumKernelIdeal.Array

theorem total_eq (y : Vec Ideal ⟨3, ![8, 160, 1024]⟩ .f32) : val_main_v0 (F := Ideal) y = fun i => total y (i 0) (i 1) := by
  funext i
  refine (val_main_v0_apply y i).trans ?_
  rw [show val_main_cst (F := Ideal) (Shape.Idx.first Cert.SumRefIdeal.Gen.h_S_) = (0 : EReal) by pointwise [val_main_cst], zero_add]
  exact Finset.sum_congr rfl fun k _ => congrArg y (funext fun a => match a with | ⟨0, _⟩ => rfl | ⟨1, _⟩ => rfl | ⟨2, _⟩ => rfl)

end Cert.SumRefIdeal.Equation

namespace Cert.Proof.Sum

open Idealize.ShloMosaic Idealize.ShloMosaic.TcCoe Idealize.SL.Sem Cert.SumKernelIdeal.Array

/-- The sum of the small gradients is the plain one. -/
theorem value : Cert.algebraic_SumKernelIdeal_SumRefIdeal (hSumKernelIdeal := Cert.SumKernelIdeal.Gen.facts) (hSumRefIdeal := Cert.SumRefIdeal.Gen.facts) := by
  intro m ρ m' ρ' _ hag
  refine ⟨fun c i => totalAt m c (i 0) (i 1),
    (θ_run _ _ _).mono (fun _ h c => ?_) (Cert.SumKernelIdeal.Value.run_blocks m ρ),
    (θ_run _ _ _).mono (fun _ h c => ?_) (Cert.SumRefIdeal.Value.run (F := Ideal) m' ρ')⟩
  · exact ⟨(h c).1.trans (total_array m c), (h c).2⟩
  · refine ⟨(h c).1.trans ?_, (h c).2⟩
    refine ((Cert.SumRefIdeal.Read.val_main_v0_eq _).trans (Cert.SumRefIdeal.Equation.total_eq _)).trans ?_
    rw [hag c]
    rfl

/-- The plain sum keeps its argument and ends every semaphore at zero. -/
theorem ref_frame : Cert.quiescent_SumRefIdeal := fun m ρ _ =>
  (θ_run _ _ _).mono (fun r h => ⟨fun c => (h c).2, sem_eq_zero_of_no_sems (by decide) r.2⟩)
    (Cert.SumRefIdeal.Value.run (F := Ideal) m ρ)

end Cert.Proof.Sum

end
-- ==== Proof.AsmArray.lean ====
/- What the weights' assembly writes: a point holds 256 rows of every device's columns and lays the columns side by side,
   with zero columns behind them. -/
module

public import proofs.«01_k».proof.Proof.Gen.AsmKernelIdeal.Value
public import Idealize.ShloMosaic.Lib.Pipeline.ValueKit
public import Idealize.ShloMosaic.Lib.Pointwise

@[expose] public section

set_option maxRecDepth 16384

noncomputable section

namespace Cert.AsmKernelIdeal.Array

open Cert.AsmKernelIdeal Cert.AsmKernelIdeal.Gen Idealize.ShloMosaic Idealize.ShloMosaic.TcCoe Idealize.SL.Sem
open Idealize.ShloMosaic.Pipeline (Dat)

/-- The devices' columns side by side, with zero columns behind them. -/
def side {n : ℕ} (b : Fin 4 → Fin n → Fin 1412 → EReal) (r : Fin n) (f : Fin 5760) : EReal :=
  if h : f.val < 5648 then b ⟨f.val / 1412, by omega⟩ r ⟨f.val % 1412, by omega⟩ else 0

section Pieces

variable (B : Vec Ideal S4x256x1412 .bf16)

abbrev cols : Fin 4 → Fin 256 → Fin 1412 → EReal := fun k p j => B (ix3 k p j)

/-- A stored piece is read where it lies. -/
theorem hit {o w : ℕ} (inb : ∀ a : Fin 2, (![0, o] : Fin 2 → ℕ) a + (![256, w] : Fin 2 → ℕ) a ≤ S256x5760.size a)
    (v : (Rect.unit (s := S256x5760) ![0, o] ![256, w] inb).shape.Idx → Elt Ideal .bf16) (L : List ((r : Rect S256x5760) × (r.shape.Idx → Elt Ideal .bf16)))
    (p : Fin 256) (f : Fin 5760) (j : Fin w) (hf : f.val = o + j.val) :
    View.canon (⟨Rect.unit (s := S256x5760) ![0, o] ![256, w] inb, v⟩ :: L) (ix2 p f) = v (ix2 p j) := by
  have e : (ix2 p f : S256x5760.Idx) = (Rect.unit (s := S256x5760) ![0, o] ![256, w] inb).emb (ix2 p j) := by
    refine funext fun a => Fin.ext ?_
    rw [Rect.emb_apply]
    match a with
    | ⟨0, _⟩ => show p.val = 0 + 1 * p.val; omega
    | ⟨1, _⟩ => show f.val = o + 1 * j.val; omega
  rw [e]
  exact View.canon_cons_emb _ v L _

/-- Elsewhere the pieces before it are. -/
theorem miss {o w : ℕ} (inb : ∀ a : Fin 2, (![0, o] : Fin 2 → ℕ) a + (![256, w] : Fin 2 → ℕ) a ≤ S256x5760.size a)
    (v : (Rect.unit (s := S256x5760) ![0, o] ![256, w] inb).shape.Idx → Elt Ideal .bf16) (L : List ((r : Rect S256x5760) × (r.shape.Idx → Elt Ideal .bf16)))
    (p : Fin 256) (f : Fin 5760) (hf : f.val < o) :
    View.canon (⟨Rect.unit (s := S256x5760) ![0, o] ![256, w] inb, v⟩ :: L) (ix2 p f) = View.canon L (ix2 p f) := by
  refine View.canon_cons_of_not_mem _ L fun hm => ?_
  have hm1 := (Rect.mem_set_unit (inb := inb)).mp hm (1 : Fin 2)
  have h1 : o ≤ f.val := hm1.1
  omega

/-- A device's columns without their leading axis. -/
theorem slab_apply {k : ℕ} (ib : ∀ a : Fin 3, (![k, 0, 0] : Fin 3 → ℕ) a + (![1, 256, 1412] : Fin 3 → ℕ) a ≤ S4x256x1412.size a)
    (p : Fin 256) (f : Fin 5760) (j : Fin 1412) (hf : f.val = 1412 * k + j.val) (hk : f.val < 5648) :
    k0_pay1 (View.ld B (Rect.unit (s := S4x256x1412) ![k, 0, 0] ![1, 256, 1412] ib)) (ix2 p j) = side (cols B) p f := by
  refine Eq.trans (b := View.ld B (Rect.unit (s := S4x256x1412) ![k, 0, 0] ![1, 256, 1412] ib) (ix3 (0 : Fin 1) p j)) ?_ ?_
  · generalize View.ld B (Rect.unit (s := S4x256x1412) ![k, 0, 0] ![1, 256, 1412] ib) = y
    pointwise [k0_pay1]
  · rw [side, dif_pos hk]
    refine View.ld_unit_apply_of B _ _ _ _ (ix3 (⟨f.val / 1412, by omega⟩ : Fin 4) p (⟨f.val % 1412, by omega⟩ : Fin 1412)) fun a => ?_
    match a with
    | ⟨0, _⟩ => show f.val / 1412 = k + 0; omega
    | ⟨1, _⟩ => exact (Nat.zero_add _).symm
    | ⟨2, _⟩ => show f.val % 1412 = 0 + j.val; omega

/-- The five pieces of a block. -/
def sideBlock : Vec Ideal S256x5760 .bf16 :=
  View.canon [⟨Rect.unit (s := S256x5760) ![0, 5648] ![256, 112] inb_S256x5760_S256x112_0_5648, k0_pay5 (F := Ideal)⟩,
    ⟨Rect.unit (s := S256x5760) ![0, 4236] ![256, 1412] inb_S256x5760_S256x1412_0_4236, k0_pay4 (View.ld B (Rect.unit (s := S4x256x1412) ![3, 0, 0] ![1, 256, 1412] inb_S4x256x1412_S1x256x1412_3_0_0))⟩,
    ⟨Rect.unit (s := S256x5760) ![0, 2824] ![256, 1412] inb_S256x5760_S256x1412_0_2824, k0_pay3 (View.ld B (Rect.unit (s := S4x256x1412) ![2, 0, 0] ![1, 256, 1412] inb_S4x256x1412_S1x256x1412_2_0_0))⟩,
    ⟨Rect.unit (s := S256x5760) ![0, 1412] ![256, 1412] inb_S256x5760_S256x1412_0_1412, k0_pay2 (View.ld B (Rect.unit (s := S4x256x1412) ![1, 0, 0] ![1, 256, 1412] inb_S4x256x1412_S1x256x1412_1_0_0))⟩,
    ⟨Rect.unit (s := S256x5760) ![0, 0] ![256, 1412] inb_S256x5760_S256x1412_0_0, k0_pay1 (View.ld B (Rect.unit (s := S4x256x1412) ![0, 0, 0] ![1, 256, 1412] inb_S4x256x1412_S1x256x1412_0_0_0))⟩]

theorem sideBlock_apply (p : Fin 256) (f : Fin 5760) : sideBlock B (ix2 p f) = side (cols B) p f := by
  unfold sideBlock
  by_cases c4 : 5648 ≤ f.val
  · rw [hit _ _ _ p f ⟨f.val - 5648, by omega⟩ (by show _ = _ + (f.val - 5648); omega), side, dif_neg (by omega)]
    pointwise [k0_pay5]
  rw [miss _ _ _ p f (by omega)]
  by_cases c3 : 4236 ≤ f.val
  · rw [hit _ _ _ p f ⟨f.val - 4236, by omega⟩ (by show _ = _ + (f.val - 4236); omega)]
    exact slab_apply B _ p f _ (by show _ = _ + (f.val - 4236); omega) (by omega)
  rw [miss _ _ _ p f (by omega)]
  by_cases c2 : 2824 ≤ f.val
  · rw [hit _ _ _ p f ⟨f.val - 2824, by omega⟩ (by show _ = _ + (f.val - 2824); omega)]
    exact slab_apply B _ p f _ (by show _ = _ + (f.val - 2824); omega) (by omega)
  rw [miss _ _ _ p f (by omega)]
  by_cases c1 : 1412 ≤ f.val
  · rw [hit _ _ _ p f ⟨f.val - 1412, by omega⟩ (by show _ = _ + (f.val - 1412); omega)]
    exact slab_apply B _ p f _ (by show _ = _ + (f.val - 1412); omega) (by omega)
  rw [miss _ _ _ p f (by omega), hit _ _ _ p f ⟨f.val, by omega⟩ (by show _ = _ + f.val; omega)]
  exact slab_apply B _ p f _ (by show _ = _ + f.val; omega) (by omega)

end Pieces

variable (m : (ℓ : Loc nD τ sig) → Buf (Elt Ideal) ℓ)

abbrev sideAt (c : Dev nD) : Fin 1024 → Fin 5760 → EReal :=
  side fun k r j => (m ((c.tc : Thread nD τ).loc main_arg0) : Vec Ideal S4x1024x1412 .f32) (ix3 k r j)

theorem b_block (c : Dev nD) (t : Fin cfg0.N) (k : Fin 4) (p : Fin 256) (j : Fin 1412) (r : Fin 1024) (hr : r.val = 256 * t.val + p.val) :
    (iblk m c 0 t : Vec Ideal S4x256x1412 .bf16) (ix3 k p j) = (m ((c.tc : Thread nD τ).loc main_arg0) : Vec Ideal S4x1024x1412 .f32) (ix3 k r j) := by
  have hi : ∀ t : Fin cfg0.N, win0_0.index t = ![0, t.val, 0] := (by decide +kernel : ∀ t : Fin grid0.N, win0_0.index t = ![0, t.val, 0])
  have e : (win0_0.blk t).view.emb (ix3 k p j) = ix3 k r j := by blk_ext [hi t]
  blk_simp [iblk]
  rw [e]
  entry_read
  pointwise

theorem side_out (c : Dev nD) (t : Fin cfg0.N) : outsAt0 m c t = sideBlock (iblk m c 0 t) := by
  unfold outsAt0
  frame_out

theorem side_array (c : Dev nD) : (dats m 0 c).arrAt 1 cfg0.N = fun i => sideAt m c (i 0) (i 1) := by
  have hi : ∀ t : Fin cfg0.N, win0_1.index t = ![t.val, 0] := (by decide +kernel : ∀ t : Fin grid0.N, win0_1.index t = ![t.val, 0])
  refine (dats m 0 c).arrAt_eq_of_covers 1 _ (by decide +kernel) fun t hf y => ?_
  have ht := lt_of_lt_of_eq t.isLt N_0
  blk_simp
  rw [after0_1, side_out]
  obtain ⟨p, f, rfl⟩ : ∃ (p : Fin 256) (f : Fin 5760), y = ix2 p f := ⟨y 0, y 1, by funext a; match a with | ⟨0, _⟩ => rfl | ⟨1, _⟩ => rfl⟩
  obtain ⟨r, hr⟩ : ∃ r : Fin 1024, r.val = 256 * t.val + p.val := ⟨⟨256 * t.val + p.val, by omega⟩, rfl⟩
  rw [show (win0_1.blk t).view.emb (ix2 p f) = ix2 r f by blk_ext [hi t]]
  refine (sideBlock_apply _ p f).trans ?_
  show side _ p f = side _ r f
  unfold side
  by_cases h : f.val < 5648
  · rw [dif_pos h, dif_pos h]
    exact b_block m c t _ p _ r hr
  · rw [dif_neg h, dif_neg h]

end Cert.AsmKernelIdeal.Array

end
-- ==== Proof.AsmValue.lean ====
/- The assembled weights are the devices' columns in order, with zero columns behind them. -/
module

public import proofs.«01_k».proof.Defs
public import proofs.«01_k».proof.Proof.Gen.AsmRefIdeal.Read
public import proofs.«01_k».proof.Proof.AsmArray

@[expose] public section

set_option maxRecDepth 16384

noncomputable section

namespace Cert.AsmRefIdeal.Equation

open Cert.AsmRefIdeal Cert.AsmRefIdeal.Read Idealize.ShloMosaic Cert.AsmKernelIdeal.Array

variable (b : Vec Ideal ⟨3, ![4, 1024, 1412]⟩ .f32)

/-- The turned and flattened array is read at the column's device and place. -/
theorem flat_eq (r : Fin 1024) (f : Fin 5648) : val_main_v1 (F := Ideal) b (ix2 r f) = b (ix3 (⟨f.val / 1412, by omega⟩ : Fin 4) r (⟨f.val % 1412, by omega⟩ : Fin 1412)) := by
  rw [val_main_v1_apply, val_main_v0_apply]
  refine congrArg b (funext fun a => Fin.ext ?_)
  match a with
  | ⟨0, _⟩ => show (r.val * 5648 + f.val) / 1412 % 4 = f.val / 1412; omega
  | ⟨1, _⟩ => show (r.val * 5648 + f.val) / 5648 = r.val; omega
  | ⟨2, _⟩ => show (r.val * 5648 + f.val) % 1412 = f.val % 1412; omega

theorem side_eq (r : Fin 1024) (f : Fin 5760) : val_main_v4 (F := Ideal) b (ix2 r f) = side (fun k r j => b (ix3 k r j)) r f := by
  unfold side
  by_cases h : f.val < 5648
  · rw [dif_pos h]
    refine Eq.trans (?_ : _ = val_main_v1 (F := Ideal) b (ix2 r (⟨f.val, h⟩ : Fin 5648))) (flat_eq b r ⟨f.val, h⟩)
    unfold val_main_v4 val_main_v3
    generalize val_main_v1 (F := Ideal) b = y
    pointwise
    rw [dif_pos h]
  · rw [dif_neg h]
    unfold val_main_v4 val_main_v3
    generalize val_main_v1 (F := Ideal) b = y
    pointwise [val_main_v2, val_main_cst]
    rw [dif_neg h]

end Cert.AsmRefIdeal.Equation

namespace Cert.Proof.Asm

open Idealize.ShloMosaic Idealize.ShloMosaic.TcCoe Idealize.SL.Sem Cert.AsmKernelIdeal.Array

/-- The assembled weights are the plain ones. -/
theorem value : Cert.algebraic_AsmKernelIdeal_AsmRefIdeal (hAsmKernelIdeal := Cert.AsmKernelIdeal.Gen.facts) (hAsmRefIdeal := Cert.AsmRefIdeal.Gen.facts) := by
  intro m ρ m' ρ' _ hag
  refine ⟨fun c i => sideAt m c (i 0) (i 1),
    (θ_run _ _ _).mono (fun _ h c => ?_) (Cert.AsmKernelIdeal.Value.run_blocks m ρ),
    (θ_run _ _ _).mono (fun _ h c => ?_) (Cert.AsmRefIdeal.Value.run (F := Ideal) m' ρ')⟩
  · exact ⟨(h c).1.trans (side_array m c), (h c).2⟩
  · refine ⟨(h c).1.trans ?_, (h c).2⟩
    refine (Cert.AsmRefIdeal.Read.val_main_v4_eq _).trans ?_
    rw [hag c]
    refine funext fun i => ?_
    have e : i = ix2 (i 0) (i 1) := by
      funext a
      match a with
      | ⟨0, _⟩ => rfl
      | ⟨1, _⟩ => rfl
    rw [e]
    exact Cert.AsmRefIdeal.Equation.side_eq _ _ _

/-- The plain assembly keeps its argument and ends every semaphore at zero. -/
theorem ref_frame : Cert.quiescent_AsmRefIdeal := fun m ρ _ =>
  (θ_run _ _ _).mono (fun r h => ⟨fun c => (h c).2, sem_eq_zero_of_no_sems (by decide) r.2⟩)
    (Cert.AsmRefIdeal.Value.run (F := Ideal) m ρ)

end Cert.Proof.Asm

end
-- ==== Proof.lean ====
/- The certificate: each program's frame, and for each pair the value claim its own module proves. -/
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossRefIdeal
public import proofs.«01_k».proof.Proof.Gen.LossKernelIdeal.Value
public import proofs.«01_k».proof.Proof.Gen.LossRefIdeal.Run
public import proofs.«01_k».proof.Proof.Gen.LossRefIdeal.Read
public import proofs.«01_k».proof.Proof.LossEquation
public import proofs.«01_k».proof.Proof.Gen.PreKernel.Frame
public import proofs.«01_k».proof.Proof.Gen.PreKernelIdeal.Frame
public import proofs.«01_k».proof.Proof.PreValue
public import proofs.«01_k».proof.Proof.Gen.PostKernel.Frame
public import proofs.«01_k».proof.Proof.Gen.PostKernelIdeal.Frame
public import proofs.«01_k».proof.Proof.PostValue
public import proofs.«01_k».proof.Proof.Gen.SsdKernel.Frame
public import proofs.«01_k».proof.Proof.Gen.SsdKernelIdeal.Frame
public import proofs.«01_k».proof.Proof.SsdValue
public import proofs.«01_k».proof.Proof.Gen.BwdKernel.Frame
public import proofs.«01_k».proof.Proof.Gen.BwdKernelIdeal.Frame
public import proofs.«01_k».proof.Proof.BwdValue
public import proofs.«01_k».proof.Proof.Gen.MlpKernel.Frame
public import proofs.«01_k».proof.Proof.Gen.MlpKernelIdeal.Frame
public import proofs.«01_k».proof.Proof.MlpValue
public import proofs.«01_k».proof.Proof.Gen.OutKernel.Frame
public import proofs.«01_k».proof.Proof.Gen.OutKernelIdeal.Frame
public import proofs.«01_k».proof.Proof.OutValue
public import proofs.«01_k».proof.Proof.Gen.FfKernel.Frame
public import proofs.«01_k».proof.Proof.Gen.FfKernelIdeal.Frame
public import proofs.«01_k».proof.Proof.FfValue
public import proofs.«01_k».proof.Proof.Gen.DwKernel.Frame
public import proofs.«01_k».proof.Proof.Gen.DwKernelIdeal.Frame
public import proofs.«01_k».proof.Proof.DwValue
public import proofs.«01_k».proof.Proof.Gen.TnKernel.Frame
public import proofs.«01_k».proof.Proof.Gen.TnKernelIdeal.Frame
public import proofs.«01_k».proof.Proof.TnValue
public import proofs.«01_k».proof.Proof.Gen.AdamKernel.Frame
public import proofs.«01_k».proof.Proof.Gen.AdamKernelIdeal.Frame
public import proofs.«01_k».proof.Proof.AdamValue
public import proofs.«01_k».proof.Proof.Gen.SumKernel.Frame
public import proofs.«01_k».proof.Proof.Gen.SumKernelIdeal.Frame
public import proofs.«01_k».proof.Proof.SumValue
public import proofs.«01_k».proof.Proof.Gen.AsmKernel.Frame
public import proofs.«01_k».proof.Proof.Gen.AsmKernelIdeal.Frame
public import proofs.«01_k».proof.Proof.AsmValue
public import Idealize.ShloMosaic.Adequacy
public import Idealize.ShloMosaic.Init

@[expose] public section

noncomputable section

namespace Cert.Proof

open Idealize.ShloMosaic Idealize.ShloMosaic.TcCoe Idealize.SL.Sem

/-- The loss head's two arrays are the plain loss and its gradient. -/
theorem loss_value : Cert.algebraic_LossKernelIdeal_LossRefIdeal := by
  intro m ρ m' ρ' _ hag
  refine ⟨fun c => Cert.LossKernelIdeal.Array.total (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)),
    fun c => Cert.LossKernelIdeal.Array.grad (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)),
    (θ_run _ _ _).mono (fun _ h c => ?_) (Cert.LossKernelIdeal.Value.run_blocks m ρ),
    (θ_run _ _ _).mono (fun _ h c => ?_) (Cert.LossRefIdeal.Value.run (F := Ideal) m' ρ')⟩
  · exact ⟨(h c).1.trans (Cert.LossKernelIdeal.Array.total_array m c), (h c).2.1.trans (Cert.LossKernelIdeal.Array.grad_array m c), (h c).2.2⟩
  · refine ⟨(h c).1.trans ?_, (h c).2.1.trans ?_, (h c).2.2⟩
    · exact (Cert.LossRefIdeal.Read.val_main_v9_eq _ _).trans ((Cert.LossRefIdeal.Equation.total_eq _ _).trans
        (congrArg₂ Cert.LossKernelIdeal.Array.total (hag c).1 (hag c).2))
    · exact (Cert.LossRefIdeal.Read.val_main_v15_eq _ _).trans ((Cert.LossRefIdeal.Equation.grad_eq _ _).trans
        (congrArg₂ Cert.LossKernelIdeal.Array.grad (hag c).1 (hag c).2))

/-- The plain loss keeps its arguments and ends every semaphore at zero. -/
theorem loss_ref_frame : Cert.quiescent_LossRefIdeal := fun m ρ _ =>
  (θ_run _ _ _).mono (fun r h => ⟨fun c => (h c).2.2, sem_eq_zero_of_no_sems (by decide) r.2⟩)
    (Cert.LossRefIdeal.Value.run (F := Ideal) m ρ)

theorem claim : Cert.Claim := ⟨Cert.LossKernel.Gen.facts, Cert.LossKernelIdeal.Gen.facts, Cert.LossRefIdeal.Gen.facts, Cert.PreKernel.Gen.facts, Cert.PreKernelIdeal.Gen.facts, Cert.PreRefIdeal.Gen.facts, Cert.PostKernel.Gen.facts, Cert.PostKernelIdeal.Gen.facts, Cert.PostRefIdeal.Gen.facts, Cert.SsdKernel.Gen.facts, Cert.SsdKernelIdeal.Gen.facts, Cert.SsdRefIdeal.Gen.facts, Cert.BwdKernel.Gen.facts, Cert.BwdKernelIdeal.Gen.facts, Cert.BwdRefIdeal.Gen.facts, Cert.MlpKernel.Gen.facts, Cert.MlpKernelIdeal.Gen.facts, Cert.MlpRefIdeal.Gen.facts, Cert.OutKernel.Gen.facts, Cert.OutKernelIdeal.Gen.facts, Cert.OutRefIdeal.Gen.facts, Cert.FfKernel.Gen.facts, Cert.FfKernelIdeal.Gen.facts, Cert.FfRefIdeal.Gen.facts, Cert.DwKernel.Gen.facts, Cert.DwKernelIdeal.Gen.facts, Cert.DwRefIdeal.Gen.facts, Cert.TnKernel.Gen.facts, Cert.TnKernelIdeal.Gen.facts, Cert.TnRefIdeal.Gen.facts, Cert.AdamKernel.Gen.facts, Cert.AdamKernelIdeal.Gen.facts, Cert.AdamRefIdeal.Gen.facts, Cert.SumKernel.Gen.facts, Cert.SumKernelIdeal.Gen.facts, Cert.SumRefIdeal.Gen.facts, Cert.AsmKernel.Gen.facts, Cert.AsmKernelIdeal.Gen.facts, Cert.AsmRefIdeal.Gen.facts, Cert.Pre_finite_pre.Gen.facts, Cert.Pre_finite_post.Gen.facts, Cert.Pre_finite_ssd.Gen.facts, Cert.Pre_finite_bwd.Gen.facts, Cert.Pre_finite_mlp.Gen.facts,
  fun m ρ _ => Cert.LossKernel.Gen.frame m ρ,
  fun m ρ _ => Cert.LossKernelIdeal.Gen.frame m ρ,
  loss_ref_frame,
  fun m ρ _ => Cert.PreKernel.Gen.frame m ρ,
  fun m ρ _ => Cert.PreKernelIdeal.Gen.frame m ρ,
  fun m ρ _ => Cert.PreKernelIdeal.Gen.frame m ρ,
  Pre.ref_frame,
  fun m ρ _ => Pre.ref_frame m ρ trivial,
  fun m ρ _ => Cert.PostKernel.Gen.frame m ρ,
  fun m ρ _ => Cert.PostKernelIdeal.Gen.frame m ρ,
  fun m ρ _ => Cert.PostKernelIdeal.Gen.frame m ρ,
  Post.ref_frame,
  fun m ρ _ => Post.ref_frame m ρ trivial,
  fun m ρ _ => Cert.SsdKernel.Gen.frame m ρ,
  fun m ρ _ => Cert.SsdKernelIdeal.Gen.frame m ρ,
  fun m ρ _ => Cert.SsdKernelIdeal.Gen.frame m ρ,
  Ssd.ref_frame,
  fun m ρ _ => Ssd.ref_frame m ρ trivial,
  fun m ρ _ => Cert.BwdKernel.Gen.frame m ρ,
  fun m ρ _ => Cert.BwdKernelIdeal.Gen.frame m ρ,
  fun m ρ _ => Cert.BwdKernelIdeal.Gen.frame m ρ,
  Bwd.ref_frame,
  fun m ρ _ => Bwd.ref_frame m ρ trivial,
  fun m ρ _ => Cert.MlpKernel.Gen.frame m ρ,
  fun m ρ _ => Cert.MlpKernelIdeal.Gen.frame m ρ,
  fun m ρ _ => Cert.MlpKernelIdeal.Gen.frame m ρ,
  Mlp.ref_frame,
  fun m ρ _ => Mlp.ref_frame m ρ trivial,
  fun m ρ _ => Cert.OutKernel.Gen.frame m ρ,
  fun m ρ _ => Cert.OutKernelIdeal.Gen.frame m ρ,
  Out.ref_frame,
  fun m ρ _ => Cert.FfKernel.Gen.frame m ρ,
  fun m ρ _ => Cert.FfKernelIdeal.Gen.frame m ρ,
  Ff.ref_frame,
  fun m ρ _ => Cert.DwKernel.Gen.frame m ρ,
  fun m ρ _ => Cert.DwKernelIdeal.Gen.frame m ρ,
  Dw.ref_frame,
  fun m ρ _ => Cert.TnKernel.Gen.frame m ρ,
  fun m ρ _ => Cert.TnKernelIdeal.Gen.frame m ρ,
  Tn.ref_frame,
  fun m ρ _ => Cert.AdamKernel.Gen.frame m ρ,
  fun m ρ _ => Cert.AdamKernelIdeal.Gen.frame m ρ,
  Adam.ref_frame,
  fun m ρ _ => Cert.SumKernel.Gen.frame m ρ,
  fun m ρ _ => Cert.SumKernelIdeal.Gen.frame m ρ,
  Sum.ref_frame,
  fun m ρ _ => Cert.AsmKernel.Gen.frame m ρ,
  fun m ρ _ => Cert.AsmKernelIdeal.Gen.frame m ρ,
  Asm.ref_frame,
  trivial, loss_value, trivial, Pre.value, trivial, Post.value, trivial, Ssd.value, trivial, Bwd.value, trivial, Mlp.value, trivial, Out.value, trivial, Ff.value, trivial, Dw.value, trivial, Tn.value, trivial, Adam.value, trivial, Sum.value, trivial, Asm.value⟩

end Cert.Proof

end
